-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2Ideal_finite_ln2 [hPre_finite_ln2 : Cert.Pre_finite_ln2.Facts] (m : (ℓ : Loc Cert.Ln2Ideal.nD Cert.Ln2Ideal.τ Cert.Ln2Ideal.sig) → Buf (Elt Ideal) ℓ) : Prop :=
  ∀ c : Dev Cert.Ln2Ideal.nD,
    (Cert.Pre_finite_ln2.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5))) = (fun _ => 1#1)

def Pre_Ln2RefIdeal (m : (ℓ : Loc Cert.Ln2RefIdeal.nD Cert.Ln2RefIdeal.τ Cert.Ln2RefIdeal.sig) → Buf (Elt Ideal) ℓ) : Prop :=
  True

def Pre_Ln2RefIdeal_finite_ln2 [hPre_finite_ln2 : Cert.Pre_finite_ln2.Facts] (m : (ℓ : Loc Cert.Ln2RefIdeal.nD Cert.Ln2RefIdeal.τ Cert.Ln2RefIdeal.sig) → Buf (Elt Ideal) ℓ) : Prop :=
  ∀ c : Dev Cert.Ln2RefIdeal.nD,
    (Cert.Pre_finite_ln2.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1Ideal_finite_ln1 [hPre_finite_ln1 : Cert.Pre_finite_ln1.Facts] (m : (ℓ : Loc Cert.Ln1Ideal.nD Cert.Ln1Ideal.τ Cert.Ln1Ideal.sig) → Buf (Elt Ideal) ℓ) : Prop :=
  ∀ c : Dev Cert.Ln1Ideal.nD,
    (Cert.Pre_finite_ln1.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))) = (fun _ => 1#1)

def Pre_Ln1RefIdeal (m : (ℓ : Loc Cert.Ln1RefIdeal.nD Cert.Ln1RefIdeal.τ Cert.Ln1RefIdeal.sig) → Buf (Elt Ideal) ℓ) : Prop :=
  True

def Pre_Ln1RefIdeal_finite_ln1 [hPre_finite_ln1 : Cert.Pre_finite_ln1.Facts] (m : (ℓ : Loc Cert.Ln1RefIdeal.nD Cert.Ln1RefIdeal.τ Cert.Ln1RefIdeal.sig) → Buf (Elt Ideal) ℓ) : Prop :=
  ∀ c : Dev Cert.Ln1RefIdeal.nD,
    (Cert.Pre_finite_ln1.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))) = (fun _ => 1#1)

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixIdeal_finite_dm [hPre_finite_dm : Cert.Pre_finite_dm.Facts] (m : (ℓ : Loc Cert.DmixIdeal.nD Cert.DmixIdeal.τ Cert.DmixIdeal.sig) → Buf (Elt Ideal) ℓ) : Prop :=
  ∀ c : Dev Cert.DmixIdeal.nD,
    (Cert.Pre_finite_dm.fn (F := Ideal) (m ((c.tc : Thread Cert.DmixIdeal.nD Cert.DmixIdeal.τ).loc Cert.DmixIdeal.main_arg0)) (m ((c.tc : Thread Cert.DmixIdeal.nD Cert.DmixIdeal.τ).loc Cert.DmixIdeal.main_arg1)) (m ((c.tc : Thread Cert.DmixIdeal.nD Cert.DmixIdeal.τ).loc Cert.DmixIdeal.main_arg2)) (m ((c.tc : Thread Cert.DmixIdeal.nD Cert.DmixIdeal.τ).loc Cert.DmixIdeal.main_arg3))) = (fun _ => 1#1)

def Pre_DmixRefIdeal (m : (ℓ : Loc Cert.DmixRefIdeal.nD Cert.DmixRefIdeal.τ Cert.DmixRefIdeal.sig) → Buf (Elt Ideal) ℓ) : Prop :=
  True

def Pre_DmixRefIdeal_finite_dm [hPre_finite_dm : Cert.Pre_finite_dm.Facts] (m : (ℓ : Loc Cert.DmixRefIdeal.nD Cert.DmixRefIdeal.τ Cert.DmixRefIdeal.sig) → Buf (Elt Ideal) ℓ) : Prop :=
  ∀ c : Dev Cert.DmixRefIdeal.nD,
    (Cert.Pre_finite_dm.fn (F := Ideal) (m ((c.tc : Thread Cert.DmixRefIdeal.nD Cert.DmixRefIdeal.τ).loc Cert.DmixRefIdeal.main_arg0)) (m ((c.tc : Thread Cert.DmixRefIdeal.nD Cert.DmixRefIdeal.τ).loc Cert.DmixRefIdeal.main_arg1)) (m ((c.tc : Thread Cert.DmixRefIdeal.nD Cert.DmixRefIdeal.τ).loc Cert.DmixRefIdeal.main_arg2)) (m ((c.tc : Thread Cert.DmixRefIdeal.nD Cert.DmixRefIdeal.τ).loc Cert.DmixRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_RelGrad (m : (ℓ : Loc Cert.RelGrad.nD Cert.RelGrad.τ Cert.RelGrad.sig) → Buf (Elt Bits) ℓ) : Prop :=
  True

def Pre_RelGradIdeal (m : (ℓ : Loc Cert.RelGradIdeal.nD Cert.RelGradIdeal.τ Cert.RelGradIdeal.sig) → Buf (Elt Ideal) ℓ) : Prop :=
  True

def Pre_RelGradIdeal_finite_rel [hPre_finite_rel : Cert.Pre_finite_rel.Facts] (m : (ℓ : Loc Cert.RelGradIdeal.nD Cert.RelGradIdeal.τ Cert.RelGradIdeal.sig) → Buf (Elt Ideal) ℓ) : Prop :=
  ∀ c : Dev Cert.RelGradIdeal.nD,
    (Cert.Pre_finite_rel.fn (F := Ideal) (m ((c.tc : Thread Cert.RelGradIdeal.nD Cert.RelGradIdeal.τ).loc Cert.RelGradIdeal.main_arg0)) (m ((c.tc : Thread Cert.RelGradIdeal.nD Cert.RelGradIdeal.τ).loc Cert.RelGradIdeal.main_arg1))) = (fun _ => 1#1)

def Pre_RelGradRefIdeal (m : (ℓ : Loc Cert.RelGradRefIdeal.nD Cert.RelGradRefIdeal.τ Cert.RelGradRefIdeal.sig) → Buf (Elt Ideal) ℓ) : Prop :=
  True

def Pre_RelGradRefIdeal_finite_rel [hPre_finite_rel : Cert.Pre_finite_rel.Facts] (m : (ℓ : Loc Cert.RelGradRefIdeal.nD Cert.RelGradRefIdeal.τ Cert.RelGradRefIdeal.sig) → Buf (Elt Ideal) ℓ) : Prop :=
  ∀ c : Dev Cert.RelGradRefIdeal.nD,
    (Cert.Pre_finite_rel.fn (F := Ideal) (m ((c.tc : Thread Cert.RelGradRefIdeal.nD Cert.RelGradRefIdeal.τ).loc Cert.RelGradRefIdeal.main_arg0)) (m ((c.tc : Thread Cert.RelGradRefIdeal.nD Cert.RelGradRefIdeal.τ).loc Cert.RelGradRefIdeal.main_arg1))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_finite_bias [hPre_finite_bias : Cert.Pre_finite_bias.Facts] (m : (ℓ : Loc Cert.BiasIdeal.nD Cert.BiasIdeal.τ Cert.BiasIdeal.sig) → Buf (Elt Ideal) ℓ) : Prop :=
  ∀ c : Dev Cert.BiasIdeal.nD,
    (Cert.Pre_finite_bias.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1)) (m ((c.tc : Thread Cert.BiasIdeal.nD Cert.BiasIdeal.τ).loc Cert.BiasIdeal.main_arg2))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_finite_bias [hPre_finite_bias : Cert.Pre_finite_bias.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_finite_bias.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1)) (m ((c.tc : Thread Cert.BiasRefIdeal.nD Cert.BiasRefIdeal.τ).loc Cert.BiasRefIdeal.main_arg2))) = (fun _ => 1#1)

def Pre_OutLn1 (m : (ℓ : Loc Cert.OutLn1.nD Cert.OutLn1.τ Cert.OutLn1.sig) → Buf (Elt Bits) ℓ) : Prop :=
  True

def Pre_OutLn1Ideal (m : (ℓ : Loc Cert.OutLn1Ideal.nD Cert.OutLn1Ideal.τ Cert.OutLn1Ideal.sig) → Buf (Elt Ideal) ℓ) : Prop :=
  True

def Pre_OutLn1RefIdeal (m : (ℓ : Loc Cert.OutLn1RefIdeal.nD Cert.OutLn1RefIdeal.τ Cert.OutLn1RefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4)
      ∧ r.2.mem ((c.tc : Thread Cert.Ln2.nD Cert.Ln2.τ).loc Cert.Ln2.main_arg5) = m ((c.tc : Thread Cert.Ln2.nD Cert.Ln2.τ).loc Cert.Ln2.main_arg5))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5))
      ∧ r.2.sem = fun _ => 0)

def quiescent_Ln2Ideal_pre_finite_ln2 [hLn2Ideal : Cert.Ln2Ideal.Facts] [hPre_finite_ln2 : Cert.Pre_finite_ln2.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal_finite_ln2 m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5))
      ∧ r.2.sem = fun _ => 0)

def quiescent_Ln2RefIdeal_pre_finite_ln2 [hLn2RefIdeal : Cert.Ln2RefIdeal.Facts] [hPre_finite_ln2 : Cert.Pre_finite_ln2.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal_finite_ln2 m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4)
      ∧ r.2.mem ((c.tc : Thread Cert.Ln1.nD Cert.Ln1.τ).loc Cert.Ln1.main_arg5) = m ((c.tc : Thread Cert.Ln1.nD Cert.Ln1.τ).loc Cert.Ln1.main_arg5))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ r.2.sem = fun _ => 0)

def quiescent_Ln1Ideal_pre_finite_ln1 [hLn1Ideal : Cert.Ln1Ideal.Facts] [hPre_finite_ln1 : Cert.Pre_finite_ln1.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal_finite_ln1 m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5))
      ∧ r.2.sem = fun _ => 0)

def quiescent_Ln1RefIdeal_pre_finite_ln1 [hLn1RefIdeal : Cert.Ln1RefIdeal.Facts] [hPre_finite_ln1 : Cert.Pre_finite_ln1.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal_finite_ln1 m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1)
      ∧ r.2.mem ((c.tc : Thread Cert.Dmix.nD Cert.Dmix.τ).loc Cert.Dmix.main_arg2) = m ((c.tc : Thread Cert.Dmix.nD Cert.Dmix.τ).loc Cert.Dmix.main_arg2)
      ∧ r.2.mem ((c.tc : Thread Cert.Dmix.nD Cert.Dmix.τ).loc Cert.Dmix.main_arg3) = m ((c.tc : Thread Cert.Dmix.nD Cert.Dmix.τ).loc Cert.Dmix.main_arg3))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
      ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3))
      ∧ r.2.sem = fun _ => 0)

def quiescent_DmixIdeal_pre_finite_dm [hDmixIdeal : Cert.DmixIdeal.Facts] [hPre_finite_dm : Cert.Pre_finite_dm.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal_finite_dm m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
      ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1)
      ∧ r.2.mem ((c.tc : Thread Cert.DmixRefIdeal.nD Cert.DmixRefIdeal.τ).loc Cert.DmixRefIdeal.main_arg2) = m ((c.tc : Thread Cert.DmixRefIdeal.nD Cert.DmixRefIdeal.τ).loc Cert.DmixRefIdeal.main_arg2)
      ∧ r.2.mem ((c.tc : Thread Cert.DmixRefIdeal.nD Cert.DmixRefIdeal.τ).loc Cert.DmixRefIdeal.main_arg3) = m ((c.tc : Thread Cert.DmixRefIdeal.nD Cert.DmixRefIdeal.τ).loc Cert.DmixRefIdeal.main_arg3))
      ∧ r.2.sem = fun _ => 0)

def quiescent_DmixRefIdeal_pre_finite_dm [hDmixRefIdeal : Cert.DmixRefIdeal.Facts] [hPre_finite_dm : Cert.Pre_finite_dm.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal_finite_dm m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1)
      ∧ r.2.mem ((c.tc : Thread Cert.DmixRefIdeal.nD Cert.DmixRefIdeal.τ).loc Cert.DmixRefIdeal.main_arg2) = m ((c.tc : Thread Cert.DmixRefIdeal.nD Cert.DmixRefIdeal.τ).loc Cert.DmixRefIdeal.main_arg2)
      ∧ r.2.mem ((c.tc : Thread Cert.DmixRefIdeal.nD Cert.DmixRefIdeal.τ).loc Cert.DmixRefIdeal.main_arg3) = m ((c.tc : Thread Cert.DmixRefIdeal.nD Cert.DmixRefIdeal.τ).loc Cert.DmixRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_RelGrad [hRelGrad : Cert.RelGrad.Facts] : Prop :=
  ∀ (m : (ℓ : Loc Cert.RelGrad.nD Cert.RelGrad.τ Cert.RelGrad.sig) → Buf (Elt Bits) ℓ) (g : Dev Cert.RelGrad.nD → PrngReg), Pre_RelGrad m →
    θ_run (Cert.RelGrad.defs (F := Bits)) (onTc (τ := Cert.RelGrad.τ) (Cert.RelGrad.main (F := Bits))) ⟨m, fun _ => 0, g⟩ (fun r => (∀ c : Dev Cert.RelGrad.nD,
      r.2.mem ((c.tc : Thread Cert.RelGrad.nD Cert.RelGrad.τ).loc Cert.RelGrad.main_arg0) = m ((c.tc : Thread Cert.RelGrad.nD Cert.RelGrad.τ).loc Cert.RelGrad.main_arg0)
      ∧ r.2.mem ((c.tc : Thread Cert.RelGrad.nD Cert.RelGrad.τ).loc Cert.RelGrad.main_arg1) = m ((c.tc : Thread Cert.RelGrad.nD Cert.RelGrad.τ).loc Cert.RelGrad.main_arg1))
      ∧ r.2.sem = fun _ => 0)

def quiescent_RelGradIdeal [hRelGradIdeal : Cert.RelGradIdeal.Facts] : Prop :=
  ∀ (m : (ℓ : Loc Cert.RelGradIdeal.nD Cert.RelGradIdeal.τ Cert.RelGradIdeal.sig) → Buf (Elt Ideal) ℓ) (g : Dev Cert.RelGradIdeal.nD → PrngReg), Pre_RelGradIdeal m →
    θ_run (Cert.RelGradIdeal.defs (F := Ideal)) (onTc (τ := Cert.RelGradIdeal.τ) (Cert.RelGradIdeal.main (F := Ideal))) ⟨m, fun _ => 0, g⟩ (fun r => (∀ c : Dev Cert.RelGradIdeal.nD,
      r.2.mem ((c.tc : Thread Cert.RelGradIdeal.nD Cert.RelGradIdeal.τ).loc Cert.RelGradIdeal.main_arg0) = m ((c.tc : Thread Cert.RelGradIdeal.nD Cert.RelGradIdeal.τ).loc Cert.RelGradIdeal.main_arg0)
      ∧ r.2.mem ((c.tc : Thread Cert.RelGradIdeal.nD Cert.RelGradIdeal.τ).loc Cert.RelGradIdeal.main_arg1) = m ((c.tc : Thread Cert.RelGradIdeal.nD Cert.RelGradIdeal.τ).loc Cert.RelGradIdeal.main_arg1))
      ∧ r.2.sem = fun _ => 0)

def quiescent_RelGradIdeal_pre_finite_rel [hRelGradIdeal : Cert.RelGradIdeal.Facts] [hPre_finite_rel : Cert.Pre_finite_rel.Facts] : Prop :=
  ∀ (m : (ℓ : Loc Cert.RelGradIdeal.nD Cert.RelGradIdeal.τ Cert.RelGradIdeal.sig) → Buf (Elt Ideal) ℓ) (g : Dev Cert.RelGradIdeal.nD → PrngReg), Pre_RelGradIdeal_finite_rel m →
    θ_run (Cert.RelGradIdeal.defs (F := Ideal)) (onTc (τ := Cert.RelGradIdeal.τ) (Cert.RelGradIdeal.main (F := Ideal))) ⟨m, fun _ => 0, g⟩ (fun r => (∀ c : Dev Cert.RelGradIdeal.nD,
      r.2.mem ((c.tc : Thread Cert.RelGradIdeal.nD Cert.RelGradIdeal.τ).loc Cert.RelGradIdeal.main_arg0) = m ((c.tc : Thread Cert.RelGradIdeal.nD Cert.RelGradIdeal.τ).loc Cert.RelGradIdeal.main_arg0)
      ∧ r.2.mem ((c.tc : Thread Cert.RelGradIdeal.nD Cert.RelGradIdeal.τ).loc Cert.RelGradIdeal.main_arg1) = m ((c.tc : Thread Cert.RelGradIdeal.nD Cert.RelGradIdeal.τ).loc Cert.RelGradIdeal.main_arg1))
      ∧ r.2.sem = fun _ => 0)

def quiescent_RelGradRefIdeal [hRelGradRefIdeal : Cert.RelGradRefIdeal.Facts] : Prop :=
  ∀ (m : (ℓ : Loc Cert.RelGradRefIdeal.nD Cert.RelGradRefIdeal.τ Cert.RelGradRefIdeal.sig) → Buf (Elt Ideal) ℓ) (g : Dev Cert.RelGradRefIdeal.nD → PrngReg), Pre_RelGradRefIdeal m →
    θ_run (Cert.RelGradRefIdeal.defs (F := Ideal)) (onTc (τ := Cert.RelGradRefIdeal.τ) (Cert.RelGradRefIdeal.main (F := Ideal))) ⟨m, fun _ => 0, g⟩ (fun r => (∀ c : Dev Cert.RelGradRefIdeal.nD,
      r.2.mem ((c.tc : Thread Cert.RelGradRefIdeal.nD Cert.RelGradRefIdeal.τ).loc Cert.RelGradRefIdeal.main_arg0) = m ((c.tc : Thread Cert.RelGradRefIdeal.nD Cert.RelGradRefIdeal.τ).loc Cert.RelGradRefIdeal.main_arg0)
      ∧ r.2.mem ((c.tc : Thread Cert.RelGradRefIdeal.nD Cert.RelGradRefIdeal.τ).loc Cert.RelGradRefIdeal.main_arg1) = m ((c.tc : Thread Cert.RelGradRefIdeal.nD Cert.RelGradRefIdeal.τ).loc Cert.RelGradRefIdeal.main_arg1))
      ∧ r.2.sem = fun _ => 0)

def quiescent_RelGradRefIdeal_pre_finite_rel [hRelGradRefIdeal : Cert.RelGradRefIdeal.Facts] [hPre_finite_rel : Cert.Pre_finite_rel.Facts] : Prop :=
  ∀ (m : (ℓ : Loc Cert.RelGradRefIdeal.nD Cert.RelGradRefIdeal.τ Cert.RelGradRefIdeal.sig) → Buf (Elt Ideal) ℓ) (g : Dev Cert.RelGradRefIdeal.nD → PrngReg), Pre_RelGradRefIdeal_finite_rel m →
    θ_run (Cert.RelGradRefIdeal.defs (F := Ideal)) (onTc (τ := Cert.RelGradRefIdeal.τ) (Cert.RelGradRefIdeal.main (F := Ideal))) ⟨m, fun _ => 0, g⟩ (fun r => (∀ c : Dev Cert.RelGradRefIdeal.nD,
      r.2.mem ((c.tc : Thread Cert.RelGradRefIdeal.nD Cert.RelGradRefIdeal.τ).loc Cert.RelGradRefIdeal.main_arg0) = m ((c.tc : Thread Cert.RelGradRefIdeal.nD Cert.RelGradRefIdeal.τ).loc Cert.RelGradRefIdeal.main_arg0)
      ∧ r.2.mem ((c.tc : Thread Cert.RelGradRefIdeal.nD Cert.RelGradRefIdeal.τ).loc Cert.RelGradRefIdeal.main_arg1) = m ((c.tc : Thread Cert.RelGradRefIdeal.nD Cert.RelGradRefIdeal.τ).loc Cert.RelGradRefIdeal.main_arg1))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ r.2.sem = fun _ => 0)

def quiescent_BiasIdeal_pre_finite_bias [hBiasIdeal : Cert.BiasIdeal.Facts] [hPre_finite_bias : Cert.Pre_finite_bias.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_finite_bias m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2))
      ∧ r.2.sem = fun _ => 0)

def quiescent_BiasRefIdeal_pre_finite_bias [hBiasRefIdeal : Cert.BiasRefIdeal.Facts] [hPre_finite_bias : Cert.Pre_finite_bias.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_finite_bias m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2))
      ∧ r.2.sem = fun _ => 0)

def quiescent_OutLn1 [hOutLn1 : Cert.OutLn1.Facts] : Prop :=
  ∀ (m : (ℓ : Loc Cert.OutLn1.nD Cert.OutLn1.τ Cert.OutLn1.sig) → Buf (Elt Bits) ℓ) (g : Dev Cert.OutLn1.nD → PrngReg), Pre_OutLn1 m →
    θ_run (Cert.OutLn1.defs (F := Bits)) (onTc (τ := Cert.OutLn1.τ) (Cert.OutLn1.main (F := Bits))) ⟨m, fun _ => 0, g⟩ (fun r => (∀ c : Dev Cert.OutLn1.nD,
      r.2.mem ((c.tc : Thread Cert.OutLn1.nD Cert.OutLn1.τ).loc Cert.OutLn1.main_arg0) = m ((c.tc : Thread Cert.OutLn1.nD Cert.OutLn1.τ).loc Cert.OutLn1.main_arg0)
      ∧ r.2.mem ((c.tc : Thread Cert.OutLn1.nD Cert.OutLn1.τ).loc Cert.OutLn1.main_arg1) = m ((c.tc : Thread Cert.OutLn1.nD Cert.OutLn1.τ).loc Cert.OutLn1.main_arg1)
      ∧ r.2.mem ((c.tc : Thread Cert.OutLn1.nD Cert.OutLn1.τ).loc Cert.OutLn1.main_arg2) = m ((c.tc : Thread Cert.OutLn1.nD Cert.OutLn1.τ).loc Cert.OutLn1.main_arg2)
      ∧ r.2.mem ((c.tc : Thread Cert.OutLn1.nD Cert.OutLn1.τ).loc Cert.OutLn1.main_arg3) = m ((c.tc : Thread Cert.OutLn1.nD Cert.OutLn1.τ).loc Cert.OutLn1.main_arg3)
      ∧ r.2.mem ((c.tc : Thread Cert.OutLn1.nD Cert.OutLn1.τ).loc Cert.OutLn1.main_arg4) = m ((c.tc : Thread Cert.OutLn1.nD Cert.OutLn1.τ).loc Cert.OutLn1.main_arg4)
      ∧ r.2.mem ((c.tc : Thread Cert.OutLn1.nD Cert.OutLn1.τ).loc Cert.OutLn1.main_arg5) = m ((c.tc : Thread Cert.OutLn1.nD Cert.OutLn1.τ).loc Cert.OutLn1.main_arg5)
      ∧ r.2.mem ((c.tc : Thread Cert.OutLn1.nD Cert.OutLn1.τ).loc Cert.OutLn1.main_arg6) = m ((c.tc : Thread Cert.OutLn1.nD Cert.OutLn1.τ).loc Cert.OutLn1.main_arg6))
      ∧ r.2.sem = fun _ => 0)

def quiescent_OutLn1Ideal [hOutLn1Ideal : Cert.OutLn1Ideal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg), Pre_OutLn1Ideal m →
    θ_run (Cert.OutLn1Ideal.defs (F := Ideal)) (onTc (τ := Cert.OutLn1Ideal.τ) (Cert.OutLn1Ideal.main (F := Ideal))) ⟨m, fun _ => 0, g⟩ (fun r => (∀ c : Dev Cert.OutLn1Ideal.nD,
      r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
      ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
      ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
      ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
      ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4)
      ∧ r.2.mem ((c.tc : Thread Cert.OutLn1Ideal.nD Cert.OutLn1Ideal.τ).loc Cert.OutLn1Ideal.main_arg5) = m ((c.tc : Thread Cert.OutLn1Ideal.nD Cert.OutLn1Ideal.τ).loc Cert.OutLn1Ideal.main_arg5)
      ∧ r.2.mem ((c.tc : Thread Cert.OutLn1Ideal.nD Cert.OutLn1Ideal.τ).loc Cert.OutLn1Ideal.main_arg6) = m ((c.tc : Thread Cert.OutLn1Ideal.nD Cert.OutLn1Ideal.τ).loc Cert.OutLn1Ideal.main_arg6))
      ∧ r.2.sem = fun _ => 0)

def quiescent_OutLn1RefIdeal [hOutLn1RefIdeal : Cert.OutLn1RefIdeal.Facts] : Prop :=
  ∀ (m : (ℓ : Loc Cert.OutLn1RefIdeal.nD Cert.OutLn1RefIdeal.τ Cert.OutLn1RefIdeal.sig) → Buf (Elt Ideal) ℓ) (g : Dev Cert.OutLn1RefIdeal.nD → PrngReg), Pre_OutLn1RefIdeal m →
    θ_run (Cert.OutLn1RefIdeal.defs (F := Ideal)) (onTc (τ := Cert.OutLn1RefIdeal.τ) (Cert.OutLn1RefIdeal.main (F := Ideal))) ⟨m, fun _ => 0, g⟩ (fun r => (∀ c : Dev Cert.OutLn1RefIdeal.nD,
      r.2.mem ((c.tc : Thread Cert.OutLn1RefIdeal.nD Cert.OutLn1RefIdeal.τ).loc Cert.OutLn1RefIdeal.main_arg0) = m ((c.tc : Thread Cert.OutLn1RefIdeal.nD Cert.OutLn1RefIdeal.τ).loc Cert.OutLn1RefIdeal.main_arg0)
      ∧ r.2.mem ((c.tc : Thread Cert.OutLn1RefIdeal.nD Cert.OutLn1RefIdeal.τ).loc Cert.OutLn1RefIdeal.main_arg1) = m ((c.tc : Thread Cert.OutLn1RefIdeal.nD Cert.OutLn1RefIdeal.τ).loc Cert.OutLn1RefIdeal.main_arg1)
      ∧ r.2.mem ((c.tc : Thread Cert.OutLn1RefIdeal.nD Cert.OutLn1RefIdeal.τ).loc Cert.OutLn1RefIdeal.main_arg2) = m ((c.tc : Thread Cert.OutLn1RefIdeal.nD Cert.OutLn1RefIdeal.τ).loc Cert.OutLn1RefIdeal.main_arg2)
      ∧ r.2.mem ((c.tc : Thread Cert.OutLn1RefIdeal.nD Cert.OutLn1RefIdeal.τ).loc Cert.OutLn1RefIdeal.main_arg3) = m ((c.tc : Thread Cert.OutLn1RefIdeal.nD Cert.OutLn1RefIdeal.τ).loc Cert.OutLn1RefIdeal.main_arg3)
      ∧ r.2.mem ((c.tc : Thread Cert.OutLn1RefIdeal.nD Cert.OutLn1RefIdeal.τ).loc Cert.OutLn1RefIdeal.main_arg4) = m ((c.tc : Thread Cert.OutLn1RefIdeal.nD Cert.OutLn1RefIdeal.τ).loc Cert.OutLn1RefIdeal.main_arg4)
      ∧ r.2.mem ((c.tc : Thread Cert.OutLn1RefIdeal.nD Cert.OutLn1RefIdeal.τ).loc Cert.OutLn1RefIdeal.main_arg5) = m ((c.tc : Thread Cert.OutLn1RefIdeal.nD Cert.OutLn1RefIdeal.τ).loc Cert.OutLn1RefIdeal.main_arg5)
      ∧ r.2.mem ((c.tc : Thread Cert.OutLn1RefIdeal.nD Cert.OutLn1RefIdeal.τ).loc Cert.OutLn1RefIdeal.main_arg6) = m ((c.tc : Thread Cert.OutLn1RefIdeal.nD Cert.OutLn1RefIdeal.τ).loc Cert.OutLn1RefIdeal.main_arg6))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5)
      ∧ r.2.mem ((c.tc : Thread Cert.ConvBwd.nD Cert.ConvBwd.τ).loc Cert.ConvBwd.main_arg6) = m ((c.tc : Thread Cert.ConvBwd.nD Cert.ConvBwd.τ).loc Cert.ConvBwd.main_arg6))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
      ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5)
      ∧ r.2.mem ((c.tc : Thread Cert.ConvBwdRefIdeal.nD Cert.ConvBwdRefIdeal.τ).loc Cert.ConvBwdRefIdeal.main_arg6) = m ((c.tc : Thread Cert.ConvBwdRefIdeal.nD Cert.ConvBwdRefIdeal.τ).loc Cert.ConvBwdRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v18) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_Ln2_Ln2Ideal : Prop :=
  True

def algebraic_Ln2Ideal_Ln2RefIdeal_pre_finite_ln2 [hLn2Ideal : Cert.Ln2Ideal.Facts] [hLn2RefIdeal : Cert.Ln2RefIdeal.Facts] [hPre_finite_ln2 : Cert.Pre_finite_ln2.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal_finite_ln2 m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)
      ∧ m' ((c.tc : Thread Cert.Ln2RefIdeal.nD Cert.Ln2RefIdeal.τ).loc Cert.Ln2RefIdeal.main_arg5) = m ((c.tc : Thread Cert.Ln2Ideal.nD Cert.Ln2Ideal.τ).loc Cert.Ln2Ideal.main_arg5)) →
    ∃ (v0 : (c : Dev Cert.Ln2Ideal.nD) → Buf (Elt Ideal) ((c.tc : Thread Cert.Ln2Ideal.nD Cert.Ln2Ideal.τ).loc Cert.Ln2Ideal.main_v2_0)) (v1 : (c : Dev Cert.Ln2Ideal.nD) → Buf (Elt Ideal) ((c.tc : Thread Cert.Ln2Ideal.nD Cert.Ln2Ideal.τ).loc Cert.Ln2Ideal.main_v2_1)) (v2 : (c : Dev Cert.Ln2Ideal.nD) → Buf (Elt Ideal) ((c.tc : Thread Cert.Ln2Ideal.nD Cert.Ln2Ideal.τ).loc Cert.Ln2Ideal.main_v2_2)) (v3 : (c : Dev Cert.Ln2Ideal.nD) → Buf (Elt Ideal) ((c.tc : Thread Cert.Ln2Ideal.nD Cert.Ln2Ideal.τ).loc Cert.Ln2Ideal.main_v2_3)) (v4 : (c : Dev Cert.Ln2Ideal.nD) → Buf (Elt Ideal) ((c.tc : Thread Cert.Ln2Ideal.nD Cert.Ln2Ideal.τ).loc Cert.Ln2Ideal.main_v2_4)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v2_0) = v0 c
          ∧ r.2.mem ((c.tc : Thread Cert.Ln2Ideal.nD Cert.Ln2Ideal.τ).loc Cert.Ln2Ideal.main_v2_1) = v1 c
          ∧ r.2.mem ((c.tc : Thread Cert.Ln2Ideal.nD Cert.Ln2Ideal.τ).loc Cert.Ln2Ideal.main_v2_2) = v2 c
          ∧ r.2.mem ((c.tc : Thread Cert.Ln2Ideal.nD Cert.Ln2Ideal.τ).loc Cert.Ln2Ideal.main_v2_3) = v3 c
          ∧ r.2.mem ((c.tc : Thread Cert.Ln2Ideal.nD Cert.Ln2Ideal.τ).loc Cert.Ln2Ideal.main_v2_4) = v4 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
          ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v82) = v0 c
          ∧ r.2.mem ((c.tc : Thread Cert.Ln2RefIdeal.nD Cert.Ln2RefIdeal.τ).loc Cert.Ln2RefIdeal.main_v85) = v1 c
          ∧ r.2.mem ((c.tc : Thread Cert.Ln2RefIdeal.nD Cert.Ln2RefIdeal.τ).loc Cert.Ln2RefIdeal.main_v86) = v2 c
          ∧ r.2.mem ((c.tc : Thread Cert.Ln2RefIdeal.nD Cert.Ln2RefIdeal.τ).loc Cert.Ln2RefIdeal.main_v84) = v3 c
          ∧ r.2.mem ((c.tc : Thread Cert.Ln2RefIdeal.nD Cert.Ln2RefIdeal.τ).loc Cert.Ln2RefIdeal.main_v83) = v4 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v22_0)) (v1 : (c : Dev Cert.AttnIdeal.nD) → Buf (Elt Ideal) ((c.tc : Thread Cert.AttnIdeal.nD Cert.AttnIdeal.τ).loc Cert.AttnIdeal.main_v22_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v22_0) = v0 c
          ∧ r.2.mem ((c.tc : Thread Cert.AttnIdeal.nD Cert.AttnIdeal.τ).loc Cert.AttnIdeal.main_v22_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v256) = v0 c
          ∧ r.2.mem ((c.tc : Thread Cert.AttnRefIdeal.nD Cert.AttnRefIdeal.τ).loc Cert.AttnRefIdeal.main_v258) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Ln1_Ln1Ideal : Prop :=
  True

def algebraic_Ln1Ideal_Ln1RefIdeal_pre_finite_ln1 [hLn1Ideal : Cert.Ln1Ideal.Facts] [hLn1RefIdeal : Cert.Ln1RefIdeal.Facts] [hPre_finite_ln1 : Cert.Pre_finite_ln1.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal_finite_ln1 m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)
      ∧ m' ((c.tc : Thread Cert.Ln1RefIdeal.nD Cert.Ln1RefIdeal.τ).loc Cert.Ln1RefIdeal.main_arg4) = m ((c.tc : Thread Cert.Ln1Ideal.nD Cert.Ln1Ideal.τ).loc Cert.Ln1Ideal.main_arg4)
      ∧ m' ((c.tc : Thread Cert.Ln1RefIdeal.nD Cert.Ln1RefIdeal.τ).loc Cert.Ln1RefIdeal.main_arg5) = m ((c.tc : Thread Cert.Ln1Ideal.nD Cert.Ln1Ideal.τ).loc Cert.Ln1Ideal.main_arg5)) →
    ∃ (v0 : (c : Dev Cert.Ln1Ideal.nD) → Buf (Elt Ideal) ((c.tc : Thread Cert.Ln1Ideal.nD Cert.Ln1Ideal.τ).loc Cert.Ln1Ideal.main_v25_0)) (v1 : (c : Dev Cert.Ln1Ideal.nD) → Buf (Elt Ideal) ((c.tc : Thread Cert.Ln1Ideal.nD Cert.Ln1Ideal.τ).loc Cert.Ln1Ideal.main_v25_1)) (v2 : (c : Dev Cert.Ln1Ideal.nD) → Buf (Elt Ideal) ((c.tc : Thread Cert.Ln1Ideal.nD Cert.Ln1Ideal.τ).loc Cert.Ln1Ideal.main_v25_2)) (v3 : (c : Dev Cert.Ln1Ideal.nD) → Buf (Elt Ideal) ((c.tc : Thread Cert.Ln1Ideal.nD Cert.Ln1Ideal.τ).loc Cert.Ln1Ideal.main_v25_3)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v25_0) = v0 c
          ∧ r.2.mem ((c.tc : Thread Cert.Ln1Ideal.nD Cert.Ln1Ideal.τ).loc Cert.Ln1Ideal.main_v25_1) = v1 c
          ∧ r.2.mem ((c.tc : Thread Cert.Ln1Ideal.nD Cert.Ln1Ideal.τ).loc Cert.Ln1Ideal.main_v25_2) = v2 c
          ∧ r.2.mem ((c.tc : Thread Cert.Ln1Ideal.nD Cert.Ln1Ideal.τ).loc Cert.Ln1Ideal.main_v25_3) = v3 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
          ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v70) = v0 c
          ∧ r.2.mem ((c.tc : Thread Cert.Ln1RefIdeal.nD Cert.Ln1RefIdeal.τ).loc Cert.Ln1RefIdeal.main_v73) = v1 c
          ∧ r.2.mem ((c.tc : Thread Cert.Ln1RefIdeal.nD Cert.Ln1RefIdeal.τ).loc Cert.Ln1RefIdeal.main_v72) = v2 c
          ∧ r.2.mem ((c.tc : Thread Cert.Ln1RefIdeal.nD Cert.Ln1RefIdeal.τ).loc Cert.Ln1RefIdeal.main_v71) = v3 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4)
          ∧ r.2.mem ((c.tc : Thread Cert.Ln1RefIdeal.nD Cert.Ln1RefIdeal.τ).loc Cert.Ln1RefIdeal.main_arg5) = m' ((c.tc : Thread Cert.Ln1RefIdeal.nD Cert.Ln1RefIdeal.τ).loc Cert.Ln1RefIdeal.main_arg5))

def preserves_Dmix_DmixIdeal : Prop :=
  True

def algebraic_DmixIdeal_DmixRefIdeal_pre_finite_dm [hDmixIdeal : Cert.DmixIdeal.Facts] [hDmixRefIdeal : Cert.DmixRefIdeal.Facts] [hPre_finite_dm : Cert.Pre_finite_dm.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal_finite_dm m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)
      ∧ m' ((c.tc : Thread Cert.DmixRefIdeal.nD Cert.DmixRefIdeal.τ).loc Cert.DmixRefIdeal.main_arg2) = m ((c.tc : Thread Cert.DmixIdeal.nD Cert.DmixIdeal.τ).loc Cert.DmixIdeal.main_arg2)
      ∧ m' ((c.tc : Thread Cert.DmixRefIdeal.nD Cert.DmixRefIdeal.τ).loc Cert.DmixRefIdeal.main_arg3) = m ((c.tc : Thread Cert.DmixIdeal.nD Cert.DmixIdeal.τ).loc Cert.DmixIdeal.main_arg3)) →
    ∃ (v0 : (c : Dev Cert.DmixIdeal.nD) → Buf (Elt Ideal) ((c.tc : Thread Cert.DmixIdeal.nD Cert.DmixIdeal.τ).loc Cert.DmixIdeal.main_v11_0)) (v1 : (c : Dev Cert.DmixIdeal.nD) → Buf (Elt Ideal) ((c.tc : Thread Cert.DmixIdeal.nD Cert.DmixIdeal.τ).loc Cert.DmixIdeal.main_v11_1)) (v2 : (c : Dev Cert.DmixIdeal.nD) → Buf (Elt Ideal) ((c.tc : Thread Cert.DmixIdeal.nD Cert.DmixIdeal.τ).loc Cert.DmixIdeal.main_v11_2)) (v3 : (c : Dev Cert.DmixIdeal.nD) → Buf (Elt Ideal) ((c.tc : Thread Cert.DmixIdeal.nD Cert.DmixIdeal.τ).loc Cert.DmixIdeal.main_v11_3)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v11_0) = v0 c
          ∧ r.2.mem ((c.tc : Thread Cert.DmixIdeal.nD Cert.DmixIdeal.τ).loc Cert.DmixIdeal.main_v11_1) = v1 c
          ∧ r.2.mem ((c.tc : Thread Cert.DmixIdeal.nD Cert.DmixIdeal.τ).loc Cert.DmixIdeal.main_v11_2) = v2 c
          ∧ r.2.mem ((c.tc : Thread Cert.DmixIdeal.nD Cert.DmixIdeal.τ).loc Cert.DmixIdeal.main_v11_3) = v3 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
          ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
          ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v48) = v0 c
          ∧ r.2.mem ((c.tc : Thread Cert.DmixRefIdeal.nD Cert.DmixRefIdeal.τ).loc Cert.DmixRefIdeal.main_v50) = v1 c
          ∧ r.2.mem ((c.tc : Thread Cert.DmixRefIdeal.nD Cert.DmixRefIdeal.τ).loc Cert.DmixRefIdeal.main_v24) = v2 c
          ∧ r.2.mem ((c.tc : Thread Cert.DmixRefIdeal.nD Cert.DmixRefIdeal.τ).loc Cert.DmixRefIdeal.main_v43) = v3 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1)
          ∧ r.2.mem ((c.tc : Thread Cert.DmixRefIdeal.nD Cert.DmixRefIdeal.τ).loc Cert.DmixRefIdeal.main_arg2) = m' ((c.tc : Thread Cert.DmixRefIdeal.nD Cert.DmixRefIdeal.τ).loc Cert.DmixRefIdeal.main_arg2)
          ∧ r.2.mem ((c.tc : Thread Cert.DmixRefIdeal.nD Cert.DmixRefIdeal.τ).loc Cert.DmixRefIdeal.main_arg3) = m' ((c.tc : Thread Cert.DmixRefIdeal.nD Cert.DmixRefIdeal.τ).loc Cert.DmixRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)) (v3 : (c : Dev Cert.FfnIdeal.nD) → Buf (Elt Ideal) ((c.tc : Thread Cert.FfnIdeal.nD Cert.FfnIdeal.τ).loc Cert.FfnIdeal.main_v10_3)) (v4 : (c : Dev Cert.FfnIdeal.nD) → Buf (Elt Ideal) ((c.tc : Thread Cert.FfnIdeal.nD Cert.FfnIdeal.τ).loc Cert.FfnIdeal.main_v10_4)) (v5 : (c : Dev Cert.FfnIdeal.nD) → Buf (Elt Ideal) ((c.tc : Thread Cert.FfnIdeal.nD Cert.FfnIdeal.τ).loc Cert.FfnIdeal.main_v10_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_v10_3) = v3 c
          ∧ r.2.mem ((c.tc : Thread Cert.FfnIdeal.nD Cert.FfnIdeal.τ).loc Cert.FfnIdeal.main_v10_4) = v4 c
          ∧ r.2.mem ((c.tc : Thread Cert.FfnIdeal.nD Cert.FfnIdeal.τ).loc Cert.FfnIdeal.main_v10_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v95) = v0 c
          ∧ r.2.mem ((c.tc : Thread Cert.FfnRefIdeal.nD Cert.FfnRefIdeal.τ).loc Cert.FfnRefIdeal.main_v96) = v1 c
          ∧ r.2.mem ((c.tc : Thread Cert.FfnRefIdeal.nD Cert.FfnRefIdeal.τ).loc Cert.FfnRefIdeal.main_v98) = v2 c
          ∧ r.2.mem ((c.tc : Thread Cert.FfnRefIdeal.nD Cert.FfnRefIdeal.τ).loc Cert.FfnRefIdeal.main_v41) = v3 c
          ∧ r.2.mem ((c.tc : Thread Cert.FfnRefIdeal.nD Cert.FfnRefIdeal.τ).loc Cert.FfnRefIdeal.main_v99) = v4 c
          ∧ r.2.mem ((c.tc : Thread Cert.FfnRefIdeal.nD Cert.FfnRefIdeal.τ).loc Cert.FfnRefIdeal.main_v100) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_RelGrad_RelGradIdeal : Prop :=
  True

def algebraic_RelGradIdeal_RelGradRefIdeal_pre_finite_rel [hRelGradIdeal : Cert.RelGradIdeal.Facts] [hRelGradRefIdeal : Cert.RelGradRefIdeal.Facts] [hPre_finite_rel : Cert.Pre_finite_rel.Facts] : Prop :=
  ∀ (m : (ℓ : Loc Cert.RelGradIdeal.nD Cert.RelGradIdeal.τ Cert.RelGradIdeal.sig) → Buf (Elt Ideal) ℓ) (g : Dev Cert.RelGradIdeal.nD → PrngReg)
    (m' : (ℓ : Loc Cert.RelGradRefIdeal.nD Cert.RelGradRefIdeal.τ Cert.RelGradRefIdeal.sig) → Buf (Elt Ideal) ℓ) (g' : Dev Cert.RelGradRefIdeal.nD → PrngReg), Pre_RelGradIdeal_finite_rel m →
    (∀ c : Dev Cert.RelGradIdeal.nD,
      m' ((c.tc : Thread Cert.RelGradRefIdeal.nD Cert.RelGradRefIdeal.τ).loc Cert.RelGradRefIdeal.main_arg0) = m ((c.tc : Thread Cert.RelGradIdeal.nD Cert.RelGradIdeal.τ).loc Cert.RelGradIdeal.main_arg0)
      ∧ m' ((c.tc : Thread Cert.RelGradRefIdeal.nD Cert.RelGradRefIdeal.τ).loc Cert.RelGradRefIdeal.main_arg1) = m ((c.tc : Thread Cert.RelGradIdeal.nD Cert.RelGradIdeal.τ).loc Cert.RelGradIdeal.main_arg1)) →
    ∃ (v0 : (c : Dev Cert.RelGradIdeal.nD) → Buf (Elt Ideal) ((c.tc : Thread Cert.RelGradIdeal.nD Cert.RelGradIdeal.τ).loc Cert.RelGradIdeal.main_v2)),
      θ_run (Cert.RelGradIdeal.defs (F := Ideal)) (onTc (τ := Cert.RelGradIdeal.τ) (Cert.RelGradIdeal.main (F := Ideal))) ⟨m, fun _ => 0, g⟩ (fun r => ∀ c : Dev Cert.RelGradIdeal.nD,
          r.2.mem ((c.tc : Thread Cert.RelGradIdeal.nD Cert.RelGradIdeal.τ).loc Cert.RelGradIdeal.main_v2) = v0 c
          ∧ r.2.mem ((c.tc : Thread Cert.RelGradIdeal.nD Cert.RelGradIdeal.τ).loc Cert.RelGradIdeal.main_arg0) = m ((c.tc : Thread Cert.RelGradIdeal.nD Cert.RelGradIdeal.τ).loc Cert.RelGradIdeal.main_arg0)
          ∧ r.2.mem ((c.tc : Thread Cert.RelGradIdeal.nD Cert.RelGradIdeal.τ).loc Cert.RelGradIdeal.main_arg1) = m ((c.tc : Thread Cert.RelGradIdeal.nD Cert.RelGradIdeal.τ).loc Cert.RelGradIdeal.main_arg1))
      ∧ θ_run (Cert.RelGradRefIdeal.defs (F := Ideal)) (onTc (τ := Cert.RelGradRefIdeal.τ) (Cert.RelGradRefIdeal.main (F := Ideal))) ⟨m', fun _ => 0, g'⟩ (fun r => ∀ c : Dev Cert.RelGradRefIdeal.nD,
          r.2.mem ((c.tc : Thread Cert.RelGradRefIdeal.nD Cert.RelGradRefIdeal.τ).loc Cert.RelGradRefIdeal.main_v12) = v0 c
          ∧ r.2.mem ((c.tc : Thread Cert.RelGradRefIdeal.nD Cert.RelGradRefIdeal.τ).loc Cert.RelGradRefIdeal.main_arg0) = m' ((c.tc : Thread Cert.RelGradRefIdeal.nD Cert.RelGradRefIdeal.τ).loc Cert.RelGradRefIdeal.main_arg0)
          ∧ r.2.mem ((c.tc : Thread Cert.RelGradRefIdeal.nD Cert.RelGradRefIdeal.τ).loc Cert.RelGradRefIdeal.main_arg1) = m' ((c.tc : Thread Cert.RelGradRefIdeal.nD Cert.RelGradRefIdeal.τ).loc Cert.RelGradRefIdeal.main_arg1))

def preserves_Bias_BiasIdeal : Prop :=
  True

def algebraic_BiasIdeal_BiasRefIdeal_pre_finite_bias [hBiasIdeal : Cert.BiasIdeal.Facts] [hBiasRefIdeal : Cert.BiasRefIdeal.Facts] [hPre_finite_bias : Cert.Pre_finite_bias.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_finite_bias m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)
      ∧ m' ((c.tc : Thread Cert.BiasRefIdeal.nD Cert.BiasRefIdeal.τ).loc Cert.BiasRefIdeal.main_arg2) = m ((c.tc : Thread Cert.BiasIdeal.nD Cert.BiasIdeal.τ).loc Cert.BiasIdeal.main_arg2)) →
    ∃ (v0 : (c : Dev Cert.BiasIdeal.nD) → Buf (Elt Ideal) ((c.tc : Thread Cert.BiasIdeal.nD Cert.BiasIdeal.τ).loc Cert.BiasIdeal.main_v3)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v3) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v11) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2))

def preserves_OutLn1_OutLn1Ideal : Prop :=
  True

def algebraic_OutLn1Ideal_OutLn1RefIdeal [hOutLn1Ideal : Cert.OutLn1Ideal.Facts] [hOutLn1RefIdeal : Cert.OutLn1RefIdeal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg)
    (m' : (ℓ : Loc Cert.OutLn1RefIdeal.nD Cert.OutLn1RefIdeal.τ Cert.OutLn1RefIdeal.sig) → Buf (Elt Ideal) ℓ) (g' : Dev Cert.OutLn1RefIdeal.nD → PrngReg), Pre_OutLn1Ideal m →
    (∀ c : Dev Cert.OutLn1Ideal.nD,
      m' ((c.tc : Thread Cert.OutLn1RefIdeal.nD Cert.OutLn1RefIdeal.τ).loc Cert.OutLn1RefIdeal.main_arg0) = m ((c.tc : Thread Cert.OutLn1Ideal.nD Cert.OutLn1Ideal.τ).loc Cert.OutLn1Ideal.main_arg0)
      ∧ m' ((c.tc : Thread Cert.OutLn1RefIdeal.nD Cert.OutLn1RefIdeal.τ).loc Cert.OutLn1RefIdeal.main_arg1) = m ((c.tc : Thread Cert.OutLn1Ideal.nD Cert.OutLn1Ideal.τ).loc Cert.OutLn1Ideal.main_arg1)
      ∧ m' ((c.tc : Thread Cert.OutLn1RefIdeal.nD Cert.OutLn1RefIdeal.τ).loc Cert.OutLn1RefIdeal.main_arg2) = m ((c.tc : Thread Cert.OutLn1Ideal.nD Cert.OutLn1Ideal.τ).loc Cert.OutLn1Ideal.main_arg2)
      ∧ m' ((c.tc : Thread Cert.OutLn1RefIdeal.nD Cert.OutLn1RefIdeal.τ).loc Cert.OutLn1RefIdeal.main_arg3) = m ((c.tc : Thread Cert.OutLn1Ideal.nD Cert.OutLn1Ideal.τ).loc Cert.OutLn1Ideal.main_arg3)
      ∧ m' ((c.tc : Thread Cert.OutLn1RefIdeal.nD Cert.OutLn1RefIdeal.τ).loc Cert.OutLn1RefIdeal.main_arg4) = m ((c.tc : Thread Cert.OutLn1Ideal.nD Cert.OutLn1Ideal.τ).loc Cert.OutLn1Ideal.main_arg4)
      ∧ m' ((c.tc : Thread Cert.OutLn1RefIdeal.nD Cert.OutLn1RefIdeal.τ).loc Cert.OutLn1RefIdeal.main_arg5) = m ((c.tc : Thread Cert.OutLn1Ideal.nD Cert.OutLn1Ideal.τ).loc Cert.OutLn1Ideal.main_arg5)
      ∧ m' ((c.tc : Thread Cert.OutLn1RefIdeal.nD Cert.OutLn1RefIdeal.τ).loc Cert.OutLn1RefIdeal.main_arg6) = m ((c.tc : Thread Cert.OutLn1Ideal.nD Cert.OutLn1Ideal.τ).loc Cert.OutLn1Ideal.main_arg6)) →
    ∃ (v0 : (c : Dev Cert.OutLn1Ideal.nD) → Buf (Elt Ideal) ((c.tc : Thread Cert.OutLn1Ideal.nD Cert.OutLn1Ideal.τ).loc Cert.OutLn1Ideal.main_v2_0)) (v1 : (c : Dev Cert.OutLn1Ideal.nD) → Buf (Elt Ideal) ((c.tc : Thread Cert.OutLn1Ideal.nD Cert.OutLn1Ideal.τ).loc Cert.OutLn1Ideal.main_v2_1)) (v2 : (c : Dev Cert.OutLn1Ideal.nD) → Buf (Elt Ideal) ((c.tc : Thread Cert.OutLn1Ideal.nD Cert.OutLn1Ideal.τ).loc Cert.OutLn1Ideal.main_v2_2)) (v3 : (c : Dev Cert.OutLn1Ideal.nD) → Buf (Elt Ideal) ((c.tc : Thread Cert.OutLn1Ideal.nD Cert.OutLn1Ideal.τ).loc Cert.OutLn1Ideal.main_v2_3)) (v4 : (c : Dev Cert.OutLn1Ideal.nD) → Buf (Elt Ideal) ((c.tc : Thread Cert.OutLn1Ideal.nD Cert.OutLn1Ideal.τ).loc Cert.OutLn1Ideal.main_v2_4)),
      θ_run (Cert.OutLn1Ideal.defs (F := Ideal)) (onTc (τ := Cert.OutLn1Ideal.τ) (Cert.OutLn1Ideal.main (F := Ideal))) ⟨m, fun _ => 0, g⟩ (fun r => ∀ c : Dev Cert.OutLn1Ideal.nD,
          r.2.mem ((c.tc : Thread Cert.OutLn1Ideal.nD Cert.OutLn1Ideal.τ).loc Cert.OutLn1Ideal.main_v2_0) = v0 c
          ∧ r.2.mem ((c.tc : Thread Cert.OutLn1Ideal.nD Cert.OutLn1Ideal.τ).loc Cert.OutLn1Ideal.main_v2_1) = v1 c
          ∧ r.2.mem ((c.tc : Thread Cert.OutLn1Ideal.nD Cert.OutLn1Ideal.τ).loc Cert.OutLn1Ideal.main_v2_2) = v2 c
          ∧ r.2.mem ((c.tc : Thread Cert.OutLn1Ideal.nD Cert.OutLn1Ideal.τ).loc Cert.OutLn1Ideal.main_v2_3) = v3 c
          ∧ r.2.mem ((c.tc : Thread Cert.OutLn1Ideal.nD Cert.OutLn1Ideal.τ).loc Cert.OutLn1Ideal.main_v2_4) = v4 c
          ∧ r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
          ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
          ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
          ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
          ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4)
          ∧ r.2.mem ((c.tc : Thread Cert.OutLn1Ideal.nD Cert.OutLn1Ideal.τ).loc Cert.OutLn1Ideal.main_arg5) = m ((c.tc : Thread Cert.OutLn1Ideal.nD Cert.OutLn1Ideal.τ).loc Cert.OutLn1Ideal.main_arg5)
          ∧ r.2.mem ((c.tc : Thread Cert.OutLn1Ideal.nD Cert.OutLn1Ideal.τ).loc Cert.OutLn1Ideal.main_arg6) = m ((c.tc : Thread Cert.OutLn1Ideal.nD Cert.OutLn1Ideal.τ).loc Cert.OutLn1Ideal.main_arg6))
      ∧ θ_run (Cert.OutLn1RefIdeal.defs (F := Ideal)) (onTc (τ := Cert.OutLn1RefIdeal.τ) (Cert.OutLn1RefIdeal.main (F := Ideal))) ⟨m', fun _ => 0, g'⟩ (fun r => ∀ c : Dev Cert.OutLn1RefIdeal.nD,
          r.2.mem ((c.tc : Thread Cert.OutLn1RefIdeal.nD Cert.OutLn1RefIdeal.τ).loc Cert.OutLn1RefIdeal.main_v44) = v0 c
          ∧ r.2.mem ((c.tc : Thread Cert.OutLn1RefIdeal.nD Cert.OutLn1RefIdeal.τ).loc Cert.OutLn1RefIdeal.main_v53) = v1 c
          ∧ r.2.mem ((c.tc : Thread Cert.OutLn1RefIdeal.nD Cert.OutLn1RefIdeal.τ).loc Cert.OutLn1RefIdeal.main_v36) = v2 c
          ∧ r.2.mem ((c.tc : Thread Cert.OutLn1RefIdeal.nD Cert.OutLn1RefIdeal.τ).loc Cert.OutLn1RefIdeal.main_v54) = v3 c
          ∧ r.2.mem ((c.tc : Thread Cert.OutLn1RefIdeal.nD Cert.OutLn1RefIdeal.τ).loc Cert.OutLn1RefIdeal.main_v55) = v4 c
          ∧ r.2.mem ((c.tc : Thread Cert.OutLn1RefIdeal.nD Cert.OutLn1RefIdeal.τ).loc Cert.OutLn1RefIdeal.main_arg0) = m' ((c.tc : Thread Cert.OutLn1RefIdeal.nD Cert.OutLn1RefIdeal.τ).loc Cert.OutLn1RefIdeal.main_arg0)
          ∧ r.2.mem ((c.tc : Thread Cert.OutLn1RefIdeal.nD Cert.OutLn1RefIdeal.τ).loc Cert.OutLn1RefIdeal.main_arg1) = m' ((c.tc : Thread Cert.OutLn1RefIdeal.nD Cert.OutLn1RefIdeal.τ).loc Cert.OutLn1RefIdeal.main_arg1)
          ∧ r.2.mem ((c.tc : Thread Cert.OutLn1RefIdeal.nD Cert.OutLn1RefIdeal.τ).loc Cert.OutLn1RefIdeal.main_arg2) = m' ((c.tc : Thread Cert.OutLn1RefIdeal.nD Cert.OutLn1RefIdeal.τ).loc Cert.OutLn1RefIdeal.main_arg2)
          ∧ r.2.mem ((c.tc : Thread Cert.OutLn1RefIdeal.nD Cert.OutLn1RefIdeal.τ).loc Cert.OutLn1RefIdeal.main_arg3) = m' ((c.tc : Thread Cert.OutLn1RefIdeal.nD Cert.OutLn1RefIdeal.τ).loc Cert.OutLn1RefIdeal.main_arg3)
          ∧ r.2.mem ((c.tc : Thread Cert.OutLn1RefIdeal.nD Cert.OutLn1RefIdeal.τ).loc Cert.OutLn1RefIdeal.main_arg4) = m' ((c.tc : Thread Cert.OutLn1RefIdeal.nD Cert.OutLn1RefIdeal.τ).loc Cert.OutLn1RefIdeal.main_arg4)
          ∧ r.2.mem ((c.tc : Thread Cert.OutLn1RefIdeal.nD Cert.OutLn1RefIdeal.τ).loc Cert.OutLn1RefIdeal.main_arg5) = m' ((c.tc : Thread Cert.OutLn1RefIdeal.nD Cert.OutLn1RefIdeal.τ).loc Cert.OutLn1RefIdeal.main_arg5)
          ∧ r.2.mem ((c.tc : Thread Cert.OutLn1RefIdeal.nD Cert.OutLn1RefIdeal.τ).loc Cert.OutLn1RefIdeal.main_arg6) = m' ((c.tc : Thread Cert.OutLn1RefIdeal.nD Cert.OutLn1RefIdeal.τ).loc Cert.OutLn1RefIdeal.main_arg6))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v74) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v36) = v0 c
          ∧ r.2.mem ((c.tc : Thread Cert.FfnFwdRefIdeal.nD Cert.FfnFwdRefIdeal.τ).loc Cert.FfnFwdRefIdeal.main_v39) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_ConvBwd_ConvBwdIdeal : Prop :=
  True

def preserves_AttnBwd_AttnBwdIdeal : Prop :=
  True

def Claim : Prop :=
  ∃ (hDwOut : Cert.DwOut.Facts) (hDwOutIdeal : Cert.DwOutIdeal.Facts) (hDwOutRefIdeal : Cert.DwOutRefIdeal.Facts) (hLn2 : Cert.Ln2.Facts) (hLn2Ideal : Cert.Ln2Ideal.Facts) (hLn2RefIdeal : Cert.Ln2RefIdeal.Facts) (hAttn : Cert.Attn.Facts) (hAttnIdeal : Cert.AttnIdeal.Facts) (hAttnRefIdeal : Cert.AttnRefIdeal.Facts) (hLn1 : Cert.Ln1.Facts) (hLn1Ideal : Cert.Ln1Ideal.Facts) (hLn1RefIdeal : Cert.Ln1RefIdeal.Facts) (hDmix : Cert.Dmix.Facts) (hDmixIdeal : Cert.DmixIdeal.Facts) (hDmixRefIdeal : Cert.DmixRefIdeal.Facts) (hFfn : Cert.Ffn.Facts) (hFfnIdeal : Cert.FfnIdeal.Facts) (hFfnRefIdeal : Cert.FfnRefIdeal.Facts) (hRelGrad : Cert.RelGrad.Facts) (hRelGradIdeal : Cert.RelGradIdeal.Facts) (hRelGradRefIdeal : Cert.RelGradRefIdeal.Facts) (hBias : Cert.Bias.Facts) (hBiasIdeal : Cert.BiasIdeal.Facts) (hBiasRefIdeal : Cert.BiasRefIdeal.Facts) (hOutLn1 : Cert.OutLn1.Facts) (hOutLn1Ideal : Cert.OutLn1Ideal.Facts) (hOutLn1RefIdeal : Cert.OutLn1RefIdeal.Facts) (hConvFwd : Cert.ConvFwd.Facts) (hConvFwdIdeal : Cert.ConvFwdIdeal.Facts) (hConvFwdRefIdeal : Cert.ConvFwdRefIdeal.Facts) (hFfnFwd : Cert.FfnFwd.Facts) (hFfnFwdIdeal : Cert.FfnFwdIdeal.Facts) (hFfnFwdRefIdeal : Cert.FfnFwdRefIdeal.Facts) (hConvBwd : Cert.ConvBwd.Facts) (hConvBwdIdeal : Cert.ConvBwdIdeal.Facts) (hConvBwdRefIdeal : Cert.ConvBwdRefIdeal.Facts) (hAttnBwd : Cert.AttnBwd.Facts) (hAttnBwdIdeal : Cert.AttnBwdIdeal.Facts) (hPre_finite_ln2 : Cert.Pre_finite_ln2.Facts) (hPre_finite_attn : Cert.Pre_finite_attn.Facts) (hPre_finite_ln1 : Cert.Pre_finite_ln1.Facts) (hPre_finite_dm : Cert.Pre_finite_dm.Facts) (hPre_finite_ffn : Cert.Pre_finite_ffn.Facts) (hPre_finite_rel : Cert.Pre_finite_rel.Facts) (hPre_finite_bias : Cert.Pre_finite_bias.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_Ln2 (hLn2 := hLn2)
    ∧ quiescent_Ln2Ideal (hLn2Ideal := hLn2Ideal)
    ∧ quiescent_Ln2Ideal_pre_finite_ln2 (hLn2Ideal := hLn2Ideal) (hPre_finite_ln2 := hPre_finite_ln2)
    ∧ quiescent_Ln2RefIdeal (hLn2RefIdeal := hLn2RefIdeal)
    ∧ quiescent_Ln2RefIdeal_pre_finite_ln2 (hLn2RefIdeal := hLn2RefIdeal) (hPre_finite_ln2 := hPre_finite_ln2)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ln1 (hLn1 := hLn1)
    ∧ quiescent_Ln1Ideal (hLn1Ideal := hLn1Ideal)
    ∧ quiescent_Ln1Ideal_pre_finite_ln1 (hLn1Ideal := hLn1Ideal) (hPre_finite_ln1 := hPre_finite_ln1)
    ∧ quiescent_Ln1RefIdeal (hLn1RefIdeal := hLn1RefIdeal)
    ∧ quiescent_Ln1RefIdeal_pre_finite_ln1 (hLn1RefIdeal := hLn1RefIdeal) (hPre_finite_ln1 := hPre_finite_ln1)
    ∧ quiescent_Dmix (hDmix := hDmix)
    ∧ quiescent_DmixIdeal (hDmixIdeal := hDmixIdeal)
    ∧ quiescent_DmixIdeal_pre_finite_dm (hDmixIdeal := hDmixIdeal) (hPre_finite_dm := hPre_finite_dm)
    ∧ quiescent_DmixRefIdeal (hDmixRefIdeal := hDmixRefIdeal)
    ∧ quiescent_DmixRefIdeal_pre_finite_dm (hDmixRefIdeal := hDmixRefIdeal) (hPre_finite_dm := hPre_finite_dm)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_RelGrad (hRelGrad := hRelGrad)
    ∧ quiescent_RelGradIdeal (hRelGradIdeal := hRelGradIdeal)
    ∧ quiescent_RelGradIdeal_pre_finite_rel (hRelGradIdeal := hRelGradIdeal) (hPre_finite_rel := hPre_finite_rel)
    ∧ quiescent_RelGradRefIdeal (hRelGradRefIdeal := hRelGradRefIdeal)
    ∧ quiescent_RelGradRefIdeal_pre_finite_rel (hRelGradRefIdeal := hRelGradRefIdeal) (hPre_finite_rel := hPre_finite_rel)
    ∧ quiescent_Bias (hBias := hBias)
    ∧ quiescent_BiasIdeal (hBiasIdeal := hBiasIdeal)
    ∧ quiescent_BiasIdeal_pre_finite_bias (hBiasIdeal := hBiasIdeal) (hPre_finite_bias := hPre_finite_bias)
    ∧ quiescent_BiasRefIdeal (hBiasRefIdeal := hBiasRefIdeal)
    ∧ quiescent_BiasRefIdeal_pre_finite_bias (hBiasRefIdeal := hBiasRefIdeal) (hPre_finite_bias := hPre_finite_bias)
    ∧ quiescent_OutLn1 (hOutLn1 := hOutLn1)
    ∧ quiescent_OutLn1Ideal (hOutLn1Ideal := hOutLn1Ideal)
    ∧ quiescent_OutLn1RefIdeal (hOutLn1RefIdeal := hOutLn1RefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_AttnBwd (hAttnBwd := hAttnBwd)
    ∧ quiescent_AttnBwdIdeal (hAttnBwdIdeal := hAttnBwdIdeal)
    ∧ preserves_DwOut_DwOutIdeal
    ∧ algebraic_DwOutIdeal_DwOutRefIdeal (hDwOutIdeal := hDwOutIdeal) (hDwOutRefIdeal := hDwOutRefIdeal)
    ∧ preserves_Ln2_Ln2Ideal
    ∧ algebraic_Ln2Ideal_Ln2RefIdeal_pre_finite_ln2 (hLn2Ideal := hLn2Ideal) (hLn2RefIdeal := hLn2RefIdeal) (hPre_finite_ln2 := hPre_finite_ln2)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ln1_Ln1Ideal
    ∧ algebraic_Ln1Ideal_Ln1RefIdeal_pre_finite_ln1 (hLn1Ideal := hLn1Ideal) (hLn1RefIdeal := hLn1RefIdeal) (hPre_finite_ln1 := hPre_finite_ln1)
    ∧ preserves_Dmix_DmixIdeal
    ∧ algebraic_DmixIdeal_DmixRefIdeal_pre_finite_dm (hDmixIdeal := hDmixIdeal) (hDmixRefIdeal := hDmixRefIdeal) (hPre_finite_dm := hPre_finite_dm)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_RelGrad_RelGradIdeal
    ∧ algebraic_RelGradIdeal_RelGradRefIdeal_pre_finite_rel (hRelGradIdeal := hRelGradIdeal) (hRelGradRefIdeal := hRelGradRefIdeal) (hPre_finite_rel := hPre_finite_rel)
    ∧ preserves_Bias_BiasIdeal
    ∧ algebraic_BiasIdeal_BiasRefIdeal_pre_finite_bias (hBiasIdeal := hBiasIdeal) (hBiasRefIdeal := hBiasRefIdeal) (hPre_finite_bias := hPre_finite_bias)
    ∧ preserves_OutLn1_OutLn1Ideal
    ∧ algebraic_OutLn1Ideal_OutLn1RefIdeal (hOutLn1Ideal := hOutLn1Ideal) (hOutLn1RefIdeal := hOutLn1RefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ConvBwd_ConvBwdIdeal
    ∧ preserves_AttnBwd_AttnBwdIdeal
-- ==== Pre_finite_attn.lean ====
abbrev S2x2048x2304 : Shape := ⟨3, ![2, 2048, 2304]⟩
abbrev S3x12x128x256 : Shape := ⟨4, ![3, 12, 128, 256]⟩
abbrev S_ : Shape := ⟨0, ![]⟩

class Facts : Prop where
  bcast_S_S2x2048x2304 : S_.BroadcastsInDim S2x2048x2304 (![] : Fin 0 → Fin S2x2048x2304.rank)
  reducesTo_S2x2048x2304_S_d0_1_2 : S2x2048x2304.ReducesTo [0, 1, 2] S_
  h_S_ : 0 < S_.numel
  bcast_S_S3x12x128x256 : S_.BroadcastsInDim S3x12x128x256 (![] : Fin 0 → Fin S3x12x128x256.rank)
  reducesTo_S3x12x128x256_S_d0_1_2_3 : S3x12x128x256.ReducesTo [0, 1, 2, 3] S_

variable [Facts]

def fn {F : FTy → Type} [FloatOps F] (main_arg0 : FVec F S2x2048x2304 .f32) (main_arg1 : FVec F S3x12x128x256 .f32) : IVec S_ 1 :=
  let main_v0 : FVec F S2x2048x2304 .f32 := Host.absf main_arg0
  let main_cst : FVec F S_ .f32 := constant S_ .f32 0x7F800000#32
  let main_v1 : FVec F S2x2048x2304 .f32 := broadcastInDim S2x2048x2304 ![] bcast_S_S2x2048x2304 main_cst
  let main_v2 : IVec S2x2048x2304 1 := cmpf .olt main_v0 main_v1
  let main_c : IVec S_ 1 := constantI S_ 1 1#1
  let main_v3 : IVec S_ 1 := (fun x v => Host.reduce IntOp.andi x v reducesTo_S2x2048x2304_S_d0_1_2 h_S_) main_v2 main_c
  let main_v4 : FVec F S3x12x128x256 .f32 := Host.absf main_arg1
  let main_cst_0 : FVec F S_ .f32 := constant S_ .f32 0x7F800000#32
  let main_v5 : FVec F S3x12x128x256 .f32 := broadcastInDim S3x12x128x256 ![] bcast_S_S3x12x128x256 main_cst_0
  let main_v6 : IVec S3x12x128x256 1 := cmpf .olt main_v4 main_v5
  let main_c_1 : IVec S_ 1 := constantI S_ 1 1#1
  let main_v7 : IVec S_ 1 := (fun x v => Host.reduce IntOp.andi x v reducesTo_S3x12x128x256_S_d0_1_2_3 h_S_) main_v6 main_c_1
  let main_v8 : IVec S_ 1 := andi main_v3 main_v7
  main_v8
-- ==== Pre_finite_bias.lean ====
abbrev S32x12 : Shape := ⟨2, ![32, 12]⟩
abbrev S3x128x256 : Shape := ⟨3, ![3, 128, 256]⟩
abbrev S_ : Shape := ⟨0, ![]⟩

class Facts : Prop where
  bcast_S_S32x12 : S_.BroadcastsInDim S32x12 (![] : Fin 0 → Fin S32x12.rank)
  reducesTo_S32x12_S_d0_1 : S32x12.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_

variable [Facts]

def fn {F : FTy → Type} [FloatOps F] (main_arg0 : FVec F S32x12 .f32) (main_arg1 : IVec S3x128x256 32) (main_arg2 : FVec F S3x128x256 .f32) : IVec S_ 1 :=
  let main_v0 : FVec F S32x12 .f32 := Host.absf main_arg0
  let main_cst : FVec F S_ .f32 := constant S_ .f32 0x7F800000#32
  let main_v1 : FVec F S32x12 .f32 := broadcastInDim S32x12 ![] bcast_S_S32x12 main_cst
  let main_v2 : IVec S32x12 1 := cmpf .olt main_v0 main_v1
  let main_c : IVec S_ 1 := constantI S_ 1 1#1
  let main_v3 : IVec S_ 1 := (fun x v => Host.reduce IntOp.andi x v reducesTo_S32x12_S_d0_1 h_S_) main_v2 main_c
  let main_c_0 : IVec S_ 32 := constantI S_ 32 0#32
  let main_v4 : IVec S3x128x256 32 := broadcastInDim S3x128x256 ![] bcast_S_S3x128x256 main_c_0
  let main_v5 : IVec S3x128x256 1 := cmpi .sge main_arg1 main_v4
  let main_c_1 : IVec S_ 1 := constantI S_ 1 1#1
  let main_v6 : IVec S_ 1 := (fun x v => Host.reduce IntOp.andi x v reducesTo_S3x128x256_S_d0_1_2 h_S_) main_v5 main_c_1
  let main_v7 : IVec S_ 1 := andi main_v3 main_v6
  let main_c_2 : IVec S_ 32 := constantI S_ 32 32#32
  let main_v8 : IVec S3x128x256 32 := broadcastInDim S3x128x256 ![] bcast_S_S3x128x256 main_c_2
  let main_v9 : IVec S3x128x256 1 := cmpi .slt main_arg1 main_v8
  let main_c_3 : IVec S_ 1 := constantI S_ 1 1#1
  let main_v10 : IVec S_ 1 := (fun x v => Host.reduce IntOp.andi x v reducesTo_S3x128x256_S_d0_1_2 h_S_) main_v9 main_c_3
  let main_v11 : IVec S_ 1 := andi main_v7 main_v10
  main_v11
-- ==== Pre_finite_dm.lean ====
abbrev S4096x1024 : Shape := ⟨2, ![4096, 1024]⟩
abbrev S1024x1024 : Shape := ⟨2, ![1024, 1024]⟩
abbrev S4096x768 : Shape := ⟨2, ![4096, 768]⟩
abbrev S1x768 : Shape := ⟨2, ![1, 768]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x768 : S_.BroadcastsInDim S4096x768 (![] : Fin 0 → Fin S4096x768.rank)
  reducesTo_S4096x768_S_d0_1 : S4096x768.ReducesTo [0, 1] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S4096x768 .f32) (main_arg3 : FVec F S1x768 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v13 main_v16
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_arg4 : FVec F S3x5632 .f32) (main_arg5 : FVec F S1x5632 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S3x5632 .f32 := Host.absf main_arg4
  let main_cst_6 : FVec F S_ .f32 := constant S_ .f32 0x7F800000#32
  let main_v20 : FVec F S3x5632 .f32 := broadcastInDim S3x5632 ![] bcast_S_S3x5632 main_cst_6
  let main_v21 : IVec S3x5632 1 := cmpf .olt main_v19 main_v20
  let main_c_7 : IVec S_ 1 := constantI S_ 1 1#1
  let main_v22 : IVec S_ 1 := (fun x v => Host.reduce IntOp.andi x v reducesTo_S3x5632_S_d0_1 h_S_) main_v21 main_c_7
  let main_v23 : IVec S_ 1 := andi main_v18 main_v22
  let main_v24 : FVec F S1x5632 .f32 := Host.absf main_arg5
  let main_cst_8 : FVec F S_ .f32 := constant S_ .f32 0x7F800000#32
  let main_v25 : FVec F S1x5632 .f32 := broadcastInDim S1x5632 ![] bcast_S_S1x5632 main_cst_8
  let main_v26 : IVec S1x5632 1 := cmpf .olt main_v24 main_v25
  let main_c_9 : IVec S_ 1 := constantI S_ 1 1#1
  let main_v27 : IVec S_ 1 := (fun x v => Host.reduce IntOp.andi x v reducesTo_S1x5632_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1024x5632 .f32) (main_arg3 : FVec F S2816x1024 .f32) (main_arg4 : FVec F S3x5632 .f32) (main_arg5 : FVec F S1x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite_ln1.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg5 : FVec F S4096x5632 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x5632 .f32 := Host.absf main_arg5
  let main_cst_6 : FVec F S_ .f32 := constant S_ .f32 0x7F800000#32
  let main_v20 : FVec F S4096x5632 .f32 := broadcastInDim S4096x5632 ![] bcast_S_S4096x5632 main_cst_6
  let main_v21 : IVec S4096x5632 1 := cmpf .olt main_v19 main_v20
  let main_c_7 : IVec S_ 1 := constantI S_ 1 1#1
  let main_v22 : IVec S_ 1 := (fun x v => Host.reduce IntOp.andi x v reducesTo_S4096x5632_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1x1024 .f32) (main_arg3 : FVec F S1024x5632 .f32) (main_arg4 : FVec F S4096x1024 .f32) (main_arg5 : FVec F S4096x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_v13 main_v16
-- ==== Pre_finite_ln2.lean ====
abbrev S4096x2816 : Shape := ⟨2, ![4096, 2816]⟩
abbrev S4096x1024 : Shape := ⟨2, ![4096, 1024]⟩
abbrev S2816x1024 : Shape := ⟨2, ![2816, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x2816 .f32) (main_arg1 : FVec F S4096x1024 .f32) (main_arg2 : FVec F S2816x1024 .f32) (main_arg3 : FVec F S1x1024 .f32) (main_arg4 : FVec F S1x1024 .f32) (main_arg5 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite_rel.lean ====
abbrev S3x12x128x256 : Shape := ⟨4, ![3, 12, 128, 256]⟩
abbrev S3x128x256 : Shape := ⟨3, ![3, 128, 256]⟩
abbrev S_ : Shape := ⟨0, ![]⟩

class Facts : Prop where
  bcast_S_S3x12x128x256 : S_.BroadcastsInDim S3x12x128x256 (![] : Fin 0 → Fin S3x12x128x256.rank)
  reducesTo_S3x12x128x256_S_d0_1_2_3 : S3x12x128x256.ReducesTo [0, 1, 2, 3] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_

variable [Facts]

def fn {F : FTy → Type} [FloatOps F] (main_arg0 : FVec F S3x12x128x256 .f32) (main_arg1 : IVec S3x128x256 32) : IVec S_ 1 :=
  let main_v0 : FVec F S3x12x128x256 .f32 := Host.absf main_arg0
  let main_cst : FVec F S_ .f32 := constant S_ .f32 0x7F800000#32
  let main_v1 : FVec F S3x12x128x256 .f32 := broadcastInDim S3x12x128x256 ![] bcast_S_S3x12x128x256 main_cst
  let main_v2 : IVec S3x12x128x256 1 := cmpf .olt main_v0 main_v1
  let main_c : IVec S_ 1 := constantI S_ 1 1#1
  let main_v3 : IVec S_ 1 := (fun x v => Host.reduce IntOp.andi x v reducesTo_S3x12x128x256_S_d0_1_2_3 h_S_) main_v2 main_c
  let main_c_0 : IVec S_ 32 := constantI S_ 32 0#32
  let main_v4 : IVec S3x128x256 32 := broadcastInDim S3x128x256 ![] bcast_S_S3x128x256 main_c_0
  let main_v5 : IVec S3x128x256 1 := cmpi .sge main_arg1 main_v4
  let main_c_1 : IVec S_ 1 := constantI S_ 1 1#1
  let main_v6 : IVec S_ 1 := (fun x v => Host.reduce IntOp.andi x v reducesTo_S3x128x256_S_d0_1_2 h_S_) main_v5 main_c_1
  let main_v7 : IVec S_ 1 := andi main_v3 main_v6
  main_v7
-- ==== DwOut.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩
abbrev S1024x1024 : Shape := ⟨2, ![1024, 1024]⟩
abbrev S1024x768 : Shape := ⟨2, ![1024, 768]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S1x768, .f32⟩
  | .hbm, ⟨3, _⟩ => ⟨S4096x1024, .f32⟩
  | .hbm, ⟨4, _⟩ => ⟨S4096x256, .bf16⟩
  | .hbm, ⟨5, _⟩ => ⟨S4096x1024, .bf16⟩
  | .hbm, ⟨6, _⟩ => ⟨S1024x1024, .f32⟩
  | .local _ .vmem, ⟨0, _⟩ => ⟨S1024x768, .f32⟩
  | .local _ .vmem, ⟨1, _⟩ => ⟨S1024x768, .f32⟩
  | .local _ .vmem, ⟨2, _⟩ => ⟨S1024x256, .bf16⟩
  | .local _ .vmem, ⟨3, _⟩ => ⟨S1024x256, .bf16⟩
  | .local _ .vmem, ⟨4, _⟩ => ⟨S1x768, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== DwOutRefIdeal.lean ====
abbrev S4096x768 : Shape := ⟨2, ![4096, 768]⟩
abbrev S4096x256 : Shape := ⟨2, ![4096, 256]⟩
abbrev S1x768 : Shape := ⟨2, ![1, 768]⟩
abbrev S4096x1024 : Shape := ⟨2, ![4096, 1024]⟩
abbrev S_ : Shape := ⟨0, ![]⟩
abbrev S1024x1024 : Shape := ⟨2, ![1024, 1024]⟩
abbrev S768 : Shape := ⟨1, ![768]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S1x768, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S768, .f32⟩
  | .hbm, ⟨7, _⟩ => ⟨S4096x768, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x768, .f32⟩
  | .hbm, ⟨19, _⟩ => ⟨S4096x768, .f32⟩
  | .hbm, ⟨20, _⟩ => ⟨S1x768, .f32⟩
  | .hbm, ⟨21, _⟩ => ⟨S4096x768, .f32⟩
  | .hbm, ⟨22, _⟩ => ⟨S4096x768, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S1024x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Ln2.lean ====
abbrev S4096x2816 : Shape := ⟨2, ![4096, 2816]⟩
abbrev S4096x1024 : Shape := ⟨2, ![4096, 1024]⟩
abbrev S2816x1024 : Shape := ⟨2, ![2816, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .bf16⟩
  | .hbm, ⟨7, _⟩ => ⟨S2816x1024, .bf16⟩
  | .hbm, ⟨8, _⟩ => ⟨S4096x1024, .f32⟩
  | .hbm, ⟨9, _⟩ => ⟨S4096x1024, .bf16⟩
  | .hbm, ⟨10, _⟩ => ⟨S1x128, .f32⟩
  | .hbm, ⟨11, _⟩ => ⟨S1x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v142 : BitVec 1 := Scalar.cmpi .eq arg0 c0_i32
  let v143 : BitVec 32 := Scalar.extui v142
  let c0_i32_61 : BitVec 32 := 0#32
  let v144 : BitVec 1 := Scalar.cmpi .ne v143 c0_i32_61
  v144

def k0_cond2 (i : grid0.Coords) : BitVec 1 :=
  let arg0 : BitVec 32 := BitVec.ofNat 32 (i 0).val
  let c0_i32 : BitVec 32 := 0#32
  let v142 : BitVec 1 := Scalar.cmpi .eq arg0 c0_i32
  let v_true : BitVec 1 := 1#1
  let v145 : BitVec 1 := Scalar.xori v142 v_true
  let v146 : BitVec 32 := Scalar.extui v145
  let c0_i32_62 : BitVec 32 := 0#32
  let v147 : BitVec 1 := Scalar.cmpi .ne v146 c0_i32_62
  v147

def k0_cond3 (i : grid0.Coords) : BitVec 1 :=
  let arg0 : BitVec 32 := BitVec.ofNat 32 (i 0).val
  let c0_i32_63 : BitVec 32 := 0#32
  let v148 : BitVec 1 := Scalar.cmpi .eq arg0 c0_i32_63
  let v149 : BitVec 32 := Scalar.extui v148
  let c0_i32_64 : BitVec 32 := 0#32
  let v150 : BitVec 1 := Scalar.cmpi .ne v149 c0_i32_64
  v150

def k0_cond4 (i : grid0.Coords) : BitVec 1 :=
  let arg0 : BitVec 32 := BitVec.ofNat 32 (i 0).val
  let c0_i32_63 : BitVec 32 := 0#32
  let v148 : BitVec 1 := Scalar.cmpi .eq arg0 c0_i32_63
  let true_65 : BitVec 1 := 1#1
  let v151 : BitVec 1 := Scalar.xori v148 true_65
  let v152 : BitVec 32 := Scalar.extui v151
  let c0_i32_66 : BitVec 32 := 0#32
  let v153 : BitVec 1 := Scalar.cmpi .ne v152 c0_i32_66
  v153

def k0_cond5 (i : grid0.Coords) : BitVec 1 :=
  let arg0 : BitVec 32 := BitVec.ofNat 32 (i 0).val
  let c0_i32_67 : BitVec 32 := 0#32
  let v154 : BitVec 1 := Scalar.cmpi .eq arg0 c0_i32_67
  let v155 : BitVec 32 := Scalar.extui v154
  let c0_i32_68 : BitVec 32 := 0#32
  let v156 : BitVec 1 := Scalar.cmpi .ne v155 c0_i32_68
  v156

def k0_cond6 (i : grid0.Coords) : BitVec 1 :=
  let arg0 : BitVec 32 := BitVec.ofNat 32 (i 0).val
  let c0_i32_67 : BitVec 32 := 0#32
  let v154 : BitVec 1 := Scalar.cmpi .eq arg0 c0_i32_67
  let true_69 : BitVec 1 := 1#1
  let v157 : BitVec 1 := Scalar.xori v154 true_69
  let v158 : BitVec 32 := Scalar.extui v157
  let c0_i32_70 : BitVec 32 := 0#32
  let v159 : BitVec 1 := Scalar.cmpi .ne v158 c0_i32_70
  v159

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Ln2RefIdeal.lean ====
abbrev S4096x2816 : Shape := ⟨2, ![4096, 2816]⟩
abbrev S4096x1024 : Shape := ⟨2, ![4096, 1024]⟩
abbrev S2816x1024 : Shape := ⟨2, ![2816, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1024, .f32⟩
  | .hbm, ⟨108, _⟩ => ⟨S4096x1, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096, .f32⟩
  | .hbm, ⟨114, _⟩ => ⟨S4096x1024, .f32⟩
  | .hbm, ⟨115, _⟩ => ⟨S4096x1024, .f32⟩
  | .hbm, ⟨116, _⟩ => ⟨S1x1024, .f32⟩
  | .hbm, ⟨117, _⟩ => ⟨S1x1024, .f32⟩
  | .hbm, ⟨118, _⟩ => ⟨S4096x1024, .bf16⟩
  | .hbm, ⟨119, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_cst_22 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_24 : Ref sig .tc := ⟨.hbm, 109, rfl⟩
abbrev main_v78 : Ref sig .tc := ⟨.hbm, 110, rfl⟩
abbrev main_v79 : Ref sig .tc := ⟨.hbm, 111, rfl⟩
abbrev main_cst_25 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== Attn.lean ====
abbrev S2x2048x2304 : Shape := ⟨3, ![2, 2048, 2304]⟩
abbrev S3x12x128x256 : Shape := ⟨4, ![3, 12, 128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S1x1x128x256 : Shape := ⟨4, ![1, 1, 128, 256]⟩
abbrev S4096x2304 : Shape := ⟨2, ![4096, 2304]⟩
abbrev S2x2048x768 : Shape := ⟨3, ![2, 2048, 768]⟩
abbrev S1x2048x128 : Shape := ⟨3, ![1, 2048, 128]⟩
abbrev S3x2x128x256 : Shape := ⟨4, ![3, 2, 128, 256]⟩
abbrev S2048x128 : Shape := ⟨2, ![2048, 128]⟩
abbrev S2176x128 : Shape := ⟨2, ![2176, 128]⟩
abbrev S1x1x128 : Shape := ⟨3, ![1, 1, 128]⟩
abbrev S16x1x1 : Shape := ⟨3, ![16, 1, 1]⟩
abbrev S128x128 : Shape := ⟨2, ![128, 128]⟩
abbrev S16x128x128 : Shape := ⟨3, ![16, 128, 128]⟩
abbrev S16x256x128 : Shape := ⟨3, ![16, 256, 128]⟩
abbrev S1x1x256 : Shape := ⟨3, ![1, 1, 256]⟩
abbrev S16x1x256 : Shape := ⟨3, ![16, 1, 256]⟩
abbrev S16x128x256 : Shape := ⟨3, ![16, 128, 256]⟩
abbrev S1x128x256 : Shape := ⟨3, ![1, 128, 256]⟩
abbrev S16x128 : Shape := ⟨2, ![16, 128]⟩
abbrev S16x128x1 : Shape := ⟨3, ![16, 128, 1]⟩
abbrev S512x128 : Shape := ⟨2, ![512, 128]⟩
abbrev S1x1x128x128 : Shape := ⟨4, ![1, 1, 128, 128]⟩
abbrev S1x128x128 : Shape := ⟨3, ![1, 128, 128]⟩

abbrev nBuf : Space → Nat
  | .hbm => 33
  | .vmem => 24
  | .smem => 0
  | _ => 0

abbrev bufTy : (tb : Table) → Fin (tcTables nBuf tb) → BufTy
  | .hbm, ⟨0, _⟩ => ⟨S2x2048x2304, .f32⟩
  | .hbm, ⟨1, _⟩ => ⟨S3x12x128x256, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i1⟩
  | .hbm, ⟨19, _⟩ => ⟨S_, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S1x1x128x256, .f32⟩
  | .hbm, ⟨26, _⟩ => ⟨S3x12x128x256, .f32⟩
  | .hbm, ⟨27, _⟩ => ⟨S3x12x128x256, .f32⟩
  | .hbm, ⟨28, _⟩ => ⟨S2x2048x2304, .bf16⟩
  | .hbm, ⟨29, _⟩ => ⟨S4096x2304, .bf16⟩
  | .hbm, ⟨30, _⟩ => ⟨S2x2048x2304, .bf16⟩
  | .hbm, ⟨31, _⟩ => ⟨S2x2048x768, .f32⟩
  | .hbm, ⟨32, _⟩ => ⟨S2x2048x768, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S3x2x128x256, .f32⟩
  | .local _ .vmem, ⟨7, _⟩ => ⟨S3x2x128x256, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .f32⟩
  | .local _ .vmem, ⟨13, _⟩ => ⟨S2048x128, .bf16⟩
  | .local _ .vmem, ⟨14, _⟩ => ⟨S2176x128, .bf16⟩
  | .local _ .vmem, ⟨15, _⟩ => ⟨S2176x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S2x2048x2304 : Shape := ⟨3, ![2, 2048, 2304]⟩
abbrev S3x12x128x256 : Shape := ⟨4, ![3, 12, 128, 256]⟩
abbrev S2x2048x768 : Shape := ⟨3, ![2, 2048, 768]⟩
abbrev S2x2048x12x64 : Shape := ⟨4, ![2, 2048, 12, 64]⟩
abbrev S2x12x2048x64 : Shape := ⟨4, ![2, 12, 2048, 64]⟩
abbrev S1x12x128x256 : Shape := ⟨4, ![1, 12, 128, 256]⟩
abbrev S12x128x256 : Shape := ⟨3, ![12, 128, 256]⟩
abbrev S2x12x2048x1x64 : Shape := ⟨5, ![2, 12, 2048, 1, 64]⟩
abbrev S2x12x1x2048x64 : Shape := ⟨5, ![2, 12, 1, 2048, 64]⟩
abbrev S2x12x1x16x128x64 : Shape := ⟨6, ![2, 12, 1, 16, 128, 64]⟩
abbrev S_ : Shape := ⟨0, ![]⟩
abbrev S2x12x1x1x128x64 : Shape := ⟨6, ![2, 12, 1, 1, 128, 64]⟩
abbrev S2x12x1x17x128x64 : Shape := ⟨6, ![2, 12, 1, 17, 128, 64]⟩
abbrev S2x12x1x16x256x64 : Shape := ⟨6, ![2, 12, 1, 16, 256, 64]⟩
abbrev S2x12x1x16x128x256 : Shape := ⟨6, ![2, 12, 1, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S12x1x1x128x256 : Shape := ⟨5, ![12, 1, 1, 128, 256]⟩
abbrev S1x12x1x1x128x256 : Shape := ⟨6, ![1, 12, 1, 1, 128, 256]⟩
abbrev S2x12x1x16x128 : Shape := ⟨5, ![2, 12, 1, 16, 128]⟩
abbrev S2x12x1x16x128x1 : Shape := ⟨6, ![2, 12, 1, 16, 128, 1]⟩
abbrev S2x12x1x2048 : Shape := ⟨4, ![2, 12, 1, 2048]⟩
abbrev S2x12x2048x1 : Shape := ⟨4, ![2, 12, 2048, 1]⟩
abbrev S2x12x2048 : Shape := ⟨3, ![2, 12, 2048]⟩
abbrev S2x12x512x4x64 : Shape := ⟨5, ![2, 12, 512, 4, 64]⟩
abbrev S2x12x4x512x64 : Shape := ⟨5, ![2, 12, 4, 512, 64]⟩
abbrev S2x12x4x4x128x64 : Shape := ⟨6, ![2, 12, 4, 4, 128, 64]⟩
abbrev S2x12x4x1x128x64 : Shape := ⟨6, ![2, 12, 4, 1, 128, 64]⟩
abbrev S2x12x4x5x128x64 : Shape := ⟨6, ![2, 12, 4, 5, 128, 64]⟩
abbrev S2x12x4x4x256x64 : Shape := ⟨6, ![2, 12, 4, 4, 256, 64]⟩
abbrev S2x12x4x4x128x256 : Shape := ⟨6, ![2, 12, 4, 4, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S2x12x4x4x128 : Shape := ⟨5, ![2, 12, 4, 4, 128]⟩
abbrev S2x12x4x4x128x1 : Shape := ⟨6, ![2, 12, 4, 4, 128, 1]⟩
abbrev S2x12x4x512 : Shape := ⟨4, ![2, 12, 4, 512]⟩
abbrev S2x12x512x4 : Shape := ⟨4, ![2, 12, 512, 4]⟩
abbrev S2x12x128x16x64 : Shape := ⟨5, ![2, 12, 128, 16, 64]⟩
abbrev S2x12x16x128x64 : Shape := ⟨5, ![2, 12, 16, 128, 64]⟩
abbrev S2x12x16x1x128x64 : Shape := ⟨6, ![2, 12, 16, 1, 128, 64]⟩
abbrev S2x12x16x2x128x64 : Shape := ⟨6, ![2, 12, 16, 2, 128, 64]⟩
abbrev S2x12x16x1x256x64 : Shape := ⟨6, ![2, 12, 16, 1, 256, 64]⟩
abbrev S2x12x16x1x128x256 : Shape := ⟨6, ![2, 12, 16, 1, 128, 256]⟩
abbrev S1 : Shape := ⟨1, ![1]⟩
abbrev S1x1x1 : Shape := ⟨3, ![1, 1, 1]⟩
abbrev S2x12x16x1x128 : Shape := ⟨5, ![2, 12, 16, 1, 128]⟩
abbrev S2x12x16x1x128x1 : Shape := ⟨6, ![2, 12, 16, 1, 128, 1]⟩
abbrev S2x12x16x128 : Shape := ⟨4, ![2, 12, 16, 128]⟩
abbrev S2x12x128x16 : Shape := ⟨4, ![2, 12, 128, 16]⟩

abbrev nBuf : Space → Nat
  | .hbm => 305
  | .vmem => 0
  | .smem => 0
  | _ => 0

abbrev hbmTy0_0 (i : Nat) : BufTy := match i % 128 with
  | 0 => ⟨S2x2048x2304, .f32⟩
  | 1 => ⟨S3x12x128x256, .f32⟩
  | 2 => ⟨S2x2048x768, .f32⟩
  | 3 => ⟨S2x2048x12x64, .f32⟩
  | 4 => ⟨S2x12x2048x64, .f32⟩
  | 5 => ⟨S2x2048x768, .f32⟩
  | 6 => ⟨S2x2048x12x64, .f32⟩
  | 7 => ⟨S2x12x2048x64, .f32⟩
  | 8 => ⟨S2x2048x768, .f32⟩
  | 9 => ⟨S2x2048x12x64, .f32⟩
  | 10 => ⟨S2x12x2048x64, .f32⟩
  | 11 => ⟨S1x12x128x256, .f32⟩
  | 12 => ⟨S12x128x256, .f32⟩
  | 13 => ⟨S2x12x2048x1x64, .f32⟩
  | 14 => ⟨S2x12x1x2048x64, .f32⟩
  | 15 => ⟨S2x12x1x16x128x64, .f32⟩
  | 16 => ⟨S2x12x2048x1x64, .f32⟩
  | 17 => ⟨S2x12x1x2048x64, .f32⟩
  | 18 => ⟨S2x12x1x16x128x64, .f32⟩
  | 19 => ⟨S_, .f32⟩
  | 20 => ⟨S2x12x1x1x128x64, .f32⟩
  | 21 => ⟨S2x12x1x17x128x64, .f32⟩
  | 22 => ⟨S2x12x1x16x128x64, .f32⟩
  | 23 => ⟨S2x12x1x16x256x64, .f32⟩
  | 24 => ⟨S2x12x2048x1x64, .f32⟩
  | 25 => ⟨S2x12x1x2048x64, .f32⟩
  | 26 => ⟨S2x12x1x16x128x64, .f32⟩
  | 27 => ⟨S_, .f32⟩
  | 28 => ⟨S2x12x1x1x128x64, .f32⟩
  | 29 => ⟨S2x12x1x17x128x64, .f32⟩
  | 30 => ⟨S2x12x1x16x128x64, .f32⟩
  | 31 => ⟨S2x12x1x16x256x64, .f32⟩
  | 32 => ⟨S2x12x1x16x128x256, .f32⟩
  | 33 => ⟨S_, .f32⟩
  | 34 => ⟨S2x12x1x16x128x256, .f32⟩
  | 35 => ⟨S2x12x1x16x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S16, .i32⟩
  | 54 => ⟨S16x1x1, .i32⟩
  | 55 => ⟨S_, .i32⟩
  | 56 => ⟨S16x1x1, .i32⟩
  | 57 => ⟨S16x1x1, .i1⟩
  | 58 => ⟨S_, .i32⟩
  | 59 => ⟨S1x256, .i32⟩
  | 60 => ⟨S1x256, .i1⟩
  | 61 => ⟨S1x1x256, .i1⟩
  | 62 => ⟨S16x1x256, .i1⟩
  | 63 => ⟨S16x1x256, .i1⟩
  | 64 => ⟨S16x1x256, .i1⟩
  | 65 => ⟨S1x128x256, .i1⟩
  | 66 => ⟨S16x128x256, .i1⟩
  | 67 => ⟨S16x128x256, .i1⟩
  | 68 => ⟨S16x128x256, .i1⟩
  | 69 => ⟨S12x1x1x128x256, .f32⟩
  | 70 => ⟨S1x12x1x1x128x256, .f32⟩
  | 71 => ⟨S2x12x1x16x128x256, .f32⟩
  | 72 => ⟨S2x12x1x16x128x256, .f32⟩
  | 73 => ⟨S_, .f32⟩
  | 74 => ⟨S_, .f32⟩
  | 75 => ⟨S2x12x1x16x128x256, .i1⟩
  | 76 => ⟨S2x12x1x16x128x256, .f32⟩
  | 77 => ⟨S2x12x1x16x128x256, .f32⟩
  | 78 => ⟨S_, .f32⟩
  | 79 => ⟨S2x12x1x16x128, .f32⟩
  | 80 => ⟨S2x12x1x16x128x1, .f32⟩
  | 81 => ⟨S2x12x1x16x128x256, .f32⟩
  | 82 => ⟨S2x12x1x16x128x256, .f32⟩
  | 83 => ⟨S2x12x1x16x128x256, .f32⟩
  | 84 => ⟨S_, .f32⟩
  | 85 => ⟨S2x12x1x16x128, .f32⟩
  | 86 => ⟨S2x12x1x16x128x64, .f32⟩
  | 87 => ⟨S2x12x1x2048x64, .f32⟩
  | 88 => ⟨S2x12x2048x1x64, .f32⟩
  | 89 => ⟨S2x12x2048x64, .f32⟩
  | 90 => ⟨S2x12x1x2048, .f32⟩
  | 91 => ⟨S2x12x2048x1, .f32⟩
  | 92 => ⟨S2x12x2048, .f32⟩
  | 93 => ⟨S2x12x1x2048, .f32⟩
  | 94 => ⟨S2x12x2048x1, .f32⟩
  | 95 => ⟨S2x12x2048, .f32⟩
  | 96 => ⟨S1x12x128x256, .f32⟩
  | 97 => ⟨S12x128x256, .f32⟩
  | 98 => ⟨S2x12x512x4x64, .f32⟩
  | 99 => ⟨S2x12x4x512x64, .f32⟩
  | 100 => ⟨S2x12x4x4x128x64, .f32⟩
  | 101 => ⟨S2x12x512x4x64, .f32⟩
  | 102 => ⟨S2x12x4x512x64, .f32⟩
  | 103 => ⟨S2x12x4x4x128x64, .f32⟩
  | 104 => ⟨S_, .f32⟩
  | 105 => ⟨S2x12x4x1x128x64, .f32⟩
  | 106 => ⟨S2x12x4x5x128x64, .f32⟩
  | 107 => ⟨S2x12x4x4x128x64, .f32⟩
  | 108 => ⟨S2x12x4x4x256x64, .f32⟩
  | 109 => ⟨S2x12x512x4x64, .f32⟩
  | 110 => ⟨S2x12x4x512x64, .f32⟩
  | 111 => ⟨S2x12x4x4x128x64, .f32⟩
  | 112 => ⟨S_, .f32⟩
  | 113 => ⟨S2x12x4x1x128x64, .f32⟩
  | 114 => ⟨S2x12x4x5x128x64, .f32⟩
  | 115 => ⟨S2x12x4x4x128x64, .f32⟩
  | 116 => ⟨S2x12x4x4x256x64, .f32⟩
  | 117 => ⟨S2x12x4x4x128x256, .f32⟩
  | 118 => ⟨S_, .f32⟩
  | 119 => ⟨S2x12x4x4x128x256, .f32⟩
  | 120 => ⟨S2x12x4x4x128x256, .f32⟩
  | 121 => ⟨S128, .i32⟩
  | 122 => ⟨S128x1, .i32⟩
  | 123 => ⟨S256, .i32⟩
  | 124 => ⟨S1x256, .i32⟩
  | 125 => ⟨S_, .i32⟩
  | 126 => ⟨S128x1, .i32⟩
  | 127 => ⟨S128x1, .i32⟩
  | _ => ⟨S2x2048x2304, .f32⟩

abbrev hbmTy0_1 (i : Nat) : BufTy := match i % 128 with
  | 0 => ⟨S128x256, .i32⟩
  | 1 => ⟨S128x256, .i32⟩
  | 2 => ⟨S128x256, .i32⟩
  | 3 => ⟨S_, .i32⟩
  | 4 => ⟨S128x256, .i32⟩
  | 5 => ⟨S128x256, .i1⟩
  | 6 => ⟨S_, .i32⟩
  | 7 => ⟨S128x256, .i32⟩
  | 8 => ⟨S128x256, .i1⟩
  | 9 => ⟨S128x256, .i1⟩
  | 10 => ⟨S4, .i32⟩
  | 11 => ⟨S4x1x1, .i32⟩
  | 12 => ⟨S_, .i32⟩
  | 13 => ⟨S4x1x1, .i32⟩
  | 14 => ⟨S4x1x1, .i1⟩
  | 15 => ⟨S_, .i32⟩
  | 16 => ⟨S1x256, .i32⟩
  | 17 => ⟨S1x256, .i1⟩
  | 18 => ⟨S1x1x256, .i1⟩
  | 19 => ⟨S4x1x256, .i1⟩
  | 20 => ⟨S4x1x256, .i1⟩
  | 21 => ⟨S4x1x256, .i1⟩
  | 22 => ⟨S1x128x256, .i1⟩
  | 23 => ⟨S4x128x256, .i1⟩
  | 24 => ⟨S4x128x256, .i1⟩
  | 25 => ⟨S4x128x256, .i1⟩
  | 26 => ⟨S12x1x1x128x256, .f32⟩
  | 27 => ⟨S1x12x1x1x128x256, .f32⟩
  | 28 => ⟨S2x12x4x4x128x256, .f32⟩
  | 29 => ⟨S2x12x4x4x128x256, .f32⟩
  | 30 => ⟨S_, .f32⟩
  | 31 => ⟨S_, .f32⟩
  | 32 => ⟨S2x12x4x4x128x256, .i1⟩
  | 33 => ⟨S2x12x4x4x128x256, .f32⟩
  | 34 => ⟨S2x12x4x4x128x256, .f32⟩
  | 35 => ⟨S_, .f32⟩
  | 36 => ⟨S2x12x4x4x128, .f32⟩
  | 37 => ⟨S2x12x4x4x128x1, .f32⟩
  | 38 => ⟨S2x12x4x4x128x256, .f32⟩
  | 39 => ⟨S2x12x4x4x128x256, .f32⟩
  | 40 => ⟨S2x12x4x4x128x256, .f32⟩
  | 41 => ⟨S_, .f32⟩
  | 42 => ⟨S2x12x4x4x128, .f32⟩
  | 43 => ⟨S2x12x4x4x128x64, .f32⟩
  | 44 => ⟨S2x12x4x512x64, .f32⟩
  | 45 => ⟨S2x12x512x4x64, .f32⟩
  | 46 => ⟨S2x12x2048x64, .f32⟩
  | 47 => ⟨S2x12x4x512, .f32⟩
  | 48 => ⟨S2x12x512x4, .f32⟩
  | 49 => ⟨S2x12x2048, .f32⟩
  | 50 => ⟨S2x12x4x512, .f32⟩
  | 51 => ⟨S2x12x512x4, .f32⟩
  | 52 => ⟨S2x12x2048, .f32⟩
  | 53 => ⟨S1x12x128x256, .f32⟩
  | 54 => ⟨S12x128x256, .f32⟩
  | 55 => ⟨S2x12x128x16x64, .f32⟩
  | 56 => ⟨S2x12x16x128x64, .f32⟩
  | 57 => ⟨S2x12x16x1x128x64, .f32⟩
  | 58 => ⟨S2x12x128x16x64, .f32⟩
  | 59 => ⟨S2x12x16x128x64, .f32⟩
  | 60 => ⟨S2x12x16x1x128x64, .f32⟩
  | 61 => ⟨S_, .f32⟩
  | 62 => ⟨S2x12x16x1x128x64, .f32⟩
  | 63 => ⟨S2x12x16x2x128x64, .f32⟩
  | 64 => ⟨S2x12x16x1x128x64, .f32⟩
  | 65 => ⟨S2x12x16x1x256x64, .f32⟩
  | 66 => ⟨S2x12x128x16x64, .f32⟩
  | 67 => ⟨S2x12x16x128x64, .f32⟩
  | 68 => ⟨S2x12x16x1x128x64, .f32⟩
  | 69 => ⟨S_, .f32⟩
  | 70 => ⟨S2x12x16x1x128x64, .f32⟩
  | 71 => ⟨S2x12x16x2x128x64, .f32⟩
  | 72 => ⟨S2x12x16x1x128x64, .f32⟩
  | 73 => ⟨S2x12x16x1x256x64, .f32⟩
  | 74 => ⟨S2x12x16x1x128x256, .f32⟩
  | 75 => ⟨S_, .f32⟩
  | 76 => ⟨S2x12x16x1x128x256, .f32⟩
  | 77 => ⟨S2x12x16x1x128x256, .f32⟩
  | 78 => ⟨S128, .i32⟩
  | 79 => ⟨S128x1, .i32⟩
  | 80 => ⟨S256, .i32⟩
  | 81 => ⟨S1x256, .i32⟩
  | 82 => ⟨S_, .i32⟩
  | 83 => ⟨S128x1, .i32⟩
  | 84 => ⟨S128x1, .i32⟩
  | 85 => ⟨S128x256, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i1⟩
  | 94 => ⟨S128x256, .i1⟩
  | 95 => ⟨S1, .i32⟩
  | 96 => ⟨S1x1x1, .i32⟩
  | 97 => ⟨S_, .i32⟩
  | 98 => ⟨S1x1x1, .i32⟩
  | 99 => ⟨S1x1x1, .i1⟩
  | 100 => ⟨S_, .i32⟩
  | 101 => ⟨S1x256, .i32⟩
  | 102 => ⟨S1x256, .i1⟩
  | 103 => ⟨S1x1x256, .i1⟩
  | 104 => ⟨S1x1x256, .i1⟩
  | 105 => ⟨S1x1x256, .i1⟩
  | 106 => ⟨S1x128x256, .i1⟩
  | 107 => ⟨S1x128x256, .i1⟩
  | 108 => ⟨S1x128x256, .i1⟩
  | 109 => ⟨S12x1x1x128x256, .f32⟩
  | 110 => ⟨S1x12x1x1x128x256, .f32⟩
  | 111 => ⟨S2x12x16x1x128x256, .f32⟩
  | 112 => ⟨S2x12x16x1x128x256, .f32⟩
  | 113 => ⟨S_, .f32⟩
  | 114 => ⟨S_, .f32⟩
  | 115 => ⟨S2x12x16x1x128x256, .i1⟩
  | 116 => ⟨S2x12x16x1x128x256, .f32⟩
  | 117 => ⟨S2x12x16x1x128x256, .f32⟩
  | 118 => ⟨S_, .f32⟩
  | 119 => ⟨S2x12x16x1x128, .f32⟩
  | 120 => ⟨S2x12x16x1x128x1, .f32⟩
  | 121 => ⟨S2x12x16x1x128x256, .f32⟩
  | 122 => ⟨S2x12x16x1x128x256, .f32⟩
  | 123 => ⟨S2x12x16x1x128x256, .f32⟩
  | 124 => ⟨S_, .f32⟩
  | 125 => ⟨S2x12x16x1x128, .f32⟩
  | 126 => ⟨S2x12x16x1x128x64, .f32⟩
  | 127 => ⟨S2x12x16x128x64, .f32⟩
  | _ => ⟨S2x2048x2304, .f32⟩

abbrev hbmTy0_2 (i : Nat) : BufTy := match i % 128 with
  | 0 => ⟨S2x12x128x16x64, .f32⟩
  | 1 => ⟨S2x12x2048x64, .f32⟩
  | 2 => ⟨S2x12x16x128, .f32⟩
  | 3 => ⟨S2x12x128x16, .f32⟩
  | 4 => ⟨S2x12x2048, .f32⟩
  | 5 => ⟨S2x12x16x128, .f32⟩
  | 6 => ⟨S2x12x128x16, .f32⟩
  | 7 => ⟨S2x12x2048, .f32⟩
  | 8 => ⟨S2x12x2048, .f32⟩
  | 9 => ⟨S2x12x2048, .f32⟩
  | 10 => ⟨S2x12x2048, .f32⟩
  | 11 => ⟨S2x12x2048, .f32⟩
  | 12 => ⟨S2x12x2048x1, .f32⟩
  | 13 => ⟨S2x12x2048x64, .f32⟩
  | 14 => ⟨S2x12x2048x64, .f32⟩
  | 15 => ⟨S_, .f32⟩
  | 16 => ⟨S2x12x2048x64, .f32⟩
  | 17 => ⟨S2x12x2048x64, .f32⟩
  | 18 => ⟨S2x12x2048, .f32⟩
  | 19 => ⟨S_, .f32⟩
  | 20 => ⟨S2x12x2048, .f32⟩
  | 21 => ⟨S2x12x2048, .f32⟩
  | 22 => ⟨S2x12x2048, .f32⟩
  | 23 => ⟨S2x12x2048, .f32⟩
  | 24 => ⟨S2x12x2048x1, .f32⟩
  | 25 => ⟨S2x12x2048x64, .f32⟩
  | 26 => ⟨S2x12x2048x64, .f32⟩
  | 27 => ⟨S2x12x2048x64, .f32⟩
  | 28 => ⟨S2x12x2048, .f32⟩
  | 29 => ⟨S2x12x2048, .f32⟩
  | 30 => ⟨S2x12x2048, .f32⟩
  | 31 => ⟨S2x12x2048, .f32⟩
  | 32 => ⟨S2x12x2048x1, .f32⟩
  | 33 => ⟨S2x12x2048x64, .f32⟩
  | 34 => ⟨S2x12x2048x64, .f32⟩
  | 35 => ⟨S2x12x2048x64, .f32⟩
  | 36 => ⟨S2x12x2048, .f32⟩
  | 37 => ⟨S2x12x2048, .f32⟩
  | 38 => ⟨S2x12x2048x1, .f32⟩
  | 39 => ⟨S2x12x2048x64, .f32⟩
  | 40 => ⟨S2x12x2048x64, .f32⟩
  | 41 => ⟨S2x12x2048, .f32⟩
  | 42 => ⟨S2x12x2048, .f32⟩
  | 43 => ⟨S2x12x2048x1, .f32⟩
  | 44 => ⟨S2x12x2048x64, .f32⟩
  | 45 => ⟨S2x2048x12x64, .f32⟩
  | 46 => ⟨S2x2048x768, .f32⟩
  | 47 => ⟨S2x2048x12x64, .f32⟩
  | 48 => ⟨S2x2048x768, .f32⟩
  | _ => ⟨S2x2048x2304, .f32⟩

abbrev hbmTy (i : Nat) : BufTy := match i / 128 with
  | 0 => hbmTy0_0 i
  | 1 => hbmTy0_1 i
  | 2 => hbmTy0_2 i
  | _ => ⟨S2x2048x2304, .f32⟩

abbrev bufTy : (tb : Table) → Fin (tcTables nBuf tb) → BufTy
  | .hbm, ⟨i, _⟩ => hbmTy i
  | _, _ => ⟨S2x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c_2 : Ref sig .tc := ⟨.hbm, 46, rfl⟩
abbrev main_v40 : Ref sig .tc := ⟨.hbm, 47, rfl⟩
abbrev main_v41 : Ref sig .tc := ⟨.hbm, 48, rfl⟩
abbrev main_c_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_4 : Ref sig .tc := ⟨.hbm, 55, rfl⟩
abbrev main_v47 : Ref sig .tc := ⟨.hbm, 56, rfl⟩
abbrev main_v48 : Ref sig .tc := ⟨.hbm, 57, rfl⟩
abbrev main_c_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_9 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_10 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_11 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_c_12 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_c_13 : Ref sig .tc := ⟨.hbm, 131, rfl⟩
abbrev main_v111 : Ref sig .tc := ⟨.hbm, 132, rfl⟩
abbrev main_v112 : Ref sig .tc := ⟨.hbm, 133, rfl⟩
abbrev main_c_14 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_c_15 : Ref sig .tc := ⟨.hbm, 140, rfl⟩
abbrev main_v118 : Ref sig .tc := ⟨.hbm, 141, rfl⟩
abbrev main_v119 : Ref sig .tc := ⟨.hbm, 142, rfl⟩
abbrev main_c_16 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_17 : Ref sig .tc := ⟨.hbm, 158, rfl⟩
abbrev main_call1_v0 : Ref sig .tc := ⟨.hbm, 159, rfl⟩
abbrev main_call1_v1 : Ref sig .tc := ⟨.hbm, 160, rfl⟩
abbrev main_call1_v2 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_19 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_20 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_21 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_cst_22 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_c_23 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_c_24 : Ref sig .tc := ⟨.hbm, 216, rfl⟩
abbrev main_v182 : Ref sig .tc := ⟨.hbm, 217, rfl⟩
abbrev main_v183 : Ref sig .tc := ⟨.hbm, 218, rfl⟩
abbrev main_c_25 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_c_26 : Ref sig .tc := ⟨.hbm, 225, rfl⟩
abbrev main_v189 : Ref sig .tc := ⟨.hbm, 226, rfl⟩
abbrev main_v190 : Ref sig .tc := ⟨.hbm, 227, rfl⟩
abbrev main_c_27 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_cst_28 : Ref sig .tc := ⟨.hbm, 241, rfl⟩
abbrev main_call2_v0 : Ref sig .tc := ⟨.hbm, 242, rfl⟩
abbrev main_call2_v1 : Ref sig .tc := ⟨.hbm, 243, rfl⟩
abbrev main_call2_v2 : Ref sig .tc := ⟨.hbm, 244, rfl⟩
abbrev main_v203 : Ref sig .tc := ⟨.hbm, 245, rfl⟩
abbrev main_cst_29 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_cst_30 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_31 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_32 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩

abbrev nD : Nat := 1
abbrev τ : Topo := Topo.v7x

variable {F : FTy → Type} [FloatOps F]
-- ==== Ln1.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S4096x128 : Shape := ⟨2, ![4096, 128]⟩
abbrev S512x2816 : Shape := ⟨2, ![512, 2816]⟩
abbrev S512x1024 : Shape := ⟨2, ![512, 1024]⟩
abbrev S512x128 : Shape := ⟨2, ![512, 128]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S256x1 : Shape := ⟨2, ![256, 1]⟩
abbrev S256 : Shape := ⟨1, ![256]⟩
abbrev S1024 : Shape := ⟨1, ![1024]⟩

abbrev nBuf : Space → Nat
  | .hbm => 40
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S1024x5632, .bf16⟩
  | .hbm, ⟨26, _⟩ => ⟨S1024x4x1408, .bf16⟩
  | .hbm, ⟨27, _⟩ => ⟨S4x1024x1408, .bf16⟩
  | .hbm, ⟨28, _⟩ => ⟨S4096x5632, .bf16⟩
  | .hbm, ⟨29, _⟩ => ⟨S4096x2816, .bf16⟩
  | .hbm, ⟨30, _⟩ => ⟨S4096x2816, .bf16⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x128, .f32⟩
  | .hbm, ⟨36, _⟩ => ⟨S4096x1024, .f32⟩
  | .hbm, ⟨37, _⟩ => ⟨S4096x1024, .bf16⟩
  | .hbm, ⟨38, _⟩ => ⟨S1x1024, .f32⟩
  | .hbm, ⟨39, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v119 : BitVec 32 := Scalar.extui v0
  let c0_i32_79 : BitVec 32 := 0#32
  let v120 : BitVec 1 := Scalar.cmpi .ne v119 c0_i32_79
  v120

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v121 : BitVec 1 := Scalar.xori v0 v_true
  let v122 : BitVec 32 := Scalar.extui v121
  let c0_i32_80 : BitVec 32 := 0#32
  let v123 : BitVec 1 := Scalar.cmpi .ne v122 c0_i32_80
  v123

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v124 : BitVec 32 := Scalar.extui v0
  let c0_i32_81 : BitVec 32 := 0#32
  let v125 : BitVec 1 := Scalar.cmpi .ne v124 c0_i32_81
  v125

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_82 : BitVec 1 := 1#1
  let v126 : BitVec 1 := Scalar.xori v0 true_82
  let v127 : BitVec 32 := Scalar.extui v126
  let c0_i32_83 : BitVec 32 := 0#32
  let v128 : BitVec 1 := Scalar.cmpi .ne v127 c0_i32_83
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Ln1RefIdeal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x5632, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S1x1024, .f32⟩
  | .hbm, ⟨98, _⟩ => ⟨S1x1024, .f32⟩
  | .hbm, ⟨99, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Dmix.lean ====
abbrev S4096x1024 : Shape := ⟨2, ![4096, 1024]⟩
abbrev S1024x1024 : Shape := ⟨2, ![1024, 1024]⟩
abbrev S4096x768 : Shape := ⟨2, ![4096, 768]⟩
abbrev S1x768 : Shape := ⟨2, ![1, 768]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S4096x256 : Shape := ⟨2, ![4096, 256]⟩
abbrev S512x1024 : Shape := ⟨2, ![512, 1024]⟩
abbrev S512x768 : Shape := ⟨2, ![512, 768]⟩
abbrev S512x128 : Shape := ⟨2, ![512, 128]⟩
abbrev S512x256 : Shape := ⟨2, ![512, 256]⟩
abbrev S256x1024 : Shape := ⟨2, ![256, 1024]⟩
abbrev S768x768 : Shape := ⟨2, ![768, 768]⟩
abbrev S256x768 : Shape := ⟨2, ![256, 768]⟩
abbrev S256x256 : Shape := ⟨2, ![256, 256]⟩
abbrev S256x1 : Shape := ⟨2, ![256, 1]⟩
abbrev S256 : Shape := ⟨1, ![256]⟩
abbrev S768 : Shape := ⟨1, ![768]⟩

abbrev nBuf : Space → Nat
  | .hbm => 22
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x768, .f32⟩
  | .hbm, ⟨3, _⟩ => ⟨S1x768, .f32⟩
  | .hbm, ⟨4, _⟩ => ⟨S4096x768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .bf16⟩
  | .hbm, ⟨16, _⟩ => ⟨S1024x1024, .bf16⟩
  | .hbm, ⟨17, _⟩ => ⟨S4096x128, .f32⟩
  | .hbm, ⟨18, _⟩ => ⟨S4096x768, .bf16⟩
  | .hbm, ⟨19, _⟩ => ⟨S4096x768, .f32⟩
  | .hbm, ⟨20, _⟩ => ⟨S4096x256, .f32⟩
  | .hbm, ⟨21, _⟩ => ⟨S1x768, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x768, .f32⟩
  | .local _ .vmem, ⟨4, _⟩ => ⟨S512x768, .f32⟩
  | .local _ .vmem, ⟨5, _⟩ => ⟨S512x128, .f32⟩
  | .local _ .vmem, ⟨6, _⟩ => ⟨S512x128, .f32⟩
  | .local _ .vmem, ⟨7, _⟩ => ⟨S1x768, .f32⟩
  | .local _ .vmem, ⟨8, _⟩ => ⟨S512x768, .bf16⟩
  | .local _ .vmem, ⟨9, _⟩ => ⟨S512x768, .bf16⟩
  | .local _ .vmem, ⟨10, _⟩ => ⟨S512x768, .f32⟩
  | .local _ .vmem, ⟨11, _⟩ => ⟨S512x768, .f32⟩
  | .local _ .vmem, ⟨12, _⟩ => ⟨S512x256, .f32⟩
  | .local _ .vmem, ⟨13, _⟩ => ⟨S512x256, .f32⟩
  | .local _ .vmem, ⟨14, _⟩ => ⟨S1x768, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32_52 : BitVec 32 := 0#32
  let v141 : BitVec 1 := Scalar.cmpi .eq arg0 c0_i32_52
  let v142 : BitVec 32 := Scalar.extui v141
  let c0_i32_53 : BitVec 32 := 0#32
  let v143 : BitVec 1 := Scalar.cmpi .ne v142 c0_i32_53
  v143

def k0_cond2 (i : grid0.Coords) : BitVec 1 :=
  let arg0 : BitVec 32 := BitVec.ofNat 32 (i 0).val
  let c0_i32_52 : BitVec 32 := 0#32
  let v141 : BitVec 1 := Scalar.cmpi .eq arg0 c0_i32_52
  let v_true : BitVec 1 := 1#1
  let v144 : BitVec 1 := Scalar.xori v141 v_true
  let v145 : BitVec 32 := Scalar.extui v144
  let c0_i32_54 : BitVec 32 := 0#32
  let v146 : BitVec 1 := Scalar.cmpi .ne v145 c0_i32_54
  v146

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== DmixRefIdeal.lean ====
abbrev S4096x1024 : Shape := ⟨2, ![4096, 1024]⟩
abbrev S1024x1024 : Shape := ⟨2, ![1024, 1024]⟩
abbrev S4096x768 : Shape := ⟨2, ![4096, 768]⟩
abbrev S1x768 : Shape := ⟨2, ![1, 768]⟩
abbrev S_ : Shape := ⟨0, ![]⟩
abbrev S4096x256 : Shape := ⟨2, ![4096, 256]⟩
abbrev S768 : Shape := ⟨1, ![768]⟩
abbrev S4096 : Shape := ⟨1, ![4096]⟩
abbrev S4096x1 : Shape := ⟨2, ![4096, 1]⟩
abbrev S4096x12x64 : Shape := ⟨3, ![4096, 12, 64]⟩
abbrev S4096x12 : Shape := ⟨2, ![4096, 12]⟩
abbrev S4096x12x1 : Shape := ⟨3, ![4096, 12, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x768, .f32⟩
  | .hbm, ⟨3, _⟩ => ⟨S1x768, .f32⟩
  | .hbm, ⟨4, _⟩ => ⟨S_, .f32⟩
  | .hbm, ⟨5, _⟩ => ⟨S4096x256, .f32⟩
  | .hbm, ⟨6, _⟩ => ⟨S768, .f32⟩
  | .hbm, ⟨7, _⟩ => ⟨S4096x768, .f32⟩
  | .hbm, ⟨8, _⟩ => ⟨S_, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x768, .f32⟩
  | .hbm, ⟨26, _⟩ => ⟨S4096x768, .f32⟩
  | .hbm, ⟨27, _⟩ => ⟨S1x768, .f32⟩
  | .hbm, ⟨28, _⟩ => ⟨S4096x768, .f32⟩
  | .hbm, ⟨29, _⟩ => ⟨S4096x768, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x768, .f32⟩
  | .hbm, ⟨34, _⟩ => ⟨S4096x256, .f32⟩
  | .hbm, ⟨35, _⟩ => ⟨S4096x768, .f32⟩
  | .hbm, ⟨36, _⟩ => ⟨S_, .f32⟩
  | .hbm, ⟨37, _⟩ => ⟨S768, .f32⟩
  | .hbm, ⟨38, _⟩ => ⟨S1x768, .f32⟩
  | .hbm, ⟨39, _⟩ => ⟨S4096x768, .f32⟩
  | .hbm, ⟨40, _⟩ => ⟨S4096x768, .f32⟩
  | .hbm, ⟨41, _⟩ => ⟨S_, .f32⟩
  | .hbm, ⟨42, _⟩ => ⟨S768, .f32⟩
  | .hbm, ⟨43, _⟩ => ⟨S4096x768, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x768, .f32⟩
  | .hbm, ⟨48, _⟩ => ⟨S4096x768, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x768, .f32⟩
  | .hbm, ⟨56, _⟩ => ⟨S4096x768, .f32⟩
  | .hbm, ⟨57, _⟩ => ⟨S4096x768, .f32⟩
  | .hbm, ⟨58, _⟩ => ⟨S1x768, .f32⟩
  | .hbm, ⟨59, _⟩ => ⟨S4096x768, .f32⟩
  | .hbm, ⟨60, _⟩ => ⟨S4096x12x64, .f32⟩
  | .hbm, ⟨61, _⟩ => ⟨S_, .f32⟩
  | .hbm, ⟨62, _⟩ => ⟨S4096x12, .f32⟩
  | .hbm, ⟨63, _⟩ => ⟨S4096x12x1, .f32⟩
  | .hbm, ⟨64, _⟩ => ⟨S4096x768, .bf16⟩
  | .hbm, ⟨65, _⟩ => ⟨S4096x12x64, .f32⟩
  | .hbm, ⟨66, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Ffn.lean ====
abbrev S4096x1024 : Shape := ⟨2, ![4096, 1024]⟩
abbrev S1024x5632 : Shape := ⟨2, ![1024, 5632]⟩
abbrev S2816x1024 : Shape := ⟨2, ![2816, 1024]⟩
abbrev S3x5632 : Shape := ⟨2, ![3, 5632]⟩
abbrev S1x5632 : Shape := ⟨2, ![1, 5632]⟩
abbrev S4096x5632 : Shape := ⟨2, ![4096, 5632]⟩
abbrev S2x2048x2x22x128 : Shape := ⟨5, ![2, 2048, 2, 22, 128]⟩
abbrev S2x2048x22x2x128 : Shape := ⟨5, ![2, 2048, 22, 2, 128]⟩
abbrev S2x2048x5632 : Shape := ⟨3, ![2, 2048, 5632]⟩
abbrev S2x2048x1024 : Shape := ⟨3, ![2, 2048, 1024]⟩
abbrev S2x2048x2816 : Shape := ⟨3, ![2, 2048, 2816]⟩
abbrev S2x2816x1024 : Shape := ⟨3, ![2, 2816, 1024]⟩
abbrev S3x2x2816 : Shape := ⟨3, ![3, 2, 2816]⟩
abbrev S2x1x2816 : Shape := ⟨3, ![2, 1, 2816]⟩
abbrev S1x2048x1024 : Shape := ⟨3, ![1, 2048, 1024]⟩
abbrev S1x2048x256 : Shape := ⟨3, ![1, 2048, 256]⟩
abbrev S128x1024 : Shape := ⟨2, ![128, 1024]⟩
abbrev S3x128 : Shape := ⟨2, ![3, 128]⟩
abbrev S1x128 : Shape := ⟨2, ![1, 128]⟩
abbrev S1x2048x128 : Shape := ⟨3, ![1, 2048, 128]⟩
abbrev S2x128x1024 : Shape := ⟨3, ![2, 128, 1024]⟩
abbrev S3x2x128 : Shape := ⟨3, ![3, 2, 128]⟩
abbrev S2x1x128 : Shape := ⟨3, ![2, 1, 128]⟩
abbrev S1040x128 : Shape := ⟨2, ![1040, 128]⟩
abbrev S1x1040x1024 : Shape := ⟨3, ![1, 1040, 1024]⟩
abbrev S1040x1024 : Shape := ⟨2, ![1040, 1024]⟩
abbrev S1x1040x128 : Shape := ⟨3, ![1, 1040, 128]⟩
abbrev S8x128 : Shape := ⟨2, ![8, 128]⟩
abbrev S1032x128 : Shape := ⟨2, ![1032, 128]⟩
abbrev S1024x128 : Shape := ⟨2, ![1024, 128]⟩
abbrev S128 : Shape := ⟨1, ![128]⟩
abbrev S1x1024x128 : Shape := ⟨3, ![1, 1024, 128]⟩
abbrev S1024x256 : Shape := ⟨2, ![1024, 256]⟩
abbrev S1024x1024 : Shape := ⟨2, ![1024, 1024]⟩
abbrev S256x1024 : Shape := ⟨2, ![256, 1024]⟩
abbrev S1x128x1024 : Shape := ⟨3, ![1, 128, 1024]⟩
abbrev S1x1x128 : Shape := ⟨3, ![1, 1, 128]⟩

abbrev nBuf : Space → Nat
  | .hbm => 22
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S3x5632, .f32⟩
  | .hbm, ⟨5, _⟩ => ⟨S1x5632, .f32⟩
  | .hbm, ⟨6, _⟩ => ⟨S4096x1024, .bf16⟩
  | .hbm, ⟨7, _⟩ => ⟨S4096x1024, .bf16⟩
  | .hbm, ⟨8, _⟩ => ⟨S1024x5632, .bf16⟩
  | .hbm, ⟨9, _⟩ => ⟨S2816x1024, .bf16⟩
  | .hbm, ⟨10, _⟩ => ⟨S4096x5632, .f32⟩
  | .hbm, ⟨11, _⟩ => ⟨S2x2048x2x22x128, .f32⟩
  | .hbm, ⟨12, _⟩ => ⟨S2x2048x22x2x128, .f32⟩
  | .hbm, ⟨13, _⟩ => ⟨S2x2048x5632, .f32⟩
  | .hbm, ⟨14, _⟩ => ⟨S2x2048x1024, .bf16⟩
  | .hbm, ⟨15, _⟩ => ⟨S2x2048x1024, .bf16⟩
  | .hbm, ⟨16, _⟩ => ⟨S2x2048x2816, .bf16⟩
  | .hbm, ⟨17, _⟩ => ⟨S2x2048x2816, .bf16⟩
  | .hbm, ⟨18, _⟩ => ⟨S2x2816x1024, .f32⟩
  | .hbm, ⟨19, _⟩ => ⟨S2816x1024, .f32⟩
  | .hbm, ⟨20, _⟩ => ⟨S3x2x2816, .f32⟩
  | .hbm, ⟨21, _⟩ => ⟨S2x1x2816, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x256, .f32⟩
  | .local _ .vmem, ⟨5, _⟩ => ⟨S1x2048x256, .f32⟩
  | .local _ .vmem, ⟨6, _⟩ => ⟨S128x1024, .bf16⟩
  | .local _ .vmem, ⟨7, _⟩ => ⟨S128x1024, .bf16⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S2x128x1024, .f32⟩
  | .local _ .vmem, ⟨21, _⟩ => ⟨S2x128x1024, .f32⟩
  | .local _ .vmem, ⟨22, _⟩ => ⟨S128x1024, .f32⟩
  | .local _ .vmem, ⟨23, _⟩ => ⟨S128x1024, .f32⟩
  | .local _ .vmem, ⟨24, _⟩ => ⟨S3x2x128, .f32⟩
  | .local _ .vmem, ⟨25, _⟩ => ⟨S3x2x128, .f32⟩
  | .local _ .vmem, ⟨26, _⟩ => ⟨S2x1x128, .f32⟩
  | .local _ .vmem, ⟨27, _⟩ => ⟨S2x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![22, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v428 : BitVec 32 := Scalar.extui v0
  let c0_i32_174 : BitVec 32 := 0#32
  let v429 : BitVec 1 := Scalar.cmpi .ne v428 c0_i32_174
  v429

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v430 : BitVec 1 := Scalar.xori v0 v_true
  let v431 : BitVec 32 := Scalar.extui v430
  let c0_i32_176 : BitVec 32 := 0#32
  let v432 : BitVec 1 := Scalar.cmpi .ne v431 c0_i32_176
  v432

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v434 : BitVec 32 := Scalar.extui v0
  let c0_i32_178 : BitVec 32 := 0#32
  let v435 : BitVec 1 := Scalar.cmpi .ne v434 c0_i32_178
  v435

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_179 : BitVec 1 := 1#1
  let v436 : BitVec 1 := Scalar.xori v0 true_179
  let v437 : BitVec 32 := Scalar.extui v436
  let c0_i32_181 : BitVec 32 := 0#32
  let v438 : BitVec 1 := Scalar.cmpi .ne v437 c0_i32_181
  v438

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v439 : BitVec 32 := Scalar.extui v0
  let c0_i32_182 : BitVec 32 := 0#32
  let v440 : BitVec 1 := Scalar.cmpi .ne v439 c0_i32_182
  v440

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_183 : BitVec 1 := 1#1
  let v441 : BitVec 1 := Scalar.xori v0 true_183
  let v442 : BitVec 32 := Scalar.extui v441
  let c0_i32_184 : BitVec 32 := 0#32
  let v443 : BitVec 1 := Scalar.cmpi .ne v442 c0_i32_184
  v443

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let v449 : BitVec 32 := Scalar.extui v0
  let c0_i32_191 : BitVec 32 := 0#32
  let v450 : BitVec 1 := Scalar.cmpi .ne v449 c0_i32_191
  v450

def k0_cond10 (i : grid0.Coords) : BitVec 1 :=
  let arg1 : BitVec 32 := BitVec.ofNat 32 (i 1).val
  let c0_i32 : BitVec 32 := 0#32
  let v0 : BitVec 1 := Scalar.cmpi .eq arg1 c0_i32
  let true_192 : BitVec 1 := 1#1
  let v451 : BitVec 1 := Scalar.xori v0 true_192
  let v452 : BitVec 32 := Scalar.extui v451
  let c0_i32_194 : BitVec 32 := 0#32
  let v453 : BitVec 1 := Scalar.cmpi .ne v452 c0_i32_194
  v453

def k0_cond11 (i : grid0.Coords) : BitVec 1 :=
  let arg1 : BitVec 32 := BitVec.ofNat 32 (i 1).val
  let c0_i32 : BitVec 32 := 0#32
  let v0 : BitVec 1 := Scalar.cmpi .eq arg1 c0_i32
  let v454 : BitVec 32 := Scalar.extui v0
  let c0_i32_196 : BitVec 32 := 0#32
  let v455 : BitVec 1 := Scalar.cmpi .ne v454 c0_i32_196
  v455

def k0_cond12 (i : grid0.Coords) : BitVec 1 :=
  let arg1 : BitVec 32 := BitVec.ofNat 32 (i 1).val
  let c0_i32 : BitVec 32 := 0#32
  let v0 : BitVec 1 := Scalar.cmpi .eq arg1 c0_i32
  let true_197 : BitVec 1 := 1#1
  let v456 : BitVec 1 := Scalar.xori v0 true_197
  let v457 : BitVec 32 := Scalar.extui v456
  let c0_i32_199 : BitVec 32 := 0#32
  let v458 : BitVec 1 := Scalar.cmpi .ne v457 c0_i32_199
  v458

def k0_cond13 (i : grid0.Coords) : BitVec 1 :=
  let arg1 : BitVec 32 := BitVec.ofNat 32 (i 1).val
  let c0_i32 : BitVec 32 := 0#32
  let v0 : BitVec 1 := Scalar.cmpi .eq arg1 c0_i32
  let v459 : BitVec 32 := Scalar.extui v0
  let c0_i32_201 : BitVec 32 := 0#32
  let v460 : BitVec 1 := Scalar.cmpi .ne v459 c0_i32_201
  v460

def k0_cond14 (i : grid0.Coords) : BitVec 1 :=
  let arg1 : BitVec 32 := BitVec.ofNat 32 (i 1).val
  let c0_i32 : BitVec 32 := 0#32
  let v0 : BitVec 1 := Scalar.cmpi .eq arg1 c0_i32
  let true_202 : BitVec 1 := 1#1
  let v461 : BitVec 1 := Scalar.xori v0 true_202
  let v462 : BitVec 32 := Scalar.extui v461
  let c0_i32_204 : BitVec 32 := 0#32
  let v463 : BitVec 1 := Scalar.cmpi .ne v462 c0_i32_204
  v463

def k0_cond17 (i : grid0.Coords) : BitVec 1 :=
  let arg1 : BitVec 32 := BitVec.ofNat 32 (i 1).val
  let c0_i32 : BitVec 32 := 0#32
  let v0 : BitVec 1 := Scalar.cmpi .eq arg1 c0_i32
  let v469 : BitVec 32 := Scalar.extui v0
  let c0_i32_211 : BitVec 32 := 0#32
  let v470 : BitVec 1 := Scalar.cmpi .ne v469 c0_i32_211
  v470

def k0_cond18 (i : grid0.Coords) : BitVec 1 :=
  let arg1 : BitVec 32 := BitVec.ofNat 32 (i 1).val
  let c0_i32 : BitVec 32 := 0#32
  let v0 : BitVec 1 := Scalar.cmpi .eq arg1 c0_i32
  let true_212 : BitVec 1 := 1#1
  let v471 : BitVec 1 := Scalar.xori v0 true_212
  let v472 : BitVec 32 := Scalar.extui v471
  let c0_i32_214 : BitVec 32 := 0#32
  let v473 : BitVec 1 := Scalar.cmpi .ne v472 c0_i32_214
  v473

def k0_cond19 (i : grid0.Coords) : BitVec 1 :=
  let arg1 : BitVec 32 := BitVec.ofNat 32 (i 1).val
  let c0_i32 : BitVec 32 := 0#32
  let v0 : BitVec 1 := Scalar.cmpi .eq arg1 c0_i32
  let v474 : BitVec 32 := Scalar.extui v0
  let c0_i32_216 : BitVec 32 := 0#32
  let v475 : BitVec 1 := Scalar.cmpi .ne v474 c0_i32_216
  v475

def k0_cond20 (i : grid0.Coords) : BitVec 1 :=
  let arg1 : BitVec 32 := BitVec.ofNat 32 (i 1).val
  let c0_i32 : BitVec 32 := 0#32
  let v0 : BitVec 1 := Scalar.cmpi .eq arg1 c0_i32
  let true_217 : BitVec 1 := 1#1
  let v476 : BitVec 1 := Scalar.xori v0 true_217
  let v477 : BitVec 32 := Scalar.extui v476
  let c0_i32_219 : BitVec 32 := 0#32
  let v478 : BitVec 1 := Scalar.cmpi .ne v477 c0_i32_219
  v478

def k0_cond21 (i : grid0.Coords) : BitVec 1 :=
  let arg1 : BitVec 32 := BitVec.ofNat 32 (i 1).val
  let c0_i32 : BitVec 32 := 0#32
  let v0 : BitVec 1 := Scalar.cmpi .eq arg1 c0_i32
  let v479 : BitVec 32 := Scalar.extui v0
  let c0_i32_221 : BitVec 32 := 0#32
  let v480 : BitVec 1 := Scalar.cmpi .ne v479 c0_i32_221
  v480

def k0_cond22 (i : grid0.Coords) : BitVec 1 :=
  let arg1 : BitVec 32 := BitVec.ofNat 32 (i 1).val
  let c0_i32 : BitVec 32 := 0#32
  let v0 : BitVec 1 := Scalar.cmpi .eq arg1 c0_i32
  let true_222 : BitVec 1 := 1#1
  let v481 : BitVec 1 := Scalar.xori v0 true_222
  let v482 : BitVec 32 := Scalar.extui v481
  let c0_i32_224 : BitVec 32 := 0#32
  let v483 : BitVec 1 := Scalar.cmpi .ne v482 c0_i32_224
  v483

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v444 : BitVec 32 := Scalar.extui v0
  let c0_i32_186 : BitVec 32 := 0#32
  let v445 : BitVec 1 := Scalar.cmpi .ne v444 c0_i32_186
  v445

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_187 : BitVec 1 := 1#1
  let v446 : BitVec 1 := Scalar.xori v0 true_187
  let v447 : BitVec 32 := Scalar.extui v446
  let c0_i32_189 : BitVec 32 := 0#32
  let v448 : BitVec 1 := Scalar.cmpi .ne v447 c0_i32_189
  v448

def k0_cond15 (i : grid0.Coords) : BitVec 1 :=
  let arg1 : BitVec 32 := BitVec.ofNat 32 (i 1).val
  let c0_i32 : BitVec 32 := 0#32
  let v0 : BitVec 1 := Scalar.cmpi .eq arg1 c0_i32
  let v464 : BitVec 32 := Scalar.extui v0
  let c0_i32_206 : BitVec 32 := 0#32
  let v465 : BitVec 1 := Scalar.cmpi .ne v464 c0_i32_206
  v465

def k0_cond16 (i : grid0.Coords) : BitVec 1 :=
  let arg1 : BitVec 32 := BitVec.ofNat 32 (i 1).val
  let c0_i32 : BitVec 32 := 0#32
  let v0 : BitVec 1 := Scalar.cmpi .eq arg1 c0_i32
  let true_207 : BitVec 1 := 1#1
  let v466 : BitVec 1 := Scalar.xori v0 true_207
  let v467 : BitVec 32 := Scalar.extui v466
  let c0_i32_209 : BitVec 32 := 0#32
  let v468 : BitVec 1 := Scalar.cmpi .ne v467 c0_i32_209
  v468

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S3x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S4096x1024 : Shape := ⟨2, ![4096, 1024]⟩
abbrev S1024x5632 : Shape := ⟨2, ![1024, 5632]⟩
abbrev S2816x1024 : Shape := ⟨2, ![2816, 1024]⟩
abbrev S3x5632 : Shape := ⟨2, ![3, 5632]⟩
abbrev S1x5632 : Shape := ⟨2, ![1, 5632]⟩
abbrev S4096x5632 : Shape := ⟨2, ![4096, 5632]⟩
abbrev S2x2048x5632 : Shape := ⟨3, ![2, 2048, 5632]⟩
abbrev S5632 : Shape := ⟨1, ![5632]⟩
abbrev S3x1x5632 : Shape := ⟨3, ![3, 1, 5632]⟩
abbrev S3x2048x5632 : Shape := ⟨3, ![3, 2048, 5632]⟩
abbrev S2048x5632 : Shape := ⟨2, ![2048, 5632]⟩
abbrev S_ : Shape := ⟨0, ![]⟩
abbrev S2x2x5632 : Shape := ⟨3, ![2, 2, 5632]⟩
abbrev S2x1x5632 : Shape := ⟨3, ![2, 1, 5632]⟩
abbrev S2x2047x5632 : Shape := ⟨3, ![2, 2047, 5632]⟩
abbrev S2x2046x5632 : Shape := ⟨3, ![2, 2046, 5632]⟩
abbrev S1x2048x5632 : Shape := ⟨3, ![1, 2048, 5632]⟩
abbrev S2x2048x2816 : Shape := ⟨3, ![2, 2048, 2816]⟩
abbrev S4096x2816 : Shape := ⟨2, ![4096, 2816]⟩
abbrev S1024x2816 : Shape := ⟨2, ![1024, 2816]⟩
abbrev S5632x1024 : Shape := ⟨2, ![5632, 1024]⟩
abbrev S2x2816x1024 : Shape := ⟨3, ![2, 2816, 1024]⟩
abbrev S3x2x2816 : Shape := ⟨3, ![3, 2, 2816]⟩
abbrev S2x1x2816 : Shape := ⟨3, ![2, 1, 2816]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4096x1024, .f32⟩
  | 2 => ⟨S1024x5632, .f32⟩
  | 3 => ⟨S2816x1024, .f32⟩
  | 4 => ⟨S3x5632, .f32⟩
  | 5 => ⟨S1x5632, .f32⟩
  | 6 => ⟨S4096x5632, .f32⟩
  | 7 => ⟨S2x2048x5632, .f32⟩
  | 8 => ⟨S5632, .f32⟩
  | 9 => ⟨S3x1x5632, .f32⟩
  | 10 => ⟨S3x2048x5632, .f32⟩
  | 11 => ⟨S2048x5632, .f32⟩
  | 12 => ⟨S_, .f32⟩
  | 13 => ⟨S2x2x5632, .f32⟩
  | 14 => ⟨S2x1x5632, .f32⟩
  | 15 => ⟨S2x2047x5632, .f32⟩
  | 16 => ⟨S2x2048x5632, .f32⟩
  | 17 => ⟨S_, .f32⟩
  | 18 => ⟨S2x1x5632, .f32⟩
  | 19 => ⟨S2x2046x5632, .f32⟩
  | 20 => ⟨S2x2048x5632, .f32⟩
  | 21 => ⟨S_, .f32⟩
  | 22 => ⟨S2x2x5632, .f32⟩
  | 23 => ⟨S1x2048x5632, .f32⟩
  | 24 => ⟨S2048x5632, .f32⟩
  | 25 => ⟨S1x2048x5632, .f32⟩
  | 26 => ⟨S2x2048x5632, .f32⟩
  | 27 => ⟨S2x2048x5632, .f32⟩
  | 28 => ⟨S1x2048x5632, .f32⟩
  | 29 => ⟨S2048x5632, .f32⟩
  | 30 => ⟨S1x2048x5632, .f32⟩
  | 31 => ⟨S2x2048x5632, .f32⟩
  | 32 => ⟨S2x2048x5632, .f32⟩
  | 33 => ⟨S2x2048x5632, .f32⟩
  | 34 => ⟨S1x2048x5632, .f32⟩
  | 35 => ⟨S2048x5632, .f32⟩
  | 36 => ⟨S1x2048x5632, .f32⟩
  | 37 => ⟨S2x2048x5632, .f32⟩
  | 38 => ⟨S2x2048x5632, .f32⟩
  | 39 => ⟨S2x2048x5632, .f32⟩
  | 40 => ⟨S1x2048x5632, .f32⟩
  | 41 => ⟨S2x2048x5632, .f32⟩
  | 42 => ⟨S2x2048x5632, .f32⟩
  | 43 => ⟨S2x2048x2816, .f32⟩
  | 44 => ⟨S2x2048x2816, .f32⟩
  | 45 => ⟨S2x2048x2816, .f32⟩
  | 46 => ⟨S2x2048x2816, .f32⟩
  | 47 => ⟨S_, .f32⟩
  | 48 => ⟨S2x2048x2816, .f32⟩
  | 49 => ⟨S2x2048x2816, .f32⟩
  | 50 => ⟨S_, .f32⟩
  | 51 => ⟨S2x2048x2816, .f32⟩
  | 52 => ⟨S2x2048x2816, .f32⟩
  | 53 => ⟨S_, .f32⟩
  | 54 => ⟨S2x2048x2816, .f32⟩
  | 55 => ⟨S2x2048x2816, .f32⟩
  | 56 => ⟨S2x2048x2816, .f32⟩
  | 57 => ⟨S2x2048x2816, .f32⟩
  | 58 => ⟨S2x2048x2816, .f32⟩
  | 59 => ⟨S4096x2816, .f32⟩
  | 60 => ⟨S4096x1024, .f32⟩
  | 61 => ⟨S1024x2816, .f32⟩
  | 62 => ⟨S2816x1024, .f32⟩
  | 63 => ⟨S4096x2816, .f32⟩
  | 64 => ⟨S2x2048x2816, .f32⟩
  | 65 => ⟨S2x2048x2816, .f32⟩
  | 66 => ⟨S2x2048x2816, .f32⟩
  | 67 => ⟨S2x2048x2816, .f32⟩
  | 68 => ⟨S2x2048x2816, .f32⟩
  | 69 => ⟨S2x2048x2816, .f32⟩
  | 70 => ⟨S2x2048x2816, .f32⟩
  | 71 => ⟨S2x2048x5632, .f32⟩
  | 72 => ⟨S_, .f32⟩
  | 73 => ⟨S2048x5632, .f32⟩
  | 74 => ⟨S1x2048x5632, .f32⟩
  | 75 => ⟨S_, .f32⟩
  | 76 => ⟨S2048x5632, .f32⟩
  | 77 => ⟨S2x2048x5632, .f32⟩
  | 78 => ⟨S2x2048x5632, .f32⟩
  | 79 => ⟨S2x2048x5632, .f32⟩
  | 80 => ⟨S_, .f32⟩
  | 81 => ⟨S2048x5632, .f32⟩
  | 82 => ⟨S1x2048x5632, .f32⟩
  | 83 => ⟨S_, .f32⟩
  | 84 => ⟨S2048x5632, .f32⟩
  | 85 => ⟨S1x2048x5632, .f32⟩
  | 86 => ⟨S_, .f32⟩
  | 87 => ⟨S3x2048x5632, .f32⟩
  | 88 => ⟨S2x2048x5632, .f32⟩
  | 89 => ⟨S2x2048x5632, .f32⟩
  | 90 => ⟨S2x2048x5632, .f32⟩
  | 91 => ⟨S_, .f32⟩
  | 92 => ⟨S2048x5632, .f32⟩
  | 93 => ⟨S1x2048x5632, .f32⟩
  | 94 => ⟨S_, .f32⟩
  | 95 => ⟨S2048x5632, .f32⟩
  | 96 => ⟨S1x2048x5632, .f32⟩
  | 97 => ⟨S_, .f32⟩
  | 98 => ⟨S3x2048x5632, .f32⟩
  | 99 => ⟨S3x2048x5632, .f32⟩
  | 100 => ⟨S2x2048x5632, .f32⟩
  | 101 => ⟨S2x2048x5632, .f32⟩
  | 102 => ⟨S2x2048x5632, .f32⟩
  | 103 => ⟨S_, .f32⟩
  | 104 => ⟨S2048x5632, .f32⟩
  | 105 => ⟨S1x2048x5632, .f32⟩
  | 106 => ⟨S_, .f32⟩
  | 107 => ⟨S2048x5632, .f32⟩
  | 108 => ⟨S1x2048x5632, .f32⟩
  | 109 => ⟨S_, .f32⟩
  | 110 => ⟨S3x2048x5632, .f32⟩
  | 111 => ⟨S3x2048x5632, .f32⟩
  | 112 => ⟨S2x2x5632, .f32⟩
  | 113 => ⟨S2x2046x5632, .f32⟩
  | 114 => ⟨S_, .f32⟩
  | 115 => ⟨S2x2048x5632, .f32⟩
  | 116 => ⟨S2x2048x5632, .f32⟩
  | 117 => ⟨S2x1x5632, .f32⟩
  | 118 => ⟨S2x2047x5632, .f32⟩
  | 119 => ⟨S_, .f32⟩
  | 120 => ⟨S2x2048x5632, .f32⟩
  | 121 => ⟨S2x2048x5632, .f32⟩
  | 122 => ⟨S_, .f32⟩
  | 123 => ⟨S5632, .f32⟩
  | 124 => ⟨S_, .f32⟩
  | 125 => ⟨S3x5632, .f32⟩
  | 126 => ⟨S3x1x5632, .f32⟩
  | 127 => ⟨S_, .f32⟩
  | _ => ⟨S4096x1024, .f32⟩

abbrev hbmTy0_1 (i : Nat) : BufTy := match i % 128 with
  | 0 => ⟨S3x5632, .f32⟩
  | 1 => ⟨S1x5632, .f32⟩
  | 2 => ⟨S4096x5632, .f32⟩
  | 3 => ⟨S5632x1024, .f32⟩
  | 4 => ⟨S1024x5632, .f32⟩
  | 5 => ⟨S2x2048x5632, .f32⟩
  | 6 => ⟨S2x2048x5632, .bf16⟩
  | 7 => ⟨S2x2048x2816, .bf16⟩
  | 8 => ⟨S2x2048x2816, .bf16⟩
  | 9 => ⟨S5632x1024, .f32⟩
  | 10 => ⟨S2x2816x1024, .f32⟩
  | 11 => ⟨S3x2x2816, .f32⟩
  | 12 => ⟨S2x1x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v36_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v36_1 : Ref sig .tc := ⟨.hbm, 56, rfl⟩
abbrev main_v36_0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_cst_5 : Ref sig .tc := ⟨.hbm, 83, rfl⟩
abbrev main_v56 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]
-- ==== RelGrad.lean ====
abbrev S3x12x128x256 : Shape := ⟨4, ![3, 12, 128, 256]⟩
abbrev S3x128x256 : Shape := ⟨3, ![3, 128, 256]⟩
abbrev S3x12x32768 : Shape := ⟨3, ![3, 12, 32768]⟩
abbrev S3x1x32768 : Shape := ⟨3, ![3, 1, 32768]⟩
abbrev S12x32 : Shape := ⟨2, ![12, 32]⟩
abbrev S1x12x32768 : Shape := ⟨3, ![1, 12, 32768]⟩
abbrev S1x1x32768 : Shape := ⟨3, ![1, 1, 32768]⟩
abbrev S32x32768 : Shape := ⟨2, ![32, 32768]⟩
abbrev S1x32768 : Shape := ⟨2, ![1, 32768]⟩
abbrev S12x32768 : Shape := ⟨2, ![12, 32768]⟩

abbrev nBuf : Space → Nat
  | .hbm => 5
  | .vmem => 5
  | .smem => 0
  | _ => 0

abbrev bufTy : (tb : Table) → Fin (tcTables nBuf tb) → BufTy
  | .hbm, ⟨0, _⟩ => ⟨S3x12x128x256, .f32⟩
  | .hbm, ⟨1, _⟩ => ⟨S3x128x256, .i32⟩
  | .hbm, ⟨2, _⟩ => ⟨S3x12x32768, .f32⟩
  | .hbm, ⟨3, _⟩ => ⟨S3x1x32768, .i32⟩
  | .hbm, ⟨4, _⟩ => ⟨S12x32, .f32⟩
  | .local _ .vmem, ⟨0, _⟩ => ⟨S1x12x32768, .f32⟩
  | .local _ .vmem, ⟨1, _⟩ => ⟨S1x12x32768, .f32⟩
  | .local _ .vmem, ⟨2, _⟩ => ⟨S1x1x32768, .i32⟩
  | .local _ .vmem, ⟨3, _⟩ => ⟨S1x1x32768, .i32⟩
  | .local _ .vmem, ⟨4, _⟩ => ⟨S12x32, .f32⟩
  | _, _ => ⟨S3x12x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_7 : BitVec 32 := 0#32
  let v24 : BitVec 1 := Scalar.cmpi .ne v23 c0_i32_7
  v24

def k0_cond2 (i : grid0.Coords) : BitVec 1 :=
  let arg0 : BitVec 32 := BitVec.ofNat 32 (i 0).val
  let c0_i32 : BitVec 32 := 0#32
  let v22 : BitVec 1 := Scalar.cmpi .eq arg0 c0_i32
  let v_true : BitVec 1 := 1#1
  let v25 : BitVec 1 := Scalar.xori v22 v_true
  let v26 : BitVec 32 := Scalar.extui v25
  let c0_i32_8 : BitVec 32 := 0#32
  let v27 : BitVec 1 := Scalar.cmpi .ne v26 c0_i32_8
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x12x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RelGradRefIdeal.lean ====
abbrev S3x12x128x256 : Shape := ⟨4, ![3, 12, 128, 256]⟩
abbrev S3x128x256 : Shape := ⟨3, ![3, 128, 256]⟩
abbrev S_ : Shape := ⟨0, ![]⟩
abbrev S32x12 : Shape := ⟨2, ![32, 12]⟩
abbrev S3x128x256x1 : Shape := ⟨4, ![3, 128, 256, 1]⟩
abbrev S3x128x256x12 : Shape := ⟨4, ![3, 128, 256, 12]⟩
abbrev S12x32 : Shape := ⟨2, ![12, 32]⟩

abbrev nBuf : Space → Nat
  | .hbm => 19
  | .vmem => 0
  | .smem => 0
  | _ => 0

abbrev bufTy : (tb : Table) → Fin (tcTables nBuf tb) → BufTy
  | .hbm, ⟨0, _⟩ => ⟨S3x12x128x256, .f32⟩
  | .hbm, ⟨1, _⟩ => ⟨S3x128x256, .i32⟩
  | .hbm, ⟨2, _⟩ => ⟨S_, .f32⟩
  | .hbm, ⟨3, _⟩ => ⟨S32x12, .f32⟩
  | .hbm, ⟨4, _⟩ => ⟨S_, .i32⟩
  | .hbm, ⟨5, _⟩ => ⟨S3x128x256, .i32⟩
  | .hbm, ⟨6, _⟩ => ⟨S3x128x256, .i1⟩
  | .hbm, ⟨7, _⟩ => ⟨S_, .i32⟩
  | .hbm, ⟨8, _⟩ => ⟨S3x128x256, .i32⟩
  | .hbm, ⟨9, _⟩ => ⟨S3x128x256, .i32⟩
  | .hbm, ⟨10, _⟩ => ⟨S3x128x256, .i32⟩
  | .hbm, ⟨11, _⟩ => ⟨S3x128x256x1, .i32⟩
  | .hbm, ⟨12, _⟩ => ⟨S3x128x256x12, .f32⟩
  | .hbm, ⟨13, _⟩ => ⟨S3x12x128x256, .f32⟩
  | .hbm, ⟨14, _⟩ => ⟨S3x128x256x12, .f32⟩
  | .hbm, ⟨15, _⟩ => ⟨S_, .f32⟩
  | .hbm, ⟨16, _⟩ => ⟨S32x12, .f32⟩
  | .hbm, ⟨17, _⟩ => ⟨S32x12, .f32⟩
  | .hbm, ⟨18, _⟩ => ⟨S12x32, .f32⟩
  | _, _ => ⟨S3x12x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Bias.lean ====
abbrev S32x12 : Shape := ⟨2, ![32, 12]⟩
abbrev S3x128x256 : Shape := ⟨3, ![3, 128, 256]⟩
abbrev S12x32 : Shape := ⟨2, ![12, 32]⟩
abbrev S3x1x32768 : Shape := ⟨3, ![3, 1, 32768]⟩
abbrev S3x12x32768 : Shape := ⟨3, ![3, 12, 32768]⟩
abbrev S1x1x32768 : Shape := ⟨3, ![1, 1, 32768]⟩
abbrev S1x12x32768 : Shape := ⟨3, ![1, 12, 32768]⟩
abbrev S32x32768 : Shape := ⟨2, ![32, 32768]⟩
abbrev S1x32768 : Shape := ⟨2, ![1, 32768]⟩
abbrev S12x32768 : Shape := ⟨2, ![12, 32768]⟩

abbrev nBuf : Space → Nat
  | .hbm => 7
  | .vmem => 7
  | .smem => 0
  | _ => 0

abbrev bufTy : (tb : Table) → Fin (tcTables nBuf tb) → BufTy
  | .hbm, ⟨0, _⟩ => ⟨S32x12, .f32⟩
  | .hbm, ⟨1, _⟩ => ⟨S3x128x256, .i32⟩
  | .hbm, ⟨2, _⟩ => ⟨S3x128x256, .f32⟩
  | .hbm, ⟨3, _⟩ => ⟨S12x32, .f32⟩
  | .hbm, ⟨4, _⟩ => ⟨S3x1x32768, .i32⟩
  | .hbm, ⟨5, _⟩ => ⟨S3x1x32768, .f32⟩
  | .hbm, ⟨6, _⟩ => ⟨S3x12x32768, .f32⟩
  | .local _ .vmem, ⟨0, _⟩ => ⟨S12x32, .f32⟩
  | .local _ .vmem, ⟨1, _⟩ => ⟨S1x1x32768, .i32⟩
  | .local _ .vmem, ⟨2, _⟩ => ⟨S1x1x32768, .i32⟩
  | .local _ .vmem, ⟨3, _⟩ => ⟨S1x1x32768, .f32⟩
  | .local _ .vmem, ⟨4, _⟩ => ⟨S1x1x32768, .f32⟩
  | .local _ .vmem, ⟨5, _⟩ => ⟨S1x12x32768, .f32⟩
  | .local _ .vmem, ⟨6, _⟩ => ⟨S1x12x32768, .f32⟩
  | _, _ => ⟨S32x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x12x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BiasRefIdeal.lean ====
abbrev S32x12 : Shape := ⟨2, ![32, 12]⟩
abbrev S3x128x256 : Shape := ⟨3, ![3, 128, 256]⟩
abbrev S_ : Shape := ⟨0, ![]⟩
abbrev S3x128x256x1 : Shape := ⟨4, ![3, 128, 256, 1]⟩
abbrev S3x128x256x12 : Shape := ⟨4, ![3, 128, 256, 12]⟩
abbrev S3x12x128x256 : Shape := ⟨4, ![3, 12, 128, 256]⟩
abbrev S3x1x128x256 : Shape := ⟨4, ![3, 1, 128, 256]⟩
abbrev S3x12x32768 : Shape := ⟨3, ![3, 12, 32768]⟩

abbrev nBuf : Space → Nat
  | .hbm => 17
  | .vmem => 0
  | .smem => 0
  | _ => 0

abbrev bufTy : (tb : Table) → Fin (tcTables nBuf tb) → BufTy
  | .hbm, ⟨0, _⟩ => ⟨S32x12, .f32⟩
  | .hbm, ⟨1, _⟩ => ⟨S3x128x256, .i32⟩
  | .hbm, ⟨2, _⟩ => ⟨S3x128x256, .f32⟩
  | .hbm, ⟨3, _⟩ => ⟨S_, .i32⟩
  | .hbm, ⟨4, _⟩ => ⟨S3x128x256, .i32⟩
  | .hbm, ⟨5, _⟩ => ⟨S3x128x256, .i1⟩
  | .hbm, ⟨6, _⟩ => ⟨S_, .i32⟩
  | .hbm, ⟨7, _⟩ => ⟨S3x128x256, .i32⟩
  | .hbm, ⟨8, _⟩ => ⟨S3x128x256, .i32⟩
  | .hbm, ⟨9, _⟩ => ⟨S3x128x256, .i32⟩
  | .hbm, ⟨10, _⟩ => ⟨S3x128x256x1, .i32⟩
  | .hbm, ⟨11, _⟩ => ⟨S3x128x256x12, .f32⟩
  | .hbm, ⟨12, _⟩ => ⟨S3x12x128x256, .f32⟩
  | .hbm, ⟨13, _⟩ => ⟨S3x1x128x256, .f32⟩
  | .hbm, ⟨14, _⟩ => ⟨S3x12x128x256, .f32⟩
  | .hbm, ⟨15, _⟩ => ⟨S3x12x128x256, .f32⟩
  | .hbm, ⟨16, _⟩ => ⟨S3x12x32768, .f32⟩
  | _, _ => ⟨S32x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutLn1.lean ====
abbrev S4096x768 : Shape := ⟨2, ![4096, 768]⟩
abbrev S4096x256 : Shape := ⟨2, ![4096, 256]⟩
abbrev S1x768 : Shape := ⟨2, ![1, 768]⟩
abbrev S1024x1024 : Shape := ⟨2, ![1024, 1024]⟩
abbrev S4096x1024 : Shape := ⟨2, ![4096, 1024]⟩
abbrev S1x1024 : Shape := ⟨2, ![1, 1024]⟩
abbrev S4096x128 : Shape := ⟨2, ![4096, 128]⟩
abbrev S512x768 : Shape := ⟨2, ![512, 768]⟩
abbrev S512x256 : Shape := ⟨2, ![512, 256]⟩
abbrev S512x1024 : Shape := ⟨2, ![512, 1024]⟩
abbrev S512x128 : Shape := ⟨2, ![512, 128]⟩
abbrev S256x768 : Shape := ⟨2, ![256, 768]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩
abbrev S256x128 : Shape := ⟨2, ![256, 128]⟩

abbrev nBuf : Space → Nat
  | .hbm => 14
  | .vmem => 23
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S1x768, .f32⟩
  | .hbm, ⟨3, _⟩ => ⟨S1024x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x256, .bf16⟩
  | .hbm, ⟨8, _⟩ => ⟨S1024x1024, .bf16⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x128, .f32⟩
  | .hbm, ⟨13, _⟩ => ⟨S4096x128, .f32⟩
  | .local _ .vmem, ⟨0, _⟩ => ⟨S512x768, .f32⟩
  | .local _ .vmem, ⟨1, _⟩ => ⟨S512x768, .f32⟩
  | .local _ .vmem, ⟨2, _⟩ => ⟨S512x256, .bf16⟩
  | .local _ .vmem, ⟨3, _⟩ => ⟨S512x256, .bf16⟩
  | .local _ .vmem, ⟨4, _⟩ => ⟨S1x768, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x768, .f32⟩
  | .local _ .vmem, ⟨11, _⟩ => ⟨S512x768, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== OutLn1RefIdeal.lean ====
abbrev S4096x768 : Shape := ⟨2, ![4096, 768]⟩
abbrev S4096x256 : Shape := ⟨2, ![4096, 256]⟩
abbrev S1x768 : Shape := ⟨2, ![1, 768]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S768 : Shape := ⟨1, ![768]⟩
abbrev S4096 : Shape := ⟨1, ![4096]⟩
abbrev S4096x1 : Shape := ⟨2, ![4096, 1]⟩
abbrev S1024 : Shape := ⟨1, ![1024]⟩
abbrev S4096x128 : Shape := ⟨2, ![4096, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S1x768, .f32⟩
  | .hbm, ⟨3, _⟩ => ⟨S1024x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S768, .f32⟩
  | .hbm, ⟨11, _⟩ => ⟨S4096x768, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x768, .f32⟩
  | .hbm, ⟨23, _⟩ => ⟨S4096x768, .f32⟩
  | .hbm, ⟨24, _⟩ => ⟨S1x768, .f32⟩
  | .hbm, ⟨25, _⟩ => ⟨S4096x768, .f32⟩
  | .hbm, ⟨26, _⟩ => ⟨S4096x768, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x768, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1024, .bf16⟩
  | .hbm, ⟨73, _⟩ => ⟨S4096x128, .f32⟩
  | .hbm, ⟨74, _⟩ => ⟨S4096x128, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== ConvFwd.lean ====
abbrev S2x2048x512 : Shape := ⟨3, ![2, 2048, 512]⟩
abbrev S31x256 : Shape := ⟨2, ![31, 256]⟩
abbrev S1x256 : Shape := ⟨2, ![1, 256]⟩
abbrev S2x2048x256 : Shape := ⟨3, ![2, 2048, 256]⟩
abbrev S1x2048x256 : Shape := ⟨3, ![1, 2048, 256]⟩
abbrev S2048x256 : Shape := ⟨2, ![2048, 256]⟩
abbrev S8x256 : Shape := ⟨2, ![8, 256]⟩
abbrev S2040x256 : Shape := ⟨2, ![2040, 256]⟩
abbrev S24x256 : Shape := ⟨2, ![24, 256]⟩
abbrev S2024x256 : Shape := ⟨2, ![2024, 256]⟩
abbrev S16x256 : Shape := ⟨2, ![16, 256]⟩
abbrev S2032x256 : Shape := ⟨2, ![2032, 256]⟩
abbrev S2048 : Shape := ⟨1, ![2048]⟩
abbrev S2048x1 : Shape := ⟨2, ![2048, 1]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x512, .f32⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S2x2048x256, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S31x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x2048x256, .bf16⟩
  | .local _ .vmem, ⟨10, _⟩ => ⟨S1x2048x256, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvFwdRefIdeal.lean ====
abbrev S2x2048x512 : Shape := ⟨3, ![2, 2048, 512]⟩
abbrev S31x256 : Shape := ⟨2, ![31, 256]⟩
abbrev S1x256 : Shape := ⟨2, ![1, 256]⟩
abbrev S2x2048x256 : Shape := ⟨3, ![2, 2048, 256]⟩
abbrev S_ : Shape := ⟨0, ![]⟩
abbrev S256 : Shape := ⟨1, ![256]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2x30x256 : Shape := ⟨3, ![2, 30, 256]⟩
abbrev S2x2078x256 : Shape := ⟨3, ![2, 2078, 256]⟩
abbrev S2048x31x1 : Shape := ⟨3, ![2048, 31, 1]⟩
abbrev S2x2048x31x256 : Shape := ⟨4, ![2, 2048, 31, 256]⟩
abbrev S1x1x31x256 : Shape := ⟨4, ![1, 1, 31, 256]⟩
abbrev S1x1x256 : Shape := ⟨3, ![1, 1, 256]⟩
abbrev S2x2048 : Shape := ⟨2, ![2, 2048]⟩
abbrev S2x2048x1 : Shape := ⟨3, ![2, 2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S2x2048x256, .f32⟩
  | .hbm, ⟨7, _⟩ => ⟨S2x2048x256, .f32⟩
  | .hbm, ⟨8, _⟩ => ⟨S2x2048x256, .f32⟩
  | .hbm, ⟨9, _⟩ => ⟨S2x2048x256, .f32⟩
  | .hbm, ⟨10, _⟩ => ⟨S_, .f32⟩
  | .hbm, ⟨11, _⟩ => ⟨S2x2048x256, .f32⟩
  | .hbm, ⟨12, _⟩ => ⟨S2x2048x256, .f32⟩
  | .hbm, ⟨13, _⟩ => ⟨S_, .f32⟩
  | .hbm, ⟨14, _⟩ => ⟨S2x2048x256, .f32⟩
  | .hbm, ⟨15, _⟩ => ⟨S2x2048x256, .f32⟩
  | .hbm, ⟨16, _⟩ => ⟨S2x2048x256, .f32⟩
  | .hbm, ⟨17, _⟩ => ⟨S256, .f32⟩
  | .hbm, ⟨18, _⟩ => ⟨S2048, .i32⟩
  | .hbm, ⟨19, _⟩ => ⟨S2048x1, .i32⟩
  | .hbm, ⟨20, _⟩ => ⟨S31, .i32⟩
  | .hbm, ⟨21, _⟩ => ⟨S1x31, .i32⟩
  | .hbm, ⟨22, _⟩ => ⟨S2048x31, .i32⟩
  | .hbm, ⟨23, _⟩ => ⟨S2048x31, .i32⟩
  | .hbm, ⟨24, _⟩ => ⟨S2048x31, .i32⟩
  | .hbm, ⟨25, _⟩ => ⟨S_, .f32⟩
  | .hbm, ⟨26, _⟩ => ⟨S2x30x256, .f32⟩
  | .hbm, ⟨27, _⟩ => ⟨S2x2078x256, .f32⟩
  | .hbm, ⟨28, _⟩ => ⟨S_, .i32⟩
  | .hbm, ⟨29, _⟩ => ⟨S2048x31, .i32⟩
  | .hbm, ⟨30, _⟩ => ⟨S2048x31, .i1⟩
  | .hbm, ⟨31, _⟩ => ⟨S_, .i32⟩
  | .hbm, ⟨32, _⟩ => ⟨S2048x31, .i32⟩
  | .hbm, ⟨33, _⟩ => ⟨S2048x31, .i32⟩
  | .hbm, ⟨34, _⟩ => ⟨S2048x31, .i32⟩
  | .hbm, ⟨35, _⟩ => ⟨S2048x31x1, .i32⟩
  | .hbm, ⟨36, _⟩ => ⟨S2x2048x31x256, .f32⟩
  | .hbm, ⟨37, _⟩ => ⟨S1x1x31x256, .f32⟩
  | .hbm, ⟨38, _⟩ => ⟨S2x2048x31x256, .f32⟩
  | .hbm, ⟨39, _⟩ => ⟨S2x2048x31x256, .f32⟩
  | .hbm, ⟨40, _⟩ => ⟨S_, .f32⟩
  | .hbm, ⟨41, _⟩ => ⟨S2x2048x256, .f32⟩
  | .hbm, ⟨42, _⟩ => ⟨S1x1x256, .f32⟩
  | .hbm, ⟨43, _⟩ => ⟨S2x2048x256, .f32⟩
  | .hbm, ⟨44, _⟩ => ⟨S2x2048x256, .f32⟩
  | .hbm, ⟨45, _⟩ => ⟨S256, .f32⟩
  | .hbm, ⟨46, _⟩ => ⟨S256, .f32⟩
  | .hbm, ⟨47, _⟩ => ⟨S_, .f32⟩
  | .hbm, ⟨48, _⟩ => ⟨S2x2048, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S2x2048x256, .f32⟩
  | .hbm, ⟨54, _⟩ => ⟨S2x2048x256, .f32⟩
  | .hbm, ⟨55, _⟩ => ⟨S2x2048x256, .f32⟩
  | .hbm, ⟨56, _⟩ => ⟨S_, .f32⟩
  | .hbm, ⟨57, _⟩ => ⟨S2x2048, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S2x2048x256, .f32⟩
  | .hbm, ⟨63, _⟩ => ⟨S2x2048x256, .f32⟩
  | .hbm, ⟨64, _⟩ => ⟨S_, .f32⟩
  | .hbm, ⟨65, _⟩ => ⟨S2x2048x1, .f32⟩
  | .hbm, ⟨66, _⟩ => ⟨S2x2048x1, .f32⟩
  | .hbm, ⟨67, _⟩ => ⟨S2x2048x1, .f32⟩
  | .hbm, ⟨68, _⟩ => ⟨S2x2048x256, .f32⟩
  | .hbm, ⟨69, _⟩ => ⟨S2x2048x256, .f32⟩
  | .hbm, ⟨70, _⟩ => ⟨S1x1x256, .f32⟩
  | .hbm, ⟨71, _⟩ => ⟨S2x2048x256, .f32⟩
  | .hbm, ⟨72, _⟩ => ⟨S2x2048x256, .f32⟩
  | .hbm, ⟨73, _⟩ => ⟨S1x1x256, .f32⟩
  | .hbm, ⟨74, _⟩ => ⟨S2x2048x256, .f32⟩
  | .hbm, ⟨75, _⟩ => ⟨S2x2048x256, .f32⟩
  | .hbm, ⟨76, _⟩ => ⟨S2x2048x256, .f32⟩
  | .hbm, ⟨77, _⟩ => ⟨S2x2048x256, .f32⟩
  | .hbm, ⟨78, _⟩ => ⟨S_, .f32⟩
  | .hbm, ⟨79, _⟩ => ⟨S2x2048x256, .f32⟩
  | .hbm, ⟨80, _⟩ => ⟨S2x2048x256, .f32⟩
  | .hbm, ⟨81, _⟩ => ⟨S_, .f32⟩
  | .hbm, ⟨82, _⟩ => ⟨S2x2048x256, .f32⟩
  | .hbm, ⟨83, _⟩ => ⟨S2x2048x256, .f32⟩
  | .hbm, ⟨84, _⟩ => ⟨S2x2048x256, .f32⟩
  | .hbm, ⟨85, _⟩ => ⟨S256, .f32⟩
  | .hbm, ⟨86, _⟩ => ⟨S2x2048x256, .f32⟩
  | .hbm, ⟨87, _⟩ => ⟨S_, .f32⟩
  | .hbm, ⟨88, _⟩ => ⟨S2x2048, .f32⟩
  | .hbm, ⟨89, _⟩ => ⟨S2x2048x1, .f32⟩
  | .hbm, ⟨90, _⟩ => ⟨S_, .f32⟩
  | .hbm, ⟨91, _⟩ => ⟨S2x2048x1, .f32⟩
  | .hbm, ⟨92, _⟩ => ⟨S2x2048x1, .f32⟩
  | .hbm, ⟨93, _⟩ => ⟨S_, .f32⟩
  | .hbm, ⟨94, _⟩ => ⟨S2x2048x1, .f32⟩
  | .hbm, ⟨95, _⟩ => ⟨S2x2048x1, .f32⟩
  | .hbm, ⟨96, _⟩ => ⟨S2x2048x1, .f32⟩
  | .hbm, ⟨97, _⟩ => ⟨S2x2048x256, .f32⟩
  | .hbm, ⟨98, _⟩ => ⟨S2x2048x256, .f32⟩
  | .hbm, ⟨99, _⟩ => ⟨S1x1x256, .f32⟩
  | .hbm, ⟨100, _⟩ => ⟨S2x2048x256, .f32⟩
  | .hbm, ⟨101, _⟩ => ⟨S2x2048x256, .f32⟩
  | .hbm, ⟨102, _⟩ => ⟨S2x2048x256, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== FfnFwd.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S1024x4x1408 : Shape := ⟨3, ![1024, 4, 1408]⟩
abbrev S4x1024x1408 : Shape := ⟨3, ![4, 1024, 1408]⟩
abbrev S2x2048x1024 : Shape := ⟨3, ![2, 2048, 1024]⟩
abbrev S2x2048x2816 : Shape := ⟨3, ![2, 2048, 2816]⟩
abbrev S2x2048x5632 : Shape := ⟨3, ![2, 2048, 5632]⟩
abbrev S1x1024x128 : Shape := ⟨3, ![1, 1024, 128]⟩
abbrev S3x128 : Shape := ⟨2, ![3, 128]⟩
abbrev S1x128 : Shape := ⟨2, ![1, 128]⟩
abbrev S2x2048x128 : Shape := ⟨3, ![2, 2048, 128]⟩
abbrev S2x2048x256 : Shape := ⟨3, ![2, 2048, 256]⟩
abbrev S1024x128 : Shape := ⟨2, ![1024, 128]⟩
abbrev S1024x256 : Shape := ⟨2, ![1024, 256]⟩
abbrev S1040x128 : Shape := ⟨2, ![1040, 128]⟩
abbrev S1x1040x1024 : Shape := ⟨3, ![1, 1040, 1024]⟩
abbrev S1040x1024 : Shape := ⟨2, ![1040, 1024]⟩
abbrev S1040x256 : Shape := ⟨2, ![1040, 256]⟩
abbrev S1x1024x256 : Shape := ⟨3, ![1, 1024, 256]⟩
abbrev S8x128 : Shape := ⟨2, ![8, 128]⟩
abbrev S1032x128 : Shape := ⟨2, ![1032, 128]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S4096x1024, .bf16⟩
  | .hbm, ⟨8, _⟩ => ⟨S2x2048x1024, .bf16⟩
  | .hbm, ⟨9, _⟩ => ⟨S2x2048x2816, .bf16⟩
  | .hbm, ⟨10, _⟩ => ⟨S2x2048x5632, .f32⟩
  | .local _ .vmem, ⟨0, _⟩ => ⟨S2x2048x1024, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2x2048x128, .bf16⟩
  | .local _ .vmem, ⟨14, _⟩ => ⟨S2x2048x128, .bf16⟩
  | .local _ .vmem, ⟨15, _⟩ => ⟨S2x2048x256, .f32⟩
  | .local _ .vmem, ⟨16, _⟩ => ⟨S2x2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c11_i32 : BitVec 32 := 11#32
  let v1 : BitVec 32 := Scalar.divsi v0 c11_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c11_i32 c0_i32_2
  let v8 : BitVec 32 := Scalar.extui v7
  let c0_i32_3 : BitVec 32 := 0#32
  let v9 : BitVec 1 := Scalar.cmpi .slt c11_i32 c0_i32_3
  let v10 : BitVec 32 := Scalar.extui v9
  let v11 : BitVec 32 := Scalar.subi v8 v10
  let v12 : BitVec 1 := Scalar.cmpi .ne v6 v11
  let v13 : BitVec 32 := Scalar.remsi v0 c11_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 3 → Nat :=
  let arg0 : BitVec 32 := BitVec.ofNat 32 (i 0).val
  let c22_i32 : BitVec 32 := 22#32
  let v0 : BitVec 32 := Scalar.addi c22_i32 arg0
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi c22_i32_4 arg0
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S4096x5632 : Shape := ⟨2, ![4096, 5632]⟩
abbrev S2x2048x5632 : Shape := ⟨3, ![2, 2048, 5632]⟩
abbrev S5632 : Shape := ⟨1, ![5632]⟩
abbrev S3x1x5632 : Shape := ⟨3, ![3, 1, 5632]⟩
abbrev S3x2048x5632 : Shape := ⟨3, ![3, 2048, 5632]⟩
abbrev S2048x5632 : Shape := ⟨2, ![2048, 5632]⟩
abbrev S_ : Shape := ⟨0, ![]⟩
abbrev S2x2x5632 : Shape := ⟨3, ![2, 2, 5632]⟩
abbrev S2x1x5632 : Shape := ⟨3, ![2, 1, 5632]⟩
abbrev S2x2047x5632 : Shape := ⟨3, ![2, 2047, 5632]⟩
abbrev S2x2046x5632 : Shape := ⟨3, ![2, 2046, 5632]⟩
abbrev S1x2048x5632 : Shape := ⟨3, ![1, 2048, 5632]⟩
abbrev S2x2048x2816 : Shape := ⟨3, ![2, 2048, 2816]⟩
abbrev S2x2048x2x22x128 : Shape := ⟨5, ![2, 2048, 2, 22, 128]⟩
abbrev S2x2048x22x2x128 : Shape := ⟨5, ![2, 2048, 22, 2, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S4096x5632, .f32⟩
  | .hbm, ⟨5, _⟩ => ⟨S2x2048x5632, .f32⟩
  | .hbm, ⟨6, _⟩ => ⟨S5632, .f32⟩
  | .hbm, ⟨7, _⟩ => ⟨S3x1x5632, .f32⟩
  | .hbm, ⟨8, _⟩ => ⟨S3x2048x5632, .f32⟩
  | .hbm, ⟨9, _⟩ => ⟨S2048x5632, .f32⟩
  | .hbm, ⟨10, _⟩ => ⟨S_, .f32⟩
  | .hbm, ⟨11, _⟩ => ⟨S2x2x5632, .f32⟩
  | .hbm, ⟨12, _⟩ => ⟨S2x1x5632, .f32⟩
  | .hbm, ⟨13, _⟩ => ⟨S2x2047x5632, .f32⟩
  | .hbm, ⟨14, _⟩ => ⟨S2x2048x5632, .f32⟩
  | .hbm, ⟨15, _⟩ => ⟨S2x2046x5632, .f32⟩
  | .hbm, ⟨16, _⟩ => ⟨S2x2048x5632, .f32⟩
  | .hbm, ⟨17, _⟩ => ⟨S1x2048x5632, .f32⟩
  | .hbm, ⟨18, _⟩ => ⟨S2048x5632, .f32⟩
  | .hbm, ⟨19, _⟩ => ⟨S1x2048x5632, .f32⟩
  | .hbm, ⟨20, _⟩ => ⟨S2x2048x5632, .f32⟩
  | .hbm, ⟨21, _⟩ => ⟨S2x2048x5632, .f32⟩
  | .hbm, ⟨22, _⟩ => ⟨S1x2048x5632, .f32⟩
  | .hbm, ⟨23, _⟩ => ⟨S2048x5632, .f32⟩
  | .hbm, ⟨24, _⟩ => ⟨S1x2048x5632, .f32⟩
  | .hbm, ⟨25, _⟩ => ⟨S2x2048x5632, .f32⟩
  | .hbm, ⟨26, _⟩ => ⟨S2x2048x5632, .f32⟩
  | .hbm, ⟨27, _⟩ => ⟨S2x2048x5632, .f32⟩
  | .hbm, ⟨28, _⟩ => ⟨S1x2048x5632, .f32⟩
  | .hbm, ⟨29, _⟩ => ⟨S2048x5632, .f32⟩
  | .hbm, ⟨30, _⟩ => ⟨S1x2048x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S1x2048x5632, .f32⟩
  | .hbm, ⟨35, _⟩ => ⟨S2x2048x5632, .f32⟩
  | .hbm, ⟨36, _⟩ => ⟨S2x2048x5632, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S_, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .bf16⟩
  | .hbm, ⟨50, _⟩ => ⟨S2x2048x2x22x128, .f32⟩
  | .hbm, ⟨51, _⟩ => ⟨S2x2048x22x2x128, .f32⟩
  | .hbm, ⟨52, _⟩ => ⟨S2x2048x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== ConvBwd.lean ====
abbrev S2x2048x512 : Shape := ⟨3, ![2, 2048, 512]⟩
abbrev S2x2048x256 : Shape := ⟨3, ![2, 2048, 256]⟩
abbrev S31x256 : Shape := ⟨2, ![31, 256]⟩
abbrev S1x256 : Shape := ⟨2, ![1, 256]⟩
abbrev S1x2048x256 : Shape := ⟨3, ![1, 2048, 256]⟩
abbrev S1x2048x512 : Shape := ⟨3, ![1, 2048, 512]⟩
abbrev S2048x256 : Shape := ⟨2, ![2048, 256]⟩
abbrev S8x256 : Shape := ⟨2, ![8, 256]⟩
abbrev S2040x256 : Shape := ⟨2, ![2040, 256]⟩
abbrev S24x256 : Shape := ⟨2, ![24, 256]⟩
abbrev S2024x256 : Shape := ⟨2, ![2024, 256]⟩
abbrev S16x256 : Shape := ⟨2, ![16, 256]⟩
abbrev S2032x256 : Shape := ⟨2, ![2032, 256]⟩
abbrev S2048 : Shape := ⟨1, ![2048]⟩
abbrev S2048x1 : Shape := ⟨2, ![2048, 1]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x256, .f32⟩
  | .hbm, ⟨2, _⟩ => ⟨S31x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S2x2048x512, .f32⟩
  | .hbm, ⟨8, _⟩ => ⟨S31x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S31x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x2048x512, .f32⟩
  | .local _ .vmem, ⟨12, _⟩ => ⟨S1x2048x512, .f32⟩
  | .local _ .vmem, ⟨13, _⟩ => ⟨S31x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![2], ![false]⟩

def k0_cond7 (i : grid0.Coords) : BitVec 1 :=
  let arg0 : BitVec 32 := BitVec.ofNat 32 (i 0).val
  let c0_i32 : BitVec 32 := 0#32
  let v355 : BitVec 1 := Scalar.cmpi .eq arg0 c0_i32
  let v383 : BitVec 32 := Scalar.extui v355
  let c0_i32_121 : BitVec 32 := 0#32
  let v384 : BitVec 1 := Scalar.cmpi .ne v383 c0_i32_121
  v384

def k0_cond8 (i : grid0.Coords) : BitVec 1 :=
  let arg0 : BitVec 32 := BitVec.ofNat 32 (i 0).val
  let c0_i32 : BitVec 32 := 0#32
  let v355 : BitVec 1 := Scalar.cmpi .eq arg0 c0_i32
  let true_122 : BitVec 1 := 1#1
  let v385 : BitVec 1 := Scalar.xori v355 true_122
  let v386 : BitVec 32 := Scalar.extui v385
  let c0_i32_123 : BitVec 32 := 0#32
  let v387 : BitVec 1 := Scalar.cmpi .ne v386 c0_i32_123
  v387

def k0_cond3 (i : grid0.Coords) : BitVec 1 :=
  let arg0 : BitVec 32 := BitVec.ofNat 32 (i 0).val
  let c0_i32 : BitVec 32 := 0#32
  let v355 : BitVec 1 := Scalar.cmpi .eq arg0 c0_i32
  let v369 : BitVec 32 := Scalar.extui v355
  let c0_i32_113 : BitVec 32 := 0#32
  let v370 : BitVec 1 := Scalar.cmpi .ne v369 c0_i32_113
  v370

def k0_cond4 (i : grid0.Coords) : BitVec 1 :=
  let arg0 : BitVec 32 := BitVec.ofNat 32 (i 0).val
  let c0_i32 : BitVec 32 := 0#32
  let v355 : BitVec 1 := Scalar.cmpi .eq arg0 c0_i32
  let true_114 : BitVec 1 := 1#1
  let v371 : BitVec 1 := Scalar.xori v355 true_114
  let v372 : BitVec 32 := Scalar.extui v371
  let c0_i32_115 : BitVec 32 := 0#32
  let v373 : BitVec 1 := Scalar.cmpi .ne v372 c0_i32_115
  v373

def k0_cond5 (i : grid0.Coords) : BitVec 1 :=
  let arg0 : BitVec 32 := BitVec.ofNat 32 (i 0).val
  let c0_i32 : BitVec 32 := 0#32
  let v355 : BitVec 1 := Scalar.cmpi .eq arg0 c0_i32
  let v376 : BitVec 32 := Scalar.extui v355
  let c0_i32_117 : BitVec 32 := 0#32
  let v377 : BitVec 1 := Scalar.cmpi .ne v376 c0_i32_117
  v377

def k0_cond6 (i : grid0.Coords) : BitVec 1 :=
  let arg0 : BitVec 32 := BitVec.ofNat 32 (i 0).val
  let c0_i32 : BitVec 32 := 0#32
  let v355 : BitVec 1 := Scalar.cmpi .eq arg0 c0_i32
  let true_118 : BitVec 1 := 1#1
  let v378 : BitVec 1 := Scalar.xori v355 true_118
  let v379 : BitVec 32 := Scalar.extui v378
  let c0_i32_119 : BitVec 32 := 0#32
  let v380 : BitVec 1 := Scalar.cmpi .ne v379 c0_i32_119
  v380

def k0_cond1 (i : grid0.Coords) : BitVec 1 :=
  let arg0 : BitVec 32 := BitVec.ofNat 32 (i 0).val
  let c0_i32 : BitVec 32 := 0#32
  let v355 : BitVec 1 := Scalar.cmpi .eq arg0 c0_i32
  let v361 : BitVec 32 := Scalar.extui v355
  let c0_i32_110 : BitVec 32 := 0#32
  let v362 : BitVec 1 := Scalar.cmpi .ne v361 c0_i32_110
  v362

def k0_cond2 (i : grid0.Coords) : BitVec 1 :=
  let arg0 : BitVec 32 := BitVec.ofNat 32 (i 0).val
  let c0_i32 : BitVec 32 := 0#32
  let v355 : BitVec 1 := Scalar.cmpi .eq arg0 c0_i32
  let v_true : BitVec 1 := 1#1
  let v363 : BitVec 1 := Scalar.xori v355 v_true
  let v364 : BitVec 32 := Scalar.extui v363
  let c0_i32_111 : BitVec 32 := 0#32
  let v365 : BitVec 1 := Scalar.cmpi .ne v364 c0_i32_111
  v365

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S31x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvBwdRefIdeal.lean ====
abbrev S2x2048x512 : Shape := ⟨3, ![2, 2048, 512]⟩
abbrev S2x2048x256 : Shape := ⟨3, ![2, 2048, 256]⟩
abbrev S31x256 : Shape := ⟨2, ![31, 256]⟩
abbrev S1x256 : Shape := ⟨2, ![1, 256]⟩
abbrev S_ : Shape := ⟨0, ![]⟩
abbrev S256 : Shape := ⟨1, ![256]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2x30x256 : Shape := ⟨3, ![2, 30, 256]⟩
abbrev S2x2078x256 : Shape := ⟨3, ![2, 2078, 256]⟩
abbrev S2048x31x1 : Shape := ⟨3, ![2048, 31, 1]⟩
abbrev S2x2048x31x256 : Shape := ⟨4, ![2, 2048, 31, 256]⟩
abbrev S1x1x31x256 : Shape := ⟨4, ![1, 1, 31, 256]⟩
abbrev S1x1x256 : Shape := ⟨3, ![1, 1, 256]⟩
abbrev S2x2048 : Shape := ⟨2, ![2, 2048]⟩
abbrev S2x2048x1 : Shape := ⟨3, ![2, 2048, 1]⟩

abbrev nBuf : Space → Nat
  | .hbm => 225
  | .vmem => 0
  | .smem => 0
  | _ => 0

abbrev hbmTy0_0 (i : Nat) : BufTy := match i % 128 with
  | 0 => ⟨S2x2048x512, .f32⟩
  | 1 => ⟨S2x2048x256, .f32⟩
  | 2 => ⟨S31x256, .f32⟩
  | 3 => ⟨S1x256, .f32⟩
  | 4 => ⟨S1x256, .f32⟩
  | 5 => ⟨S1x256, .f32⟩
  | 6 => ⟨S1x256, .f32⟩
  | 7 => ⟨S2x2048x256, .f32⟩
  | 8 => ⟨S2x2048x256, .f32⟩
  | 9 => ⟨S2x2048x256, .f32⟩
  | 10 => ⟨S2x2048x256, .f32⟩
  | 11 => ⟨S_, .f32⟩
  | 12 => ⟨S2x2048x256, .f32⟩
  | 13 => ⟨S2x2048x256, .f32⟩
  | 14 => ⟨S_, .f32⟩
  | 15 => ⟨S2x2048x256, .f32⟩
  | 16 => ⟨S2x2048x256, .f32⟩
  | 17 => ⟨S_, .f32⟩
  | 18 => ⟨S2x2048x256, .f32⟩
  | 19 => ⟨S2x2048x256, .f32⟩
  | 20 => ⟨S2x2048x256, .f32⟩
  | 21 => ⟨S2x2048x256, .f32⟩
  | 22 => ⟨S256, .f32⟩
  | 23 => ⟨S2048, .i32⟩
  | 24 => ⟨S2048x1, .i32⟩
  | 25 => ⟨S31, .i32⟩
  | 26 => ⟨S1x31, .i32⟩
  | 27 => ⟨S2048x31, .i32⟩
  | 28 => ⟨S2048x31, .i32⟩
  | 29 => ⟨S2048x31, .i32⟩
  | 30 => ⟨S_, .f32⟩
  | 31 => ⟨S2x30x256, .f32⟩
  | 32 => ⟨S2x2078x256, .f32⟩
  | 33 => ⟨S_, .f32⟩
  | 34 => ⟨S2x30x256, .f32⟩
  | 35 => ⟨S_, .i32⟩
  | 36 => ⟨S2048x31, .i32⟩
  | 37 => ⟨S2048x31, .i1⟩
  | 38 => ⟨S_, .i32⟩
  | 39 => ⟨S2048x31, .i32⟩
  | 40 => ⟨S2048x31, .i32⟩
  | 41 => ⟨S2048x31, .i32⟩
  | 42 => ⟨S2048x31x1, .i32⟩
  | 43 => ⟨S2x2048x31x256, .f32⟩
  | 44 => ⟨S1x1x31x256, .f32⟩
  | 45 => ⟨S2x2048x31x256, .f32⟩
  | 46 => ⟨S2x2048x31x256, .f32⟩
  | 47 => ⟨S_, .f32⟩
  | 48 => ⟨S2x2048x256, .f32⟩
  | 49 => ⟨S1x1x256, .f32⟩
  | 50 => ⟨S2x2048x256, .f32⟩
  | 51 => ⟨S2x2048x256, .f32⟩
  | 52 => ⟨S256, .f32⟩
  | 53 => ⟨S256, .f32⟩
  | 54 => ⟨S_, .f32⟩
  | 55 => ⟨S2x2048, .f32⟩
  | 56 => ⟨S2x2048x1, .f32⟩
  | 57 => ⟨S_, .f32⟩
  | 58 => ⟨S2x2048x1, .f32⟩
  | 59 => ⟨S2x2048x1, .f32⟩
  | 60 => ⟨S2x2048x256, .f32⟩
  | 61 => ⟨S2x2048x256, .f32⟩
  | 62 => ⟨S2x2048x256, .f32⟩
  | 63 => ⟨S_, .f32⟩
  | 64 => ⟨S2x2048x256, .f32⟩
  | 65 => ⟨S2x2048x256, .f32⟩
  | 66 => ⟨S_, .f32⟩
  | 67 => ⟨S2x2048, .f32⟩
  | 68 => ⟨S2x2048x1, .f32⟩
  | 69 => ⟨S_, .f32⟩
  | 70 => ⟨S2x2048x1, .f32⟩
  | 71 => ⟨S2x2048x1, .f32⟩
  | 72 => ⟨S2x2048x256, .f32⟩
  | 73 => ⟨S2x2048x256, .f32⟩
  | 74 => ⟨S_, .f32⟩
  | 75 => ⟨S2x2048x1, .f32⟩
  | 76 => ⟨S2x2048x1, .f32⟩
  | 77 => ⟨S2x2048x1, .f32⟩
  | 78 => ⟨S2x2048x1, .f32⟩
  | 79 => ⟨S_, .f32⟩
  | 80 => ⟨S2x2048x1, .f32⟩
  | 81 => ⟨S2x2048x1, .f32⟩
  | 82 => ⟨S2x2048x256, .f32⟩
  | 83 => ⟨S2x2048x256, .f32⟩
  | 84 => ⟨S1x1x256, .f32⟩
  | 85 => ⟨S2x2048x256, .f32⟩
  | 86 => ⟨S2x2048x256, .f32⟩
  | 87 => ⟨S1x1x256, .f32⟩
  | 88 => ⟨S2x2048x256, .f32⟩
  | 89 => ⟨S2x2048x256, .f32⟩
  | 90 => ⟨S2x2048x256, .f32⟩
  | 91 => ⟨S2x2048x256, .f32⟩
  | 92 => ⟨S_, .f32⟩
  | 93 => ⟨S2x2048x256, .f32⟩
  | 94 => ⟨S2x2048x256, .f32⟩
  | 95 => ⟨S_, .f32⟩
  | 96 => ⟨S2x2048x256, .f32⟩
  | 97 => ⟨S2x2048x256, .f32⟩
  | 98 => ⟨S_, .f32⟩
  | 99 => ⟨S2x2048x256, .f32⟩
  | 100 => ⟨S2x2048x256, .f32⟩
  | 101 => ⟨S2x2048x256, .f32⟩
  | 102 => ⟨S2x2048x256, .f32⟩
  | 103 => ⟨S256, .f32⟩
  | 104 => ⟨S2x2048x256, .f32⟩
  | 105 => ⟨S_, .f32⟩
  | 106 => ⟨S2x2048x256, .f32⟩
  | 107 => ⟨S2x2048x256, .f32⟩
  | 108 => ⟨S_, .f32⟩
  | 109 => ⟨S2x2048, .f32⟩
  | 110 => ⟨S2x2048x1, .f32⟩
  | 111 => ⟨S_, .f32⟩
  | 112 => ⟨S2x2048x1, .f32⟩
  | 113 => ⟨S2x2048x1, .f32⟩
  | 114 => ⟨S_, .f32⟩
  | 115 => ⟨S2x2048x1, .f32⟩
  | 116 => ⟨S2x2048x1, .f32⟩
  | 117 => ⟨S2x2048x1, .f32⟩
  | 118 => ⟨S2x2048x1, .f32⟩
  | 119 => ⟨S_, .f32⟩
  | 120 => ⟨S2x2048x1, .f32⟩
  | 121 => ⟨S2x2048x1, .f32⟩
  | 122 => ⟨S2x2048x256, .f32⟩
  | 123 => ⟨S2x2048x256, .f32⟩
  | 124 => ⟨S1x1x256, .f32⟩
  | 125 => ⟨S2x2048x256, .f32⟩
  | 126 => ⟨S2x2048x256, .f32⟩
  | 127 => ⟨S2x2048x256, .f32⟩
  | _ => ⟨S2x2048x512, .f32⟩

abbrev hbmTy0_1 (i : Nat) : BufTy := match i % 128 with
  | 0 => ⟨S_, .f32⟩
  | 1 => ⟨S256, .f32⟩
  | 2 => ⟨S1x1x256, .f32⟩
  | 3 => ⟨S2x2048x256, .f32⟩
  | 4 => ⟨S2x2048x256, .f32⟩
  | 5 => ⟨S_, .f32⟩
  | 6 => ⟨S256, .f32⟩
  | 7 => ⟨S2x2048x256, .f32⟩
  | 8 => ⟨S_, .f32⟩
  | 9 => ⟨S2x2048, .f32⟩
  | 10 => ⟨S2x2048x1, .f32⟩
  | 11 => ⟨S2x2048x256, .f32⟩
  | 12 => ⟨S2x2048x256, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048, .f32⟩
  | 19 => ⟨S2x2048x256, .f32⟩
  | 20 => ⟨S2x2048x256, .f32⟩
  | 21 => ⟨S2x2048x256, .f32⟩
  | 22 => ⟨S1x256, .f32⟩
  | 23 => ⟨S2x2048x256, .f32⟩
  | 24 => ⟨S2x2048x256, .f32⟩
  | 25 => ⟨S2x2048x256, .f32⟩
  | 26 => ⟨S2x2048x256, .f32⟩
  | 27 => ⟨S_, .f32⟩
  | 28 => ⟨S256, .f32⟩
  | 29 => ⟨S1x1x256, .f32⟩
  | 30 => ⟨S_, .f32⟩
  | 31 => ⟨S256, .f32⟩
  | 32 => ⟨S2x2048x256, .f32⟩
  | 33 => ⟨S_, .f32⟩
  | 34 => ⟨S256, .f32⟩
  | 35 => ⟨S1x1x256, .f32⟩
  | 36 => ⟨S2x2048x256, .f32⟩
  | 37 => ⟨S2x2048x256, .f32⟩
  | 38 => ⟨S_, .f32⟩
  | 39 => ⟨S256, .f32⟩
  | 40 => ⟨S2x2048x256, .f32⟩
  | 41 => ⟨S_, .f32⟩
  | 42 => ⟨S2x2048, .f32⟩
  | 43 => ⟨S2x2048x1, .f32⟩
  | 44 => ⟨S2x2048x256, .f32⟩
  | 45 => ⟨S2x2048x256, .f32⟩
  | 46 => ⟨S2x2048x1, .f32⟩
  | 47 => ⟨S2x2048x256, .f32⟩
  | 48 => ⟨S_, .f32⟩
  | 49 => ⟨S2x2048, .f32⟩
  | 50 => ⟨S2x2048x1, .f32⟩
  | 51 => ⟨S_, .f32⟩
  | 52 => ⟨S2x2048x1, .f32⟩
  | 53 => ⟨S2x2048x1, .f32⟩
  | 54 => ⟨S_, .f32⟩
  | 55 => ⟨S2x2048, .f32⟩
  | 56 => ⟨S2x2048x256, .f32⟩
  | 57 => ⟨S2x2048x256, .f32⟩
  | 58 => ⟨S2x2048x256, .f32⟩
  | 59 => ⟨S_, .f32⟩
  | 60 => ⟨S2x2048, .f32⟩
  | 61 => ⟨S2x2048x1, .f32⟩
  | 62 => ⟨S2x2048x256, .f32⟩
  | 63 => ⟨S2x2048x1, .f32⟩
  | 64 => ⟨S_, .f32⟩
  | 65 => ⟨S2x2048x1, .f32⟩
  | 66 => ⟨S2x2048x1, .f32⟩
  | 67 => ⟨S_, .f32⟩
  | 68 => ⟨S2x2048, .f32⟩
  | 69 => ⟨S2x2048x256, .f32⟩
  | 70 => ⟨S2x2048x256, .f32⟩
  | 71 => ⟨S1x256, .f32⟩
  | 72 => ⟨S1x256, .f32⟩
  | 73 => ⟨S_, .f32⟩
  | 74 => ⟨S256, .f32⟩
  | 75 => ⟨S1x1x256, .f32⟩
  | 76 => ⟨S_, .f32⟩
  | 77 => ⟨S256, .f32⟩
  | 78 => ⟨S2x2048x31x256, .f32⟩
  | 79 => ⟨S2x2048x31x256, .f32⟩
  | 80 => ⟨S_, .f32⟩
  | 81 => ⟨S31x256, .f32⟩
  | 82 => ⟨S1x1x31x256, .f32⟩
  | 83 => ⟨S2x2048x31x256, .f32⟩
  | 84 => ⟨S2x2048x31x256, .f32⟩
  | 85 => ⟨S_, .f32⟩
  | 86 => ⟨S31x256, .f32⟩
  | 87 => ⟨S_, .f32⟩
  | 88 => ⟨S2x2078x256, .f32⟩
  | 89 => ⟨S2x2078x256, .f32⟩
  | 90 => ⟨S2x30x256, .f32⟩
  | 91 => ⟨S2x2048x256, .f32⟩
  | 92 => ⟨S1x256, .f32⟩
  | 93 => ⟨S2x2048x256, .f32⟩
  | 94 => ⟨S2x2048x256, .f32⟩
  | 95 => ⟨S2x2048x256, .f32⟩
  | 96 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_v68_2 : Ref sig .tc := ⟨.hbm, 97, rfl⟩
abbrev main_call0_cst_1 : Ref sig .tc := ⟨.hbm, 98, rfl⟩
abbrev main_call0_v6 : Ref sig .tc := ⟨.hbm, 99, rfl⟩
abbrev main_call0_v7 : Ref sig .tc := ⟨.hbm, 100, rfl⟩
abbrev main_v68_1 : Ref sig .tc := ⟨.hbm, 101, rfl⟩
abbrev main_v68_0 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_21 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_v107 : Ref sig .tc := ⟨.hbm, 154, rfl⟩
abbrev main_cst_23 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_cst_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_26 : Ref sig .tc := ⟨.hbm, 166, rfl⟩
abbrev main_v116 : Ref sig .tc := ⟨.hbm, 167, rfl⟩
abbrev main_v117 : Ref sig .tc := ⟨.hbm, 168, rfl⟩
abbrev main_cst_27 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_28 : Ref sig .tc := ⟨.hbm, 176, rfl⟩
abbrev main_v124 : Ref sig .tc := ⟨.hbm, 177, rfl⟩
abbrev main_v125 : Ref sig .tc := ⟨.hbm, 178, rfl⟩
abbrev main_cst_29 : Ref sig .tc := ⟨.hbm, 179, rfl⟩
abbrev main_v126 : Ref sig .tc := ⟨.hbm, 180, rfl⟩
abbrev main_v127 : Ref sig .tc := ⟨.hbm, 181, rfl⟩
abbrev main_cst_30 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_31 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_32 : Ref sig .tc := ⟨.hbm, 192, rfl⟩
abbrev main_v136 : Ref sig .tc := ⟨.hbm, 193, rfl⟩
abbrev main_v137 : Ref sig .tc := ⟨.hbm, 194, rfl⟩
abbrev main_cst_33 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_34 : Ref sig .tc := ⟨.hbm, 201, rfl⟩
abbrev main_v143 : Ref sig .tc := ⟨.hbm, 202, rfl⟩
abbrev main_v144 : Ref sig .tc := ⟨.hbm, 203, rfl⟩
abbrev main_cst_35 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_36 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_37 : Ref sig .tc := ⟨.hbm, 213, rfl⟩
abbrev main_v152 : Ref sig .tc := ⟨.hbm, 214, rfl⟩
abbrev main_cst_38 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩

abbrev nD : Nat := 1
abbrev τ : Topo := Topo.v7x

variable {F : FTy → Type} [FloatOps F]
-- ==== AttnBwd.lean ====
abbrev S2x2048x2304 : Shape := ⟨3, ![2, 2048, 2304]⟩
abbrev S1x2304 : Shape := ⟨2, ![1, 2304]⟩
abbrev S3x12x128x256 : Shape := ⟨4, ![3, 12, 128, 256]⟩
abbrev S2x2048x768 : Shape := ⟨3, ![2, 2048, 768]⟩
abbrev S2304 : Shape := ⟨1, ![2304]⟩
abbrev S1x1x2304 : Shape := ⟨3, ![1, 1, 2304]⟩
abbrev S2x2048x36x64 : Shape := ⟨4, ![2, 2048, 36, 64]⟩
abbrev S2x2048x1x36x64 : Shape := ⟨5, ![2, 2048, 1, 36, 64]⟩
abbrev S2x36x1x2048x64 : Shape := ⟨5, ![2, 36, 1, 2048, 64]⟩
abbrev S2x36x16x128x64 : Shape := ⟨5, ![2, 36, 16, 128, 64]⟩
abbrev S2x512x4x36x64 : Shape := ⟨5, ![2, 512, 4, 36, 64]⟩
abbrev S2x36x4x512x64 : Shape := ⟨5, ![2, 36, 4, 512, 64]⟩
abbrev S2x128x16x36x64 : Shape := ⟨5, ![2, 128, 16, 36, 64]⟩
abbrev S1x2x36x16x128x64 : Shape := ⟨6, ![1, 2, 36, 16, 128, 64]⟩
abbrev S3x2x36x16x128x64 : Shape := ⟨6, ![3, 2, 36, 16, 128, 64]⟩
abbrev S3x2x12x16x128x64 : Shape := ⟨6, ![3, 2, 12, 16, 128, 64]⟩
abbrev S3x2x24x16x128x64 : Shape := ⟨6, ![3, 2, 24, 16, 128, 64]⟩
abbrev S_ : Shape := ⟨0, ![]⟩
abbrev S3x2x24x1x128x64 : Shape := ⟨6, ![3, 2, 24, 1, 128, 64]⟩
abbrev S3x2x24x15x128x64 : Shape := ⟨6, ![3, 2, 24, 15, 128, 64]⟩
abbrev S3x2x24x16x256x64 : Shape := ⟨6, ![3, 2, 24, 16, 256, 64]⟩
abbrev S3x2x12x16x256x64 : Shape := ⟨6, ![3, 2, 12, 16, 256, 64]⟩
abbrev S3x2x12x16x128x256 : Shape := ⟨6, ![3, 2, 12, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S1x16 : Shape := ⟨2, ![1, 16]⟩
abbrev S3x16 : Shape := ⟨2, ![3, 16]⟩
abbrev S3x16x1x1 : Shape := ⟨4, ![3, 16, 1, 1]⟩
abbrev S1x1x1x256 : Shape := ⟨4, ![1, 1, 1, 256]⟩
abbrev S3x16x1x256 : Shape := ⟨4, ![3, 16, 1, 256]⟩
abbrev S1x1x128x256 : Shape := ⟨4, ![1, 1, 128, 256]⟩
abbrev S3x16x128x256 : Shape := ⟨4, ![3, 16, 128, 256]⟩
abbrev S3x1x1x16x128x256 : Shape := ⟨6, ![3, 1, 1, 16, 128, 256]⟩
abbrev S3x1x12x1x128x256 : Shape := ⟨6, ![3, 1, 12, 1, 128, 256]⟩
abbrev S3x2x12x16x128 : Shape := ⟨5, ![3, 2, 12, 16, 128]⟩
abbrev S3x2x12x16x128x1 : Shape := ⟨6, ![3, 2, 12, 16, 128, 1]⟩
abbrev S1x2x12x16x128x64 : Shape := ⟨6, ![1, 2, 12, 16, 128, 64]⟩
abbrev S2x12x16x128x64 : Shape := ⟨5, ![2, 12, 16, 128, 64]⟩
abbrev S2x12x1x2048x64 : Shape := ⟨5, ![2, 12, 1, 2048, 64]⟩
abbrev S2x12x2048x1x64 : Shape := ⟨5, ![2, 12, 2048, 1, 64]⟩
abbrev S2x12x2048x64 : Shape := ⟨4, ![2, 12, 2048, 64]⟩
abbrev S2x12x4x512x64 : Shape := ⟨5, ![2, 12, 4, 512, 64]⟩
abbrev S2x12x512x4x64 : Shape := ⟨5, ![2, 12, 512, 4, 64]⟩
abbrev S2x12x128x16x64 : Shape := ⟨5, ![2, 12, 128, 16, 64]⟩
abbrev S1x2x12x2048x64 : Shape := ⟨5, ![1, 2, 12, 2048, 64]⟩
abbrev S3x2x12x2048x64 : Shape := ⟨5, ![3, 2, 12, 2048, 64]⟩
abbrev S1x2x12x16x128 : Shape := ⟨5, ![1, 2, 12, 16, 128]⟩
abbrev S2x12x16x128 : Shape := ⟨4, ![2, 12, 16, 128]⟩
abbrev S2x12x1x2048 : Shape := ⟨4, ![2, 12, 1, 2048]⟩
abbrev S2x12x2048x1 : Shape := ⟨4, ![2, 12, 2048, 1]⟩
abbrev S2x12x2048 : Shape := ⟨3, ![2, 12, 2048]⟩
abbrev S2x12x4x512 : Shape := ⟨4, ![2, 12, 4, 512]⟩
abbrev S2x12x512x4 : Shape := ⟨4, ![2, 12, 512, 4]⟩
abbrev S2x12x128x16 : Shape := ⟨4, ![2, 12, 128, 16]⟩
abbrev S1x2x12x2048 : Shape := ⟨4, ![1, 2, 12, 2048]⟩
abbrev S3x2x12x2048 : Shape := ⟨4, ![3, 2, 12, 2048]⟩
abbrev S3x2x12x2048x1 : Shape := ⟨5, ![3, 2, 12, 2048, 1]⟩
abbrev S2x2048x12x64 : Shape := ⟨4, ![2, 2048, 12, 64]⟩
abbrev S2x2048x12 : Shape := ⟨3, ![2, 2048, 12]⟩
abbrev S2x2048x12x1 : Shape := ⟨4, ![2, 2048, 12, 1]⟩
abbrev S4096x768 : Shape := ⟨2, ![4096, 768]⟩
abbrev S4096x2304 : Shape := ⟨2, ![4096, 2304]⟩
abbrev S1x768 : Shape := ⟨2, ![1, 768]⟩
abbrev S1x2048x128 : Shape := ⟨3, ![1, 2048, 128]⟩
abbrev S3x2x128x256 : Shape := ⟨4, ![3, 2, 128, 256]⟩
abbrev S1x128 : Shape := ⟨2, ![1, 128]⟩
abbrev S2048x128 : Shape := ⟨2, ![2048, 128]⟩
abbrev S2176x128 : Shape := ⟨2, ![2176, 128]⟩
abbrev S1x1x128 : Shape := ⟨3, ![1, 1, 128]⟩
abbrev S16x1x1 : Shape := ⟨3, ![16, 1, 1]⟩
abbrev S128x128 : Shape := ⟨2, ![128, 128]⟩
abbrev S16x128x128 : Shape := ⟨3, ![16, 128, 128]⟩
abbrev S16x256x128 : Shape := ⟨3, ![16, 256, 128]⟩
abbrev S1x1x256 : Shape := ⟨3, ![1, 1, 256]⟩
abbrev S16x1x256 : Shape := ⟨3, ![16, 1, 256]⟩
abbrev S8x1x256 : Shape := ⟨3, ![8, 1, 256]⟩
abbrev S8x128x128 : Shape := ⟨3, ![8, 128, 128]⟩
abbrev S8x256x128 : Shape := ⟨3, ![8, 256, 128]⟩
abbrev S8x128x256 : Shape := ⟨3, ![8, 128, 256]⟩
abbrev S1x128x256 : Shape := ⟨3, ![1, 128, 256]⟩
abbrev S8x128x1 : Shape := ⟨3, ![8, 128, 1]⟩
abbrev S512x128 : Shape := ⟨2, ![512, 128]⟩
abbrev S1x1x128x128 : Shape := ⟨4, ![1, 1, 128, 128]⟩
abbrev S1x128x128 : Shape := ⟨3, ![1, 128, 128]⟩

abbrev nBuf : Space → Nat
  | .hbm => 250
  | .vmem => 41
  | .smem => 0
  | _ => 0

abbrev hbmTy0_0 (i : Nat) : BufTy := match i % 128 with
  | 0 => ⟨S2x2048x2304, .f32⟩
  | 1 => ⟨S1x2304, .f32⟩
  | 2 => ⟨S3x12x128x256, .f32⟩
  | 3 => ⟨S2x2048x768, .f32⟩
  | 4 => ⟨S2304, .f32⟩
  | 5 => ⟨S1x1x2304, .f32⟩
  | 6 => ⟨S2x2048x2304, .f32⟩
  | 7 => ⟨S2x2048x2304, .f32⟩
  | 8 => ⟨S2x2048x36x64, .f32⟩
  | 9 => ⟨S2x2048x1x36x64, .f32⟩
  | 10 => ⟨S2x36x1x2048x64, .f32⟩
  | 11 => ⟨S2x36x16x128x64, .f32⟩
  | 12 => ⟨S2x512x4x36x64, .f32⟩
  | 13 => ⟨S2x36x4x512x64, .f32⟩
  | 14 => ⟨S2x36x16x128x64, .f32⟩
  | 15 => ⟨S2x128x16x36x64, .f32⟩
  | 16 => ⟨S2x36x16x128x64, .f32⟩
  | 17 => ⟨S1x2x36x16x128x64, .f32⟩
  | 18 => ⟨S1x2x36x16x128x64, .f32⟩
  | 19 => ⟨S1x2x36x16x128x64, .f32⟩
  | 20 => ⟨S3x2x36x16x128x64, .f32⟩
  | 21 => ⟨S3x2x12x16x128x64, .f32⟩
  | 22 => ⟨S3x2x24x16x128x64, .f32⟩
  | 23 => ⟨S_, .f32⟩
  | 24 => ⟨S3x2x24x1x128x64, .f32⟩
  | 25 => ⟨S3x2x24x15x128x64, .f32⟩
  | 26 => ⟨S3x2x24x16x128x64, .f32⟩
  | 27 => ⟨S3x2x24x16x256x64, .f32⟩
  | 28 => ⟨S3x2x12x16x256x64, .f32⟩
  | 29 => ⟨S3x2x12x16x256x64, .f32⟩
  | 30 => ⟨S3x2x12x16x128x256, .f32⟩
  | 31 => ⟨S_, .f32⟩
  | 32 => ⟨S3x2x12x16x128x256, .f32⟩
  | 33 => ⟨S3x2x12x16x128x256, .f32⟩
  | 34 => ⟨S128, .i32⟩
  | 35 => ⟨S128x1, .i32⟩
  | 36 => ⟨S_, .i32⟩
  | 37 => ⟨S128x1, .i32⟩
  | 38 => ⟨S128x1, .i32⟩
  | 39 => ⟨S256, .i32⟩
  | 40 => ⟨S1x256, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S16, .i32⟩
  | 52 => ⟨S_, .i32⟩
  | 53 => ⟨S16, .i32⟩
  | 54 => ⟨S16, .i32⟩
  | 55 => ⟨S_, .i32⟩
  | 56 => ⟨S16, .i32⟩
  | 57 => ⟨S16, .i1⟩
  | 58 => ⟨S16, .i32⟩
  | 59 => ⟨S_, .i32⟩
  | 60 => ⟨S16, .i32⟩
  | 61 => ⟨S16, .i32⟩
  | 62 => ⟨S_, .i32⟩
  | 63 => ⟨S16, .i32⟩
  | 64 => ⟨S16, .i1⟩
  | 65 => ⟨S16, .i32⟩
  | 66 => ⟨S_, .i32⟩
  | 67 => ⟨S16, .i32⟩
  | 68 => ⟨S16, .i32⟩
  | 69 => ⟨S_, .i32⟩
  | 70 => ⟨S16, .i32⟩
  | 71 => ⟨S16, .i1⟩
  | 72 => ⟨S1x16, .i1⟩
  | 73 => ⟨S1x16, .i1⟩
  | 74 => ⟨S1x16, .i1⟩
  | 75 => ⟨S3x16, .i1⟩
  | 76 => ⟨S3x16x1x1, .i1⟩
  | 77 => ⟨S256, .i32⟩
  | 78 => ⟨S_, .i32⟩
  | 79 => ⟨S256, .i32⟩
  | 80 => ⟨S256, .i1⟩
  | 81 => ⟨S1x1x1x256, .i1⟩
  | 82 => ⟨S3x16x1x256, .i1⟩
  | 83 => ⟨S3x16x1x256, .i1⟩
  | 84 => ⟨S3x16x1x256, .i1⟩
  | 85 => ⟨S3x16x1x256, .i1⟩
  | 86 => ⟨S1x1x128x256, .i1⟩
  | 87 => ⟨S3x16x128x256, .i1⟩
  | 88 => ⟨S3x16x128x256, .i1⟩
  | 89 => ⟨S3x16x128x256, .i1⟩
  | 90 => ⟨S3x1x1x16x128x256, .i1⟩
  | 91 => ⟨S3x1x12x1x128x256, .f32⟩
  | 92 => ⟨S3x2x12x16x128x256, .f32⟩
  | 93 => ⟨S3x2x12x16x128x256, .f32⟩
  | 94 => ⟨S_, .f32⟩
  | 95 => ⟨S_, .f32⟩
  | 96 => ⟨S3x2x12x16x128x256, .i1⟩
  | 97 => ⟨S3x2x12x16x128x256, .f32⟩
  | 98 => ⟨S3x2x12x16x128x256, .f32⟩
  | 99 => ⟨S_, .f32⟩
  | 100 => ⟨S3x2x12x16x128, .f32⟩
  | 101 => ⟨S3x2x12x16x128x1, .f32⟩
  | 102 => ⟨S3x2x12x16x128x256, .f32⟩
  | 103 => ⟨S3x2x12x16x128x256, .f32⟩
  | 104 => ⟨S3x2x12x16x128x256, .f32⟩
  | 105 => ⟨S_, .f32⟩
  | 106 => ⟨S3x2x12x16x128, .f32⟩
  | 107 => ⟨S3x2x12x16x128x64, .f32⟩
  | 108 => ⟨S1x2x12x16x128x64, .f32⟩
  | 109 => ⟨S2x12x16x128x64, .f32⟩
  | 110 => ⟨S2x12x1x2048x64, .f32⟩
  | 111 => ⟨S2x12x2048x1x64, .f32⟩
  | 112 => ⟨S2x12x2048x64, .f32⟩
  | 113 => ⟨S1x2x12x16x128x64, .f32⟩
  | 114 => ⟨S2x12x16x128x64, .f32⟩
  | 115 => ⟨S2x12x4x512x64, .f32⟩
  | 116 => ⟨S2x12x512x4x64, .f32⟩
  | 117 => ⟨S2x12x2048x64, .f32⟩
  | 118 => ⟨S1x2x12x16x128x64, .f32⟩
  | 119 => ⟨S2x12x16x128x64, .f32⟩
  | 120 => ⟨S2x12x128x16x64, .f32⟩
  | 121 => ⟨S2x12x2048x64, .f32⟩
  | 122 => ⟨S1x2x12x2048x64, .f32⟩
  | 123 => ⟨S1x2x12x2048x64, .f32⟩
  | 124 => ⟨S1x2x12x2048x64, .f32⟩
  | 125 => ⟨S3x2x12x2048x64, .f32⟩
  | 126 => ⟨S1x2x12x16x128, .f32⟩
  | 127 => ⟨S2x12x16x128, .f32⟩
  | _ => ⟨S2x2048x2304, .f32⟩

abbrev hbmTy0_1 (i : Nat) : BufTy := match i % 128 with
  | 0 => ⟨S2x12x1x2048, .f32⟩
  | 1 => ⟨S2x12x2048x1, .f32⟩
  | 2 => ⟨S2x12x2048, .f32⟩
  | 3 => ⟨S1x2x12x16x128, .f32⟩
  | 4 => ⟨S2x12x16x128, .f32⟩
  | 5 => ⟨S2x12x4x512, .f32⟩
  | 6 => ⟨S2x12x512x4, .f32⟩
  | 7 => ⟨S2x12x2048, .f32⟩
  | 8 => ⟨S1x2x12x16x128, .f32⟩
  | 9 => ⟨S2x12x16x128, .f32⟩
  | 10 => ⟨S2x12x128x16, .f32⟩
  | 11 => ⟨S2x12x2048, .f32⟩
  | 12 => ⟨S1x2x12x2048, .f32⟩
  | 13 => ⟨S1x2x12x2048, .f32⟩
  | 14 => ⟨S1x2x12x2048, .f32⟩
  | 15 => ⟨S3x2x12x2048, .f32⟩
  | 16 => ⟨S1x2x12x16x128, .f32⟩
  | 17 => ⟨S2x12x16x128, .f32⟩
  | 18 => ⟨S2x12x1x2048, .f32⟩
  | 19 => ⟨S2x12x2048x1, .f32⟩
  | 20 => ⟨S2x12x2048, .f32⟩
  | 21 => ⟨S1x2x12x16x128, .f32⟩
  | 22 => ⟨S2x12x16x128, .f32⟩
  | 23 => ⟨S2x12x4x512, .f32⟩
  | 24 => ⟨S2x12x512x4, .f32⟩
  | 25 => ⟨S2x12x2048, .f32⟩
  | 26 => ⟨S1x2x12x16x128, .f32⟩
  | 27 => ⟨S2x12x16x128, .f32⟩
  | 28 => ⟨S2x12x128x16, .f32⟩
  | 29 => ⟨S2x12x2048, .f32⟩
  | 30 => ⟨S1x2x12x2048, .f32⟩
  | 31 => ⟨S1x2x12x2048, .f32⟩
  | 32 => ⟨S1x2x12x2048, .f32⟩
  | 33 => ⟨S3x2x12x2048, .f32⟩
  | 34 => ⟨S_, .f32⟩
  | 35 => ⟨S2x12x2048, .f32⟩
  | 36 => ⟨S1x2x12x2048, .f32⟩
  | 37 => ⟨S3x2x12x2048, .f32⟩
  | 38 => ⟨S3x2x12x2048, .f32⟩
  | 39 => ⟨S3x2x12x2048, .f32⟩
  | 40 => ⟨S3x2x12x2048x1, .f32⟩
  | 41 => ⟨S3x2x12x2048x64, .f32⟩
  | 42 => ⟨S3x2x12x2048x64, .f32⟩
  | 43 => ⟨S3x2x12x2048, .f32⟩
  | 44 => ⟨S1x2x12x2048, .f32⟩
  | 45 => ⟨S2x12x2048, .f32⟩
  | 46 => ⟨S1x2x12x2048, .f32⟩
  | 47 => ⟨S2x12x2048, .f32⟩
  | 48 => ⟨S2x12x2048, .f32⟩
  | 49 => ⟨S1x2x12x2048, .f32⟩
  | 50 => ⟨S2x12x2048, .f32⟩
  | 51 => ⟨S2x12x2048, .f32⟩
  | 52 => ⟨S1x2x12x2048x64, .f32⟩
  | 53 => ⟨S2x12x2048x64, .f32⟩
  | 54 => ⟨S1x2x12x2048x64, .f32⟩
  | 55 => ⟨S2x12x2048x64, .f32⟩
  | 56 => ⟨S2x12x2048x64, .f32⟩
  | 57 => ⟨S1x2x12x2048x64, .f32⟩
  | 58 => ⟨S2x12x2048x64, .f32⟩
  | 59 => ⟨S2x12x2048x64, .f32⟩
  | 60 => ⟨S2x12x2048x1, .f32⟩
  | 61 => ⟨S2x12x2048x64, .f32⟩
  | 62 => ⟨S2x12x2048x64, .f32⟩
  | 63 => ⟨S2x12x2048, .f32⟩
  | 64 => ⟨S2x12x2048, .f32⟩
  | 65 => ⟨S2x2048x12x64, .f32⟩
  | 66 => ⟨S2x2048x12x64, .f32⟩
  | 67 => ⟨S2x2048x12x64, .f32⟩
  | 68 => ⟨S_, .f32⟩
  | 69 => ⟨S2x2048x12, .f32⟩
  | 70 => ⟨S2x2048x12x1, .f32⟩
  | 71 => ⟨S2x2048x12, .f32⟩
  | 72 => ⟨S2x2048x12x1, .f32⟩
  | 73 => ⟨S2x2048x12x64, .f32⟩
  | 74 => ⟨S4096x768, .f32⟩
  | 75 => ⟨S128, .i32⟩
  | 76 => ⟨S128x1, .i32⟩
  | 77 => ⟨S_, .i32⟩
  | 78 => ⟨S128x1, .i32⟩
  | 79 => ⟨S128x1, .i32⟩
  | 80 => ⟨S256, .i32⟩
  | 81 => ⟨S1x256, .i32⟩
  | 82 => ⟨S128x256, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i1⟩
  | 91 => ⟨S128x256, .i1⟩
  | 92 => ⟨S_, .f32⟩
  | 93 => ⟨S_, .f32⟩
  | 94 => ⟨S128x256, .f32⟩
  | 95 => ⟨S128x256, .f32⟩
  | 96 => ⟨S128x256, .f32⟩
  | 97 => ⟨S128x256, .f32⟩
  | 98 => ⟨S1x1x128x256, .f32⟩
  | 99 => ⟨S3x12x128x256, .f32⟩
  | 100 => ⟨S3x12x128x256, .f32⟩
  | 101 => ⟨S2304, .f32⟩
  | 102 => ⟨S1x1x2304, .f32⟩
  | 103 => ⟨S2x2048x2304, .f32⟩
  | 104 => ⟨S2x2048x2304, .f32⟩
  | 105 => ⟨S2x2048x2304, .bf16⟩
  | 106 => ⟨S4096x2304, .bf16⟩
  | 107 => ⟨S2x2048x768, .bf16⟩
  | 108 => ⟨S4096x768, .bf16⟩
  | 109 => ⟨S2x2048x12x64, .f32⟩
  | 110 => ⟨S4096x768, .f32⟩
  | 111 => ⟨S2x2048x2304, .bf16⟩
  | 112 => ⟨S2x2048x768, .bf16⟩
  | 113 => ⟨S2x2048x768, .f32⟩
  | 114 => ⟨S2x2048x768, .f32⟩
  | 115 => ⟨S2x2048x768, .bf16⟩
  | 116 => ⟨S2x2048x768, .bf16⟩
  | 117 => ⟨S2x2048x768, .bf16⟩
  | 118 => ⟨S1x768, .f32⟩
  | 119 => ⟨S1x768, .f32⟩
  | 120 => ⟨S1x768, .f32⟩
  | 121 => ⟨S3x12x128x256, .f32⟩
  | _ => ⟨S2x2048x2304, .f32⟩

abbrev hbmTy (i : Nat) : BufTy := match i / 128 with
  | 0 => hbmTy0_0 i
  | 1 => hbmTy0_1 i
  | _ => ⟨S2x2048x2304, .f32⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S3x2x128x256, .f32⟩
  | .local _ .vmem, ⟨13, _⟩ => ⟨S3x2x128x256, .f32⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S3x2x128x256, .f32⟩
  | .local _ .vmem, ⟨27, _⟩ => ⟨S3x2x128x256, .f32⟩
  | .local _ .vmem, ⟨28, _⟩ => ⟨S2048x128, .f32⟩
  | .local _ .vmem, ⟨29, _⟩ => ⟨S2048x128, .bf16⟩
  | .local _ .vmem, ⟨30, _⟩ => ⟨S2176x128, .bf16⟩
  | .local _ .vmem, ⟨31, _⟩ => ⟨S2176x128, .bf16⟩
  | .local _ .vmem, ⟨32, _⟩ => ⟨S2048x128, .bf16⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2176x128, .f32⟩
  | .local _ .vmem, ⟨37, _⟩ => ⟨S2176x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_3 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_c_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_13 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_cst_14 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_c_15 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_c_16 : Ref sig .tc := ⟨.hbm, 213, rfl⟩
abbrev main_v188 : Ref sig .tc := ⟨.hbm, 214, rfl⟩
abbrev main_v189 : Ref sig .tc := ⟨.hbm, 215, rfl⟩
abbrev main_c_17 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_cst_18 : Ref sig .tc := ⟨.hbm, 220, rfl⟩
abbrev main_cst_19 : Ref sig .tc := ⟨.hbm, 221, rfl⟩
abbrev main_call1_v0 : Ref sig .tc := ⟨.hbm, 222, rfl⟩
abbrev main_call1_v1 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212_0 : Ref sig .tc := ⟨.hbm, 243, rfl⟩
abbrev main_v212_1 : Ref sig .tc := ⟨.hbm, 244, rfl⟩
abbrev main_v212_2 : Ref sig .tc := ⟨.hbm, 245, rfl⟩
abbrev main_v212_3 : Ref sig .tc := ⟨.hbm, 246, rfl⟩
abbrev main_v212_4 : Ref sig .tc := ⟨.hbm, 247, rfl⟩
abbrev main_v212_5 : Ref sig .tc := ⟨.hbm, 248, rfl⟩
abbrev main_v212_6 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![6, 2], ![false, false]⟩

def k0_cond2 (i : grid0.Coords) : BitVec 1 :=
  let arg1 : BitVec 32 := BitVec.ofNat 32 (i 1).val
  let c0_i32 : BitVec 32 := 0#32
  let v4 : BitVec 1 := Scalar.cmpi .eq arg1 c0_i32
  let v1835 : BitVec 32 := Scalar.extui v4
  let c0_i32_1306 : BitVec 32 := 0#32
  let v1836 : BitVec 1 := Scalar.cmpi .ne v1835 c0_i32_1306
  v1836

def k0_cond3 (i : grid0.Coords) : BitVec 1 :=
  let arg1 : BitVec 32 := BitVec.ofNat 32 (i 1).val
  let c0_i32 : BitVec 32 := 0#32
  let v4 : BitVec 1 := Scalar.cmpi .eq arg1 c0_i32
  let v_true : BitVec 1 := 1#1
  let v1837 : BitVec 1 := Scalar.xori v4 v_true
  let v1838 : BitVec 32 := Scalar.extui v1837
  let c0_i32_1307 : BitVec 32 := 0#32
  let v1839 : BitVec 1 := Scalar.cmpi .ne v1838 c0_i32_1307
  v1839

def k0_cond4 (i : grid0.Coords) : BitVec 1 :=
  let arg1 : BitVec 32 := BitVec.ofNat 32 (i 1).val
  let c0_i32 : BitVec 32 := 0#32
  let v4 : BitVec 1 := Scalar.cmpi .eq arg1 c0_i32
  let v1847 : BitVec 32 := Scalar.extui v4
  let c0_i32_1314 : BitVec 32 := 0#32
  let v1848 : BitVec 1 := Scalar.cmpi .ne v1847 c0_i32_1314
  v1848

def k0_cond5 (i : grid0.Coords) : BitVec 1 :=
  let arg1 : BitVec 32 := BitVec.ofNat 32 (i 1).val
  let c0_i32 : BitVec 32 := 0#32
  let v4 : BitVec 1 := Scalar.cmpi .eq arg1 c0_i32
  let true_1315 : BitVec 1 := 1#1
  let v1849 : BitVec 1 := Scalar.xori v4 true_1315
  let v1850 : BitVec 32 := Scalar.extui v1849
  let c0_i32_1316 : BitVec 32 := 0#32
  let v1851 : BitVec 1 := Scalar.cmpi .ne v1850 c0_i32_1316
  v1851

def k0_cond6 (i : grid0.Coords) : BitVec 1 :=
  let arg1 : BitVec 32 := BitVec.ofNat 32 (i 1).val
  let c0_i32 : BitVec 32 := 0#32
  let v4 : BitVec 1 := Scalar.cmpi .eq arg1 c0_i32
  let v1859 : BitVec 32 := Scalar.extui v4
  let c0_i32_1323 : BitVec 32 := 0#32
  let v1860 : BitVec 1 := Scalar.cmpi .ne v1859 c0_i32_1323
  v1860

def k0_cond7 (i : grid0.Coords) : BitVec 1 :=
  let arg1 : BitVec 32 := BitVec.ofNat 32 (i 1).val
  let c0_i32 : BitVec 32 := 0#32
  let v4 : BitVec 1 := Scalar.cmpi .eq arg1 c0_i32
  let true_1324 : BitVec 1 := 1#1
  let v1861 : BitVec 1 := Scalar.xori v4 true_1324
  let v1862 : BitVec 32 := Scalar.extui v1861
  let c0_i32_1325 : BitVec 32 := 0#32
  let v1863 : BitVec 1 := Scalar.cmpi .ne v1862 c0_i32_1325
  v1863

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x2x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Proof.DwOutCases.lean ====
/- What each grid point of the output projection's weight gradient leaves in its accumulator and its output block,
   as a function of the input blocks it loads. -/
module

public import proofs.«01_k».proof.Defs
public import proofs.«01_k».proof.Proof.Gen.DwOutIdeal.Value
public import Idealize.ShloMosaic.Lib.Pointwise

@[expose] public section

set_option maxRecDepth 16384

noncomputable section

namespace Cert.DwOutIdeal.Cases

open Idealize.ShloMosaic Idealize.ShloMosaic.TcCoe Idealize.SL.Sem
open Cert.DwOutIdeal Cert.DwOutIdeal.Gen

variable (c : Dev nD) (i : grid0.Coords)
  (a3 : Memref sig .tc .vmem S1024x768 .f32) (h3 : a3.IsWhole) (a4 : Memref sig .tc .vmem S1024x256 .bf16) (h4 : a4.IsWhole)
  (a5 : Memref sig .tc .vmem S1x768 .f32) (h5 : a5.IsWhole) (a6 : Memref sig .tc .vmem S1024x1024 .bf16) (h6 : a6.IsWhole)
  (a7 : Memref sig .tc .vmem S1024x1024 .f32) (h7 : a7.IsWhole) (a8 : Memref sig .tc .vmem S1024x1024 .f32) (h8 : a8.IsWhole)
  (x0 : Vec Ideal S1024x768 .f32) (x1 : Vec Ideal S1024x256 .bf16) (x2 : Vec Ideal S1x768 .f32)
  (x3 : Vec Ideal S1024x1024 .bf16) (xs : Vec Ideal S1024x1024 .f32)

theorem hz : (![0, 0] : Fin 2 → Nat) = fun _ => 0 := funext fun a => by fin_cases a <;> rfl

/-- The first point leaves its own product in the accumulator. -/
theorem acc_A (hc0 : cond0_0 i) (hc1 : ¬cond0_1 i) (hc2 : ¬cond0_2 i) :
    sout0_A_0 c i a3 h3 a4 h4 a5 h5 a6 h6 a7 h7 a8 h8 hc0 hc1 hc2 x0 x1 x2 x3 = k0_pay1 x0 x2 x1 x3 := by
  unfold sout0_A_0
  rw [View.read_writes_eq_canon _ _ _ (fun _ => scover0_A_0 ..)]
  unfold kernelRun0_A
  dsimp only
  rw [View.canon_unit_zero hz]
  unfold k0_pay2
  simp only [View.readAt_eq_ld, Memref.IsWhole.read_unread, View.ld_unit_zero (S := S1024x768) hz,
    View.ld_unit_zero (S := S1024x256) hz, View.ld_unit_zero (S := S1x768) hz, View.ld_unit_zero (S := S1024x1024) hz, shapeCast_self]

/-- A middle point adds its product to the accumulator. -/
theorem acc_B (hc0 : ¬cond0_0 i) (hc1 : cond0_1 i) (hc2 : ¬cond0_2 i) :
    sout0_B_0 c i a3 h3 a4 h4 a5 h5 a6 h6 a7 h7 a8 h8 hc0 hc1 hc2 x0 x1 x2 x3 xs = addf xs (k0_pay1 x0 x2 x1 x3) := by
  unfold sout0_B_0
  rw [View.read_writes_eq_canon _ _ _ (fun _ => scover0_B_0 ..)]
  unfold kernelRun0_B
  dsimp only
  rw [View.canon_unit_zero hz]
  unfold k0_pay3
  simp only [View.readAt_eq_ld, Memref.IsWhole.read_unread, View.ld_unit_zero (S := S1024x768) hz,
    View.ld_unit_zero (S := S1024x256) hz, View.ld_unit_zero (S := S1x768) hz, View.ld_unit_zero (S := S1024x1024) hz, shapeCast_self]

/-- The last point writes the accumulator with its product added to the output block. -/
theorem out_C (hc0 : ¬cond0_0 i) (hc1 : cond0_1 i) (hc2 : cond0_2 i) :
    out0_C_4 c i a3 h3 a4 h4 a5 h5 a6 h6 a7 h7 a8 h8 hc0 hc1 hc2 x0 x1 x2 x3 xs = addf xs (k0_pay1 x0 x2 x1 x3) := by
  unfold out0_C_4
  rw [View.read_writes_eq_canon _ _ _ (fun _ => cover0_C_4 ..)]
  unfold kernelRun0_C
  dsimp only
  sl_unfold_words
  rw [View.canon_unit_zero hz, View.readCov_unit_zero (S := S1024x1024) _ hz]
  unfold k0_pay3
  simp only [View.readAt_eq_ld, Memref.IsWhole.read_unread, View.ld_unit_zero (S := S1024x768) hz,
    View.ld_unit_zero (S := S1024x256) hz, View.ld_unit_zero (S := S1x768) hz, View.ld_unit_zero (S := S1024x1024) hz, shapeCast_self]

/-- The mixed activations that the output projection reads, at one row (the row-normalised attention output beside the
    convolution's output), as a function of that row. -/
def mixedAt (a : Fin 768 → EReal) (b : Fin 256 → EReal) (g : Fin 768 → EReal) (p : Fin 1024) : EReal :=
  if h : p.val < 768 then
    a ⟨p.val, h⟩ * Ideal.rsqrt (Ideal.div (∑ l, a l * a l) (Ideal.ofBits .f32 0x44400000#32) + Ideal.ofBits .f32 0x3727C5AC#32) * g ⟨p.val, h⟩
  else b ⟨p.val - 768, by omega⟩

/-- One point's product at an index: the sum over the block's rows of the mixed activations times the incoming gradient. -/
theorem pay1_apply (p q : Fin 1024) :
    k0_pay1 (F := Ideal) x0 x2 x1 x3 (ix2 p q)
      = ∑ r : Fin 1024, mixedAt (fun l => x0 (ix2 r l)) (fun l => x1 (ix2 r l)) (fun l => x2 (ix2 0 l)) p * x3 (ix2 r q) := by
  pointwise [k0_pay1]
  rfl

end Cert.DwOutIdeal.Cases

end
-- ==== Proof.SumBlocks.lean ====
/- A sum over an axis, cut into equal blocks. -/
module

public import Idealize.ShloMosaic.Lib.Pointwise

@[expose] public section

namespace Cert.Sums

/-- The place at offset `r` of block `t`, of blocks of `b` places. -/
abbrev at' {N : ℕ} (n b : ℕ) (h : N = n * b) (t : Fin n) (r : Fin b) : Fin N :=
  ⟨b * t.val + r.val, by
    have ht := t.isLt; have hr := r.isLt
    calc b * t.val + r.val < b * t.val + b := by omega
      _ = b * (t.val + 1) := by ring
      _ ≤ b * n := Nat.mul_le_mul_left b ht
      _ = N := by rw [h, Nat.mul_comm]⟩

/-- A sum over `n * b` places is the sum over the `n` blocks of the sum over the block's `b` places. -/
theorem sum_blocks {M : Type*} [AddCommMonoid M] {N : ℕ} (n b : ℕ) (h : N = n * b) (f : Fin N → M) :
    ∑ x, f x = ∑ t : Fin n, ∑ r : Fin b, f (at' n b h t r) := by
  subst h
  rw [← finProdFinEquiv.sum_comp, Fintype.sum_prod_type]
  refine Finset.sum_congr rfl fun t _ => Finset.sum_congr rfl fun r _ => congrArg f (Fin.ext ?_)
  show r.val + b * t.val = b * t.val + r.val
  omega

end Cert.Sums
-- ==== Proof.DwOutValue.lean ====
/- The output projection's weight gradient: the kernel's result, point by point over the four row blocks, is the
   transposed product of the reference. -/
module

public import proofs.«01_k».proof.Proof.DwOutCases
public import proofs.«01_k».proof.Proof.SumBlocks
public import proofs.«01_k».proof.Proof.Gen.DwOutRefIdeal.Run
public import proofs.«01_k».proof.Proof.Gen.DwOutRefIdeal.Read
public import Idealize.ShloMosaic.Lib.Pointwise
public import Idealize.ShloMosaic.Lib.StableHlo.ReadAt

@[expose] public section

set_option maxRecDepth 16384

noncomputable section

namespace Cert.DwOutIdeal.Cases

open Idealize.ShloMosaic Idealize.ShloMosaic.TcCoe Idealize.SL.Sem
open Cert.DwOutIdeal Cert.DwOutIdeal.Gen

variable (m : (ℓ : Loc nD τ sig) → Buf (Elt Ideal) ℓ) (c : Dev nD)

/-- The four arguments as launched. -/
abbrev A0 : Vec Ideal S4096x768 .f32 := m ((c : Thread nD τ).loc main_arg0)
abbrev A1 : Vec Ideal S4096x256 .f32 := m ((c : Thread nD τ).loc main_arg1)
abbrev A2 : Vec Ideal S1x768 .f32 := m ((c : Thread nD τ).loc main_arg2)
abbrev A3 : Vec Ideal S4096x1024 .f32 := m ((c : Thread nD τ).loc main_arg3)

/-- The place of row `r` of block `t` in the whole array. -/
abbrev row (t : Fin cfg0.N) (r : Fin 1024) : Fin 4096 :=
  ⟨1024 * t.val + r.val, by have := lt_of_lt_of_eq t.isLt N_0; have := r.isLt; omega⟩

theorem win0 : ∀ t : Fin cfg0.N, win0_0.index t 0 = t.val ∧ win0_0.index t 1 = 0 := (by decide +kernel : ∀ t : Fin grid0.N, _)
theorem win1 : ∀ t : Fin cfg0.N, win0_1.index t 0 = t.val ∧ win0_1.index t 1 = 0 := (by decide +kernel : ∀ t : Fin grid0.N, _)
theorem win2 : ∀ t : Fin cfg0.N, win0_2.index t 0 = 0 ∧ win0_2.index t 1 = 0 := (by decide +kernel : ∀ t : Fin grid0.N, _)
theorem win3 : ∀ t : Fin cfg0.N, win0_3.index t 0 = t.val ∧ win0_3.index t 1 = 0 := (by decide +kernel : ∀ t : Fin grid0.N, _)

theorem V0_apply (i : S4096x256.Idx) : V m c main_v0 i = A1 m c i := by
  unfold V
  after_reads_at

theorem V1_apply (i : S4096x1024.Idx) : V m c main_v1 i = A3 m c i := by
  unfold V
  after_reads_at

theorem iblk0 (t : Fin cfg0.N) (r : Fin 1024) (l : Fin 768) :
    iblk m c 0 t (ix2 r l) = A0 m c (ix2 (row t r) l) := by
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * t.val + r.val; rw [(win0 t).1]; omega
  | ⟨1, _⟩ => show win0_0.index t 1 * 768 + 1 * l.val = l.val; rw [(win0 t).2]; omega

theorem iblk1 (t : Fin cfg0.N) (r : Fin 1024) (l : Fin 256) :
    iblk m c 1 t (ix2 r l) = A1 m c (ix2 (row t r) l) := by
  unfold iblk
  rw [View.read_apply]
  show V m c main_v0 _ = _
  rw [V0_apply]
  refine congrArg (A1 m c) (funext fun a => Fin.ext ?_)
  match a with
  | ⟨0, _⟩ => show win0_1.index t 0 * 1024 + 1 * r.val = 1024 * t.val + r.val; rw [(win1 t).1]; omega
  | ⟨1, _⟩ => show win0_1.index t 1 * 256 + 1 * l.val = l.val; rw [(win1 t).2]; omega

theorem iblk2 (t : Fin cfg0.N) (l : Fin 768) : iblk m c 2 t (ix2 0 l) = A2 m c (ix2 0 l) := by
  unfold iblk
  rw [View.read_apply]
  show V m c main_arg2 _ = _
  rw [V_main_arg2]
  refine congrArg (A2 m c) (funext fun a => Fin.ext ?_)
  match a with
  | ⟨0, _⟩ => show win0_2.index t 0 * 1 + 1 * 0 = 0; rw [(win2 t).1]
  | ⟨1, _⟩ => show win0_2.index t 1 * 768 + 1 * l.val = l.val; rw [(win2 t).2]; omega

theorem iblk3 (t : Fin cfg0.N) (r q : Fin 1024) :
    iblk m c 3 t (ix2 r q) = A3 m c (ix2 (row t r) q) := by
  unfold iblk
  rw [View.read_apply]
  show V m c main_v1 _ = _
  rw [V1_apply]
  refine congrArg (A3 m c) (funext fun a => Fin.ext ?_)
  match a with
  | ⟨0, _⟩ => show win0_3.index t 0 * 1024 + 1 * r.val = 1024 * t.val + r.val; rw [(win3 t).1]; omega
  | ⟨1, _⟩ => show win0_3.index t 1 * 1024 + 1 * q.val = q.val; rw [(win3 t).2]; omega

/-- The product of one row block. -/
abbrev part (t : Fin cfg0.N) : Vec Ideal S1024x1024 .f32 := k0_pay1 (iblk m c 0 t) (iblk m c 2 t) (iblk m c 1 t) (iblk m c 3 t)

/-- The product of the row of the whole array at `(p, q)`. -/
def term (p q : Fin 1024) (x : Fin 4096) : EReal :=
  mixedAt (fun l => A0 m c (ix2 x l)) (fun l => A1 m c (ix2 x l)) (fun l => A2 m c (ix2 0 l)) p * A3 m c (ix2 x q)

theorem part_apply (t : Fin cfg0.N) (p q : Fin 1024) : part m c t (ix2 p q) = ∑ r : Fin 1024, term m c p q (row t r) := by
  unfold part
  rw [pay1_apply]
  refine Finset.sum_congr rfl fun r _ => ?_
  unfold term
  simp only [iblk0, iblk1, iblk2, iblk3]

/-- A grid point by its number. -/
abbrev pt (n : ℕ) (h : n < 4) : Fin cfg0.N := ⟨n, lt_of_lt_of_eq h N_0.symm⟩

/-- The accumulator after the first point. -/
theorem acc_first (t : Fin cfg0.N) (h0 : t.val % 4 = 0) (h1 : ¬1 ≤ t.val) (h2 : ¬t.val % 4 = 3) :
    (outsAt0 m c t.val t.isLt).2 = part m c t := by
  rw [outsAt0_A m c t h0 h1 h2, acc_A]

/-- The accumulator after a middle point. -/
theorem acc_next (t : Fin cfg0.N) (h0 : ¬t.val % 4 = 0) (h1 : 1 ≤ t.val) (h2 : ¬t.val % 4 = 3) :
    (outsAt0 m c t.val t.isLt).2
      = addf (F := Ideal) (φ := .f32) (outsAt0 m c (t.val - 1) (Nat.lt_of_le_of_lt (Nat.sub_le _ _) t.isLt)).2 (part m c t) := by
  rw [outsAt0_B m c t h0 h1 h2, acc_B]

/-- The output block after the last point. -/
theorem out_last (t : Fin cfg0.N) (h0 : ¬t.val % 4 = 0) (h1 : 1 ≤ t.val) (h2 : t.val % 4 = 3) :
    (outsAt0 m c t.val t.isLt).1
      = addf (F := Ideal) (φ := .f32) (outsAt0 m c (t.val - 1) (Nat.lt_of_le_of_lt (Nat.sub_le _ _) t.isLt)).2 (part m c t) := by
  rw [outsAt0_C m c t h0 h1 h2, out_C]

/-- The kernel's result at an index: one sum over all rows. -/
theorem result_apply (p q : Fin 1024) : Value.G4 m c (ix2 p q) = ∑ x : Fin 4096, term m c p q x := by
  have e1 := acc_next m c (pt 1 (by omega)) (by decide) (by decide) (by decide)
  have e2 := acc_next m c (pt 2 (by omega)) (by decide) (by decide) (by decide)
  have e3 := out_last m c (pt 3 (by omega)) (by decide) (by decide) (by decide)
  have e0 := acc_first m c (pt 0 (by omega)) rfl (by decide) (by decide)
  simp only [Nat.reduceSub] at e1 e2 e3
  rw [Value.G4_last, ← Value.outsAt0_sweep m c 3 (pt 3 (by omega)).isLt, e3, e2, e1, e0]
  show part m c _ (ix2 p q) + part m c _ (ix2 p q) + part m c _ (ix2 p q) + part m c _ (ix2 p q) = _
  rw [part_apply, part_apply, part_apply, part_apply, Sums.sum_blocks 4 1024 rfl, Fin.sum_univ_four]
  rfl

/-- The reference's result at an index. -/
theorem ref_apply (x0 : Vec Ideal S4096x768 .f32) (x1 : Vec Ideal S4096x256 .f32) (x2 : Vec Ideal S1x768 .f32) (x3 : Vec Ideal S4096x1024 .f32) (p q : Fin 1024) :
    DwOutRefIdeal.Read.val_main_v18 (F := Ideal) x0 x1 x2 x3 (ix2 p q)
      = ∑ x : Fin 4096, mixedAt (fun l => x0 (ix2 x l)) (fun l => x1 (ix2 x l)) (fun l => x2 (ix2 0 l)) p * x3 (ix2 x q) := by
  open DwOutRefIdeal.Read in
  pointwise [val_main_v18, val_main_v17, val_main_v15, val_main_v14, val_main_v13, val_main_v12, val_main_v11, val_main_v10, val_main_v9,
    val_main_v8, val_main_v7, val_main_v6, val_main_v5, val_main_v4, val_main_v3, val_main_v2, val_main_v1, val_main_cst_0, val_main_cst_1, val_main_cst_2]
  exact Finset.sum_congr rfl fun x _ => mul_comm _ _

/-- The kernel's result is the reference's. -/
theorem result_eq : Value.G4 m c = DwOutRefIdeal.Read.val_main_v18 (F := Ideal) (A0 m c) (A1 m c) (A2 m c) (A3 m c) := by
  funext i
  obtain ⟨p, q, rfl⟩ : ∃ (p q : Fin 1024), i = ix2 p q := ⟨i 0, i 1, eq_ix2 i⟩
  rw [result_apply, ref_apply]
  rfl

end Cert.DwOutIdeal.Cases

end
-- ==== Proof.Consts.lean ====
/- The literal constants of the norm kernels at the ideal instance, as reals, and sums of coerced reals. -/
module

public import Idealize.ShloMosaic.Lib.Pointwise

@[expose] public section

noncomputable section

namespace Cert.Consts

open Idealize.ShloMosaic

/-- The variance's offset, `1e-5` rounded to a float. -/
def eps : ℝ := 10995116 / 1099511627776
/-- The residual's factor, the fourth root of two rounded to a float. -/
def alpha : ℝ := 9975792 / 8388608

theorem eps_pos : 0 < eps := by unfold eps; norm_num

theorem of_1024 : Ideal.ofBits .f32 0x44800000#32 = ((1024 : ℝ) : EReal) := by
  simp [Ideal.ofBits, Ideal.ieee, -EReal.coe_mul]; norm_num
theorem of_inv1024 : Ideal.ofBits .f32 0x3A800000#32 = ((1 / 1024 : ℝ) : EReal) := by
  simp [Ideal.ofBits, Ideal.ieee, -EReal.coe_mul]; norm_num
theorem of_inv2048 : Ideal.ofBits .f32 0x3A000000#32 = ((1 / 2048 : ℝ) : EReal) := by
  simp [Ideal.ofBits, Ideal.ieee, -EReal.coe_mul]; norm_num
theorem of_half : Ideal.ofBits .f32 0x3F000000#32 = ((1 / 2 : ℝ) : EReal) := by
  simp [Ideal.ofBits, Ideal.ieee, -EReal.coe_mul]; norm_num
theorem of_neghalf : Ideal.ofBits .f32 0xBF000000#32 = ((-1 / 2 : ℝ) : EReal) := by
  simp [Ideal.ofBits, Ideal.ieee, -EReal.coe_mul]; norm_num
theorem of_two : Ideal.ofBits .f32 0x40000000#32 = ((2 : ℝ) : EReal) := by
  simp [Ideal.ofBits, Ideal.ieee, -EReal.coe_mul]; norm_num
theorem of_one : Ideal.ofBits .f32 0x3F800000#32 = ((1 : ℝ) : EReal) := by
  simp [Ideal.ofBits, Ideal.ieee, -EReal.coe_mul]; norm_num
theorem of_zero : Ideal.ofBits .f32 0x00000000#32 = ((0 : ℝ) : EReal) := by
  simp [Ideal.ofBits, Ideal.ieee, -EReal.coe_mul]
theorem of_eps : Ideal.ofBits .f32 0x3727C5AC#32 = ((eps : ℝ) : EReal) := by
  unfold eps; simp [Ideal.ofBits, Ideal.ieee, -EReal.coe_mul]; norm_num
theorem of_alpha : Ideal.ofBits .f32 0x3F9837F0#32 = ((alpha : ℝ) : EReal) := by
  unfold alpha; simp [Ideal.ofBits, Ideal.ieee, -EReal.coe_mul]; norm_num

theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem rsqrt_pos {s : ℝ} (h : 0 < s) : Ideal.rsqrt (s : EReal) = (((Real.sqrt s)⁻¹ : ℝ) : EReal) := by
  rw [Ideal.rsqrt_coe, if_neg (not_lt.mpr h.le), if_neg h.ne']

theorem div_1024 (x : ℝ) : Ideal.div (x : EReal) ((1024 : ℝ) : EReal) = ((x * (1 / 1024) : ℝ) : EReal) := by
  rw [Ideal.div_coe (by norm_num), EReal.coe_mul]

end Cert.Consts
-- ==== Proof.LnRow.lean ====
/- The layer norm of one row of 1024 reals and its gradient. -/
module

public import proofs.«01_k».proof.Proof.Consts

@[expose] public section

noncomputable section

namespace Cert.LnRow

open Cert.Consts

def mean (f : Fin 1024 → ℝ) : ℝ := (∑ q, f q) * (1 / 1024)
def cen (f : Fin 1024 → ℝ) (q : Fin 1024) : ℝ := f q - mean f
def spread (f : Fin 1024 → ℝ) : ℝ := mean (fun q => cen f q * cen f q) + eps
def rs (f : Fin 1024 → ℝ) : ℝ := (Real.sqrt (spread f))⁻¹
def nrm (f : Fin 1024 → ℝ) (q : Fin 1024) : ℝ := cen f q * rs f
/-- The row's gradient for the cotangent `d` of its normalised entries. -/
def grad (f d : Fin 1024 → ℝ) (q : Fin 1024) : ℝ :=
  rs f * ((d q - mean d) - nrm f q * mean (fun q => d q * nrm f q))

theorem spread_pos (f : Fin 1024 → ℝ) : 0 < spread f := by
  have : 0 ≤ mean (fun q => cen f q * cen f q) :=
    mul_nonneg (Finset.sum_nonneg fun q _ => mul_self_nonneg _) (by norm_num)
  have := eps_pos
  unfold spread; linarith

theorem sum_cen (f : Fin 1024 → ℝ) : ∑ q, cen f q = 0 := by
  simp only [cen, Finset.sum_sub_distrib, Finset.sum_const, Finset.card_univ, Fintype.card_fin, mean]
  simp; ring

theorem rs_sq (f : Fin 1024 → ℝ) : rs f * rs f = (spread f)⁻¹ := by
  unfold rs
  rw [← mul_inv, Real.mul_self_sqrt (spread_pos f).le]

/-- The chain rule through the mean and the variance, as the reference takes it, is the closed form `grad`. -/
theorem chain (f d : Fin 1024 → ℝ) (q : Fin 1024) (u : ℝ)
    (hu : u = (∑ k, cen f k * d k) * (-1 / 2 * (rs f * (1 / spread f))) * (1 / 1024)) :
    d q * rs f + u * (2 * cen f q)
      + ((∑ k, -(d k * rs f)) + (∑ k, -(u * (2 * cen f k)))) * (1 / 1024) = grad f d q := by
  have h2 : (∑ k, -(u * (2 * cen f k))) = 0 := by
    have : ∀ k, -(u * (2 * cen f k)) = (-(u * 2)) * cen f k := fun k => by ring
    simp only [this]
    rw [← Finset.mul_sum, sum_cen, mul_zero]
  have h1 : (∑ k, -(d k * rs f)) = -((∑ k, d k) * rs f) := by
    rw [Finset.sum_neg_distrib, Finset.sum_mul]
  have h3 : (∑ k, d k * nrm f k) = (∑ k, cen f k * d k) * rs f := by
    rw [Finset.sum_mul]
    exact Finset.sum_congr rfl fun k _ => by unfold nrm; ring
  rw [h2, h1]
  unfold grad mean
  rw [h3, hu]
  unfold nrm
  have hs : 1 / spread f = rs f * rs f := by rw [rs_sq, one_div]
  rw [hs]
  ring

end Cert.LnRow
-- ==== Proof.Ln2Ref.lean ====
/- The reference of the last layer norm with the loss, read at an index: every value is a real. -/
module

public import proofs.«01_k».proof.Proof.LnRow
public import proofs.«01_k».proof.Proof.Gen.Ln2RefIdeal.Run
public import proofs.«01_k».proof.Proof.Gen.Ln2RefIdeal.Read
public import Idealize.ShloMosaic.Lib.Pointwise

@[expose] public section

set_option maxRecDepth 16384

noncomputable section

namespace Cert.Ln2Ref

open Idealize.ShloMosaic Idealize.ShloMosaic.TcCoe Idealize.SL.Sem
open Cert.Ln2RefIdeal Cert.Ln2RefIdeal.Read Cert.Consts Cert.LnRow

/-- The real arrays of the six arguments. -/
structure Args where
  a : Fin 4096 → Fin 2816 → ℝ
  x : Fin 4096 → Fin 1024 → ℝ
  w : Fin 2816 → Fin 1024 → ℝ
  g : Fin 1024 → ℝ
  b : Fin 1024 → ℝ
  t : Fin 4096 → Fin 1024 → ℝ

namespace Args
variable (A : Args)
def z (r : Fin 4096) (q : Fin 1024) : ℝ := alpha * A.x r q + ∑ k, A.a r k * A.w k q
def err (r : Fin 4096) (q : Fin 1024) : ℝ := nrm (A.z r) q * A.g q + A.b q - A.t r q
def cot (r : Fin 4096) (q : Fin 1024) : ℝ := A.err r q * (1 / 1024)
def dz (r : Fin 4096) (q : Fin 1024) : ℝ := grad (A.z r) (fun q => A.cot r q * A.g q) q
def rowLoss (r : Fin 4096) : ℝ := ∑ q, A.err r q * A.err r q
def loss : ℝ := ∑ r, A.rowLoss r * (1 / 2048)
def dg (q : Fin 1024) : ℝ := ∑ r, A.cot r q * nrm (A.z r) q
def db (q : Fin 1024) : ℝ := ∑ r, A.cot r q
end Args

/-- The six arrays hold these reals. -/
structure Holds (A : Args) (x0 : Vec Ideal S4096x2816 .f32) (x1 : Vec Ideal S4096x1024 .f32) (x2 : Vec Ideal S2816x1024 .f32)
    (x3 x4 : Vec Ideal S1x1024 .f32) (x5 : Vec Ideal S4096x1024 .f32) : Prop where
  a : ∀ r k, x0 (ix2 r k) = (A.a r k : EReal)
  x : ∀ r q, x1 (ix2 r q) = (A.x r q : EReal)
  w : ∀ k q, x2 (ix2 k q) = (A.w k q : EReal)
  g : ∀ q, x3 (ix2 0 q) = (A.g q : EReal)
  b : ∀ q, x4 (ix2 0 q) = (A.b q : EReal)
  t : ∀ r q, x5 (ix2 r q) = (A.t r q : EReal)

variable {A : Args} {x0 : Vec Ideal S4096x2816 .f32} {x1 : Vec Ideal S4096x1024 .f32} {x2 : Vec Ideal S2816x1024 .f32}
    {x3 x4 : Vec Ideal S1x1024 .f32} {x5 : Vec Ideal S4096x1024 .f32}
    (h : Holds A x0 x1 x2 x3 x4 x5) (r : Fin 4096) (q : Fin 1024)

include h

theorem v3 : val_main_v3 (F := Ideal) x0 x1 x2 (ix2 r q) = (A.z r q : EReal) := by
  pointwise [val_main_v3, val_main_v2, val_main_v1, val_main_v0, val_main_cst]
  simp only [h.a, h.x, h.w, of_alpha, ← EReal.coe_mul, coe_sum, ← EReal.coe_add]
  rfl

theorem v9 : val_main_v9 (F := Ideal) x0 x1 x2 (ix2 r 0) = (mean (A.z r) : EReal) := by
  pointwise [val_main_v9, val_main_v8, val_main_v7, val_main_v6, val_main_cst_1, val_main_cst_0]
  simp only [v3 h, of_1024, of_zero, coe_sum, div_1024]
  rfl

theorem v11 : val_main_v11 (F := Ideal) x0 x1 x2 (ix2 r q) = (cen (A.z r) q : EReal) := by
  pointwise [val_main_v11, val_main_v10]
  simp only [v3 h, v9 h, ← EReal.coe_sub]
  rfl

theorem v20 : val_main_v20 (F := Ideal) x0 x1 x2 (ix2 r q) = (cen (A.z r) q : EReal) := by
  pointwise [val_main_v20, val_main_v19]
  simp only [v3 h, v9 h, ← EReal.coe_sub]
  rfl

theorem v22 : val_main_v22 (F := Ideal) x0 x1 x2 (ix2 r 0) = (spread (A.z r) : EReal) := by
  pointwise [val_main_v22, val_main_v21, val_main_cst_5, val_main_v18, val_main_v17, val_main_cst_4, val_main_v16, val_main_v15, val_main_cst_3, val_main_v12]
  simp only [v11 h, of_1024, of_zero, of_eps, ← EReal.coe_mul, coe_sum, div_1024, ← EReal.coe_add]
  rfl

theorem v23 : val_main_v23 (F := Ideal) x0 x1 x2 (ix2 r 0) = (rs (A.z r) : EReal) := by
  pointwise [val_main_v23]
  rw [v22 h, rsqrt_pos (spread_pos _)]
  rfl

theorem v26 : val_main_v26 (F := Ideal) x0 x1 x2 (ix2 r 0) = ((-1 / 2 * (rs (A.z r) * (1 / spread (A.z r))) : ℝ) : EReal) := by
  pointwise [val_main_v26, val_main_v25, val_main_cst_6, val_main_v24]
  rw [v22 h, v23 h, of_neghalf, Ideal.div_coe (spread_pos _).ne', ← EReal.coe_mul, ← EReal.coe_mul]

theorem v28 : val_main_v28 (F := Ideal) x0 x1 x2 (ix2 r q) = (nrm (A.z r) q : EReal) := by
  pointwise [val_main_v28, val_main_v27]
  simp only [v20 h, v23 h, ← EReal.coe_mul]
  rfl

theorem v35 : val_main_v35 (F := Ideal) x0 x1 x2 x3 x4 x5 (ix2 r q) = (A.err r q : EReal) := by
  pointwise [val_main_v35, val_main_v34, val_main_v33, val_main_v32, val_main_v31, val_main_v30, val_main_v29, val_main_v5, val_main_v4]
  simp only [v28 h, h.g, h.b, h.t, ← EReal.coe_mul, ← EReal.coe_add, ← EReal.coe_sub]
  rfl

theorem v49 : val_main_v49 (F := Ideal) x0 x1 x2 x3 x4 x5 (ix2 r q) = (A.cot r q : EReal) := by
  pointwise [val_main_v49, val_main_v48, val_main_v47, val_main_v46, val_main_cst_14, val_main_v45, val_main_v44, val_main_cst_13, val_main_cst_12,
    val_main_v38, val_main_v37, val_main_cst_7]
  simp only [v35 h, of_half, of_one, of_1024, of_two, ← EReal.coe_mul, div_1024]
  congr 1
  unfold Args.cot
  ring

theorem v57 : val_main_v57 (F := Ideal) x0 x1 x2 x3 x4 x5 (ix2 r q) = ((A.cot r q * A.g q : ℝ) : EReal) := by
  pointwise [val_main_v57, val_main_v56, val_main_v29, val_main_v4]
  simp only [v49 h, h.g, ← EReal.coe_mul]

theorem v63 : val_main_v63 (F := Ideal) x0 x1 x2 x3 x4 x5 (ix2 r q) = ((A.cot r q * A.g q * rs (A.z r) : ℝ) : EReal) := by
  pointwise [val_main_v63, val_main_v62]
  simp only [v57 h, v23 h, ← EReal.coe_mul]

/-- The cotangent of the variance, over the row's length. -/
def _root_.Cert.Ln2Ref.Args.u (A : Args) (r : Fin 4096) : ℝ :=
  (∑ k, cen (A.z r) k * (A.cot r k * A.g k)) * (-1 / 2 * (rs (A.z r) * (1 / spread (A.z r)))) * (1 / 1024)

theorem v70 : val_main_v70 (F := Ideal) x0 x1 x2 x3 x4 x5 (ix1 r) = (A.u r : EReal) := by
  pointwise [val_main_v70, val_main_cst_22, val_main_v69, val_main_v68, val_main_cst_21, val_main_v64, val_main_v61, val_main_v60, val_main_cst_19, val_main_v59]
  rw [Fin.sum_univ_one]
  simp only [v57 h, v20 h, v26 h, of_zero, of_1024, ← EReal.coe_mul, coe_sum, div_1024, ← EReal.coe_add]
  rfl

theorem v72 : val_main_v72 (F := Ideal) x0 x1 x2 x3 x4 x5 (ix2 r q) = ((A.u r * (2 * cen (A.z r) q) : ℝ) : EReal) := by
  pointwise [val_main_v72, val_main_v71, val_main_v14, val_main_v13, val_main_cst_2]
  simp only [v70 h, v11 h, of_two, ← EReal.coe_mul]

theorem v82 : val_main_v82 (F := Ideal) x0 x1 x2 x3 x4 x5 (ix2 r q) = (A.dz r q : EReal) := by
  pointwise [val_main_v82, val_main_v81, val_main_v80, val_main_cst_25, val_main_v79, val_main_v78, val_main_cst_24, val_main_v77, val_main_v76,
    val_main_v75, val_main_v74, val_main_cst_23, val_main_v73, val_main_v67, val_main_v66, val_main_cst_20, val_main_v65]
  simp only [v72 h, v63 h, of_zero, of_1024, ← EReal.coe_mul, ← EReal.coe_neg, coe_sum, div_1024, ← EReal.coe_add]
  congr 1
  unfold Args.dz
  rw [← chain (A.z r) _ q (A.u r) rfl]
  simp

theorem v83 : val_main_v83 (F := Ideal) x0 x1 x2 x3 x4 x5 (ix2 0 q) = (A.db q : EReal) := by
  pointwise [val_main_v83, val_main_v52, val_main_cst_16, val_main_v51, val_main_v50, val_main_cst_15]
  simp only [v49 h, of_zero, coe_sum, ← EReal.coe_add]
  simp [Args.db]

theorem v84 : val_main_v84 (F := Ideal) x0 x1 x2 x3 x4 x5 (ix2 0 q) = (A.dg q : EReal) := by
  pointwise [val_main_v84, val_main_v58, val_main_cst_18, val_main_v55, val_main_v54, val_main_cst_17, val_main_v53]
  simp only [v49 h, v28 h, of_zero, ← EReal.coe_mul, coe_sum, ← EReal.coe_add]
  simp [Args.dg, mul_comm]

theorem v86 (j : Fin 128) : val_main_v86 (F := Ideal) x0 x1 x2 x3 x4 x5 (ix2 0 j) = (A.loss : EReal) := by
  pointwise [val_main_v86, val_main_v43, val_main_cst_11, val_main_v42, val_main_cst_10, val_main_v41, val_main_v40, val_main_cst_9, val_main_v39, val_main_cst_8, val_main_v36]
  simp only [v35 h, of_half, of_zero, of_1024, ← EReal.coe_mul, coe_sum, div_1024, ← EReal.coe_add]
  congr 1
  unfold Args.loss Args.rowLoss
  rw [Finset.mul_sum]
  exact Finset.sum_congr rfl fun r _ => by ring

end Cert.Ln2Ref

end
-- ==== Proof.Ln2Tile.lean ====
/- What the last layer norm's kernel computes of 256 rows: the residual sum, its norm, the loss and the gradients, as reals. -/
module

public import proofs.«01_k».proof.Proof.Ln2Ref
public import proofs.«01_k».proof.Proof.Gen.Ln2Ideal.Value

@[expose] public section

set_option maxRecDepth 16384

noncomputable section

namespace Cert.Ln2Tile

open Idealize.ShloMosaic Idealize.ShloMosaic.TcCoe Idealize.SL.Sem
open Cert.Ln2Ideal Cert.Ln2Ideal.Gen Cert.Consts Cert.LnRow
open Cert.Ln2Ref (Args)

/-- The loaded blocks hold the rows `ρ` of the arguments. -/
structure Rows (A : Args) (ρ : Fin 256 → Fin 4096) (v0 : Vec Ideal S256x2816 .bf16) (v2 : Vec Ideal S2816x1024 .bf16) (v11 : Vec Ideal S256x1024 .f32)
    (v10 v15 : Vec Ideal S1x1024 .f32) (v36 : Vec Ideal S256x1024 .f32) : Prop where
  a : ∀ p k, v0 (ix2 p k) = (A.a (ρ p) k : EReal)
  w : ∀ k q, v2 (ix2 k q) = (A.w k q : EReal)
  x : ∀ p q, v11 (ix2 p q) = (A.x (ρ p) q : EReal)
  g : ∀ q, v10 (ix2 0 q) = (A.g q : EReal)
  b : ∀ q, v15 (ix2 0 q) = (A.b q : EReal)
  t : ∀ p q, v36 (ix2 p q) = (A.t (ρ p) q : EReal)

variable {A : Args} {ρ : Fin 256 → Fin 4096} {v0 : Vec Ideal S256x2816 .bf16} {v2 : Vec Ideal S2816x1024 .bf16} {v11 : Vec Ideal S256x1024 .f32}
    {v10 v15 : Vec Ideal S1x1024 .f32} {v36 : Vec Ideal S256x1024 .f32} (h : Rows A ρ v0 v2 v11 v10 v15 v36) (p : Fin 256) (q : Fin 1024)

include h

theorem pay3 : k0_pay3 (F := Ideal) v0 v2 v11 (ix2 p q) = (cen (A.z (ρ p)) q : EReal) := by
  pointwise [k0_pay3]
  simp only [h.a, h.x, h.w, of_alpha, of_1024, ← EReal.coe_mul, coe_sum, ← EReal.coe_add, div_1024, ← EReal.coe_sub]
  congr 1
  unfold cen mean Args.z
  simp only [add_comm]

theorem pay4 : k0_pay4 (F := Ideal) v0 v2 v11 (ix2 p 0) = (rs (A.z (ρ p)) : EReal) := by
  pointwise [k0_pay4]
  simp only [pay3 h, of_1024, of_eps, ← EReal.coe_mul, coe_sum, ← EReal.coe_add, div_1024]
  exact rsqrt_pos (spread_pos _)

theorem pay5 : k0_pay5 (F := Ideal) v0 v2 v11 (ix2 p q) = (nrm (A.z (ρ p)) q : EReal) := by
  pointwise [k0_pay5]
  simp only [pay3 h, pay4 h, ← EReal.coe_mul]
  rfl

theorem pay8 : k0_pay8 (F := Ideal) (k0_pay6 v0 v2 v10 v11) (k0_pay7 v15) v36 (ix2 p q) = (A.err (ρ p) q : EReal) := by
  pointwise [k0_pay8, k0_pay6, k0_pay7]
  simp only [pay5 h, h.g, h.b, h.t, ← EReal.coe_mul, ← EReal.coe_add, ← EReal.coe_sub]
  rfl

theorem pay9 : k0_pay9 (F := Ideal) (k0_pay6 v0 v2 v10 v11) (k0_pay7 v15) v36 (ix2 p q) = (A.cot (ρ p) q : EReal) := by
  pointwise [k0_pay9]
  simp only [pay8 h, of_inv1024, ← EReal.coe_mul]
  rfl

theorem pay10 : k0_pay10 (F := Ideal) v10 (k0_pay4 v0 v2 v11) (k0_pay5 v0 v2 v11) (k0_pay6 v0 v2 v10 v11) (k0_pay7 v15) v36 (ix2 p q) = (A.dz (ρ p) q : EReal) := by
  pointwise [k0_pay10]
  simp only [pay9 h, pay4 h, pay5 h, h.g, of_1024, ← EReal.coe_mul, coe_sum, div_1024, ← EReal.coe_sub]
  rfl

theorem pay11 : k0_pay11 (F := Ideal) v10 (k0_pay4 v0 v2 v11) (k0_pay5 v0 v2 v11) (k0_pay6 v0 v2 v10 v11) (k0_pay7 v15) v36 (ix2 p q) = (A.dz (ρ p) q : EReal) := by
  unfold k0_pay11
  exact pay10 h p q

theorem pay12 (j : Fin 128) : k0_pay12 (F := Ideal) (k0_pay6 v0 v2 v10 v11) (k0_pay7 v15) v36 (ix2 0 j) = ((∑ p, A.rowLoss (ρ p) * (1 / 2048) : ℝ) : EReal) := by
  pointwise [k0_pay12]
  simp only [pay8 h, of_inv2048, ← EReal.coe_mul, coe_sum]
  congr 1
  rw [Finset.sum_mul]
  rfl

theorem pay13 : k0_pay13 (F := Ideal) (k0_pay5 v0 v2 v11) (k0_pay6 v0 v2 v10 v11) (k0_pay7 v15) v36 (ix2 0 q) = ((∑ p, A.cot (ρ p) q * nrm (A.z (ρ p)) q : ℝ) : EReal) := by
  pointwise [k0_pay13]
  simp only [pay9 h, pay5 h, ← EReal.coe_mul, coe_sum]

theorem pay14 : k0_pay14 (F := Ideal) (k0_pay6 v0 v2 v10 v11) (k0_pay7 v15) v36 (ix2 0 q) = ((∑ p, A.cot (ρ p) q : ℝ) : EReal) := by
  pointwise [k0_pay14]
  simp only [pay9 h, coe_sum]

omit h

variable {F : FTy → Type} [FloatOps F] (w0 : Vec F S256x2816 .bf16) (w2 : Vec F S2816x1024 .bf16) (w11 : Vec F S256x1024 .f32)
    (w10 w15 : Vec F S1x1024 .f32) (w36 : Vec F S256x1024 .f32)

/-! The second half of a block repeats the first half's operations. -/

theorem again3 : k0_pay15 (k0_pay2 w0 w2) w11 = k0_pay3 w0 w2 w11 := rfl
theorem again4 : k0_pay16 (k0_pay2 w0 w2) w11 = k0_pay4 w0 w2 w11 := rfl
theorem again5 : k0_pay17 (k0_pay2 w0 w2) w11 = k0_pay5 w0 w2 w11 := rfl
theorem again8 : k0_pay18 (k0_pay2 w0 w2) w10 w11 w15 w36 = k0_pay8 (k0_pay6 w0 w2 w10 w11) (k0_pay7 w15) w36 := rfl
theorem again9 : k0_pay20 (k0_pay2 w0 w2) w10 w11 w15 w36 = k0_pay9 (k0_pay6 w0 w2 w10 w11) (k0_pay7 w15) w36 := rfl
theorem again10 : k0_pay24 (k0_pay16 (k0_pay2 w0 w2) w11) (k0_pay17 (k0_pay2 w0 w2) w11) (k0_pay21 (k0_pay2 w0 w2) w10 w11 w15 w36)
    (k0_pay22 (k0_pay2 w0 w2) w10 w11 w15 w36) (k0_pay23 (k0_pay2 w0 w2) w10 w11 w15 w36)
    = k0_pay10 w10 (k0_pay4 w0 w2 w11) (k0_pay5 w0 w2 w11) (k0_pay6 w0 w2 w10 w11) (k0_pay7 w15) w36 := rfl
theorem again11 : k0_pay25 (k0_pay16 (k0_pay2 w0 w2) w11) (k0_pay17 (k0_pay2 w0 w2) w11) (k0_pay21 (k0_pay2 w0 w2) w10 w11 w15 w36)
    (k0_pay22 (k0_pay2 w0 w2) w10 w11 w15 w36) (k0_pay23 (k0_pay2 w0 w2) w10 w11 w15 w36)
    = k0_pay11 w10 (k0_pay4 w0 w2 w11) (k0_pay5 w0 w2 w11) (k0_pay6 w0 w2 w10 w11) (k0_pay7 w15) w36 := rfl

variable {v0' : Vec Ideal S256x2816 .bf16} {v2' : Vec Ideal S2816x1024 .bf16} {v11' : Vec Ideal S256x1024 .f32}
    {v10' v15' : Vec Ideal S1x1024 .f32} {v36' : Vec Ideal S256x1024 .f32} {ρ' : Fin 256 → Fin 4096} (h' : Rows A ρ' v0' v2' v11' v10' v15' v36')

/-! The block's sums: the first half's added to the second half's. -/

include h h'

theorem pay26 (j : Fin 128) : k0_pay26 (F := Ideal) (k0_pay12 (k0_pay6 v0 v2 v10 v11) (k0_pay7 v15) v36) (k0_pay19 (k0_pay2 v0' v2') v10' v11' v15' v36') (ix2 0 j)
    = ((∑ p, A.rowLoss (ρ p) * (1 / 2048) + ∑ p, A.rowLoss (ρ' p) * (1 / 2048) : ℝ) : EReal) := by
  pointwise [k0_pay26, k0_pay19]
  simp only [again8, pay8 h', pay12 h, of_inv2048, ← EReal.coe_mul, coe_sum, ← EReal.coe_add]
  congr 2
  rw [Finset.sum_mul]
  rfl

theorem pay27 : k0_pay27 (F := Ideal) (k0_pay13 (k0_pay5 v0 v2 v11) (k0_pay6 v0 v2 v10 v11) (k0_pay7 v15) v36) (k0_pay17 (k0_pay2 v0' v2') v11') (k0_pay20 (k0_pay2 v0' v2') v10' v11' v15' v36') (ix2 0 q)
    = ((∑ p, A.cot (ρ p) q * nrm (A.z (ρ p)) q + ∑ p, A.cot (ρ' p) q * nrm (A.z (ρ' p)) q : ℝ) : EReal) := by
  pointwise [k0_pay27]
  simp only [again9, again5, pay9 h', pay5 h', pay13 h, ← EReal.coe_mul, coe_sum, ← EReal.coe_add]

theorem pay28 : k0_pay28 (F := Ideal) (k0_pay14 (k0_pay6 v0 v2 v10 v11) (k0_pay7 v15) v36) (k0_pay20 (k0_pay2 v0' v2') v10' v11' v15' v36') (ix2 0 q)
    = ((∑ p, A.cot (ρ p) q + ∑ p, A.cot (ρ' p) q : ℝ) : EReal) := by
  pointwise [k0_pay28]
  simp only [again9, pay9 h', pay14 h, coe_sum, ← EReal.coe_add]

end Cert.Ln2Tile

end
-- ==== Proof.Ln2Cases.lean ====
/- What a grid point of the last layer norm's kernel leaves in its output blocks: the gradient of its 512 rows, and the
   running sums of the loss and of the two gain gradients. -/
module

public import proofs.«01_k».proof.Proof.Ln2Tile

@[expose] public section

set_option maxRecDepth 16384

noncomputable section

namespace Cert.Ln2Cases

open Idealize.ShloMosaic Idealize.ShloMosaic.TcCoe Idealize.SL.Sem
open Cert.Ln2Ideal Cert.Ln2Ideal.Gen Cert.Consts Cert.LnRow Cert.Ln2Tile
open Cert.Ln2Ref (Args)

/-- The input blocks hold the rows `ρ` of the arguments. -/
structure Block (A : Args) (ρ : Fin 512 → Fin 4096) (x0 : Vec Ideal S512x2816 .bf16) (x1 : Vec Ideal S2816x1024 .bf16) (x2 : Vec Ideal S512x1024 .f32)
    (x3 x4 : Vec Ideal S1x1024 .f32) (x5 : Vec Ideal S512x1024 .f32) : Prop where
  a : ∀ p k, x0 (ix2 p k) = (A.a (ρ p) k : EReal)
  w : ∀ k q, x1 (ix2 k q) = (A.w k q : EReal)
  x : ∀ p q, x2 (ix2 p q) = (A.x (ρ p) q : EReal)
  g : ∀ q, x3 (ix2 0 q) = (A.g q : EReal)
  b : ∀ q, x4 (ix2 0 q) = (A.b q : EReal)
  t : ∀ p q, x5 (ix2 p q) = (A.t (ρ p) q : EReal)

/-- A row of the block's first half, and of its second half. -/
abbrev lo (ρ : Fin 512 → Fin 4096) (p : Fin 256) : Fin 4096 := ρ ⟨p.val, by omega⟩
abbrev hi (ρ : Fin 512 → Fin 4096) (p : Fin 256) : Fin 4096 := ρ ⟨256 + p.val, by omega⟩

variable (c : Dev nD) (i : grid0.Coords)
  (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x128 .f32) (h11 : a11.IsWhole) (a12 : Memref sig .tc .vmem S1x1024 .f32) (h12 : a12.IsWhole) (a13 : Memref sig .tc .vmem S1x1024 .f32) (h13 : a13.IsWhole) (a14 : Memref sig .tc .vmem S512x1024 .f32) (h14 : a14.IsWhole)
  {x0 : Vec Ideal S512x2816 .bf16} {x1 : Vec Ideal S2816x1024 .bf16} {x2 : Vec Ideal S512x1024 .f32} {x3 x4 : Vec Ideal S1x1024 .f32} {x5 : Vec Ideal S512x1024 .f32}
  (xo8 : Vec Ideal S1x128 .f32) (xo9 xo10 : Vec Ideal S1x1024 .f32) {A : Args} {ρ : Fin 512 → Fin 4096} (h : Block A ρ x0 x1 x2 x3 x4 x5)

theorem hz : (![0, 0] : Fin 2 → Nat) = fun _ => 0 := funext fun a => by fin_cases a <;> rfl

include h

theorem rows_lo : Rows A (lo ρ) (View.ld x0 (Rect.unit ![0, 0] ![256, 2816] inb_S512x2816_S256x2816_0_0)) x1
    (View.ld x2 (Rect.unit ![0, 0] ![256, 1024] inb_S512x1024_S256x1024_0_0)) x3 x4 (View.ld x5 (Rect.unit ![0, 0] ![256, 1024] inb_S512x1024_S256x1024_0_0)) where
  a p k := by
    show x0 _ = _
    rw [← h.a]
    refine congrArg x0 (funext fun a => Fin.ext ?_)
    match a with
    | ⟨0, _⟩ => show 0 + 1 * p.val = p.val; omega
    | ⟨1, _⟩ => show 0 + 1 * k.val = k.val; omega
  w := h.w
  x p q := by
    show x2 _ = _
    rw [← h.x]
    refine congrArg x2 (funext fun a => Fin.ext ?_)
    match a with
    | ⟨0, _⟩ => show 0 + 1 * p.val = p.val; omega
    | ⟨1, _⟩ => show 0 + 1 * q.val = q.val; omega
  g := h.g
  b := h.b
  t p q := by
    show x5 _ = _
    rw [← h.t]
    refine congrArg x5 (funext fun a => Fin.ext ?_)
    match a with
    | ⟨0, _⟩ => show 0 + 1 * p.val = p.val; omega
    | ⟨1, _⟩ => show 0 + 1 * q.val = q.val; omega

theorem rows_hi : Rows A (hi ρ) (View.ld x0 (Rect.unit ![256, 0] ![256, 2816] inb_S512x2816_S256x2816_256_0)) x1
    (View.ld x2 (Rect.unit ![256, 0] ![256, 1024] inb_S512x1024_S256x1024_256_0)) x3 x4 (View.ld x5 (Rect.unit ![256, 0] ![256, 1024] inb_S512x1024_S256x1024_256_0)) where
  a p k := by
    show x0 _ = _
    rw [← h.a]
    refine congrArg x0 (funext fun a => Fin.ext ?_)
    match a with
    | ⟨0, _⟩ => show 256 + 1 * p.val = 256 + p.val; omega
    | ⟨1, _⟩ => show 0 + 1 * k.val = k.val; omega
  w := h.w
  x p q := by
    show x2 _ = _
    rw [← h.x]
    refine congrArg x2 (funext fun a => Fin.ext ?_)
    match a with
    | ⟨0, _⟩ => show 256 + 1 * p.val = 256 + p.val; omega
    | ⟨1, _⟩ => show 0 + 1 * q.val = q.val; omega
  g := h.g
  b := h.b
  t p q := by
    show x5 _ = _
    rw [← h.t]
    refine congrArg x5 (funext fun a => Fin.ext ?_)
    match a with
    | ⟨0, _⟩ => show 256 + 1 * p.val = 256 + p.val; omega
    | ⟨1, _⟩ => show 0 + 1 * q.val = q.val; omega

omit h

/-- The gradient block. -/
abbrev grd (A : Args) (ρ : Fin 512 → Fin 4096) (y : S512x1024.Idx) : EReal := (A.dz (ρ (y 0)) (y 1) : EReal)

theorem grd_lo (p : Fin 256) (q : Fin 1024) : grd A ρ ((Rect.unit (s := S512x1024) ![0, 0] S256x1024.size inb_S512x1024_S256x1024_0_0).emb (ix2 p q)) = (A.dz (lo ρ p) q : EReal) := by
  unfold grd lo
  congr 2
  · congr 1
    exact Fin.ext (show 0 + 1 * p.val = p.val by omega)
  · exact Fin.ext (show 0 + 1 * q.val = q.val by omega)

theorem grd_hi (p : Fin 256) (q : Fin 1024) : grd A ρ ((Rect.unit (s := S512x1024) ![256, 0] S256x1024.size inb_S512x1024_S256x1024_256_0).emb (ix2 p q)) = (A.dz (hi ρ p) q : EReal) := by
  unfold grd hi
  congr 2
  · congr 1
    exact Fin.ext (show 256 + 1 * p.val = 256 + p.val by omega)
  · exact Fin.ext (show 0 + 1 * q.val = q.val by omega)

/-! The sums of a block. -/

def blkLoss (A : Args) (ρ : Fin 512 → Fin 4096) : ℝ := ∑ p, A.rowLoss (lo ρ p) * (1 / 2048) + ∑ p, A.rowLoss (hi ρ p) * (1 / 2048)
def blkDg (A : Args) (ρ : Fin 512 → Fin 4096) (q : Fin 1024) : ℝ :=
  ∑ p, A.cot (lo ρ p) q * nrm (A.z (lo ρ p)) q + ∑ p, A.cot (hi ρ p) q * nrm (A.z (hi ρ p)) q
def blkDb (A : Args) (ρ : Fin 512 → Fin 4096) (q : Fin 1024) : ℝ := ∑ p, A.cot (lo ρ p) q + ∑ p, A.cot (hi ρ p) q

include h

section
variable (hc0 : cond0_0 i) (hc1 : ¬cond0_1 i) (hc2 : cond0_2 i) (hc3 : ¬cond0_3 i) (hc4 : cond0_4 i) (hc5 : ¬cond0_5 i)

theorem outA6 (y : S512x1024.Idx) : out0_A_6 c i a3 h3 a4 h4 a5 h5 a6 h6 a7 h7 a8 h8 a9 h9 a10 h10 a11 h11 a12 h12 a13 h13 a14 h14 hc0 hc1 hc2 hc3 hc4 hc5 x0 x1 x2 x3 x4 x5 y = grd A ρ y := by
  unfold out0_A_6
  rw [View.read_writes_eq_canon _ _ _ (fun _ => cover0_A_6 ..)]
  refine View.canon_apply_of_pieces (Val := Elt Ideal) (e := .f32) (grd A ρ) _ ?_ y ?_
  swap; exact cover0_A_6 ..
  unfold kernelRun0_A
  dsimp only
  sl_unfold_words
  simp only [View.readAt_eq_ld, Memref.IsWhole.read_unread, View.ld_unit_zero (S := S1x128) hz, View.ld_unit_zero (S := S2816x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact pay10 (rows_hi h) p q
  · obtain ⟨p, q, rfl⟩ : ∃ (p : Fin 256) (q : Fin 1024), x = ix2 p q := ⟨x 0, x 1, eq_ix2 x⟩
    refine Eq.trans ?_ (grd_lo p q).symm
    exact pay10 (rows_lo h) p q

theorem outA7 (y : S512x1024.Idx) : out0_A_7 c i a3 h3 a4 h4 a5 h5 a6 h6 a7 h7 a8 h8 a9 h9 a10 h10 a11 h11 a12 h12 a13 h13 a14 h14 hc0 hc1 hc2 hc3 hc4 hc5 x0 x1 x2 x3 x4 x5 y = grd A ρ y := by
  unfold out0_A_7
  rw [View.read_writes_eq_canon _ _ _ (fun _ => cover0_A_7 ..)]
  refine View.canon_apply_of_pieces (Val := Elt Ideal) (e := .bf16) (grd A ρ) _ ?_ y ?_
  swap; exact cover0_A_7 ..
  unfold kernelRun0_A
  dsimp only
  sl_unfold_words
  simp only [View.readAt_eq_ld, Memref.IsWhole.read_unread, View.ld_unit_zero (S := S1x128) hz, View.ld_unit_zero (S := S2816x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact pay11 (rows_hi h) p q
  · obtain ⟨p, q, rfl⟩ : ∃ (p : Fin 256) (q : Fin 1024), x = ix2 p q := ⟨x 0, x 1, eq_ix2 x⟩
    refine Eq.trans ?_ (grd_lo p q).symm
    exact pay11 (rows_lo h) p q

theorem outA8 (j : Fin 128) : out0_A_8 c i a3 h3 a4 h4 a5 h5 a6 h6 a7 h7 a8 h8 a9 h9 a10 h10 a11 h11 a12 h12 a13 h13 a14 h14 hc0 hc1 hc2 hc3 hc4 hc5 x0 x1 x2 x3 x4 x5 (ix2 0 j) = (blkLoss A ρ : EReal) := by
  unfold out0_A_8
  rw [View.read_writes_eq_canon _ _ _ (fun _ => cover0_A_8 ..)]
  unfold kernelRun0_A
  dsimp only
  sl_unfold_words
  rw [View.canon_unit_zero hz]
  simp only [View.readAt_eq_ld, Memref.IsWhole.read_unread, View.ld_unit_zero (S := S1x128) hz, View.ld_unit_zero (S := S2816x1024) hz, View.ld_unit_zero (S := S1x1024) hz]
  exact pay26 (rows_lo h) (rows_hi h) j

theorem outA9 (j : Fin 1024) : out0_A_9 c i a3 h3 a4 h4 a5 h5 a6 h6 a7 h7 a8 h8 a9 h9 a10 h10 a11 h11 a12 h12 a13 h13 a14 h14 hc0 hc1 hc2 hc3 hc4 hc5 x0 x1 x2 x3 x4 x5 (ix2 0 j) = (blkDg A ρ j : EReal) := by
  unfold out0_A_9
  rw [View.read_writes_eq_canon _ _ _ (fun _ => cover0_A_9 ..)]
  unfold kernelRun0_A
  dsimp only
  sl_unfold_words
  rw [View.canon_unit_zero hz]
  simp only [View.readAt_eq_ld, Memref.IsWhole.read_unread, View.ld_unit_zero (S := S1x128) hz, View.ld_unit_zero (S := S2816x1024) hz, View.ld_unit_zero (S := S1x1024) hz]
  exact pay27 (rows_lo h) j (rows_hi h)

theorem outA10 (j : Fin 1024) : out0_A_10 c i a3 h3 a4 h4 a5 h5 a6 h6 a7 h7 a8 h8 a9 h9 a10 h10 a11 h11 a12 h12 a13 h13 a14 h14 hc0 hc1 hc2 hc3 hc4 hc5 x0 x1 x2 x3 x4 x5 (ix2 0 j) = (blkDb A ρ j : EReal) := by
  unfold out0_A_10
  rw [View.read_writes_eq_canon _ _ _ (fun _ => cover0_A_10 ..)]
  unfold kernelRun0_A
  dsimp only
  sl_unfold_words
  rw [View.canon_unit_zero hz]
  simp only [View.readAt_eq_ld, Memref.IsWhole.read_unread, View.ld_unit_zero (S := S1x128) hz, View.ld_unit_zero (S := S2816x1024) hz, View.ld_unit_zero (S := S1x1024) hz]
  exact pay28 (rows_lo h) j (rows_hi h)

end

section
variable (hc0 : ¬cond0_0 i) (hc1 : cond0_1 i) (hc2 : ¬cond0_2 i) (hc3 : cond0_3 i) (hc4 : ¬cond0_4 i) (hc5 : cond0_5 i)

theorem outB6 (y : S512x1024.Idx) : out0_B_6 c i a3 h3 a4 h4 a5 h5 a6 h6 a7 h7 a8 h8 a9 h9 a10 h10 a11 h11 a12 h12 a13 h13 a14 h14 hc0 hc1 hc2 hc3 hc4 hc5 x0 x1 x2 x3 x4 x5 xo8 xo9 xo10 y = grd A ρ y := by
  unfold out0_B_6
  rw [View.read_writes_eq_canon _ _ _ (fun _ => cover0_B_6 ..)]
  refine View.canon_apply_of_pieces (Val := Elt Ideal) (e := .f32) (grd A ρ) _ ?_ y ?_
  swap; exact cover0_B_6 ..
  unfold kernelRun0_B
  dsimp only
  sl_unfold_words
  simp only [View.readAt_eq_ld, Memref.IsWhole.read_unread, View.ld_unit_zero (S := S1x128) hz, View.ld_unit_zero (S := S2816x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact pay10 (rows_hi h) p q
  · obtain ⟨p, q, rfl⟩ : ∃ (p : Fin 256) (q : Fin 1024), x = ix2 p q := ⟨x 0, x 1, eq_ix2 x⟩
    refine Eq.trans ?_ (grd_lo p q).symm
    exact pay10 (rows_lo h) p q

theorem outB7 (y : S512x1024.Idx) : out0_B_7 c i a3 h3 a4 h4 a5 h5 a6 h6 a7 h7 a8 h8 a9 h9 a10 h10 a11 h11 a12 h12 a13 h13 a14 h14 hc0 hc1 hc2 hc3 hc4 hc5 x0 x1 x2 x3 x4 x5 xo8 xo9 xo10 y = grd A ρ y := by
  unfold out0_B_7
  rw [View.read_writes_eq_canon _ _ _ (fun _ => cover0_B_7 ..)]
  refine View.canon_apply_of_pieces (Val := Elt Ideal) (e := .bf16) (grd A ρ) _ ?_ y ?_
  swap; exact cover0_B_7 ..
  unfold kernelRun0_B
  dsimp only
  sl_unfold_words
  simp only [View.readAt_eq_ld, Memref.IsWhole.read_unread, View.ld_unit_zero (S := S1x128) hz, View.ld_unit_zero (S := S2816x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact pay11 (rows_hi h) p q
  · obtain ⟨p, q, rfl⟩ : ∃ (p : Fin 256) (q : Fin 1024), x = ix2 p q := ⟨x 0, x 1, eq_ix2 x⟩
    refine Eq.trans ?_ (grd_lo p q).symm
    exact pay11 (rows_lo h) p q

theorem outB8 (j : Fin 128) : out0_B_8 c i a3 h3 a4 h4 a5 h5 a6 h6 a7 h7 a8 h8 a9 h9 a10 h10 a11 h11 a12 h12 a13 h13 a14 h14 hc0 hc1 hc2 hc3 hc4 hc5 x0 x1 x2 x3 x4 x5 xo8 xo9 xo10 (ix2 0 j) = xo8 (ix2 0 j) + (blkLoss A ρ : EReal) := by
  unfold out0_B_8
  rw [View.read_writes_eq_canon _ _ _ (fun _ => cover0_B_8 ..)]
  unfold kernelRun0_B
  dsimp only
  sl_unfold_words
  rw [View.canon_unit_zero hz]
  simp only [View.readAt_eq_ld, Memref.IsWhole.read_unread, View.ld_unit_zero (S := S1x128) hz, View.ld_unit_zero (S := S2816x1024) hz, View.ld_unit_zero (S := S1x1024) hz]
  unfold k0_pay29
  simp only [shapeCast_self]
  exact congrArg (xo8 (ix2 0 j) + ·) (pay26 (rows_lo h) (rows_hi h) j)

theorem outB9 (j : Fin 1024) : out0_B_9 c i a3 h3 a4 h4 a5 h5 a6 h6 a7 h7 a8 h8 a9 h9 a10 h10 a11 h11 a12 h12 a13 h13 a14 h14 hc0 hc1 hc2 hc3 hc4 hc5 x0 x1 x2 x3 x4 x5 xo8 xo9 xo10 (ix2 0 j) = xo9 (ix2 0 j) + (blkDg A ρ j : EReal) := by
  unfold out0_B_9
  rw [View.read_writes_eq_canon _ _ _ (fun _ => cover0_B_9 ..)]
  unfold kernelRun0_B
  dsimp only
  sl_unfold_words
  rw [View.canon_unit_zero hz]
  simp only [View.readAt_eq_ld, Memref.IsWhole.read_unread, View.ld_unit_zero (S := S1x128) hz, View.ld_unit_zero (S := S2816x1024) hz, View.ld_unit_zero (S := S1x1024) hz]
  unfold k0_pay30
  simp only [shapeCast_self]
  exact congrArg (xo9 (ix2 0 j) + ·) (pay27 (rows_lo h) j (rows_hi h))

theorem outB10 (j : Fin 1024) : out0_B_10 c i a3 h3 a4 h4 a5 h5 a6 h6 a7 h7 a8 h8 a9 h9 a10 h10 a11 h11 a12 h12 a13 h13 a14 h14 hc0 hc1 hc2 hc3 hc4 hc5 x0 x1 x2 x3 x4 x5 xo8 xo9 xo10 (ix2 0 j) = xo10 (ix2 0 j) + (blkDb A ρ j : EReal) := by
  unfold out0_B_10
  rw [View.read_writes_eq_canon _ _ _ (fun _ => cover0_B_10 ..)]
  unfold kernelRun0_B
  dsimp only
  sl_unfold_words
  rw [View.canon_unit_zero hz]
  simp only [View.readAt_eq_ld, Memref.IsWhole.read_unread, View.ld_unit_zero (S := S1x128) hz, View.ld_unit_zero (S := S2816x1024) hz, View.ld_unit_zero (S := S1x1024) hz]
  unfold k0_pay1
  simp only [shapeCast_self]
  exact congrArg (xo10 (ix2 0 j) + ·) (pay28 (rows_lo h) j (rows_hi h))

end

end Cert.Ln2Cases

end
-- ==== Proof.Ln2Value.lean ====
/- The last layer norm with the loss: the kernel's five results, over its eight blocks of 512 rows, at an index. -/
module

public import proofs.«01_k».proof.Proof.Ln2Cases
public import proofs.«01_k».proof.Proof.SumBlocks
public import proofs.«01_k».proof.Proof.Gen.Ln2Ideal.Value
public import Idealize.ShloMosaic.Lib.StableHlo.ReadAt
public import Idealize.ShloMosaic.Lib.Pipeline.ValueKit.Geometry

@[expose] public section

set_option maxRecDepth 16384

noncomputable section

namespace Cert.Ln2Value

open Idealize.ShloMosaic Idealize.ShloMosaic.TcCoe Idealize.SL.Sem
open Cert.Ln2Ideal Cert.Ln2Ideal.Gen Cert.Consts Cert.LnRow Cert.Ln2Cases
open Cert.Ln2Ref (Args Holds)

variable (m : (ℓ : Loc nD τ sig) → Buf (Elt Ideal) ℓ) (c : Dev nD)

/-- The arguments as launched. -/
abbrev A0 : Vec Ideal S4096x2816 .f32 := m ((c : Thread nD τ).loc main_arg0)
abbrev A1 : Vec Ideal S4096x1024 .f32 := m ((c : Thread nD τ).loc main_arg1)
abbrev A2 : Vec Ideal S2816x1024 .f32 := m ((c : Thread nD τ).loc main_arg2)
abbrev A3 : Vec Ideal S1x1024 .f32 := m ((c : Thread nD τ).loc main_arg3)
abbrev A4 : Vec Ideal S1x1024 .f32 := m ((c : Thread nD τ).loc main_arg4)
abbrev A5 : Vec Ideal S4096x1024 .f32 := m ((c : Thread nD τ).loc main_arg5)

/-- Row `r` of block `n` in the whole array (a number past the last block wraps round). -/
def row (n : ℕ) (r : Fin 512) : Fin 4096 := ⟨(512 * n + r.val) % 4096, Nat.mod_lt _ (by decide)⟩

theorem row_val (t : Fin cfg0.N) (r : Fin 512) : (row t.val r).val = t.val * 512 + 1 * r.val := by
  have := lt_of_lt_of_eq t.isLt N_0; have := r.isLt
  show (512 * t.val + r.val) % 4096 = _
  omega

theorem win0 : ∀ t : Fin cfg0.N, win0_0.index t = ![t.val, 0] := (by decide +kernel : ∀ t : Fin grid0.N, _)
theorem win1 : ∀ t : Fin cfg0.N, win0_1.index t = ![0, 0] := (by decide +kernel : ∀ t : Fin grid0.N, _)
theorem win2 : ∀ t : Fin cfg0.N, win0_2.index t = ![t.val, 0] := (by decide +kernel : ∀ t : Fin grid0.N, _)
theorem win3 : ∀ t : Fin cfg0.N, win0_3.index t = ![0, 0] := (by decide +kernel : ∀ t : Fin grid0.N, _)
theorem win4 : ∀ t : Fin cfg0.N, win0_4.index t = ![0, 0] := (by decide +kernel : ∀ t : Fin grid0.N, _)
theorem win5 : ∀ t : Fin cfg0.N, win0_5.index t = ![t.val, 0] := (by decide +kernel : ∀ t : Fin grid0.N, _)
theorem win6 : ∀ t : Fin cfg0.N, win0_6.index t = ![t.val, 0] := (by decide +kernel : ∀ t : Fin grid0.N, _)
theorem win7 : ∀ t : Fin cfg0.N, win0_7.index t = ![t.val, 0] := (by decide +kernel : ∀ t : Fin grid0.N, _)
theorem win8 : ∀ t : Fin cfg0.N, win0_8.index t = ![0, 0] := (by decide +kernel : ∀ t : Fin grid0.N, _)
theorem win9 : ∀ t : Fin cfg0.N, win0_9.index t = ![0, 0] := (by decide +kernel : ∀ t : Fin grid0.N, _)
theorem win10 : ∀ t : Fin cfg0.N, win0_10.index t = ![0, 0] := (by decide +kernel : ∀ t : Fin grid0.N, _)

theorem V0_apply (i : S4096x2816.Idx) : V m c main_v0 i = A0 m c i := by
  unfold V
  after_reads_at

theorem V1_apply (i : S2816x1024.Idx) : V m c main_v1 i = A2 m c i := by
  unfold V
  after_reads_at

variable {A : Args}

theorem iblk0 (t : Fin cfg0.N) (r : Fin 512) (q : Fin 2816) : iblk m c 0 t (ix2 r q) = A0 m c (ix2 (row t.val r) q) := by
  blk_simp [iblk]
  refine (V0_apply m c _).trans (congrArg (A0 m c) ?_)
  blk_ext [win0, row_val]

theorem iblk1 (t : Fin cfg0.N) (r : Fin 2816) (q : Fin 1024) : iblk m c 1 t (ix2 r q) = A2 m c (ix2 r q) := by
  blk_simp [iblk]
  refine (V1_apply m c _).trans (congrArg (A2 m c) ?_)
  blk_ext [win1, row_val]

theorem iblk2 (t : Fin cfg0.N) (r : Fin 512) (q : Fin 1024) : iblk m c 2 t (ix2 r q) = A1 m c (ix2 (row t.val r) q) := by
  blk_simp [iblk]
  refine (congrFun (V_main_arg1 m c) _).trans (congrArg (A1 m c) ?_)
  blk_ext [win2, row_val]

theorem iblk3 (t : Fin cfg0.N)  (q : Fin 1024) : iblk m c 3 t (ix2 0 q) = A3 m c (ix2 0 q) := by
  blk_simp [iblk]
  refine (congrFun (V_main_arg3 m c) _).trans (congrArg (A3 m c) ?_)
  blk_ext [win3, row_val]

theorem iblk4 (t : Fin cfg0.N)  (q : Fin 1024) : iblk m c 4 t (ix2 0 q) = A4 m c (ix2 0 q) := by
  blk_simp [iblk]
  refine (congrFun (V_main_arg4 m c) _).trans (congrArg (A4 m c) ?_)
  blk_ext [win4, row_val]

theorem iblk5 (t : Fin cfg0.N) (r : Fin 512) (q : Fin 1024) : iblk m c 5 t (ix2 r q) = A5 m c (ix2 (row t.val r) q) := by
  blk_simp [iblk]
  refine (congrFun (V_main_arg5 m c) _).trans (congrArg (A5 m c) ?_)
  blk_ext [win5, row_val]

variable {A : Args} (h : Holds A (A0 m c) (A1 m c) (A2 m c) (A3 m c) (A4 m c) (A5 m c))
include h

/-- The input blocks of point `t` hold its rows. -/
theorem block (t : Fin cfg0.N) : Block A (row t.val) (iblk m c 0 t) (iblk m c 1 t) (iblk m c 2 t) (iblk m c 3 t) (iblk m c 4 t) (iblk m c 5 t) where
  a p k := by rw [iblk0, h.a]
  w k q := by rw [iblk1, h.w]
  x p q := by rw [iblk2, h.x]
  g q := by rw [iblk3, h.g]
  b q := by rw [iblk4, h.b]
  t p q := by rw [iblk5, h.t]

/-! What a point leaves in the five output blocks. -/

theorem pt6A (t : Fin cfg0.N) (h0 : t.val % 8 = 0) (h1 : ¬1 ≤ t.val) (y : S512x1024.Idx) : (outsAt0 m c t.val t.isLt).1 y = grd A (row t.val) y := by
  rw [outsAt0_A m c t h0 h1 h0 h1 h0 h1]
  dsimp only
  apply outA6
  exact block m c h t

theorem pt6B (t : Fin cfg0.N) (h0 : ¬t.val % 8 = 0) (h1 : 1 ≤ t.val) (y : S512x1024.Idx) : (outsAt0 m c t.val t.isLt).1 y = grd A (row t.val) y := by
  rw [outsAt0_B m c t h0 h1 h0 h1 h0 h1]
  dsimp only
  apply outB6
  exact block m c h t

theorem pt6 (t : Fin cfg0.N) (y : S512x1024.Idx) : (outsAt0 m c t.val t.isLt).1 y = grd A (row t.val) y := by
  have := lt_of_lt_of_eq t.isLt N_0
  by_cases h1 : 1 ≤ t.val
  · exact pt6B m c h t (by omega) h1 y
  · exact pt6A m c h t (by omega) h1 y

theorem pt7A (t : Fin cfg0.N) (h0 : t.val % 8 = 0) (h1 : ¬1 ≤ t.val) (y : S512x1024.Idx) : (outsAt0 m c t.val t.isLt).2.1 y = grd A (row t.val) y := by
  rw [outsAt0_A m c t h0 h1 h0 h1 h0 h1]
  dsimp only
  apply outA7
  exact block m c h t

theorem pt7B (t : Fin cfg0.N) (h0 : ¬t.val % 8 = 0) (h1 : 1 ≤ t.val) (y : S512x1024.Idx) : (outsAt0 m c t.val t.isLt).2.1 y = grd A (row t.val) y := by
  rw [outsAt0_B m c t h0 h1 h0 h1 h0 h1]
  dsimp only
  apply outB7
  exact block m c h t

theorem pt7 (t : Fin cfg0.N) (y : S512x1024.Idx) : (outsAt0 m c t.val t.isLt).2.1 y = grd A (row t.val) y := by
  have := lt_of_lt_of_eq t.isLt N_0
  by_cases h1 : 1 ≤ t.val
  · exact pt7B m c h t (by omega) h1 y
  · exact pt7A m c h t (by omega) h1 y

theorem pt8A (t : Fin cfg0.N) (h0 : t.val % 8 = 0) (h1 : ¬1 ≤ t.val) (j : Fin 128) : (outsAt0 m c t.val t.isLt).2.2.1 (ix2 0 j) = (blkLoss A (row t.val) : EReal) := by
  rw [outsAt0_A m c t h0 h1 h0 h1 h0 h1]
  dsimp only
  apply outA8
  exact block m c h t

theorem pt8B (t : Fin cfg0.N) (h0 : ¬t.val % 8 = 0) (h1 : 1 ≤ t.val) (j : Fin 128) : (outsAt0 m c t.val t.isLt).2.2.1 (ix2 0 j)
    = (outsAt0 m c (t.val - 1) (Nat.lt_of_le_of_lt (Nat.sub_le _ _) t.isLt)).2.2.1 (ix2 0 j) + (blkLoss A (row t.val) : EReal) := by
  rw [outsAt0_B m c t h0 h1 h0 h1 h0 h1]
  dsimp only
  apply outB8
  exact block m c h t

/-- The running sum after point `n`. -/
theorem sum8 (j : Fin 128) : ∀ (n : ℕ) (hn : n < cfg0.N), (outsAt0 m c n hn).2.2.1 (ix2 0 j) = ((∑ i ∈ Finset.range (n + 1), blkLoss A (row i) : ℝ) : EReal)
  | 0, hn => by
    rw [Finset.sum_range_one]
    exact pt8A m c h ⟨0, hn⟩ rfl (Nat.not_succ_le_zero 0) j
  | n + 1, hn => by
    have := lt_of_lt_of_eq hn N_0
    rw [Finset.sum_range_succ, EReal.coe_add, ← sum8 j n (by omega)]
    exact pt8B m c h ⟨n + 1, hn⟩ (show ¬(n + 1) % 8 = 0 by omega) (show 1 ≤ n + 1 by omega) j

theorem pt9A (t : Fin cfg0.N) (h0 : t.val % 8 = 0) (h1 : ¬1 ≤ t.val) (j : Fin 1024) : (outsAt0 m c t.val t.isLt).2.2.2.1 (ix2 0 j) = (blkDg A (row t.val) j : EReal) := by
  rw [outsAt0_A m c t h0 h1 h0 h1 h0 h1]
  dsimp only
  apply outA9
  exact block m c h t

theorem pt9B (t : Fin cfg0.N) (h0 : ¬t.val % 8 = 0) (h1 : 1 ≤ t.val) (j : Fin 1024) : (outsAt0 m c t.val t.isLt).2.2.2.1 (ix2 0 j)
    = (outsAt0 m c (t.val - 1) (Nat.lt_of_le_of_lt (Nat.sub_le _ _) t.isLt)).2.2.2.1 (ix2 0 j) + (blkDg A (row t.val) j : EReal) := by
  rw [outsAt0_B m c t h0 h1 h0 h1 h0 h1]
  dsimp only
  apply outB9
  exact block m c h t

/-- The running sum after point `n`. -/
theorem sum9 (j : Fin 1024) : ∀ (n : ℕ) (hn : n < cfg0.N), (outsAt0 m c n hn).2.2.2.1 (ix2 0 j) = ((∑ i ∈ Finset.range (n + 1), blkDg A (row i) j : ℝ) : EReal)
  | 0, hn => by
    rw [Finset.sum_range_one]
    exact pt9A m c h ⟨0, hn⟩ rfl (Nat.not_succ_le_zero 0) j
  | n + 1, hn => by
    have := lt_of_lt_of_eq hn N_0
    rw [Finset.sum_range_succ, EReal.coe_add, ← sum9 j n (by omega)]
    exact pt9B m c h ⟨n + 1, hn⟩ (show ¬(n + 1) % 8 = 0 by omega) (show 1 ≤ n + 1 by omega) j

theorem pt10A (t : Fin cfg0.N) (h0 : t.val % 8 = 0) (h1 : ¬1 ≤ t.val) (j : Fin 1024) : (outsAt0 m c t.val t.isLt).2.2.2.2 (ix2 0 j) = (blkDb A (row t.val) j : EReal) := by
  rw [outsAt0_A m c t h0 h1 h0 h1 h0 h1]
  dsimp only
  apply outA10
  exact block m c h t

theorem pt10B (t : Fin cfg0.N) (h0 : ¬t.val % 8 = 0) (h1 : 1 ≤ t.val) (j : Fin 1024) : (outsAt0 m c t.val t.isLt).2.2.2.2 (ix2 0 j)
    = (outsAt0 m c (t.val - 1) (Nat.lt_of_le_of_lt (Nat.sub_le _ _) t.isLt)).2.2.2.2 (ix2 0 j) + (blkDb A (row t.val) j : EReal) := by
  rw [outsAt0_B m c t h0 h1 h0 h1 h0 h1]
  dsimp only
  apply outB10
  exact block m c h t

/-- The running sum after point `n`. -/
theorem sum10 (j : Fin 1024) : ∀ (n : ℕ) (hn : n < cfg0.N), (outsAt0 m c n hn).2.2.2.2 (ix2 0 j) = ((∑ i ∈ Finset.range (n + 1), blkDb A (row i) j : ℝ) : EReal)
  | 0, hn => by
    rw [Finset.sum_range_one]
    exact pt10A m c h ⟨0, hn⟩ rfl (Nat.not_succ_le_zero 0) j
  | n + 1, hn => by
    have := lt_of_lt_of_eq hn N_0
    rw [Finset.sum_range_succ, EReal.coe_add, ← sum10 j n (by omega)]
    exact pt10B m c h ⟨n + 1, hn⟩ (show ¬(n + 1) % 8 = 0 by omega) (show 1 ≤ n + 1 by omega) j

omit h

/-- A sum over the rows, block by block and half by half. -/
theorem sum_rows (f : Fin 4096 → ℝ) : ∑ i ∈ Finset.range 8, (∑ p, f (lo (row i) p) + ∑ p, f (hi (row i) p)) = ∑ r, f r := by
  rw [Sums.sum_blocks 8 512 rfl, Finset.sum_range (n := 8)]
  refine Finset.sum_congr rfl fun t _ => ?_
  rw [Sums.sum_blocks 2 256 rfl, Fin.sum_univ_two]
  have e : ∀ (k : Fin 512), row t.val k = Sums.at' 8 512 rfl t k := fun k => Fin.ext (by
    have := t.isLt; have := k.isLt
    show (512 * t.val + k.val) % 4096 = 512 * t.val + k.val
    omega)
  congr 1
  · refine Finset.sum_congr rfl fun p _ => congrArg f ((e _).trans (congrArg _ (Fin.ext ?_)))
    show p.val = 256 * 0 + p.val
    omega
  · refine Finset.sum_congr rfl fun p _ => congrArg f ((e _).trans (congrArg _ (Fin.ext ?_)))
    show 256 + p.val = 256 * 1 + p.val
    omega

theorem total_loss : ∑ i ∈ Finset.range 8, blkLoss A (row i) = A.loss := sum_rows fun r => A.rowLoss r * (1 / 2048)
theorem total_dg (q : Fin 1024) : ∑ i ∈ Finset.range 8, blkDg A (row i) q = A.dg q := sum_rows fun r => A.cot r q * nrm (A.z r) q
theorem total_db (q : Fin 1024) : ∑ i ∈ Finset.range 8, blkDb A (row i) q = A.db q := sum_rows fun r => A.cot r q

/-! The arrays after the run. -/

theorem final6 (h : Holds A (A0 m c) (A1 m c) (A2 m c) (A3 m c) (A4 m c) (A5 m c)) : (dats m 0 c).arrAt 6 cfg0.N = (fun i => (A.dz (i 0) (i 1) : EReal) : S4096x1024.Idx → EReal) := by
  refine (dats m 0 c).arrAt_eq_of_covers 6 _ (by decide +kernel) fun t hf y => ?_
  blk_simp
  rw [after0_6]
  refine Eq.trans (pt6 m c h t _) ?_
  obtain ⟨p, q, rfl⟩ : ∃ (p : Fin 512) (q : Fin 1024), y = ix2 p q := ⟨y 0, y 1, eq_ix2 y⟩
  have e : ((win0_6.blk t).view.emb (ix2 p q) : S4096x1024.Idx) = ix2 (row t.val p) q := by blk_ext [win6, row_val]
  rw [e]
  rfl

theorem final7 (h : Holds A (A0 m c) (A1 m c) (A2 m c) (A3 m c) (A4 m c) (A5 m c)) : (dats m 0 c).arrAt 7 cfg0.N = (fun i => (A.dz (i 0) (i 1) : EReal) : S4096x1024.Idx → EReal) := by
  refine (dats m 0 c).arrAt_eq_of_covers 7 _ (by decide +kernel) fun t hf y => ?_
  blk_simp
  rw [after0_7]
  refine Eq.trans (pt7 m c h t _) ?_
  obtain ⟨p, q, rfl⟩ : ∃ (p : Fin 512) (q : Fin 1024), y = ix2 p q := ⟨y 0, y 1, eq_ix2 y⟩
  have e : ((win0_7.blk t).view.emb (ix2 p q) : S4096x1024.Idx) = ix2 (row t.val p) q := by blk_ext [win7, row_val]
  rw [e]
  rfl

theorem final8 (h : Holds A (A0 m c) (A1 m c) (A2 m c) (A3 m c) (A4 m c) (A5 m c)) : (dats m 0 c).arrAt 8 cfg0.N = (fun _ => (A.loss : EReal) : S1x128.Idx → EReal) := by
  refine (dats m 0 c).arrAt_eq_of_covers 8 _ (by decide +kernel) fun t hf y => ?_
  have ht : t.val = 7 := by
    have := lt_of_lt_of_eq t.isLt N_0
    have := (flush0_8 t).mp hf
    omega
  blk_simp
  rw [after0_8]
  obtain ⟨p, q, rfl⟩ : ∃ (p : Fin 1) (q : Fin 128), y = ix2 p q := ⟨y 0, y 1, eq_ix2 y⟩
  obtain rfl : p = 0 := Subsingleton.elim _ _
  refine Eq.trans (sum8 m c h q t.val t.isLt) ?_
  rw [ht, total_loss]

theorem final9 (h : Holds A (A0 m c) (A1 m c) (A2 m c) (A3 m c) (A4 m c) (A5 m c)) : (dats m 0 c).arrAt 9 cfg0.N = (fun i => (A.dg (i 1) : EReal) : S1x1024.Idx → EReal) := by
  refine (dats m 0 c).arrAt_eq_of_covers 9 _ (by decide +kernel) fun t hf y => ?_
  have ht : t.val = 7 := by
    have := lt_of_lt_of_eq t.isLt N_0
    have := (flush0_9 t).mp hf
    omega
  blk_simp
  rw [after0_9]
  obtain ⟨p, q, rfl⟩ : ∃ (p : Fin 1) (q : Fin 1024), y = ix2 p q := ⟨y 0, y 1, eq_ix2 y⟩
  obtain rfl : p = 0 := Subsingleton.elim _ _
  refine Eq.trans (sum9 m c h q t.val t.isLt) ?_
  rw [ht, total_dg]
  refine congrArg (fun q => ((A.dg q : ℝ) : EReal)) (Fin.ext ?_)
  blk_simp [win9, row_val]

theorem final10 (h : Holds A (A0 m c) (A1 m c) (A2 m c) (A3 m c) (A4 m c) (A5 m c)) : (dats m 0 c).arrAt 10 cfg0.N = (fun i => (A.db (i 1) : EReal) : S1x1024.Idx → EReal) := by
  refine (dats m 0 c).arrAt_eq_of_covers 10 _ (by decide +kernel) fun t hf y => ?_
  have ht : t.val = 7 := by
    have := lt_of_lt_of_eq t.isLt N_0
    have := (flush0_10 t).mp hf
    omega
  blk_simp
  rw [after0_10]
  obtain ⟨p, q, rfl⟩ : ∃ (p : Fin 1) (q : Fin 1024), y = ix2 p q := ⟨y 0, y 1, eq_ix2 y⟩
  obtain rfl : p = 0 := Subsingleton.elim _ _
  refine Eq.trans (sum10 m c h q t.val t.isLt) ?_
  rw [ht, total_db]
  refine congrArg (fun q => ((A.db q : ℝ) : EReal)) (Fin.ext ?_)
  blk_simp [win10, row_val]

end Cert.Ln2Value

end
-- ==== Proof.Finite.lean ====
/- Reading a finiteness precondition: where `|x| < +∞` holds of every element, every element is a real. -/
module

public import Idealize.ShloMosaic.Lib.Pointwise
public import Idealize.ShloMosaic.Lib.ReduceAll

@[expose] public section

noncomputable section

namespace Cert.Finite

open Idealize.ShloMosaic

theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨x.toReal, (EReal.coe_toReal hlt.1.ne ?_).symm⟩
  rintro rfl
  exact absurd hlt.2 (by simp)

/-- `jnp.all(jnp.abs(x) < inf)`: every element of `x` is a real. -/
theorem all_real {s t u w : Shape} {axes : List (Fin s.rank)} [Subsingleton t.Idx] (x : FVec Ideal s .f32) {dims : Fin w.rank → Fin s.rank}
    (hb : w.BroadcastsInDim s dims) (init : IVec u 1) (h : s.ReducesTo axes t) (hu : 0 < u.numel) (j : t.Idx)
    (e : Host.reduce IntOp.andi (cmpf .olt (Host.absf x) (broadcastInDim s dims hb (constant (F := Ideal) w .f32 0x7F800000#32))) init h hu j = 1#1) (i : s.Idx) :
    ∃ r : ℝ, x i = (r : EReal) :=
  real_of_lt (x i) (Host.reduce_andi_all _ init h hu j e i)

instance : Subsingleton (⟨0, ![]⟩ : Shape).Idx := ⟨fun a b => funext fun i => i.elim0⟩

theorem and_one {a b : BitVec 1} (h : IntOp.andi a b = 1#1) : a = 1#1 ∧ b = 1#1 := by
  revert a b; decide

/-- The real array of a rank-2 array that holds reals. -/
theorem choose2 {a b : Nat} {x : (⟨2, ![a, b]⟩ : Shape).Idx → EReal} (h : ∀ i, ∃ r : ℝ, x i = (r : EReal)) :
    ∃ f : Fin a → Fin b → ℝ, ∀ p q, x (ix2 p q) = (f p q : EReal) :=
  ⟨fun p q => (h (ix2 p q)).choose, fun p q => (h (ix2 p q)).choose_spec⟩

end Cert.Finite

end
-- ==== Proof.Ln2Equal.lean ====
/- The last layer norm with the loss: on finite arguments the kernel's five results are the reference's. -/
module

public import proofs.«01_k».proof.Defs
public import proofs.«01_k».proof.Proof.Ln2Value
public import proofs.«01_k».proof.Proof.Finite
public import proofs.«01_k».proof.Proof.Gen.Pre_finite_ln2
public import Idealize.ShloMosaic.Lib.Quiescent

@[expose] public section

set_option maxRecDepth 16384

noncomputable section

namespace Cert.Ln2Equal

open Idealize.ShloMosaic Idealize.ShloMosaic.TcCoe Idealize.SL.Sem
open Cert.Ln2Ref (Args Holds)
open Cert.Ln2RefIdeal Cert.Ln2RefIdeal.Read

section
variable {x0 : Vec Ideal S4096x2816 .f32} {x1 : Vec Ideal S4096x1024 .f32} {x2 : Vec Ideal S2816x1024 .f32}
    {x3 x4 : Vec Ideal S1x1024 .f32} {x5 : Vec Ideal S4096x1024 .f32}

/-- Finite arguments hold reals. -/
theorem holds (hp : Cert.Pre_finite_ln2.fn (F := Ideal) x0 x1 x2 x3 x4 x5 = fun _ => 1#1) : ∃ A : Args, Holds A x0 x1 x2 x3 x4 x5 := by
  have e := congrFun hp (fun i => i.elim0)
  unfold Cert.Pre_finite_ln2.fn Cert.Pre_finite_ln2.fn_part1 at e
  obtain ⟨e, h5⟩ := Finite.and_one e
  obtain ⟨e, h4⟩ := Finite.and_one e
  obtain ⟨e, h3⟩ := Finite.and_one e
  obtain ⟨e, h2⟩ := Finite.and_one e
  obtain ⟨h0, h1⟩ := Finite.and_one e
  obtain ⟨a, ha⟩ := Finite.choose2 (Finite.all_real x0 _ _ _ _ _ h0)
  obtain ⟨x, hx⟩ := Finite.choose2 (Finite.all_real x1 _ _ _ _ _ h1)
  obtain ⟨w, hw⟩ := Finite.choose2 (Finite.all_real x2 _ _ _ _ _ h2)
  obtain ⟨g, hg⟩ := Finite.choose2 (Finite.all_real x3 _ _ _ _ _ h3)
  obtain ⟨b, hb⟩ := Finite.choose2 (Finite.all_real x4 _ _ _ _ _ h4)
  obtain ⟨t, ht⟩ := Finite.choose2 (Finite.all_real x5 _ _ _ _ _ h5)
  exact ⟨⟨a, x, w, g 0, b 0, t⟩, ha, hx, hw, hg 0, hb 0, ht⟩

variable {A : Args} (h : Holds A x0 x1 x2 x3 x4 x5)
include h

theorem ref82 : val_main_v82 (F := Ideal) x0 x1 x2 x3 x4 x5 = fun i => (A.dz (i 0) (i 1) : EReal) := by
  funext i
  obtain ⟨p, q, rfl⟩ : ∃ (p : Fin 4096) (q : Fin 1024), i = ix2 p q := ⟨i 0, i 1, eq_ix2 i⟩
  exact Ln2Ref.v82 h p q

theorem ref85 : val_main_v85 (F := Ideal) x0 x1 x2 x3 x4 x5 = fun i => (A.dz (i 0) (i 1) : EReal) := by
  funext i
  obtain ⟨p, q, rfl⟩ : ∃ (p : Fin 4096) (q : Fin 1024), i = ix2 p q := ⟨i 0, i 1, eq_ix2 i⟩
  pointwise [val_main_v85]
  exact Ln2Ref.v82 h p q

theorem ref86 : val_main_v86 (F := Ideal) x0 x1 x2 x3 x4 x5 = fun _ => (A.loss : EReal) := by
  funext i
  obtain ⟨p, q, rfl⟩ : ∃ (p : Fin 1) (q : Fin 128), i = ix2 p q := ⟨i 0, i 1, eq_ix2 i⟩
  obtain rfl : p = 0 := Subsingleton.elim _ _
  exact Ln2Ref.v86 h q

theorem ref84 : val_main_v84 (F := Ideal) x0 x1 x2 x3 x4 x5 = fun i => (A.dg (i 1) : EReal) := by
  funext i
  obtain ⟨p, q, rfl⟩ : ∃ (p : Fin 1) (q : Fin 1024), i = ix2 p q := ⟨i 0, i 1, eq_ix2 i⟩
  obtain rfl : p = 0 := Subsingleton.elim _ _
  exact Ln2Ref.v84 h q

theorem ref83 : val_main_v83 (F := Ideal) x0 x1 x2 x3 x4 x5 = fun i => (A.db (i 1) : EReal) := by
  funext i
  obtain ⟨p, q, rfl⟩ : ∃ (p : Fin 1) (q : Fin 1024), i = ix2 p q := ⟨i 0, i 1, eq_ix2 i⟩
  obtain rfl : p = 0 := Subsingleton.elim _ _
  exact Ln2Ref.v83 h q

end

theorem quiescent_ref : quiescent_Ln2RefIdeal := fun m ρ _ =>
  (θ_run Cert.Ln2RefIdeal.defs _ _).mono (fun r h => ⟨fun c => (h c).2.2.2.2.2, sem_eq_zero_of_no_sems (by decide) r.2⟩)
    (Cert.Ln2RefIdeal.Value.run (F := Ideal) m ρ)

theorem algebraic : algebraic_Ln2Ideal_Ln2RefIdeal_pre_finite_ln2 := by
  intro m ρ m' ρ' hpre hagree
  refine ⟨_, _, _, _, _, Cert.Ln2Ideal.Value.run_blocks (F := Ideal) m ρ, ?_⟩
  refine (θ_run Cert.Ln2RefIdeal.defs _ _).mono (fun _ h c => ?_) (Cert.Ln2RefIdeal.Value.run (F := Ideal) m' ρ')
  obtain ⟨A, hA⟩ := holds (hpre c)
  obtain ⟨e0, e1, e2, e3, e4, e5⟩ := hagree c
  obtain ⟨r0, r1, r2, r3, r4, hk⟩ := h c
  refine ⟨?_, ?_, ?_, ?_, ?_, hk⟩
  · refine r0.trans ((val_main_v82_eq _ _).trans ?_)
    rw [e0, e1, e2, e3, e4, e5]
    exact (ref82 hA).trans (Ln2Value.final6 m c hA).symm
  · refine r1.trans ((val_main_v85_eq _ _).trans ?_)
    rw [e0, e1, e2, e3, e4, e5]
    exact (ref85 hA).trans (Ln2Value.final7 m c hA).symm
  · refine r2.trans ((val_main_v86_eq _ _).trans ?_)
    rw [e0, e1, e2, e3, e4, e5]
    exact (ref86 hA).trans (Ln2Value.final8 m c hA).symm
  · refine r3.trans ((val_main_v84_eq _ _).trans ?_)
    rw [e0, e1, e2, e3, e4, e5]
    exact (ref84 hA).trans (Ln2Value.final9 m c hA).symm
  · refine r4.trans ((val_main_v83_eq _ _).trans ?_)
    rw [e0, e1, e2, e3, e4, e5]
    exact (ref83 hA).trans (Ln2Value.final10 m c hA).symm

end Cert.Ln2Equal

end
-- ==== Proof.Soft.lean ====
/-
  One row of a masked softmax over the extended reals, read as real numbers: a score is a real number where the key is
  seen and negative infinity elsewhere; the row's maximum is real as soon as one key is seen.
-/
module

public import proofs.«01_k».proof.Proof.Consts

@[expose] public section

noncomputable section

namespace Cert.Soft

open Idealize.ShloMosaic

variable {n : ℕ} (P : Fin n → Prop) [DecidablePred P] (x : Fin n → ℝ)

/-- A masked score. -/
def val (c : Fin n) : EReal := if P c then (x c : EReal) else ⊥

/-- The row's maximum. -/
def peak : ℝ := (Finset.univ.fold max (⊥ : EReal) (val P x)).toReal

theorem val_lt_top (c : Fin n) : val P x c < ⊤ := by
  unfold val; split
  · exact EReal.coe_lt_top _
  · exact bot_lt_top

theorem fold_eq (h : ∃ c, P c) : Finset.univ.fold max (⊥ : EReal) (val P x) = (peak P x : EReal) := by
  unfold peak
  refine (EReal.coe_toReal ?_ ?_).symm
  · refine ne_of_lt ?_
    rw [Finset.fold_max_lt]
    exact ⟨bot_lt_top, fun c _ => val_lt_top P x c⟩
  · refine ne_of_gt ?_
    obtain ⟨c, hc⟩ := h
    show ⊥ < Finset.univ.fold max (⊥ : EReal) (val P x)
    rw [Finset.lt_fold_max]
    refine Or.inr ⟨c, Finset.mem_univ c, ?_⟩
    unfold val
    rw [if_pos hc]
    exact EReal.bot_lt_coe _

/-- A masked score's weight against any real maximum. -/
theorem exp_val (M : ℝ) (c : Fin n) :
    Ideal.exp (val P x c - (M : EReal)) = (((if P c then Real.exp (x c) else 0) * Real.exp (-M) : ℝ) : EReal) := by
  unfold val
  split
  · rw [← EReal.coe_sub, Ideal.exp_coe, sub_eq_add_neg, Real.exp_add]
  · rw [zero_mul, EReal.bot_sub]
    exact Ideal.exp_bot

/-- The maximum plus the logarithm of the shifted sum is the logarithm of the sum. -/
theorem log_shift {W : ℝ} (h : 0 < W) (M : ℝ) : M + Real.log (W * Real.exp (-M)) = Real.log W := by
  rw [Real.log_mul h.ne' (Real.exp_ne_zero _), Real.log_exp]; ring

/-- A quotient does not see the shift. -/
theorem div_shift (A W M : ℝ) : A * Real.exp (-M) * (1 / (W * Real.exp (-M))) = A / W := by
  rw [mul_one_div, mul_div_mul_right _ _ (Real.exp_ne_zero _)]

/-- The shifted weights' sum, -/
theorem sum_shift (w : Fin n → ℝ) (M : ℝ) :
    ∑ c, ((w c * Real.exp (-M) : ℝ) : EReal) = (((∑ c, w c) * Real.exp (-M) : ℝ) : EReal) := by
  rw [Consts.coe_sum, Finset.sum_mul]
/-- its logarithm added to the shift, -/
theorem log_sum {W : ℝ} (h : 0 < W) (M : ℝ) :
    (M : EReal) + Ideal.log ((W * Real.exp (-M) : ℝ) : EReal) = ((Real.log W : ℝ) : EReal) := by
  rw [Ideal.log_coe, if_neg (not_le.mpr (mul_pos h (Real.exp_pos _))), ← EReal.coe_add, log_shift h]
/-- and the normalised weighted sum. -/
theorem quot {W : ℝ} (h : 0 < W) (w z : Fin n → ℝ) (M : ℝ) :
    Ideal.div (∑ c, ((w c * Real.exp (-M) : ℝ) : EReal) * ((z c : ℝ) : EReal)) ((W * Real.exp (-M) : ℝ) : EReal)
      = (((∑ c, w c * z c) / W : ℝ) : EReal) := by
  rw [Ideal.div_coe (mul_pos h (Real.exp_pos _)).ne']
  simp only [← EReal.coe_mul]
  rw [Consts.coe_sum, ← EReal.coe_mul]
  rw [show ∑ c, w c * Real.exp (-M) * z c = (∑ c, w c * z c) * Real.exp (-M) by
    rw [Finset.sum_mul]; exact Finset.sum_congr rfl fun c _ => by ring]
  rw [div_shift]

theorem coe_max (a b : ℝ) : max (a : EReal) (b : EReal) = ((max a b : ℝ) : EReal) :=
  (EReal.coe_strictMono.monotone.map_max).symm

/-- The weight of a logarithm of a sum against any real maximum. -/
theorem exp_log {W : ℝ} (h : 0 < W) (M : ℝ) :
    Ideal.exp (((Real.log W : ℝ) : EReal) - (M : EReal)) = ((W * Real.exp (-M) : ℝ) : EReal) := by
  rw [← EReal.coe_sub, Ideal.exp_coe, sub_eq_add_neg, Real.exp_add, Real.exp_log h]

end Cert.Soft

end
-- ==== Proof.AttnSpec.lean ====
/-
  The mathematics of the dilated attention of one head of one batch element and of its gradients, over the real numbers:
  three branches, each a permutation of the 2048 tokens into 16 blocks of 128 queries, and 256 keys per block (the
  block before and the block itself). A padded row number `128 * g + c` names the key `c` of block `g`: the first 128
  padded rows are zero, row `128 + n` is the branch's token number `n`.
-/
module

public import Idealize.ShloMosaic.Lib.Pointwise

@[expose] public section

noncomputable section

namespace Cert.Attn

/-- The token that stands at place `n` of branch `i`: branches 0, 1, 2 take every first, fourth and sixteenth token. -/
def tokN (i : Fin 3) (n : ℕ) : ℕ := match i with
  | ⟨0, _⟩ => n
  | ⟨1, _⟩ => n % 512 * 4 + n / 512
  | ⟨2, _⟩ => n % 128 * 16 + n / 128

/-- The place of a token in branch `i`. -/
def subN (i : Fin 3) (t : ℕ) : ℕ := match i with
  | ⟨0, _⟩ => t
  | ⟨1, _⟩ => t % 4 * 512 + t / 4
  | ⟨2, _⟩ => t % 16 * 128 + t / 16

theorem tokN_lt (i : Fin 3) {n : ℕ} (h : n < 2048) : tokN i n < 2048 := by
  match i with
  | ⟨0, _⟩ => exact h
  | ⟨1, _⟩ => show n % 512 * 4 + n / 512 < 2048; omega
  | ⟨2, _⟩ => show n % 128 * 16 + n / 128 < 2048; omega

theorem subN_lt (i : Fin 3) {t : ℕ} (h : t < 2048) : subN i t < 2048 := by
  match i with
  | ⟨0, _⟩ => exact h
  | ⟨1, _⟩ => show t % 4 * 512 + t / 4 < 2048; omega
  | ⟨2, _⟩ => show t % 16 * 128 + t / 16 < 2048; omega

theorem tokN_subN (i : Fin 3) {t : ℕ} (h : t < 2048) : tokN i (subN i t) = t := by
  match i with
  | ⟨0, _⟩ => rfl
  | ⟨1, _⟩ => show (t % 4 * 512 + t / 4) % 512 * 4 + (t % 4 * 512 + t / 4) / 512 = t; omega
  | ⟨2, _⟩ => show (t % 16 * 128 + t / 16) % 128 * 16 + (t % 16 * 128 + t / 16) / 128 = t; omega

theorem subN_tokN (i : Fin 3) {n : ℕ} (h : n < 2048) : subN i (tokN i n) = n := by
  match i with
  | ⟨0, _⟩ => rfl
  | ⟨1, _⟩ => show (n % 512 * 4 + n / 512) % 4 * 512 + (n % 512 * 4 + n / 512) / 4 = n; omega
  | ⟨2, _⟩ => show (n % 128 * 16 + n / 128) % 16 * 128 + (n % 128 * 16 + n / 128) / 16 = n; omega

/-- The token of query `r` of block `g`. -/
def tok (i : Fin 3) (g : Fin 16) (r : Fin 128) : Fin 2048 :=
  ⟨tokN i (128 * g.val + r.val), tokN_lt i (by omega)⟩
/-- The block of a token, -/
def grp (i : Fin 3) (t : Fin 2048) : Fin 16 := ⟨subN i t.val / 128, by have := subN_lt i t.isLt; omega⟩
/-- and its place in the block. -/
def row (i : Fin 3) (t : Fin 2048) : Fin 128 := ⟨subN i t.val % 128, by omega⟩

theorem tok_grp_row (i : Fin 3) (t : Fin 2048) : tok i (grp i t) (row i t) = t := Fin.ext (by
  show tokN i (128 * (subN i t.val / 128) + subN i t.val % 128) = t.val
  rw [Nat.div_add_mod, tokN_subN i t.isLt])
theorem subN_tok (i : Fin 3) (g : Fin 16) (r : Fin 128) : subN i (tok i g r).val = 128 * g.val + r.val :=
  subN_tokN i (by omega)
theorem grp_tok (i : Fin 3) (g : Fin 16) (r : Fin 128) : grp i (tok i g r) = g := Fin.ext (by
  show subN i (tok i g r).val / 128 = g.val
  rw [subN_tok]; omega)
theorem row_tok (i : Fin 3) (g : Fin 16) (r : Fin 128) : row i (tok i g r) = r := Fin.ext (by
  show subN i (tok i g r).val % 128 = r.val
  rw [subN_tok]; omega)

/-- Tokens are the pairs of a block and a place. -/
def places (i : Fin 3) : Fin 16 × Fin 128 ≃ Fin 2048 where
  toFun p := tok i p.1 p.2
  invFun t := (grp i t, row i t)
  left_inv p := by simp [grp_tok, row_tok]
  right_inv t := tok_grp_row i t

theorem sum_places (i : Fin 3) {M : Type} [AddCommMonoid M] (f : Fin 2048 → M) :
    ∑ t, f t = ∑ g : Fin 16, ∑ r : Fin 128, f (tok i g r) := by
  rw [← Fintype.sum_prod_type', ← (places i).sum_comp]; rfl

/-- The blocks of branch `i` that begin a residue class: their block before holds no key. -/
def first (i : Fin 3) (g : Fin 16) : Prop := match i with
  | ⟨0, _⟩ => g.val % 16 = 0
  | ⟨1, _⟩ => g.val % 4 = 0
  | ⟨2, _⟩ => True
instance (i : Fin 3) (g : Fin 16) : Decidable (first i g) := match i with
  | ⟨0, _⟩ => inferInstanceAs (Decidable (g.val % 16 = 0))
  | ⟨1, _⟩ => inferInstanceAs (Decidable (g.val % 4 = 0))
  | ⟨2, _⟩ => inferInstanceAs (Decidable True)

/-- Query `r` sees the keys `r` to `r + 128` of its 256. -/
def band (r : Fin 128) (c : Fin 256) : Prop := r.val ≤ c.val ∧ c.val ≤ r.val + 128
instance (r : Fin 128) (c : Fin 256) : Decidable (band r c) := inferInstanceAs (Decidable (_ ∧ _))
/-- A key of the block before that does not exist. -/
def dead (i : Fin 3) (g : Fin 16) (c : Fin 256) : Prop := first i g ∧ c.val < 128
instance (i : Fin 3) (g : Fin 16) (c : Fin 256) : Decidable (dead i g c) := inferInstanceAs (Decidable (_ ∧ _))
def seen (i : Fin 3) (g : Fin 16) (r : Fin 128) (c : Fin 256) : Prop := band r c ∧ ¬ dead i g c
instance (i : Fin 3) (g : Fin 16) (r : Fin 128) (c : Fin 256) : Decidable (seen i g r c) := inferInstanceAs (Decidable (_ ∧ _))

/-- Padded row `n` of branch `i`. -/
def padded {E : Type} (z : Fin 2048 → E → ℝ) (i : Fin 3) (n : ℕ) (e : E) : ℝ :=
  if h : 128 ≤ n ∧ n < 2176 then z ⟨tokN i (n - 128), tokN_lt i (by omega)⟩ e else 0
/-- Key (or value) `c` of block `g`. -/
abbrev key {E : Type} (z : Fin 2048 → E → ℝ) (i : Fin 3) (g : Fin 16) (c : Fin 256) (e : E) : ℝ :=
  padded z i (128 * g.val + c.val) e

variable (q k v cot : Fin 2048 → Fin 64 → ℝ) (bias : Fin 3 → Fin 128 → Fin 256 → ℝ)

/-- The score of key `c` for query `r`, -/
def score (i : Fin 3) (g : Fin 16) (r : Fin 128) (c : Fin 256) : ℝ :=
  (∑ e, q (tok i g r) e * key k i g c e) * (1 / 8) + bias i r c
/-- its weight, -/
def wt (i : Fin 3) (g : Fin 16) (r : Fin 128) (c : Fin 256) : ℝ :=
  if seen i g r c then Real.exp (score q k bias i g r c) else 0
/-- the sum of a token's weights over the three branches, -/
def total (t : Fin 2048) : ℝ := ∑ i, ∑ c, wt q k bias i (grp i t) (row i t) c
/-- the weighted sum of its values -/
def mix (t : Fin 2048) (e : Fin 64) : ℝ := ∑ i, ∑ c, wt q k bias i (grp i t) (row i t) c * key v i (grp i t) c e
/-- and the attention's output. -/
def att (t : Fin 2048) (e : Fin 64) : ℝ := mix q k v bias t e / total q k bias t

/-- The cotangent against the output, per token: what the softmax's gradient subtracts. -/
def drift (t : Fin 2048) : ℝ := ∑ e, cot t e * att q k v bias t e
/-- The normalised weight of a key, -/
def prob (i : Fin 3) (g : Fin 16) (r : Fin 128) (c : Fin 256) : ℝ :=
  wt q k bias i g r c / total q k bias (tok i g r)
/-- and the score's gradient. -/
def dscore (i : Fin 3) (g : Fin 16) (r : Fin 128) (c : Fin 256) : ℝ :=
  prob q k bias i g r c * (∑ e, cot (tok i g r) e * key v i g c e - drift q k v cot bias (tok i g r))

/-- A sum over the keys that a token's query sees, -/
def toQuery (w : Fin 3 → Fin 16 → Fin 128 → Fin 256 → ℝ) (z : Fin 2048 → Fin 64 → ℝ) (i : Fin 3) (t : Fin 2048) (e : Fin 64) : ℝ :=
  ∑ c, w i (grp i t) (row i t) c * key z i (grp i t) c e
/-- and over the queries that see a token's key: those of its own block and those of the next. -/
def toKey (w : Fin 3 → Fin 16 → Fin 128 → Fin 256 → ℝ) (z : Fin 2048 → Fin 64 → ℝ) (i : Fin 3) (t : Fin 2048) (e : Fin 64) : ℝ :=
  (∑ r, w i (grp i t) r ⟨128 + (row i t).val, by omega⟩ * z (tok i (grp i t) r) e)
    + if h : (grp i t).val + 1 < 16 then
        ∑ r, w i ⟨(grp i t).val + 1, h⟩ r ⟨(row i t).val, by omega⟩ * z (tok i ⟨(grp i t).val + 1, h⟩ r) e else 0

/-- The gradients of the queries, keys and values. -/
def dq (t : Fin 2048) (e : Fin 64) : ℝ := ∑ i, toQuery (dscore q k v cot bias) (fun t e => k t e * (1 / 8)) i t e
def dk (t : Fin 2048) (e : Fin 64) : ℝ := ∑ i, toKey (dscore q k v cot bias) (fun t e => q t e * (1 / 8)) i t e
def dv (t : Fin 2048) (e : Fin 64) : ℝ := ∑ i, toKey (prob q k bias) cot i t e

theorem wt_nonneg (i : Fin 3) (g : Fin 16) (r : Fin 128) (c : Fin 256) : 0 ≤ wt q k bias i g r c := by
  unfold wt; split <;> positivity
/-- A query always sees its own key. -/
theorem seen_self (i : Fin 3) (g : Fin 16) (r : Fin 128) : seen i g r ⟨r.val + 128, by omega⟩ := by
  unfold seen band dead; refine ⟨⟨?_, ?_⟩, ?_⟩ <;> simp
theorem sum_wt_pos (i : Fin 3) (g : Fin 16) (r : Fin 128) : 0 < ∑ c, wt q k bias i g r c :=
  Finset.sum_pos' (fun c _ => wt_nonneg q k bias i g r c) ⟨⟨r.val + 128, by omega⟩, Finset.mem_univ _, by
    unfold wt; rw [if_pos (seen_self i g r)]; positivity⟩
theorem total_pos (t : Fin 2048) : 0 < total q k bias t :=
  Finset.sum_pos (fun i _ => sum_wt_pos q k bias i _ _) ⟨0, Finset.mem_univ _⟩

end Cert.Attn

end
-- ==== Proof.AttnLanes.lean ====
/-
  The attention kernel works on pairs of heads: 128 lanes, 64 of each head. The mathematics of AttnSpec, spoken of lanes,
  and the sums over lanes and keys that the kernel takes.
-/
module

public import proofs.«01_k».proof.Proof.Soft
public import proofs.«01_k».proof.Proof.Consts
public import proofs.«01_k».proof.Proof.AttnSpec

@[expose] public section

noncomputable section

namespace Cert.Attn

open Idealize.ShloMosaic Cert.Consts

/-- Lane `e` of head `h`, -/
abbrev lane (h : Fin 2) (e : Fin 64) : Fin 128 := ⟨64 * h.val + e.val, by omega⟩
/-- the head of a lane, -/
abbrev headOf (l : Fin 128) : Fin 2 := ⟨l.val / 64, by omega⟩
/-- and a head's part of an array of lanes. -/
def part (h : Fin 2) (Z : Fin 2048 → Fin 128 → ℝ) (t : Fin 2048) (e : Fin 64) : ℝ := Z t (lane h e)

theorem padded_part (h : Fin 2) (Z : Fin 2048 → Fin 128 → ℝ) (i : Fin 3) (n : ℕ) (e : Fin 64) :
    padded (part h Z) i n e = padded Z i n (lane h e) := by
  unfold padded part; split <;> rfl

variable (Q K V : Fin 2048 → Fin 128 → ℝ) (B : Fin 3 → Fin 2 → Fin 128 → Fin 256 → ℝ)

/-- The score of a key for one of the two heads, -/
abbrev sc (h : Fin 2) (i : Fin 3) (g : Fin 16) (r : Fin 128) (c : Fin 256) : ℝ :=
  score (part h Q) (part h K) (fun i => B i h) i g r c
/-- its weight, -/
abbrev we (h : Fin 2) (i : Fin 3) (g : Fin 16) (r : Fin 128) (c : Fin 256) : ℝ :=
  wt (part h Q) (part h K) (fun i => B i h) i g r c
/-- a row's sum of weights in one branch, -/
abbrev den (h : Fin 2) (i : Fin 3) (g : Fin 16) (r : Fin 128) : ℝ := ∑ c, we Q K B h i g r c
/-- and its weighted sum of values. -/
abbrev num (h : Fin 2) (i : Fin 3) (g : Fin 16) (r : Fin 128) (l : Fin 128) : ℝ := ∑ c, we Q K B h i g r c * key V i g c l

theorem den_pos (h : Fin 2) (i : Fin 3) (g : Fin 16) (r : Fin 128) : 0 < den Q K B h i g r := sum_wt_pos _ _ _ i g r

/-- A sum over the lanes of the first head, -/
theorem sum_head0 (f : Fin 128 → ℝ) : ∑ x : Fin 128, (if x.val < 64 then f x else 0) = ∑ e : Fin 64, f (lane 0 e) := by
  rw [show (∑ x : Fin 128, (if x.val < 64 then f x else 0)) = ∑ x : Fin (64 + 64), (if x.val < 64 then f x else 0) from rfl, Fin.sum_univ_add]
  rw [show (∑ i : Fin 64, if (Fin.natAdd 64 i).val < 64 then f (Fin.natAdd 64 i) else 0) = 0 from
    Finset.sum_eq_zero fun i _ => if_neg (by simp), add_zero]
  refine Finset.sum_congr rfl fun e _ => ?_
  rw [if_pos (by simp)]
  exact congrArg f (Fin.ext (by simp))

/-- and of the second. -/
theorem sum_head1 (f : Fin 128 → ℝ) : ∑ x : Fin 128, (if x.val < 64 then 0 else f x) = ∑ e : Fin 64, f (lane 1 e) := by
  rw [show (∑ x : Fin 128, (if x.val < 64 then 0 else f x)) = ∑ x : Fin (64 + 64), (if x.val < 64 then 0 else f x) from rfl, Fin.sum_univ_add]
  rw [show (∑ i : Fin 64, if (Fin.castAdd 64 i).val < 64 then 0 else f (Fin.castAdd 64 i)) = 0 from
    Finset.sum_eq_zero fun i _ => if_pos (by simp), zero_add]
  refine Finset.sum_congr rfl fun e _ => ?_
  rw [if_neg (by simp)]
  exact congrArg f (Fin.ext (by simp; omega))

/-- The score from lanes: the query is scaled before the product. -/
theorem sc_lanes (h : Fin 2) (i : Fin 3) (g : Fin 16) (r : Fin 128) (c : Fin 256) :
    (∑ e : Fin 64, Q (tok i g r) (lane h e) * (1 / 8) * key K i g c (lane h e)) + B i h r c = sc Q K B h i g r c := by
  unfold sc score key
  rw [Finset.sum_mul]
  congr 1
  refine Finset.sum_congr rfl fun e _ => ?_
  rw [padded_part]
  unfold part
  ring

/-- A score with its mask. -/
theorem masked (i : Fin 3) (g : Fin 16) (r : Fin 128) (x b : Fin 256 → ℝ) (c : Fin 256) :
    (if dead i g c then (⊥ : EReal) else ((x c : ℝ) : EReal) + (if band r c then ((b c : ℝ) : EReal) else ⊥))
      = Soft.val (seen i g r) (fun c => x c + b c) c := by
  unfold Soft.val
  by_cases hd : dead i g c
  · rw [if_pos hd, if_neg (fun h : seen i g r c => h.2 hd)]
  · rw [if_neg hd]
    by_cases hb : band r c
    · rw [if_pos hb, if_pos (show seen i g r c from ⟨hb, hd⟩), EReal.coe_add]
    · rw [if_neg hb, if_neg (fun h : seen i g r c => hb h.1), EReal.add_bot]

theorem ite_coe {p : Prop} [Decidable p] (a : ℝ) : (if p then (a : EReal) else 0) = ((if p then a else 0 : ℝ) : EReal) := by
  split <;> rfl
theorem coe_ite {p : Prop} [Decidable p] (a : ℝ) : (if p then 0 else (a : EReal)) = ((if p then 0 else a : ℝ) : EReal) := by
  split <;> rfl

/-- The first head's masked score, as the kernel takes it: over all lanes, those of the other head zero; -/
theorem score0 (i : Fin 3) (g : Fin 16) (r : Fin 128) (c : Fin 256) :
    (if dead i g c then (⊥ : EReal) else
      (∑ x : Fin 128, if x.val < 64 then (((Q (tok i g r) x * (1 / 8) : ℝ) : EReal) * ((key K i g c x : ℝ) : EReal)) else 0)
        + (if band r c then ((B i 0 r c : ℝ) : EReal) else ⊥)) = Soft.val (seen i g r) (sc Q K B 0 i g r) c := by
  simp only [← EReal.coe_mul, ite_coe, coe_sum]
  rw [sum_head0 (fun x => Q (tok i g r) x * (1 / 8) * key K i g c x)]
  exact (masked i g r (fun c => ∑ e : Fin 64, Q (tok i g r) (lane 0 e) * (1 / 8) * key K i g c (lane 0 e)) (fun c => B i 0 r c) c).trans
    (congrArg (fun x => Soft.val (seen i g r) x c) (funext fun c => sc_lanes Q K B 0 i g r c))
/-- and the second head's. -/
theorem score1 (i : Fin 3) (g : Fin 16) (r : Fin 128) (c : Fin 256) :
    (if dead i g c then (⊥ : EReal) else
      (∑ x : Fin 128, if x.val < 64 then 0 else (((Q (tok i g r) x * (1 / 8) : ℝ) : EReal) * ((key K i g c x : ℝ) : EReal)))
        + (if band r c then ((B i 1 r c : ℝ) : EReal) else ⊥)) = Soft.val (seen i g r) (sc Q K B 1 i g r) c := by
  simp only [← EReal.coe_mul, coe_ite, coe_sum]
  rw [sum_head1 (fun x => Q (tok i g r) x * (1 / 8) * key K i g c x)]
  exact (masked i g r (fun c => ∑ e : Fin 64, Q (tok i g r) (lane 1 e) * (1 / 8) * key K i g c (lane 1 e)) (fun c => B i 1 r c) c).trans
    (congrArg (fun x => Soft.val (seen i g r) x c) (funext fun c => sc_lanes Q K B 1 i g r c))

/-- The token at a place. -/
abbrev tokAt (i : Fin 3) (n : Fin 2048) : Fin 2048 := ⟨tokN i n.val, tokN_lt i n.isLt⟩
theorem tokAt_eq (i : Fin 3) (g : Fin 16) (r : Fin 128) (h : g.val * 128 + r.val < 2048) : tokAt i ⟨g.val * 128 + r.val, h⟩ = tok i g r :=
  Fin.ext (by show tokN i (g.val * 128 + r.val) = tokN i (128 * g.val + r.val); rw [Nat.mul_comm])

/-- A row's maximum. -/
abbrev pk (h : Fin 2) (i : Fin 3) (g : Fin 16) (r : Fin 128) : ℝ := Soft.peak (seen i g r) (sc Q K B h i g r)

theorem seen_some (i : Fin 3) (g : Fin 16) (r : Fin 128) : ∃ c, seen i g r c := ⟨_, seen_self i g r⟩

theorem we_eq (h : Fin 2) (i : Fin 3) (g : Fin 16) (r : Fin 128) (c : Fin 256) :
    (if seen i g r c then Real.exp (sc Q K B h i g r c) else 0) = we Q K B h i g r c := rfl

/-- The block of a place, and the row in it. -/
abbrev blkOf (n : Fin 2048) : Fin 16 := ⟨n.val / 128, by omega⟩
abbrev rowOf (n : Fin 2048) : Fin 128 := ⟨n.val % 128, by omega⟩

/-- A branch's output at a place and a lane, -/
def outAt (i : Fin 3) (n : Fin 2048) (l : Fin 128) : ℝ :=
  num Q K V B (headOf l) i (blkOf n) (rowOf n) l / den Q K B (headOf l) i (blkOf n) (rowOf n)
/-- and the logarithm of its sum of weights. -/
def lseAt (i : Fin 3) (n : Fin 2048) (l : Fin 128) : ℝ := Real.log (den Q K B (headOf l) i (blkOf n) (rowOf n))

theorem headOf_lt {l : Fin 128} (h : l.val < 64) : headOf l = 0 := Fin.ext (by show l.val / 64 = 0; omega)
theorem headOf_ge {l : Fin 128} (h : ¬ l.val < 64) : headOf l = 1 := Fin.ext (by show l.val / 64 = 1; omega)

theorem out_ite (i : Fin 3) (n : Fin 2048) (l : Fin 128) :
    (if l.val < 64 then ((num Q K V B 0 i (blkOf n) (rowOf n) l / den Q K B 0 i (blkOf n) (rowOf n) : ℝ) : EReal)
      else ((num Q K V B 1 i (blkOf n) (rowOf n) l / den Q K B 1 i (blkOf n) (rowOf n) : ℝ) : EReal)) = ((outAt Q K V B i n l : ℝ) : EReal) := by
  unfold outAt
  by_cases h : l.val < 64
  · rw [if_pos h, headOf_lt h]
  · rw [if_neg h, headOf_ge h]
theorem lse_ite (i : Fin 3) (n : Fin 2048) (l : Fin 128) :
    (if l.val < 64 then ((Real.log (den Q K B 0 i (blkOf n) (rowOf n)) : ℝ) : EReal)
      else ((Real.log (den Q K B 1 i (blkOf n) (rowOf n)) : ℝ) : EReal)) = ((lseAt Q K B i n l : ℝ) : EReal) := by
  unfold lseAt
  by_cases h : l.val < 64
  · rw [if_pos h, headOf_lt h]
  · rw [if_neg h, headOf_ge h]

/-- In the last branch no block before exists: only the block's own 128 keys count. -/
abbrev own (c : Fin 128) : Fin 256 := ⟨c.val + 128, by omega⟩

theorem seen_own (g : Fin 16) (r : Fin 128) (c : Fin 128) : seen 2 g r (own c) ↔ band r (own c) := by
  unfold seen dead
  simp

theorem sum_own (g : Fin 16) (r : Fin 128) (h : Fin 2) (f : Fin 256 → ℝ) :
    ∑ c : Fin 128, we Q K B h 2 g r (own c) * f (own c) = ∑ c : Fin 256, we Q K B h 2 g r c * f c := by
  rw [show (∑ c : Fin 256, we Q K B h 2 g r c * f c) = ∑ c : Fin (128 + 128), we Q K B h 2 g r c * f c from rfl, Fin.sum_univ_add]
  rw [show (∑ i : Fin 128, we Q K B h 2 g r (Fin.castAdd 128 i) * f (Fin.castAdd 128 i)) = 0 from
    Finset.sum_eq_zero fun i _ => by
      unfold we wt
      rw [if_neg (fun hs => hs.2 ⟨trivial, by simp⟩), zero_mul], zero_add]
  refine Finset.sum_congr rfl fun e _ => ?_
  rw [show own e = Fin.natAdd 128 e from Fin.ext (by simp [Nat.add_comm])]

theorem den_own (g : Fin 16) (r : Fin 128) (h : Fin 2) :
    ∑ c : Fin 128, we Q K B h 2 g r (own c) = den Q K B h 2 g r := by
  simpa using sum_own Q K B g r h (fun _ => 1)

theorem num_own (h : Fin 2) (g : Fin 16) (r l : Fin 128) :
    num Q K V B h 2 g r l = ∑ c, we Q K B h 2 g r (own c) * key V 2 g (own c) l :=
  (sum_own Q K B g r h fun c => key V 2 g c l).symm

theorem not_dead_own (g : Fin 16) (c : Fin 128) : ¬ dead 2 g (own c) := fun h => absurd h.2 (by simp)

abbrev pkOwn (h : Fin 2) (g : Fin 16) (r : Fin 128) : ℝ :=
  Soft.peak (fun c => seen 2 g r (own c)) (fun c => sc Q K B h 2 g r (own c))

theorem own_some (g : Fin 16) (r : Fin 128) : ∃ c, seen 2 g r (own c) := ⟨r, seen_self 2 g r⟩

theorem score0_own (g : Fin 16) (r : Fin 128) (c : Fin 128) :
    (∑ x : Fin 128, if x.val < 64 then (((Q (tok 2 g r) x * (1 / 8) : ℝ) : EReal) * ((key K 2 g (own c) x : ℝ) : EReal)) else 0)
        + (if band r (own c) then ((B 2 0 r (own c) : ℝ) : EReal) else ⊥)
      = Soft.val (fun c => seen 2 g r (own c)) (fun c => sc Q K B 0 2 g r (own c)) c := by
  have h := score0 Q K B 2 g r (own c)
  rw [if_neg (not_dead_own g c)] at h
  exact h
theorem score1_own (g : Fin 16) (r : Fin 128) (c : Fin 128) :
    (∑ x : Fin 128, if x.val < 64 then 0 else (((Q (tok 2 g r) x * (1 / 8) : ℝ) : EReal) * ((key K 2 g (own c) x : ℝ) : EReal)))
        + (if band r (own c) then ((B 2 1 r (own c) : ℝ) : EReal) else ⊥)
      = Soft.val (fun c => seen 2 g r (own c)) (fun c => sc Q K B 1 2 g r (own c)) c := by
  have h := score1 Q K B 2 g r (own c)
  rw [if_neg (not_dead_own g c)] at h
  exact h

end Cert.Attn

end
-- ==== Proof.AttnTile.lean ====
/-
  The attention kernel's values at an index, when its arguments are real: the first and second branch, whose rows see
  256 keys.
-/
module

public import proofs.«01_k».proof.Proof.AttnLanes
public import proofs.«01_k».proof.Proof.Gen.AttnIdeal.Skeleton

@[expose] public section

set_option maxRecDepth 16384

noncomputable section

namespace Cert.AttnIdeal.Tile

open Idealize.ShloMosaic Idealize.ShloMosaic.TcCoe Idealize.SL.Sem
open Cert.AttnIdeal Cert.AttnIdeal.Gen Cert.Attn Cert.Consts

theorem of_eighth : Ideal.ofBits .bf16 0x3E00#16 = ((1 / 8 : ℝ) : EReal) := by
  simp [Ideal.ofBits, Ideal.ieee, -EReal.coe_mul]; norm_num
theorem of_bot : Ideal.ofBits .f32 0xFF800000#32 = (⊥ : EReal) := by
  simp [Ideal.ofBits, Ideal.ieee]
theorem mask_bot : Named.named (F := Ideal) κ "mask" (φ := .f32) 0xF149F2CA#32 = (⊥ : EReal) := rfl

theorem ofNat_lt {n k : ℕ} (hn : n < 4096) (hk : k < 4096) : (BitVec.ofNat 32 n).slt (BitVec.ofNat 32 k) = decide (n < k) := by
  rw [BitVec.slt, BitVec.toInt_eq_toNat_of_lt, BitVec.toInt_eq_toNat_of_lt] <;>
    simp [Nat.mod_eq_of_lt (show n < 4294967296 by omega), Nat.mod_eq_of_lt (show k < 4294967296 by omega)] <;> omega

/-- The lanes of the first head. -/
theorem lt64 (l : Fin 128) : k0_pay2 (ix3 0 0 l) = BitVec.ofBool (decide (l.val < 64)) := by
  pointwise [k0_pay2]
  exact congrArg BitVec.ofBool (ofNat_lt (by omega) (by omega))

theorem sel0 {α : Type} (l : Fin 128) (a b : α) : Scalar.select (k0_pay2 (ix3 0 0 l)) a b = if l.val < 64 then a else b := by
  rw [lt64]; unfold Scalar.select
  by_cases h : l.val < 64 <;> simp [h]

theorem sel1 {α : Type} (l : Fin 128) (a b : α) :
    Scalar.select (IntOp.xori (k0_pay2 (ix3 0 0 l)) 1#1) a b = if l.val < 64 then b else a := by
  rw [lt64]; unfold Scalar.select IntOp.xori
  by_cases h : l.val < 64 <;> simp [h]

theorem f0 : ∀ g : Fin 16, IntOp.cmpi CmpIPredicate.eq (IntOp.andi (BitVec.ofNat 32 g.val) 15#32) 0#32 = BitVec.ofBool (decide (first 0 g)) := by
  decide +kernel
theorem f1 : ∀ g : Fin 16, IntOp.cmpi CmpIPredicate.eq (IntOp.andi (BitVec.ofNat 32 g.val) 3#32) 0#32 = BitVec.ofBool (decide (first 1 g)) := by
  decide +kernel

/-- The block numbers. -/
abbrev blk : IVec S16x1x1 32 := iota .tc S16x1x1 32 [0] iota_S16x1x1_d0_w32

theorem d12 (g : Fin 16) (c : Fin 256) : k0_pay12 blk (ix3 g 0 c) = BitVec.ofBool (decide (dead 0 g c)) := by
  pointwise [k0_pay12]
  rw [show IntOp.cmpi CmpIPredicate.slt (BitVec.ofNat 32 c.val) 128#32 = BitVec.ofBool (decide (c.val < 128)) from
    congrArg BitVec.ofBool (ofNat_lt (by omega) (by omega))]
  rw [f0 g]
  unfold dead IntOp.andi
  by_cases h1 : first 0 g <;> by_cases h2 : c.val < 128 <;> simp [h1, h2]

theorem d49 (g : Fin 16) (c : Fin 256) : k0_pay49 blk (ix3 g 0 c) = BitVec.ofBool (decide (dead 1 g c)) := by
  pointwise [k0_pay49]
  rw [show IntOp.cmpi CmpIPredicate.slt (BitVec.ofNat 32 c.val) 128#32 = BitVec.ofBool (decide (c.val < 128)) from
    congrArg BitVec.ofBool (ofNat_lt (by omega) (by omega))]
  rw [f1 g]
  unfold dead IntOp.andi
  by_cases h1 : first 1 g <;> by_cases h2 : c.val < 128 <;> simp [h1, h2]

theorem sel_dead {α : Type} (i : Fin 3) (g : Fin 16) (c : Fin 256) (a b : α) :
    Scalar.select (BitVec.ofBool (decide (dead i g c))) a b = if dead i g c then a else b := by
  unfold Scalar.select
  by_cases h : dead i g c <;> simp [h]

variable {Q K V : Fin 2048 → Fin 128 → ℝ} {B : Fin 3 → Fin 2 → Fin 128 → Fin 256 → ℝ}
variable {q k kp v vp : Vec Ideal S2048x128 .bf16} {b0 b1 : Vec Ideal S1x1x128x256 .f32} {b2 b3 : Vec Ideal S1x1x128x128 .f32}

/-- What a branch reads: its queries, its keys and values with the 128 rows before, and the two heads' biases. -/
structure Reads (Q K V : Fin 2048 → Fin 128 → ℝ) (i : Fin 3) (q k kp v vp : Vec Ideal S2048x128 .bf16) : Prop where
  q : ∀ n l, q (ix2 n l) = ((Q (tokAt i n) l : ℝ) : EReal)
  k : ∀ n l, k (ix2 n l) = ((padded K i (128 + n.val) l : ℝ) : EReal)
  kp : ∀ n l, kp (ix2 n l) = ((padded K i n.val l : ℝ) : EReal)
  v : ∀ n l, v (ix2 n l) = ((padded V i (128 + n.val) l : ℝ) : EReal)
  vp : ∀ n l, vp (ix2 n l) = ((padded V i n.val l : ℝ) : EReal)

/-- One head's bias in one branch. -/
def Bias (B : Fin 3 → Fin 2 → Fin 128 → Fin 256 → ℝ) (i : Fin 3) (h : Fin 2) (b : Vec Ideal S1x1x128x256 .f32) : Prop :=
  ∀ r c, b (ix4 0 0 r c) = if band r c then ((B i h r c : ℝ) : EReal) else ⊥

section First
variable (A : Reads Q K V 0 q k kp v vp) (h0 : Bias B 0 0 b0) (h1 : Bias B 0 1 b1)
include A

theorem q9 (g : Fin 16) (r l : Fin 128) : k0_pay9 (k0_pay8 (F := Ideal) q) (ix3 g r l) = ((Q (tok 0 g r) l * (1 / 8) : ℝ) : EReal) := by
  pointwise [k0_pay9, k0_pay8]
  rw [A.q, of_eighth, tokAt_eq, ← EReal.coe_mul]

theorem k10 (g : Fin 16) (c : Fin 256) (l : Fin 128) : k0_pay10 (F := Ideal) k kp (ix3 g c l) = ((key K 0 g c l : ℝ) : EReal) := by
  pointwise [k0_pay10]
  unfold key
  split
  · rw [A.kp]; exact congrArg (fun n => ((padded K 0 n l : ℝ) : EReal)) (by dsimp only; omega)
  · rw [A.k]; exact congrArg (fun n => ((padded K 0 n l : ℝ) : EReal)) (by dsimp only; omega)
theorem v11 (g : Fin 16) (c : Fin 256) (l : Fin 128) : k0_pay11 (F := Ideal) v vp (ix3 g c l) = ((key V 0 g c l : ℝ) : EReal) := by
  pointwise [k0_pay11]
  unfold key
  split
  · rw [A.vp]; exact congrArg (fun n => ((padded V 0 n l : ℝ) : EReal)) (by dsimp only; omega)
  · rw [A.v]; exact congrArg (fun n => ((padded V 0 n l : ℝ) : EReal)) (by dsimp only; omega)

include h0 in
theorem s13 (g : Fin 16) (r : Fin 128) (c : Fin 256) :
    k0_pay13 (F := Ideal) k0_pay2 blk (k0_pay8 q) k kp b0 (ix3 g r c) = Soft.val (seen 0 g r) (sc Q K B 0 0 g r) c := by
  pointwise [k0_pay13]
  simp only [sel0, d12, sel_dead, q9 A, k10 A, h0 _ _, mask_bot]
  exact score0 Q K B 0 g r c
include h0 in
theorem m14 (g : Fin 16) (r : Fin 128) :
    k0_pay14 (F := Ideal) k0_pay2 blk (k0_pay8 q) k kp b0 (ix3 g r 0) = ((pk Q K B 0 0 g r : ℝ) : EReal) := by
  pointwise [k0_pay14]
  simp only [s13 A h0, of_bot]
  exact Soft.fold_eq _ _ (seen_some _ _ _)
include h0 in
theorem p16 (g : Fin 16) (r : Fin 128) (c : Fin 256) :
    k0_pay16 (k0_pay15 (F := Ideal) k0_pay2 blk (k0_pay8 q) k kp b0) (ix3 g r c) = ((we Q K B 0 0 g r c * Real.exp (-pk Q K B 0 0 g r) : ℝ) : EReal) := by
  pointwise [k0_pay16, k0_pay15]
  rw [s13 A h0, m14 A h0]
  exact Soft.exp_val _ _ _ c
include h0 in
theorem l17 (g : Fin 16) (r : Fin 128) :
    k0_pay17 (k0_pay15 (F := Ideal) k0_pay2 blk (k0_pay8 q) k kp b0) (ix3 g r 0) = ((den Q K B 0 0 g r * Real.exp (-pk Q K B 0 0 g r) : ℝ) : EReal) := by
  pointwise [k0_pay17]
  simp only [p16 A h0]
  exact Soft.sum_shift _ _
include h0 in
theorem n18 (g : Fin 16) (r l : Fin 128) :
    k0_pay18 (k0_pay14 (F := Ideal) k0_pay2 blk (k0_pay8 q) k kp b0) (k0_pay15 (F := Ideal) k0_pay2 blk (k0_pay8 q) k kp b0) (ix3 g r l)
      = ((Real.log (den Q K B 0 0 g r) : ℝ) : EReal) := by
  pointwise [k0_pay18]
  rw [m14 A h0, l17 A h0]
  exact Soft.log_sum (den_pos _ _ _ _ _ _ _) _

include h1 in
theorem s19 (g : Fin 16) (r : Fin 128) (c : Fin 256) :
    k0_pay19 (F := Ideal) k0_pay2 (k0_pay9 (k0_pay8 q)) (k0_pay10 k kp) (k0_pay12 blk) b1 (ix3 g r c) = Soft.val (seen 0 g r) (sc Q K B 1 0 g r) c := by
  pointwise [k0_pay19]
  simp only [sel1, d12, sel_dead, q9 A, k10 A, h1 _ _, mask_bot]
  exact score1 Q K B 0 g r c
include h1 in
theorem m20 (g : Fin 16) (r : Fin 128) :
    k0_pay20 (F := Ideal) k0_pay2 (k0_pay9 (k0_pay8 q)) (k0_pay10 k kp) (k0_pay12 blk) b1 (ix3 g r 0) = ((pk Q K B 1 0 g r : ℝ) : EReal) := by
  pointwise [k0_pay20]
  simp only [s19 A h1, of_bot]
  exact Soft.fold_eq _ _ (seen_some _ _ _)
include h1 in
theorem p21 (g : Fin 16) (r : Fin 128) (c : Fin 256) :
    k0_pay21 (F := Ideal) k0_pay2 (k0_pay9 (k0_pay8 q)) (k0_pay10 k kp) (k0_pay12 blk) b1 (ix3 g r c) = ((we Q K B 1 0 g r c * Real.exp (-pk Q K B 1 0 g r) : ℝ) : EReal) := by
  pointwise [k0_pay21]
  rw [s19 A h1, m20 A h1]
  exact Soft.exp_val _ _ _ c
include h1 in
theorem l22 (g : Fin 16) (r : Fin 128) :
    k0_pay22 (F := Ideal) k0_pay2 (k0_pay9 (k0_pay8 q)) (k0_pay10 k kp) (k0_pay12 blk) b1 (ix3 g r 0) = ((den Q K B 1 0 g r * Real.exp (-pk Q K B 1 0 g r) : ℝ) : EReal) := by
  pointwise [k0_pay22]
  simp only [p21 A h1]
  exact Soft.sum_shift _ _
include h1 in
theorem n23 (g : Fin 16) (r l : Fin 128) :
    k0_pay23 (F := Ideal) k0_pay2 (k0_pay9 (k0_pay8 q)) (k0_pay10 k kp) (k0_pay12 blk) b1 (ix3 g r l) = ((Real.log (den Q K B 1 0 g r) : ℝ) : EReal) := by
  pointwise [k0_pay23]
  rw [m20 A h1, l22 A h1]
  exact Soft.log_sum (den_pos _ _ _ _ _ _ _) _

/-- The first branch's output at a place, -/
theorem o24 (h0 : Bias B 0 0 b0) (h1 : Bias B 0 1 b1) (n : Fin 2048) (l : Fin 128) :
    k0_pay25 (k0_pay24 (F := Ideal) k0_pay2 (k0_pay9 (k0_pay8 q)) (k0_pay10 k kp) (k0_pay11 v vp) (k0_pay12 blk)
        (k0_pay15 (F := Ideal) k0_pay2 blk (k0_pay8 q) k kp b0) b1) (ix2 n l) = ((outAt Q K V B 0 n l : ℝ) : EReal) := by
  pointwise [k0_pay25, k0_pay24]
  simp only [sel0, p16 A h0, l17 A h0, v11 A, p21 A h1, l22 A h1, Soft.quot (den_pos _ _ _ _ _ _ _)]
  exact out_ite Q K V B 0 n l
/-- and its logarithm of the sum of weights. -/
theorem n26 (h0 : Bias B 0 0 b0) (h1 : Bias B 0 1 b1) (n : Fin 2048) (l : Fin 128) :
    k0_pay26 k0_pay2 (k0_pay18 (k0_pay14 (F := Ideal) k0_pay2 blk (k0_pay8 q) k kp b0) (k0_pay15 (F := Ideal) k0_pay2 blk (k0_pay8 q) k kp b0))
        (k0_pay23 (F := Ideal) k0_pay2 (k0_pay9 (k0_pay8 q)) (k0_pay10 k kp) (k0_pay12 blk) b1) (ix2 n l) = ((lseAt Q K B 0 n l : ℝ) : EReal) := by
  pointwise [k0_pay26]
  simp only [sel0, n18 A h0, n23 A h1]
  exact lse_ite Q K B 0 n l
end First

end Cert.AttnIdeal.Tile

end
-- ==== Proof.AttnTile2.lean ====
/- The attention kernel's third branch, whose rows see the 128 keys of their own block, and the three branches' merge. -/
module

public import proofs.«01_k».proof.Proof.AttnTile

@[expose] public section

set_option maxRecDepth 16384

noncomputable section

namespace Cert.AttnIdeal.Tile

open Idealize.ShloMosaic Idealize.ShloMosaic.TcCoe Idealize.SL.Sem
open Cert.AttnIdeal Cert.AttnIdeal.Gen Cert.Attn Cert.Consts

variable {Q K V : Fin 2048 → Fin 128 → ℝ} {B : Fin 3 → Fin 2 → Fin 128 → Fin 256 → ℝ}
variable {q k kp v vp : Vec Ideal S2048x128 .bf16} {b0 b1 : Vec Ideal S1x1x128x256 .f32} {b2 b3 : Vec Ideal S1x1x128x128 .f32}

/-- One head's bias in the third branch: the half of the block's own keys. -/
def OwnBias (B : Fin 3 → Fin 2 → Fin 128 → Fin 256 → ℝ) (h : Fin 2) (b : Vec Ideal S1x1x128x128 .f32) : Prop :=
  ∀ r c, b (ix4 0 0 r c) = if band r (own c) then ((B 2 h r (own c) : ℝ) : EReal) else ⊥

section Third
variable (A : Reads Q K V 2 q k kp v vp) (h0 : OwnBias B 0 b2) (h1 : OwnBias B 1 b3)
include A

theorem q130 (g : Fin 16) (r l : Fin 128) : k0_pay130 (F := Ideal) q (ix3 g r l) = ((Q (tok 2 g r) l * (1 / 8) : ℝ) : EReal) := by
  pointwise [k0_pay130]
  rw [A.q, of_eighth, tokAt_eq, ← EReal.coe_mul]
theorem k131 (g : Fin 16) (c : Fin 128) (l : Fin 128) : k0_pay131 (F := Ideal) k (ix3 g c l) = ((key K 2 g (own c) l : ℝ) : EReal) := by
  pointwise [k0_pay131]
  unfold key
  rw [A.k]; exact congrArg (fun n => ((padded K 2 n l : ℝ) : EReal)) (by dsimp only; omega)
theorem v132 (g : Fin 16) (c : Fin 128) (l : Fin 128) : k0_pay132 (F := Ideal) v (ix3 g c l) = ((key V 2 g (own c) l : ℝ) : EReal) := by
  pointwise [k0_pay132]
  unfold key
  rw [A.v]; exact congrArg (fun n => ((padded V 2 n l : ℝ) : EReal)) (by dsimp only; omega)

include h0 in
theorem s133 (g : Fin 16) (r : Fin 128) (c : Fin 128) :
    k0_pay133 (F := Ideal) k0_pay2 q k b2 (ix3 g r c) = Soft.val (fun c => seen 2 g r (own c)) (fun c => sc Q K B 0 2 g r (own c)) c := by
  pointwise [k0_pay133]
  simp only [sel0, q130 A, k131 A, h0 _ _]
  exact score0_own Q K B g r c
include h0 in
theorem m134 (g : Fin 16) (r : Fin 128) :
    k0_pay134 (F := Ideal) k0_pay2 q k b2 (ix3 g r 0) = ((pkOwn Q K B 0 g r : ℝ) : EReal) := by
  pointwise [k0_pay134]
  simp only [s133 A h0, of_bot]
  exact Soft.fold_eq _ _ (own_some _ _)
include h0 in
theorem p135 (g : Fin 16) (r : Fin 128) (c : Fin 128) :
    k0_pay135 (F := Ideal) k0_pay2 q k b2 (ix3 g r c) = ((we Q K B 0 2 g r (own c) * Real.exp (-pkOwn Q K B 0 g r) : ℝ) : EReal) := by
  pointwise [k0_pay135]
  rw [s133 A h0, m134 A h0]
  exact Soft.exp_val _ _ _ c
include h0 in
theorem l136 (g : Fin 16) (r : Fin 128) :
    k0_pay136 (F := Ideal) k0_pay2 q k b2 (ix3 g r 0) = ((den Q K B 0 2 g r * Real.exp (-pkOwn Q K B 0 g r) : ℝ) : EReal) := by
  pointwise [k0_pay136]
  simp only [p135 A h0]
  rw [Soft.sum_shift, den_own]

include h1 in
theorem s139 (g : Fin 16) (r : Fin 128) (c : Fin 128) :
    k0_pay139 (F := Ideal) k0_pay2 (k0_pay130 q) (k0_pay131 k) b3 (ix3 g r c) = Soft.val (fun c => seen 2 g r (own c)) (fun c => sc Q K B 1 2 g r (own c)) c := by
  pointwise [k0_pay139]
  simp only [sel1, q130 A, k131 A, h1 _ _]
  exact score1_own Q K B g r c
include h1 in
theorem m140 (g : Fin 16) (r : Fin 128) :
    k0_pay140 (F := Ideal) k0_pay2 (k0_pay130 q) (k0_pay131 k) b3 (ix3 g r 0) = ((pkOwn Q K B 1 g r : ℝ) : EReal) := by
  pointwise [k0_pay140]
  simp only [s139 A h1, of_bot]
  exact Soft.fold_eq _ _ (own_some _ _)
include h1 in
theorem p141 (g : Fin 16) (r : Fin 128) (c : Fin 128) :
    k0_pay141 (F := Ideal) k0_pay2 (k0_pay130 q) (k0_pay131 k) b3 (ix3 g r c) = ((we Q K B 1 2 g r (own c) * Real.exp (-pkOwn Q K B 1 g r) : ℝ) : EReal) := by
  pointwise [k0_pay141]
  rw [s139 A h1, m140 A h1]
  exact Soft.exp_val _ _ _ c
include h1 in
theorem l142 (g : Fin 16) (r : Fin 128) :
    k0_pay142 (F := Ideal) k0_pay2 (k0_pay130 q) (k0_pay131 k) b3 (ix3 g r 0) = ((den Q K B 1 2 g r * Real.exp (-pkOwn Q K B 1 g r) : ℝ) : EReal) := by
  pointwise [k0_pay142]
  simp only [p141 A h1]
  rw [Soft.sum_shift, den_own]

/-- The third branch's output at a place, -/
theorem o143 (h0 : OwnBias B 0 b2) (h1 : OwnBias B 1 b3) (n : Fin 2048) (l : Fin 128) :
    k0_pay143 (F := Ideal) k0_pay2 (k0_pay130 q) (k0_pay131 k) (k0_pay132 v) (k0_pay137 (F := Ideal) k0_pay2 q k v b2) b3 (ix2 n l)
      = ((outAt Q K V B 2 n l : ℝ) : EReal) := by
  pointwise [k0_pay143, k0_pay137]
  simp only [sel0, p135 A h0, l136 A h0, v132 A, p141 A h1, l142 A h1, Soft.quot (den_pos _ _ _ _ _ _ _)]
  simp only [← num_own]
  exact out_ite Q K V B 2 n l
/-- and its logarithm of the sum of weights. -/
theorem n144 (h0 : OwnBias B 0 b2) (h1 : OwnBias B 1 b3) (n : Fin 2048) (l : Fin 128) :
    k0_pay144 (F := Ideal) k0_pay2 (k0_pay130 q) (k0_pay131 k) (k0_pay134 (F := Ideal) k0_pay2 q k b2) (k0_pay138 (F := Ideal) k0_pay2 q k b2) b3 (ix2 n l)
      = ((lseAt Q K B 2 n l : ℝ) : EReal) := by
  pointwise [k0_pay144, k0_pay138]
  simp only [sel0, m134 A h0, l136 A h0, m140 A h1, l142 A h1, Soft.log_sum (den_pos _ _ _ _ _ _ _)]
  exact lse_ite Q K B 2 n l
end Third

section Merge
variable {x0 x1 x2 y0 y1 y2 : Vec Ideal S2048x128 .f32}
variable {W N : Fin 3 → Fin 2048 → Fin 128 → ℝ}

/-- The three branches at the tokens: each one's logarithm of the sum of weights, and its normalised weighted sum. -/
structure Merged (W N : Fin 3 → Fin 2048 → Fin 128 → ℝ) (x0 x1 x2 y0 y1 y2 : Vec Ideal S2048x128 .f32) : Prop where
  pos : ∀ i t l, 0 < W i t l
  x0 : ∀ t l, x0 (ix2 t l) = ((Real.log (W 0 t l) : ℝ) : EReal)
  x1 : ∀ t l, x1 (ix2 t l) = ((Real.log (W 1 t l) : ℝ) : EReal)
  x2 : ∀ t l, x2 (ix2 t l) = ((Real.log (W 2 t l) : ℝ) : EReal)
  y0 : ∀ t l, y0 (ix2 t l) = ((N 0 t l / W 0 t l : ℝ) : EReal)
  y1 : ∀ t l, y1 (ix2 t l) = ((N 1 t l / W 1 t l : ℝ) : EReal)
  y2 : ∀ t l, y2 (ix2 t l) = ((N 2 t l / W 2 t l : ℝ) : EReal)

variable (A : Merged W N x0 x1 x2 y0 y1 y2)
include A

/-- The maximum of the three. -/
theorem m177 (t : Fin 2048) (l : Fin 128) : k0_pay177 (F := Ideal) x0 x1 x2 (ix2 t l)
    = ((max (max (Real.log (W 0 t l)) (Real.log (W 1 t l))) (Real.log (W 2 t l)) : ℝ) : EReal) := by
  pointwise [k0_pay177]
  rw [A.x0, A.x1, A.x2, Soft.coe_max, Soft.coe_max]
theorem e178 (t : Fin 2048) (l : Fin 128) : k0_pay178 (F := Ideal) x0 x1 x2 (ix2 t l)
    = ((W 0 t l * Real.exp (-max (max (Real.log (W 0 t l)) (Real.log (W 1 t l))) (Real.log (W 2 t l))) : ℝ) : EReal) := by
  pointwise [k0_pay178]
  rw [m177 A, A.x0, Soft.exp_log (A.pos 0 t l)]
theorem e179 (t : Fin 2048) (l : Fin 128) : k0_pay179 (F := Ideal) x1 (k0_pay177 (F := Ideal) x0 x1 x2) (ix2 t l)
    = ((W 1 t l * Real.exp (-max (max (Real.log (W 0 t l)) (Real.log (W 1 t l))) (Real.log (W 2 t l))) : ℝ) : EReal) := by
  pointwise [k0_pay179]
  rw [m177 A, A.x1, Soft.exp_log (A.pos 1 t l)]
theorem e180 (t : Fin 2048) (l : Fin 128) : k0_pay180 (F := Ideal) x2 (k0_pay177 (F := Ideal) x0 x1 x2) (ix2 t l)
    = ((W 2 t l * Real.exp (-max (max (Real.log (W 0 t l)) (Real.log (W 1 t l))) (Real.log (W 2 t l))) : ℝ) : EReal) := by
  pointwise [k0_pay180]
  rw [m177 A, A.x2, Soft.exp_log (A.pos 2 t l)]
theorem d181 (t : Fin 2048) (l : Fin 128) :
    k0_pay181 (F := Ideal) x1 x2 (k0_pay177 (F := Ideal) x0 x1 x2) (k0_pay178 (F := Ideal) x0 x1 x2) (ix2 t l)
      = (((∑ i, W i t l) * Real.exp (-max (max (Real.log (W 0 t l)) (Real.log (W 1 t l))) (Real.log (W 2 t l))) : ℝ) : EReal) := by
  pointwise [k0_pay181]
  rw [e178 A, e179 A, e180 A, ← EReal.coe_add, ← EReal.coe_add, Fin.sum_univ_three]
  congr 1; ring
theorem sum_pos (t : Fin 2048) (l : Fin 128) : 0 < ∑ i, W i t l := Finset.sum_pos (fun i _ => A.pos i t l) ⟨0, Finset.mem_univ _⟩
/-- The logarithm of the sum of all weights of a token, -/
theorem n182 (t : Fin 2048) (l : Fin 128) :
    k0_pay182 (F := Ideal) x1 x2 (k0_pay177 (F := Ideal) x0 x1 x2) (k0_pay178 (F := Ideal) x0 x1 x2) (ix3 0 t l)
      = ((Real.log (∑ i, W i t l) : ℝ) : EReal) := by
  pointwise [k0_pay182]
  rw [m177 A, d181 A]
  exact Soft.log_sum (sum_pos A t l) _
/-- and the weighted mean of its values. -/
theorem o183 (t : Fin 2048) (l : Fin 128) :
    k0_pay1 (k0_pay183 (F := Ideal) x1 x2 (k0_pay177 (F := Ideal) x0 x1 x2) (k0_pay178 (F := Ideal) x0 x1 x2) y0 y1 y2) (ix3 0 t l)
      = (((∑ i, N i t l) / ∑ i, W i t l : ℝ) : EReal) := by
  pointwise [k0_pay1, k0_pay183]
  rw [e178 A, e179 A, e180 A, d181 A, A.y0, A.y1, A.y2, Ideal.div_coe (mul_pos (sum_pos A t l) (Real.exp_pos _)).ne']
  simp only [← EReal.coe_mul, ← EReal.coe_add]
  rw [mul_one_div, Fin.sum_univ_three, Fin.sum_univ_three]
  congr 1
  refine Eq.trans (congrArg (· / _) ?_) (mul_div_mul_right _ _ (Real.exp_pos _).ne')
  have h0 := (A.pos 0 t l).ne'
  have h1 := (A.pos 1 t l).ne'
  have h2 := (A.pos 2 t l).ne'
  field_simp
end Merge

end Cert.AttnIdeal.Tile

end
-- ==== Proof.AttnRows.lean ====
module

public import proofs.«01_k».proof.Proof.AttnTile2

@[expose] public section

set_option maxRecDepth 16384

/-! # Rows written into a scratch array, piece by piece

The stores into a scratch array are kept newest first. A piece of `K` rows lies at row `o` and every `s` rows after
that. These lemmas read the array row by row. -/

open Idealize.ShloMosaic Idealize.ShloMosaic.TcCoe Idealize.SL.Sem
open Cert.AttnIdeal Cert.AttnIdeal.Gen

noncomputable section
namespace Cert.AttnIdeal.Rows
open Cert.Attn

section Generic
variable {R K o s : ℕ} {e : EltTy}

/-- The rows of which `P` holds have the values `f`. -/
def Good (L : List (View.Piece (Elt Ideal) ⟨2, ![R, 128]⟩ e)) (P : ℕ → Prop) (f : ℕ → Fin 128 → Elt Ideal e) : Prop :=
  ∀ (n : Fin R) (l : Fin 128), P n.val → View.canon L (ix2 n l) = f n.val l

theorem Good.mono {L : List (View.Piece (Elt Ideal) ⟨2, ![R, 128]⟩ e)} {P Q : ℕ → Prop} {f : ℕ → Fin 128 → Elt Ideal e}
    (h : Good L Q f) (hPQ : ∀ n, n < R → P n → Q n) : Good L P f :=
  fun n l hn => h n l (hPQ n.val n.isLt hn)

/-- One more piece, of rows `o + s * j`. -/
theorem good_step {L : List (View.Piece (Elt Ideal) ⟨2, ![R, 128]⟩ e)} {P Q : ℕ → Prop} {f : ℕ → Fin 128 → Elt Ideal e}
    (r : Rect ⟨2, ![R, 128]⟩) (w : r.shape.Idx → Elt Ideal e)
    (hr : ∀ (j : Fin K) (l : Fin 128), ∃ x : r.shape.Idx, (∀ h, r.emb x = ix2 ⟨o + s * j.val, h⟩ l) ∧ w x = f (o + s * j.val) l)
    (hn : ∀ (n : Fin R) (l : Fin 128), ix2 n l ∈ r.set → ∃ j < K, n.val = o + s * j)
    (hL : Good L Q f) (hPQ : ∀ n, n < R → P n → (∀ j < K, n ≠ o + s * j) → Q n) : Good (⟨r, w⟩ :: L) P f := by
  intro n l hP
  by_cases h : ix2 n l ∈ r.set
  · obtain ⟨j, hj, he⟩ := hn n l h
    obtain ⟨x, hx, hw⟩ := hr ⟨j, hj⟩ l
    have hb : o + s * j < R := he ▸ n.isLt
    have hnn : n = ⟨o + s * j, hb⟩ := Fin.ext he
    subst hnn
    rw [← hx hb, View.canon_cons_emb]
    exact hw
  · rw [View.canon_cons_of_not_mem _ L h]
    by_cases h2 : ∃ j < K, n.val = o + s * j
    · obtain ⟨j, hj, he⟩ := h2
      obtain ⟨x, hx, -⟩ := hr ⟨j, hj⟩ l
      exact absurd (by
        have hb : o + s * j < R := he ▸ n.isLt
        have hnn : n = ⟨o + s * j, hb⟩ := Fin.ext he
        rw [hnn, ← hx hb]; exact (LoadRect.mem_set _).mpr fun a => ⟨(x a).val, (x a).isLt, rfl⟩) h
    · exact hL n l (hPQ n.val n.isLt hP fun j hj he => h2 ⟨j, hj, he⟩)

/-- A piece of rows with a step, -/
theorem good_strided {L : List (View.Piece (Elt Ideal) ⟨2, ![R, 128]⟩ e)} {P Q : ℕ → Prop} {f : ℕ → Fin 128 → Elt Ideal e}
    (inb : ∀ a : Fin 2, (![K, 128] : Fin 2 → ℕ) a = 0 ∨ (![o, 0] : Fin 2 → ℕ) a + (![s, 1] : Fin 2 → ℕ) a * ((![K, 128] : Fin 2 → ℕ) a - 1) < (![R, 128] : Fin 2 → ℕ) a)
    (pos : ∀ a : Fin 2, 0 < (![s, 1] : Fin 2 → ℕ) a)
    (w : (⟨2, ![K, 128]⟩ : Shape).Idx → Elt Ideal e)
    (hw : ∀ (j : Fin K) (l : Fin 128), w (ix2 j l) = f (o + s * j.val) l)
    (hL : Good L Q f) (hPQ : ∀ n, n < R → P n → (∀ j < K, n ≠ o + s * j) → Q n) :
    Good (R := R) (⟨({ off := ![o, 0], size := (⟨2, ![K, 128]⟩ : Shape).size, stride := ![s, 1], inb := inb, stride_pos := pos } : Rect ⟨2, ![R, 128]⟩), w⟩ :: L) P f := by
  refine good_step (K := K) (o := o) (s := s) _ _ (fun j l => ⟨ix2 j l, fun h => ?_, hw j l⟩) (fun n l h => ?_) hL hPQ
  · funext a
    refine Fin.ext ?_
    fin_cases a
    · rfl
    · show 0 + 1 * l.val = l.val; omega
  · exact (LoadRect.mem_set _).mp h (0 : Fin 2)

/-- or of consecutive rows. -/
theorem good_rows {L : List (View.Piece (Elt Ideal) ⟨2, ![R, 128]⟩ e)} {P Q : ℕ → Prop} {f : ℕ → Fin 128 → Elt Ideal e}
    (inb : ∀ a, (![o, 0] : Fin 2 → ℕ) a + (⟨2, ![K, 128]⟩ : Shape).size a ≤ (⟨2, ![R, 128]⟩ : Shape).size a)
    (w : (⟨2, ![K, 128]⟩ : Shape).Idx → Elt Ideal e)
    (hw : ∀ (j : Fin K) (l : Fin 128), w (ix2 j l) = f (o + j.val) l)
    (hL : Good L Q f) (hPQ : ∀ n, n < R → P n → (∀ j < K, n ≠ o + 1 * j) → Q n) :
    Good (⟨Rect.unit (s := (⟨2, ![R, 128]⟩ : Shape)) ![o, 0] (⟨2, ![K, 128]⟩ : Shape).size inb, w⟩ :: L) P f := by
  refine good_step (K := K) (o := o) (s := 1) _ _ (fun j l => ⟨ix2 j l, fun h => ?_, ?_⟩) (fun n l h => ?_) hL hPQ
  · funext a
    refine Fin.ext ?_
    fin_cases a
    · rfl
    · show 0 + 1 * l.val = l.val; omega
  · rw [Nat.one_mul]; exact hw j l
  · exact (LoadRect.mem_set _).mp h (0 : Fin 2)

theorem good_none_lt (L : List (View.Piece (Elt Ideal) ⟨2, ![R, 128]⟩ e)) (f : ℕ → Fin 128 → Elt Ideal e) : Good L (fun n => n < 0) f :=
  fun n _ h => absurd h (Nat.not_lt_zero _)
theorem good_none (L : List (View.Piece (Elt Ideal) ⟨2, ![R, 128]⟩ e)) (f : ℕ → Fin 128 → Elt Ideal e) : Good L (fun _ => False) f :=
  fun _ _ h => h.elim

/-- A load of rows with a step, -/
theorem read_strided {sig : RefSig} {κ : Kind} {sp : Space} (v : View sig κ sp (⟨2, ![R, 128]⟩ : Shape) e)
    {L : List (View.Piece (Elt Ideal) ⟨2, ![R, 128]⟩ e)} {P : ℕ → Prop} {f : ℕ → Fin 128 → Elt Ideal e} (hL : Good L P f)
    (inb : ∀ a : Fin 2, (![K, 128] : Fin 2 → ℕ) a = 0 ∨ (![o, 0] : Fin 2 → ℕ) a + (![s, 1] : Fin 2 → ℕ) a * ((![K, 128] : Fin 2 → ℕ) a - 1) < (![R, 128] : Fin 2 → ℕ) a)
    (hP : ∀ j < K, P (o + s * j)) (j : Fin K) (l : Fin 128) :
    v.readCov L (⟨![o, 0], (⟨2, ![K, 128]⟩ : Shape).size, ![s, 1], inb⟩ : LoadRect ⟨2, ![R, 128]⟩) (ix2 j l) = f (o + s * j.val) l := by
  rw [View.readCov_eq_canon']
  have hb : o + s * j.val < R := by
    have hj := j.isLt
    have h0 : K = 0 ∨ o + s * (K - 1) < R := inb (0 : Fin 2)
    clear inb
    rcases h0 with h | h
    · exact absurd hj (by omega)
    · have : s * j.val ≤ s * (K - 1) := Nat.mul_le_mul_left s (by omega)
      omega
  refine Eq.trans (congrArg (View.canon L) ?_) (hL ⟨o + s * j.val, hb⟩ l (hP j.val j.isLt))
  funext a
  refine Fin.ext ?_
  fin_cases a
  · rfl
  · show 0 + 1 * l.val = l.val; omega

/-- or of consecutive rows. -/
theorem read_rows {sig : RefSig} {κ : Kind} {sp : Space} (v : View sig κ sp (⟨2, ![R, 128]⟩ : Shape) e)
    {L : List (View.Piece (Elt Ideal) ⟨2, ![R, 128]⟩ e)} {P : ℕ → Prop} {f : ℕ → Fin 128 → Elt Ideal e} (hL : Good L P f)
    (inb : ∀ a, (![o, 0] : Fin 2 → ℕ) a + (⟨2, ![K, 128]⟩ : Shape).size a ≤ (⟨2, ![R, 128]⟩ : Shape).size a)
    (hP : ∀ j < K, P (o + j)) (j : Fin K) (l : Fin 128) :
    v.readCov L (Rect.unit (s := (⟨2, ![R, 128]⟩ : Shape)) ![o, 0] (⟨2, ![K, 128]⟩ : Shape).size inb).toLoadRect (ix2 j l) = f (o + j.val) l := by
  rw [View.readCov_eq_canon']
  have hb : o + j.val < R := by
    have h : o + K ≤ R := inb (0 : Fin 2)
    have := j.isLt; omega
  refine Eq.trans (congrArg (View.canon L) ?_) (hL ⟨o + j.val, hb⟩ l (hP j.val j.isLt))
  funext a
  refine Fin.ext ?_
  fin_cases a
  · show o + 1 * j.val = o + j.val; omega
  · show 0 + 1 * l.val = l.val; omega
end Generic

/-- Row `t` of a matrix of tokens, as the word of any element type. -/
def tokV (Z : Fin 2048 → Fin 128 → ℝ) (t : ℕ) (l : Fin 128) : EReal := if h : t < 2048 then ((Z ⟨t, h⟩ l : ℝ) : EReal) else 0

theorem tokV_eq (Z : Fin 2048 → Fin 128 → ℝ) {t : ℕ} (h : t < 2048) (l : Fin 128) : tokV Z t l = ((Z ⟨t, h⟩ l : ℝ) : EReal) := dif_pos h

/-- Row `n` of the padded and regrouped matrix of a branch. -/
def padV (Z : Fin 2048 → Fin 128 → ℝ) (i : Fin 3) (n : ℕ) (l : Fin 128) : EReal := ((padded Z i n l : ℝ) : EReal)

theorem pad_zero (Z : Fin 2048 → Fin 128 → ℝ) (i : Fin 3) {n : ℕ} (h : n < 128) (l : Fin 128) : padV Z i n l = 0 := by
  unfold padV padded; rw [dif_neg (by omega)]; rfl
theorem pad_row (Z : Fin 2048 → Fin 128 → ℝ) (i : Fin 3) {n t : ℕ} (h : 128 ≤ n ∧ n < 2176) (ht : tokN i (n - 128) = t) (l : Fin 128) :
    padV Z i n l = tokV Z t l := by
  subst ht
  unfold padV padded
  rw [dif_pos h, tokV_eq Z (tokN_lt i (by omega))]
theorem pad1 (Z : Fin 2048 → Fin 128 → ℝ) {n : ℕ} (r j : ℕ) (hr : r < 4) (hj : j < 512) (h : n = 128 + (512 * r + j)) (l : Fin 128) :
    padV Z 1 n l = tokV Z (r + 4 * j) l :=
  pad_row Z 1 (by omega) (by show tokN 1 (n - 128) = _; simp only [tokN]; omega) l
theorem pad2 (Z : Fin 2048 → Fin 128 → ℝ) {n : ℕ} (r j : ℕ) (hr : r < 16) (hj : j < 128) (h : n = 128 + (128 * r + j)) (l : Fin 128) :
    padV Z 2 n l = tokV Z (r + 16 * j) l :=
  pad_row Z 2 (by omega) (by show tokN 2 (n - 128) = _; simp only [tokN]; omega) l
theorem pad0 (Z : Fin 2048 → Fin 128 → ℝ) {n : ℕ} (j : ℕ) (hj : j < 2048) (h : n = 128 + j) (l : Fin 128) :
    padV Z 0 n l = tokV Z j l :=
  pad_row Z 0 (by omega) (by show tokN 0 (n - 128) = _; simp only [tokN]; omega) l

/-- Row `n` of a result of a branch, -/
def rowV (Z : Fin 2048 → Fin 128 → ℝ) (n : ℕ) (l : Fin 128) : EReal := tokV Z n l
/-- and the row of a token. -/
def subV (Z : Fin 2048 → Fin 128 → ℝ) (i : Fin 3) (t : ℕ) (l : Fin 128) : EReal := tokV Z (subN i t) l
theorem sub1 (Z : Fin 2048 → Fin 128 → ℝ) {t n : ℕ} (r j : ℕ) (hr : r < 4) (hj : j < 512) (ht : t = r + 4 * j) (hn : n = 512 * r + j) (l : Fin 128) :
    subV Z 1 t l = tokV Z n l := by
  unfold subV; congr 1; show subN 1 t = n; simp only [subN]; omega
theorem sub2 (Z : Fin 2048 → Fin 128 → ℝ) {t n : ℕ} (r j : ℕ) (hr : r < 16) (hj : j < 128) (ht : t = r + 16 * j) (hn : n = 128 * r + j) (l : Fin 128) :
    subV Z 2 t l = tokV Z n l := by
  unfold subV; congr 1; show subN 2 t = n; simp only [subN]; omega

section Steps
variable {R : ℕ} {e : EltTy}
/-- What is left below a piece of consecutive rows. -/
theorem below {m : ℕ} (o K : ℕ) (hm : m = o + K) : ∀ n, n < R → n < m → (∀ j < K, n ≠ o + 1 * j) → n < o := by
  intro n _ hP h
  by_contra hc
  exact h (n - o) (by omega) (by omega)
/-- What is left below a piece with a step. -/
theorem below_mod {m : ℕ} (o K s : ℕ) (hs : 0 < s) (hR : R ≤ s * K) (hm : m = o + 1) :
    ∀ n, n < R → n % s < m → (∀ j < K, n ≠ o + s * j) → n % s < o := by
  intro n hn hP h
  by_contra hc
  have h1 := Nat.mod_add_div n s
  exact h (n / s) (Nat.div_lt_of_lt_mul (by omega)) (by omega)
/-- A piece of all rows. -/
theorem good_whole {L : List (View.Piece (Elt Ideal) ⟨2, ![R, 128]⟩ e)} {f : ℕ → Fin 128 → Elt Ideal e} {P : ℕ → Prop}
    (inb : ∀ a, (![0, 0] : Fin 2 → ℕ) a + (⟨2, ![R, 128]⟩ : Shape).size a ≤ (⟨2, ![R, 128]⟩ : Shape).size a)
    (w : (⟨2, ![R, 128]⟩ : Shape).Idx → Elt Ideal e)
    (hw : ∀ (j : Fin R) (l : Fin 128), w (ix2 j l) = f j.val l) :
    Good (⟨Rect.unit (s := (⟨2, ![R, 128]⟩ : Shape)) ![0, 0] (⟨2, ![R, 128]⟩ : Shape).size inb, w⟩ :: L) P f :=
  good_rows (K := R) (o := 0) inb w (fun j l => by rw [Nat.zero_add]; exact hw j l) (good_none L f)
    fun n hn _ h => h n hn (by omega)
/-- A load from row 0. -/
theorem read_from0 {K : ℕ} {sig : RefSig} {κ : Kind} {sp : Space} (v : View sig κ sp (⟨2, ![R, 128]⟩ : Shape) e)
    {L : List (View.Piece (Elt Ideal) ⟨2, ![R, 128]⟩ e)} {P : ℕ → Prop} {f : ℕ → Fin 128 → Elt Ideal e} (hL : Good L P f)
    (inb : ∀ a, (![0, 0] : Fin 2 → ℕ) a + (⟨2, ![K, 128]⟩ : Shape).size a ≤ (⟨2, ![R, 128]⟩ : Shape).size a)
    (hP : ∀ j < K, P j) (j : Fin K) (l : Fin 128) :
    v.readCov L (Rect.unit (s := (⟨2, ![R, 128]⟩ : Shape)) ![0, 0] (⟨2, ![K, 128]⟩ : Shape).size inb).toLoadRect (ix2 j l) = f j.val l :=
  (read_rows (o := 0) v hL inb (fun j hj => by rw [Nat.zero_add]; exact hP j hj) j l).trans (by rw [Nat.zero_add])
/-- A piece of rows `o` to `o + K`, above those before. -/
theorem put (K o : ℕ) {L : List (View.Piece (Elt Ideal) ⟨2, ![R, 128]⟩ e)} {f : ℕ → Fin 128 → Elt Ideal e} {m : ℕ}
    (inb : ∀ a, (![o, 0] : Fin 2 → ℕ) a + (⟨2, ![K, 128]⟩ : Shape).size a ≤ (⟨2, ![R, 128]⟩ : Shape).size a)
    (w : (⟨2, ![K, 128]⟩ : Shape).Idx → Elt Ideal e) (hw : ∀ (j : Fin K) (l : Fin 128), w (ix2 j l) = f (o + j.val) l)
    (hL : Good L (fun n => n < o) f) (hm : m = o + K := by rfl) :
    Good (⟨Rect.unit (s := (⟨2, ![R, 128]⟩ : Shape)) ![o, 0] (⟨2, ![K, 128]⟩ : Shape).size inb, w⟩ :: L) (fun n => n < m) f :=
  good_rows inb w hw hL (below o K hm)
/-- A piece of every `s`-th row from `o`, after those from smaller ones. -/
theorem lay (K s o : ℕ) {L : List (View.Piece (Elt Ideal) ⟨2, ![R, 128]⟩ e)} {f : ℕ → Fin 128 → Elt Ideal e} {m : ℕ}
    (inb : ∀ a : Fin 2, (![K, 128] : Fin 2 → ℕ) a = 0 ∨ (![o, 0] : Fin 2 → ℕ) a + (![s, 1] : Fin 2 → ℕ) a * ((![K, 128] : Fin 2 → ℕ) a - 1) < (![R, 128] : Fin 2 → ℕ) a)
    (pos : ∀ a : Fin 2, 0 < (![s, 1] : Fin 2 → ℕ) a)
    (w : (⟨2, ![K, 128]⟩ : Shape).Idx → Elt Ideal e) (hw : ∀ (j : Fin K) (l : Fin 128), w (ix2 j l) = f (o + s * j.val) l)
    (hL : Good L (fun n => n % s < o) f) (hs : 0 < s := by decide) (hR : R ≤ s * K := by decide) (hm : m = o + 1 := by rfl) :
    Good (R := R) (⟨({ off := ![o, 0], size := (⟨2, ![K, 128]⟩ : Shape).size, stride := ![s, 1], inb := inb, stride_pos := pos } : Rect ⟨2, ![R, 128]⟩), w⟩ :: L) (fun n => n % s < m) f :=
  good_strided inb pos w hw hL (below_mod o K s hs hR hm)
end Steps

section Moves
variable {sig : RefSig} {κ : Kind} {sp : Space} {v : View sig κ sp (⟨2, ![2048, 128]⟩ : Shape) .f32}
  {L : List (View.Piece (Elt Ideal) ⟨2, ![2048, 128]⟩ .f32)} {Z : Fin 2048 → Fin 128 → ℝ} (hL : Good (e := .f32) L (fun n => n < 2048) (tokV Z)) (r : ℕ)
include hL
/-- Every fourth token, as a row of the padded matrix, -/
theorem take1 {n : ℕ} {inb} (j : Fin 512) (l : Fin 128) (hr : r < 4 := by decide) (hn : n = 128 + (512 * r + j.val) := by omega) :
    v.readCov L (⟨![r, 0], (⟨2, ![512, 128]⟩ : Shape).size, ![4, 1], inb⟩ : LoadRect ⟨2, ![2048, 128]⟩) (ix2 j l) = padV Z 1 n l :=
  (read_strided (K := 512) (s := 4) v hL inb (fun j hj => by omega) j l).trans (pad1 Z r j.val hr j.isLt hn l).symm
/-- and every sixteenth. -/
theorem take2 {n : ℕ} {inb} (j : Fin 128) (l : Fin 128) (hr : r < 16 := by decide) (hn : n = 128 + (128 * r + j.val) := by omega) :
    v.readCov L (⟨![r, 0], (⟨2, ![128, 128]⟩ : Shape).size, ![16, 1], inb⟩ : LoadRect ⟨2, ![2048, 128]⟩) (ix2 j l) = padV Z 2 n l :=
  (read_strided (K := 128) (s := 16) v hL inb (fun j hj => by omega) j l).trans (pad2 Z r j.val hr j.isLt hn l).symm
/-- The rows of a branch, as every fourth token -/
theorem give1 {o t : ℕ} {inb} (j : Fin 512) (l : Fin 128) (hr : r < 4 := by decide) (ho : o = 512 * r := by rfl) (ht : t = r + 4 * j.val := by omega) :
    v.readCov L (Rect.unit (s := (⟨2, ![2048, 128]⟩ : Shape)) ![o, 0] (⟨2, ![512, 128]⟩ : Shape).size inb).toLoadRect (ix2 j l) = subV Z 1 t l :=
  (read_rows (K := 512) v hL inb (fun j hj => by omega) j l).trans (sub1 Z r j.val hr j.isLt ht (by omega) l).symm
/-- or every sixteenth. -/
theorem give2 {o t : ℕ} {inb} (j : Fin 128) (l : Fin 128) (hr : r < 16 := by decide) (ho : o = 128 * r := by rfl) (ht : t = r + 16 * j.val := by omega) :
    v.readCov L (Rect.unit (s := (⟨2, ![2048, 128]⟩ : Shape)) ![o, 0] (⟨2, ![128, 128]⟩ : Shape).size inb).toLoadRect (ix2 j l) = subV Z 2 t l :=
  (read_rows (K := 128) v hL inb (fun j hj => by omega) j l).trans (sub2 Z r j.val hr j.isLt ht (by omega) l).symm
end Moves

theorem padV_own (Z : Fin 2048 → Fin 128 → ℝ) (i : Fin 3) (n : Fin 2048) (l : Fin 128) :
    padV Z i (128 + n.val) l = ((Z (tokAt i n) l : ℝ) : EReal) := by
  rw [pad_row Z i (t := tokN i n.val) (by omega) (by rw [Nat.add_sub_cancel_left]), tokV_eq Z (tokN_lt i n.isLt)]

/-- The first 128 rows are zero in every branch. -/
theorem Good.pad {L : List (View.Piece (Elt Ideal) ⟨2, ![2176, 128]⟩ .bf16)} {Z : Fin 2048 → Fin 128 → ℝ} {i : Fin 3} (i' : Fin 3)
    (h : Good L (fun n => n < 2176) (padV Z i)) : Good (e := .bf16) L (fun n => n < 128) (padV Z i') :=
  fun n l hn => (h n l n.isLt).trans ((pad_zero Z i hn l).trans (pad_zero Z i' hn l).symm)

/-- The kernel's blocks: two heads of queries, keys and values, and their bias, masked outside the band. -/
structure Blocks (Q K V : Fin 2048 → Fin 128 → ℝ) (B : Fin 3 → Fin 2 → Fin 128 → Fin 256 → ℝ)
    (x0 x1 x2 : Vec Ideal S1x2048x128 .bf16) (x3 : Vec Ideal S3x2x128x256 .f32) : Prop where
  q : ∀ t l, x0 (ix3 0 t l) = ((Q t l : ℝ) : EReal)
  k : ∀ t l, x1 (ix3 0 t l) = ((K t l : ℝ) : EReal)
  v : ∀ t l, x2 (ix3 0 t l) = ((V t l : ℝ) : EReal)
  b : ∀ i h r c, x3 (ix4 i h r c) = if band r c then ((B i h r c : ℝ) : EReal) else ⊥

/-- A load of a whole block of tokens, at a token. -/
theorem in_read {Z : Fin 2048 → Fin 128 → ℝ} {arg : Memref sig .tc .vmem S1x2048x128 .bf16} (harg : arg.IsWhole) {x : Vec Ideal S1x2048x128 .bf16}
    (hx : ∀ t l, x (ix3 0 t l) = ((Z t l : ℝ) : EReal))
    (inb : ∀ a : Fin 3, (![0, 0, 0] : Fin 3 → ℕ) a + S1x2048x128.size a ≤ S1x2048x128.size a) (t : Fin 2048) (l : Fin 128) :
    View.readAt (Elt Ideal) arg.view (Rect.unit (s := S1x2048x128) ![0, 0, 0] S1x2048x128.size inb).toLoadRect (harg.unread x) (ix3 0 t l)
      = tokV Z t.val l := by
  rw [View.readAt_eq_ld, harg.read_unread, View.ld_unit_zero (S := S1x2048x128) (funext fun a => by fin_cases a <;> rfl), tokV_eq Z t.isLt]
  exact hx t l

/-- A load of one head's bias. -/
theorem bias_read {B : Fin 3 → Fin 2 → Fin 128 → Fin 256 → ℝ} {arg : Memref sig .tc .vmem S3x2x128x256 .f32} (harg : arg.IsWhole) {x : Vec Ideal S3x2x128x256 .f32}
    (hx : ∀ i h r c, x (ix4 i h r c) = if band r c then ((B i h r c : ℝ) : EReal) else ⊥) (i : Fin 3) (h : Fin 2) {io ho : ℕ}
    (hi : io = i.val) (hh : ho = h.val)
    (inb : ∀ a : Fin 4, (![io, ho, 0, 0] : Fin 4 → ℕ) a + S1x1x128x256.size a ≤ S3x2x128x256.size a) :
    Tile.Bias B i h (View.readAt (Elt Ideal) arg.view (Rect.unit (s := S3x2x128x256) ![io, ho, 0, 0] S1x1x128x256.size inb).toLoadRect (harg.unread x)) := by
  subst hi hh
  intro r c
  rw [View.readAt_eq_ld, harg.read_unread, ← hx i h r c]
  refine congrArg x (funext fun a => Fin.ext ?_)
  fin_cases a
  · rfl
  · rfl
  · show 0 + 1 * r.val = r.val; omega
  · show 0 + 1 * c.val = c.val; omega
/-- and of its half over the keys of the block itself. -/
theorem own_read {B : Fin 3 → Fin 2 → Fin 128 → Fin 256 → ℝ} {arg : Memref sig .tc .vmem S3x2x128x256 .f32} (harg : arg.IsWhole) {x : Vec Ideal S3x2x128x256 .f32}
    (hx : ∀ i h r c, x (ix4 i h r c) = if band r c then ((B i h r c : ℝ) : EReal) else ⊥) (h : Fin 2) {ho : ℕ} (hh : ho = h.val)
    (inb : ∀ a : Fin 4, (![2, ho, 0, 128] : Fin 4 → ℕ) a + S1x1x128x128.size a ≤ S3x2x128x256.size a) :
    Tile.OwnBias B h (View.readAt (Elt Ideal) arg.view (Rect.unit (s := S3x2x128x256) ![2, ho, 0, 128] S1x1x128x128.size inb).toLoadRect (harg.unread x)) := by
  subst hh
  intro r c
  rw [View.readAt_eq_ld, harg.read_unread]
  refine Eq.trans (congrArg x (funext fun a => Fin.ext ?_)) (hx 2 h r (own c))
  fin_cases a
  · rfl
  · rfl
  · show 0 + 1 * r.val = r.val; omega
  · show 128 + 1 * c.val = (own c).val; simp only [own]; omega

end Cert.AttnIdeal.Rows
-- ==== Proof.AttnStage.lean ====
/- The attention kernel's regrouped queries, keys and values, row by row. -/
module

public import proofs.«01_k».proof.Proof.AttnRows
public import proofs.«01_k».proof.Proof.Gen.AttnIdeal.Frame

@[expose] public section

set_option maxRecDepth 16384

open Idealize.ShloMosaic Idealize.ShloMosaic.TcCoe Idealize.SL.Sem
open Cert.AttnIdeal Cert.AttnIdeal.Gen Cert.AttnIdeal.Gen.kernelRun0_A.sl

noncomputable section
namespace Cert.AttnIdeal.Rows
open Cert.Attn

theorem pl_3 (j : Fin 128) (l : Fin 128) : (k0_pay3 (F := Ideal) (ix2 j l) : EReal) = 0 := by
  pointwise [k0_pay3]
theorem pl_4 (j : Fin 128) (l : Fin 128) : (k0_pay4 (F := Ideal) (ix2 j l) : EReal) = 0 := by
  pointwise [k0_pay4]
variable {Q K V : Fin 2048 → Fin 128 → ℝ} {B : Fin 3 → Fin 2 → Fin 128 → Fin 256 → ℝ}
variable {c : Dev nD}
  {arg2 : Memref sig .tc .vmem S1x2048x128 .bf16} {harg2 : arg2.IsWhole} {arg3 : Memref sig .tc .vmem S1x2048x128 .bf16} {harg3 : arg3.IsWhole}
  {arg4 : Memref sig .tc .vmem S1x2048x128 .bf16} {harg4 : arg4.IsWhole} {arg5 : Memref sig .tc .vmem S3x2x128x256 .f32} {harg5 : arg5.IsWhole}
  {arg8 : Memref sig .tc .vmem S2048x128 .f32} {arg9 : Memref sig .tc .vmem S2048x128 .bf16} {arg10 arg11 : Memref sig .tc .vmem S2176x128 .bf16}
  {arg12 arg13 arg14 arg15 arg16 arg17 arg18 arg19 : Memref sig .tc .vmem S2048x128 .f32}
  {x0 x1 x2 : Vec Ideal S1x2048x128 .bf16} {x3 : Vec Ideal S3x2x128x256 .f32}
variable (X : Blocks Q K V B x0 x1 x2 x3)
include X

theorem good_HS0_1 : Good (R := 2048) (e := .f32) (HS0_1 c arg2 harg2 x0) (fun n => n < 2048) (tokV Q) := by
  unfold HS0_1
  exact good_whole _ _ fun j l => by unfold v137 v134 v13; pointwise [k0_pay29]; exact in_read _ X.q _ j l
theorem good_HS0_2 : Good (R := 2048) (e := .f32) (HS0_2 c arg2 harg2 arg3 harg3 x0 x1) (fun n => n < 2048) (tokV K) := by
  unfold HS0_2
  exact good_whole _ _ fun j l => by unfold v163 v160 v18; pointwise [k0_pay35]; exact in_read _ X.k _ j l
theorem good_HS0_3 : Good (R := 2048) (e := .f32) (HS0_3 c arg2 harg2 arg3 harg3 arg4 harg4 x0 x1 x2) (fun n => n < 2048) (tokV V) := by
  unfold HS0_3
  exact good_whole _ _ fun j l => by unfold v189 v186 v23; pointwise [k0_pay41]; exact in_read _ X.v _ j l
theorem good_HS0_4 : Good (R := 2048) (e := .f32) (HS0_4 c arg2 harg2 arg3 harg3 arg4 harg4 x0 x1 x2) (fun n => n < 2048) (tokV Q) := by
  unfold HS0_4
  exact good_whole _ _ fun j l => by unfold v137 v134 v13; pointwise [k0_pay73]; exact in_read _ X.q _ j l
theorem good_HS0_5 : Good (R := 2048) (e := .f32) (HS0_5 c arg2 harg2 arg3 harg3 arg4 harg4 x0 x1 x2) (fun n => n < 2048) (tokV K) := by
  unfold HS0_5
  exact good_whole _ _ fun j l => by unfold v163 v160 v18; pointwise [k0_pay90]; exact in_read _ X.k _ j l
theorem good_HS0_6 : Good (R := 2048) (e := .f32) (HS0_6 c arg2 harg2 arg3 harg3 arg4 harg4 x0 x1 x2) (fun n => n < 2048) (tokV V) := by
  unfold HS0_6
  exact good_whole _ _ fun j l => by unfold v189 v186 v23; pointwise [k0_pay110]; exact in_read _ X.v _ j l
theorem good_HS1_1 : Good (R := 2048) (e := .bf16) (HS1_1 c arg2 harg2 x0) (fun n => n < 2048) (fun n l => padV Q 0 (128 + n) l) := by
  unfold HS1_1
  exact good_whole _ _ fun j l => by unfold v16 v13; pointwise [k0_pay5]; exact (in_read _ X.q _ j l).trans (pad0 Q j.val j.isLt rfl l).symm
theorem good_HS2_2 : Good (R := 2176) (e := .bf16) (HS2_2 c arg3 harg3 x1) (fun n => n < 2176) (padV K 0) := by
  unfold HS2_2
  refine put 2048 128 _ _ (fun j l => by unfold v21 v18; pointwise [k0_pay6]; exact (in_read _ X.k _ j l).trans (pad0 K j.val j.isLt rfl l).symm) ?_
  exact good_rows (K := 128) (o := 0) (Q := fun n => False) _ _ (fun j l => (pl_3 j l).trans (pad_zero K 0 (by omega) l).symm) (good_none _ _) (fun n _ hP h => h n hP (by omega))
theorem good_HS3_2 : Good (R := 2176) (e := .bf16) (HS3_2 c arg4 harg4 x2) (fun n => n < 2176) (padV V 0) := by
  unfold HS3_2
  refine put 2048 128 _ _ (fun j l => by unfold v26 v23; pointwise [k0_pay7]; exact (in_read _ X.v _ j l).trans (pad0 V j.val j.isLt rfl l).symm) ?_
  exact good_rows (K := 128) (o := 0) (Q := fun n => False) _ _ (fun j l => (pl_4 j l).trans (pad_zero V 0 (by omega) l).symm) (good_none _ _) (fun n _ hP h => h n hP (by omega))
theorem good_HS1_5 : Good (R := 2048) (e := .bf16) (HS1_5 c arg2 harg2 arg8 x0) (fun n => n < 2048) (fun n l => padV Q 1 (128 + n) l) := by
  unfold HS1_5
  refine put 512 1536 _ _ (fun j l => by unfold v157 v154; pointwise [k0_pay34]; unfold v153; exact take1 (good_HS0_1 X) 3 j l) ?_
  refine put 512 1024 _ _ (fun j l => by unfold v152 v149; pointwise [k0_pay33]; unfold v148; exact take1 (good_HS0_1 X) 2 j l) ?_
  refine put 512 512 _ _ (fun j l => by unfold v147 v144; pointwise [k0_pay32, k0_pay31]; unfold v143; exact take1 (good_HS0_1 X) 1 j l) ?_
  refine put 512 0 _ _ (fun j l => by unfold v142 v139; pointwise [k0_pay30]; unfold v138; exact take1 (good_HS0_1 X) 0 j l) ?_
  exact good_none_lt _ _
theorem good_HS2_6 : Good (R := 2176) (e := .bf16) (HS2_6 c arg2 harg2 arg3 harg3 arg8 x0 x1) (fun n => n < 2176) (padV K 1) := by
  unfold HS2_6
  refine put 512 1664 _ _ (fun j l => by unfold v183 v180; pointwise [k0_pay40]; unfold v179; exact take1 (good_HS0_2 X) 3 j l) ?_
  refine put 512 1152 _ _ (fun j l => by unfold v178 v175; pointwise [k0_pay39, k0_pay38]; unfold v174; exact take1 (good_HS0_2 X) 2 j l) ?_
  refine put 512 640 _ _ (fun j l => by unfold v173 v170; pointwise [k0_pay37]; unfold v169; exact take1 (good_HS0_2 X) 1 j l) ?_
  refine put 512 128 _ _ (fun j l => by unfold v168 v165; pointwise [k0_pay36]; unfold v164; exact take1 (good_HS0_2 X) 0 j l) ?_
  exact (good_HS2_2 X).pad 1
theorem good_HS3_6 : Good (R := 2176) (e := .bf16) (HS3_6 c arg2 harg2 arg3 harg3 arg4 harg4 arg8 x0 x1 x2) (fun n => n < 2176) (padV V 1) := by
  unfold HS3_6
  refine put 512 1664 _ _ (fun j l => by unfold v209 v206; pointwise [k0_pay45]; unfold v205; exact take1 (good_HS0_3 X) 3 j l) ?_
  refine put 512 1152 _ _ (fun j l => by unfold v204 v201; pointwise [k0_pay44]; unfold v200; exact take1 (good_HS0_3 X) 2 j l) ?_
  refine put 512 640 _ _ (fun j l => by unfold v199 v196; pointwise [k0_pay43]; unfold v195; exact take1 (good_HS0_3 X) 1 j l) ?_
  refine put 512 128 _ _ (fun j l => by unfold v194 v191; pointwise [k0_pay42]; unfold v190; exact take1 (good_HS0_3 X) 0 j l) ?_
  exact (good_HS3_2 X).pad 1
theorem good_HS1_21 : Good (R := 2048) (e := .bf16) (HS1_21 c arg2 harg2 arg3 harg3 arg4 harg4 arg8 x0 x1 x2) (fun n => n < 2048) (fun n l => padV Q 2 (128 + n) l) := by
  unfold HS1_21
  refine put 128 1920 _ _ (fun j l => by unfold v424 v421; pointwise [k0_pay89]; unfold v420; exact take2 (good_HS0_4 X) 15 j l) ?_
  refine put 128 1792 _ _ (fun j l => by unfold v419 v416; pointwise [k0_pay88]; unfold v415; exact take2 (good_HS0_4 X) 14 j l) ?_
  refine put 128 1664 _ _ (fun j l => by unfold v414 v411; pointwise [k0_pay87]; unfold v410; exact take2 (good_HS0_4 X) 13 j l) ?_
  refine put 128 1536 _ _ (fun j l => by unfold v409 v406; pointwise [k0_pay86]; unfold v405; exact take2 (good_HS0_4 X) 12 j l) ?_
  refine put 128 1408 _ _ (fun j l => by unfold v404 v401; pointwise [k0_pay85]; unfold v400; exact take2 (good_HS0_4 X) 11 j l) ?_
  refine put 128 1280 _ _ (fun j l => by unfold v399 v396; pointwise [k0_pay84]; unfold v395; exact take2 (good_HS0_4 X) 10 j l) ?_
  refine put 128 1152 _ _ (fun j l => by unfold v394 v391; pointwise [k0_pay83]; unfold v390; exact take2 (good_HS0_4 X) 9 j l) ?_
  refine put 128 1024 _ _ (fun j l => by unfold v389 v386; pointwise [k0_pay82]; unfold v385; exact take2 (good_HS0_4 X) 8 j l) ?_
  refine put 128 896 _ _ (fun j l => by unfold v384 v381; pointwise [k0_pay81]; unfold v380; exact take2 (good_HS0_4 X) 7 j l) ?_
  refine put 128 768 _ _ (fun j l => by unfold v379 v376; pointwise [k0_pay80]; unfold v375; exact take2 (good_HS0_4 X) 6 j l) ?_
  refine put 128 640 _ _ (fun j l => by unfold v374 v371; pointwise [k0_pay79]; unfold v370; exact take2 (good_HS0_4 X) 5 j l) ?_
  refine put 128 512 _ _ (fun j l => by unfold v369 v366; pointwise [k0_pay78]; unfold v365; exact take2 (good_HS0_4 X) 4 j l) ?_
  refine put 128 384 _ _ (fun j l => by unfold v364 v361; pointwise [k0_pay77]; unfold v360; exact take2 (good_HS0_4 X) 3 j l) ?_
  refine put 128 256 _ _ (fun j l => by unfold v359 v356; pointwise [k0_pay76]; unfold v355; exact take2 (good_HS0_4 X) 2 j l) ?_
  refine put 128 128 _ _ (fun j l => by unfold v354 v351; pointwise [k0_pay75]; unfold v350; exact take2 (good_HS0_4 X) 1 j l) ?_
  refine put 128 0 _ _ (fun j l => by unfold v349 v346; pointwise [k0_pay74]; unfold v345; exact take2 (good_HS0_4 X) 0 j l) ?_
  exact good_none_lt _ _
theorem good_HS2_22 : Good (R := 2176) (e := .bf16) (HS2_22 c arg2 harg2 arg3 harg3 arg4 harg4 arg8 x0 x1 x2) (fun n => n < 2176) (padV K 2) := by
  unfold HS2_22
  refine put 128 2048 _ _ (fun j l => by unfold v510 v507; pointwise [k0_pay109]; unfold v506; exact take2 (good_HS0_5 X) 15 j l) ?_
  refine put 128 1920 _ _ (fun j l => by unfold v505 v502; pointwise [k0_pay108]; unfold v501; exact take2 (good_HS0_5 X) 14 j l) ?_
  refine put 128 1792 _ _ (fun j l => by unfold v500 v497; pointwise [k0_pay107, k0_pay106]; unfold v496; exact take2 (good_HS0_5 X) 13 j l) ?_
  refine put 128 1664 _ _ (fun j l => by unfold v495 v492; pointwise [k0_pay105]; unfold v491; exact take2 (good_HS0_5 X) 12 j l) ?_
  refine put 128 1536 _ _ (fun j l => by unfold v490 v487; pointwise [k0_pay104]; unfold v486; exact take2 (good_HS0_5 X) 11 j l) ?_
  refine put 128 1408 _ _ (fun j l => by unfold v485 v482; pointwise [k0_pay103]; unfold v481; exact take2 (good_HS0_5 X) 10 j l) ?_
  refine put 128 1280 _ _ (fun j l => by unfold v480 v477; pointwise [k0_pay102]; unfold v476; exact take2 (good_HS0_5 X) 9 j l) ?_
  refine put 128 1152 _ _ (fun j l => by unfold v475 v472; pointwise [k0_pay101]; unfold v471; exact take2 (good_HS0_5 X) 8 j l) ?_
  refine put 128 1024 _ _ (fun j l => by unfold v470 v467; pointwise [k0_pay100, k0_pay99]; unfold v466; exact take2 (good_HS0_5 X) 7 j l) ?_
  refine put 128 896 _ _ (fun j l => by unfold v465 v462; pointwise [k0_pay98]; unfold v461; exact take2 (good_HS0_5 X) 6 j l) ?_
  refine put 128 768 _ _ (fun j l => by unfold v460 v457; pointwise [k0_pay97]; unfold v456; exact take2 (good_HS0_5 X) 5 j l) ?_
  refine put 128 640 _ _ (fun j l => by unfold v455 v452; pointwise [k0_pay96]; unfold v451; exact take2 (good_HS0_5 X) 4 j l) ?_
  refine put 128 512 _ _ (fun j l => by unfold v450 v447; pointwise [k0_pay95]; unfold v446; exact take2 (good_HS0_5 X) 3 j l) ?_
  refine put 128 384 _ _ (fun j l => by unfold v445 v442; pointwise [k0_pay94]; unfold v441; exact take2 (good_HS0_5 X) 2 j l) ?_
  refine put 128 256 _ _ (fun j l => by unfold v440 v437; pointwise [k0_pay93, k0_pay92]; unfold v436; exact take2 (good_HS0_5 X) 1 j l) ?_
  refine put 128 128 _ _ (fun j l => by unfold v435 v432; pointwise [k0_pay91]; unfold v431; exact take2 (good_HS0_5 X) 0 j l) ?_
  exact (good_HS2_6 X).pad 2
theorem good_HS3_22 : Good (R := 2176) (e := .bf16) (HS3_22 c arg2 harg2 arg3 harg3 arg4 harg4 arg8 x0 x1 x2) (fun n => n < 2176) (padV V 2) := by
  unfold HS3_22
  refine put 128 2048 _ _ (fun j l => by unfold v596 v593; pointwise [k0_pay129]; unfold v592; exact take2 (good_HS0_6 X) 15 j l) ?_
  refine put 128 1920 _ _ (fun j l => by unfold v591 v588; pointwise [k0_pay128, k0_pay127]; unfold v587; exact take2 (good_HS0_6 X) 14 j l) ?_
  refine put 128 1792 _ _ (fun j l => by unfold v586 v583; pointwise [k0_pay126]; unfold v582; exact take2 (good_HS0_6 X) 13 j l) ?_
  refine put 128 1664 _ _ (fun j l => by unfold v581 v578; pointwise [k0_pay125]; unfold v577; exact take2 (good_HS0_6 X) 12 j l) ?_
  refine put 128 1536 _ _ (fun j l => by unfold v576 v573; pointwise [k0_pay124]; unfold v572; exact take2 (good_HS0_6 X) 11 j l) ?_
  refine put 128 1408 _ _ (fun j l => by unfold v571 v568; pointwise [k0_pay123]; unfold v567; exact take2 (good_HS0_6 X) 10 j l) ?_
  refine put 128 1280 _ _ (fun j l => by unfold v566 v563; pointwise [k0_pay122]; unfold v562; exact take2 (good_HS0_6 X) 9 j l) ?_
  refine put 128 1152 _ _ (fun j l => by unfold v561 v558; pointwise [k0_pay121, k0_pay120]; unfold v557; exact take2 (good_HS0_6 X) 8 j l) ?_
  refine put 128 1024 _ _ (fun j l => by unfold v556 v553; pointwise [k0_pay119]; unfold v552; exact take2 (good_HS0_6 X) 7 j l) ?_
  refine put 128 896 _ _ (fun j l => by unfold v551 v548; pointwise [k0_pay118]; unfold v547; exact take2 (good_HS0_6 X) 6 j l) ?_
  refine put 128 768 _ _ (fun j l => by unfold v546 v543; pointwise [k0_pay117]; unfold v542; exact take2 (good_HS0_6 X) 5 j l) ?_
  refine put 128 640 _ _ (fun j l => by unfold v541 v538; pointwise [k0_pay116]; unfold v537; exact take2 (good_HS0_6 X) 4 j l) ?_
  refine put 128 512 _ _ (fun j l => by unfold v536 v533; pointwise [k0_pay115]; unfold v532; exact take2 (good_HS0_6 X) 3 j l) ?_
  refine put 128 384 _ _ (fun j l => by unfold v531 v528; pointwise [k0_pay114, k0_pay113]; unfold v527; exact take2 (good_HS0_6 X) 2 j l) ?_
  refine put 128 256 _ _ (fun j l => by unfold v526 v523; pointwise [k0_pay112]; unfold v522; exact take2 (good_HS0_6 X) 1 j l) ?_
  refine put 128 128 _ _ (fun j l => by unfold v521 v518; pointwise [k0_pay111]; unfold v517; exact take2 (good_HS0_6 X) 0 j l) ?_
  exact (good_HS3_6 X).pad 2
theorem v27_at (j : Fin 2048) (l : Fin 128) : (v27 c arg2 harg2 arg9 x0) (ix2 j l) = padV Q 0 (128 + j.val) l := by
  unfold v27
  exact read_from0 (K := 2048) _ (good_HS1_1 X) _ (fun j hj => by omega) j l
theorem v210_at (j : Fin 2048) (l : Fin 128) : (v210 c arg2 harg2 arg8 arg9 x0) (ix2 j l) = padV Q 1 (128 + j.val) l := by
  unfold v210
  exact read_from0 (K := 2048) _ (good_HS1_5 X) _ (fun j hj => by omega) j l
theorem v597_at (j : Fin 2048) (l : Fin 128) : (v597 c arg2 harg2 arg3 harg3 arg4 harg4 arg8 arg9 x0 x1 x2) (ix2 j l) = padV Q 2 (128 + j.val) l := by
  unfold v597
  exact read_from0 (K := 2048) _ (good_HS1_21 X) _ (fun j hj => by omega) j l
theorem v31_at (j : Fin 2048) (l : Fin 128) : (v31 c arg3 harg3 arg10 x1) (ix2 j l) = padV K 0 (128 + j.val) l := by
  unfold v31
  exact read_rows (K := 2048) (o := 128) _ (good_HS2_2 X) _ (fun j hj => by omega) j l
theorem v35_at (j : Fin 2048) (l : Fin 128) : (v35 c arg3 harg3 arg10 x1) (ix2 j l) = padV K 0 j.val l := by
  unfold v35
  exact read_from0 (K := 2048) _ (good_HS2_2 X) _ (fun j hj => by omega) j l
theorem v33_at (j : Fin 2048) (l : Fin 128) : (v33 c arg4 harg4 arg11 x2) (ix2 j l) = padV V 0 (128 + j.val) l := by
  unfold v33
  exact read_rows (K := 2048) (o := 128) _ (good_HS3_2 X) _ (fun j hj => by omega) j l
theorem v38_at (j : Fin 2048) (l : Fin 128) : (v38 c arg4 harg4 arg11 x2) (ix2 j l) = padV V 0 j.val l := by
  unfold v38
  exact read_from0 (K := 2048) _ (good_HS3_2 X) _ (fun j hj => by omega) j l
theorem v214_at (j : Fin 2048) (l : Fin 128) : (v214 c arg2 harg2 arg3 harg3 arg8 arg10 x0 x1) (ix2 j l) = padV K 1 (128 + j.val) l := by
  unfold v214
  exact read_rows (K := 2048) (o := 128) _ (good_HS2_6 X) _ (fun j hj => by omega) j l
theorem v218_at (j : Fin 2048) (l : Fin 128) : (v218 c arg2 harg2 arg3 harg3 arg8 arg10 x0 x1) (ix2 j l) = padV K 1 j.val l := by
  unfold v218
  exact read_from0 (K := 2048) _ (good_HS2_6 X) _ (fun j hj => by omega) j l
theorem v216_at (j : Fin 2048) (l : Fin 128) : (v216 c arg2 harg2 arg3 harg3 arg4 harg4 arg8 arg11 x0 x1 x2) (ix2 j l) = padV V 1 (128 + j.val) l := by
  unfold v216
  exact read_rows (K := 2048) (o := 128) _ (good_HS3_6 X) _ (fun j hj => by omega) j l
theorem v221_at (j : Fin 2048) (l : Fin 128) : (v221 c arg2 harg2 arg3 harg3 arg4 harg4 arg8 arg11 x0 x1 x2) (ix2 j l) = padV V 1 j.val l := by
  unfold v221
  exact read_from0 (K := 2048) _ (good_HS3_6 X) _ (fun j hj => by omega) j l
theorem v601_at (j : Fin 2048) (l : Fin 128) : (v601 c arg2 harg2 arg3 harg3 arg4 harg4 arg8 arg10 x0 x1 x2) (ix2 j l) = padV K 2 (128 + j.val) l := by
  unfold v601
  exact read_rows (K := 2048) (o := 128) _ (good_HS2_22 X) _ (fun j hj => by omega) j l
theorem v603_at (j : Fin 2048) (l : Fin 128) : (v603 c arg2 harg2 arg3 harg3 arg4 harg4 arg8 arg11 x0 x1 x2) (ix2 j l) = padV V 2 (128 + j.val) l := by
  unfold v603
  exact read_rows (K := 2048) (o := 128) _ (good_HS3_22 X) _ (fun j hj => by omega) j l

end Cert.AttnIdeal.Rows
-- ==== Proof.AttnTile1.lean ====
/- The attention kernel's second branch at an index, when its arguments are real. -/
module

public import proofs.«01_k».proof.Proof.AttnTile

@[expose] public section

set_option maxRecDepth 16384

noncomputable section

namespace Cert.AttnIdeal.Tile

open Idealize.ShloMosaic Idealize.ShloMosaic.TcCoe Idealize.SL.Sem
open Cert.AttnIdeal Cert.AttnIdeal.Gen Cert.Attn Cert.Consts

variable {Q K V : Fin 2048 → Fin 128 → ℝ} {B : Fin 3 → Fin 2 → Fin 128 → Fin 256 → ℝ}
variable {q k kp v vp : Vec Ideal S2048x128 .bf16} {b0 b1 : Vec Ideal S1x1x128x256 .f32} {b2 b3 : Vec Ideal S1x1x128x128 .f32}

section Second

variable (A : Reads Q K V 1 q k kp v vp) (h0 : Bias B 1 0 b0) (h1 : Bias B 1 1 b1)
include A

theorem q46 (g : Fin 16) (r l : Fin 128) : k0_pay46 (F := Ideal) q (ix3 g r l) = ((Q (tok 1 g r) l * (1 / 8) : ℝ) : EReal) := by
  pointwise [k0_pay46]
  rw [A.q, of_eighth, tokAt_eq, ← EReal.coe_mul]

theorem k47 (g : Fin 16) (c : Fin 256) (l : Fin 128) : k0_pay47 (F := Ideal) k kp (ix3 g c l) = ((key K 1 g c l : ℝ) : EReal) := by
  pointwise [k0_pay47]
  unfold key
  split
  · rw [A.kp]; exact congrArg (fun n => ((padded K 1 n l : ℝ) : EReal)) (by dsimp only; omega)
  · rw [A.k]; exact congrArg (fun n => ((padded K 1 n l : ℝ) : EReal)) (by dsimp only; omega)
theorem v48 (g : Fin 16) (c : Fin 256) (l : Fin 128) : k0_pay48 (F := Ideal) v vp (ix3 g c l) = ((key V 1 g c l : ℝ) : EReal) := by
  pointwise [k0_pay48]
  unfold key
  split
  · rw [A.vp]; exact congrArg (fun n => ((padded V 1 n l : ℝ) : EReal)) (by dsimp only; omega)
  · rw [A.v]; exact congrArg (fun n => ((padded V 1 n l : ℝ) : EReal)) (by dsimp only; omega)

include h0 in
theorem s52 (g : Fin 16) (r : Fin 128) (c : Fin 256) :
    k0_pay52 (k0_pay49 blk) (k0_pay50 (F := Ideal) k0_pay2 q k kp) (k0_pay51 b0) (ix3 g r c) = Soft.val (seen 1 g r) (sc Q K B 0 1 g r) c := by
  pointwise [k0_pay52, k0_pay50, k0_pay51]
  simp only [sel0, d49, sel_dead, q46 A, k47 A, h0 _ _, mask_bot]
  exact score0 Q K B 1 g r c
include h0 in
theorem m53 (g : Fin 16) (r : Fin 128) :
    k0_pay53 (k0_pay49 blk) (k0_pay50 (F := Ideal) k0_pay2 q k kp) (k0_pay51 b0) (ix3 g r 0) = ((pk Q K B 0 1 g r : ℝ) : EReal) := by
  pointwise [k0_pay53]
  simp only [s52 A h0, of_bot]
  exact Soft.fold_eq _ _ (seen_some _ _ _)
include h0 in
theorem p54 (g : Fin 16) (r : Fin 128) (c : Fin 256) :
    k0_pay54 (k0_pay49 blk) (k0_pay50 (F := Ideal) k0_pay2 q k kp) (k0_pay51 b0) (ix3 g r c) = ((we Q K B 0 1 g r c * Real.exp (-pk Q K B 0 1 g r) : ℝ) : EReal) := by
  pointwise [k0_pay54]
  rw [s52 A h0, m53 A h0]
  exact Soft.exp_val _ _ _ c
include h0 in
theorem l55 (g : Fin 16) (r : Fin 128) :
    k0_pay55 (k0_pay49 blk) (k0_pay50 (F := Ideal) k0_pay2 q k kp) (k0_pay51 b0) (ix3 g r 0) = ((den Q K B 0 1 g r * Real.exp (-pk Q K B 0 1 g r) : ℝ) : EReal) := by
  pointwise [k0_pay55]
  simp only [p54 A h0]
  exact Soft.sum_shift _ _
include h0 in
theorem n57 (g : Fin 16) (r l : Fin 128) :
    k0_pay57 (k0_pay49 blk) (k0_pay50 (F := Ideal) k0_pay2 q k kp) (k0_pay51 b0) (ix3 g r l)
      = ((Real.log (den Q K B 0 1 g r) : ℝ) : EReal) := by
  pointwise [k0_pay57]
  rw [m53 A h0, l55 A h0]
  exact Soft.log_sum (den_pos _ _ _ _ _ _ _) _

include h1 in
theorem s58 (g : Fin 16) (r : Fin 128) (c : Fin 256) :
    k0_pay58 (F := Ideal) k0_pay2 (k0_pay46 q) (k0_pay47 k kp) (k0_pay49 blk) b1 (ix3 g r c) = Soft.val (seen 1 g r) (sc Q K B 1 1 g r) c := by
  pointwise [k0_pay58]
  simp only [sel1, d49, sel_dead, q46 A, k47 A, h1 _ _, mask_bot]
  exact score1 Q K B 1 g r c
include h1 in
theorem m59 (g : Fin 16) (r : Fin 128) :
    k0_pay59 (F := Ideal) k0_pay2 (k0_pay46 q) (k0_pay47 k kp) (k0_pay49 blk) b1 (ix3 g r 0) = ((pk Q K B 1 1 g r : ℝ) : EReal) := by
  pointwise [k0_pay59]
  simp only [s58 A h1, of_bot]
  exact Soft.fold_eq _ _ (seen_some _ _ _)
include h1 in
theorem p60 (g : Fin 16) (r : Fin 128) (c : Fin 256) :
    k0_pay60 (F := Ideal) k0_pay2 (k0_pay46 q) (k0_pay47 k kp) (k0_pay49 blk) b1 (ix3 g r c) = ((we Q K B 1 1 g r c * Real.exp (-pk Q K B 1 1 g r) : ℝ) : EReal) := by
  pointwise [k0_pay60]
  rw [s58 A h1, m59 A h1]
  exact Soft.exp_val _ _ _ c
include h1 in
theorem l61 (g : Fin 16) (r : Fin 128) :
    k0_pay61 (F := Ideal) k0_pay2 (k0_pay46 q) (k0_pay47 k kp) (k0_pay49 blk) b1 (ix3 g r 0) = ((den Q K B 1 1 g r * Real.exp (-pk Q K B 1 1 g r) : ℝ) : EReal) := by
  pointwise [k0_pay61]
  simp only [p60 A h1]
  exact Soft.sum_shift _ _
/-- The second branch's output at a place, -/
theorem o63 (h0 : Bias B 1 0 b0) (h1 : Bias B 1 1 b1) (n : Fin 2048) (l : Fin 128) :
    k0_pay63 (F := Ideal) k0_pay2 (k0_pay56 (k0_pay48 v vp) (k0_pay49 blk) (k0_pay50 (F := Ideal) k0_pay2 q k kp) (k0_pay51 b0))
        (k0_pay61 (F := Ideal) k0_pay2 (k0_pay46 q) (k0_pay47 k kp) (k0_pay49 blk) b1)
        (k0_pay62 (F := Ideal) k0_pay2 (k0_pay46 q) (k0_pay47 k kp) (k0_pay48 v vp) (k0_pay49 blk) b1) (ix2 n l) = ((outAt Q K V B 1 n l : ℝ) : EReal) := by
  pointwise [k0_pay63, k0_pay56, k0_pay62]
  simp only [sel0, p54 A h0, l55 A h0, v48 A, p60 A h1, l61 A h1, Soft.quot (den_pos _ _ _ _ _ _ _)]
  exact out_ite Q K V B 1 n l
/-- and its logarithm of the sum of weights. -/
theorem n64 (h0 : Bias B 1 0 b0) (h1 : Bias B 1 1 b1) (n : Fin 2048) (l : Fin 128) :
    k0_pay64 (F := Ideal) k0_pay2 (k0_pay57 (k0_pay49 blk) (k0_pay50 (F := Ideal) k0_pay2 q k kp) (k0_pay51 b0)) (k0_pay59 (F := Ideal) k0_pay2 (k0_pay46 q) (k0_pay47 k kp) (k0_pay49 blk) b1)
        (k0_pay61 (F := Ideal) k0_pay2 (k0_pay46 q) (k0_pay47 k kp) (k0_pay49 blk) b1) (ix2 n l) = ((lseAt Q K B 1 n l : ℝ) : EReal) := by
  pointwise [k0_pay64]
  simp only [sel0, n57 A h0, m59 A h1, l61 A h1, Soft.log_sum (den_pos _ _ _ _ _ _ _)]
  exact lse_ite Q K B 1 n l
end Second

end Cert.AttnIdeal.Tile

end
-- ==== Proof.AttnBranch.lean ====
/- The attention kernel's three branches over the regrouped rows. -/
module

public import proofs.«01_k».proof.Proof.AttnStage
public import proofs.«01_k».proof.Proof.AttnTile1

@[expose] public section

set_option maxRecDepth 16384

open Idealize.ShloMosaic Idealize.ShloMosaic.TcCoe Idealize.SL.Sem
open Cert.AttnIdeal Cert.AttnIdeal.Gen Cert.AttnIdeal.Gen.kernelRun0_A.sl

noncomputable section
namespace Cert.AttnIdeal.Rows
open Cert.Attn

variable {Q K V : Fin 2048 → Fin 128 → ℝ} {B : Fin 3 → Fin 2 → Fin 128 → Fin 256 → ℝ}
variable {c : Dev nD}
  {arg2 : Memref sig .tc .vmem S1x2048x128 .bf16} {harg2 : arg2.IsWhole} {arg3 : Memref sig .tc .vmem S1x2048x128 .bf16} {harg3 : arg3.IsWhole}
  {arg4 : Memref sig .tc .vmem S1x2048x128 .bf16} {harg4 : arg4.IsWhole} {arg5 : Memref sig .tc .vmem S3x2x128x256 .f32} {harg5 : arg5.IsWhole}
  {arg8 : Memref sig .tc .vmem S2048x128 .f32} {arg9 : Memref sig .tc .vmem S2048x128 .bf16} {arg10 arg11 : Memref sig .tc .vmem S2176x128 .bf16}
  {arg12 arg13 arg14 arg15 arg16 arg17 arg18 arg19 : Memref sig .tc .vmem S2048x128 .f32}
  {x0 x1 x2 : Vec Ideal S1x2048x128 .bf16} {x3 : Vec Ideal S3x2x128x256 .f32}
variable (X : Blocks Q K V B x0 x1 x2 x3)
include X

/-- What branch 0 reads, -/
theorem reads0 : Tile.Reads Q K V 0 (v27 c arg2 harg2 arg9 x0) (v31 c arg3 harg3 arg10 x1) (v35 c arg3 harg3 arg10 x1) (v33 c arg4 harg4 arg11 x2) (v38 c arg4 harg4 arg11 x2) :=
  ⟨fun n l => (v27_at X n l).trans (padV_own Q 0 n l), fun n l => v31_at X n l, fun n l => v35_at X n l,
    fun n l => v33_at X n l, fun n l => v38_at X n l⟩
/-- with the keys in the place of the values. -/
theorem keys0 : Tile.Reads Q K K 0 (v27 c arg2 harg2 arg9 x0) (v31 c arg3 harg3 arg10 x1) (v35 c arg3 harg3 arg10 x1) (v31 c arg3 harg3 arg10 x1) (v35 c arg3 harg3 arg10 x1) :=
  ⟨fun n l => (v27_at X n l).trans (padV_own Q 0 n l), fun n l => v31_at X n l, fun n l => v35_at X n l,
    fun n l => v31_at X n l, fun n l => v35_at X n l⟩
/-- What branch 1 reads, -/
theorem reads1 : Tile.Reads Q K V 1 (v210 c arg2 harg2 arg8 arg9 x0) (v214 c arg2 harg2 arg3 harg3 arg8 arg10 x0 x1) (v218 c arg2 harg2 arg3 harg3 arg8 arg10 x0 x1) (v216 c arg2 harg2 arg3 harg3 arg4 harg4 arg8 arg11 x0 x1 x2) (v221 c arg2 harg2 arg3 harg3 arg4 harg4 arg8 arg11 x0 x1 x2) :=
  ⟨fun n l => (v210_at X n l).trans (padV_own Q 1 n l), fun n l => v214_at X n l, fun n l => v218_at X n l,
    fun n l => v216_at X n l, fun n l => v221_at X n l⟩
/-- with the keys in the place of the values. -/
theorem keys1 : Tile.Reads Q K K 1 (v210 c arg2 harg2 arg8 arg9 x0) (v214 c arg2 harg2 arg3 harg3 arg8 arg10 x0 x1) (v218 c arg2 harg2 arg3 harg3 arg8 arg10 x0 x1) (v214 c arg2 harg2 arg3 harg3 arg8 arg10 x0 x1) (v218 c arg2 harg2 arg3 harg3 arg8 arg10 x0 x1) :=
  ⟨fun n l => (v210_at X n l).trans (padV_own Q 1 n l), fun n l => v214_at X n l, fun n l => v218_at X n l,
    fun n l => v214_at X n l, fun n l => v218_at X n l⟩
/-- What branch 2 reads, -/
theorem reads2 : Tile.Reads Q K V 2 (v597 c arg2 harg2 arg3 harg3 arg4 harg4 arg8 arg9 x0 x1 x2) (v601 c arg2 harg2 arg3 harg3 arg4 harg4 arg8 arg10 x0 x1 x2) (fun y => padV K 2 (y 0).val (y 1)) (v603 c arg2 harg2 arg3 harg3 arg4 harg4 arg8 arg11 x0 x1 x2) (fun y => padV V 2 (y 0).val (y 1)) :=
  ⟨fun n l => (v597_at X n l).trans (padV_own Q 2 n l), fun n l => v601_at X n l, fun n l => rfl,
    fun n l => v603_at X n l, fun n l => rfl⟩
/-- with the keys in the place of the values. -/
theorem keys2 : Tile.Reads Q K K 2 (v597 c arg2 harg2 arg3 harg3 arg4 harg4 arg8 arg9 x0 x1 x2) (v601 c arg2 harg2 arg3 harg3 arg4 harg4 arg8 arg10 x0 x1 x2) (fun y => padV K 2 (y 0).val (y 1)) (v601 c arg2 harg2 arg3 harg3 arg4 harg4 arg8 arg10 x0 x1 x2) (fun y => padV K 2 (y 0).val (y 1)) :=
  ⟨fun n l => (v597_at X n l).trans (padV_own Q 2 n l), fun n l => v601_at X n l, fun n l => rfl,
    fun n l => v601_at X n l, fun n l => rfl⟩
theorem good_HS4_1 : Good (R := 2048) (e := .f32) (HS4_1 c arg2 harg2 arg3 harg3 arg4 harg4 arg5 harg5 arg9 arg10 arg11 x0 x1 x2 x3) (fun n => n < 2048) (tokV (outAt Q K V B 0)) := by
  unfold HS4_1
  exact good_whole _ _ fun j l => (Tile.o24 (reads0 X) (bias_read harg5 X.b 0 0 rfl rfl _) (bias_read harg5 X.b 0 1 rfl rfl _) j l).trans (tokV_eq (outAt Q K V B 0) j.isLt l).symm
theorem good_HS5_1 : Good (R := 2048) (e := .f32) (HS5_1 c arg2 harg2 arg3 harg3 arg5 harg5 arg9 arg10 x0 x1 x3) (fun n => n < 2048) (tokV (lseAt Q K B 0)) := by
  unfold HS5_1
  exact good_whole _ _ fun j l => (Tile.n26 (keys0 X) (bias_read harg5 X.b 0 0 rfl rfl _) (bias_read harg5 X.b 0 1 rfl rfl _) j l).trans (tokV_eq (lseAt Q K B 0) j.isLt l).symm
theorem good_HS4_2 : Good (R := 2048) (e := .f32) (HS4_2 c arg2 harg2 arg3 harg3 arg4 harg4 arg5 harg5 arg8 arg9 arg10 arg11 x0 x1 x2 x3) (fun n => n < 2048) (tokV (outAt Q K V B 1)) := by
  unfold HS4_2
  exact good_whole _ _ fun j l => (Tile.o63 (reads1 X) (bias_read harg5 X.b 1 0 rfl rfl _) (bias_read harg5 X.b 1 1 rfl rfl _) j l).trans (tokV_eq (outAt Q K V B 1) j.isLt l).symm
theorem good_HS5_2 : Good (R := 2048) (e := .f32) (HS5_2 c arg2 harg2 arg3 harg3 arg5 harg5 arg8 arg9 arg10 x0 x1 x3) (fun n => n < 2048) (tokV (lseAt Q K B 1)) := by
  unfold HS5_2
  exact good_whole _ _ fun j l => (Tile.n64 (keys1 X) (bias_read harg5 X.b 1 0 rfl rfl _) (bias_read harg5 X.b 1 1 rfl rfl _) j l).trans (tokV_eq (lseAt Q K B 1) j.isLt l).symm
theorem good_HS4_3 : Good (R := 2048) (e := .f32) (HS4_3 c arg2 harg2 arg3 harg3 arg4 harg4 arg5 harg5 arg8 arg9 arg10 arg11 x0 x1 x2 x3) (fun n => n < 2048) (tokV (outAt Q K V B 2)) := by
  unfold HS4_3
  exact good_whole _ _ fun j l => (Tile.o143 (reads2 X) (own_read harg5 X.b 0 rfl _) (own_read harg5 X.b 1 rfl _) j l).trans (tokV_eq (outAt Q K V B 2) j.isLt l).symm
theorem good_HS5_3 : Good (R := 2048) (e := .f32) (HS5_3 c arg2 harg2 arg3 harg3 arg4 harg4 arg5 harg5 arg8 arg9 arg10 x0 x1 x2 x3) (fun n => n < 2048) (tokV (lseAt Q K B 2)) := by
  unfold HS5_3
  exact good_whole _ _ fun j l => (Tile.n144 (keys2 X) (own_read harg5 X.b 0 rfl _) (own_read harg5 X.b 1 rfl _) j l).trans (tokV_eq (lseAt Q K B 2) j.isLt l).symm

end Cert.AttnIdeal.Rows
-- ==== Proof.AttnOut.lean ====
/- The attention kernel's results, put back into the order of the tokens and merged. -/
module

public import proofs.«01_k».proof.Proof.AttnBranch

@[expose] public section

set_option maxRecDepth 16384

open Idealize.ShloMosaic Idealize.ShloMosaic.TcCoe Idealize.SL.Sem
open Cert.AttnIdeal Cert.AttnIdeal.Gen Cert.AttnIdeal.Gen.kernelRun0_A.sl

noncomputable section
namespace Cert.AttnIdeal.Rows
open Cert.Attn

theorem pl_27 (v : Vec Ideal S2048x128 .f32) (j : Fin 2048) (l : Fin 128) : ((k0_pay27 (F := Ideal) v) (ix2 j l) : EReal) = v (ix2 j l) := by
  pointwise [k0_pay27]
theorem pl_28 (v : Vec Ideal S2048x128 .f32) (j : Fin 2048) (l : Fin 128) : ((k0_pay28 (F := Ideal) v) (ix2 j l) : EReal) = v (ix2 j l) := by
  pointwise [k0_pay28]
theorem pl_cast (v : Vec Ideal S128x128 .f32) (h) (j l : Fin 128) : (shapeCast S128x128 v h (ix2 j l) : EReal) = v (ix2 j l) := by
  pointwise []
/-- The row of a token in a branch. -/
def subAt (i : Fin 3) (t : Fin 2048) : Fin 2048 := ⟨subN i t.val, subN_lt i t.isLt⟩
theorem subV_eq (Z : Fin 2048 → Fin 128 → ℝ) (i : Fin 3) (t : Fin 2048) (l : Fin 128) : subV Z i t.val l = ((Z (subAt i t) l : ℝ) : EReal) :=
  tokV_eq Z (subN_lt i t.isLt) l

variable {Q K V : Fin 2048 → Fin 128 → ℝ} {B : Fin 3 → Fin 2 → Fin 128 → Fin 256 → ℝ}
variable {c : Dev nD}
  {arg2 : Memref sig .tc .vmem S1x2048x128 .bf16} {harg2 : arg2.IsWhole} {arg3 : Memref sig .tc .vmem S1x2048x128 .bf16} {harg3 : arg3.IsWhole}
  {arg4 : Memref sig .tc .vmem S1x2048x128 .bf16} {harg4 : arg4.IsWhole} {arg5 : Memref sig .tc .vmem S3x2x128x256 .f32} {harg5 : arg5.IsWhole}
  {arg8 : Memref sig .tc .vmem S2048x128 .f32} {arg9 : Memref sig .tc .vmem S2048x128 .bf16} {arg10 arg11 : Memref sig .tc .vmem S2176x128 .bf16}
  {arg12 arg13 arg14 arg15 arg16 arg17 arg18 arg19 : Memref sig .tc .vmem S2048x128 .f32}
  {x0 x1 x2 : Vec Ideal S1x2048x128 .bf16} {x3 : Vec Ideal S3x2x128x256 .f32}
variable (X : Blocks Q K V B x0 x1 x2 x3)
include X

theorem good_HS6_1 : Good (R := 2048) (e := .f32) (HS6_1 c arg2 harg2 arg3 harg3 arg4 harg4 arg5 harg5 arg9 arg10 arg11 arg12 x0 x1 x2 x3) (fun n => n < 2048) (tokV (outAt Q K V B 0)) := by
  unfold HS6_1
  exact good_whole _ _ fun j l => (pl_27 _ j l).trans (by unfold v124; exact read_from0 (K := 2048) _ (good_HS4_1 X) _ (fun j hj => by omega) j l)
theorem good_HS9_1 : Good (R := 2048) (e := .f32) (HS9_1 c arg2 harg2 arg3 harg3 arg5 harg5 arg9 arg10 arg13 x0 x1 x3) (fun n => n < 2048) (tokV (lseAt Q K B 0)) := by
  unfold HS9_1
  exact good_whole _ _ fun j l => (pl_28 _ j l).trans (by unfold v128; exact read_from0 (K := 2048) _ (good_HS5_1 X) _ (fun j hj => by omega) j l)
theorem good_HS7_4 : Good (R := 2048) (e := .f32) (HS7_4 c arg2 harg2 arg3 harg3 arg4 harg4 arg5 harg5 arg8 arg9 arg10 arg11 arg12 x0 x1 x2 x3) (fun n => n % 4 < 4) (subV (outAt Q K V B 1) 1) := by
  unfold HS7_4
  refine lay 512 4 3 _ _ _ (fun j l => by unfold v322; pointwise [k0_pay68]; unfold v319; exact give1 (good_HS4_2 X) 3 j l) ?_
  refine lay 512 4 2 _ _ _ (fun j l => by unfold v318; pointwise [k0_pay67]; unfold v315; exact give1 (good_HS4_2 X) 2 j l) ?_
  refine lay 512 4 1 _ _ _ (fun j l => by unfold v314; pointwise [k0_pay66]; unfold v311; exact give1 (good_HS4_2 X) 1 j l) ?_
  refine lay 512 4 0 _ _ _ (fun j l => by unfold v310; pointwise [k0_pay65]; unfold v307; exact give1 (good_HS4_2 X) 0 j l) ?_
  exact (good_none_lt [] _).mono fun n _ h => absurd h (Nat.not_lt_zero _)
theorem good_HS10_4 : Good (R := 2048) (e := .f32) (HS10_4 c arg2 harg2 arg3 harg3 arg5 harg5 arg8 arg9 arg10 arg13 x0 x1 x3) (fun n => n % 4 < 4) (subV (lseAt Q K B 1) 1) := by
  unfold HS10_4
  refine lay 512 4 3 _ _ _ (fun j l => by unfold v338; pointwise [k0_pay72]; unfold v335; exact give1 (good_HS5_2 X) 3 j l) ?_
  refine lay 512 4 2 _ _ _ (fun j l => by unfold v334; pointwise [k0_pay71]; unfold v331; exact give1 (good_HS5_2 X) 2 j l) ?_
  refine lay 512 4 1 _ _ _ (fun j l => by unfold v330; pointwise [k0_pay70]; unfold v327; exact give1 (good_HS5_2 X) 1 j l) ?_
  refine lay 512 4 0 _ _ _ (fun j l => by unfold v326; pointwise [k0_pay69]; unfold v323; exact give1 (good_HS5_2 X) 0 j l) ?_
  exact (good_none_lt [] _).mono fun n _ h => absurd h (Nat.not_lt_zero _)
theorem good_HS8_16 : Good (R := 2048) (e := .f32) (HS8_16 c arg2 harg2 arg3 harg3 arg4 harg4 arg5 harg5 arg8 arg9 arg10 arg11 arg12 x0 x1 x2 x3) (fun n => n % 16 < 16) (subV (outAt Q K V B 2) 2) := by
  unfold HS8_16
  refine lay 128 16 15 _ _ _ (fun j l => (pl_cast _ _ j l).trans <| give2 (good_HS4_3 X) 15 j l) ?_
  unfold HS8_15
  refine lay 128 16 14 _ _ _ (fun j l => (pl_cast _ _ j l).trans <| give2 (good_HS4_3 X) 14 j l) ?_
  unfold HS8_14
  refine lay 128 16 13 _ _ _ (fun j l => (pl_cast _ _ j l).trans <| give2 (good_HS4_3 X) 13 j l) ?_
  unfold HS8_13
  refine lay 128 16 12 _ _ _ (fun j l => (pl_cast _ _ j l).trans <| give2 (good_HS4_3 X) 12 j l) ?_
  unfold HS8_12
  refine lay 128 16 11 _ _ _ (fun j l => (pl_cast _ _ j l).trans <| give2 (good_HS4_3 X) 11 j l) ?_
  unfold HS8_11
  refine lay 128 16 10 _ _ _ (fun j l => (pl_cast _ _ j l).trans <| give2 (good_HS4_3 X) 10 j l) ?_
  unfold HS8_10
  refine lay 128 16 9 _ _ _ (fun j l => (pl_cast _ _ j l).trans <| give2 (good_HS4_3 X) 9 j l) ?_
  unfold HS8_9
  refine lay 128 16 8 _ _ _ (fun j l => (pl_cast _ _ j l).trans <| give2 (good_HS4_3 X) 8 j l) ?_
  unfold HS8_8
  refine lay 128 16 7 _ _ _ (fun j l => (pl_cast _ _ j l).trans <| give2 (good_HS4_3 X) 7 j l) ?_
  unfold HS8_7
  refine lay 128 16 6 _ _ _ (fun j l => (pl_cast _ _ j l).trans <| give2 (good_HS4_3 X) 6 j l) ?_
  unfold HS8_6
  refine lay 128 16 5 _ _ _ (fun j l => (pl_cast _ _ j l).trans <| give2 (good_HS4_3 X) 5 j l) ?_
  unfold HS8_5
  refine lay 128 16 4 _ _ _ (fun j l => (pl_cast _ _ j l).trans <| give2 (good_HS4_3 X) 4 j l) ?_
  unfold HS8_4
  refine lay 128 16 3 _ _ _ (fun j l => (pl_cast _ _ j l).trans <| give2 (good_HS4_3 X) 3 j l) ?_
  unfold HS8_3
  refine lay 128 16 2 _ _ _ (fun j l => (pl_cast _ _ j l).trans <| give2 (good_HS4_3 X) 2 j l) ?_
  unfold HS8_2
  refine lay 128 16 1 _ _ _ (fun j l => (pl_cast _ _ j l).trans <| give2 (good_HS4_3 X) 1 j l) ?_
  unfold HS8_1
  refine lay 128 16 0 _ _ _ (fun j l => (pl_cast _ _ j l).trans <| give2 (good_HS4_3 X) 0 j l) ?_
  exact (good_none_lt [] _).mono fun n _ h => absurd h (Nat.not_lt_zero _)
theorem good_HS11_16 : Good (R := 2048) (e := .f32) (HS11_16 c arg2 harg2 arg3 harg3 arg4 harg4 arg5 harg5 arg8 arg9 arg10 arg13 x0 x1 x2 x3) (fun n => n % 16 < 16) (subV (lseAt Q K B 2) 2) := by
  unfold HS11_16
  refine lay 128 16 15 _ _ _ (fun j l => by unfold v797; pointwise [k0_pay176]; unfold v794; exact give2 (good_HS5_3 X) 15 j l) ?_
  refine lay 128 16 14 _ _ _ (fun j l => by unfold v793; pointwise [k0_pay175]; unfold v790; exact give2 (good_HS5_3 X) 14 j l) ?_
  refine lay 128 16 13 _ _ _ (fun j l => by unfold v789; pointwise [k0_pay174]; unfold v786; exact give2 (good_HS5_3 X) 13 j l) ?_
  refine lay 128 16 12 _ _ _ (fun j l => by unfold v785; pointwise [k0_pay173]; unfold v782; exact give2 (good_HS5_3 X) 12 j l) ?_
  refine lay 128 16 11 _ _ _ (fun j l => by unfold v781; pointwise [k0_pay172]; unfold v778; exact give2 (good_HS5_3 X) 11 j l) ?_
  refine lay 128 16 10 _ _ _ (fun j l => by unfold v777; pointwise [k0_pay171]; unfold v774; exact give2 (good_HS5_3 X) 10 j l) ?_
  unfold HS11_10
  refine lay 128 16 9 _ _ _ (fun j l => (pl_cast _ _ j l).trans <| give2 (good_HS5_3 X) 9 j l) ?_
  unfold HS11_9
  refine lay 128 16 8 _ _ _ (fun j l => (pl_cast _ _ j l).trans <| give2 (good_HS5_3 X) 8 j l) ?_
  unfold HS11_8
  refine lay 128 16 7 _ _ _ (fun j l => (pl_cast _ _ j l).trans <| give2 (good_HS5_3 X) 7 j l) ?_
  unfold HS11_7
  refine lay 128 16 6 _ _ _ (fun j l => (pl_cast _ _ j l).trans <| give2 (good_HS5_3 X) 6 j l) ?_
  unfold HS11_6
  refine lay 128 16 5 _ _ _ (fun j l => (pl_cast _ _ j l).trans <| give2 (good_HS5_3 X) 5 j l) ?_
  unfold HS11_5
  refine lay 128 16 4 _ _ _ (fun j l => (pl_cast _ _ j l).trans <| give2 (good_HS5_3 X) 4 j l) ?_
  unfold HS11_4
  refine lay 128 16 3 _ _ _ (fun j l => (pl_cast _ _ j l).trans <| give2 (good_HS5_3 X) 3 j l) ?_
  unfold HS11_3
  refine lay 128 16 2 _ _ _ (fun j l => (pl_cast _ _ j l).trans <| give2 (good_HS5_3 X) 2 j l) ?_
  unfold HS11_2
  refine lay 128 16 1 _ _ _ (fun j l => (pl_cast _ _ j l).trans <| give2 (good_HS5_3 X) 1 j l) ?_
  unfold HS11_1
  refine lay 128 16 0 _ _ _ (fun j l => (pl_cast _ _ j l).trans <| give2 (good_HS5_3 X) 0 j l) ?_
  exact (good_none_lt [] _).mono fun n _ h => absurd h (Nat.not_lt_zero _)
theorem v798_at (j : Fin 2048) (l : Fin 128) : (v798 c arg2 harg2 arg3 harg3 arg5 harg5 arg9 arg10 arg13 arg17 x0 x1 x3) (ix2 j l) = tokV (lseAt Q K B 0) j.val l := by
  unfold v798
  exact read_from0 (K := 2048) _ (good_HS9_1 X) _ (fun j hj => by omega) j l
theorem v799_at (j : Fin 2048) (l : Fin 128) : (v799 c arg2 harg2 arg3 harg3 arg5 harg5 arg8 arg9 arg10 arg13 arg18 x0 x1 x3) (ix2 j l) = subV (lseAt Q K B 1) 1 j.val l := by
  unfold v799
  exact read_from0 (K := 2048) _ (good_HS10_4 X) _ (fun j hj => by omega) j l
theorem v800_at (j : Fin 2048) (l : Fin 128) : (v800 c arg2 harg2 arg3 harg3 arg4 harg4 arg5 harg5 arg8 arg9 arg10 arg13 arg19 x0 x1 x2 x3) (ix2 j l) = subV (lseAt Q K B 2) 2 j.val l := by
  unfold v800
  exact read_from0 (K := 2048) _ (good_HS11_16 X) _ (fun j hj => by omega) j l
theorem v816_at (j : Fin 2048) (l : Fin 128) : (v816 c arg2 harg2 arg3 harg3 arg4 harg4 arg5 harg5 arg9 arg10 arg11 arg12 arg14 x0 x1 x2 x3) (ix2 j l) = tokV (outAt Q K V B 0) j.val l := by
  unfold v816
  exact read_from0 (K := 2048) _ (good_HS6_1 X) _ (fun j hj => by omega) j l
theorem v818_at (j : Fin 2048) (l : Fin 128) : (v818 c arg2 harg2 arg3 harg3 arg4 harg4 arg5 harg5 arg8 arg9 arg10 arg11 arg12 arg15 x0 x1 x2 x3) (ix2 j l) = subV (outAt Q K V B 1) 1 j.val l := by
  unfold v818
  exact read_from0 (K := 2048) _ (good_HS7_4 X) _ (fun j hj => by omega) j l
theorem v821_at (j : Fin 2048) (l : Fin 128) : (v821 c arg2 harg2 arg3 harg3 arg4 harg4 arg5 harg5 arg8 arg9 arg10 arg11 arg12 arg16 x0 x1 x2 x3) (ix2 j l) = subV (outAt Q K V B 2) 2 j.val l := by
  unfold v821
  exact read_from0 (K := 2048) _ (good_HS8_16 X) _ (fun j hj => by omega) j l
/-- The three branches as the last part reads them. -/
theorem merged : Tile.Merged (fun i t l => den Q K B (headOf l) i (grp i t) (row i t)) (fun i t l => num Q K V B (headOf l) i (grp i t) (row i t) l)
    (v798 c arg2 harg2 arg3 harg3 arg5 harg5 arg9 arg10 arg13 arg17 x0 x1 x3) (v799 c arg2 harg2 arg3 harg3 arg5 harg5 arg8 arg9 arg10 arg13 arg18 x0 x1 x3) (v800 c arg2 harg2 arg3 harg3 arg4 harg4 arg5 harg5 arg8 arg9 arg10 arg13 arg19 x0 x1 x2 x3) (v816 c arg2 harg2 arg3 harg3 arg4 harg4 arg5 harg5 arg9 arg10 arg11 arg12 arg14 x0 x1 x2 x3) (v818 c arg2 harg2 arg3 harg3 arg4 harg4 arg5 harg5 arg8 arg9 arg10 arg11 arg12 arg15 x0 x1 x2 x3) (v821 c arg2 harg2 arg3 harg3 arg4 harg4 arg5 harg5 arg8 arg9 arg10 arg11 arg12 arg16 x0 x1 x2 x3) :=
  ⟨fun i t l => den_pos _ _ _ _ _ _ _, fun t l => (v798_at X t l).trans (tokV_eq _ t.isLt l), fun t l => (v799_at X t l).trans (subV_eq _ 1 t l),
    fun t l => (v800_at X t l).trans (subV_eq _ 2 t l), fun t l => (v816_at X t l).trans (tokV_eq _ t.isLt l),
    fun t l => (v818_at X t l).trans (subV_eq _ 1 t l), fun t l => (v821_at X t l).trans (subV_eq _ 2 t l)⟩
variable {i : grid0.Coords} {arg6 arg7 : Memref sig .tc .vmem S1x2048x128 .f32} {harg6 : arg6.IsWhole} {harg7 : arg7.IsWhole}
  {harg8 : arg8.IsWhole} {harg9 : arg9.IsWhole} {harg10 : arg10.IsWhole} {harg11 : arg11.IsWhole} {harg12 : arg12.IsWhole} {harg13 : arg13.IsWhole}
  {harg14 : arg14.IsWhole} {harg15 : arg15.IsWhole} {harg16 : arg16.IsWhole} {harg17 : arg17.IsWhole} {harg18 : arg18.IsWhole} {harg19 : arg19.IsWhole}
/-- The block of means, -/
theorem out_o (t : Fin 2048) (l : Fin 128) :
    out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 t l) = (((∑ b, num Q K V B (headOf l) b (grp b t) (row b t) l) / ∑ b, den Q K B (headOf l) b (grp b t) (row b t) : ℝ) : EReal) := by
  unfold out0_A_4
  rw [View.read_writes_eq_canon _ _ _ (fun _ => cover0_A_4 ..)]
  unfold kernelRun0_A
  dsimp only
  rw [View.canon_unit_zero (S := S1x2048x128) (funext fun a => by fin_cases a <;> rfl)]
  exact Tile.o183 (merged (arg11 := arg11) (arg12 := arg12) (arg14 := arg14) (arg15 := arg15) (arg16 := arg16) X) t l
/-- and the block of logarithms. -/
theorem out_lse (t : Fin 2048) (l : Fin 128) :
    out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 (ix3 0 t l) = ((Real.log (∑ b, den Q K B (headOf l) b (grp b t) (row b t)) : ℝ) : EReal) := by
  unfold out0_A_5
  rw [View.read_writes_eq_canon _ _ _ (fun _ => cover0_A_5 ..)]
  unfold kernelRun0_A
  dsimp only
  rw [View.canon_unit_zero (S := S1x2048x128) (funext fun a => by fin_cases a <;> rfl)]
  exact Tile.n182 (merged (arg11 := arg11) (arg12 := arg12) (arg14 := arg14) (arg15 := arg15) (arg16 := arg16) X) t l

end Cert.AttnIdeal.Rows
-- ==== Proof.AttnMask.lean ====
/- The attention's mask as bits, and a reduction of a rank-six array along its last axis. -/
module

public import proofs.«01_k».proof.Proof.AttnSpec
public import Idealize.ShloMosaic.Lib.Pointwise

@[expose] public section

set_option maxRecDepth 16384

noncomputable section

namespace Cert.AttnRef

open Idealize.ShloMosaic Cert.Attn

/-- The mask as bits. -/
theorem band_bits : ∀ (q : Fin 128) (c : Fin 256),
    IntOp.andi (IntOp.cmpi .sge (IntOp.subi (IntOp.addi (BitVec.ofNat 32 q.val) 128#32) (BitVec.ofNat 32 c.val)) 0#32)
      (IntOp.cmpi .sle (IntOp.subi (IntOp.addi (BitVec.ofNat 32 q.val) 128#32) (BitVec.ofNat 32 c.val)) 128#32)
      = if band q c then 1#1 else 0#1 := by decide +kernel
theorem past_bits : ∀ (n : Fin 16) (c : Fin 256),
    IntOp.ori (IntOp.cmpi .sgt (BitVec.ofNat 32 n.val) 0#32) (IntOp.cmpi .sge (BitVec.ofNat 32 c.val) 128#32)
      = if n.val = 0 ∧ c.val < 128 then 0#1 else 1#1 := by decide +kernel
theorem and_bits {p q : Prop} [Decidable p] [Decidable q] :
    IntOp.andi (if p then 1#1 else 0#1) (if q then 0#1 else 1#1) = if p ∧ ¬ q then 1#1 else 0#1 := by
  by_cases hp : p <;> by_cases hq : q <;> simp [hp, hq] <;> rfl

section Last6
variable {n0 n1 n2 n3 n4 n5 : ℕ} (h : (⟨6, ![n0, n1, n2, n3, n4, n5]⟩ : Shape).ReducesTo [5] ⟨5, ![n0, n1, n2, n3, n4]⟩)
variable (a : Fin n0) (b : Fin n1) (c : Fin n2) (d : Fin n3) (e : Fin n4)

/-- The indices that a reduction along the last of six axes sums at an index. -/
theorem drop_last6 (i : (⟨6, ![n0, n1, n2, n3, n4, n5]⟩ : Shape).Idx) : h.drop i = ix5 a b c d e ↔ ∃ k, ix6 a b c d e k = i := by
  constructor
  · intro he
    refine ⟨i 5, ?_⟩
    funext x
    refine Fin.ext ?_
    match x with
    | ⟨0, _⟩ => exact (congrArg Fin.val (congrFun he 0)).symm
    | ⟨1, _⟩ => exact (congrArg Fin.val (congrFun he 1)).symm
    | ⟨2, _⟩ => exact (congrArg Fin.val (congrFun he 2)).symm
    | ⟨3, _⟩ => exact (congrArg Fin.val (congrFun he 3)).symm
    | ⟨4, _⟩ => exact (congrArg Fin.val (congrFun he 4)).symm
    | ⟨5, _⟩ => rfl
  · rintro ⟨k, rfl⟩
    funext x
    refine Fin.ext ?_
    match x with
    | ⟨0, _⟩ => rfl
    | ⟨1, _⟩ => rfl
    | ⟨2, _⟩ => rfl
    | ⟨3, _⟩ => rfl
    | ⟨4, _⟩ => rfl

theorem fold_last6 {T : Type} (op : T → T → T) [Std.Commutative op] [Std.Associative op] (z : T)
    (v : (⟨6, ![n0, n1, n2, n3, n4, n5]⟩ : Shape).Idx → T) :
    (Finset.univ.filter fun i => h.drop i = ix5 a b c d e).fold op z v = (Finset.univ : Finset (Fin n5)).fold op z fun k => v (ix6 a b c d e k) :=
  Finset.fold_filter_eq_fold_of_fiber op _ (fun k : Fin n5 => ix6 a b c d e k) (fun _ _ he => congrFun he 5) (drop_last6 h a b c d e) z v

theorem sum_last6 (v : (⟨6, ![n0, n1, n2, n3, n4, n5]⟩ : Shape).Idx → EReal) (z : EReal) :
    Ideal.hostReduceAdd h v z (ix5 a b c d e) = z + ∑ k, v (ix6 a b c d e k) :=
  congrArg (z + ·) (Finset.sum_filter_eq_sum_of_fiber _ (fun k : Fin n5 => ix6 a b c d e k) (fun _ _ he => congrFun he 5) (drop_last6 h a b c d e) v)
end Last6

end Cert.AttnRef

end
-- ==== Proof.AttnRef.lean ====
/- The attention's reference: its arguments as real numbers, the heads' queries, keys and values, and the mask. -/
module

public import proofs.«01_k».proof.Proof.AttnLanes
public import proofs.«01_k».proof.Proof.Gen.AttnRefIdeal.Run
public import proofs.«01_k».proof.Proof.AttnMask

@[expose] public section

set_option maxRecDepth 16384

noncomputable section

namespace Cert.AttnRef

open Idealize.ShloMosaic Idealize.ShloMosaic.TcCoe Idealize.SL.Sem
open Cert.AttnRefIdeal Cert.AttnRefIdeal.Value Cert.Attn Cert.Consts

/-- The arguments as real numbers: every token's queries, keys and values side by side, and the relative bias. -/
structure Args where
  h : Fin 2 → Fin 2048 → Fin 2304 → ℝ
  b : Fin 3 → Fin 12 → Fin 128 → Fin 256 → ℝ

variable (A : Args) (V : Valuation τ sig (Elt Ideal))

structure Holds : Prop where
  h : ∀ b t x, (V (Proc.devRef .tc main_arg0) : Vec Ideal S2x2048x2304 .f32) (ix3 b t x) = ((A.h b t x : ℝ) : EReal)
  b : ∀ i h r c, (V (Proc.devRef .tc main_arg1) : Vec Ideal S3x12x128x256 .f32) (ix4 i h r c) = ((A.b i h r c : ℝ) : EReal)

/-- The queries, keys and values of one head of one sequence. -/
def qh (b : Fin 2) (h : Fin 12) (t : Fin 2048) (e : Fin 64) : ℝ := A.h b t ⟨h.val * 64 + e.val, by omega⟩
def kh (b : Fin 2) (h : Fin 12) (t : Fin 2048) (e : Fin 64) : ℝ := A.h b t ⟨768 + (h.val * 64 + e.val), by omega⟩
def vh (b : Fin 2) (h : Fin 12) (t : Fin 2048) (e : Fin 64) : ℝ := A.h b t ⟨1536 + (h.val * 64 + e.val), by omega⟩
abbrev sch (b : Fin 2) (h : Fin 12) (i : Fin 3) (g : Fin 16) (r : Fin 128) (c : Fin 256) : ℝ :=
  score (qh A b h) (kh A b h) (fun i => A.b i h) i g r c
abbrev weh (b : Fin 2) (h : Fin 12) (i : Fin 3) (g : Fin 16) (r : Fin 128) (c : Fin 256) : ℝ :=
  wt (qh A b h) (kh A b h) (fun i => A.b i h) i g r c
abbrev denh (b : Fin 2) (h : Fin 12) (i : Fin 3) (g : Fin 16) (r : Fin 128) : ℝ := ∑ c, weh A b h i g r c
abbrev numh (b : Fin 2) (h : Fin 12) (i : Fin 3) (g : Fin 16) (r : Fin 128) (e : Fin 64) : ℝ := ∑ c, weh A b h i g r c * key (vh A b h) i g c e
abbrev pkh (b : Fin 2) (h : Fin 12) (i : Fin 3) (g : Fin 16) (r : Fin 128) : ℝ := Soft.peak (seen i g r) (sch A b h i g r)

variable {A V} (H : Holds A V)
include H

theorem r2 (b : Fin 2) (h : Fin 12) (t : Fin 2048) (e : Fin 64) : res_main_v2 V (ix4 b h t e) = ((qh A b h t e : ℝ) : EReal) := by
  pointwise [res_main_v2]
  rw [H.h]; unfold qh
  exact congrArg (fun x => ((A.h b t x : ℝ) : EReal)) (Fin.ext rfl)
theorem r5 (b : Fin 2) (h : Fin 12) (t : Fin 2048) (e : Fin 64) : res_main_v5 V (ix4 b h t e) = ((kh A b h t e : ℝ) : EReal) := by
  pointwise [res_main_v5]
  rw [H.h]; unfold kh
  exact congrArg (fun x => ((A.h b t x : ℝ) : EReal)) (Fin.ext rfl)
theorem r8 (b : Fin 2) (h : Fin 12) (t : Fin 2048) (e : Fin 64) : res_main_v8 V (ix4 b h t e) = ((vh A b h t e : ℝ) : EReal) := by
  pointwise [res_main_v8]
  rw [H.h]; unfold vh
  exact congrArg (fun x => ((A.h b t x : ℝ) : EReal)) (Fin.ext rfl)

omit H
variable (A)
/-- Masked scores, as the reference takes them. -/
theorem score_ref (b : Fin 2) (h : Fin 12) (i : Fin 3) (g : Fin 16) (q : Fin 128) (c : Fin 256) {y : EReal} (hy : y = ⊥) {p : Prop} [Decidable p]
    (hp : p ↔ dead i g c) {x : EReal} (hx : seen i g q c → x = ((sch A b h i g q c : ℝ) : EReal)) :
    Scalar.select (if band q c ∧ ¬ p then 1#1 else 0#1) x y = Soft.val (seen i g q) (sch A b h i g q) c := by
  unfold Soft.val
  by_cases hs : seen i g q c
  · rw [if_pos hs, if_pos ⟨hs.1, fun h => hs.2 (hp.1 h)⟩, hx hs]; rfl
  · rw [if_neg hs, if_neg (fun h => hs ⟨h.1, fun hd => h.2 (hp.2 hd)⟩), hy]; rfl

omit A
theorem mask_bits (n : Fin 16) (q : Fin 128) (c : Fin 256) :
    IntOp.andi (IntOp.andi (IntOp.cmpi .sge (IntOp.subi (IntOp.addi (BitVec.ofNat 32 q.val) 128#32) (BitVec.ofNat 32 c.val)) 0#32)
      (IntOp.cmpi .sle (IntOp.subi (IntOp.addi (BitVec.ofNat 32 q.val) 128#32) (BitVec.ofNat 32 c.val)) 128#32))
      (IntOp.ori (IntOp.cmpi .sgt (BitVec.ofNat 32 n.val) 0#32) (IntOp.cmpi .sge (BitVec.ofNat 32 c.val) 128#32))
      = if band q c ∧ ¬ (n.val = 0 ∧ c.val < 128) then 1#1 else 0#1 := by
  rw [band_bits, past_bits, and_bits]
theorem mask_bits4 (n : Fin 4) (q : Fin 128) (c : Fin 256) :
    IntOp.andi (IntOp.andi (IntOp.cmpi .sge (IntOp.subi (IntOp.addi (BitVec.ofNat 32 q.val) 128#32) (BitVec.ofNat 32 c.val)) 0#32)
      (IntOp.cmpi .sle (IntOp.subi (IntOp.addi (BitVec.ofNat 32 q.val) 128#32) (BitVec.ofNat 32 c.val)) 128#32))
      (IntOp.ori (IntOp.cmpi .sgt (BitVec.ofNat 32 n.val) 0#32) (IntOp.cmpi .sge (BitVec.ofNat 32 c.val) 128#32))
      = if band q c ∧ ¬ (n.val = 0 ∧ c.val < 128) then 1#1 else 0#1 :=
  mask_bits ⟨n.val, by omega⟩ q c
theorem mask_bits2 (q : Fin 128) (c : Fin 256) :
    IntOp.andi (IntOp.andi (IntOp.cmpi .sge (IntOp.subi (IntOp.addi (BitVec.ofNat 32 q.val) 128#32) (BitVec.ofNat 32 c.val)) 0#32)
      (IntOp.cmpi .sle (IntOp.subi (IntOp.addi (BitVec.ofNat 32 q.val) 128#32) (BitVec.ofNat 32 c.val)) 128#32))
      (IntOp.ori (IntOp.cmpi .sgt 0#32 0#32) (IntOp.cmpi .sge (BitVec.ofNat 32 c.val) 128#32))
      = if band q c ∧ ¬ (c.val < 128) then 1#1 else 0#1 :=
  (mask_bits 0 q c).trans (by simp)

theorem key_prev (z : Fin 2048 → Fin 64 → ℝ) (i : Fin 3) (g g' : Fin 16) (c : Fin 256) (hc : c.val < 128) (hg : g'.val + 1 = g.val) (e : Fin 64) :
    key z i g c e = z (tok i g' ⟨c.val, hc⟩) e := by
  unfold key padded
  rw [dif_pos ⟨by omega, by omega⟩]
  refine congrArg (fun t => z t e) (Fin.ext ?_)
  show tokN i (128 * g.val + c.val - 128) = tokN i (128 * g'.val + c.val)
  exact congrArg (tokN i) (by omega)
theorem key_self (z : Fin 2048 → Fin 64 → ℝ) (i : Fin 3) (g : Fin 16) (c : Fin 256) (hc : 128 ≤ c.val) (e : Fin 64) :
    key z i g c e = z (tok i g ⟨c.val - 128, by omega⟩) e := by
  unfold key padded
  rw [dif_pos ⟨by omega, by omega⟩]
  refine congrArg (fun t => z t e) (Fin.ext ?_)
  show tokN i (128 * g.val + c.val - 128) = tokN i (128 * g.val + (c.val - 128))
  exact congrArg (tokN i) (by omega)

theorem of_eighth : Ideal.ofBits .f32 0x3E000000#32 = ((1 / 8 : ℝ) : EReal) := by
  simp [Ideal.ofBits, Ideal.ieee, -EReal.coe_mul]; norm_num
theorem of_bot : Ideal.ofBits .f32 0xFF800000#32 = (⊥ : EReal) := by
  simp [Ideal.ofBits, Ideal.ieee]
theorem bot_const : id (constant (F := Ideal) S_ .f32 0xFF800000#32 ix0) = (⊥ : EReal) := of_bot
end Cert.AttnRef

end
-- ==== Proof.AttnValue.lean ====
/- The attention kernel's two results, over its blocks of a sequence and a pair of heads, at an index. -/
module

public import proofs.«01_k».proof.Proof.AttnOut
public import proofs.«01_k».proof.Proof.AttnRef
public import proofs.«01_k».proof.Proof.Gen.AttnIdeal.Value
public import Idealize.ShloMosaic.Lib.StableHlo.ReadAt
public import Idealize.ShloMosaic.Lib.Pipeline.ValueKit.Geometry

@[expose] public section

set_option maxRecDepth 16384

noncomputable section

namespace Cert.AttnValue

open Idealize.ShloMosaic Idealize.ShloMosaic.TcCoe Idealize.SL.Sem
open Cert.AttnIdeal Cert.AttnIdeal.Gen Cert.Attn
open Cert.AttnRef (Args qh kh vh)

variable (m : (ℓ : Loc nD τ sig) → Buf (Elt Ideal) ℓ) (c : Dev nD)

/-- The arguments as launched. -/
abbrev A0 : Vec Ideal S2x2048x2304 .f32 := m ((c : Thread nD τ).loc main_arg0)
abbrev A1 : Vec Ideal S3x12x128x256 .f32 := m ((c : Thread nD τ).loc main_arg1)

/-- They hold the real numbers of `A`. -/
structure Has (A : Args) : Prop where
  h : ∀ b t x, A0 m c (ix3 b t x) = ((A.h b t x : ℝ) : EReal)
  b : ∀ i h r k, A1 m c (ix4 i h r k) = ((A.b i h r k : ℝ) : EReal)

/-- The sequence and the pair of heads of a grid point. -/
def seqOf (n : ℕ) : Fin 2 := ⟨n / 6 % 2, by omega⟩
def pairOf (n : ℕ) : Fin 6 := ⟨n % 6, by omega⟩
theorem seqOf_val (t : Fin cfg0.N) : (seqOf t.val).val = t.val / 6 := by
  have := lt_of_lt_of_eq t.isLt N_0
  show t.val / 6 % 2 = _; omega

theorem win0 : ∀ t : Fin cfg0.N, win0_0.index t 0 = t.val / 6 ∧ win0_0.index t 1 = 0 ∧ win0_0.index t 2 = t.val % 6 := (by decide +kernel : ∀ t : Fin grid0.N, _)
theorem win1 : ∀ t : Fin cfg0.N, win0_1.index t 0 = t.val / 6 ∧ win0_1.index t 1 = 0 ∧ win0_1.index t 2 = 6 + t.val % 6 := (by decide +kernel : ∀ t : Fin grid0.N, _)
theorem win2 : ∀ t : Fin cfg0.N, win0_2.index t 0 = t.val / 6 ∧ win0_2.index t 1 = 0 ∧ win0_2.index t 2 = 12 + t.val % 6 := (by decide +kernel : ∀ t : Fin grid0.N, _)
theorem win3 : ∀ t : Fin cfg0.N, win0_3.index t 0 = 0 ∧ win0_3.index t 1 = t.val % 6 ∧ win0_3.index t 2 = 0 ∧ win0_3.index t 3 = 0 := (by decide +kernel : ∀ t : Fin grid0.N, _)
theorem win4 : ∀ t : Fin cfg0.N, win0_4.index t 0 = t.val / 6 ∧ win0_4.index t 1 = 0 ∧ win0_4.index t 2 = t.val % 6 := (by decide +kernel : ∀ t : Fin grid0.N, _)
theorem win5 : ∀ t : Fin cfg0.N, win0_5.index t 0 = t.val / 6 ∧ win0_5.index t 1 = 0 ∧ win0_5.index t 2 = t.val % 6 := (by decide +kernel : ∀ t : Fin grid0.N, _)

theorem V21_apply (b : Fin 2) (t : Fin 2048) (x : Fin 2304) : V m c main_v21 (ix3 b t x) = A0 m c (ix3 b t x) := by
  unfold V
  after_reads_at
  refine congrArg (A0 m c) (funext fun a => Fin.ext ?_)
  match a with
  | ⟨0, _⟩ => show (b.val * 2048 + t.val) / 2048 = b.val; omega
  | ⟨1, _⟩ => show (b.val * 2048 + t.val) % 2048 = t.val; omega
  | ⟨2, _⟩ => rfl

theorem V21_at (i : S2x2048x2304.Idx) : V m c main_v21 i = A0 m c i := by
  obtain ⟨b, t, x, rfl⟩ : ∃ (b : Fin 2) (t : Fin 2048) (x : Fin 2304), i = ix3 b t x := ⟨i 0, i 1, i 2, eq_ix3 i⟩
  exact V21_apply m c b t x

/-- The two constants that the mask chooses between. -/
theorem choose_mask (r : Fin 128) (k : Fin 256) :
    Scalar.select (if band r k then 1#1 else 0#1) (Ideal.ofBits .f32 0x00000000#32) (Ideal.ofBits .f32 0xFF800000#32) = if band r k then (0 : EReal) else ⊥ := by
  rw [AttnRef.of_bot, show Ideal.ofBits .f32 0x00000000#32 = (0 : EReal) by simp [Ideal.ofBits, Ideal.ieee]]
  by_cases h : band r k
  · rw [if_pos h, if_pos h]; rfl
  · rw [if_neg h, if_neg h]; rfl

theorem V18_apply (i : Fin 3) (h : Fin 12) (r : Fin 128) (k : Fin 256) : V m c main_v18 (ix4 i h r k) =
    A1 m c (ix4 i h r k) + (if band r k then (0 : EReal) else ⊥) := by
  unfold V
  after_reads_at
  refine congrArg (A1 m c (ix4 i h r k) + ·) ?_
  refine Eq.trans ?_ (choose_mask r k)
  rw [← AttnRef.band_bits]
  rfl

theorem iblk0 (t : Fin cfg0.N) (s : Fin 2048) (l : Fin 128) : iblk m c 0 t (ix3 0 s l) = A0 m c (ix3 (seqOf t.val) s ⟨(pairOf t.val).val * 128 + l.val, by omega⟩) := by
  unfold iblk
  rw [View.read_apply]
  rw [cast_eq]
  refine (V21_at m c _).trans ?_
  refine congrArg (A0 m c) (funext fun a => Fin.ext ?_)
  match a with
  | ⟨0, _⟩ => show win0_0.index t 0 * 1 + 1 * 0 = (seqOf t.val).val; rw [(win0 t).1, seqOf_val]; omega
  | ⟨1, _⟩ => show win0_0.index t 1 * 2048 + 1 * s.val = s.val; rw [(win0 t).2.1]; omega
  | ⟨2, _⟩ => show win0_0.index t 2 * 128 + 1 * l.val = t.val % 6 * 128 + l.val; rw [(win0 t).2.2]; omega

theorem iblk1 (t : Fin cfg0.N) (s : Fin 2048) (l : Fin 128) : iblk m c 1 t (ix3 0 s l) = A0 m c (ix3 (seqOf t.val) s ⟨768 + ((pairOf t.val).val * 128 + l.val), by omega⟩) := by
  unfold iblk
  rw [View.read_apply]
  rw [cast_eq]
  refine (V21_at m c _).trans ?_
  refine congrArg (A0 m c) (funext fun a => Fin.ext ?_)
  match a with
  | ⟨0, _⟩ => show win0_1.index t 0 * 1 + 1 * 0 = (seqOf t.val).val; rw [(win1 t).1, seqOf_val]; omega
  | ⟨1, _⟩ => show win0_1.index t 1 * 2048 + 1 * s.val = s.val; rw [(win1 t).2.1]; omega
  | ⟨2, _⟩ => show win0_1.index t 2 * 128 + 1 * l.val = 768 + (t.val % 6 * 128 + l.val); rw [(win1 t).2.2]; omega

theorem iblk2 (t : Fin cfg0.N) (s : Fin 2048) (l : Fin 128) : iblk m c 2 t (ix3 0 s l) = A0 m c (ix3 (seqOf t.val) s ⟨1536 + ((pairOf t.val).val * 128 + l.val), by omega⟩) := by
  unfold iblk
  rw [View.read_apply]
  rw [cast_eq]
  refine (V21_at m c _).trans ?_
  refine congrArg (A0 m c) (funext fun a => Fin.ext ?_)
  match a with
  | ⟨0, _⟩ => show win0_2.index t 0 * 1 + 1 * 0 = (seqOf t.val).val; rw [(win2 t).1, seqOf_val]; omega
  | ⟨1, _⟩ => show win0_2.index t 1 * 2048 + 1 * s.val = s.val; rw [(win2 t).2.1]; omega
  | ⟨2, _⟩ => show win0_2.index t 2 * 128 + 1 * l.val = 1536 + (t.val % 6 * 128 + l.val); rw [(win2 t).2.2]; omega

theorem iblk3 (t : Fin cfg0.N) (i : Fin 3) (h : Fin 2) (r : Fin 128) (k : Fin 256) : iblk m c 3 t (ix4 i h r k) =
    A1 m c (ix4 i ⟨2 * (pairOf t.val).val + h.val, by omega⟩ r k) + (if band r k then (0 : EReal) else ⊥) := by
  unfold iblk
  rw [View.read_apply]
  refine Eq.trans ?_ (V18_apply m c _ _ _ _)
  show V m c main_v18 _ = _
  refine congrArg (V m c main_v18) (funext fun a => Fin.ext ?_)
  match a with
  | ⟨0, _⟩ => show win0_3.index t 0 * 3 + 1 * i.val = i.val; rw [(win3 t).1]; omega
  | ⟨1, _⟩ => show win0_3.index t 1 * 2 + 1 * h.val = 2 * (t.val % 6) + h.val; rw [(win3 t).2.1]; omega
  | ⟨2, _⟩ => show win0_3.index t 2 * 128 + 1 * r.val = r.val; rw [(win3 t).2.2.1]; omega
  | ⟨3, _⟩ => show win0_3.index t 3 * 256 + 1 * k.val = k.val; rw [(win3 t).2.2.2]; omega

/-! A pair of heads as lanes. -/

section
variable (A : Args) (b : Fin 2) (p : Fin 6)
def laneQ (s : Fin 2048) (l : Fin 128) : ℝ := A.h b s ⟨p.val * 128 + l.val, by omega⟩
def laneK (s : Fin 2048) (l : Fin 128) : ℝ := A.h b s ⟨768 + (p.val * 128 + l.val), by omega⟩
def laneV (s : Fin 2048) (l : Fin 128) : ℝ := A.h b s ⟨1536 + (p.val * 128 + l.val), by omega⟩
def pairB (i : Fin 3) (h : Fin 2) : Fin 128 → Fin 256 → ℝ := A.b i ⟨2 * p.val + h.val, by omega⟩

theorem part_q (h : Fin 2) : part h (laneQ A b p) = qh A b ⟨2 * p.val + h.val, by omega⟩ := by
  funext t e; unfold part laneQ qh
  exact congrArg (A.h b t) (Fin.ext (by show p.val * 128 + (64 * h.val + e.val) = (2 * p.val + h.val) * 64 + e.val; omega))
theorem part_k (h : Fin 2) : part h (laneK A b p) = kh A b ⟨2 * p.val + h.val, by omega⟩ := by
  funext t e; unfold part laneK kh
  exact congrArg (A.h b t) (Fin.ext (by show 768 + (p.val * 128 + (64 * h.val + e.val)) = 768 + ((2 * p.val + h.val) * 64 + e.val); omega))
theorem part_v (h : Fin 2) : part h (laneV A b p) = vh A b ⟨2 * p.val + h.val, by omega⟩ := by
  funext t e; unfold part laneV vh
  exact congrArg (A.h b t) (Fin.ext (by show 1536 + (p.val * 128 + (64 * h.val + e.val)) = 1536 + ((2 * p.val + h.val) * 64 + e.val); omega))

/-- The attention's output at a token and a column of all heads side by side, -/
def outOf (b : Fin 2) (s : Fin 2048) (l : Fin 768) : ℝ :=
  att (qh A b ⟨l.val / 64, by omega⟩) (kh A b ⟨l.val / 64, by omega⟩) (vh A b ⟨l.val / 64, by omega⟩) (fun i => A.b i ⟨l.val / 64, by omega⟩) s ⟨l.val % 64, by omega⟩
/-- and the logarithm of the sum of its weights. -/
def lseOf (b : Fin 2) (s : Fin 2048) (l : Fin 768) : ℝ :=
  Real.log (total (qh A b ⟨l.val / 64, by omega⟩) (kh A b ⟨l.val / 64, by omega⟩) (fun i => A.b i ⟨l.val / 64, by omega⟩) s)

theorem head_col (l : Fin 128) : (⟨2 * p.val + (headOf l).val, by omega⟩ : Fin 12) = ⟨(p.val * 128 + l.val) / 64, by omega⟩ :=
  Fin.ext (by show 2 * p.val + l.val / 64 = (p.val * 128 + l.val) / 64; omega)

theorem den_lane (s : Fin 2048) (l : Fin 128) :
    (∑ i, den (laneQ A b p) (laneK A b p) (pairB A p) (headOf l) i (grp i s) (row i s))
      = total (qh A b ⟨(p.val * 128 + l.val) / 64, by omega⟩) (kh A b ⟨(p.val * 128 + l.val) / 64, by omega⟩) (fun i => A.b i ⟨(p.val * 128 + l.val) / 64, by omega⟩) s := by
  unfold total den we
  rw [part_q, part_k, ← head_col]
  rfl

theorem num_lane (s : Fin 2048) (l : Fin 128) :
    (∑ i, num (laneQ A b p) (laneK A b p) (laneV A b p) (pairB A p) (headOf l) i (grp i s) (row i s) l)
      = mix (qh A b ⟨(p.val * 128 + l.val) / 64, by omega⟩) (kh A b ⟨(p.val * 128 + l.val) / 64, by omega⟩) (vh A b ⟨(p.val * 128 + l.val) / 64, by omega⟩)
          (fun i => A.b i ⟨(p.val * 128 + l.val) / 64, by omega⟩) s ⟨(p.val * 128 + l.val) % 64, by omega⟩ := by
  unfold mix num we
  refine Finset.sum_congr rfl fun i _ => Finset.sum_congr rfl fun k _ => ?_
  have hl : l = lane (headOf l) ⟨(p.val * 128 + l.val) % 64, by omega⟩ := Fin.ext (by show l.val = 64 * (l.val / 64) + (p.val * 128 + l.val) % 64; omega)
  have hv : key (laneV A b p) i (grp i s) k l = key (vh A b ⟨(p.val * 128 + l.val) / 64, by omega⟩) i (grp i s) k ⟨(p.val * 128 + l.val) % 64, by omega⟩ := by
    rw [← head_col, ← part_v]
    refine Eq.trans ?_ (padded_part (headOf l) (laneV A b p) i _ _).symm
    exact congrArg (padded (laneV A b p) i _) hl
  rw [hv, part_q, part_k, ← head_col]
  rfl

theorem out_lane (s : Fin 2048) (l : Fin 128) :
    (∑ i, num (laneQ A b p) (laneK A b p) (laneV A b p) (pairB A p) (headOf l) i (grp i s) (row i s) l)
      / (∑ i, den (laneQ A b p) (laneK A b p) (pairB A p) (headOf l) i (grp i s) (row i s)) = outOf A b s ⟨p.val * 128 + l.val, by omega⟩ := by
  rw [num_lane, den_lane]; rfl
theorem lse_lane (s : Fin 2048) (l : Fin 128) :
    Real.log (∑ i, den (laneQ A b p) (laneK A b p) (pairB A p) (headOf l) i (grp i s) (row i s)) = lseOf A b s ⟨p.val * 128 + l.val, by omega⟩ := by
  rw [den_lane]; rfl
end

variable {A : Args} (H : Has m c A)
include H

/-- The input blocks of point `t` hold its sequence's pair of heads. -/
theorem blocks (t : Fin cfg0.N) : Rows.Blocks (laneQ A (seqOf t.val) (pairOf t.val)) (laneK A (seqOf t.val) (pairOf t.val)) (laneV A (seqOf t.val) (pairOf t.val))
    (pairB A (pairOf t.val)) (iblk m c 0 t) (iblk m c 1 t) (iblk m c 2 t) (iblk m c 3 t) where
  q s l := by rw [iblk0, H.h]; rfl
  k s l := by rw [iblk1, H.h]; rfl
  v s l := by rw [iblk2, H.h]; rfl
  b i h r k := by
    rw [iblk3, H.b]
    by_cases hb : band r k
    · rw [if_pos hb, if_pos hb, add_zero]; rfl
    · rw [if_neg hb, if_neg hb, EReal.add_bot]

omit H in
theorem cut4 (t : Fin cfg0.N) (X : Vec Ideal S1x2048x128 .f32) (y : S1x2048x128.Idx) : (cfg0.win 4).cut (grid0.coords t) X y = X y := rfl
omit H in
theorem cut5 (t : Fin cfg0.N) (X : Vec Ideal S1x2048x128 .f32) (y : S1x2048x128.Idx) : (cfg0.win 5).cut (grid0.coords t) X y = X y := rfl

/-- The first result. -/
theorem final4 : (dats m 0 c).arrAt 4 cfg0.N = (fun i => ((outOf A (i 0) (i 1) (i 2) : ℝ) : EReal) : S2x2048x768.Idx → EReal) := by
  refine (dats m 0 c).arrAt_eq_of_cover 4 _ (fun t hf => funext fun y => ?_) ((by decide +kernel : ((cfg0.win 4).Covers)).cover _ (Memref.isWhole_whole _))
  · rw [Value.flushed4_A, View.read_apply]
    obtain ⟨p, s, l, rfl⟩ : ∃ (p : Fin 1) (s : Fin 2048) (l : Fin 128), y = ix3 p s l := ⟨y 0, y 1, y 2, eq_ix3 y⟩
    obtain rfl : p = 0 := Subsingleton.elim _ _
    refine (cut4 t _ _).trans ?_
    rw [Rows.out_o (blocks m c H t) s l, out_lane]
    refine congrArg (fun x : ℝ => (x : EReal)) ?_
    have e0 : seqOf t.val = (((cfg0.win 4).blk t).view.emb (ix3 0 s l) : S2x2048x768.Idx) 0 :=
      Fin.ext (by show (seqOf t.val).val = win0_4.index t 0 * 1 + 1 * 0; rw [(win4 t).1, seqOf_val]; omega)
    have e1 : s = (((cfg0.win 4).blk t).view.emb (ix3 0 s l) : S2x2048x768.Idx) 1 :=
      Fin.ext (by show s.val = win0_4.index t 1 * 2048 + 1 * s.val; rw [(win4 t).2.1]; omega)
    have e2 : (⟨(pairOf t.val).val * 128 + l.val, by omega⟩ : Fin 768) = (((cfg0.win 4).blk t).view.emb (ix3 0 s l) : S2x2048x768.Idx) 2 :=
      Fin.ext (by show t.val % 6 * 128 + l.val = win0_4.index t 2 * 128 + 1 * l.val; rw [(win4 t).2.2]; omega)
    exact congr (congr (congrArg (outOf A) e0) e1) e2

/-- The second result. -/
theorem final5 : (dats m 0 c).arrAt 5 cfg0.N = (fun i => ((lseOf A (i 0) (i 1) (i 2) : ℝ) : EReal) : S2x2048x768.Idx → EReal) := by
  refine (dats m 0 c).arrAt_eq_of_cover 5 _ (fun t hf => funext fun y => ?_) ((by decide +kernel : ((cfg0.win 5).Covers)).cover _ (Memref.isWhole_whole _))
  · rw [Value.flushed5_A, View.read_apply]
    obtain ⟨p, s, l, rfl⟩ : ∃ (p : Fin 1) (s : Fin 2048) (l : Fin 128), y = ix3 p s l := ⟨y 0, y 1, y 2, eq_ix3 y⟩
    obtain rfl : p = 0 := Subsingleton.elim _ _
    refine (cut5 t _ _).trans ?_
    rw [Rows.out_lse (blocks m c H t) s l, lse_lane]
    refine congrArg (fun x : ℝ => (x : EReal)) ?_
    have e0 : seqOf t.val = (((cfg0.win 5).blk t).view.emb (ix3 0 s l) : S2x2048x768.Idx) 0 :=
      Fin.ext (by show (seqOf t.val).val = win0_5.index t 0 * 1 + 1 * 0; rw [(win5 t).1, seqOf_val]; omega)
    have e1 : s = (((cfg0.win 5).blk t).view.emb (ix3 0 s l) : S2x2048x768.Idx) 1 :=
      Fin.ext (by show s.val = win0_5.index t 1 * 2048 + 1 * s.val; rw [(win5 t).2.1]; omega)
    have e2 : (⟨(pairOf t.val).val * 128 + l.val, by omega⟩ : Fin 768) = (((cfg0.win 5).blk t).view.emb (ix3 0 s l) : S2x2048x768.Idx) 2 :=
      Fin.ext (by show t.val % 6 * 128 + l.val = win0_5.index t 2 * 128 + 1 * l.val; rw [(win5 t).2.2]; omega)
    exact congr (congr (congrArg (lseOf A) e0) e1) e2

end Cert.AttnValue

end
-- ==== Proof.AttnRef0.lean ====
/- The reference's first branch at an index. -/
module

public import proofs.«01_k».proof.Proof.AttnLanes
public import proofs.«01_k».proof.Proof.Gen.AttnRefIdeal.Run
public import proofs.«01_k».proof.Proof.AttnRef

@[expose] public section

set_option maxRecDepth 16384

noncomputable section

namespace Cert.AttnRef

open Idealize.ShloMosaic Idealize.ShloMosaic.TcCoe Idealize.SL.Sem
open Cert.AttnRefIdeal Cert.AttnRefIdeal.Value Cert.Attn Cert.Consts

variable {A : Args} {V : Valuation τ sig (Elt Ideal)} (H : Holds A V)
include H

theorem r16 (b : Fin 2) (h : Fin 12) (r : Fin 1) (n : Fin 16) (c : Fin 128) (e : Fin 64) :
    res_main_v16 V (ix6 b h r n c e) = ((kh A b h (tok 0 n c) e : ℝ) : EReal) := by
  pointwise [res_main_v16]
  rw [r5 H]
  exact congrArg (fun x => ((kh A b h x e : ℝ) : EReal)) (Fin.ext (by unfold tok tokN; (try simp only []) <;> omega))
theorem r23 (b : Fin 2) (h : Fin 12) (r : Fin 1) (n : Fin 16) (c : Fin 128) (e : Fin 64) :
    res_main_v23 V (ix6 b h r n c e) = ((vh A b h (tok 0 n c) e : ℝ) : EReal) := by
  pointwise [res_main_v23]
  rw [r8 H]
  exact congrArg (fun x => ((vh A b h x e : ℝ) : EReal)) (Fin.ext (by unfold tok tokN; (try simp only []) <;> omega))
theorem r63 (b : Fin 2) (h : Fin 12) (r : Fin 1) (n : Fin 16) (q : Fin 128) (c : Fin 256) :
    res_main_v63 V (ix6 b h r n q c) = Soft.val (seen 0 n q) (sch A b h 0 n q) c := by
  pointwise [res_main_v63, res_main_v34, res_main_v39]
  simp only [r2 H, r16 H, H.b]
  rw [mask_bits]
  refine score_ref A b h 0 n q c bot_const (p := n.val = 0 ∧ c.val < 128) (by unfold dead first; (try simp only []); constructor <;> rintro ⟨h1, h2⟩ <;> refine ⟨?_, h2⟩ <;> omega) (fun hs => ?_)
  rw [of_eighth]
  unfold sch score
  rw [EReal.coe_add, EReal.coe_mul, ← coe_sum]
  congr 2
  refine Finset.sum_congr rfl fun x _ => ?_
  rw [EReal.coe_mul]
  refine congrArg₂ (· * ·) (congrArg (fun t => ((qh A b h t x : ℝ) : EReal)) (Fin.ext (by unfold tok tokN; (try simp only []) <;> omega))) ?_
  split
  · next hc =>
    split
    · next hn => exact absurd ⟨show _ % _ = _ by (try simp only []) <;> omega, hc⟩ hs.2
    · next hn => exact congrArg (fun y => ((y : ℝ) : EReal)) (key_prev _ 0 _ _ c hc (by (try simp only []) <;> omega) x).symm
  · next hc => exact congrArg (fun y => ((y : ℝ) : EReal)) ((key_self _ 0 _ c (by omega) x).symm.trans (congrArg (fun g => key (kh A b h) 0 g c x) (Fin.ext (by (try simp only []) <;> omega))))
theorem r64 (b : Fin 2) (h : Fin 12) (r : Fin 1) (n : Fin 16) (q : Fin 128) :
    res_main_v64 V (ix5 b h r n q) = ((pkh A b h 0 n q : ℝ) : EReal) := by
  pointwise [res_main_v64]
  refine (fold_last6 (T := EReal) _ b h r n q max _ _).trans ?_
  simp only [r63 H, of_bot]
  exact Soft.fold_eq _ _ (seen_some 0 _ q)
theorem r68 (b : Fin 2) (h : Fin 12) (r : Fin 1) (n : Fin 16) (q : Fin 128) (c : Fin 256) :
    res_main_v68 V (ix6 b h r n q c) = ((weh A b h 0 n q c * Real.exp (-pkh A b h 0 n q) : ℝ) : EReal) := by
  pointwise [res_main_v68]
  simp only [r63 H, r64 H]
  exact Soft.exp_val (seen 0 n q) _ _ c
theorem r76 (b : Fin 2) (h : Fin 12) (t : Fin 2048) :
    res_main_v76 V (ix3 b h t) = ((pkh A b h 0 (grp 0 t) (row 0 t) : ℝ) : EReal) := by
  pointwise [res_main_v76]
  simp only [r64 H]
  exact congrArg₂ (fun g q => ((pkh A b h 0 g q : ℝ) : EReal)) (Fin.ext (by unfold grp subN; (try simp only []) <;> omega)) (Fin.ext (by unfold row subN; (try simp only []) <;> omega))
end Cert.AttnRef

end
-- ==== Proof.AttnRef1.lean ====
/- The reference's second branch at an index. -/
module

public import proofs.«01_k».proof.Proof.AttnLanes
public import proofs.«01_k».proof.Proof.Gen.AttnRefIdeal.Run
public import proofs.«01_k».proof.Proof.AttnRef

@[expose] public section

set_option maxRecDepth 16384

noncomputable section

namespace Cert.AttnRef

open Idealize.ShloMosaic Idealize.ShloMosaic.TcCoe Idealize.SL.Sem
open Cert.AttnRefIdeal Cert.AttnRefIdeal.Value Cert.Attn Cert.Consts

variable {A : Args} {V : Valuation τ sig (Elt Ideal)} (H : Holds A V)
include H

theorem r87 (b : Fin 2) (h : Fin 12) (r : Fin 4) (n : Fin 4) (c : Fin 128) (e : Fin 64) :
    res_main_v87 V (ix6 b h r n c e) = ((kh A b h (tok 1 ⟨r.val * 4 + n.val, by omega⟩ c) e : ℝ) : EReal) := by
  pointwise [res_main_v87]
  rw [r5 H]
  exact congrArg (fun x => ((kh A b h x e : ℝ) : EReal)) (Fin.ext (by unfold tok tokN; (try simp only []) <;> omega))
theorem r94 (b : Fin 2) (h : Fin 12) (r : Fin 4) (n : Fin 4) (c : Fin 128) (e : Fin 64) :
    res_main_v94 V (ix6 b h r n c e) = ((vh A b h (tok 1 ⟨r.val * 4 + n.val, by omega⟩ c) e : ℝ) : EReal) := by
  pointwise [res_main_v94]
  rw [r8 H]
  exact congrArg (fun x => ((vh A b h x e : ℝ) : EReal)) (Fin.ext (by unfold tok tokN; (try simp only []) <;> omega))
theorem r134 (b : Fin 2) (h : Fin 12) (r : Fin 4) (n : Fin 4) (q : Fin 128) (c : Fin 256) :
    res_main_v134 V (ix6 b h r n q c) = Soft.val (seen 1 ⟨r.val * 4 + n.val, by omega⟩ q) (sch A b h 1 ⟨r.val * 4 + n.val, by omega⟩ q) c := by
  pointwise [res_main_v134, res_main_v105, res_main_v110]
  simp only [r2 H, r87 H, H.b]
  rw [mask_bits4]
  refine score_ref A b h 1 ⟨r.val * 4 + n.val, by omega⟩ q c bot_const (p := n.val = 0 ∧ c.val < 128) (by unfold dead first; (try simp only []); constructor <;> rintro ⟨h1, h2⟩ <;> refine ⟨?_, h2⟩ <;> omega) (fun hs => ?_)
  rw [of_eighth]
  unfold sch score
  rw [EReal.coe_add, EReal.coe_mul, ← coe_sum]
  congr 2
  refine Finset.sum_congr rfl fun x _ => ?_
  rw [EReal.coe_mul]
  refine congrArg₂ (· * ·) (congrArg (fun t => ((qh A b h t x : ℝ) : EReal)) (Fin.ext (by unfold tok tokN; (try simp only []) <;> omega))) ?_
  split
  · next hc =>
    split
    · next hn => exact absurd ⟨show _ % _ = _ by (try simp only []) <;> omega, hc⟩ hs.2
    · next hn => exact congrArg (fun y => ((y : ℝ) : EReal)) (key_prev _ 1 _ _ c hc (by (try simp only []) <;> omega) x).symm
  · next hc => exact congrArg (fun y => ((y : ℝ) : EReal)) ((key_self _ 1 _ c (by omega) x).symm.trans (congrArg (fun g => key (kh A b h) 1 g c x) (Fin.ext (by (try simp only []) <;> omega))))
theorem r135 (b : Fin 2) (h : Fin 12) (r : Fin 4) (n : Fin 4) (q : Fin 128) :
    res_main_v135 V (ix5 b h r n q) = ((pkh A b h 1 ⟨r.val * 4 + n.val, by omega⟩ q : ℝ) : EReal) := by
  pointwise [res_main_v135]
  refine (fold_last6 (T := EReal) _ b h r n q max _ _).trans ?_
  simp only [r134 H, of_bot]
  exact Soft.fold_eq _ _ (seen_some 1 _ q)
theorem r139 (b : Fin 2) (h : Fin 12) (r : Fin 4) (n : Fin 4) (q : Fin 128) (c : Fin 256) :
    res_main_v139 V (ix6 b h r n q c) = ((weh A b h 1 ⟨r.val * 4 + n.val, by omega⟩ q c * Real.exp (-pkh A b h 1 ⟨r.val * 4 + n.val, by omega⟩ q) : ℝ) : EReal) := by
  pointwise [res_main_v139]
  simp only [r134 H, r135 H]
  exact Soft.exp_val (seen 1 ⟨r.val * 4 + n.val, by omega⟩ q) _ _ c
theorem r147 (b : Fin 2) (h : Fin 12) (t : Fin 2048) :
    res_main_v147 V (ix3 b h t) = ((pkh A b h 1 (grp 1 t) (row 1 t) : ℝ) : EReal) := by
  pointwise [res_main_v147]
  simp only [r135 H]
  exact congrArg₂ (fun g q => ((pkh A b h 1 g q : ℝ) : EReal)) (Fin.ext (by unfold grp subN; (try simp only []) <;> omega)) (Fin.ext (by unfold row subN; (try simp only []) <;> omega))
end Cert.AttnRef

end
-- ==== Proof.AttnRef2.lean ====
/- The reference's third branch at an index. -/
module

public import proofs.«01_k».proof.Proof.AttnLanes
public import proofs.«01_k».proof.Proof.Gen.AttnRefIdeal.Run
public import proofs.«01_k».proof.Proof.AttnRef

@[expose] public section

set_option maxRecDepth 16384

noncomputable section

namespace Cert.AttnRef

open Idealize.ShloMosaic Idealize.ShloMosaic.TcCoe Idealize.SL.Sem
open Cert.AttnRefIdeal Cert.AttnRefIdeal.Value Cert.Attn Cert.Consts

variable {A : Args} {V : Valuation τ sig (Elt Ideal)} (H : Holds A V)
include H

theorem r158 (b : Fin 2) (h : Fin 12) (r : Fin 16) (n : Fin 1) (c : Fin 128) (e : Fin 64) :
    res_main_v158 V (ix6 b h r n c e) = ((kh A b h (tok 2 r c) e : ℝ) : EReal) := by
  pointwise [res_main_v158]
  rw [r5 H]
  exact congrArg (fun x => ((kh A b h x e : ℝ) : EReal)) (Fin.ext (by unfold tok tokN; (try simp only []) <;> omega))
theorem r165 (b : Fin 2) (h : Fin 12) (r : Fin 16) (n : Fin 1) (c : Fin 128) (e : Fin 64) :
    res_main_v165 V (ix6 b h r n c e) = ((vh A b h (tok 2 r c) e : ℝ) : EReal) := by
  pointwise [res_main_v165]
  rw [r8 H]
  exact congrArg (fun x => ((vh A b h x e : ℝ) : EReal)) (Fin.ext (by unfold tok tokN; (try simp only []) <;> omega))
theorem r203 (b : Fin 2) (h : Fin 12) (r : Fin 16) (n : Fin 1) (q : Fin 128) (c : Fin 256) :
    res_main_v203 V (ix6 b h r n q c) = Soft.val (seen 2 r q) (sch A b h 2 r q) c := by
  pointwise [res_main_v203, res_main_v176, res_main_v181]
  simp only [r2 H, r158 H, H.b]
  rw [mask_bits2]
  refine score_ref A b h 2 r q c bot_const (p := c.val < 128) (by unfold dead first; simp only [true_and]) (fun hs => ?_)
  rw [of_eighth]
  unfold sch score
  rw [EReal.coe_add, EReal.coe_mul, ← coe_sum]
  congr 2
  refine Finset.sum_congr rfl fun x _ => ?_
  rw [EReal.coe_mul]
  refine congrArg₂ (· * ·) (congrArg (fun t => ((qh A b h t x : ℝ) : EReal)) (Fin.ext (by unfold tok tokN; (try simp only []) <;> omega))) ?_
  split
  · next hc => exact absurd ⟨trivial, hc⟩ hs.2
  · next hc => exact congrArg (fun y => ((y : ℝ) : EReal)) ((key_self _ 2 _ c (by omega) x).symm.trans (congrArg (fun g => key (kh A b h) 2 g c x) (Fin.ext (by (try simp only []) <;> omega))))
theorem r204 (b : Fin 2) (h : Fin 12) (r : Fin 16) (n : Fin 1) (q : Fin 128) :
    res_main_v204 V (ix5 b h r n q) = ((pkh A b h 2 r q : ℝ) : EReal) := by
  pointwise [res_main_v204]
  refine (fold_last6 (T := EReal) _ b h r n q max _ _).trans ?_
  simp only [r203 H, of_bot]
  exact Soft.fold_eq _ _ (seen_some 2 _ q)
theorem r208 (b : Fin 2) (h : Fin 12) (r : Fin 16) (n : Fin 1) (q : Fin 128) (c : Fin 256) :
    res_main_v208 V (ix6 b h r n q c) = ((weh A b h 2 r q c * Real.exp (-pkh A b h 2 r q) : ℝ) : EReal) := by
  pointwise [res_main_v208]
  simp only [r203 H, r204 H]
  exact Soft.exp_val (seen 2 r q) _ _ c
theorem r216 (b : Fin 2) (h : Fin 12) (t : Fin 2048) :
    res_main_v216 V (ix3 b h t) = ((pkh A b h 2 (grp 2 t) (row 2 t) : ℝ) : EReal) := by
  pointwise [res_main_v216]
  simp only [r204 H]
  exact congrArg₂ (fun g q => ((pkh A b h 2 g q : ℝ) : EReal)) (Fin.ext (by unfold grp subN; (try simp only []) <;> omega)) (Fin.ext (by unfold row subN; (try simp only []) <;> omega))
end Cert.AttnRef

end
-- ==== Proof.AttnRefAll.lean ====
/- The reference's merge of the three branches at a token. -/
module

public import proofs.«01_k».proof.Proof.AttnRef0
public import proofs.«01_k».proof.Proof.AttnRef1
public import proofs.«01_k».proof.Proof.AttnRef2

@[expose] public section

set_option maxRecDepth 16384

noncomputable section

namespace Cert.AttnRef

open Idealize.ShloMosaic Idealize.ShloMosaic.TcCoe Idealize.SL.Sem
open Cert.AttnRefIdeal Cert.AttnRefIdeal.Gen Cert.AttnRefIdeal.Value Cert.Attn Cert.Consts

variable {A : Args} {V : Valuation τ sig (Elt Ideal)} (H : Holds A V)
include H

/-- The largest score of a token over the three branches. -/
def top (A : Args) (b : Fin 2) (h : Fin 12) (t : Fin 2048) : ℝ :=
  max (max (pkh A b h 0 (grp 0 t) (row 0 t)) (pkh A b h 1 (grp 1 t) (row 1 t))) (pkh A b h 2 (grp 2 t) (row 2 t))

omit H in
theorem top3 (x y z : Vec Ideal S2x12x2048 .f32) (b : Fin 2) (h : Fin 12) (t : Fin 2048) {X Y Z : ℝ} (hx : x (ix3 b h t) = (X : EReal))
    (hy : y (ix3 b h t) = (Y : EReal)) (hz : z (ix3 b h t) = (Z : EReal)) :
    maximumf (F := Ideal) (φ := .f32) (maximumf (F := Ideal) (φ := .f32) x y) z (ix3 b h t) = ((max (max X Y) Z : ℝ) : EReal) := by
  pointwise []
  rw [hx, hy, hz, Soft.coe_max, Soft.coe_max]
omit H in
theorem scale3 (x y : Vec Ideal S2x12x2048 .f32) (b : Fin 2) (h : Fin 12) (t : Fin 2048) {X Y : ℝ} (hx : x (ix3 b h t) = (X : EReal))
    (hy : y (ix3 b h t) = (Y : EReal)) :
    Host.exp (F := Ideal) (φ := .f32) (subf (F := Ideal) (φ := .f32) x y) (ix3 b h t) = ((Real.exp (X - Y) : ℝ) : EReal) := by
  pointwise []
  rw [hx, hy, ← EReal.coe_sub, Ideal.exp_coe]

theorem r221 (b : Fin 2) (h : Fin 12) (t : Fin 2048) : res_main_v221 V (ix3 b h t) = ((top A b h t : ℝ) : EReal) := by
  unfold res_main_v221 top
  exact top3 _ _ _ b h t (r76 H b h t) (r147 H b h t) (r216 H b h t)
theorem r223 (b : Fin 2) (h : Fin 12) (t : Fin 2048) : res_main_v223 V (ix3 b h t) = ((Real.exp (pkh A b h 0 (grp 0 t) (row 0 t) - top A b h t) : ℝ) : EReal) := by
  unfold res_main_v223
  exact scale3 _ _ b h t (r76 H b h t) (r221 H b h t)
theorem r233 (b : Fin 2) (h : Fin 12) (t : Fin 2048) : res_main_v233 V (ix3 b h t) = ((Real.exp (pkh A b h 1 (grp 1 t) (row 1 t) - top A b h t) : ℝ) : EReal) := by
  unfold res_main_v233
  exact scale3 _ _ b h t (r147 H b h t) (r221 H b h t)
theorem r241 (b : Fin 2) (h : Fin 12) (t : Fin 2048) : res_main_v241 V (ix3 b h t) = ((Real.exp (pkh A b h 2 (grp 2 t) (row 2 t) - top A b h t) : ℝ) : EReal) := by
  unfold res_main_v241
  exact scale3 _ _ b h t (r216 H b h t) (r221 H b h t)

omit H
/-- A weighted sum of values in two halves: the block before a query's own, and its own. -/
theorem halves (f : Fin 16 → Fin 128 → Fin 256 → ℝ) (z : Fin 2048 → Fin 64 → ℝ) (i : Fin 3) (g : Fin 16) (q : Fin 128) (e : Fin 64)
    {P S : Fin 128 → EReal} (hP : ∀ c : Fin 128, f g q ⟨c.val, by omega⟩ = 0 ∨ P c = ((key z i g ⟨c.val, by omega⟩ e : ℝ) : EReal))
    (hS : ∀ c : Fin 128, S c = ((key z i g ⟨128 + c.val, by omega⟩ e : ℝ) : EReal)) :
    (∑ c : Fin 128, ((f g q ⟨c.val, by omega⟩ : ℝ) : EReal) * P c) + ∑ c : Fin 128, ((f g q ⟨128 + c.val, by omega⟩ : ℝ) : EReal) * S c
      = ((∑ c, f g q c * key z i g c e : ℝ) : EReal) := by
  have h1 : (∑ c, f g q c * key z i g c e) = (∑ c : Fin 128, f g q ⟨c.val, by omega⟩ * key z i g ⟨c.val, by omega⟩ e)
      + ∑ c : Fin 128, f g q ⟨128 + c.val, by omega⟩ * key z i g ⟨128 + c.val, by omega⟩ e :=
    Fin.sum_univ_add (a := 128) (b := 128) fun c => f g q c * key z i g c e
  rw [h1, EReal.coe_add, ← coe_sum, ← coe_sum]
  refine congrArg₂ (· + ·) (Finset.sum_congr rfl fun c _ => ?_) (Finset.sum_congr rfl fun c _ => ?_)
  · rcases hP c with h0 | h0
    · rw [h0, zero_mul, EReal.coe_zero, zero_mul]
    · rw [h0, EReal.coe_mul]
  · rw [hS, EReal.coe_mul]
theorem key_after (z : Fin 2048 → Fin 64 → ℝ) (i : Fin 3) (g : Fin 16) (c : Fin 128) (e : Fin 64) :
    key z i g ⟨128 + c.val, by omega⟩ e = z (tok i g c) e :=
  (key_self z i g ⟨128 + c.val, by omega⟩ (by dsimp only; omega) e).trans (congrArg (fun c => z (tok i g c) e) (Fin.ext (by dsimp only; omega)))

omit H
/-- Branch 0: the sums of the weights by token, -/
def den0 (x : Vec Ideal S2x12x1x16x128x256 .f32) : Vec Ideal S2x12x2048 .f32 :=
  shapeCast _ (transpose S2x12x2048x1 [0, 1, 3, 2] (shapeCast _ (Host.reduceAdd (F := Ideal) (φ := .f32) x (constant S_ .f32 0x00000000#32) reducesTo_S2x12x1x16x128x256_S2x12x1x16x128_d5 h_S_) shapeCasts_S2x12x1x16x128_S2x12x1x2048) transposes_S2x12x1x2048_S2x12x2048x1_0_1_3_2) shapeCasts_S2x12x2048x1_S2x12x2048
/-- and of the weighted values. -/
def num0 (x : Vec Ideal S2x12x1x16x128x256 .f32) (w : Vec Ideal S2x12x1x16x128x64 .f32) : Vec Ideal S2x12x2048x64 .f32 :=
  shapeCast _ (transpose S2x12x2048x1x64 [0, 1, 3, 2, 4] (shapeCast _ (Host.dotGeneral (F := Ideal) (φ₁ := .f32) (φ₂ := .f32) dot_S2x12x1x16x128x256_S2x12x1x16x256x64_S2x12x1x16x128x64_5_4_4_5_0123_0123 none x (concatenate S2x12x1x16x256x64 4 [⟨S2x12x1x16x128x64, (extractStridedSlice S2x12x1x16x128x64 ![0, 0, 0, 0, 0, 0] (concatenate S2x12x1x17x128x64 3 [⟨S2x12x1x1x128x64, (broadcastInDim S2x12x1x1x128x64 ![] bcast_S_S2x12x1x1x128x64 (constant S_ .f32 0x00000000#32))⟩, ⟨S2x12x1x16x128x64, w⟩] concatenates_S2x12x1x1x128x64_S2x12x1x16x128x64_S2x12x1x17x128x64_d3) slices_S2x12x1x17x128x64_S2x12x1x16x128x64_0_0_0_0_0_0)⟩, ⟨S2x12x1x16x128x64, w⟩] concatenates_S2x12x1x16x128x64_S2x12x1x16x128x64_S2x12x1x16x256x64_d4)) shapeCasts_S2x12x1x16x128x64_S2x12x1x2048x64) transposes_S2x12x1x2048x64_S2x12x2048x1x64_0_1_3_2_4) shapeCasts_S2x12x2048x1x64_S2x12x2048x64

theorem den0_at (x : Vec Ideal S2x12x1x16x128x256 .f32) (f : Fin 16 → Fin 128 → Fin 256 → ℝ) (b : Fin 2) (h : Fin 12)
    (hx : ∀ (r : Fin 1) (n : Fin 16) q c, x (ix6 b h r n q c) = ((f n q c : ℝ) : EReal)) (t : Fin 2048) :
    den0 x (ix3 b h t) = ((∑ c, f (grp 0 t) (row 0 t) c : ℝ) : EReal) := by
  pointwise [den0]
  simp only [sum_last6, hx]
  rw [zero_add, coe_sum]
  exact congrArg₂ (fun g q => ((∑ c, f g q c : ℝ) : EReal)) (Fin.ext (by unfold grp subN; (try simp only []) <;> omega)) (Fin.ext (by unfold row subN; (try simp only []) <;> omega))

theorem num0_at (x : Vec Ideal S2x12x1x16x128x256 .f32) (w : Vec Ideal S2x12x1x16x128x64 .f32) (f : Fin 16 → Fin 128 → Fin 256 → ℝ)
    (z : Fin 2048 → Fin 64 → ℝ) (b : Fin 2) (h : Fin 12)
    (hx : ∀ (r : Fin 1) (n : Fin 16) q c, x (ix6 b h r n q c) = ((f n q c : ℝ) : EReal))
    (hw : ∀ (r : Fin 1) (n : Fin 16) c e, w (ix6 b h r n c e) = ((z (tok 0 n c) e : ℝ) : EReal))
    (hf : ∀ g q c, dead 0 g c → f g q c = 0) (t : Fin 2048) (e : Fin 64) :
    num0 x w (ix4 b h t e) = ((∑ c, f (grp 0 t) (row 0 t) c * key z 0 (grp 0 t) c e : ℝ) : EReal) := by
  have hg : ∀ g q, g = grp 0 t → q = row 0 t → ((∑ c, f g q c * key z 0 g c e : ℝ) : EReal) = ((∑ c, f (grp 0 t) (row 0 t) c * key z 0 (grp 0 t) c e : ℝ) : EReal) := by
    rintro g q rfl rfl; rfl
  pointwise [num0]
  simp only [hx, hw]
  refine Eq.trans (halves f z 0 _ _ e ?_ ?_) (hg _ _ (Fin.ext (by unfold grp subN; (try simp only []) <;> omega)) (Fin.ext (by unfold row subN; (try simp only []) <;> omega)))
  · intro c
    split
    · next hn =>
      refine Or.inl (hf _ _ _ ⟨?_, c.isLt⟩)
      show _ = _; (try simp only []) <;> omega
    · next hn => exact Or.inr (congrArg (fun y => ((y : ℝ) : EReal)) (key_prev z 0 ⟨t.val / 128, by omega⟩ ⟨t.val / 128 - 1, by omega⟩ ⟨c.val, by omega⟩ c.isLt (by dsimp only; omega) e).symm)
  · intro c
    exact congrArg (fun y => ((y : ℝ) : EReal)) (key_after z 0 _ c e).symm

omit H
/-- Branch 1: the sums of the weights by token, -/
def den1 (x : Vec Ideal S2x12x4x4x128x256 .f32) : Vec Ideal S2x12x2048 .f32 :=
  shapeCast _ (transpose S2x12x512x4 [0, 1, 3, 2] (shapeCast _ (Host.reduceAdd (F := Ideal) (φ := .f32) x (constant S_ .f32 0x00000000#32) reducesTo_S2x12x4x4x128x256_S2x12x4x4x128_d5 h_S_) shapeCasts_S2x12x4x4x128_S2x12x4x512) transposes_S2x12x4x512_S2x12x512x4_0_1_3_2) shapeCasts_S2x12x512x4_S2x12x2048
/-- and of the weighted values. -/
def num1 (x : Vec Ideal S2x12x4x4x128x256 .f32) (w : Vec Ideal S2x12x4x4x128x64 .f32) : Vec Ideal S2x12x2048x64 .f32 :=
  shapeCast _ (transpose S2x12x512x4x64 [0, 1, 3, 2, 4] (shapeCast _ (Host.dotGeneral (F := Ideal) (φ₁ := .f32) (φ₂ := .f32) dot_S2x12x4x4x128x256_S2x12x4x4x256x64_S2x12x4x4x128x64_5_4_4_5_0123_0123 none x (concatenate S2x12x4x4x256x64 4 [⟨S2x12x4x4x128x64, (extractStridedSlice S2x12x4x4x128x64 ![0, 0, 0, 0, 0, 0] (concatenate S2x12x4x5x128x64 3 [⟨S2x12x4x1x128x64, (broadcastInDim S2x12x4x1x128x64 ![] bcast_S_S2x12x4x1x128x64 (constant S_ .f32 0x00000000#32))⟩, ⟨S2x12x4x4x128x64, w⟩] concatenates_S2x12x4x1x128x64_S2x12x4x4x128x64_S2x12x4x5x128x64_d3) slices_S2x12x4x5x128x64_S2x12x4x4x128x64_0_0_0_0_0_0)⟩, ⟨S2x12x4x4x128x64, w⟩] concatenates_S2x12x4x4x128x64_S2x12x4x4x128x64_S2x12x4x4x256x64_d4)) shapeCasts_S2x12x4x4x128x64_S2x12x4x512x64) transposes_S2x12x4x512x64_S2x12x512x4x64_0_1_3_2_4) shapeCasts_S2x12x512x4x64_S2x12x2048x64

theorem den1_at (x : Vec Ideal S2x12x4x4x128x256 .f32) (f : Fin 16 → Fin 128 → Fin 256 → ℝ) (b : Fin 2) (h : Fin 12)
    (hx : ∀ (r : Fin 4) (n : Fin 4) q c, x (ix6 b h r n q c) = ((f ⟨r.val * 4 + n.val, by omega⟩ q c : ℝ) : EReal)) (t : Fin 2048) :
    den1 x (ix3 b h t) = ((∑ c, f (grp 1 t) (row 1 t) c : ℝ) : EReal) := by
  pointwise [den1]
  simp only [sum_last6, hx]
  rw [zero_add, coe_sum]
  exact congrArg₂ (fun g q => ((∑ c, f g q c : ℝ) : EReal)) (Fin.ext (by unfold grp subN; (try simp only []) <;> omega)) (Fin.ext (by unfold row subN; (try simp only []) <;> omega))

theorem num1_at (x : Vec Ideal S2x12x4x4x128x256 .f32) (w : Vec Ideal S2x12x4x4x128x64 .f32) (f : Fin 16 → Fin 128 → Fin 256 → ℝ)
    (z : Fin 2048 → Fin 64 → ℝ) (b : Fin 2) (h : Fin 12)
    (hx : ∀ (r : Fin 4) (n : Fin 4) q c, x (ix6 b h r n q c) = ((f ⟨r.val * 4 + n.val, by omega⟩ q c : ℝ) : EReal))
    (hw : ∀ (r : Fin 4) (n : Fin 4) c e, w (ix6 b h r n c e) = ((z (tok 1 ⟨r.val * 4 + n.val, by omega⟩ c) e : ℝ) : EReal))
    (hf : ∀ g q c, dead 1 g c → f g q c = 0) (t : Fin 2048) (e : Fin 64) :
    num1 x w (ix4 b h t e) = ((∑ c, f (grp 1 t) (row 1 t) c * key z 1 (grp 1 t) c e : ℝ) : EReal) := by
  have hg : ∀ g q, g = grp 1 t → q = row 1 t → ((∑ c, f g q c * key z 1 g c e : ℝ) : EReal) = ((∑ c, f (grp 1 t) (row 1 t) c * key z 1 (grp 1 t) c e : ℝ) : EReal) := by
    rintro g q rfl rfl; rfl
  pointwise [num1]
  simp only [hx, hw]
  refine Eq.trans (halves f z 1 _ _ e ?_ ?_) (hg _ _ (Fin.ext (by unfold grp subN; (try simp only []) <;> omega)) (Fin.ext (by unfold row subN; (try simp only []) <;> omega)))
  · intro c
    split
    · next hn =>
      refine Or.inl (hf _ _ _ ⟨?_, c.isLt⟩)
      have h0 : t.val / 4 / 128 = 0 := by omega
      show (t.val % 4 * 4 + t.val / 4 / 128) % 4 = 0
      omega
    · next hn => exact Or.inr (congrArg (fun y => ((y : ℝ) : EReal)) (key_prev z 1 ⟨t.val % 4 * 4 + t.val / 4 / 128, by omega⟩ ⟨t.val % 4 * 4 + (t.val / 4 / 128 - 1), by omega⟩ ⟨c.val, by omega⟩ c.isLt (by dsimp only; omega) e).symm)
  · intro c
    exact congrArg (fun y => ((y : ℝ) : EReal)) (key_after z 1 _ c e).symm

omit H
/-- Branch 2: the sums of the weights by token, -/
def den2 (x : Vec Ideal S2x12x16x1x128x256 .f32) : Vec Ideal S2x12x2048 .f32 :=
  shapeCast _ (transpose S2x12x128x16 [0, 1, 3, 2] (shapeCast _ (Host.reduceAdd (F := Ideal) (φ := .f32) x (constant S_ .f32 0x00000000#32) reducesTo_S2x12x16x1x128x256_S2x12x16x1x128_d5 h_S_) shapeCasts_S2x12x16x1x128_S2x12x16x128) transposes_S2x12x16x128_S2x12x128x16_0_1_3_2) shapeCasts_S2x12x128x16_S2x12x2048
/-- and of the weighted values. -/
def num2 (x : Vec Ideal S2x12x16x1x128x256 .f32) (w : Vec Ideal S2x12x16x1x128x64 .f32) : Vec Ideal S2x12x2048x64 .f32 :=
  shapeCast _ (transpose S2x12x128x16x64 [0, 1, 3, 2, 4] (shapeCast _ (Host.dotGeneral (F := Ideal) (φ₁ := .f32) (φ₂ := .f32) dot_S2x12x16x1x128x256_S2x12x16x1x256x64_S2x12x16x1x128x64_5_4_4_5_0123_0123 none x (concatenate S2x12x16x1x256x64 4 [⟨S2x12x16x1x128x64, (extractStridedSlice S2x12x16x1x128x64 ![0, 0, 0, 0, 0, 0] (concatenate S2x12x16x2x128x64 3 [⟨S2x12x16x1x128x64, (broadcastInDim S2x12x16x1x128x64 ![] bcast_S_S2x12x16x1x128x64 (constant S_ .f32 0x00000000#32))⟩, ⟨S2x12x16x1x128x64, w⟩] concatenates_S2x12x16x1x128x64_S2x12x16x1x128x64_S2x12x16x2x128x64_d3) slices_S2x12x16x2x128x64_S2x12x16x1x128x64_0_0_0_0_0_0)⟩, ⟨S2x12x16x1x128x64, w⟩] concatenates_S2x12x16x1x128x64_S2x12x16x1x128x64_S2x12x16x1x256x64_d4)) shapeCasts_S2x12x16x1x128x64_S2x12x16x128x64) transposes_S2x12x16x128x64_S2x12x128x16x64_0_1_3_2_4) shapeCasts_S2x12x128x16x64_S2x12x2048x64

theorem den2_at (x : Vec Ideal S2x12x16x1x128x256 .f32) (f : Fin 16 → Fin 128 → Fin 256 → ℝ) (b : Fin 2) (h : Fin 12)
    (hx : ∀ (r : Fin 16) (n : Fin 1) q c, x (ix6 b h r n q c) = ((f r q c : ℝ) : EReal)) (t : Fin 2048) :
    den2 x (ix3 b h t) = ((∑ c, f (grp 2 t) (row 2 t) c : ℝ) : EReal) := by
  pointwise [den2]
  simp only [sum_last6, hx]
  rw [zero_add, coe_sum]
  exact congrArg₂ (fun g q => ((∑ c, f g q c : ℝ) : EReal)) (Fin.ext (by unfold grp subN; (try simp only []) <;> omega)) (Fin.ext (by unfold row subN; (try simp only []) <;> omega))

theorem num2_at (x : Vec Ideal S2x12x16x1x128x256 .f32) (w : Vec Ideal S2x12x16x1x128x64 .f32) (f : Fin 16 → Fin 128 → Fin 256 → ℝ)
    (z : Fin 2048 → Fin 64 → ℝ) (b : Fin 2) (h : Fin 12)
    (hx : ∀ (r : Fin 16) (n : Fin 1) q c, x (ix6 b h r n q c) = ((f r q c : ℝ) : EReal))
    (hw : ∀ (r : Fin 16) (n : Fin 1) c e, w (ix6 b h r n c e) = ((z (tok 2 r c) e : ℝ) : EReal))
    (hf : ∀ g q c, dead 2 g c → f g q c = 0) (t : Fin 2048) (e : Fin 64) :
    num2 x w (ix4 b h t e) = ((∑ c, f (grp 2 t) (row 2 t) c * key z 2 (grp 2 t) c e : ℝ) : EReal) := by
  have hg : ∀ g q, g = grp 2 t → q = row 2 t → ((∑ c, f g q c * key z 2 g c e : ℝ) : EReal) = ((∑ c, f (grp 2 t) (row 2 t) c * key z 2 (grp 2 t) c e : ℝ) : EReal) := by
    rintro g q rfl rfl; rfl
  pointwise [num2]
  simp only [hx, hw]
  refine Eq.trans (halves f z 2 _ _ e ?_ ?_) (hg _ _ (Fin.ext (by unfold grp subN; (try simp only []) <;> omega)) (Fin.ext (by unfold row subN; (try simp only []) <;> omega)))
  · intro c
    exact Or.inl (hf _ _ _ ⟨trivial, c.isLt⟩)
  · intro c
    exact congrArg (fun y => ((y : ℝ) : EReal)) (key_after z 2 _ c e).symm

theorem of_zero : Ideal.ofBits .f32 0x00000000#32 = 0 := by simp [Ideal.ofBits, Ideal.ieee]
theorem neg_add_sub (a b : ℝ) : -a + (a - b) = -b := by ring
theorem wt_dead {q k : Fin 2048 → Fin 64 → ℝ} (bias : Fin 3 → Fin 128 → Fin 256 → ℝ) {i : Fin 3} {g : Fin 16} (r : Fin 128) {c : Fin 256} (h : dead i g c) :
    wt q k bias i g r c = 0 := by unfold wt; exact if_neg fun hs => hs.2 h

/-- The denominator of the three branches together, -/
def allDen (n0 n1 n2 s0 s1 s2 : Vec Ideal S2x12x2048 .f32) : Vec Ideal S2x12x2048 .f32 :=
  addf (F := Ideal) (φ := .f32) (addf (F := Ideal) (φ := .f32) (addf (F := Ideal) (φ := .f32) (broadcastInDim S2x12x2048 ![] bcast_S_S2x12x2048 (constant S_ .f32 0x00000000#32)) (mulf (F := Ideal) (φ := .f32) n0 s0)) (mulf (F := Ideal) (φ := .f32) n1 s1)) (mulf (F := Ideal) (φ := .f32) n2 s2)
/-- the output by head, -/
def allOut (n0 n1 n2 : Vec Ideal S2x12x2048x64 .f32) (s0 s1 s2 d : Vec Ideal S2x12x2048 .f32) : Vec Ideal S2x12x2048x64 .f32 :=
  Host.divf (F := Ideal) (φ := .f32) (addf (F := Ideal) (φ := .f32) (addf (F := Ideal) (φ := .f32) (addf (F := Ideal) (φ := .f32) (broadcastInDim S2x12x2048x64 ![] bcast_S_S2x12x2048x64 (constant S_ .f32 0x00000000#32)) (mulf (F := Ideal) (φ := .f32) n0 (broadcastInDim S2x12x2048x64 ![0, 1, 2, 3] bcast_S2x12x2048x1_S2x12x2048x64_0_1_2_3 (broadcastInDim S2x12x2048x1 ![0, 1, 2] bcast_S2x12x2048_S2x12x2048x1_0_1_2 s0)))) (mulf (F := Ideal) (φ := .f32) n1 (broadcastInDim S2x12x2048x64 ![0, 1, 2, 3] bcast_S2x12x2048x1_S2x12x2048x64_0_1_2_3 (broadcastInDim S2x12x2048x1 ![0, 1, 2] bcast_S2x12x2048_S2x12x2048x1_0_1_2 s1)))) (mulf (F := Ideal) (φ := .f32) n2 (broadcastInDim S2x12x2048x64 ![0, 1, 2, 3] bcast_S2x12x2048x1_S2x12x2048x64_0_1_2_3 (broadcastInDim S2x12x2048x1 ![0, 1, 2] bcast_S2x12x2048_S2x12x2048x1_0_1_2 s2)))) (broadcastInDim S2x12x2048x64 ![0, 1, 2, 3] bcast_S2x12x2048x1_S2x12x2048x64_0_1_2_3 (broadcastInDim S2x12x2048x1 ![0, 1, 2] bcast_S2x12x2048_S2x12x2048x1_0_1_2 d))
/-- the log-sum-exp by head, on every lane, -/
def allLanes (m d : Vec Ideal S2x12x2048 .f32) : Vec Ideal S2x12x2048x64 .f32 :=
  broadcastInDim S2x12x2048x64 ![0, 1, 2, 3] bcast_S2x12x2048x1_S2x12x2048x64_0_1_2_3 (broadcastInDim S2x12x2048x1 ![0, 1, 2] bcast_S2x12x2048_S2x12x2048x1_0_1_2 (addf (F := Ideal) (φ := .f32) m (Host.log (F := Ideal) (φ := .f32) d)))
/-- and the heads side by side. -/
def sideBySide (x : Vec Ideal S2x12x2048x64 .f32) : Vec Ideal S2x2048x768 .f32 :=
  shapeCast _ (transpose S2x2048x12x64 [0, 2, 1, 3] x transposes_S2x12x2048x64_S2x2048x12x64_0_2_1_3) shapeCasts_S2x2048x12x64_S2x2048x768

theorem allDen_at (n0 n1 n2 s0 s1 s2 : Vec Ideal S2x12x2048 .f32) (b : Fin 2) (h : Fin 12) (t : Fin 2048) :
    allDen n0 n1 n2 s0 s1 s2 (ix3 b h t) = n0 (ix3 b h t) * s0 (ix3 b h t) + n1 (ix3 b h t) * s1 (ix3 b h t) + n2 (ix3 b h t) * s2 (ix3 b h t) := by
  pointwise [allDen]
theorem allOut_at (n0 n1 n2 : Vec Ideal S2x12x2048x64 .f32) (s0 s1 s2 d : Vec Ideal S2x12x2048 .f32) (b : Fin 2) (h : Fin 12) (t : Fin 2048) (e : Fin 64) :
    allOut n0 n1 n2 s0 s1 s2 d (ix4 b h t e) = Ideal.div (n0 (ix4 b h t e) * s0 (ix3 b h t) + n1 (ix4 b h t e) * s1 (ix3 b h t) + n2 (ix4 b h t e) * s2 (ix3 b h t)) (d (ix3 b h t)) := by
  pointwise [allOut]
theorem allLanes_at (m d : Vec Ideal S2x12x2048 .f32) (b : Fin 2) (h : Fin 12) (t : Fin 2048) (e : Fin 64) :
    allLanes m d (ix4 b h t e) = m (ix3 b h t) + Ideal.log (d (ix3 b h t)) := by
  pointwise [allLanes]
theorem sideBySide_at (x : Vec Ideal S2x12x2048x64 .f32) (b : Fin 2) (t : Fin 2048) (l : Fin 768) :
    sideBySide x (ix3 b t l) = x (ix4 b ⟨l.val / 64, by omega⟩ t ⟨l.val % 64, by omega⟩) := by
  pointwise [sideBySide]

include H
theorem r247 (b : Fin 2) (h : Fin 12) (t : Fin 2048) : res_main_v247 V (ix3 b h t)
    = ((total (qh A b h) (kh A b h) (fun i => A.b i h) t * Real.exp (-top A b h t) : ℝ) : EReal) := by
  refine (show res_main_v247 V (ix3 b h t) = allDen (den0 (res_main_v68 V)) (den1 (res_main_v139 V)) (den2 (res_main_v208 V)) (res_main_v223 V) (res_main_v233 V) (res_main_v241 V) (ix3 b h t) from rfl).trans ?_
  rw [allDen_at, den0_at _ (fun g q c => weh A b h 0 g q c * Real.exp (-pkh A b h 0 g q)) b h (r68 H b h), den1_at _ (fun g q c => weh A b h 1 g q c * Real.exp (-pkh A b h 1 g q)) b h (r139 H b h), den2_at _ (fun g q c => weh A b h 2 g q c * Real.exp (-pkh A b h 2 g q)) b h (r208 H b h), r223 H, r233 H, r241 H,
    ← EReal.coe_mul, ← EReal.coe_mul, ← EReal.coe_mul, ← EReal.coe_add, ← EReal.coe_add]
  refine congrArg (fun x => ((x : ℝ) : EReal)) ?_
  unfold total
  rw [Fin.sum_univ_three, add_mul, add_mul, ← Finset.sum_mul, ← Finset.sum_mul, ← Finset.sum_mul, mul_assoc, mul_assoc, mul_assoc,
    ← Real.exp_add, ← Real.exp_add, ← Real.exp_add, neg_add_sub, neg_add_sub, neg_add_sub]

/-- The reference's log-sum-exp, -/
theorem lse_at (b : Fin 2) (t : Fin 2048) (l : Fin 768) :
    sideBySide (allLanes (res_main_v221 V) (res_main_v247 V)) (ix3 b t l)
      = ((Real.log (total (qh A b ⟨l.val / 64, by omega⟩) (kh A b ⟨l.val / 64, by omega⟩) (fun i => A.b i ⟨l.val / 64, by omega⟩) t) : ℝ) : EReal) := by
  have hp := total_pos (qh A b ⟨l.val / 64, by omega⟩) (kh A b ⟨l.val / 64, by omega⟩) (fun i => A.b i ⟨l.val / 64, by omega⟩) t
  rw [sideBySide_at, allLanes_at, r221 H, r247 H, Ideal.log_coe, if_neg (mul_pos hp (Real.exp_pos _)).not_ge, ← EReal.coe_add, Soft.log_shift hp]
omit H in
/-- The quotient of the rescaled sums is the quotient of the plain ones. -/
theorem quotient (A : Args) (b : Fin 2) (h : Fin 12) (t : Fin 2048) (e : Fin 64) {n0 n1 n2 s0 s1 s2 d : EReal}
    (h0 : n0 = ((∑ c, (weh A b h 0 (grp 0 t) (row 0 t) c * Real.exp (-pkh A b h 0 (grp 0 t) (row 0 t))) * key (vh A b h) 0 (grp 0 t) c e : ℝ) : EReal))
    (h1 : n1 = ((∑ c, (weh A b h 1 (grp 1 t) (row 1 t) c * Real.exp (-pkh A b h 1 (grp 1 t) (row 1 t))) * key (vh A b h) 1 (grp 1 t) c e : ℝ) : EReal))
    (h2 : n2 = ((∑ c, (weh A b h 2 (grp 2 t) (row 2 t) c * Real.exp (-pkh A b h 2 (grp 2 t) (row 2 t))) * key (vh A b h) 2 (grp 2 t) c e : ℝ) : EReal))
    (k0 : s0 = ((Real.exp (pkh A b h 0 (grp 0 t) (row 0 t) - top A b h t) : ℝ) : EReal))
    (k1 : s1 = ((Real.exp (pkh A b h 1 (grp 1 t) (row 1 t) - top A b h t) : ℝ) : EReal))
    (k2 : s2 = ((Real.exp (pkh A b h 2 (grp 2 t) (row 2 t) - top A b h t) : ℝ) : EReal))
    (hd : d = ((total (qh A b h) (kh A b h) (fun i => A.b i h) t * Real.exp (-top A b h t) : ℝ) : EReal)) :
    Ideal.div (n0 * s0 + n1 * s1 + n2 * s2) d = ((att (qh A b h) (kh A b h) (vh A b h) (fun i => A.b i h) t e : ℝ) : EReal) := by
  have hp := total_pos (qh A b h) (kh A b h) (fun i => A.b i h) t
  rw [h0, h1, h2, k0, k1, k2, hd, ← EReal.coe_mul, ← EReal.coe_mul, ← EReal.coe_mul, ← EReal.coe_add, ← EReal.coe_add,
    Ideal.div_coe (mul_pos hp (Real.exp_pos _)).ne', ← EReal.coe_mul]
  refine congrArg (fun x => ((x : ℝ) : EReal)) ?_
  unfold att
  refine (congrArg (fun x : ℝ => x * (1 / (total (qh A b h) (kh A b h) (fun i => A.b i h) t * Real.exp (-top A b h t)))) ?_).trans
    (Soft.div_shift (mix (qh A b h) (kh A b h) (vh A b h) (fun i => A.b i h) t e) _ (top A b h t))
  unfold mix
  rw [Fin.sum_univ_three, add_mul, add_mul]
  have hs : ∀ (w k : Fin 256 → ℝ) (x : ℝ), ∑ c, w c * x * k c = (∑ c, w c * k c) * x := fun w k x => by
    rw [Finset.sum_mul]; exact Finset.sum_congr rfl fun c _ => mul_right_comm _ _ _
  rw [hs, hs, hs]
  rw [mul_assoc, mul_assoc, mul_assoc, ← Real.exp_add, ← Real.exp_add, ← Real.exp_add, neg_add_sub, neg_add_sub, neg_add_sub]

/-- and its output. -/
theorem out_head (b : Fin 2) (h : Fin 12) (t : Fin 2048) (e : Fin 64) :
    allOut (num0 (res_main_v68 V) (res_main_v23 V)) (num1 (res_main_v139 V) (res_main_v94 V)) (num2 (res_main_v208 V) (res_main_v165 V))
        (res_main_v223 V) (res_main_v233 V) (res_main_v241 V) (res_main_v247 V) (ix4 b h t e)
      = ((att (qh A b h) (kh A b h) (vh A b h) (fun i => A.b i h) t e : ℝ) : EReal) := by
  rw [allOut_at]
  exact quotient A b h t e
    (num0_at _ _ (fun g q c => weh A b h 0 g q c * Real.exp (-pkh A b h 0 g q)) (vh A b h) b h (r68 H b h) (r23 H b h) (fun g q c hd => mul_eq_zero_of_left (wt_dead _ _ hd) _) t e)
    (num1_at _ _ (fun g q c => weh A b h 1 g q c * Real.exp (-pkh A b h 1 g q)) (vh A b h) b h (r139 H b h) (r94 H b h) (fun g q c hd => mul_eq_zero_of_left (wt_dead _ _ hd) _) t e)
    (num2_at _ _ (fun g q c => weh A b h 2 g q c * Real.exp (-pkh A b h 2 g q)) (vh A b h) b h (r208 H b h) (r165 H b h) (fun g q c hd => mul_eq_zero_of_left (wt_dead _ _ hd) _) t e)
    (r223 H b h t) (r233 H b h t) (r241 H b h t) (r247 H b h t)
theorem out_at (b : Fin 2) (t : Fin 2048) (l : Fin 768) :
    sideBySide (allOut (num0 (res_main_v68 V) (res_main_v23 V)) (num1 (res_main_v139 V) (res_main_v94 V)) (num2 (res_main_v208 V) (res_main_v165 V))
        (res_main_v223 V) (res_main_v233 V) (res_main_v241 V) (res_main_v247 V)) (ix3 b t l)
      = ((att (qh A b ⟨l.val / 64, by omega⟩) (kh A b ⟨l.val / 64, by omega⟩) (vh A b ⟨l.val / 64, by omega⟩) (fun i => A.b i ⟨l.val / 64, by omega⟩) t ⟨l.val % 64, by omega⟩ : ℝ) : EReal) :=
  (sideBySide_at _ b t l).trans (out_head H b _ t _)
end Cert.AttnRef

end
-- ==== Proof.AttnEqual.lean ====
/- The attention: on finite arguments the kernel's two results are the reference's. -/
module

public import proofs.«01_k».proof.Defs
public import proofs.«01_k».proof.Proof.AttnValue
public import proofs.«01_k».proof.Proof.AttnRefAll
public import proofs.«01_k».proof.Proof.Finite
public import proofs.«01_k».proof.Proof.Gen.Pre_finite_attn
public import Idealize.ShloMosaic.Lib.Quiescent

@[expose] public section

set_option maxRecDepth 16384

noncomputable section

namespace Cert.AttnEqual

open Idealize.ShloMosaic Idealize.ShloMosaic.TcCoe Idealize.SL.Sem
open Cert.AttnRef (Args Holds)

/-- Finite arguments hold reals. -/
theorem holds {x0 : Vec Ideal ⟨3, ![2, 2048, 2304]⟩ .f32} {x1 : Vec Ideal ⟨4, ![3, 12, 128, 256]⟩ .f32}
    (hp : Cert.Pre_finite_attn.fn (F := Ideal) x0 x1 = fun _ => 1#1) :
    ∃ A : Args, (∀ b t x, x0 (ix3 b t x) = ((A.h b t x : ℝ) : EReal)) ∧ ∀ i h r k, x1 (ix4 i h r k) = ((A.b i h r k : ℝ) : EReal) := by
  have e := congrFun hp (fun i => i.elim0)
  unfold Cert.Pre_finite_attn.fn at e
  obtain ⟨h0, h1⟩ := Finite.and_one e
  have r0 := Finite.all_real x0 _ _ _ _ _ h0
  have r1 := Finite.all_real x1 _ _ _ _ _ h1
  exact ⟨⟨fun b t x => (r0 (ix3 b t x)).choose, fun i h r k => (r1 (ix4 i h r k)).choose⟩,
    fun b t x => (r0 (ix3 b t x)).choose_spec, fun i h r k => (r1 (ix4 i h r k)).choose_spec⟩

theorem quiescent_ref : quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

/-- The reference's first result, as its last operations leave it, -/
theorem ref_out {A : Args} {V : Valuation AttnRefIdeal.τ AttnRefIdeal.sig (Elt Ideal)} (H : Holds A V) :
    AttnRef.sideBySide (AttnRef.allOut (AttnRef.num0 (AttnRefIdeal.Value.res_main_v68 V) (AttnRefIdeal.Value.res_main_v23 V))
      (AttnRef.num1 (AttnRefIdeal.Value.res_main_v139 V) (AttnRefIdeal.Value.res_main_v94 V)) (AttnRef.num2 (AttnRefIdeal.Value.res_main_v208 V) (AttnRefIdeal.Value.res_main_v165 V))
      (AttnRefIdeal.Value.res_main_v223 V) (AttnRefIdeal.Value.res_main_v233 V) (AttnRefIdeal.Value.res_main_v241 V) (AttnRefIdeal.Value.res_main_v247 V))
      = fun i => ((AttnValue.outOf A (i 0) (i 1) (i 2) : ℝ) : EReal) := by
  funext i
  obtain ⟨b, t, l, rfl⟩ : ∃ (b : Fin 2) (t : Fin 2048) (l : Fin 768), i = ix3 b t l := ⟨i 0, i 1, i 2, eq_ix3 i⟩
  exact AttnRef.out_at H b t l
/-- and its second. -/
theorem ref_lse {A : Args} {V : Valuation AttnRefIdeal.τ AttnRefIdeal.sig (Elt Ideal)} (H : Holds A V) :
    AttnRef.sideBySide (AttnRef.allLanes (AttnRefIdeal.Value.res_main_v221 V) (AttnRefIdeal.Value.res_main_v247 V))
      = fun i => ((AttnValue.lseOf A (i 0) (i 1) (i 2) : ℝ) : EReal) := by
  funext i
  obtain ⟨b, t, l, rfl⟩ : ∃ (b : Fin 2) (t : Fin 2048) (l : Fin 768), i = ix3 b t l := ⟨i 0, i 1, i 2, eq_ix3 i⟩
  exact AttnRef.lse_at H b t l

theorem algebraic : algebraic_AttnIdeal_AttnRefIdeal_pre_finite_attn := by
  intro m ρ m' ρ' hpre hagree
  refine ⟨_, _, Cert.AttnIdeal.Value.run_blocks (F := Ideal) m ρ, ?_⟩
  refine (θ_run Cert.AttnRefIdeal.defs _ _).mono (fun _ h c => ?_) (Cert.AttnRefIdeal.Value.run (F := Ideal) m' ρ')
  obtain ⟨A, h0, h1⟩ := holds (hpre c)
  obtain ⟨e0, e1⟩ := hagree c
  obtain ⟨r0, r1, hk⟩ := h c
  have HV : AttnValue.Has m c A := ⟨h0, h1⟩
  have HR : Holds A (StableHlo.launchContents m' c) := ⟨fun b t x => (congrFun e0 _).trans (h0 b t x), fun i h r k => (congrFun e1 _).trans (h1 i h r k)⟩
  refine ⟨?_, ?_, hk⟩
  · exact r0.trans ((ref_out HR).trans (AttnValue.final4 m c HV).symm)
  · exact r1.trans ((ref_lse HR).trans (AttnValue.final5 m c HV).symm)

end Cert.AttnEqual

end
-- ==== Proof.Ln1Ref.lean ====
/- The reference of the first layer norm's gradient, read at an index: every value is a real. -/
module

public import proofs.«01_k».proof.Proof.LnRow
public import proofs.«01_k».proof.Proof.Gen.Ln1RefIdeal.Run
public import proofs.«01_k».proof.Proof.Gen.Ln1RefIdeal.Read
public import Idealize.ShloMosaic.Lib.Pointwise

@[expose] public section

set_option maxRecDepth 16384

noncomputable section

namespace Cert.Ln1Ref

open Idealize.ShloMosaic Idealize.ShloMosaic.TcCoe Idealize.SL.Sem
open Cert.Ln1RefIdeal Cert.Ln1RefIdeal.Read Cert.Consts Cert.LnRow

/-- The real arrays of the arguments the gradients read: the layer norm's input and gain, the next layer's weight, and the
    cotangents of the two uses of the layer norm's output. -/
structure Args where
  z : Fin 4096 → Fin 1024 → ℝ
  g : Fin 1024 → ℝ
  w : Fin 1024 → Fin 5632 → ℝ
  d : Fin 4096 → Fin 1024 → ℝ
  u : Fin 4096 → Fin 5632 → ℝ

namespace Args
variable (A : Args)
/-- The cotangent of the layer norm's output. -/
def cot (r : Fin 4096) (q : Fin 1024) : ℝ := alpha * A.d r q + ∑ k, A.u r k * A.w q k
def dz (r : Fin 4096) (q : Fin 1024) : ℝ := grad (A.z r) (fun q => A.cot r q * A.g q) q
def dg (q : Fin 1024) : ℝ := ∑ r, A.cot r q * nrm (A.z r) q
def db (q : Fin 1024) : ℝ := ∑ r, A.cot r q
/-- The cotangent of the variance, over the row's length. -/
def v (r : Fin 4096) : ℝ := (∑ k, cen (A.z r) k * (A.cot r k * A.g k)) * (-1 / 2 * (rs (A.z r) * (1 / spread (A.z r)))) * (1 / 1024)
end Args

/-- The arrays hold these reals. -/
structure Holds (A : Args) (x0 : Vec Ideal S4096x1024 .f32) (x1 : Vec Ideal S1x1024 .f32) (x3 : Vec Ideal S1024x5632 .f32)
    (x4 : Vec Ideal S4096x1024 .f32) (x5 : Vec Ideal S4096x5632 .f32) : Prop where
  z : ∀ r q, x0 (ix2 r q) = (A.z r q : EReal)
  g : ∀ q, x1 (ix2 0 q) = (A.g q : EReal)
  w : ∀ q k, x3 (ix2 q k) = (A.w q k : EReal)
  d : ∀ r q, x4 (ix2 r q) = (A.d r q : EReal)
  u : ∀ r k, x5 (ix2 r k) = (A.u r k : EReal)

variable {A : Args} {x0 : Vec Ideal S4096x1024 .f32} {x1 : Vec Ideal S1x1024 .f32} {x3 : Vec Ideal S1024x5632 .f32}
    {x4 : Vec Ideal S4096x1024 .f32} {x5 : Vec Ideal S4096x5632 .f32}
    (h : Holds A x0 x1 x3 x4 x5) (r : Fin 4096) (q : Fin 1024)

include h

theorem v5 : val_main_v5 (F := Ideal) x0 (ix2 r 0) = (mean (A.z r) : EReal) := by
  pointwise [val_main_v5, val_main_v4, val_main_v3, val_main_v2, val_main_cst, val_main_cst_0]
  simp only [h.z, of_1024, of_zero, coe_sum, div_1024]
  rfl

theorem v7 : val_main_v7 (F := Ideal) x0 (ix2 r q) = (cen (A.z r) q : EReal) := by
  pointwise [val_main_v7, val_main_v6]
  simp only [h.z, v5 h, ← EReal.coe_sub]
  rfl

theorem v16 : val_main_v16 (F := Ideal) x0 (ix2 r q) = (cen (A.z r) q : EReal) := by
  pointwise [val_main_v16, val_main_v15]
  simp only [h.z, v5 h, ← EReal.coe_sub]
  rfl

theorem v18 : val_main_v18 (F := Ideal) x0 (ix2 r 0) = (spread (A.z r) : EReal) := by
  pointwise [val_main_v18, val_main_v17, val_main_cst_4, val_main_v14, val_main_v13, val_main_cst_3, val_main_v12, val_main_v11, val_main_cst_2, val_main_v8]
  simp only [v7 h, of_1024, of_zero, of_eps, ← EReal.coe_mul, coe_sum, div_1024, ← EReal.coe_add]
  rfl

theorem v19 : val_main_v19 (F := Ideal) x0 (ix2 r 0) = (rs (A.z r) : EReal) := by
  pointwise [val_main_v19]
  rw [v18 h, rsqrt_pos (spread_pos _)]
  rfl

theorem v22 : val_main_v22 (F := Ideal) x0 (ix2 r 0) = ((-1 / 2 * (rs (A.z r) * (1 / spread (A.z r))) : ℝ) : EReal) := by
  pointwise [val_main_v22, val_main_v21, val_main_cst_5, val_main_v20]
  rw [v18 h, v19 h, of_neghalf, Ideal.div_coe (spread_pos _).ne', ← EReal.coe_mul, ← EReal.coe_mul]

theorem v24 : val_main_v24 (F := Ideal) x0 (ix2 r q) = (nrm (A.z r) q : EReal) := by
  pointwise [val_main_v24, val_main_v23]
  simp only [v16 h, v19 h, ← EReal.coe_mul]
  rfl

theorem v37 : val_main_v37 (F := Ideal) x3 x4 x5 (ix2 r q) = (A.cot r q : EReal) := by
  pointwise [val_main_v37, val_main_v36, val_main_v35, val_main_v34, val_main_cst_7]
  simp only [h.w, h.d, h.u, of_alpha, ← EReal.coe_mul, coe_sum, ← EReal.coe_add]
  congr 1
  exact add_comm _ _

theorem v45 : val_main_v45 (F := Ideal) x1 x3 x4 x5 (ix2 r q) = ((A.cot r q * A.g q : ℝ) : EReal) := by
  pointwise [val_main_v45, val_main_v44, val_main_v25, val_main_v0]
  simp only [v37 h, h.g, ← EReal.coe_mul]

theorem v51 : val_main_v51 (F := Ideal) x0 x1 x3 x4 x5 (ix2 r q) = ((A.cot r q * A.g q * rs (A.z r) : ℝ) : EReal) := by
  pointwise [val_main_v51, val_main_v50]
  simp only [v45 h, v19 h, ← EReal.coe_mul]

theorem v58 : val_main_v58 (F := Ideal) x0 x1 x3 x4 x5 (ix1 r) = (A.v r : EReal) := by
  pointwise [val_main_v58, val_main_cst_15, val_main_v57, val_main_v56, val_main_cst_14, val_main_v52, val_main_v49, val_main_v48, val_main_cst_12, val_main_v47]
  rw [Fin.sum_univ_one]
  simp only [v45 h, v16 h, v22 h, of_zero, of_1024, ← EReal.coe_mul, coe_sum, div_1024, ← EReal.coe_add]
  rfl

theorem v60 : val_main_v60 (F := Ideal) x0 x1 x3 x4 x5 (ix2 r q) = ((A.v r * (2 * cen (A.z r) q) : ℝ) : EReal) := by
  pointwise [val_main_v60, val_main_v59, val_main_v10, val_main_v9, val_main_cst_1]
  simp only [v58 h, v7 h, of_two, ← EReal.coe_mul]

theorem v70 : val_main_v70 (F := Ideal) x0 x1 x3 x4 x5 (ix2 r q) = (A.dz r q : EReal) := by
  pointwise [val_main_v70, val_main_v69, val_main_v68, val_main_cst_18, val_main_v67, val_main_v66, val_main_cst_17, val_main_v65, val_main_v64,
    val_main_v63, val_main_v62, val_main_cst_16, val_main_v61, val_main_v55, val_main_v54, val_main_cst_13, val_main_v53]
  simp only [v60 h, v51 h, of_zero, of_1024, ← EReal.coe_mul, ← EReal.coe_neg, coe_sum, div_1024, ← EReal.coe_add]
  congr 1
  unfold Args.dz
  rw [← chain (A.z r) _ q (A.v r) rfl]
  simp

theorem v71 : val_main_v71 (F := Ideal) x3 x4 x5 (ix2 0 q) = (A.db q : EReal) := by
  pointwise [val_main_v71, val_main_v40, val_main_cst_9, val_main_v39, val_main_v38, val_main_cst_8]
  simp only [v37 h, of_zero, coe_sum, ← EReal.coe_add]
  simp [Args.db]

theorem v72 : val_main_v72 (F := Ideal) x0 x3 x4 x5 (ix2 0 q) = (A.dg q : EReal) := by
  pointwise [val_main_v72, val_main_v46, val_main_cst_11, val_main_v43, val_main_v42, val_main_cst_10, val_main_v41]
  simp only [v37 h, v24 h, of_zero, ← EReal.coe_mul, coe_sum, ← EReal.coe_add]
  simp [Args.dg, mul_comm]

end Cert.Ln1Ref

end
-- ==== Proof.Ln1Tile.lean ====
/- What the first layer norm's gradient kernel computes of 256 rows: the cotangent of the norm's output, the gradient of its
   input and the rows' part of the two gain gradients, as reals. -/
module

public import proofs.«01_k».proof.Proof.Ln1Ref
public import proofs.«01_k».proof.Proof.SumBlocks
public import proofs.«01_k».proof.Proof.Gen.Ln1Ideal.Value

@[expose] public section

set_option maxRecDepth 16384

noncomputable section

namespace Cert.Ln1Tile

open Idealize.ShloMosaic Idealize.ShloMosaic.TcCoe Idealize.SL.Sem
open Cert.Ln1Ideal Cert.Ln1Ideal.Gen Cert.Consts Cert.LnRow
open Cert.Ln1Ref (Args)

/-- Column `j` of the weight's quarter `k`. -/
abbrev col (k : Fin 4) (j : Fin 1408) : Fin 5632 := Sums.at' 4 1408 rfl k j

/-- The loaded blocks hold the rows `ρ` of the arguments. -/
structure Rows (A : Args) (ρ : Fin 256 → Fin 4096) (d : Vec Ideal S256x1024 .f32) (u0 : Vec Ideal S256x1408 .bf16) (w0 : Vec Ideal S1x1024x1408 .bf16)
    (u1 : Vec Ideal S256x1408 .bf16) (w1 : Vec Ideal S1x1024x1408 .bf16) (u2 : Vec Ideal S256x1408 .bf16) (w2 : Vec Ideal S1x1024x1408 .bf16)
    (u3 : Vec Ideal S256x1408 .bf16) (w3 : Vec Ideal S1x1024x1408 .bf16) (x : Vec Ideal S256x1024 .f32) (s : Vec Ideal S256x1 .f32)
    (g : Vec Ideal S1x1024 .f32) : Prop where
  d : ∀ p q, d (ix2 p q) = (A.d (ρ p) q : EReal)
  u0 : ∀ p j, u0 (ix2 p j) = (A.u (ρ p) (col 0 j) : EReal)
  w0 : ∀ q j, w0 (ix3 0 q j) = (A.w q (col 0 j) : EReal)
  u1 : ∀ p j, u1 (ix2 p j) = (A.u (ρ p) (col 1 j) : EReal)
  w1 : ∀ q j, w1 (ix3 0 q j) = (A.w q (col 1 j) : EReal)
  u2 : ∀ p j, u2 (ix2 p j) = (A.u (ρ p) (col 2 j) : EReal)
  w2 : ∀ q j, w2 (ix3 0 q j) = (A.w q (col 2 j) : EReal)
  u3 : ∀ p j, u3 (ix2 p j) = (A.u (ρ p) (col 3 j) : EReal)
  w3 : ∀ q j, w3 (ix3 0 q j) = (A.w q (col 3 j) : EReal)
  x : ∀ p q, x (ix2 p q) = (nrm (A.z (ρ p)) q : EReal)
  s : ∀ p, s (ix2 p 0) = (rs (A.z (ρ p)) : EReal)
  g : ∀ q, g (ix2 0 q) = (A.g q : EReal)

section
variable {A : Args} {ρ : Fin 256 → Fin 4096} {d : Vec Ideal S256x1024 .f32} {u0 u1 u2 u3 : Vec Ideal S256x1408 .bf16}
    {w0 w1 w2 w3 : Vec Ideal S1x1024x1408 .bf16} {x : Vec Ideal S256x1024 .f32} {s : Vec Ideal S256x1 .f32} {g : Vec Ideal S1x1024 .f32}
    (h : Rows A ρ d u0 w0 u1 w1 u2 w2 u3 w3 x s g) (p : Fin 256) (q : Fin 1024)

include h

theorem pay7 : k0_pay7 (F := Ideal) d u0 w0 u1 w1 u2 w2 u3 w3 (ix2 p q) = (A.cot (ρ p) q : EReal) := by
  pointwise [k0_pay7]
  simp only [h.d, h.u0, h.u1, h.u2, h.u3, h.w0, h.w1, h.w2, h.w3, of_alpha, ← EReal.coe_mul, coe_sum, ← EReal.coe_add]
  congr 1
  unfold Args.cot
  rw [Sums.sum_blocks 4 1408 rfl, Fin.sum_univ_four]
  ring

theorem pay9 : k0_pay9 (F := Ideal) (k0_pay7 d u0 w0 u1 w1 u2 w2 u3 w3) x s g (ix2 p q) = (A.dz (ρ p) q : EReal) := by
  pointwise [k0_pay9, k0_pay8]
  simp only [pay7 h, h.x, h.s, h.g, of_1024, ← EReal.coe_mul, coe_sum, div_1024, ← EReal.coe_sub]
  rfl

theorem pay10 : k0_pay10 (F := Ideal) (k0_pay7 d u0 w0 u1 w1 u2 w2 u3 w3) x s g (ix2 p q) = (A.dz (ρ p) q : EReal) := by
  unfold k0_pay10
  exact pay9 h p q

theorem pay11 : k0_pay11 (F := Ideal) (k0_pay7 d u0 w0 u1 w1 u2 w2 u3 w3) x (ix2 0 q) = ((∑ p, A.cot (ρ p) q * nrm (A.z (ρ p)) q : ℝ) : EReal) := by
  pointwise [k0_pay11, k0_pay8]
  simp only [pay7 h, h.x, ← EReal.coe_mul, coe_sum]

theorem pay12 : k0_pay12 (F := Ideal) (k0_pay7 d u0 w0 u1 w1 u2 w2 u3 w3) (ix2 0 q) = ((∑ p, A.cot (ρ p) q : ℝ) : EReal) := by
  pointwise [k0_pay12]
  simp only [pay7 h, coe_sum]

end

/-! The second half of a block repeats the first half's operations. -/

section
variable {F : FTy → Type} [FloatOps F] (d : Vec F S256x1024 .f32) (u0 u1 u2 u3 : Vec F S256x1408 .bf16) (w0 w1 w2 w3 : Vec F S1x1024x1408 .bf16)
    (x : Vec F S256x1024 .f32) (s : Vec F S256x1 .f32) (g : Vec F S1x1024 .f32)

theorem again7 : k0_pay15 (k0_pay13 d) (k0_pay14 u0) w0 u1 w1 u2 w2 u3 w3 = k0_pay7 d u0 w0 u1 w1 u2 w2 u3 w3 := rfl
theorem again9 : k0_pay1 (k0_pay16 x) (k0_pay17 s) (k0_pay18 (k0_pay13 d) (k0_pay14 u0) w0 u1 w1 u2 w2 u3 w3 g)
    (k0_pay19 (k0_pay13 d) (k0_pay14 u0) w0 u1 w1 u2 w2 u3 w3 g) (k0_pay20 (k0_pay13 d) (k0_pay14 u0) w0 u1 w1 u2 w2 u3 w3 x g)
    = k0_pay9 (k0_pay7 d u0 w0 u1 w1 u2 w2 u3 w3) x s g := rfl
theorem again10 : k0_pay2 (k0_pay16 x) (k0_pay17 s) (k0_pay18 (k0_pay13 d) (k0_pay14 u0) w0 u1 w1 u2 w2 u3 w3 g)
    (k0_pay19 (k0_pay13 d) (k0_pay14 u0) w0 u1 w1 u2 w2 u3 w3 g) (k0_pay20 (k0_pay13 d) (k0_pay14 u0) w0 u1 w1 u2 w2 u3 w3 x g)
    = k0_pay10 (k0_pay7 d u0 w0 u1 w1 u2 w2 u3 w3) x s g := rfl

end

/-! The block's sums: the first half's added to the second half's. -/

section
variable {A : Args} {ρ ρ' : Fin 256 → Fin 4096} {d d' : Vec Ideal S256x1024 .f32} {u0 u1 u2 u3 u0' u1' u2' u3' : Vec Ideal S256x1408 .bf16}
    {w0 w1 w2 w3 w0' w1' w2' w3' : Vec Ideal S1x1024x1408 .bf16} {x x' : Vec Ideal S256x1024 .f32} {s s' : Vec Ideal S256x1 .f32} {g g' : Vec Ideal S1x1024 .f32}
    (h : Rows A ρ d u0 w0 u1 w1 u2 w2 u3 w3 x s g) (h' : Rows A ρ' d' u0' w0' u1' w1' u2' w2' u3' w3' x' s' g') (q : Fin 1024)

include h h'

theorem pay3 : k0_pay3 (F := Ideal) (k0_pay11 (k0_pay7 d u0 w0 u1 w1 u2 w2 u3 w3) x) (k0_pay15 (k0_pay13 d') (k0_pay14 u0') w0' u1' w1' u2' w2' u3' w3') (k0_pay16 x') (ix2 0 q)
    = ((∑ p, A.cot (ρ p) q * nrm (A.z (ρ p)) q + ∑ p, A.cot (ρ' p) q * nrm (A.z (ρ' p)) q : ℝ) : EReal) := by
  rw [again7]
  pointwise [k0_pay3, k0_pay16]
  simp only [pay11 h, pay7 h', h'.x, ← EReal.coe_mul, coe_sum, ← EReal.coe_add]

theorem pay4 : k0_pay4 (F := Ideal) (k0_pay12 (k0_pay7 d u0 w0 u1 w1 u2 w2 u3 w3)) (k0_pay15 (k0_pay13 d') (k0_pay14 u0') w0' u1' w1' u2' w2' u3' w3') (ix2 0 q)
    = ((∑ p, A.cot (ρ p) q + ∑ p, A.cot (ρ' p) q : ℝ) : EReal) := by
  rw [again7]
  pointwise [k0_pay4]
  simp only [pay12 h, pay7 h', coe_sum, ← EReal.coe_add]

end

end Cert.Ln1Tile

end
-- ==== Proof.Ln1Cases.lean ====
/- What a grid point of the first layer norm's gradient kernel leaves in its output blocks: the gradient of its 512 rows, and
   the running sums of the two gain gradients. -/
module

public import proofs.«01_k».proof.Proof.Ln1Tile

@[expose] public section

set_option maxRecDepth 16384

noncomputable section

namespace Cert.Ln1Cases

open Idealize.ShloMosaic Idealize.ShloMosaic.TcCoe Idealize.SL.Sem
open Cert.Ln1Ideal Cert.Ln1Ideal.Gen Cert.Consts Cert.LnRow Cert.Ln1Tile
open Cert.Ln1Ref (Args)

/-- The input blocks hold the rows `ρ` of the arguments, the normalised rows and their scales. -/
structure Block (A : Args) (ρ : Fin 512 → Fin 4096) (x0 x1 : Vec Ideal S512x2816 .bf16) (x2 : Vec Ideal S4x1024x1408 .bf16)
    (x3 x4 : Vec Ideal S512x1024 .f32) (x5 : Vec Ideal S512x128 .f32) (x6 : Vec Ideal S1x1024 .f32) : Prop where
  u : ∀ p (k : Fin 2816), x0 (ix2 p k) = (A.u (ρ p) ⟨k.val, by omega⟩ : EReal)
  u' : ∀ p (k : Fin 2816), x1 (ix2 p k) = (A.u (ρ p) ⟨2816 + k.val, by omega⟩ : EReal)
  w : ∀ k q j, x2 (ix3 k q j) = (A.w q (col k j) : EReal)
  d : ∀ p q, x3 (ix2 p q) = (A.d (ρ p) q : EReal)
  x : ∀ p q, x4 (ix2 p q) = (nrm (A.z (ρ p)) q : EReal)
  s : ∀ p j, x5 (ix2 p j) = (rs (A.z (ρ p)) : EReal)
  g : ∀ q, x6 (ix2 0 q) = (A.g q : EReal)

/-- A row of the block's first half, and of its second half. -/
abbrev lo (ρ : Fin 512 → Fin 4096) (p : Fin 256) : Fin 4096 := ρ ⟨p.val, by omega⟩
abbrev hi (ρ : Fin 512 → Fin 4096) (p : Fin 256) : Fin 4096 := ρ ⟨256 + p.val, by omega⟩

variable (c : Dev nD) (i : grid0.Coords)
  (a1 : Memref sig .tc .vmem S512x2816 .bf16) (h1 : a1.IsWhole) (a2 : Memref sig .tc .vmem S512x2816 .bf16) (h2 : a2.IsWhole) (a3 : Memref sig .tc .vmem S4x1024x1408 .bf16) (h3 : a3.IsWhole) (a4 : Memref sig .tc .vmem S512x1024 .f32) (h4 : a4.IsWhole) (a5 : Memref sig .tc .vmem S512x1024 .f32) (h5 : a5.IsWhole) (a6 : Memref sig .tc .vmem S512x128 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole) (a11 : Memref sig .tc .vmem S1x1024 .f32) (h11 : a11.IsWhole)
  {x0 x1 : Vec Ideal S512x2816 .bf16} {x2 : Vec Ideal S4x1024x1408 .bf16}
  {x3 x4 : Vec Ideal S512x1024 .f32} {x5 : Vec Ideal S512x128 .f32} {x6 : Vec Ideal S1x1024 .f32}
  (xo9 xo10 : Vec Ideal S1x1024 .f32) {A : Args} {ρ : Fin 512 → Fin 4096} (h : Block A ρ x0 x1 x2 x3 x4 x5 x6)

theorem hz : (![0, 0] : Fin 2 → Nat) = fun _ => 0 := funext fun a => by fin_cases a <;> rfl

/-! A block's loads, at an index. -/

theorem ld_u_lo (x : Vec Ideal S512x2816 .bf16) (p : Fin 256) (q : Fin 1408) : View.ld x (Rect.unit (s := S512x2816) ![0, 0] S256x1408.size inb_S512x2816_S256x1408_0_0) (ix2 p q) = x (ix2 ⟨p.val, by omega⟩ ⟨q.val, by omega⟩) := by
  show x _ = _
  refine congrArg x (funext fun a => Fin.ext ?_)
  match a with
  | ⟨0, _⟩ => show 0 + 1 * p.val = p.val; omega
  | ⟨1, _⟩ => show 0 + 1 * q.val = q.val; omega

theorem ld_v_lo (x : Vec Ideal S512x2816 .bf16) (p : Fin 256) (q : Fin 1408) : View.ld x (Rect.unit (s := S512x2816) ![0, 1408] S256x1408.size inb_S512x2816_S256x1408_0_1408) (ix2 p q) = x (ix2 ⟨p.val, by omega⟩ ⟨1408 + q.val, by omega⟩) := by
  show x _ = _
  refine congrArg x (funext fun a => Fin.ext ?_)
  match a with
  | ⟨0, _⟩ => show 0 + 1 * p.val = p.val; omega
  | ⟨1, _⟩ => show 1408 + 1 * q.val = 1408 + q.val; omega

theorem ld_d_lo (x : Vec Ideal S512x1024 .f32) (p : Fin 256) (q : Fin 1024) : View.ld x (Rect.unit (s := S512x1024) ![0, 0] S256x1024.size inb_S512x1024_S256x1024_0_0) (ix2 p q) = x (ix2 ⟨p.val, by omega⟩ ⟨q.val, by omega⟩) := by
  show x _ = _
  refine congrArg x (funext fun a => Fin.ext ?_)
  match a with
  | ⟨0, _⟩ => show 0 + 1 * p.val = p.val; omega
  | ⟨1, _⟩ => show 0 + 1 * q.val = q.val; omega

theorem ld_s_lo (x : Vec Ideal S512x128 .f32) (p : Fin 256) (q : Fin 1) : View.ld x (Rect.unit (s := S512x128) ![0, 0] S256x1.size inb_S512x128_S256x1_0_0) (ix2 p q) = x (ix2 ⟨p.val, by omega⟩ ⟨q.val, by omega⟩) := by
  show x _ = _
  refine congrArg x (funext fun a => Fin.ext ?_)
  match a with
  | ⟨0, _⟩ => show 0 + 1 * p.val = p.val; omega
  | ⟨1, _⟩ => show 0 + 1 * q.val = q.val; omega

theorem ld_u_hi (x : Vec Ideal S512x2816 .bf16) (p : Fin 256) (q : Fin 1408) : View.ld x (Rect.unit (s := S512x2816) ![256, 0] S256x1408.size inb_S512x2816_S256x1408_256_0) (ix2 p q) = x (ix2 ⟨256 + p.val, by omega⟩ ⟨q.val, by omega⟩) := by
  show x _ = _
  refine congrArg x (funext fun a => Fin.ext ?_)
  match a with
  | ⟨0, _⟩ => show 256 + 1 * p.val = 256 + p.val; omega
  | ⟨1, _⟩ => show 0 + 1 * q.val = q.val; omega

theorem ld_v_hi (x : Vec Ideal S512x2816 .bf16) (p : Fin 256) (q : Fin 1408) : View.ld x (Rect.unit (s := S512x2816) ![256, 1408] S256x1408.size inb_S512x2816_S256x1408_256_1408) (ix2 p q) = x (ix2 ⟨256 + p.val, by omega⟩ ⟨1408 + q.val, by omega⟩) := by
  show x _ = _
  refine congrArg x (funext fun a => Fin.ext ?_)
  match a with
  | ⟨0, _⟩ => show 256 + 1 * p.val = 256 + p.val; omega
  | ⟨1, _⟩ => show 1408 + 1 * q.val = 1408 + q.val; omega

theorem ld_d_hi (x : Vec Ideal S512x1024 .f32) (p : Fin 256) (q : Fin 1024) : View.ld x (Rect.unit (s := S512x1024) ![256, 0] S256x1024.size inb_S512x1024_S256x1024_256_0) (ix2 p q) = x (ix2 ⟨256 + p.val, by omega⟩ ⟨q.val, by omega⟩) := by
  show x _ = _
  refine congrArg x (funext fun a => Fin.ext ?_)
  match a with
  | ⟨0, _⟩ => show 256 + 1 * p.val = 256 + p.val; omega
  | ⟨1, _⟩ => show 0 + 1 * q.val = q.val; omega

theorem ld_s_hi (x : Vec Ideal S512x128 .f32) (p : Fin 256) (q : Fin 1) : View.ld x (Rect.unit (s := S512x128) ![256, 0] S256x1.size inb_S512x128_S256x1_256_0) (ix2 p q) = x (ix2 ⟨256 + p.val, by omega⟩ ⟨q.val, by omega⟩) := by
  show x _ = _
  refine congrArg x (funext fun a => Fin.ext ?_)
  match a with
  | ⟨0, _⟩ => show 256 + 1 * p.val = 256 + p.val; omega
  | ⟨1, _⟩ => show 0 + 1 * q.val = q.val; omega

theorem ld_w_0 (x : Vec Ideal S4x1024x1408 .bf16) (q : Fin 1024) (j : Fin 1408) : View.ld x (Rect.unit (s := S4x1024x1408) ![0, 0, 0] S1x1024x1408.size inb_S4x1024x1408_S1x1024x1408_0_0_0) (ix3 0 q j) = x (ix3 0 q j) := by
  show x _ = _
  refine congrArg x (funext fun a => Fin.ext ?_)
  match a with
  | ⟨0, _⟩ => rfl
  | ⟨1, _⟩ => show 0 + 1 * q.val = q.val; omega
  | ⟨2, _⟩ => show 0 + 1 * j.val = j.val; omega

theorem ld_w_1 (x : Vec Ideal S4x1024x1408 .bf16) (q : Fin 1024) (j : Fin 1408) : View.ld x (Rect.unit (s := S4x1024x1408) ![1, 0, 0] S1x1024x1408.size inb_S4x1024x1408_S1x1024x1408_1_0_0) (ix3 0 q j) = x (ix3 1 q j) := by
  show x _ = _
  refine congrArg x (funext fun a => Fin.ext ?_)
  match a with
  | ⟨0, _⟩ => rfl
  | ⟨1, _⟩ => show 0 + 1 * q.val = q.val; omega
  | ⟨2, _⟩ => show 0 + 1 * j.val = j.val; omega

theorem ld_w_2 (x : Vec Ideal S4x1024x1408 .bf16) (q : Fin 1024) (j : Fin 1408) : View.ld x (Rect.unit (s := S4x1024x1408) ![2, 0, 0] S1x1024x1408.size inb_S4x1024x1408_S1x1024x1408_2_0_0) (ix3 0 q j) = x (ix3 2 q j) := by
  show x _ = _
  refine congrArg x (funext fun a => Fin.ext ?_)
  match a with
  | ⟨0, _⟩ => rfl
  | ⟨1, _⟩ => show 0 + 1 * q.val = q.val; omega
  | ⟨2, _⟩ => show 0 + 1 * j.val = j.val; omega

theorem ld_w_3 (x : Vec Ideal S4x1024x1408 .bf16) (q : Fin 1024) (j : Fin 1408) : View.ld x (Rect.unit (s := S4x1024x1408) ![3, 0, 0] S1x1024x1408.size inb_S4x1024x1408_S1x1024x1408_3_0_0) (ix3 0 q j) = x (ix3 3 q j) := by
  show x _ = _
  refine congrArg x (funext fun a => Fin.ext ?_)
  match a with
  | ⟨0, _⟩ => rfl
  | ⟨1, _⟩ => show 0 + 1 * q.val = q.val; omega
  | ⟨2, _⟩ => show 0 + 1 * j.val = j.val; omega

include h

theorem rows_lo : Rows A (lo ρ) (View.ld x3 (Rect.unit (s := S512x1024) ![0, 0] S256x1024.size inb_S512x1024_S256x1024_0_0))
    (View.ld x0 (Rect.unit (s := S512x2816) ![0, 0] S256x1408.size inb_S512x2816_S256x1408_0_0)) (View.ld x2 (Rect.unit (s := S4x1024x1408) ![0, 0, 0] S1x1024x1408.size inb_S4x1024x1408_S1x1024x1408_0_0_0))
    (View.ld x0 (Rect.unit (s := S512x2816) ![0, 1408] S256x1408.size inb_S512x2816_S256x1408_0_1408)) (View.ld x2 (Rect.unit (s := S4x1024x1408) ![1, 0, 0] S1x1024x1408.size inb_S4x1024x1408_S1x1024x1408_1_0_0))
    (View.ld x1 (Rect.unit (s := S512x2816) ![0, 0] S256x1408.size inb_S512x2816_S256x1408_0_0)) (View.ld x2 (Rect.unit (s := S4x1024x1408) ![2, 0, 0] S1x1024x1408.size inb_S4x1024x1408_S1x1024x1408_2_0_0))
    (View.ld x1 (Rect.unit (s := S512x2816) ![0, 1408] S256x1408.size inb_S512x2816_S256x1408_0_1408)) (View.ld x2 (Rect.unit (s := S4x1024x1408) ![3, 0, 0] S1x1024x1408.size inb_S4x1024x1408_S1x1024x1408_3_0_0))
    (View.ld x4 (Rect.unit (s := S512x1024) ![0, 0] S256x1024.size inb_S512x1024_S256x1024_0_0)) (View.ld x5 (Rect.unit (s := S512x128) ![0, 0] S256x1.size inb_S512x128_S256x1_0_0)) x6 where
  d p q := (ld_d_lo x3 p q).trans (h.d _ _)
  u0 p j := (ld_u_lo x0 p j).trans ((h.u _ _).trans (congrArg (fun k => ((A.u (lo ρ p) k : ℝ) : EReal)) (Fin.ext (by
    show j.val = 1408 * 0 + j.val; omega))))
  w0 q j := (ld_w_0 x2 q j).trans (h.w _ _ _)
  u1 p j := (ld_v_lo x0 p j).trans ((h.u _ _).trans (congrArg (fun k => ((A.u (lo ρ p) k : ℝ) : EReal)) (Fin.ext (by
    show 1408 + j.val = 1408 * 1 + j.val; omega))))
  w1 q j := (ld_w_1 x2 q j).trans (h.w _ _ _)
  u2 p j := (ld_u_lo x1 p j).trans ((h.u' _ _).trans (congrArg (fun k => ((A.u (lo ρ p) k : ℝ) : EReal)) (Fin.ext (by
    show 2816 + (j.val) = 1408 * 2 + j.val; omega))))
  w2 q j := (ld_w_2 x2 q j).trans (h.w _ _ _)
  u3 p j := (ld_v_lo x1 p j).trans ((h.u' _ _).trans (congrArg (fun k => ((A.u (lo ρ p) k : ℝ) : EReal)) (Fin.ext (by
    show 2816 + (1408 + j.val) = 1408 * 3 + j.val; omega))))
  w3 q j := (ld_w_3 x2 q j).trans (h.w _ _ _)
  x p q := (ld_d_lo x4 p q).trans (h.x _ _)
  s p := (ld_s_lo x5 p 0).trans (h.s _ _)
  g := h.g

theorem rows_hi : Rows A (hi ρ) (View.ld x3 (Rect.unit (s := S512x1024) ![256, 0] S256x1024.size inb_S512x1024_S256x1024_256_0))
    (View.ld x0 (Rect.unit (s := S512x2816) ![256, 0] S256x1408.size inb_S512x2816_S256x1408_256_0)) (View.ld x2 (Rect.unit (s := S4x1024x1408) ![0, 0, 0] S1x1024x1408.size inb_S4x1024x1408_S1x1024x1408_0_0_0))
    (View.ld x0 (Rect.unit (s := S512x2816) ![256, 1408] S256x1408.size inb_S512x2816_S256x1408_256_1408)) (View.ld x2 (Rect.unit (s := S4x1024x1408) ![1, 0, 0] S1x1024x1408.size inb_S4x1024x1408_S1x1024x1408_1_0_0))
    (View.ld x1 (Rect.unit (s := S512x2816) ![256, 0] S256x1408.size inb_S512x2816_S256x1408_256_0)) (View.ld x2 (Rect.unit (s := S4x1024x1408) ![2, 0, 0] S1x1024x1408.size inb_S4x1024x1408_S1x1024x1408_2_0_0))
    (View.ld x1 (Rect.unit (s := S512x2816) ![256, 1408] S256x1408.size inb_S512x2816_S256x1408_256_1408)) (View.ld x2 (Rect.unit (s := S4x1024x1408) ![3, 0, 0] S1x1024x1408.size inb_S4x1024x1408_S1x1024x1408_3_0_0))
    (View.ld x4 (Rect.unit (s := S512x1024) ![256, 0] S256x1024.size inb_S512x1024_S256x1024_256_0)) (View.ld x5 (Rect.unit (s := S512x128) ![256, 0] S256x1.size inb_S512x128_S256x1_256_0)) x6 where
  d p q := (ld_d_hi x3 p q).trans (h.d _ _)
  u0 p j := (ld_u_hi x0 p j).trans ((h.u _ _).trans (congrArg (fun k => ((A.u (hi ρ p) k : ℝ) : EReal)) (Fin.ext (by
    show j.val = 1408 * 0 + j.val; omega))))
  w0 q j := (ld_w_0 x2 q j).trans (h.w _ _ _)
  u1 p j := (ld_v_hi x0 p j).trans ((h.u _ _).trans (congrArg (fun k => ((A.u (hi ρ p) k : ℝ) : EReal)) (Fin.ext (by
    show 1408 + j.val = 1408 * 1 + j.val; omega))))
  w1 q j := (ld_w_1 x2 q j).trans (h.w _ _ _)
  u2 p j := (ld_u_hi x1 p j).trans ((h.u' _ _).trans (congrArg (fun k => ((A.u (hi ρ p) k : ℝ) : EReal)) (Fin.ext (by
    show 2816 + (j.val) = 1408 * 2 + j.val; omega))))
  w2 q j := (ld_w_2 x2 q j).trans (h.w _ _ _)
  u3 p j := (ld_v_hi x1 p j).trans ((h.u' _ _).trans (congrArg (fun k => ((A.u (hi ρ p) k : ℝ) : EReal)) (Fin.ext (by
    show 2816 + (1408 + j.val) = 1408 * 3 + j.val; omega))))
  w3 q j := (ld_w_3 x2 q j).trans (h.w _ _ _)
  x p q := (ld_d_hi x4 p q).trans (h.x _ _)
  s p := (ld_s_hi x5 p 0).trans (h.s _ _)
  g := h.g

omit h

/-- The gradient block. -/
abbrev grd (A : Args) (ρ : Fin 512 → Fin 4096) (y : S512x1024.Idx) : EReal := (A.dz (ρ (y 0)) (y 1) : EReal)

theorem grd_lo (p : Fin 256) (q : Fin 1024) : grd A ρ ((Rect.unit (s := S512x1024) ![0, 0] S256x1024.size inb_S512x1024_S256x1024_0_0).emb (ix2 p q)) = (A.dz (lo ρ p) q : EReal) := by
  unfold grd lo
  congr 2
  · congr 1
    exact Fin.ext (show 0 + 1 * p.val = p.val by omega)
  · exact Fin.ext (show 0 + 1 * q.val = q.val by omega)

theorem grd_hi (p : Fin 256) (q : Fin 1024) : grd A ρ ((Rect.unit (s := S512x1024) ![256, 0] S256x1024.size inb_S512x1024_S256x1024_256_0).emb (ix2 p q)) = (A.dz (hi ρ p) q : EReal) := by
  unfold grd hi
  congr 2
  · congr 1
    exact Fin.ext (show 256 + 1 * p.val = 256 + p.val by omega)
  · exact Fin.ext (show 0 + 1 * q.val = q.val by omega)

/-! The sums of a block. -/

def blkDg (A : Args) (ρ : Fin 512 → Fin 4096) (q : Fin 1024) : ℝ :=
  ∑ p, A.cot (lo ρ p) q * nrm (A.z (lo ρ p)) q + ∑ p, A.cot (hi ρ p) q * nrm (A.z (hi ρ p)) q
def blkDb (A : Args) (ρ : Fin 512 → Fin 4096) (q : Fin 1024) : ℝ := ∑ p, A.cot (lo ρ p) q + ∑ p, A.cot (hi ρ p) q

include h

section
variable (hc0 : cond0_0 i) (hc1 : ¬cond0_1 i) (hc2 : cond0_2 i) (hc3 : ¬cond0_3 i)

theorem outA7 (y : S512x1024.Idx) : out0_A_7 c i a1 h1 a2 h2 a3 h3 a4 h4 a5 h5 a6 h6 a7 h7 a8 h8 a9 h9 a10 h10 a11 h11 hc0 hc1 hc2 hc3 x0 x1 x2 x3 x4 x5 x6 y = grd A ρ y := by
  unfold out0_A_7
  rw [View.read_writes_eq_canon _ _ _ (fun _ => cover0_A_7 ..)]
  refine View.canon_apply_of_pieces (Val := Elt Ideal) (e := .f32) (grd A ρ) _ ?_ y ?_
  swap; exact cover0_A_7 ..
  unfold kernelRun0_A
  dsimp only
  sl_unfold_words
  simp only [View.readAt_eq_ld, Memref.IsWhole.read_unread, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact (congrFun (again9 _ _ _ _ _ _ _ _ _ _ _ _) _).trans (pay9 (rows_hi h) p q)
  · obtain ⟨p, q, rfl⟩ : ∃ (p : Fin 256) (q : Fin 1024), x = ix2 p q := ⟨x 0, x 1, eq_ix2 x⟩
    refine Eq.trans ?_ (grd_lo p q).symm
    exact pay9 (rows_lo h) p q

theorem outA8 (y : S512x1024.Idx) : out0_A_8 c i a1 h1 a2 h2 a3 h3 a4 h4 a5 h5 a6 h6 a7 h7 a8 h8 a9 h9 a10 h10 a11 h11 hc0 hc1 hc2 hc3 x0 x1 x2 x3 x4 x5 x6 y = grd A ρ y := by
  unfold out0_A_8
  rw [View.read_writes_eq_canon _ _ _ (fun _ => cover0_A_8 ..)]
  refine View.canon_apply_of_pieces (Val := Elt Ideal) (e := .bf16) (grd A ρ) _ ?_ y ?_
  swap; exact cover0_A_8 ..
  unfold kernelRun0_A
  dsimp only
  sl_unfold_words
  simp only [View.readAt_eq_ld, Memref.IsWhole.read_unread, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact (congrFun (again10 _ _ _ _ _ _ _ _ _ _ _ _) _).trans (pay10 (rows_hi h) p q)
  · obtain ⟨p, q, rfl⟩ : ∃ (p : Fin 256) (q : Fin 1024), x = ix2 p q := ⟨x 0, x 1, eq_ix2 x⟩
    refine Eq.trans ?_ (grd_lo p q).symm
    exact pay10 (rows_lo h) p q

theorem outA9 (j : Fin 1024) : out0_A_9 c i a1 h1 a2 h2 a3 h3 a4 h4 a5 h5 a6 h6 a7 h7 a8 h8 a9 h9 a10 h10 a11 h11 hc0 hc1 hc2 hc3 x0 x1 x2 x3 x4 x5 x6 (ix2 0 j) = (blkDg A ρ j : EReal) := by
  unfold out0_A_9
  rw [View.read_writes_eq_canon _ _ _ (fun _ => cover0_A_9 ..)]
  unfold kernelRun0_A
  dsimp only
  sl_unfold_words
  rw [View.canon_unit_zero hz]
  simp only [View.readAt_eq_ld, Memref.IsWhole.read_unread, View.ld_unit_zero (S := S1x1024) hz]
  exact pay3 (rows_lo h) (rows_hi h) j

theorem outA10 (j : Fin 1024) : out0_A_10 c i a1 h1 a2 h2 a3 h3 a4 h4 a5 h5 a6 h6 a7 h7 a8 h8 a9 h9 a10 h10 a11 h11 hc0 hc1 hc2 hc3 x0 x1 x2 x3 x4 x5 x6 (ix2 0 j) = (blkDb A ρ j : EReal) := by
  unfold out0_A_10
  rw [View.read_writes_eq_canon _ _ _ (fun _ => cover0_A_10 ..)]
  unfold kernelRun0_A
  dsimp only
  sl_unfold_words
  rw [View.canon_unit_zero hz]
  simp only [View.readAt_eq_ld, Memref.IsWhole.read_unread, View.ld_unit_zero (S := S1x1024) hz]
  exact pay4 (rows_lo h) (rows_hi h) j

end

section
variable (hc0 : ¬cond0_0 i) (hc1 : cond0_1 i) (hc2 : ¬cond0_2 i) (hc3 : cond0_3 i)

theorem outB7 (y : S512x1024.Idx) : out0_B_7 c i a1 h1 a2 h2 a3 h3 a4 h4 a5 h5 a6 h6 a7 h7 a8 h8 a9 h9 a10 h10 a11 h11 hc0 hc1 hc2 hc3 x0 x1 x2 x3 x4 x5 x6 xo9 xo10 y = grd A ρ y := by
  unfold out0_B_7
  rw [View.read_writes_eq_canon _ _ _ (fun _ => cover0_B_7 ..)]
  refine View.canon_apply_of_pieces (Val := Elt Ideal) (e := .f32) (grd A ρ) _ ?_ y ?_
  swap; exact cover0_B_7 ..
  unfold kernelRun0_B
  dsimp only
  sl_unfold_words
  simp only [View.readAt_eq_ld, Memref.IsWhole.read_unread, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact (congrFun (again9 _ _ _ _ _ _ _ _ _ _ _ _) _).trans (pay9 (rows_hi h) p q)
  · obtain ⟨p, q, rfl⟩ : ∃ (p : Fin 256) (q : Fin 1024), x = ix2 p q := ⟨x 0, x 1, eq_ix2 x⟩
    refine Eq.trans ?_ (grd_lo p q).symm
    exact pay9 (rows_lo h) p q

theorem outB8 (y : S512x1024.Idx) : out0_B_8 c i a1 h1 a2 h2 a3 h3 a4 h4 a5 h5 a6 h6 a7 h7 a8 h8 a9 h9 a10 h10 a11 h11 hc0 hc1 hc2 hc3 x0 x1 x2 x3 x4 x5 x6 xo9 xo10 y = grd A ρ y := by
  unfold out0_B_8
  rw [View.read_writes_eq_canon _ _ _ (fun _ => cover0_B_8 ..)]
  refine View.canon_apply_of_pieces (Val := Elt Ideal) (e := .bf16) (grd A ρ) _ ?_ y ?_
  swap; exact cover0_B_8 ..
  unfold kernelRun0_B
  dsimp only
  sl_unfold_words
  simp only [View.readAt_eq_ld, Memref.IsWhole.read_unread, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (grd_hi p q).symm
    exact (congrFun (again10 _ _ _ _ _ _ _ _ _ _ _ _) _).trans (pay10 (rows_hi h) p q)
  · obtain ⟨p, q, rfl⟩ : ∃ (p : Fin 256) (q : Fin 1024), x = ix2 p q := ⟨x 0, x 1, eq_ix2 x⟩
    refine Eq.trans ?_ (grd_lo p q).symm
    exact pay10 (rows_lo h) p q

theorem outB9 (j : Fin 1024) : out0_B_9 c i a1 h1 a2 h2 a3 h3 a4 h4 a5 h5 a6 h6 a7 h7 a8 h8 a9 h9 a10 h10 a11 h11 hc0 hc1 hc2 hc3 x0 x1 x2 x3 x4 x5 x6 xo9 xo10 (ix2 0 j) = xo9 (ix2 0 j) + (blkDg A ρ j : EReal) := by
  unfold out0_B_9
  rw [View.read_writes_eq_canon _ _ _ (fun _ => cover0_B_9 ..)]
  unfold kernelRun0_B
  dsimp only
  sl_unfold_words
  rw [View.canon_unit_zero hz]
  simp only [View.readAt_eq_ld, Memref.IsWhole.read_unread, View.ld_unit_zero (S := S1x1024) hz]
  unfold k0_pay5
  simp only [shapeCast_self]
  exact congrArg (xo9 (ix2 0 j) + ·) (pay3 (rows_lo h) (rows_hi h) j)

theorem outB10 (j : Fin 1024) : out0_B_10 c i a1 h1 a2 h2 a3 h3 a4 h4 a5 h5 a6 h6 a7 h7 a8 h8 a9 h9 a10 h10 a11 h11 hc0 hc1 hc2 hc3 x0 x1 x2 x3 x4 x5 x6 xo9 xo10 (ix2 0 j) = xo10 (ix2 0 j) + (blkDb A ρ j : EReal) := by
  unfold out0_B_10
  rw [View.read_writes_eq_canon _ _ _ (fun _ => cover0_B_10 ..)]
  unfold kernelRun0_B
  dsimp only
  sl_unfold_words
  rw [View.canon_unit_zero hz]
  simp only [View.readAt_eq_ld, Memref.IsWhole.read_unread, View.ld_unit_zero (S := S1x1024) hz]
  unfold k0_pay6
  simp only [shapeCast_self]
  exact congrArg (xo10 (ix2 0 j) + ·) (pay4 (rows_lo h) (rows_hi h) j)

end

end Cert.Ln1Cases

end
-- ==== Proof.Ln1Value.lean ====
/- The first layer norm's gradient: the kernel's four results, over its eight blocks of 512 rows, at an index. -/
module

public import proofs.«01_k».proof.Proof.Ln1Cases
public import proofs.«01_k».proof.Proof.SumBlocks
public import proofs.«01_k».proof.Proof.Gen.Ln1Ideal.Value
public import Idealize.ShloMosaic.Lib.StableHlo.ReadAt
public import Idealize.ShloMosaic.Lib.Pipeline.ValueKit.Geometry

@[expose] public section

set_option maxRecDepth 16384

noncomputable section

namespace Cert.Ln1Value

open Idealize.ShloMosaic Idealize.ShloMosaic.TcCoe Idealize.SL.Sem
open Cert.Ln1Ideal Cert.Ln1Ideal.Gen Cert.Consts Cert.LnRow Cert.Ln1Cases Cert.Ln1Tile
open Cert.Ln1Ref (Args Holds)

variable (m : (ℓ : Loc nD τ sig) → Buf (Elt Ideal) ℓ) (c : Dev nD)

/-- The arguments as launched. -/
abbrev A0 : Vec Ideal S4096x1024 .f32 := m ((c : Thread nD τ).loc main_arg0)
abbrev A1 : Vec Ideal S1x1024 .f32 := m ((c : Thread nD τ).loc main_arg1)
abbrev A3 : Vec Ideal S1024x5632 .f32 := m ((c : Thread nD τ).loc main_arg3)
abbrev A4 : Vec Ideal S4096x1024 .f32 := m ((c : Thread nD τ).loc main_arg4)
abbrev A5 : Vec Ideal S4096x5632 .f32 := m ((c : Thread nD τ).loc main_arg5)

/-- Row `r` of block `n` in the whole array (a number past the last block wraps round). -/
def row (n : ℕ) (r : Fin 512) : Fin 4096 := ⟨(512 * n + r.val) % 4096, Nat.mod_lt _ (by decide)⟩

theorem row_val (t : Fin cfg0.N) (r : Fin 512) : (row t.val r).val = t.val * 512 + 1 * r.val := by
  have := lt_of_lt_of_eq t.isLt N_0; have := r.isLt
  show (512 * t.val + r.val) % 4096 = _
  omega

theorem win0 : ∀ t : Fin cfg0.N, win0_0.index t = ![t.val, 0] := (by decide +kernel : ∀ t : Fin grid0.N, _)
theorem win1 : ∀ t : Fin cfg0.N, win0_1.index t = ![t.val, 0] := (by decide +kernel : ∀ t : Fin grid0.N, _)
theorem win2 : ∀ t : Fin cfg0.N, win0_2.index t = ![0, 0, 0] := (by decide +kernel : ∀ t : Fin grid0.N, _)
theorem win3 : ∀ t : Fin cfg0.N, win0_3.index t = ![t.val, 0] := (by decide +kernel : ∀ t : Fin grid0.N, _)
theorem win4 : ∀ t : Fin cfg0.N, win0_4.index t = ![t.val, 0] := (by decide +kernel : ∀ t : Fin grid0.N, _)
theorem win5 : ∀ t : Fin cfg0.N, win0_5.index t = ![t.val, 0] := (by decide +kernel : ∀ t : Fin grid0.N, _)
theorem win6 : ∀ t : Fin cfg0.N, win0_6.index t = ![0, 0] := (by decide +kernel : ∀ t : Fin grid0.N, _)
theorem win7 : ∀ t : Fin cfg0.N, win0_7.index t = ![t.val, 0] := (by decide +kernel : ∀ t : Fin grid0.N, _)
theorem win8 : ∀ t : Fin cfg0.N, win0_8.index t = ![t.val, 0] := (by decide +kernel : ∀ t : Fin grid0.N, _)
theorem win9 : ∀ t : Fin cfg0.N, win0_9.index t = ![0, 0] := (by decide +kernel : ∀ t : Fin grid0.N, _)
theorem win10 : ∀ t : Fin cfg0.N, win0_10.index t = ![0, 0] := (by decide +kernel : ∀ t : Fin grid0.N, _)

/-! What the host lines hand the kernel. -/

theorem V18_at (p : Fin 4096) (k : Fin 2816) : V m c main_v18 (ix2 p k) = A5 m c (ix2 p ⟨k.val, by omega⟩) := by
  unfold V
  after_reads_at

theorem V19_at (p : Fin 4096) (k : Fin 2816) : V m c main_v19 (ix2 p k) = A5 m c (ix2 p ⟨2816 + k.val, by omega⟩) := by
  unfold V
  after_reads_at

theorem V16_at (k : Fin 4) (q : Fin 1024) (j : Fin 1408) : V m c main_v16 (ix3 k q j) = A3 m c (ix2 q (col k j)) := by
  unfold V
  after_reads_at
  exact congrArg (fun n => A3 m c (ix2 q n)) (Fin.ext (show k.val * 1408 + j.val = 1408 * k.val + j.val by omega))

section
variable {f : Fin 1024 → ℝ} {x : Fin 1024 → EReal} (hx : ∀ q, x q = (f q : EReal))
include hx

theorem host_mean : Ideal.div (∑ q, x q) (Ideal.ofBits FTy.f32 1149239296#32) = (mean f : EReal) := by
  simp only [hx, of_1024, coe_sum, div_1024]
  rfl

theorem host_rs : Ideal.rsqrt (Ideal.div (∑ q, (x q - Ideal.div (∑ q, x q) (Ideal.ofBits FTy.f32 1149239296#32)) * (x q - Ideal.div (∑ q, x q) (Ideal.ofBits FTy.f32 1149239296#32)))
    (Ideal.ofBits FTy.f32 1149239296#32) + Ideal.ofBits FTy.f32 925353388#32) = (rs f : EReal) := by
  simp only [host_mean hx]
  simp only [hx, of_1024, of_eps, ← EReal.coe_sub, ← EReal.coe_mul, coe_sum, div_1024, ← EReal.coe_add]
  exact rsqrt_pos (spread_pos f)

theorem host_nrm (q : Fin 1024) : (x q - Ideal.div (∑ q, x q) (Ideal.ofBits FTy.f32 1149239296#32))
    * Ideal.rsqrt (Ideal.div (∑ q, (x q - Ideal.div (∑ q, x q) (Ideal.ofBits FTy.f32 1149239296#32)) * (x q - Ideal.div (∑ q, x q) (Ideal.ofBits FTy.f32 1149239296#32)))
    (Ideal.ofBits FTy.f32 1149239296#32) + Ideal.ofBits FTy.f32 925353388#32) = (nrm f q : EReal) := by
  rw [host_rs hx, host_mean hx, hx, ← EReal.coe_sub, ← EReal.coe_mul]
  rfl

end

section
variable {f : Fin 4096 → Fin 1024 → ℝ} (hz : ∀ p q, A0 m c (ix2 p q) = (f p q : EReal)) (p : Fin 4096)
include hz

theorem V23_at (q : Fin 1024) : (V m c main_v23 (ix2 p q) : EReal) = (nrm (f p) q : EReal) := by
  unfold V
  after_reads_at
  exact host_nrm (x := fun q => A0 m c (ix2 p q)) (hz p) q

theorem V24_at (q : Fin 128) : (V m c main_v24 (ix2 p q) : EReal) = (rs (f p) : EReal) := by
  unfold V
  after_reads_at
  exact host_rs (x := fun q => A0 m c (ix2 p q)) (hz p)

end

/-! The kernel's input blocks. -/

theorem iblk0 (t : Fin cfg0.N) (r : Fin 512) (q : Fin 2816) : iblk m c 0 t (ix2 r q) = V m c main_v18 (ix2 (row t.val r) q) := by
  blk_simp [iblk]
  refine congrArg (V m c main_v18) ?_
  blk_ext [win0, row_val]

theorem iblk1 (t : Fin cfg0.N) (r : Fin 512) (q : Fin 2816) : iblk m c 1 t (ix2 r q) = V m c main_v19 (ix2 (row t.val r) q) := by
  blk_simp [iblk]
  refine congrArg (V m c main_v19) ?_
  blk_ext [win1, row_val]

theorem iblk2 (t : Fin cfg0.N) (k : Fin 4) (r : Fin 1024) (q : Fin 1408) : iblk m c 2 t (ix3 k r q) = V m c main_v16 (ix3 k r q) := by
  blk_simp [iblk]
  refine congrArg (V m c main_v16) ?_
  blk_ext [win2, row_val]

theorem iblk3 (t : Fin cfg0.N) (r : Fin 512) (q : Fin 1024) : iblk m c 3 t (ix2 r q) = V m c main_arg4 (ix2 (row t.val r) q) := by
  blk_simp [iblk]
  refine congrArg (V m c main_arg4) ?_
  blk_ext [win3, row_val]

theorem iblk4 (t : Fin cfg0.N) (r : Fin 512) (q : Fin 1024) : iblk m c 4 t (ix2 r q) = V m c main_v23 (ix2 (row t.val r) q) := by
  blk_simp [iblk]
  refine congrArg (V m c main_v23) ?_
  blk_ext [win4, row_val]

theorem iblk5 (t : Fin cfg0.N) (r : Fin 512) (q : Fin 128) : iblk m c 5 t (ix2 r q) = V m c main_v24 (ix2 (row t.val r) q) := by
  blk_simp [iblk]
  refine congrArg (V m c main_v24) ?_
  blk_ext [win5, row_val]

theorem iblk6 (t : Fin cfg0.N) (q : Fin 1024) : iblk m c 6 t (ix2 0 q) = V m c main_arg1 (ix2 0 q) := by
  blk_simp [iblk]
  refine congrArg (V m c main_arg1) ?_
  blk_ext [win6, row_val]

variable {A : Args} (h : Holds A (A0 m c) (A1 m c) (A3 m c) (A4 m c) (A5 m c))
include h

/-- The input blocks of point `t` hold its rows. -/
theorem block (t : Fin cfg0.N) : Block A (row t.val) (iblk m c 0 t) (iblk m c 1 t) (iblk m c 2 t) (iblk m c 3 t) (iblk m c 4 t) (iblk m c 5 t) (iblk m c 6 t) where
  u p k := (iblk0 m c t p k).trans ((V18_at m c _ _).trans (h.u _ _))
  u' p k := (iblk1 m c t p k).trans ((V19_at m c _ _).trans (h.u _ _))
  w k q j := (iblk2 m c t k q j).trans ((V16_at m c _ _ _).trans (h.w _ _))
  d p q := (iblk3 m c t p q).trans ((congrFun (V_main_arg4 m c) _).trans (h.d _ _))
  x p q := (iblk4 m c t p q).trans (V23_at m c h.z _ q)
  s p j := (iblk5 m c t p j).trans (V24_at m c h.z _ j)
  g q := (iblk6 m c t q).trans ((congrFun (V_main_arg1 m c) _).trans (h.g q))

/-! What a point leaves in the four output blocks. -/

theorem pt7A (t : Fin cfg0.N) (h0 : t.val % 8 = 0) (h1 : ¬1 ≤ t.val) (y : S512x1024.Idx) : (outsAt0 m c t.val t.isLt).1 y = grd A (row t.val) y := by
  rw [outsAt0_A m c t h0 h1 h0 h1]
  dsimp only
  apply outA7
  exact block m c h t

theorem pt7B (t : Fin cfg0.N) (h0 : ¬t.val % 8 = 0) (h1 : 1 ≤ t.val) (y : S512x1024.Idx) : (outsAt0 m c t.val t.isLt).1 y = grd A (row t.val) y := by
  rw [outsAt0_B m c t h0 h1 h0 h1]
  dsimp only
  apply outB7
  exact block m c h t

theorem pt7 (t : Fin cfg0.N) (y : S512x1024.Idx) : (outsAt0 m c t.val t.isLt).1 y = grd A (row t.val) y := by
  have := lt_of_lt_of_eq t.isLt N_0
  by_cases h1 : 1 ≤ t.val
  · exact pt7B m c h t (by omega) h1 y
  · exact pt7A m c h t (by omega) h1 y

theorem pt8A (t : Fin cfg0.N) (h0 : t.val % 8 = 0) (h1 : ¬1 ≤ t.val) (y : S512x1024.Idx) : (outsAt0 m c t.val t.isLt).2.1 y = grd A (row t.val) y := by
  rw [outsAt0_A m c t h0 h1 h0 h1]
  dsimp only
  apply outA8
  exact block m c h t

theorem pt8B (t : Fin cfg0.N) (h0 : ¬t.val % 8 = 0) (h1 : 1 ≤ t.val) (y : S512x1024.Idx) : (outsAt0 m c t.val t.isLt).2.1 y = grd A (row t.val) y := by
  rw [outsAt0_B m c t h0 h1 h0 h1]
  dsimp only
  apply outB8
  exact block m c h t

theorem pt8 (t : Fin cfg0.N) (y : S512x1024.Idx) : (outsAt0 m c t.val t.isLt).2.1 y = grd A (row t.val) y := by
  have := lt_of_lt_of_eq t.isLt N_0
  by_cases h1 : 1 ≤ t.val
  · exact pt8B m c h t (by omega) h1 y
  · exact pt8A m c h t (by omega) h1 y

theorem pt9A (t : Fin cfg0.N) (h0 : t.val % 8 = 0) (h1 : ¬1 ≤ t.val) (j : Fin 1024) : (outsAt0 m c t.val t.isLt).2.2.1 (ix2 0 j) = (blkDg A (row t.val) j : EReal) := by
  rw [outsAt0_A m c t h0 h1 h0 h1]
  dsimp only
  apply outA9
  exact block m c h t

theorem pt9B (t : Fin cfg0.N) (h0 : ¬t.val % 8 = 0) (h1 : 1 ≤ t.val) (j : Fin 1024) : (outsAt0 m c t.val t.isLt).2.2.1 (ix2 0 j)
    = (outsAt0 m c (t.val - 1) (Nat.lt_of_le_of_lt (Nat.sub_le _ _) t.isLt)).2.2.1 (ix2 0 j) + (blkDg A (row t.val) j : EReal) := by
  rw [outsAt0_B m c t h0 h1 h0 h1]
  dsimp only
  apply outB9
  exact block m c h t

/-- The running sum after point `n`. -/
theorem sum9 (j : Fin 1024) : ∀ (n : ℕ) (hn : n < cfg0.N), (outsAt0 m c n hn).2.2.1 (ix2 0 j) = ((∑ i ∈ Finset.range (n + 1), blkDg A (row i) j : ℝ) : EReal)
  | 0, hn => by
    rw [Finset.sum_range_one]
    exact pt9A m c h ⟨0, hn⟩ rfl (Nat.not_succ_le_zero 0) j
  | n + 1, hn => by
    have := lt_of_lt_of_eq hn N_0
    rw [Finset.sum_range_succ, EReal.coe_add, ← sum9 j n (by omega)]
    exact pt9B m c h ⟨n + 1, hn⟩ (show ¬(n + 1) % 8 = 0 by omega) (show 1 ≤ n + 1 by omega) j

theorem pt10A (t : Fin cfg0.N) (h0 : t.val % 8 = 0) (h1 : ¬1 ≤ t.val) (j : Fin 1024) : (outsAt0 m c t.val t.isLt).2.2.2 (ix2 0 j) = (blkDb A (row t.val) j : EReal) := by
  rw [outsAt0_A m c t h0 h1 h0 h1]
  dsimp only
  apply outA10
  exact block m c h t

theorem pt10B (t : Fin cfg0.N) (h0 : ¬t.val % 8 = 0) (h1 : 1 ≤ t.val) (j : Fin 1024) : (outsAt0 m c t.val t.isLt).2.2.2 (ix2 0 j)
    = (outsAt0 m c (t.val - 1) (Nat.lt_of_le_of_lt (Nat.sub_le _ _) t.isLt)).2.2.2 (ix2 0 j) + (blkDb A (row t.val) j : EReal) := by
  rw [outsAt0_B m c t h0 h1 h0 h1]
  dsimp only
  apply outB10
  exact block m c h t

/-- The running sum after point `n`. -/
theorem sum10 (j : Fin 1024) : ∀ (n : ℕ) (hn : n < cfg0.N), (outsAt0 m c n hn).2.2.2 (ix2 0 j) = ((∑ i ∈ Finset.range (n + 1), blkDb A (row i) j : ℝ) : EReal)
  | 0, hn => by
    rw [Finset.sum_range_one]
    exact pt10A m c h ⟨0, hn⟩ rfl (Nat.not_succ_le_zero 0) j
  | n + 1, hn => by
    have := lt_of_lt_of_eq hn N_0
    rw [Finset.sum_range_succ, EReal.coe_add, ← sum10 j n (by omega)]
    exact pt10B m c h ⟨n + 1, hn⟩ (show ¬(n + 1) % 8 = 0 by omega) (show 1 ≤ n + 1 by omega) j

omit h

/-- A sum over the rows, block by block and half by half. -/
theorem sum_rows (f : Fin 4096 → ℝ) : ∑ i ∈ Finset.range 8, (∑ p, f (lo (row i) p) + ∑ p, f (hi (row i) p)) = ∑ r, f r := by
  rw [Sums.sum_blocks 8 512 rfl, Finset.sum_range (n := 8)]
  refine Finset.sum_congr rfl fun t _ => ?_
  rw [Sums.sum_blocks 2 256 rfl, Fin.sum_univ_two]
  have e : ∀ (k : Fin 512), row t.val k = Sums.at' 8 512 rfl t k := fun k => Fin.ext (by
    have := t.isLt; have := k.isLt
    show (512 * t.val + k.val) % 4096 = 512 * t.val + k.val
    omega)
  congr 1
  · refine Finset.sum_congr rfl fun p _ => congrArg f ((e _).trans (congrArg _ (Fin.ext ?_)))
    show p.val = 256 * 0 + p.val
    omega
  · refine Finset.sum_congr rfl fun p _ => congrArg f ((e _).trans (congrArg _ (Fin.ext ?_)))
    show 256 + p.val = 256 * 1 + p.val
    omega

theorem total_dg (q : Fin 1024) : ∑ i ∈ Finset.range 8, blkDg A (row i) q = A.dg q := sum_rows fun r => A.cot r q * nrm (A.z r) q
theorem total_db (q : Fin 1024) : ∑ i ∈ Finset.range 8, blkDb A (row i) q = A.db q := sum_rows fun r => A.cot r q

/-! The arrays after the run. -/

theorem final7 (h : Holds A (A0 m c) (A1 m c) (A3 m c) (A4 m c) (A5 m c)) : (dats m 0 c).arrAt 7 cfg0.N = (fun i => (A.dz (i 0) (i 1) : EReal) : S4096x1024.Idx → EReal) := by
  refine (dats m 0 c).arrAt_eq_of_covers 7 _ (by decide +kernel) fun t hf y => ?_
  blk_simp
  rw [after0_7]
  refine Eq.trans (pt7 m c h t _) ?_
  obtain ⟨p, q, rfl⟩ : ∃ (p : Fin 512) (q : Fin 1024), y = ix2 p q := ⟨y 0, y 1, eq_ix2 y⟩
  have e : ((win0_7.blk t).view.emb (ix2 p q) : S4096x1024.Idx) = ix2 (row t.val p) q := by blk_ext [win7, row_val]
  rw [e]
  rfl

theorem final8 (h : Holds A (A0 m c) (A1 m c) (A3 m c) (A4 m c) (A5 m c)) : (dats m 0 c).arrAt 8 cfg0.N = (fun i => (A.dz (i 0) (i 1) : EReal) : S4096x1024.Idx → EReal) := by
  refine (dats m 0 c).arrAt_eq_of_covers 8 _ (by decide +kernel) fun t hf y => ?_
  blk_simp
  rw [after0_8]
  refine Eq.trans (pt8 m c h t _) ?_
  obtain ⟨p, q, rfl⟩ : ∃ (p : Fin 512) (q : Fin 1024), y = ix2 p q := ⟨y 0, y 1, eq_ix2 y⟩
  have e : ((win0_8.blk t).view.emb (ix2 p q) : S4096x1024.Idx) = ix2 (row t.val p) q := by blk_ext [win8, row_val]
  rw [e]
  rfl

theorem final9 (h : Holds A (A0 m c) (A1 m c) (A3 m c) (A4 m c) (A5 m c)) : (dats m 0 c).arrAt 9 cfg0.N = (fun i => (A.dg (i 1) : EReal) : S1x1024.Idx → EReal) := by
  refine (dats m 0 c).arrAt_eq_of_covers 9 _ (by decide +kernel) fun t hf y => ?_
  have ht : t.val = 7 := by
    have := lt_of_lt_of_eq t.isLt N_0
    have := (flush0_9 t).mp hf
    omega
  blk_simp
  rw [after0_9]
  obtain ⟨p, q, rfl⟩ : ∃ (p : Fin 1) (q : Fin 1024), y = ix2 p q := ⟨y 0, y 1, eq_ix2 y⟩
  obtain rfl : p = 0 := Subsingleton.elim _ _
  refine Eq.trans (sum9 m c h q t.val t.isLt) ?_
  rw [ht, total_dg]
  refine congrArg (fun q => ((A.dg q : ℝ) : EReal)) (Fin.ext ?_)
  blk_simp [win9, row_val]

theorem final10 (h : Holds A (A0 m c) (A1 m c) (A3 m c) (A4 m c) (A5 m c)) : (dats m 0 c).arrAt 10 cfg0.N = (fun i => (A.db (i 1) : EReal) : S1x1024.Idx → EReal) := by
  refine (dats m 0 c).arrAt_eq_of_covers 10 _ (by decide +kernel) fun t hf y => ?_
  have ht : t.val = 7 := by
    have := lt_of_lt_of_eq t.isLt N_0
    have := (flush0_10 t).mp hf
    omega
  blk_simp
  rw [after0_10]
  obtain ⟨p, q, rfl⟩ : ∃ (p : Fin 1) (q : Fin 1024), y = ix2 p q := ⟨y 0, y 1, eq_ix2 y⟩
  obtain rfl : p = 0 := Subsingleton.elim _ _
  refine Eq.trans (sum10 m c h q t.val t.isLt) ?_
  rw [ht, total_db]
  refine congrArg (fun q => ((A.db q : ℝ) : EReal)) (Fin.ext ?_)
  blk_simp [win10, row_val]

end Cert.Ln1Value

end
-- ==== Proof.Ln1Equal.lean ====
/- The first layer norm's gradient: on finite arguments the kernel's four results are the reference's. -/
module

public import proofs.«01_k».proof.Defs
public import proofs.«01_k».proof.Proof.Ln1Value
public import proofs.«01_k».proof.Proof.Finite
public import proofs.«01_k».proof.Proof.Gen.Pre_finite_ln1
public import Idealize.ShloMosaic.Lib.Quiescent

@[expose] public section

set_option maxRecDepth 16384

noncomputable section

namespace Cert.Ln1Equal

open Idealize.ShloMosaic Idealize.ShloMosaic.TcCoe Idealize.SL.Sem
open Cert.Ln1Ref (Args Holds)
open Cert.Ln1RefIdeal Cert.Ln1RefIdeal.Read

section
variable {x0 : Vec Ideal S4096x1024 .f32} {x1 x2 : Vec Ideal S1x1024 .f32} {x3 : Vec Ideal S1024x5632 .f32}
    {x4 : Vec Ideal S4096x1024 .f32} {x5 : Vec Ideal S4096x5632 .f32}

/-- Finite arguments hold reals. -/
theorem holds (hp : Cert.Pre_finite_ln1.fn (F := Ideal) x0 x1 x2 x3 x4 x5 = fun _ => 1#1) : ∃ A : Args, Holds A x0 x1 x3 x4 x5 := by
  have e := congrFun hp (fun i => i.elim0)
  unfold Cert.Pre_finite_ln1.fn Cert.Pre_finite_ln1.fn_part1 at e
  obtain ⟨e, h5⟩ := Finite.and_one e
  obtain ⟨e, h4⟩ := Finite.and_one e
  obtain ⟨e, h3⟩ := Finite.and_one e
  obtain ⟨h0, h1⟩ := Finite.and_one e
  obtain ⟨z, hz⟩ := Finite.choose2 (Finite.all_real x0 _ _ _ _ _ h0)
  obtain ⟨g, hg⟩ := Finite.choose2 (Finite.all_real x1 _ _ _ _ _ h1)
  obtain ⟨w, hw⟩ := Finite.choose2 (Finite.all_real x3 _ _ _ _ _ h3)
  obtain ⟨d, hd⟩ := Finite.choose2 (Finite.all_real x4 _ _ _ _ _ h4)
  obtain ⟨u, hu⟩ := Finite.choose2 (Finite.all_real x5 _ _ _ _ _ h5)
  exact ⟨⟨z, g 0, w, d, u⟩, hz, hg 0, hw, hd, hu⟩

variable {A : Args} (h : Holds A x0 x1 x3 x4 x5)
include h

theorem ref70 : val_main_v70 (F := Ideal) x0 x1 x3 x4 x5 = fun i => (A.dz (i 0) (i 1) : EReal) := by
  funext i
  obtain ⟨p, q, rfl⟩ : ∃ (p : Fin 4096) (q : Fin 1024), i = ix2 p q := ⟨i 0, i 1, eq_ix2 i⟩
  exact Ln1Ref.v70 h p q

theorem ref73 : val_main_v73 (F := Ideal) x0 x1 x3 x4 x5 = fun i => (A.dz (i 0) (i 1) : EReal) := by
  funext i
  obtain ⟨p, q, rfl⟩ : ∃ (p : Fin 4096) (q : Fin 1024), i = ix2 p q := ⟨i 0, i 1, eq_ix2 i⟩
  pointwise [val_main_v73]
  exact Ln1Ref.v70 h p q

theorem ref72 : val_main_v72 (F := Ideal) x0 x3 x4 x5 = fun i => (A.dg (i 1) : EReal) := by
  funext i
  obtain ⟨p, q, rfl⟩ : ∃ (p : Fin 1) (q : Fin 1024), i = ix2 p q := ⟨i 0, i 1, eq_ix2 i⟩
  obtain rfl : p = 0 := Subsingleton.elim _ _
  exact Ln1Ref.v72 h q

theorem ref71 : val_main_v71 (F := Ideal) x3 x4 x5 = fun i => (A.db (i 1) : EReal) := by
  funext i
  obtain ⟨p, q, rfl⟩ : ∃ (p : Fin 1) (q : Fin 1024), i = ix2 p q := ⟨i 0, i 1, eq_ix2 i⟩
  obtain rfl : p = 0 := Subsingleton.elim _ _
  exact Ln1Ref.v71 h q

end

theorem quiescent_ref : quiescent_Ln1RefIdeal := fun m ρ _ =>
  (θ_run Cert.Ln1RefIdeal.defs _ _).mono (fun r h => ⟨fun c => (h c).2.2.2.2, sem_eq_zero_of_no_sems (by decide) r.2⟩)
    (Cert.Ln1RefIdeal.Value.run (F := Ideal) m ρ)

theorem algebraic : algebraic_Ln1Ideal_Ln1RefIdeal_pre_finite_ln1 := by
  intro m ρ m' ρ' hpre hagree
  refine ⟨_, _, _, _, Cert.Ln1Ideal.Value.run_blocks (F := Ideal) m ρ, ?_⟩
  refine (θ_run Cert.Ln1RefIdeal.defs _ _).mono (fun _ h c => ?_) (Cert.Ln1RefIdeal.Value.run (F := Ideal) m' ρ')
  obtain ⟨A, hA⟩ := holds (hpre c)
  obtain ⟨e0, e1, e2, e3, e4, e5⟩ := hagree c
  obtain ⟨r0, r1, r2, r3, hk⟩ := h c
  refine ⟨?_, ?_, ?_, ?_, hk⟩
  · refine r0.trans ((val_main_v70_eq _ _).trans ?_)
    rw [e0, e1, e3, e4, e5]
    exact (ref70 hA).trans (Ln1Value.final7 m c hA).symm
  · refine r1.trans ((val_main_v73_eq _ _).trans ?_)
    rw [e0, e1, e3, e4, e5]
    exact (ref73 hA).trans (Ln1Value.final8 m c hA).symm
  · refine r2.trans ((val_main_v72_eq _ _ _ _).trans ?_)
    rw [e0, e3, e4, e5]
    exact (ref72 hA).trans (Ln1Value.final9 m c hA).symm
  · refine r3.trans ((val_main_v71_eq _ _ _).trans ?_)
    rw [e3, e4, e5]
    exact (ref71 hA).trans (Ln1Value.final10 m c hA).symm

end Cert.Ln1Equal

end
-- ==== Proof.RmsRow.lean ====
/- The root-mean-square norm of one row of 768 reals and its gradient, and sums over the twelve heads of 64 columns. -/
module

public import proofs.«01_k».proof.Proof.Consts
public import proofs.«01_k».proof.Proof.SumBlocks

@[expose] public section

noncomputable section

namespace Cert.RmsRow

open Idealize.ShloMosaic Cert.Consts

theorem of_768 : Ideal.ofBits .f32 0x44400000#32 = ((768 : ℝ) : EReal) := by
  simp [Ideal.ofBits, Ideal.ieee, -EReal.coe_mul]; norm_num

theorem div_768 (x : ℝ) : Ideal.div (x : EReal) ((768 : ℝ) : EReal) = ((x * (1 / 768) : ℝ) : EReal) := by
  rw [Ideal.div_coe (by norm_num), EReal.coe_mul]

def mean (f : Fin 768 → ℝ) : ℝ := (∑ q, f q) * (1 / 768)
def size (f : Fin 768 → ℝ) : ℝ := mean (fun q => f q * f q) + eps
def rs (f : Fin 768 → ℝ) : ℝ := (Real.sqrt (size f))⁻¹
/-- The row's gradient for the cotangent `d` of its normalised entries. -/
def grad (f d : Fin 768 → ℝ) (q : Fin 768) : ℝ := rs f * (d q - f q * (rs f * rs f) * mean (fun q => d q * f q))

theorem size_pos (f : Fin 768 → ℝ) : 0 < size f := by
  have : 0 ≤ mean (fun q => f q * f q) :=
    mul_nonneg (Finset.sum_nonneg fun q _ => mul_self_nonneg _) (by norm_num)
  have := eps_pos
  unfold size; linarith

theorem rs_sq (f : Fin 768 → ℝ) : rs f * rs f = (size f)⁻¹ := by
  unfold rs
  rw [← mul_inv, Real.mul_self_sqrt (size_pos f).le]

/-- The chain rule through the mean square, as the reference takes it, is the closed form `grad`. -/
theorem chain (f d : Fin 768 → ℝ) (q : Fin 768) :
    d q * rs f + (∑ k, f k * d k) * (-1 / 2 * (rs f * (1 / size f))) * (1 / 768) * (2 * f q) = grad f d q := by
  have hs : 1 / size f = rs f * rs f := by rw [rs_sq, one_div]
  have hc : (∑ k, f k * d k) = ∑ k, d k * f k := Finset.sum_congr rfl fun k _ => mul_comm _ _
  rw [hs, hc]
  unfold grad mean
  ring

/-- The head a column lies in. -/
def head (q : Fin 768) : Fin 12 := ⟨q.val / 64, by have := q.isLt; omega⟩

/-- A sum against the indicator of the column's head is the sum over the head. -/
theorem sum_head (f : Fin 768 → ℝ) (q : Fin 768) :
    (∑ j, f j * (if j.val / 64 = q.val / 64 then 1 else 0)) = ∑ k, f (Sums.at' 12 64 rfl (head q) k) := by
  rw [Sums.sum_blocks 12 64 rfl, Finset.sum_eq_single (head q)]
  · refine Finset.sum_congr rfl fun k _ => ?_
    rw [if_pos, mul_one]
    show (64 * (q.val / 64) + k.val) / 64 = q.val / 64
    have := k.isLt; omega
  · intro b _ hb
    refine Finset.sum_eq_zero fun k _ => ?_
    rw [if_neg, mul_zero]
    intro he
    refine hb (Fin.ext ?_)
    have : (64 * b.val + k.val) / 64 = q.val / 64 := he
    show b.val = q.val / 64
    have := k.isLt; omega
  · intro hn; exact absurd (Finset.mem_univ _) hn

end Cert.RmsRow

end
-- ==== Proof.DmixRef.lean ====
/- The reference of the gradient of the mixed heads, read at an index: every value is a real. -/
module

public import proofs.«01_k».proof.Proof.RmsRow
public import proofs.«01_k».proof.Proof.Gen.DmixRefIdeal.Run
public import proofs.«01_k».proof.Proof.Gen.DmixRefIdeal.Read
public import Idealize.ShloMosaic.Lib.Pointwise

@[expose] public section

set_option maxRecDepth 16384

noncomputable section

namespace Cert.DmixRef

open Idealize.ShloMosaic Idealize.ShloMosaic.TcCoe Idealize.SL.Sem
open Cert.DmixRefIdeal Cert.DmixRefIdeal.Read Cert.Consts Cert.RmsRow

/-- The real arrays of the arguments: the cotangent of the output projection, its weight, the attention's output and the
    norm's gain. -/
structure Args where
  y : Fin 4096 → Fin 1024 → ℝ
  w : Fin 1024 → Fin 1024 → ℝ
  a : Fin 4096 → Fin 768 → ℝ
  g : Fin 768 → ℝ

/-- The attention's columns of the mixed row, and the convolution's. -/
abbrev colA (q : Fin 768) : Fin 1024 := ⟨q.val, by omega⟩
abbrev colC (q : Fin 256) : Fin 1024 := ⟨768 + q.val, by omega⟩

namespace Args
variable (A : Args)
/-- The cotangent of the mixed row. -/
def cot (r : Fin 4096) (q : Fin 1024) : ℝ := ∑ k, A.y r k * A.w q k
def da (r : Fin 4096) (q : Fin 768) : ℝ := grad (A.a r) (fun q => A.cot r (colA q) * A.g q) q
def dd (r : Fin 4096) (q : Fin 768) : ℝ := ∑ k, A.da r (Sums.at' 12 64 rfl (head q) k) * A.a r (Sums.at' 12 64 rfl (head q) k)
def dc (r : Fin 4096) (q : Fin 256) : ℝ := A.cot r (colC q)
def dg (q : Fin 768) : ℝ := ∑ r, A.cot r (colA q) * A.a r q * rs (A.a r)
end Args

/-- The arrays hold these reals. -/
structure Holds (A : Args) (x0 : Vec Ideal S4096x1024 .f32) (x1 : Vec Ideal S1024x1024 .f32) (x2 : Vec Ideal S4096x768 .f32)
    (x3 : Vec Ideal S1x768 .f32) : Prop where
  y : ∀ r k, x0 (ix2 r k) = (A.y r k : EReal)
  w : ∀ q k, x1 (ix2 q k) = (A.w q k : EReal)
  a : ∀ r q, x2 (ix2 r q) = (A.a r q : EReal)
  g : ∀ q, x3 (ix2 0 q) = (A.g q : EReal)

variable {A : Args} {x0 : Vec Ideal S4096x1024 .f32} {x1 : Vec Ideal S1024x1024 .f32} {x2 : Vec Ideal S4096x768 .f32}
    {x3 : Vec Ideal S1x768 .f32} (h : Holds A x0 x1 x2 x3) (r : Fin 4096) (q : Fin 768)

include h

theorem v10 : val_main_v10 (F := Ideal) x2 (ix2 r 0) = (size (A.a r) : EReal) := by
  pointwise [val_main_v10, val_main_v9, val_main_cst_3, val_main_v8, val_main_v7, val_main_cst_2, val_main_v6, val_main_v5, val_main_cst_1, val_main_v2]
  simp only [h.a, of_768, of_zero, of_eps, ← EReal.coe_mul, coe_sum, div_768, ← EReal.coe_add]
  rfl

theorem v11 : val_main_v11 (F := Ideal) x2 (ix2 r 0) = (rs (A.a r) : EReal) := by
  pointwise [val_main_v11]
  rw [v10 h, rsqrt_pos (size_pos _)]
  rfl

theorem v14 : val_main_v14 (F := Ideal) x2 (ix2 r 0) = ((-1 / 2 * (rs (A.a r) * (1 / size (A.a r))) : ℝ) : EReal) := by
  pointwise [val_main_v14, val_main_v13, val_main_cst_4, val_main_v12]
  rw [v10 h, v11 h, of_neghalf, Ideal.div_coe (size_pos _).ne', ← EReal.coe_mul, ← EReal.coe_mul]

theorem v22 (k : Fin 1024) : val_main_v22 (F := Ideal) x0 x1 (ix2 r k) = (A.cot r k : EReal) := by
  pointwise [val_main_v22]
  simp only [h.y, h.w, ← EReal.coe_mul, coe_sum]
  rfl

theorem v23 : val_main_v23 (F := Ideal) x0 x1 (ix2 r q) = (A.cot r (colA q) : EReal) := by
  pointwise [val_main_v23]
  exact v22 h r _

theorem v24 (k : Fin 256) : val_main_v24 (F := Ideal) x0 x1 (ix2 r k) = (A.dc r k : EReal) := by
  pointwise [val_main_v24]
  exact v22 h r _

theorem v29 : val_main_v29 (F := Ideal) x0 x1 x3 (ix2 r q) = ((A.cot r (colA q) * A.g q : ℝ) : EReal) := by
  pointwise [val_main_v29, val_main_v28, val_main_v17, val_main_v1]
  simp only [v23 h, h.g, ← EReal.coe_mul]

theorem v42 : val_main_v42 (F := Ideal) x0 x1 x2 x3 (ix2 r q) = (A.da r q : EReal) := by
  pointwise [val_main_v42, val_main_v41, val_main_v40, val_main_v39, val_main_cst_9, val_main_v38, val_main_v37, val_main_cst_8, val_main_v36, val_main_v35,
    val_main_v34, val_main_v33, val_main_v32, val_main_cst_7, val_main_v31, val_main_v4, val_main_v3, val_main_cst_0]
  rw [Fin.sum_univ_one]
  simp only [v29 h, v11 h, v14 h, h.a, of_zero, of_two, of_768, ← EReal.coe_mul, coe_sum, div_768, ← EReal.coe_add]
  congr 1
  unfold Args.da
  rw [← chain]

theorem v46 (n : Fin 12) : val_main_v46 (F := Ideal) x0 x1 x2 x3 (ix2 r n)
    = ((∑ k, A.da r (Sums.at' 12 64 rfl n k) * A.a r (Sums.at' 12 64 rfl n k) : ℝ) : EReal) := by
  pointwise [val_main_v46, val_main_cst_10, val_main_v45, val_main_v44]
  simp only [v42 h, h.a, of_zero, ← EReal.coe_mul, coe_sum, ← EReal.coe_add]
  congr 1
  refine Finset.sum_congr rfl fun k _ => ?_
  have e : (⟨n.val * 64 + k.val, by have := n.isLt; have := k.isLt; omega⟩ : Fin 768) = Sums.at' 12 64 rfl n k :=
    Fin.ext (show n.val * 64 + k.val = 64 * n.val + k.val by omega)
  exact congrArg (fun j => A.da r j * A.a r j) e

theorem v50 : val_main_v50 (F := Ideal) x0 x1 x2 x3 (ix2 r q) = (A.dd r q : EReal) := by
  pointwise [val_main_v50, val_main_v49, val_main_v47]
  exact v46 h _ _

theorem v43 : val_main_v43 (F := Ideal) x0 x1 x2 (ix2 0 q) = (A.dg q : EReal) := by
  pointwise [val_main_v43, val_main_v30, val_main_cst_6, val_main_v27, val_main_v26, val_main_cst_5, val_main_v25, val_main_v16, val_main_v15]
  rw [Fin.sum_univ_one]
  simp only [v23 h, v11 h, h.a, of_zero, ← EReal.coe_mul, coe_sum, ← EReal.coe_add]
  congr 1
  simp only [zero_add, Args.dg]
  exact Finset.sum_congr rfl fun r _ => by ring

end Cert.DmixRef

end
-- ==== Proof.DmixTile.lean ====
/- What the kernel of the mixed heads' gradient computes of 256 rows, as reals. -/
module

public import proofs.«01_k».proof.Proof.DmixRef
public import proofs.«01_k».proof.Proof.Gen.DmixIdeal.Value

@[expose] public section

set_option maxRecDepth 16384

noncomputable section

namespace Cert.DmixTile

open Idealize.ShloMosaic Idealize.ShloMosaic.TcCoe Idealize.SL.Sem
open Cert.DmixIdeal Cert.DmixIdeal.Gen Cert.Consts Cert.RmsRow
open Cert.DmixRef (Args colA colC)

/-- The mask of the columns that share a head. -/
abbrev mask : FVec Ideal S768x768 .bf16 := k0_pay10 k0_pay8 (iota .tc S768x768 32 [1] iota_S768x768_d1_w32) 64#32 k0_pay9 0#32

/-- The rounding division by 64 of a column's number is its head. -/
theorem head_bits : ∀ n : Fin 768, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32)
    = BitVec.ofNat 32 (head n).val := by decide +kernel
theorem eq_bits : ∀ a b : Fin 12, BitVec.setWidth 32 (IntOp.cmpi CmpIPredicate.eq (BitVec.ofNat 32 a.val) (BitVec.ofNat 32 b.val))
    = if a = b then 1#32 else 0#32 := by decide +kernel

theorem mask_at (j q : Fin 768) : mask (ix2 j q) = (((if j.val / 64 = q.val / 64 then 1 else 0 : ℝ)) : EReal) := by
  unfold mask
  pointwise [k0_pay10, k0_pay8, k0_pay9]
  rw [head_bits j, head_bits q, eq_bits]
  have e : head j = head q ↔ j.val / 64 = q.val / 64 := Fin.ext_iff
  simp only [e]
  by_cases hjq : j.val / 64 = q.val / 64
  · rw [if_pos hjq, if_pos hjq]
    show (((1#32 : BitVec 32).toInt : ℝ) : EReal) = _
    norm_num
  · rw [if_neg hjq, if_neg hjq]
    show (((0#32 : BitVec 32).toInt : ℝ) : EReal) = _
    norm_num

/-- The loaded blocks hold the rows `ρ` of the arguments. -/
structure Rows (A : Args) (ρ : Fin 256 → Fin 4096) (y : Vec Ideal S256x1024 .bf16) (w : Vec Ideal S1024x1024 .bf16)
    (a : Vec Ideal S256x768 .f32) (s : Vec Ideal S256x1 .f32) (g : Vec Ideal S1x768 .f32) : Prop where
  y : ∀ p k, y (ix2 p k) = (A.y (ρ p) k : EReal)
  w : ∀ q k, w (ix2 q k) = (A.w q k : EReal)
  a : ∀ p q, a (ix2 p q) = (A.a (ρ p) q : EReal)
  s : ∀ p, s (ix2 p 0) = (rs (A.a (ρ p)) : EReal)
  g : ∀ q, g (ix2 0 q) = (A.g q : EReal)

section
variable {A : Args} {ρ : Fin 256 → Fin 4096} {y : Vec Ideal S256x1024 .bf16} {w : Vec Ideal S1024x1024 .bf16}
    {a : Vec Ideal S256x768 .f32} {s : Vec Ideal S256x1 .f32} {g : Vec Ideal S1x768 .f32}
    (h : Rows A ρ y w a s g) (p : Fin 256) (q : Fin 768)

include h

theorem pay6 (k : Fin 1024) : k0_pay6 (F := Ideal) y w (ix2 p k) = (A.cot (ρ p) k : EReal) := by
  pointwise [k0_pay6]
  simp only [h.y, h.w, ← EReal.coe_mul, coe_sum]
  rfl

theorem pay11 : k0_pay11 (F := Ideal) (k0_pay6 y w) (ix2 p q) = (A.cot (ρ p) (colA q) : EReal) := by
  pointwise [k0_pay11]
  exact pay6 h p _

theorem pay12 (k : Fin 256) : k0_pay12 (F := Ideal) (k0_pay6 y w) (ix2 p k) = (A.dc (ρ p) k : EReal) := by
  pointwise [k0_pay12]
  exact pay6 h p _

theorem pay17 : k0_pay17 (F := Ideal) (k0_pay13 s) (k0_pay14 (k0_pay6 y w) g) (k0_pay15 a s) (k0_pay16 (k0_pay6 y w) a g) (ix2 p q) = (A.da (ρ p) q : EReal) := by
  pointwise [k0_pay17, k0_pay13, k0_pay14, k0_pay15, k0_pay16]
  simp only [pay11 h, h.a, h.s, h.g, of_768, ← EReal.coe_mul, coe_sum, div_768, ← EReal.coe_sub]
  rfl

theorem pay18 : k0_pay18 (F := Ideal) (k0_pay13 s) (k0_pay14 (k0_pay6 y w) g) (k0_pay15 a s) (k0_pay16 (k0_pay6 y w) a g) (ix2 p q) = (A.da (ρ p) q : EReal) := by
  unfold k0_pay18
  exact pay17 h p q

theorem pay19 : k0_pay19 (F := Ideal) mask a (k0_pay13 s) (k0_pay14 (k0_pay6 y w) g) (k0_pay15 a s) (k0_pay16 (k0_pay6 y w) a g) (ix2 p q) = (A.dd (ρ p) q : EReal) := by
  pointwise [k0_pay19]
  simp only [pay17 h, h.a, mask_at, ← EReal.coe_mul, ← EReal.coe_sub, coe_sum, ← EReal.coe_add]
  congr 1
  simp only [sub_self, zero_mul, Finset.sum_const_zero, add_zero]
  exact sum_head (fun j => A.da (ρ p) j * A.a (ρ p) j) q

theorem pay20 : k0_pay20 (F := Ideal) (k0_pay11 (k0_pay6 y w)) a (k0_pay13 s) (ix2 0 q) = ((∑ p, A.cot (ρ p) (colA q) * A.a (ρ p) q * rs (A.a (ρ p)) : ℝ) : EReal) := by
  pointwise [k0_pay20, k0_pay13]
  simp only [pay11 h, h.a, h.s, ← EReal.coe_mul, coe_sum]

end

/-! The second half of a block repeats the first half's operations. -/

section
variable {F : FTy → Type} [FloatOps F] (y : Vec F S256x1024 .bf16) (w : Vec F S1024x1024 .bf16)
    (a : Vec F S256x768 .f32) (s : Vec F S256x1 .f32) (g : Vec F S1x768 .f32) (k : FVec F S768x768 .bf16)

theorem again12 : k0_pay22 (k0_pay7 y w) = k0_pay12 (k0_pay6 y w) := rfl
theorem again18 : k0_pay2 (k0_pay23 s) (k0_pay24 (k0_pay7 y w) a s g)
    = k0_pay18 (k0_pay13 s) (k0_pay14 (k0_pay6 y w) g) (k0_pay15 a s) (k0_pay16 (k0_pay6 y w) a g) := rfl
theorem again19 : k0_pay3 k a (k0_pay23 s) (k0_pay24 (k0_pay7 y w) a s g)
    = k0_pay19 k a (k0_pay13 s) (k0_pay14 (k0_pay6 y w) g) (k0_pay15 a s) (k0_pay16 (k0_pay6 y w) a g) := rfl

end

/-! The block's sum: the first half's added to the second half's. -/

section
variable {A : Args} {ρ ρ' : Fin 256 → Fin 4096} {y y' : Vec Ideal S256x1024 .bf16} {w w' : Vec Ideal S1024x1024 .bf16}
    {a a' : Vec Ideal S256x768 .f32} {s s' : Vec Ideal S256x1 .f32} {g g' : Vec Ideal S1x768 .f32}
    (h : Rows A ρ y w a s g) (h' : Rows A ρ' y' w' a' s' g') (q : Fin 768)

include h h'

theorem pay4 : k0_pay4 (F := Ideal) (k0_pay20 (k0_pay11 (k0_pay6 y w)) a (k0_pay13 s)) (k0_pay21 (k0_pay7 y' w')) a' (k0_pay23 s') (ix2 0 q)
    = ((∑ p, A.cot (ρ p) (colA q) * A.a (ρ p) q * rs (A.a (ρ p)) + ∑ p, A.cot (ρ' p) (colA q) * A.a (ρ' p) q * rs (A.a (ρ' p)) : ℝ) : EReal) := by
  have e : k0_pay21 (F := Ideal) (k0_pay7 y' w') = k0_pay11 (k0_pay6 y' w') := rfl
  rw [e]
  pointwise [k0_pay4, k0_pay23]
  simp only [pay20 h, pay11 h', h'.a, h'.s, ← EReal.coe_mul, coe_sum, ← EReal.coe_add]

end

end Cert.DmixTile

end
-- ==== Proof.DmixCases.lean ====
/- What a grid point of the mixed heads' gradient kernel leaves in its output blocks. -/
module

public import proofs.«01_k».proof.Proof.DmixTile

@[expose] public section

set_option maxRecDepth 16384

noncomputable section

namespace Cert.DmixCases

open Idealize.ShloMosaic Idealize.ShloMosaic.TcCoe Idealize.SL.Sem
open Cert.DmixIdeal Cert.DmixIdeal.Gen Cert.Consts Cert.RmsRow Cert.DmixTile
open Cert.DmixRef (Args colA colC)

/-- The input blocks hold the rows `ρ` of the arguments and the scales of the norm. -/
structure Block (A : Args) (ρ : Fin 512 → Fin 4096) (x0 : Vec Ideal S512x1024 .bf16) (x1 : Vec Ideal S1024x1024 .bf16)
    (x2 : Vec Ideal S512x768 .f32) (x3 : Vec Ideal S512x128 .f32) (x4 : Vec Ideal S1x768 .f32) : Prop where
  y : ∀ p k, x0 (ix2 p k) = (A.y (ρ p) k : EReal)
  w : ∀ q k, x1 (ix2 q k) = (A.w q k : EReal)
  a : ∀ p q, x2 (ix2 p q) = (A.a (ρ p) q : EReal)
  s : ∀ p j, x3 (ix2 p j) = (rs (A.a (ρ p)) : EReal)
  g : ∀ q, x4 (ix2 0 q) = (A.g q : EReal)

/-- A row of the block's first half, and of its second half. -/
abbrev lo (ρ : Fin 512 → Fin 4096) (p : Fin 256) : Fin 4096 := ρ ⟨p.val, by omega⟩
abbrev hi (ρ : Fin 512 → Fin 4096) (p : Fin 256) : Fin 4096 := ρ ⟨256 + p.val, by omega⟩

variable (c : Dev nD) (i : grid0.Coords)
  (a1 : Memref sig .tc .vmem S512x1024 .bf16) (h1 : a1.IsWhole) (a2 : Memref sig .tc .vmem S1024x1024 .bf16) (h2 : a2.IsWhole) (a3 : Memref sig .tc .vmem S512x768 .f32) (h3 : a3.IsWhole) (a4 : Memref sig .tc .vmem S512x128 .f32) (h4 : a4.IsWhole) (a5 : Memref sig .tc .vmem S1x768 .f32) (h5 : a5.IsWhole) (a6 : Memref sig .tc .vmem S512x768 .bf16) (h6 : a6.IsWhole) (a7 : Memref sig .tc .vmem S512x768 .f32) (h7 : a7.IsWhole) (a8 : Memref sig .tc .vmem S512x256 .f32) (h8 : a8.IsWhole) (a9 : Memref sig .tc .vmem S1x768 .f32) (h9 : a9.IsWhole) (a10 : Memref sig .tc .vmem S512x1024 .f32) (h10 : a10.IsWhole)
  {x0 : Vec Ideal S512x1024 .bf16} {x1 : Vec Ideal S1024x1024 .bf16}
  {x2 : Vec Ideal S512x768 .f32} {x3 : Vec Ideal S512x128 .f32} {x4 : Vec Ideal S1x768 .f32}
  (xo8 : Vec Ideal S1x768 .f32) {A : Args} {ρ : Fin 512 → Fin 4096} (h : Block A ρ x0 x1 x2 x3 x4)

theorem hz : (![0, 0] : Fin 2 → Nat) = fun _ => 0 := funext fun a => by fin_cases a <;> rfl

/-! A block's loads, at an index. -/

theorem ld_y_lo (x : Vec Ideal S512x1024 .bf16) (p : Fin 256) (q : Fin 1024) : View.ld x (Rect.unit (s := S512x1024) ![0, 0] S256x1024.size inb_S512x1024_S256x1024_0_0) (ix2 p q) = x (ix2 ⟨p.val, by omega⟩ ⟨q.val, by omega⟩) := by
  show x _ = _
  refine congrArg x (funext fun a => Fin.ext ?_)
  match a with
  | ⟨0, _⟩ => show 0 + 1 * p.val = p.val; omega
  | ⟨1, _⟩ => show 0 + 1 * q.val = q.val; omega

theorem ld_a_lo (x : Vec Ideal S512x768 .f32) (p : Fin 256) (q : Fin 768) : View.ld x (Rect.unit (s := S512x768) ![0, 0] S256x768.size inb_S512x768_S256x768_0_0) (ix2 p q) = x (ix2 ⟨p.val, by omega⟩ ⟨q.val, by omega⟩) := by
  show x _ = _
  refine congrArg x (funext fun a => Fin.ext ?_)
  match a with
  | ⟨0, _⟩ => show 0 + 1 * p.val = p.val; omega
  | ⟨1, _⟩ => show 0 + 1 * q.val = q.val; omega

theorem ld_s_lo (x : Vec Ideal S512x128 .f32) (p : Fin 256) (q : Fin 1) : View.ld x (Rect.unit (s := S512x128) ![0, 0] S256x1.size inb_S512x128_S256x1_0_0) (ix2 p q) = x (ix2 ⟨p.val, by omega⟩ ⟨q.val, by omega⟩) := by
  show x _ = _
  refine congrArg x (funext fun a => Fin.ext ?_)
  match a with
  | ⟨0, _⟩ => show 0 + 1 * p.val = p.val; omega
  | ⟨1, _⟩ => show 0 + 1 * q.val = q.val; omega

theorem ld_y_hi (x : Vec Ideal S512x1024 .bf16) (p : Fin 256) (q : Fin 1024) : View.ld x (Rect.unit (s := S512x1024) ![256, 0] S256x1024.size inb_S512x1024_S256x1024_256_0) (ix2 p q) = x (ix2 ⟨256 + p.val, by omega⟩ ⟨q.val, by omega⟩) := by
  show x _ = _
  refine congrArg x (funext fun a => Fin.ext ?_)
  match a with
  | ⟨0, _⟩ => show 256 + 1 * p.val = 256 + p.val; omega
  | ⟨1, _⟩ => show 0 + 1 * q.val = q.val; omega

theorem ld_a_hi (x : Vec Ideal S512x768 .f32) (p : Fin 256) (q : Fin 768) : View.ld x (Rect.unit (s := S512x768) ![256, 0] S256x768.size inb_S512x768_S256x768_256_0) (ix2 p q) = x (ix2 ⟨256 + p.val, by omega⟩ ⟨q.val, by omega⟩) := by
  show x _ = _
  refine congrArg x (funext fun a => Fin.ext ?_)
  match a with
  | ⟨0, _⟩ => show 256 + 1 * p.val = 256 + p.val; omega
  | ⟨1, _⟩ => show 0 + 1 * q.val = q.val; omega

theorem ld_s_hi (x : Vec Ideal S512x128 .f32) (p : Fin 256) (q : Fin 1) : View.ld x (Rect.unit (s := S512x128) ![256, 0] S256x1.size inb_S512x128_S256x1_256_0) (ix2 p q) = x (ix2 ⟨256 + p.val, by omega⟩ ⟨q.val, by omega⟩) := by
  show x _ = _
  refine congrArg x (funext fun a => Fin.ext ?_)
  match a with
  | ⟨0, _⟩ => show 256 + 1 * p.val = 256 + p.val; omega
  | ⟨1, _⟩ => show 0 + 1 * q.val = q.val; omega

include h

theorem rows_lo : Rows A (lo ρ) (View.ld x0 (Rect.unit (s := S512x1024) ![0, 0] S256x1024.size inb_S512x1024_S256x1024_0_0)) x1
    (View.ld x2 (Rect.unit (s := S512x768) ![0, 0] S256x768.size inb_S512x768_S256x768_0_0)) (View.ld x3 (Rect.unit (s := S512x128) ![0, 0] S256x1.size inb_S512x128_S256x1_0_0)) x4 where
  y p k := (ld_y_lo x0 p k).trans (h.y _ _)
  w := h.w
  a p q := (ld_a_lo x2 p q).trans (h.a _ _)
  s p := (ld_s_lo x3 p 0).trans (h.s _ _)
  g := h.g

theorem rows_hi : Rows A (hi ρ) (View.ld x0 (Rect.unit (s := S512x1024) ![256, 0] S256x1024.size inb_S512x1024_S256x1024_256_0)) x1
    (View.ld x2 (Rect.unit (s := S512x768) ![256, 0] S256x768.size inb_S512x768_S256x768_256_0)) (View.ld x3 (Rect.unit (s := S512x128) ![256, 0] S256x1.size inb_S512x128_S256x1_256_0)) x4 where
  y p k := (ld_y_hi x0 p k).trans (h.y _ _)
  w := h.w
  a p q := (ld_a_hi x2 p q).trans (h.a _ _)
  s p := (ld_s_hi x3 p 0).trans (h.s _ _)
  g := h.g

omit h

/-! The blocks that hold the rows' gradients. -/

abbrev blkDa (A : Args) (ρ : Fin 512 → Fin 4096) (y : S512x768.Idx) : EReal := (A.da (ρ (y 0)) (y 1) : EReal)

theorem blkDa_lo (p : Fin 256) (q : Fin 768) : blkDa A ρ ((Rect.unit (s := S512x768) ![0, 0] S256x768.size inb_S512x768_S256x768_0_0).emb (ix2 p q)) = (A.da (lo ρ p) q : EReal) := by
  unfold blkDa lo
  congr 2
  · congr 1
    exact Fin.ext (show 0 + 1 * p.val = p.val by omega)
  · exact Fin.ext (show 0 + 1 * q.val = q.val by omega)

theorem blkDa_hi (p : Fin 256) (q : Fin 768) : blkDa A ρ ((Rect.unit (s := S512x768) ![256, 0] S256x768.size inb_S512x768_S256x768_256_0).emb (ix2 p q)) = (A.da (hi ρ p) q : EReal) := by
  unfold blkDa hi
  congr 2
  · congr 1
    exact Fin.ext (show 256 + 1 * p.val = 256 + p.val by omega)
  · exact Fin.ext (show 0 + 1 * q.val = q.val by omega)

abbrev blkDd (A : Args) (ρ : Fin 512 → Fin 4096) (y : S512x768.Idx) : EReal := (A.dd (ρ (y 0)) (y 1) : EReal)

theorem blkDd_lo (p : Fin 256) (q : Fin 768) : blkDd A ρ ((Rect.unit (s := S512x768) ![0, 0] S256x768.size inb_S512x768_S256x768_0_0).emb (ix2 p q)) = (A.dd (lo ρ p) q : EReal) := by
  unfold blkDd lo
  congr 2
  · congr 1
    exact Fin.ext (show 0 + 1 * p.val = p.val by omega)
  · exact Fin.ext (show 0 + 1 * q.val = q.val by omega)

theorem blkDd_hi (p : Fin 256) (q : Fin 768) : blkDd A ρ ((Rect.unit (s := S512x768) ![256, 0] S256x768.size inb_S512x768_S256x768_256_0).emb (ix2 p q)) = (A.dd (hi ρ p) q : EReal) := by
  unfold blkDd hi
  congr 2
  · congr 1
    exact Fin.ext (show 256 + 1 * p.val = 256 + p.val by omega)
  · exact Fin.ext (show 0 + 1 * q.val = q.val by omega)

abbrev blkDc (A : Args) (ρ : Fin 512 → Fin 4096) (y : S512x256.Idx) : EReal := (A.dc (ρ (y 0)) (y 1) : EReal)

theorem blkDc_lo (p : Fin 256) (q : Fin 256) : blkDc A ρ ((Rect.unit (s := S512x256) ![0, 0] S256x256.size inb_S512x256_S256x256_0_0).emb (ix2 p q)) = (A.dc (lo ρ p) q : EReal) := by
  unfold blkDc lo
  congr 2
  · congr 1
    exact Fin.ext (show 0 + 1 * p.val = p.val by omega)
  · exact Fin.ext (show 0 + 1 * q.val = q.val by omega)

theorem blkDc_hi (p : Fin 256) (q : Fin 256) : blkDc A ρ ((Rect.unit (s := S512x256) ![256, 0] S256x256.size inb_S512x256_S256x256_256_0).emb (ix2 p q)) = (A.dc (hi ρ p) q : EReal) := by
  unfold blkDc hi
  congr 2
  · congr 1
    exact Fin.ext (show 256 + 1 * p.val = 256 + p.val by omega)
  · exact Fin.ext (show 0 + 1 * q.val = q.val by omega)

/-- The block's part of the gain's gradient. -/
def blkDg (A : Args) (ρ : Fin 512 → Fin 4096) (q : Fin 768) : ℝ :=
  ∑ p, A.cot (lo ρ p) (colA q) * A.a (lo ρ p) q * rs (A.a (lo ρ p)) + ∑ p, A.cot (hi ρ p) (colA q) * A.a (hi ρ p) q * rs (A.a (hi ρ p))

include h

section
variable (hc0 : cond0_0 i) (hc1 : ¬cond0_1 i)

theorem outA5 (y : S512x768.Idx) : out0_A_5 c i a1 h1 a2 h2 a3 h3 a4 h4 a5 h5 a6 h6 a7 h7 a8 h8 a9 h9 a10 h10 hc0 hc1 x0 x1 x2 x3 x4 y = blkDa A ρ y := by
  unfold out0_A_5
  rw [View.read_writes_eq_canon _ _ _ (fun _ => cover0_A_5 ..)]
  refine View.canon_apply_of_pieces (Val := Elt Ideal) (e := .bf16) (blkDa A ρ) _ ?_ y ?_
  swap; exact cover0_A_5 ..
  unfold kernelRun0_A
  dsimp only
  sl_unfold_words
  simp only [View.readAt_eq_ld, Memref.IsWhole.read_unread, View.ld_unit_zero (S := S1x768) hz, View.ld_unit_zero (S := S1024x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 768), x = ix2 p q := ⟨x 0, x 1, eq_ix2 x⟩
    refine Eq.trans ?_ (blkDa_hi p q).symm
    exact (congrFun (again18 _ _ _ _ _) _).trans (pay18 (rows_hi h) p q)
  · obtain ⟨p, q, rfl⟩ : ∃ (p : Fin 256) (q : Fin 768), x = ix2 p q := ⟨x 0, x 1, eq_ix2 x⟩
    refine Eq.trans ?_ (blkDa_lo p q).symm
    exact pay18 (rows_lo h) p q

theorem outA6 (y : S512x768.Idx) : out0_A_6 c i a1 h1 a2 h2 a3 h3 a4 h4 a5 h5 a6 h6 a7 h7 a8 h8 a9 h9 a10 h10 hc0 hc1 x0 x1 x2 x3 x4 y = blkDd A ρ y := by
  unfold out0_A_6
  rw [View.read_writes_eq_canon _ _ _ (fun _ => cover0_A_6 ..)]
  refine View.canon_apply_of_pieces (Val := Elt Ideal) (e := .f32) (blkDd A ρ) _ ?_ y ?_
  swap; exact cover0_A_6 ..
  unfold kernelRun0_A
  dsimp only
  sl_unfold_words
  simp only [View.readAt_eq_ld, Memref.IsWhole.read_unread, View.ld_unit_zero (S := S1x768) hz, View.ld_unit_zero (S := S1024x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 768), x = ix2 p q := ⟨x 0, x 1, eq_ix2 x⟩
    refine Eq.trans ?_ (blkDd_hi p q).symm
    exact (congrFun (again19 _ _ _ _ _ _) _).trans (pay19 (rows_hi h) p q)
  · obtain ⟨p, q, rfl⟩ : ∃ (p : Fin 256) (q : Fin 768), x = ix2 p q := ⟨x 0, x 1, eq_ix2 x⟩
    refine Eq.trans ?_ (blkDd_lo p q).symm
    exact pay19 (rows_lo h) p q

theorem outA7 (y : S512x256.Idx) : out0_A_7 c i a1 h1 a2 h2 a3 h3 a4 h4 a5 h5 a6 h6 a7 h7 a8 h8 a9 h9 a10 h10 hc0 hc1 x0 x1 x2 x3 x4 y = blkDc A ρ y := by
  unfold out0_A_7
  rw [View.read_writes_eq_canon _ _ _ (fun _ => cover0_A_7 ..)]
  refine View.canon_apply_of_pieces (Val := Elt Ideal) (e := .f32) (blkDc A ρ) _ ?_ y ?_
  swap; exact cover0_A_7 ..
  unfold kernelRun0_A
  dsimp only
  sl_unfold_words
  simp only [View.readAt_eq_ld, Memref.IsWhole.read_unread, View.ld_unit_zero (S := S1x768) hz, View.ld_unit_zero (S := S1024x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 256), x = ix2 p q := ⟨x 0, x 1, eq_ix2 x⟩
    refine Eq.trans ?_ (blkDc_hi p q).symm
    exact (congrFun (again12 _ _) _).trans (pay12 (rows_hi h) p q)
  · obtain ⟨p, q, rfl⟩ : ∃ (p : Fin 256) (q : Fin 256), x = ix2 p q := ⟨x 0, x 1, eq_ix2 x⟩
    refine Eq.trans ?_ (blkDc_lo p q).symm
    exact pay12 (rows_lo h) p q

theorem outA8 (j : Fin 768) : out0_A_8 c i a1 h1 a2 h2 a3 h3 a4 h4 a5 h5 a6 h6 a7 h7 a8 h8 a9 h9 a10 h10 hc0 hc1 x0 x1 x2 x3 x4 (ix2 0 j) = (blkDg A ρ j : EReal) := by
  unfold out0_A_8
  rw [View.read_writes_eq_canon _ _ _ (fun _ => cover0_A_8 ..)]
  unfold kernelRun0_A
  dsimp only
  sl_unfold_words
  rw [View.canon_unit_zero hz]
  simp only [View.readAt_eq_ld, Memref.IsWhole.read_unread, View.ld_unit_zero (S := S1x768) hz, View.ld_unit_zero (S := S1024x1024) hz]
  exact pay4 (rows_lo h) (rows_hi h) j

end

section
variable (hc0 : ¬cond0_0 i) (hc1 : cond0_1 i)

theorem outB5 (y : S512x768.Idx) : out0_B_5 c i a1 h1 a2 h2 a3 h3 a4 h4 a5 h5 a6 h6 a7 h7 a8 h8 a9 h9 a10 h10 hc0 hc1 x0 x1 x2 x3 x4 xo8 y = blkDa A ρ y := by
  unfold out0_B_5
  rw [View.read_writes_eq_canon _ _ _ (fun _ => cover0_B_5 ..)]
  refine View.canon_apply_of_pieces (Val := Elt Ideal) (e := .bf16) (blkDa A ρ) _ ?_ y ?_
  swap; exact cover0_B_5 ..
  unfold kernelRun0_B
  dsimp only
  sl_unfold_words
  simp only [View.readAt_eq_ld, Memref.IsWhole.read_unread, View.ld_unit_zero (S := S1x768) hz, View.ld_unit_zero (S := S1024x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 768), x = ix2 p q := ⟨x 0, x 1, eq_ix2 x⟩
    refine Eq.trans ?_ (blkDa_hi p q).symm
    exact (congrFun (again18 _ _ _ _ _) _).trans (pay18 (rows_hi h) p q)
  · obtain ⟨p, q, rfl⟩ : ∃ (p : Fin 256) (q : Fin 768), x = ix2 p q := ⟨x 0, x 1, eq_ix2 x⟩
    refine Eq.trans ?_ (blkDa_lo p q).symm
    exact pay18 (rows_lo h) p q

theorem outB6 (y : S512x768.Idx) : out0_B_6 c i a1 h1 a2 h2 a3 h3 a4 h4 a5 h5 a6 h6 a7 h7 a8 h8 a9 h9 a10 h10 hc0 hc1 x0 x1 x2 x3 x4 xo8 y = blkDd A ρ y := by
  unfold out0_B_6
  rw [View.read_writes_eq_canon _ _ _ (fun _ => cover0_B_6 ..)]
  refine View.canon_apply_of_pieces (Val := Elt Ideal) (e := .f32) (blkDd A ρ) _ ?_ y ?_
  swap; exact cover0_B_6 ..
  unfold kernelRun0_B
  dsimp only
  sl_unfold_words
  simp only [View.readAt_eq_ld, Memref.IsWhole.read_unread, View.ld_unit_zero (S := S1x768) hz, View.ld_unit_zero (S := S1024x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 768), x = ix2 p q := ⟨x 0, x 1, eq_ix2 x⟩
    refine Eq.trans ?_ (blkDd_hi p q).symm
    exact (congrFun (again19 _ _ _ _ _ _) _).trans (pay19 (rows_hi h) p q)
  · obtain ⟨p, q, rfl⟩ : ∃ (p : Fin 256) (q : Fin 768), x = ix2 p q := ⟨x 0, x 1, eq_ix2 x⟩
    refine Eq.trans ?_ (blkDd_lo p q).symm
    exact pay19 (rows_lo h) p q

theorem outB7 (y : S512x256.Idx) : out0_B_7 c i a1 h1 a2 h2 a3 h3 a4 h4 a5 h5 a6 h6 a7 h7 a8 h8 a9 h9 a10 h10 hc0 hc1 x0 x1 x2 x3 x4 xo8 y = blkDc A ρ y := by
  unfold out0_B_7
  rw [View.read_writes_eq_canon _ _ _ (fun _ => cover0_B_7 ..)]
  refine View.canon_apply_of_pieces (Val := Elt Ideal) (e := .f32) (blkDc A ρ) _ ?_ y ?_
  swap; exact cover0_B_7 ..
  unfold kernelRun0_B
  dsimp only
  sl_unfold_words
  simp only [View.readAt_eq_ld, Memref.IsWhole.read_unread, View.ld_unit_zero (S := S1x768) hz, View.ld_unit_zero (S := S1024x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 256), x = ix2 p q := ⟨x 0, x 1, eq_ix2 x⟩
    refine Eq.trans ?_ (blkDc_hi p q).symm
    exact (congrFun (again12 _ _) _).trans (pay12 (rows_hi h) p q)
  · obtain ⟨p, q, rfl⟩ : ∃ (p : Fin 256) (q : Fin 256), x = ix2 p q := ⟨x 0, x 1, eq_ix2 x⟩
    refine Eq.trans ?_ (blkDc_lo p q).symm
    exact pay12 (rows_lo h) p q

theorem outB8 (j : Fin 768) : out0_B_8 c i a1 h1 a2 h2 a3 h3 a4 h4 a5 h5 a6 h6 a7 h7 a8 h8 a9 h9 a10 h10 hc0 hc1 x0 x1 x2 x3 x4 xo8 (ix2 0 j) = xo8 (ix2 0 j) + (blkDg A ρ j : EReal) := by
  unfold out0_B_8
  rw [View.read_writes_eq_canon _ _ _ (fun _ => cover0_B_8 ..)]
  unfold kernelRun0_B
  dsimp only
  sl_unfold_words
  rw [View.canon_unit_zero hz]
  simp only [View.readAt_eq_ld, Memref.IsWhole.read_unread, View.ld_unit_zero (S := S1x768) hz, View.ld_unit_zero (S := S1024x1024) hz]
  unfold k0_pay5
  simp only [shapeCast_self]
  exact congrArg (xo8 (ix2 0 j) + ·) (pay4 (rows_lo h) (rows_hi h) j)

end

end Cert.DmixCases

end
-- ==== Proof.DmixValue.lean ====
/- The mixed heads' gradient: the kernel's four results, over its eight blocks of 512 rows, at an index. -/
module

public import proofs.«01_k».proof.Proof.DmixCases
public import Idealize.ShloMosaic.Lib.StableHlo.ReadAt
public import Idealize.ShloMosaic.Lib.Pipeline.ValueKit.Geometry

@[expose] public section

set_option maxRecDepth 16384

noncomputable section

namespace Cert.DmixValue

open Idealize.ShloMosaic Idealize.ShloMosaic.TcCoe Idealize.SL.Sem
open Cert.DmixIdeal Cert.DmixIdeal.Gen Cert.Consts Cert.RmsRow Cert.DmixCases Cert.DmixTile
open Cert.DmixRef (Args Holds colA colC)

variable (m : (ℓ : Loc nD τ sig) → Buf (Elt Ideal) ℓ) (c : Dev nD)

/-- The arguments as launched. -/
abbrev A0 : Vec Ideal S4096x1024 .f32 := m ((c : Thread nD τ).loc main_arg0)
abbrev A1 : Vec Ideal S1024x1024 .f32 := m ((c : Thread nD τ).loc main_arg1)
abbrev A2 : Vec Ideal S4096x768 .f32 := m ((c : Thread nD τ).loc main_arg2)
abbrev A3 : Vec Ideal S1x768 .f32 := m ((c : Thread nD τ).loc main_arg3)

/-- Row `r` of block `n` in the whole array (a number past the last block wraps round). -/
def row (n : ℕ) (r : Fin 512) : Fin 4096 := ⟨(512 * n + r.val) % 4096, Nat.mod_lt _ (by decide)⟩

theorem row_val (t : Fin cfg0.N) (r : Fin 512) : (row t.val r).val = t.val * 512 + 1 * r.val := by
  have := lt_of_lt_of_eq t.isLt N_0; have := r.isLt
  show (512 * t.val + r.val) % 4096 = _
  omega

theorem win0 : ∀ t : Fin cfg0.N, win0_0.index t = ![t.val, 0] := (by decide +kernel : ∀ t : Fin grid0.N, _)
theorem win1 : ∀ t : Fin cfg0.N, win0_1.index t = ![0, 0] := (by decide +kernel : ∀ t : Fin grid0.N, _)
theorem win2 : ∀ t : Fin cfg0.N, win0_2.index t = ![t.val, 0] := (by decide +kernel : ∀ t : Fin grid0.N, _)
theorem win3 : ∀ t : Fin cfg0.N, win0_3.index t = ![t.val, 0] := (by decide +kernel : ∀ t : Fin grid0.N, _)
theorem win4 : ∀ t : Fin cfg0.N, win0_4.index t = ![0, 0] := (by decide +kernel : ∀ t : Fin grid0.N, _)
theorem win5 : ∀ t : Fin cfg0.N, win0_5.index t = ![t.val, 0] := (by decide +kernel : ∀ t : Fin grid0.N, _)
theorem win6 : ∀ t : Fin cfg0.N, win0_6.index t = ![t.val, 0] := (by decide +kernel : ∀ t : Fin grid0.N, _)
theorem win7 : ∀ t : Fin cfg0.N, win0_7.index t = ![t.val, 0] := (by decide +kernel : ∀ t : Fin grid0.N, _)
theorem win8 : ∀ t : Fin cfg0.N, win0_8.index t = ![0, 0] := (by decide +kernel : ∀ t : Fin grid0.N, _)

/-! What the host lines hand the kernel. -/

theorem V8_at (p : Fin 4096) (k : Fin 1024) : V m c main_v8 (ix2 p k) = A0 m c (ix2 p k) := by
  unfold V
  after_reads_at

theorem V9_at (p : Fin 1024) (k : Fin 1024) : V m c main_v9 (ix2 p k) = A1 m c (ix2 p k) := by
  unfold V
  after_reads_at

theorem host_rs {f : Fin 768 → ℝ} {x : Fin 768 → EReal} (hx : ∀ q, x q = (f q : EReal)) :
    Ideal.rsqrt (Ideal.div (∑ q, x q * x q) (Ideal.ofBits FTy.f32 1145044992#32) + Ideal.ofBits FTy.f32 925353388#32) = (rs f : EReal) := by
  simp only [hx, of_768, of_eps, ← EReal.coe_mul, coe_sum, div_768, ← EReal.coe_add]
  exact rsqrt_pos (size_pos f)

theorem V10_at {f : Fin 4096 → Fin 768 → ℝ} (ha : ∀ p q, A2 m c (ix2 p q) = (f p q : EReal)) (p : Fin 4096) (q : Fin 128) :
    (V m c main_v10 (ix2 p q) : EReal) = (rs (f p) : EReal) := by
  unfold V
  after_reads_at
  exact host_rs (x := fun q => A2 m c (ix2 p q)) (ha p)

/-! The kernel's input blocks. -/

theorem iblk0 (t : Fin cfg0.N) (r : Fin 512) (q : Fin 1024) : iblk m c 0 t (ix2 r q) = V m c main_v8 (ix2 (row t.val r) q) := by
  blk_simp [iblk]
  refine congrArg (V m c main_v8) ?_
  blk_ext [win0, row_val]

theorem iblk1 (t : Fin cfg0.N) (r : Fin 1024) (q : Fin 1024) : iblk m c 1 t (ix2 r q) = V m c main_v9 (ix2 r q) := by
  blk_simp [iblk]
  refine congrArg (V m c main_v9) ?_
  blk_ext [win1, row_val]

theorem iblk2 (t : Fin cfg0.N) (r : Fin 512) (q : Fin 768) : iblk m c 2 t (ix2 r q) = V m c main_arg2 (ix2 (row t.val r) q) := by
  blk_simp [iblk]
  refine congrArg (V m c main_arg2) ?_
  blk_ext [win2, row_val]

theorem iblk3 (t : Fin cfg0.N) (r : Fin 512) (q : Fin 128) : iblk m c 3 t (ix2 r q) = V m c main_v10 (ix2 (row t.val r) q) := by
  blk_simp [iblk]
  refine congrArg (V m c main_v10) ?_
  blk_ext [win3, row_val]

theorem iblk4 (t : Fin cfg0.N) (q : Fin 768) : iblk m c 4 t (ix2 0 q) = V m c main_arg3 (ix2 0 q) := by
  blk_simp [iblk]
  refine congrArg (V m c main_arg3) ?_
  blk_ext [win4, row_val]

variable {A : Args} (h : Holds A (A0 m c) (A1 m c) (A2 m c) (A3 m c))
include h

/-- The input blocks of point `t` hold its rows. -/
theorem block (t : Fin cfg0.N) : Block A (row t.val) (iblk m c 0 t) (iblk m c 1 t) (iblk m c 2 t) (iblk m c 3 t) (iblk m c 4 t) where
  y p k := (iblk0 m c t p k).trans ((V8_at m c _ _).trans (h.y _ _))
  w q k := (iblk1 m c t q k).trans ((V9_at m c _ _).trans (h.w _ _))
  a p q := (iblk2 m c t p q).trans ((congrFun (V_main_arg2 m c) _).trans (h.a _ _))
  s p j := (iblk3 m c t p j).trans (V10_at m c h.a _ j)
  g q := (iblk4 m c t q).trans ((congrFun (V_main_arg3 m c) _).trans (h.g q))

/-! What a point leaves in the four output blocks. -/

theorem pt5A (t : Fin cfg0.N) (h0 : t.val % 8 = 0) (h1 : ¬1 ≤ t.val) (y : S512x768.Idx) : (outsAt0 m c t.val t.isLt).1 y = blkDa A (row t.val) y := by
  rw [outsAt0_A m c t h0 h1]
  dsimp only
  apply outA5
  exact block m c h t

theorem pt5B (t : Fin cfg0.N) (h0 : ¬t.val % 8 = 0) (h1 : 1 ≤ t.val) (y : S512x768.Idx) : (outsAt0 m c t.val t.isLt).1 y = blkDa A (row t.val) y := by
  rw [outsAt0_B m c t h0 h1]
  dsimp only
  apply outB5
  exact block m c h t

theorem pt5 (t : Fin cfg0.N) (y : S512x768.Idx) : (outsAt0 m c t.val t.isLt).1 y = blkDa A (row t.val) y := by
  have := lt_of_lt_of_eq t.isLt N_0
  by_cases h1 : 1 ≤ t.val
  · exact pt5B m c h t (by omega) h1 y
  · exact pt5A m c h t (by omega) h1 y

theorem pt6A (t : Fin cfg0.N) (h0 : t.val % 8 = 0) (h1 : ¬1 ≤ t.val) (y : S512x768.Idx) : (outsAt0 m c t.val t.isLt).2.1 y = blkDd A (row t.val) y := by
  rw [outsAt0_A m c t h0 h1]
  dsimp only
  apply outA6
  exact block m c h t

theorem pt6B (t : Fin cfg0.N) (h0 : ¬t.val % 8 = 0) (h1 : 1 ≤ t.val) (y : S512x768.Idx) : (outsAt0 m c t.val t.isLt).2.1 y = blkDd A (row t.val) y := by
  rw [outsAt0_B m c t h0 h1]
  dsimp only
  apply outB6
  exact block m c h t

theorem pt6 (t : Fin cfg0.N) (y : S512x768.Idx) : (outsAt0 m c t.val t.isLt).2.1 y = blkDd A (row t.val) y := by
  have := lt_of_lt_of_eq t.isLt N_0
  by_cases h1 : 1 ≤ t.val
  · exact pt6B m c h t (by omega) h1 y
  · exact pt6A m c h t (by omega) h1 y

theorem pt7A (t : Fin cfg0.N) (h0 : t.val % 8 = 0) (h1 : ¬1 ≤ t.val) (y : S512x256.Idx) : (outsAt0 m c t.val t.isLt).2.2.1 y = blkDc A (row t.val) y := by
  rw [outsAt0_A m c t h0 h1]
  dsimp only
  apply outA7
  exact block m c h t

theorem pt7B (t : Fin cfg0.N) (h0 : ¬t.val % 8 = 0) (h1 : 1 ≤ t.val) (y : S512x256.Idx) : (outsAt0 m c t.val t.isLt).2.2.1 y = blkDc A (row t.val) y := by
  rw [outsAt0_B m c t h0 h1]
  dsimp only
  apply outB7
  exact block m c h t

theorem pt7 (t : Fin cfg0.N) (y : S512x256.Idx) : (outsAt0 m c t.val t.isLt).2.2.1 y = blkDc A (row t.val) y := by
  have := lt_of_lt_of_eq t.isLt N_0
  by_cases h1 : 1 ≤ t.val
  · exact pt7B m c h t (by omega) h1 y
  · exact pt7A m c h t (by omega) h1 y

theorem pt8A (t : Fin cfg0.N) (h0 : t.val % 8 = 0) (h1 : ¬1 ≤ t.val) (j : Fin 768) : (outsAt0 m c t.val t.isLt).2.2.2 (ix2 0 j) = (blkDg A (row t.val) j : EReal) := by
  rw [outsAt0_A m c t h0 h1]
  dsimp only
  apply outA8
  exact block m c h t

theorem pt8B (t : Fin cfg0.N) (h0 : ¬t.val % 8 = 0) (h1 : 1 ≤ t.val) (j : Fin 768) : (outsAt0 m c t.val t.isLt).2.2.2 (ix2 0 j)
    = (outsAt0 m c (t.val - 1) (Nat.lt_of_le_of_lt (Nat.sub_le _ _) t.isLt)).2.2.2 (ix2 0 j) + (blkDg A (row t.val) j : EReal) := by
  rw [outsAt0_B m c t h0 h1]
  dsimp only
  apply outB8
  exact block m c h t

/-- The running sum after point `n`. -/
theorem sum8 (j : Fin 768) : ∀ (n : ℕ) (hn : n < cfg0.N), (outsAt0 m c n hn).2.2.2 (ix2 0 j) = ((∑ i ∈ Finset.range (n + 1), blkDg A (row i) j : ℝ) : EReal)
  | 0, hn => by
    rw [Finset.sum_range_one]
    exact pt8A m c h ⟨0, hn⟩ rfl (Nat.not_succ_le_zero 0) j
  | n + 1, hn => by
    have := lt_of_lt_of_eq hn N_0
    rw [Finset.sum_range_succ, EReal.coe_add, ← sum8 j n (by omega)]
    exact pt8B m c h ⟨n + 1, hn⟩ (show ¬(n + 1) % 8 = 0 by omega) (show 1 ≤ n + 1 by omega) j

omit h

/-- A sum over the rows, block by block and half by half. -/
theorem sum_rows (f : Fin 4096 → ℝ) : ∑ i ∈ Finset.range 8, (∑ p, f (lo (row i) p) + ∑ p, f (hi (row i) p)) = ∑ r, f r := by
  rw [Sums.sum_blocks 8 512 rfl, Finset.sum_range (n := 8)]
  refine Finset.sum_congr rfl fun t _ => ?_
  rw [Sums.sum_blocks 2 256 rfl, Fin.sum_univ_two]
  have e : ∀ (k : Fin 512), row t.val k = Sums.at' 8 512 rfl t k := fun k => Fin.ext (by
    have := t.isLt; have := k.isLt
    show (512 * t.val + k.val) % 4096 = 512 * t.val + k.val
    omega)
  congr 1
  · refine Finset.sum_congr rfl fun p _ => congrArg f ((e _).trans (congrArg _ (Fin.ext ?_)))
    show p.val = 256 * 0 + p.val
    omega
  · refine Finset.sum_congr rfl fun p _ => congrArg f ((e _).trans (congrArg _ (Fin.ext ?_)))
    show 256 + p.val = 256 * 1 + p.val
    omega

theorem total_dg (q : Fin 768) : ∑ i ∈ Finset.range 8, blkDg A (row i) q = A.dg q := sum_rows fun r => A.cot r (colA q) * A.a r q * rs (A.a r)

/-! The arrays after the run. -/

theorem final5 (h : Holds A (A0 m c) (A1 m c) (A2 m c) (A3 m c)) : (dats m 0 c).arrAt 5 cfg0.N = (fun i => (A.da (i 0) (i 1) : EReal) : S4096x768.Idx → EReal) := by
  refine (dats m 0 c).arrAt_eq_of_covers 5 _ (by decide +kernel) fun t hf y => ?_
  blk_simp
  rw [after0_5]
  refine Eq.trans (pt5 m c h t _) ?_
  obtain ⟨p, q, rfl⟩ : ∃ (p : Fin 512) (q : Fin 768), y = ix2 p q := ⟨y 0, y 1, eq_ix2 y⟩
  have e : ((win0_5.blk t).view.emb (ix2 p q) : S4096x768.Idx) = ix2 (row t.val p) q := by blk_ext [win5, row_val]
  rw [e]
  rfl

theorem final6 (h : Holds A (A0 m c) (A1 m c) (A2 m c) (A3 m c)) : (dats m 0 c).arrAt 6 cfg0.N = (fun i => (A.dd (i 0) (i 1) : EReal) : S4096x768.Idx → EReal) := by
  refine (dats m 0 c).arrAt_eq_of_covers 6 _ (by decide +kernel) fun t hf y => ?_
  blk_simp
  rw [after0_6]
  refine Eq.trans (pt6 m c h t _) ?_
  obtain ⟨p, q, rfl⟩ : ∃ (p : Fin 512) (q : Fin 768), y = ix2 p q := ⟨y 0, y 1, eq_ix2 y⟩
  have e : ((win0_6.blk t).view.emb (ix2 p q) : S4096x768.Idx) = ix2 (row t.val p) q := by blk_ext [win6, row_val]
  rw [e]
  rfl

theorem final7 (h : Holds A (A0 m c) (A1 m c) (A2 m c) (A3 m c)) : (dats m 0 c).arrAt 7 cfg0.N = (fun i => (A.dc (i 0) (i 1) : EReal) : S4096x256.Idx → EReal) := by
  refine (dats m 0 c).arrAt_eq_of_covers 7 _ (by decide +kernel) fun t hf y => ?_
  blk_simp
  rw [after0_7]
  refine Eq.trans (pt7 m c h t _) ?_
  obtain ⟨p, q, rfl⟩ : ∃ (p : Fin 512) (q : Fin 256), y = ix2 p q := ⟨y 0, y 1, eq_ix2 y⟩
  have e : ((win0_7.blk t).view.emb (ix2 p q) : S4096x256.Idx) = ix2 (row t.val p) q := by blk_ext [win7, row_val]
  rw [e]
  rfl

theorem final8 (h : Holds A (A0 m c) (A1 m c) (A2 m c) (A3 m c)) : (dats m 0 c).arrAt 8 cfg0.N = (fun i => (A.dg (i 1) : EReal) : S1x768.Idx → EReal) := by
  refine (dats m 0 c).arrAt_eq_of_covers 8 _ (by decide +kernel) fun t hf y => ?_
  have ht : t.val = 7 := by
    have := lt_of_lt_of_eq t.isLt N_0
    have := (flush0_8 t).mp hf
    omega
  blk_simp
  rw [after0_8]
  obtain ⟨p, q, rfl⟩ : ∃ (p : Fin 1) (q : Fin 768), y = ix2 p q := ⟨y 0, y 1, eq_ix2 y⟩
  obtain rfl : p = 0 := Subsingleton.elim _ _
  refine Eq.trans (sum8 m c h q t.val t.isLt) ?_
  rw [ht, total_dg]
  refine congrArg (fun q => ((A.dg q : ℝ) : EReal)) (Fin.ext ?_)
  blk_simp [win8, row_val]

end Cert.DmixValue

end
-- ==== Proof.DmixEqual.lean ====
/- The mixed heads' gradient: on finite arguments the kernel's four results are the reference's. -/
module

public import proofs.«01_k».proof.Defs
public import proofs.«01_k».proof.Proof.DmixValue
public import proofs.«01_k».proof.Proof.Finite
public import proofs.«01_k».proof.Proof.Gen.Pre_finite_dm
public import Idealize.ShloMosaic.Lib.Quiescent

@[expose] public section

set_option maxRecDepth 16384

noncomputable section

namespace Cert.DmixEqual

open Idealize.ShloMosaic Idealize.ShloMosaic.TcCoe Idealize.SL.Sem
open Cert.DmixRef (Args Holds)
open Cert.DmixRefIdeal Cert.DmixRefIdeal.Read

section
variable {x0 : Vec Ideal S4096x1024 .f32} {x1 : Vec Ideal S1024x1024 .f32} {x2 : Vec Ideal S4096x768 .f32} {x3 : Vec Ideal S1x768 .f32}

/-- Finite arguments hold reals. -/
theorem holds (hp : Cert.Pre_finite_dm.fn (F := Ideal) x0 x1 x2 x3 = fun _ => 1#1) : ∃ A : Args, Holds A x0 x1 x2 x3 := by
  have e := congrFun hp (fun i => i.elim0)
  unfold Cert.Pre_finite_dm.fn Cert.Pre_finite_dm.fn_part1 at e
  obtain ⟨e, h3⟩ := Finite.and_one e
  obtain ⟨e, h2⟩ := Finite.and_one e
  obtain ⟨h0, h1⟩ := Finite.and_one e
  obtain ⟨y, hy⟩ := Finite.choose2 (Finite.all_real x0 _ _ _ _ _ h0)
  obtain ⟨w, hw⟩ := Finite.choose2 (Finite.all_real x1 _ _ _ _ _ h1)
  obtain ⟨a, ha⟩ := Finite.choose2 (Finite.all_real x2 _ _ _ _ _ h2)
  obtain ⟨g, hg⟩ := Finite.choose2 (Finite.all_real x3 _ _ _ _ _ h3)
  exact ⟨⟨y, w, a, g 0⟩, hy, hw, ha, hg 0⟩

variable {A : Args} (h : Holds A x0 x1 x2 x3)
include h

theorem ref48 : val_main_v48 (F := Ideal) x0 x1 x2 x3 = fun i => (A.da (i 0) (i 1) : EReal) := by
  funext i
  obtain ⟨p, q, rfl⟩ : ∃ (p : Fin 4096) (q : Fin 768), i = ix2 p q := ⟨i 0, i 1, eq_ix2 i⟩
  pointwise [val_main_v48]
  exact DmixRef.v42 h p q

theorem ref50 : val_main_v50 (F := Ideal) x0 x1 x2 x3 = fun i => (A.dd (i 0) (i 1) : EReal) := by
  funext i
  obtain ⟨p, q, rfl⟩ : ∃ (p : Fin 4096) (q : Fin 768), i = ix2 p q := ⟨i 0, i 1, eq_ix2 i⟩
  exact DmixRef.v50 h p q

theorem ref24 : val_main_v24 (F := Ideal) x0 x1 = fun i => (A.dc (i 0) (i 1) : EReal) := by
  funext i
  obtain ⟨p, q, rfl⟩ : ∃ (p : Fin 4096) (q : Fin 256), i = ix2 p q := ⟨i 0, i 1, eq_ix2 i⟩
  exact DmixRef.v24 h p q

theorem ref43 : val_main_v43 (F := Ideal) x0 x1 x2 = fun i => (A.dg (i 1) : EReal) := by
  funext i
  obtain ⟨p, q, rfl⟩ : ∃ (p : Fin 1) (q : Fin 768), i = ix2 p q := ⟨i 0, i 1, eq_ix2 i⟩
  obtain rfl : p = 0 := Subsingleton.elim _ _
  exact DmixRef.v43 h q

end

theorem quiescent_ref : quiescent_DmixRefIdeal := fun m ρ _ =>
  (θ_run Cert.DmixRefIdeal.defs _ _).mono (fun r h => ⟨fun c => (h c).2.2.2.2, sem_eq_zero_of_no_sems (by decide) r.2⟩)
    (Cert.DmixRefIdeal.Value.run (F := Ideal) m ρ)

theorem algebraic : algebraic_DmixIdeal_DmixRefIdeal_pre_finite_dm := by
  intro m ρ m' ρ' hpre hagree
  refine ⟨_, _, _, _, Cert.DmixIdeal.Value.run_blocks (F := Ideal) m ρ, ?_⟩
  refine (θ_run Cert.DmixRefIdeal.defs _ _).mono (fun _ h c => ?_) (Cert.DmixRefIdeal.Value.run (F := Ideal) m' ρ')
  obtain ⟨A, hA⟩ := holds (hpre c)
  obtain ⟨e0, e1, e2, e3⟩ := hagree c
  obtain ⟨r0, r1, r2, r3, hk⟩ := h c
  refine ⟨?_, ?_, ?_, ?_, hk⟩
  · refine r0.trans ((val_main_v48_eq _ _ _ _).trans ?_)
    rw [e0, e1, e2, e3]
    exact (ref48 hA).trans (DmixValue.final5 m c hA).symm
  · refine r1.trans ((val_main_v50_eq _ _ _ _).trans ?_)
    rw [e0, e1, e2, e3]
    exact (ref50 hA).trans (DmixValue.final6 m c hA).symm
  · refine r2.trans ((val_main_v24_eq _ _).trans ?_)
    rw [e0, e1]
    exact (ref24 hA).trans (DmixValue.final7 m c hA).symm
  · refine r3.trans ((val_main_v43_eq _ _ _).trans ?_)
    rw [e0, e1, e2]
    exact (ref43 hA).trans (DmixValue.final8 m c hA).symm

end Cert.DmixEqual

end
-- ==== Proof.FfnSeq.lean ====
/- The gate of the feed-forward layer on one sequence, as functions of reals: three-tap causal convolutions of the two halves
   of the up projection, the gate, and the gradients of both. -/
module

public import Mathlib.Analysis.SpecialFunctions.Exp
public import Mathlib.Algebra.BigOperators.Fin

@[expose] public section

noncomputable section

namespace Cert.FfnSeq

/-- The value `s` places before, and `s` places after; zero past the ends. -/
def dn {N : ℕ} (s : ℕ) (f : Fin N → ℝ) (t : Fin N) : ℝ := if s ≤ t.val then f ⟨t.val - s, by omega⟩ else 0
def su {N : ℕ} (s : ℕ) (f : Fin N → ℝ) (t : Fin N) : ℝ := if h : t.val + s < N then f ⟨t.val + s, h⟩ else 0

theorem dn_pos {N : ℕ} (s : ℕ) (f : Fin N → ℝ) (t : Fin N) (h : s ≤ t.val) : dn s f t = f ⟨t.val - s, by omega⟩ := if_pos h
theorem dn_neg {N : ℕ} (s : ℕ) (f : Fin N → ℝ) (t : Fin N) (h : ¬s ≤ t.val) : dn s f t = 0 := if_neg h
theorem su_pos {N : ℕ} (s : ℕ) (f : Fin N → ℝ) (t : Fin N) (h : t.val + s < N) : su s f t = f ⟨t.val + s, h⟩ := dif_pos h
theorem su_neg {N : ℕ} (s : ℕ) (f : Fin N → ℝ) (t : Fin N) (h : ¬t.val + s < N) : su s f t = 0 := dif_neg h

/-- A sequence of `N` rows and `W` columns: the layer's input, the cotangent of its output, the two halves of the up
    projection, the down projection, the taps and the biases. -/
structure Seq (N W : ℕ) where
  x : Fin N → Fin 1024 → ℝ
  z : Fin N → Fin 1024 → ℝ
  u : Fin 2 → Fin N → Fin W → ℝ
  d : Fin W → Fin 1024 → ℝ
  w : Fin 3 → Fin 2 → Fin W → ℝ
  b : Fin 2 → Fin W → ℝ

namespace Seq
variable {N W : ℕ} (G : Seq N W)

def conv (h : Fin 2) (t : Fin N) (q : Fin W) : ℝ :=
  G.b h q + G.w 0 h q * dn 2 (fun t => G.u h t q) t + G.w 1 h q * dn 1 (fun t => G.u h t q) t + G.w 2 h q * G.u h t q
def sg (t : Fin N) (q : Fin W) : ℝ := (1 + Real.exp (-G.conv 0 t q))⁻¹
def act (t : Fin N) (q : Fin W) : ℝ := G.conv 0 t q * G.sg t q * G.conv 1 t q
def dact (t : Fin N) (q : Fin W) : ℝ := ∑ k, G.z t k * G.d q k
/-- The gradients of the two convolutions' outputs. -/
def dgate (t : Fin N) (q : Fin W) : ℝ := G.dact t q * G.conv 1 t q * G.sg t q * (1 + G.conv 0 t q * (1 - G.sg t q))
def dval (t : Fin N) (q : Fin W) : ℝ := G.dact t q * G.conv 0 t q * G.sg t q
def dcv (h : Fin 2) (t : Fin N) (q : Fin W) : ℝ := if h = 0 then G.dgate t q else G.dval t q
/-- The gradient of the up projection. -/
def dup (h : Fin 2) (t : Fin N) (q : Fin W) : ℝ :=
  G.w 0 h q * su 2 (fun t => G.dcv h t q) t + G.w 1 h q * su 1 (fun t => G.dcv h t q) t + G.w 2 h q * G.dcv h t q

/-- The input of tap `k`. -/
def tap (k : Fin 3) (h : Fin 2) (t : Fin N) (q : Fin W) : ℝ := dn (2 - k.val) (fun t => G.u h t q) t

theorem dcv0 (t : Fin N) (q : Fin W) : G.dcv 0 t q = G.dgate t q := rfl
theorem dcv1 (t : Fin N) (q : Fin W) : G.dcv 1 t q = G.dval t q := rfl

theorem tap2 (h : Fin 2) (t : Fin N) (q : Fin W) : G.tap 2 h t q = G.u h t q := by
  unfold tap dn
  rw [if_pos (show 2 - (2 : Fin 3).val ≤ t.val from Nat.zero_le _)]
  rfl

end Seq

/-- The rows from `lo` on and the columns from `j` on. -/
def part {N W : ℕ} (G : Seq N W) (n w lo j : ℕ) (hn : lo + n ≤ N) (hw : j + w ≤ W) : Seq n w where
  x t := G.x ⟨lo + t.val, by omega⟩
  z t := G.z ⟨lo + t.val, by omega⟩
  u h t q := G.u h ⟨lo + t.val, by omega⟩ ⟨j + q.val, by omega⟩
  d q := G.d ⟨j + q.val, by omega⟩
  w k h q := G.w k h ⟨j + q.val, by omega⟩
  b h q := G.b h ⟨j + q.val, by omega⟩

section
variable {N n : ℕ} (lo : ℕ) (hn : lo + n ≤ N) (f : Fin N → ℝ) (g : Fin n → ℝ) (s : ℕ) (t : Fin n)

theorem dn_part (hg : ∀ t : Fin n, s ≤ t.val + s → g t = f ⟨lo + t.val, by omega⟩) (ht : lo = 0 ∨ s ≤ t.val) :
    dn s g t = dn s f ⟨lo + t.val, by omega⟩ := by
  unfold dn
  by_cases h : s ≤ t.val
  · rw [if_pos h, if_pos (by dsimp only; omega), hg _ (by omega)]
    exact congrArg f (Fin.ext (by dsimp only; omega))
  · rw [if_neg h, if_neg (by dsimp only; omega)]

theorem su_part (hg : ∀ h : t.val + s < n, g ⟨t.val + s, h⟩ = f ⟨lo + (t.val + s), by omega⟩) (ht : lo + n = N ∨ t.val + s < n) :
    su s g t = su s f ⟨lo + t.val, by omega⟩ := by
  unfold su
  by_cases h : t.val + s < n
  · rw [dif_pos h, dif_pos (show (lo + t.val) + s < N by omega), hg h]
    exact congrArg f (Fin.ext (by dsimp only; omega))
  · rw [dif_neg h, dif_neg (show ¬(lo + t.val) + s < N by omega)]

end

section
variable {N W n w : ℕ} (G : Seq N W) (lo j : ℕ) (hn : lo + n ≤ N) (hw : j + w ≤ W) (t : Fin n) (q : Fin w)

abbrev at_ (t : Fin n) : Fin N := ⟨lo + t.val, by omega⟩

theorem tap_part (k : Fin 3) (h : Fin 2) (ht : lo = 0 ∨ 2 ≤ t.val) :
    (part G n w lo j hn hw).tap k h t q = G.tap k h ⟨lo + t.val, by omega⟩ ⟨j + q.val, by omega⟩ :=
  dn_part lo hn _ _ _ _ (fun _ _ => rfl) (by have := k.isLt; omega)

theorem conv_part (h : Fin 2) (ht : lo = 0 ∨ 2 ≤ t.val) :
    (part G n w lo j hn hw).conv h t q = G.conv h ⟨lo + t.val, by omega⟩ ⟨j + q.val, by omega⟩ := by
  have e1 := tap_part G lo j hn hw t q 1 h ht
  have e0 := tap_part G lo j hn hw t q 0 h ht
  unfold Seq.tap at e0 e1
  unfold Seq.conv
  exact congrArg₂ (· + ·) (congrArg₂ (· + ·) (congrArg₂ (· + ·) rfl (congrArg₂ (· * ·) rfl e0)) (congrArg₂ (· * ·) rfl e1)) rfl

theorem act_part (ht : lo = 0 ∨ 2 ≤ t.val) :
    (part G n w lo j hn hw).act t q = G.act ⟨lo + t.val, by omega⟩ ⟨j + q.val, by omega⟩ := by
  unfold Seq.act Seq.sg
  rw [conv_part G lo j hn hw t q 0 ht, conv_part G lo j hn hw t q 1 ht]

theorem dcv_part (h : Fin 2) (ht : lo = 0 ∨ 2 ≤ t.val) :
    (part G n w lo j hn hw).dcv h t q = G.dcv h ⟨lo + t.val, by omega⟩ ⟨j + q.val, by omega⟩ := by
  unfold Seq.dcv Seq.dgate Seq.dval Seq.sg
  rw [conv_part G lo j hn hw t q 0 ht, conv_part G lo j hn hw t q 1 ht]
  rfl

theorem dup_part (h : Fin 2) (ht : lo = 0 ∨ 2 ≤ t.val) (hu : lo + n = N ∨ t.val + 2 < n) :
    (part G n w lo j hn hw).dup h t q = G.dup h ⟨lo + t.val, by omega⟩ ⟨j + q.val, by omega⟩ := by
  unfold Seq.dup
  rw [su_part lo hn (fun t => G.dcv h t ⟨j + q.val, by omega⟩) _ 2 t (fun _ => dcv_part G lo j hn hw _ q h (by dsimp only; omega)) hu,
    su_part lo hn (fun t => G.dcv h t ⟨j + q.val, by omega⟩) _ 1 t (fun _ => dcv_part G lo j hn hw _ q h (by dsimp only; omega)) (by omega),
    dcv_part G lo j hn hw t q h ht]
  rfl

end

end Cert.FfnSeq

end
-- ==== Proof.FfnTile.lean ====
/- What the kernel of the feed-forward gate's gradient computes of 1040 rows and 128 columns, as reals. -/
module

public import proofs.«01_k».proof.Proof.FfnSeq
public import proofs.«01_k».proof.Proof.Consts
public import proofs.«01_k».proof.Proof.Gen.FfnIdeal.Value
public import Idealize.ShloMosaic.Lib.Pointwise

@[expose] public section

set_option maxRecDepth 16384

noncomputable section

namespace Cert.FfnTile

open Idealize.ShloMosaic Idealize.ShloMosaic.TcCoe Idealize.SL.Sem
open Cert.FfnIdeal Cert.FfnIdeal.Gen Cert.Consts Cert.FfnSeq

/-- The rows' numbers. -/
abbrev nums : IVec S1040x128 32 := iota .tc S1040x128 32 [0] iota_S1040x128_d0_w32

/-- The shifts towards the start, by one and by two. -/
def up1 (v : FVec Ideal S1040x128 .f32) : FVec Ideal S1040x128 .f32 :=
  have r : FVec Ideal S1040x128 .f32 := dynamicRotate 0 1039#32 none v rotates_S1040x128_d0
  concatenate S1040x128 0 [⟨S1032x128, extractStridedSlice S1032x128 ![0, 0] r slices_S1040x128_o0_0_S1032x128⟩,
    ⟨S8x128, select (cmpi .slt (extractStridedSlice S8x128 ![1032, 0] nums slices_S1040x128_o1032_0_S8x128) (broadcast S8x128 1039#32))
      (extractStridedSlice S8x128 ![1032, 0] r slices_S1040x128_o1032_0_S8x128) (broadcast S8x128 (Scalar.ofBits .f32 0x00000000#32))⟩]
    concatenates_S1032x128_S8x128_S1040x128_d0
def up2 (v : FVec Ideal S1040x128 .f32) : FVec Ideal S1040x128 .f32 :=
  have r : FVec Ideal S1040x128 .f32 := dynamicRotate 0 1038#32 none v rotates_S1040x128_d0
  concatenate S1040x128 0 [⟨S1032x128, extractStridedSlice S1032x128 ![0, 0] r slices_S1040x128_o0_0_S1032x128⟩,
    ⟨S8x128, select (cmpi .slt (extractStridedSlice S8x128 ![1032, 0] nums slices_S1040x128_o1032_0_S8x128) (broadcast S8x128 1038#32))
      (extractStridedSlice S8x128 ![1032, 0] r slices_S1040x128_o1032_0_S8x128) (broadcast S8x128 (Scalar.ofBits .f32 0x00000000#32))⟩]
    concatenates_S1032x128_S8x128_S1040x128_d0

theorem ge1 : ∀ n : Fin 8, IntOp.cmpi CmpIPredicate.sge (BitVec.ofNat 32 n.val) 1#32 = if 1 ≤ n.val then 1#1 else 0#1 := by decide +kernel
theorem ge2 : ∀ n : Fin 8, IntOp.cmpi CmpIPredicate.sge (BitVec.ofNat 32 n.val) 2#32 = if 2 ≤ n.val then 1#1 else 0#1 := by decide +kernel
theorem lt1 : ∀ n : Fin 8, IntOp.cmpi CmpIPredicate.slt (BitVec.ofNat 32 (1032 + n.val)) 1039#32 = if n.val < 7 then 1#1 else 0#1 := by decide +kernel
theorem lt2 : ∀ n : Fin 8, IntOp.cmpi CmpIPredicate.slt (BitVec.ofNat 32 (1032 + n.val)) 1038#32 = if n.val < 6 then 1#1 else 0#1 := by decide +kernel

theorem one_ : (1 : EReal) = ((1 : ℝ) : EReal) := rfl
theorem select_one (a b : EReal) : Scalar.select 1#1 a b = a := rfl
theorem select_zero (a b : EReal) : Scalar.select 0#1 a b = b := rfl

section
variable {v : FVec Ideal S1040x128 .f32} {f : Fin 1040 → Fin 128 → ℝ} (hv : ∀ p q, v (ix2 p q) = (f p q : EReal)) (p : Fin 1040) (q : Fin 128)

include hv

theorem dn2_at : k0_pay17 nums v (ix2 p q) = (dn 2 (fun t => f t q) p : EReal) := by
  pointwise [k0_pay17]
  by_cases h8 : p.val < 8
  · refine (dif_pos h8).trans ?_
    rw [ge2 ⟨p.val, h8⟩]
    by_cases h : 2 ≤ p.val
    · rw [if_pos h, select_one, dn_pos 2 _ p h, hv]
      exact congrArg (fun i => (f i q : EReal)) (Fin.ext (by dsimp only; omega))
    · rw [if_neg h, select_zero, dn_neg 2 _ p h]
      rfl
  · refine (dif_neg h8).trans ?_
    rw [hv, dn_pos 2 _ p (by omega)]
    exact congrArg (fun i => (f i q : EReal)) (Fin.ext (by dsimp only; omega))
theorem up2_at : up2 v (ix2 p q) = (su 2 (fun t => f t q) p : EReal) := by
  pointwise [up2]
  by_cases h8 : p.val < 1032
  · refine (dif_pos h8).trans ?_
    rw [hv, su_pos 2 _ p (by omega)]
    exact congrArg (fun i => (f i q : EReal)) (Fin.ext (by dsimp only; omega))
  · refine (dif_neg h8).trans ?_
    rw [lt2 ⟨p.val - 1032, by omega⟩]
    by_cases h : p.val - 1032 < 6
    · rw [if_pos h, select_one, su_pos 2 _ p (by omega), hv]
      exact congrArg (fun i => (f i q : EReal)) (Fin.ext (by dsimp only; omega))
    · rw [if_neg h, select_zero, su_neg 2 _ p (by omega)]
      rfl

theorem dn1_at : k0_pay18 nums v (ix2 p q) = (dn 1 (fun t => f t q) p : EReal) := by
  pointwise [k0_pay18]
  by_cases h8 : p.val < 8
  · refine (dif_pos h8).trans ?_
    rw [ge1 ⟨p.val, h8⟩]
    by_cases h : 1 ≤ p.val
    · rw [if_pos h, select_one, dn_pos 1 _ p h, hv]
      exact congrArg (fun i => (f i q : EReal)) (Fin.ext (by dsimp only; omega))
    · rw [if_neg h, select_zero, dn_neg 1 _ p h]
      rfl
  · refine (dif_neg h8).trans ?_
    rw [hv, dn_pos 1 _ p (by omega)]
    exact congrArg (fun i => (f i q : EReal)) (Fin.ext (by dsimp only; omega))
theorem up1_at : up1 v (ix2 p q) = (su 1 (fun t => f t q) p : EReal) := by
  pointwise [up1]
  by_cases h8 : p.val < 1032
  · refine (dif_pos h8).trans ?_
    rw [hv, su_pos 1 _ p (by omega)]
    exact congrArg (fun i => (f i q : EReal)) (Fin.ext (by dsimp only; omega))
  · refine (dif_neg h8).trans ?_
    rw [lt1 ⟨p.val - 1032, by omega⟩]
    by_cases h : p.val - 1032 < 7
    · rw [if_pos h, select_one, su_pos 1 _ p (by omega), hv]
      exact congrArg (fun i => (f i q : EReal)) (Fin.ext (by dsimp only; omega))
    · rw [if_neg h, select_zero, su_neg 1 _ p (by omega)]
      rfl

/-- The logistic function by its tangent. -/
theorem sg_at : k0_pay21 v (ix2 p q) = (((1 + Real.exp (-f p q))⁻¹ : ℝ) : EReal) := by
  pointwise [k0_pay21]
  simp only [hv, of_half, ← EReal.coe_mul, Ideal.tanh_coe, ← EReal.coe_add]
  refine congrArg Real.toEReal ?_
  rw [Real.tanh_eq_sinh_div_cosh, Real.sinh_eq, Real.cosh_eq, show -f p q = -(1 / 2 * f p q) + -(1 / 2 * f p q) by ring, Real.exp_add]
  have e : Real.exp (1 / 2 * f p q) * Real.exp (-(1 / 2 * f p q)) = 1 := by rw [← Real.exp_add]; norm_num
  have a := Real.exp_pos (1 / 2 * f p q)
  have b := Real.exp_pos (-(1 / 2 * f p q))
  generalize Real.exp (1 / 2 * f p q) = X at a e ⊢
  generalize Real.exp (-(1 / 2 * f p q)) = Y at b e ⊢
  field_simp
  linear_combination (2 * Y) * e

/-- The sum of the first 1024 rows, and of the last. -/
theorem sum_lo : k0_pay33 v (ix2 0 q) = ((∑ t : Fin 1024, f ⟨t.val, by omega⟩ q : ℝ) : EReal) := by
  pointwise [k0_pay33]
  simp only [hv, coe_sum]
theorem sum_hi (a : FVec Ideal S1x128 .f32) : k0_pay77 a v (ix2 0 q) = a (ix2 0 q) + ((∑ t : Fin 1024, f ⟨16 + t.val, by omega⟩ q : ℝ) : EReal) := by
  pointwise [k0_pay77]
  simp only [hv, coe_sum]

end

/-- The gradient through a convolution. -/
def dup (v : FVec Ideal S1040x128 .f32) (w0 w1 w2 : FVec Ideal S1x128 .f32) : FVec Ideal S1040x128 .bf16 :=
  truncf .bf16 (addf (addf (addf (broadcast S1040x128 (Scalar.ofBits .f32 0x00000000#32)) (mulf (broadcastTo S1040x128 w0 broadcasts_S1x128_S1040x128) (up2 v)))
    (mulf (broadcastTo S1040x128 w1 broadcasts_S1x128_S1040x128) (up1 v))) (mulf (broadcastTo S1040x128 w2 broadcasts_S1x128_S1040x128) v)) bitsLt_bf16_f32

theorem dup_at {v : FVec Ideal S1040x128 .f32} {w0 w1 w2 : FVec Ideal S1x128 .f32} {f : Fin 1040 → Fin 128 → ℝ} {g0 g1 g2 : Fin 128 → ℝ}
    (hv : ∀ p q, v (ix2 p q) = (f p q : EReal)) (h0 : ∀ q, w0 (ix2 0 q) = (g0 q : EReal)) (h1 : ∀ q, w1 (ix2 0 q) = (g1 q : EReal))
    (h2 : ∀ q, w2 (ix2 0 q) = (g2 q : EReal)) (p : Fin 1040) (q : Fin 128) :
    dup v w0 w1 w2 (ix2 p q) = ((g0 q * su 2 (fun t => f t q) p + g1 q * su 1 (fun t => f t q) p + g2 q * f p q : ℝ) : EReal) := by
  pointwise [dup]
  simp only [up2_at hv, up1_at hv, hv, h0, h1, h2, ← EReal.coe_mul, ← EReal.coe_add]

/-- The loaded blocks hold a sequence. -/
structure Rows (G : Seq 1040 128) (x z : FVec Ideal S1x1040x1024 .bf16) (u0 u1 : FVec Ideal S1x1040x128 .f32) (d : FVec Ideal S128x1024 .bf16)
    (b0 b1 w00 w01 w02 w10 w11 w12 : FVec Ideal S1x128 .f32) : Prop where
  x : ∀ p k, x (ix3 0 p k) = (G.x p k : EReal)
  z : ∀ p k, z (ix3 0 p k) = (G.z p k : EReal)
  u0 : ∀ p q, u0 (ix3 0 p q) = (G.u 0 p q : EReal)
  u1 : ∀ p q, u1 (ix3 0 p q) = (G.u 1 p q : EReal)
  d : ∀ q k, d (ix2 q k) = (G.d q k : EReal)
  b0 : ∀ q, b0 (ix2 0 q) = (G.b 0 q : EReal)
  b1 : ∀ q, b1 (ix2 0 q) = (G.b 1 q : EReal)
  w00 : ∀ q, w00 (ix2 0 q) = (G.w 0 0 q : EReal)
  w01 : ∀ q, w01 (ix2 0 q) = (G.w 1 0 q : EReal)
  w02 : ∀ q, w02 (ix2 0 q) = (G.w 2 0 q : EReal)
  w10 : ∀ q, w10 (ix2 0 q) = (G.w 0 1 q : EReal)
  w11 : ∀ q, w11 (ix2 0 q) = (G.w 1 1 q : EReal)
  w12 : ∀ q, w12 (ix2 0 q) = (G.w 2 1 q : EReal)

section
variable (x z : FVec Ideal S1x1040x1024 .bf16) (u0 u1 : FVec Ideal S1x1040x128 .f32) (d : FVec Ideal S128x1024 .bf16)
  (b0 b1 w00 w01 w02 w10 w11 w12 : FVec Ideal S1x128 .f32)

/-- The gate before its activation, the value, the activation and the gradients of both convolutions. -/
abbrev gate : FVec Ideal S1040x128 .f32 := k0_pay16 (k0_pay8 u0) (k0_pay11 u0 b0 w00) w01 (k0_pay12 u0) k0_pay13 (k0_pay14 u0) w02
abbrev most : FVec Ideal S1040x128 .f32 := k0_pay19 nums (k0_pay9 u1) b1 w10 w11
abbrev act : FVec Ideal S1040x128 .bf16 := k0_pay22 (k0_pay9 u1) (gate u0 b0 w00 w01 w02) (most u1 b1 w10 w11) w12
abbrev dg : FVec Ideal S1040x128 .f32 := k0_pay24 (k0_pay7 z) (k0_pay9 u1) (gate u0 b0 w00 w01 w02) (most u1 b1 w10 w11) w12 d
abbrev dv : FVec Ideal S1040x128 .f32 := k0_pay25 (k0_pay7 z) (gate u0 b0 w00 w01 w02) d
end

theorem first (u0 : FVec Ideal S1x1040x128 .f32) : k0_pay10 (F := Ideal) u0 = k0_pay17 nums (k0_pay8 u0) := rfl
theorem second (u0 : FVec Ideal S1x1040x128 .f32) : k0_pay15 (F := Ideal) (k0_pay12 u0) k0_pay13 (k0_pay14 u0) = k0_pay18 nums (k0_pay8 u0) := rfl

section
variable {G : Seq 1040 128} {x z : FVec Ideal S1x1040x1024 .bf16} {u0 u1 : FVec Ideal S1x1040x128 .f32} {d : FVec Ideal S128x1024 .bf16}
  {b0 b1 w00 w01 w02 w10 w11 w12 : FVec Ideal S1x128 .f32}
  (R : Rows G x z u0 u1 d b0 b1 w00 w01 w02 w10 w11 w12) (p : Fin 1040) (q : Fin 128) (k : Fin 1024)

include R

theorem x_at : k0_pay6 (F := Ideal) x (ix2 p k) = (G.x p k : EReal) := by
  pointwise [k0_pay6]
  exact R.x p k
theorem z_at : k0_pay7 (F := Ideal) z (ix2 p k) = (G.z p k : EReal) := by
  pointwise [k0_pay7]
  exact R.z p k
theorem u0_at : k0_pay8 (F := Ideal) u0 (ix2 p q) = (G.u 0 p q : EReal) := by
  pointwise [k0_pay8]
  exact R.u0 p q
theorem u1_at : k0_pay9 (F := Ideal) u1 (ix2 p q) = (G.u 1 p q : EReal) := by
  pointwise [k0_pay9]
  exact R.u1 p q

theorem gate_at : gate u0 b0 w00 w01 w02 (ix2 p q) = (G.conv 0 p q : EReal) := by
  unfold gate
  pointwise [k0_pay16, k0_pay11]
  rw [first, second, dn2_at (u0_at R), dn1_at (u0_at R), u0_at R]
  simp only [R.b0, R.w00, R.w01, R.w02, ← EReal.coe_mul, ← EReal.coe_add]
  rfl
theorem val_at : k0_pay20 (F := Ideal) (k0_pay9 u1) (most u1 b1 w10 w11) w12 (ix2 p q) = (G.conv 1 p q : EReal) := by
  unfold most
  pointwise [k0_pay20, k0_pay19]
  rw [dn2_at (u1_at R), dn1_at (u1_at R), u1_at R]
  simp only [R.b1, R.w10, R.w11, R.w12, ← EReal.coe_mul, ← EReal.coe_add]
  rfl
theorem act_at : act u0 u1 b0 b1 w00 w01 w02 w10 w11 w12 (ix2 p q) = (G.act p q : EReal) := by
  unfold act
  pointwise [k0_pay22]
  rw [gate_at R, sg_at (gate_at R), val_at R, ← EReal.coe_mul, ← EReal.coe_mul]
  rfl
theorem dact_at : k0_pay23 (F := Ideal) (k0_pay7 z) d (ix2 p q) = (G.dact p q : EReal) := by
  pointwise [k0_pay23]
  simp only [z_at R, R.d, ← EReal.coe_mul, coe_sum]
  rfl
theorem dg_at : dg z u0 u1 d b0 b1 w00 w01 w02 w10 w11 w12 (ix2 p q) = (G.dcv 0 p q : EReal) := by
  unfold dg
  pointwise [k0_pay24]
  rw [dact_at R, gate_at R, sg_at (gate_at R), val_at R, one_]
  simp only [← EReal.coe_mul, ← EReal.coe_add, ← EReal.coe_sub]
  rfl
theorem dv_at : dv z u0 d b0 w00 w01 w02 (ix2 p q) = (G.dcv 1 p q : EReal) := by
  unfold dv
  pointwise [k0_pay25]
  rw [dact_at R, gate_at R, sg_at (gate_at R)]
  simp only [← EReal.coe_mul]
  rfl

end

end Cert.FfnTile

end
-- ==== Proof.FfnHalves.lean ====
/- What the kernel of the feed-forward gate's gradient stores for a sequence it takes in two overlapping halves. -/
module

public import proofs.«01_k».proof.Proof.FfnTile

@[expose] public section

set_option maxRecDepth 16384

noncomputable section

namespace Cert.FfnHalves

open Idealize.ShloMosaic Idealize.ShloMosaic.TcCoe Idealize.SL.Sem
open Cert.FfnIdeal Cert.FfnIdeal.Gen Cert.Consts Cert.FfnSeq Cert.FfnTile

section
variable (x z : FVec Ideal S1x1040x1024 .bf16) (u0 u1 : FVec Ideal S1x1040x128 .f32) (x' z' : FVec Ideal S1x1040x1024 .bf16)
  (u0' u1' : FVec Ideal S1x1040x128 .f32) (d : FVec Ideal S128x1024 .bf16) (b0 b1 w00 w01 w02 w10 w11 w12 : FVec Ideal S1x128 .f32)

/-! The second half computes the same functions of its rows. -/

abbrev gate' : FVec Ideal S1040x128 .f32 := k0_pay58 (k0_pay50 u0) (k0_pay53 u0 b0 w00) w01 (k0_pay54 u0) k0_pay55 k0_pay56 w02
abbrev most' : FVec Ideal S1040x128 .f32 := k0_pay61 nums (k0_pay51 u1) b1 w10 w11
abbrev act' : FVec Ideal S1040x128 .bf16 := k0_pay64 (k0_pay51 u1) (gate' u0 b0 w00 w01 w02) (most' u1 b1 w10 w11) w12
abbrev dg' : FVec Ideal S1040x128 .f32 := k0_pay66 (k0_pay49 z) (k0_pay51 u1) (gate' u0 b0 w00 w01 w02) (most' u1 b1 w10 w11) w12 d
abbrev dv' : FVec Ideal S1040x128 .f32 := k0_pay67 (k0_pay49 z) (gate' u0 b0 w00 w01 w02) d

theorem again_act : act' u0 u1 b0 b1 w00 w01 w02 w10 w11 w12 = act u0 u1 b0 b1 w00 w01 w02 w10 w11 w12 := rfl
theorem again_dg : dg' z u0 u1 d b0 b1 w00 w01 w02 w10 w11 w12 = dg z u0 u1 d b0 b1 w00 w01 w02 w10 w11 w12 := rfl
theorem again_dv : dv' z u0 d b0 w00 w01 w02 = dv z u0 d b0 w00 w01 w02 := rfl
theorem again_x : k0_pay48 (F := Ideal) x = k0_pay6 x := rfl
theorem again_z : k0_pay49 (F := Ideal) z = k0_pay7 z := rfl

/-! The gradients of the up projection's two halves, of the first rows and of the last. -/

abbrev lo0 : FVec Ideal S1024x128 .bf16 := k0_pay32 nums (dg z u0 u1 d b0 b1 w00 w01 w02 w10 w11 w12) k0_pay27 w00 (k0_pay29 nums (k0_pay7 z) (k0_pay9 u1) (gate u0 b0 w00 w01 w02) (most u1 b1 w10 w11) w12 d) w01 w02
abbrev lo1 : FVec Ideal S1024x128 .bf16 := k0_pay41 nums (dv z u0 d b0 w00 w01 w02) k0_pay34 w10 (k0_pay36 (dv z u0 d b0 w00 w01 w02)) (k0_pay37 nums) (k0_pay38 (dv z u0 d b0 w00 w01 w02)) w11 w12
abbrev hi0 : FVec Ideal S1024x128 .bf16 := k0_pay76 nums (dg' z' u0' u1' d b0 b1 w00 w01 w02 w10 w11 w12) k0_pay69 w00 (k0_pay71 (k0_pay49 z') (k0_pay51 u1') (gate' u0' b0 w00 w01 w02) (most' u1' b1 w10 w11) w12 d) (k0_pay72 nums)
  (k0_pay73 (k0_pay49 z') (k0_pay51 u1') (gate' u0' b0 w00 w01 w02) (most' u1' b1 w10 w11) w12 d) (FloatOps.ofBits .f32 0#32) w01 w02
abbrev hi1 : FVec Ideal S1024x128 .bf16 := k0_pay82 nums (dv' z' u0' d b0 w00 w01 w02) k0_pay78 w10 w11 w12

variable (v : FVec Ideal S1040x128 .f32)

theorem lo0_eq : lo0 z u0 u1 d b0 b1 w00 w01 w02 w10 w11 w12 = extractStridedSlice S1024x128 ![0, 0] (dup (dg z u0 u1 d b0 b1 w00 w01 w02 w10 w11 w12) w00 w01 w02) slices_S1040x128_o0_0_S1024x128 := rfl
theorem lo1_eq : lo1 z u0 d b0 w00 w01 w02 w10 w11 w12 = extractStridedSlice S1024x128 ![0, 0] (dup (dv z u0 d b0 w00 w01 w02) w10 w11 w12) slices_S1040x128_o0_0_S1024x128 := rfl
theorem hi0_eq : hi0 z' u0' u1' d b0 b1 w00 w01 w02 w10 w11 w12 = extractStridedSlice S1024x128 ![16, 0] (dup (dg' z' u0' u1' d b0 b1 w00 w01 w02 w10 w11 w12) w00 w01 w02) slices_S1040x128_o16_0_S1024x128 := rfl
theorem hi1_eq : hi1 z' u0' d b0 w00 w01 w02 w10 w11 w12 = extractStridedSlice S1024x128 ![16, 0] (dup (dv' z' u0' d b0 w00 w01 w02) w10 w11 w12) slices_S1040x128_o16_0_S1024x128 := rfl

/-- The product of both gradients with the first rows of the input. -/
abbrev wide : FVec Ideal S256x1024 .f32 := k0_pay46 (k0_pay44 nums (dv z u0 d b0 w00 w01 w02) (lo0 z u0 u1 d b0 b1 w00 w01 w02 w10 w11 w12) k0_pay34 w10 (k0_pay36 (dv z u0 d b0 w00 w01 w02)) (k0_pay37 nums) (k0_pay38 (dv z u0 d b0 w00 w01 w02)) w11 w12) (k0_pay45 (k0_pay6 x))

theorem wide_eq : wide x z u0 u1 d b0 b1 w00 w01 w02 w10 w11 w12 = k0_pay46 (concatenate S1024x256 1 [⟨S1024x128, lo0 z u0 u1 d b0 b1 w00 w01 w02 w10 w11 w12⟩, ⟨S1024x128, lo1 z u0 d b0 w00 w01 w02 w10 w11 w12⟩] concatenates_S1024x128_S1024x128_S1024x256_d1) (k0_pay45 (k0_pay6 x)) := rfl
end

section
variable {L0 L1 H0 H1 : FVec Ideal S1024x128 .bf16} {X X' : FVec Ideal S1040x1024 .bf16} {l0 l1 m0 m1 : Fin 1024 → Fin 128 → ℝ} {f g : Fin 1040 → Fin 1024 → ℝ}
  (e0 : ∀ p q, L0 (ix2 p q) = (l0 p q : EReal)) (e1 : ∀ p q, L1 (ix2 p q) = (l1 p q : EReal)) (e2 : ∀ p q, H0 (ix2 p q) = (m0 p q : EReal))
  (e3 : ∀ p q, H1 (ix2 p q) = (m1 p q : EReal)) (ex : ∀ p k, X (ix2 p k) = (f p k : EReal)) (ex' : ∀ p k, X' (ix2 p k) = (g p k : EReal)) (q : Fin 128) (k : Fin 1024)
include e0 e1 e2 e3 ex ex'

theorem top_at : k0_pay87 (k0_pay46 (concatenate S1024x256 1 [⟨S1024x128, L0⟩, ⟨S1024x128, L1⟩] concatenates_S1024x128_S1024x128_S1024x256_d1) (k0_pay45 X)) X' H0 H1 (ix2 q k)
    = ((∑ t : Fin 1024, l0 t q * f ⟨t.val, by omega⟩ k + ∑ t : Fin 1024, m0 t q * g ⟨16 + t.val, by omega⟩ k : ℝ) : EReal) := by
  pointwise [k0_pay87, k0_pay85, k0_pay46, k0_pay45]
  simp only [e0, e1, e2, e3, ex, ex', ← EReal.coe_mul, coe_sum, ← EReal.coe_add]
theorem low_at : k0_pay90 (k0_pay46 (concatenate S1024x256 1 [⟨S1024x128, L0⟩, ⟨S1024x128, L1⟩] concatenates_S1024x128_S1024x128_S1024x256_d1) (k0_pay45 X)) X' H0 H1 (ix2 q k)
    = ((∑ t : Fin 1024, l1 t q * f ⟨t.val, by omega⟩ k + ∑ t : Fin 1024, m1 t q * g ⟨16 + t.val, by omega⟩ k : ℝ) : EReal) := by
  pointwise [k0_pay90, k0_pay85, k0_pay46, k0_pay45]
  simp only [e0, e1, e2, e3, ex, ex', ← EReal.coe_mul, coe_sum, ← EReal.coe_add]
end

section
variable {a a' : FVec Ideal S1040x128 .bf16} {X X' : FVec Ideal S1040x1024 .bf16} {m m' : Fin 1040 → Fin 128 → ℝ} {f g : Fin 1040 → Fin 1024 → ℝ}
  (e0 : ∀ p q, a (ix2 p q) = (m p q : EReal)) (e1 : ∀ p q, a' (ix2 p q) = (m' p q : EReal))
  (ex : ∀ p k, X (ix2 p k) = (f p k : EReal)) (ex' : ∀ p k, X' (ix2 p k) = (g p k : EReal)) (q : Fin 128) (k : Fin 1024)
include e0 e1 ex ex'

theorem down_at : k0_pay86 (k0_pay47 X a) X' a' (ix2 q k)
    = ((∑ t : Fin 1024, m ⟨t.val, by omega⟩ q * f ⟨t.val, by omega⟩ k + ∑ t : Fin 1024, m' ⟨16 + t.val, by omega⟩ q * g ⟨16 + t.val, by omega⟩ k : ℝ) : EReal) := by
  pointwise [k0_pay86, k0_pay47]
  simp only [e0, e1, ex, ex', ← EReal.coe_mul, coe_sum, ← EReal.coe_add]
end

section
variable {v s v' s' : FVec Ideal S1040x128 .f32} {f g f' g' : Fin 1040 → Fin 128 → ℝ}
  (hv : ∀ p q, v (ix2 p q) = (f p q : EReal)) (hs : ∀ p q, s (ix2 p q) = (g p q : EReal)) (hv' : ∀ p q, v' (ix2 p q) = (f' p q : EReal))
  (hs' : ∀ p q, s' (ix2 p q) = (g' p q : EReal)) (q : Fin 128)

theorem cb_at (hv : ∀ p q, v (ix2 p q) = (f p q : EReal)) (hv' : ∀ p q, v' (ix2 p q) = (f' p q : EReal)) : k0_pay77 (k0_pay33 v) v' (ix2 0 q)
    = ((∑ t : Fin 1024, f ⟨t.val, by omega⟩ q + ∑ t : Fin 1024, f' ⟨16 + t.val, by omega⟩ q : ℝ) : EReal) := by
  rw [sum_hi hv', sum_lo hv, ← EReal.coe_add]

include hv hs hv' hs'
/-- The gradient of a tap: the sum of a gradient's products with the tap's input. -/
theorem cw_at : k0_pay77 (k0_pay33 (mulf v s)) (mulf v' s') (ix2 0 q)
    = ((∑ t : Fin 1024, f ⟨t.val, by omega⟩ q * g ⟨t.val, by omega⟩ q + ∑ t : Fin 1024, f' ⟨16 + t.val, by omega⟩ q * g' ⟨16 + t.val, by omega⟩ q : ℝ) : EReal) := by
  pointwise [k0_pay77, k0_pay33]
  simp only [hv, hs, hv', hs', ← EReal.coe_mul, coe_sum, ← EReal.coe_add]
end

section
variable (v s v' s' : FVec Ideal S1040x128 .f32)
theorem cw_01 : k0_pay74 (k0_pay30 s v) s' v' = k0_pay77 (k0_pay33 (mulf v s)) (mulf v' s') := rfl
theorem cw_02 : k0_pay75 (k0_pay31 s v) s' v' = k0_pay77 (k0_pay33 (mulf v s)) (mulf v' s') := rfl
theorem cw_10 : k0_pay79 (k0_pay35 s v) s' v' = k0_pay77 (k0_pay33 (mulf v s)) (mulf v' s') := rfl
theorem cw_11 : k0_pay80 (k0_pay39 s v) s' v' = k0_pay77 (k0_pay33 (mulf v s)) (mulf v' s') := rfl
theorem cw_12 : k0_pay81 (k0_pay40 s v) s' v' = k0_pay77 (k0_pay33 (mulf v s)) (mulf v' s') := rfl
end

theorem dn1_again (u : FVec Ideal S1x1040x128 .f32) : k0_pay57 (F := Ideal) (k0_pay54 u) k0_pay55 k0_pay56 = k0_pay18 nums (k0_pay8 u) := rfl
theorem dn2_again (u : FVec Ideal S1x1040x128 .f32) : k0_pay52 (F := Ideal) u = k0_pay17 nums (k0_pay8 u) := rfl
theorem dn1_more (v : FVec Ideal S1040x128 .f32) : k0_pay60 nums v = k0_pay18 nums v := rfl
theorem dn2_more (v : FVec Ideal S1040x128 .f32) : k0_pay59 nums v = k0_pay17 nums v := rfl
theorem u0_again (u : FVec Ideal S1x1040x128 .f32) : k0_pay50 (F := Ideal) u = k0_pay8 u := rfl
theorem u1_again (u : FVec Ideal S1x1040x128 .f32) : k0_pay51 (F := Ideal) u = k0_pay9 u := rfl

/-- A row of the first half, and of the last. -/
abbrev first (p : Fin 1024) : Fin 2048 := ⟨p.val, by omega⟩
abbrev last (p : Fin 1024) : Fin 2048 := ⟨1024 + p.val, by omega⟩

/-- A sum over a sequence, half by half. -/
theorem join (f : Fin 2048 → ℝ) : ∑ p, f (first p) + ∑ p, f (last p) = ∑ t, f t := (Fin.sum_univ_add (a := 1024) (b := 1024) f).symm

theorem at_first (p : Fin 1024) : (⟨0 + p.val, by omega⟩ : Fin 2048) = first p := Fin.ext (Nat.zero_add _)
theorem at_last (p : Fin 1024) : (⟨1008 + (16 + p.val), by omega⟩ : Fin 2048) = last p := Fin.ext (by show 1008 + (16 + p.val) = 1024 + p.val; omega)

section
variable (S : Seq 2048 2816) (j : ℕ) (hj : j + 128 ≤ 2816)

/-- The first 1040 rows of a sequence's columns from `j` on, and the last. -/
abbrev lo : Seq 1040 128 := part S 1040 128 0 j (by omega) hj
abbrev hi : Seq 1040 128 := part S 1040 128 1008 j (by omega) hj
abbrev cl (q : Fin 128) : Fin 2816 := ⟨j + q.val, by omega⟩

variable (h : Fin 2) (p : Fin 1024) (q : Fin 128)

theorem dup_lo : (lo S j hj).dup h ⟨p.val, by omega⟩ q = S.dup h (first p) (cl j hj q) :=
  (dup_part S 0 j _ _ ⟨p.val, by omega⟩ q h (.inl rfl) (.inr (by dsimp only; omega))).trans (congrArg (fun t => S.dup h t (cl j hj q)) (at_first p))
theorem dup_hi : (hi S j hj).dup h ⟨16 + p.val, by omega⟩ q = S.dup h (last p) (cl j hj q) :=
  (dup_part S 1008 j _ _ ⟨16 + p.val, by omega⟩ q h (.inr (by dsimp only; omega)) (.inl rfl)).trans (congrArg (fun t => S.dup h t (cl j hj q)) (at_last p))
theorem dcv_lo : (lo S j hj).dcv h ⟨p.val, by omega⟩ q = S.dcv h (first p) (cl j hj q) :=
  (dcv_part S 0 j _ _ ⟨p.val, by omega⟩ q h (.inl rfl)).trans (congrArg (fun t => S.dcv h t (cl j hj q)) (at_first p))
theorem dcv_hi : (hi S j hj).dcv h ⟨16 + p.val, by omega⟩ q = S.dcv h (last p) (cl j hj q) :=
  (dcv_part S 1008 j _ _ ⟨16 + p.val, by omega⟩ q h (.inr (by dsimp only; omega))).trans (congrArg (fun t => S.dcv h t (cl j hj q)) (at_last p))
theorem act_lo : (lo S j hj).act ⟨p.val, by omega⟩ q = S.act (first p) (cl j hj q) :=
  (act_part S 0 j _ _ ⟨p.val, by omega⟩ q (.inl rfl)).trans (congrArg (fun t => S.act t (cl j hj q)) (at_first p))
theorem act_hi : (hi S j hj).act ⟨16 + p.val, by omega⟩ q = S.act (last p) (cl j hj q) :=
  (act_part S 1008 j _ _ ⟨16 + p.val, by omega⟩ q (.inr (by dsimp only; omega))).trans (congrArg (fun t => S.act t (cl j hj q)) (at_last p))
theorem tap_lo (k : Fin 3) : (lo S j hj).tap k h ⟨p.val, by omega⟩ q = S.tap k h (first p) (cl j hj q) :=
  (tap_part S 0 j _ _ ⟨p.val, by omega⟩ q k h (.inl rfl)).trans (congrArg (fun t => S.tap k h t (cl j hj q)) (at_first p))
theorem tap_hi (k : Fin 3) : (hi S j hj).tap k h ⟨16 + p.val, by omega⟩ q = S.tap k h (last p) (cl j hj q) :=
  (tap_part S 1008 j _ _ ⟨16 + p.val, by omega⟩ q k h (.inr (by dsimp only; omega))).trans (congrArg (fun t => S.tap k h t (cl j hj q)) (at_last p))
theorem x_lo (k : Fin 1024) : (lo S j hj).x ⟨p.val, by omega⟩ k = S.x (first p) k := congrArg (fun t => S.x t k) (at_first p)
theorem x_hi (k : Fin 1024) : (hi S j hj).x ⟨16 + p.val, by omega⟩ k = S.x (last p) k := congrArg (fun t => S.x t k) (at_last p)
theorem z_lo (k : Fin 1024) : (lo S j hj).z ⟨p.val, by omega⟩ k = S.z (first p) k := congrArg (fun t => S.z t k) (at_first p)
theorem z_hi (k : Fin 1024) : (hi S j hj).z ⟨16 + p.val, by omega⟩ k = S.z (last p) k := congrArg (fun t => S.z t k) (at_last p)
end

section
variable {S : Seq 2048 2816} {j : ℕ} {hj : j + 128 ≤ 2816} {x z : FVec Ideal S1x1040x1024 .bf16} {u0 u1 : FVec Ideal S1x1040x128 .f32} {x' z' : FVec Ideal S1x1040x1024 .bf16}
  {u0' u1' : FVec Ideal S1x1040x128 .f32} {d : FVec Ideal S128x1024 .bf16} {b0 b1 w00 w01 w02 w10 w11 w12 : FVec Ideal S1x128 .f32}
  (R : Rows (lo S j hj) x z u0 u1 d b0 b1 w00 w01 w02 w10 w11 w12) (R' : Rows (hi S j hj) x' z' u0' u1' d b0 b1 w00 w01 w02 w10 w11 w12)
  (p : Fin 1024) (q : Fin 128) (k : Fin 1024)

include R in
theorem lo0_at : lo0 z u0 u1 d b0 b1 w00 w01 w02 w10 w11 w12 (ix2 p q) = (S.dup 0 (first p) (cl j hj q) : EReal) := by
  rw [lo0_eq, ← dup_lo]
  pointwise []
  exact dup_at (dg_at R) R.w00 R.w01 R.w02 _ q
include R in
theorem lo1_at : lo1 z u0 d b0 w00 w01 w02 w10 w11 w12 (ix2 p q) = (S.dup 1 (first p) (cl j hj q) : EReal) := by
  rw [lo1_eq, ← dup_lo]
  pointwise []
  exact dup_at (dv_at R) R.w10 R.w11 R.w12 _ q
include R' in
theorem hi0_at : hi0 z' u0' u1' d b0 b1 w00 w01 w02 w10 w11 w12 (ix2 p q) = (S.dup 0 (last p) (cl j hj q) : EReal) := by
  rw [hi0_eq, again_dg, ← dup_hi]
  pointwise []
  exact dup_at (dg_at R') R'.w00 R'.w01 R'.w02 _ q
include R' in
theorem hi1_at : hi1 z' u0' d b0 w00 w01 w02 w10 w11 w12 (ix2 p q) = (S.dup 1 (last p) (cl j hj q) : EReal) := by
  rw [hi1_eq, again_dv, ← dup_hi]
  pointwise []
  exact dup_at (dv_at R') R'.w10 R'.w11 R'.w12 _ q

include R in
theorem dug_lo : k0_pay42 (lo0 z u0 u1 d b0 b1 w00 w01 w02 w10 w11 w12) (ix3 0 p q) = (S.dup 0 (first p) (cl j hj q) : EReal) := by
  refine Eq.trans ?_ (lo0_at R p q)
  generalize lo0 z u0 u1 d b0 b1 w00 w01 w02 w10 w11 w12 = V
  pointwise [k0_pay42]
include R in
theorem duv_lo : k0_pay43 nums (dv z u0 d b0 w00 w01 w02) k0_pay34 w10 (k0_pay36 (dv z u0 d b0 w00 w01 w02)) (k0_pay37 nums) (k0_pay38 (dv z u0 d b0 w00 w01 w02)) w11 w12 (ix3 0 p q) = (S.dup 1 (first p) (cl j hj q) : EReal) := by
  refine Eq.trans ?_ (lo1_at R p q)
  show k0_pay42 (lo1 z u0 d b0 w00 w01 w02 w10 w11 w12) (ix3 0 p q) = _
  generalize lo1 z u0 d b0 w00 w01 w02 w10 w11 w12 = V
  pointwise [k0_pay42]
include R' in
theorem dug_hi : k0_pay83 (hi0 z' u0' u1' d b0 b1 w00 w01 w02 w10 w11 w12) (ix3 0 p q) = (S.dup 0 (last p) (cl j hj q) : EReal) := by
  refine Eq.trans ?_ (hi0_at R' p q)
  generalize hi0 z' u0' u1' d b0 b1 w00 w01 w02 w10 w11 w12 = V
  pointwise [k0_pay83]
include R' in
theorem duv_hi : k0_pay84 (hi1 z' u0' d b0 w00 w01 w02 w10 w11 w12) (ix3 0 p q) = (S.dup 1 (last p) (cl j hj q) : EReal) := by
  refine Eq.trans ?_ (hi1_at R' p q)
  generalize hi1 z' u0' d b0 w00 w01 w02 w10 w11 w12 = V
  pointwise [k0_pay84]

include R R'

/-- The up projection's gradient, of one sequence. -/
theorem dwu0 : k0_pay87 (wide x z u0 u1 d b0 b1 w00 w01 w02 w10 w11 w12) (k0_pay48 x') (hi0 z' u0' u1' d b0 b1 w00 w01 w02 w10 w11 w12) (hi1 z' u0' d b0 w00 w01 w02 w10 w11 w12) (ix2 q k)
    = ((∑ t, S.dup 0 t (cl j hj q) * S.x t k : ℝ) : EReal) := by
  rw [wide_eq, again_x, top_at (lo0_at R) (lo1_at R) (hi0_at R') (hi1_at R') (x_at R) (x_at R')]
  simp only [x_lo, x_hi]
  rw [join (fun t => S.dup 0 t (cl j hj q) * S.x t k)]
theorem dwu1 : k0_pay90 (wide x z u0 u1 d b0 b1 w00 w01 w02 w10 w11 w12) (k0_pay48 x') (hi0 z' u0' u1' d b0 b1 w00 w01 w02 w10 w11 w12) (hi1 z' u0' d b0 w00 w01 w02 w10 w11 w12) (ix2 q k)
    = ((∑ t, S.dup 1 t (cl j hj q) * S.x t k : ℝ) : EReal) := by
  rw [wide_eq, again_x, low_at (lo0_at R) (lo1_at R) (hi0_at R') (hi1_at R') (x_at R) (x_at R')]
  simp only [x_lo, x_hi]
  rw [join (fun t => S.dup 1 t (cl j hj q) * S.x t k)]
/-- The down projection's. -/
theorem dwd : k0_pay86 (k0_pay47 (k0_pay7 z) (act u0 u1 b0 b1 w00 w01 w02 w10 w11 w12)) (k0_pay49 z') (act' u0' u1' b0 b1 w00 w01 w02 w10 w11 w12) (ix2 q k)
    = ((∑ t, S.act t (cl j hj q) * S.z t k : ℝ) : EReal) := by
  rw [again_z, again_act, down_at (act_at R) (act_at R') (z_at R) (z_at R')]
  simp only [z_lo, z_hi, act_lo, act_hi]
  rw [join (fun t => S.act t (cl j hj q) * S.z t k)]
/-- The biases'. -/
theorem dcb0 : k0_pay68 (k0_pay26 (k0_pay7 z) (k0_pay9 u1) (gate u0 b0 w00 w01 w02) (most u1 b1 w10 w11) w12 d) (k0_pay49 z') (k0_pay51 u1') (gate' u0' b0 w00 w01 w02) (most' u1' b1 w10 w11) w12 d (ix2 0 q)
    = ((∑ t, S.dcv 0 t (cl j hj q) : ℝ) : EReal) := by
  show k0_pay77 (k0_pay33 (dg z u0 u1 d b0 b1 w00 w01 w02 w10 w11 w12)) (dg' z' u0' u1' d b0 b1 w00 w01 w02 w10 w11 w12) (ix2 0 q) = _
  rw [again_dg, cb_at q (dg_at R) (dg_at R')]
  simp only [dcv_lo, dcv_hi]
  rw [join (fun t => S.dcv 0 t (cl j hj q))]
theorem dcb1 : k0_pay77 (k0_pay33 (dv z u0 d b0 w00 w01 w02)) (dv' z' u0' d b0 w00 w01 w02) (ix2 0 q) = ((∑ t, S.dcv 1 t (cl j hj q) : ℝ) : EReal) := by
  rw [again_dv, cb_at q (dv_at R) (dv_at R')]
  simp only [dcv_lo, dcv_hi]
  rw [join (fun t => S.dcv 1 t (cl j hj q))]
/-- The taps'. -/
theorem dcw00 : k0_pay70 (k0_pay28 (k0_pay7 z) (k0_pay9 u1) (k0_pay10 u0) (gate u0 b0 w00 w01 w02) (most u1 b1 w10 w11) w12 d) (k0_pay49 z') (k0_pay51 u1') (k0_pay52 u0') (gate' u0' b0 w00 w01 w02) (most' u1' b1 w10 w11) w12 d (ix2 0 q)
    = ((∑ t, S.dcv 0 t (cl j hj q) * S.tap 0 0 t (cl j hj q) : ℝ) : EReal) := by
  show k0_pay77 (k0_pay33 (mulf (dg z u0 u1 d b0 b1 w00 w01 w02 w10 w11 w12) (k0_pay10 u0))) (mulf (dg' z' u0' u1' d b0 b1 w00 w01 w02 w10 w11 w12) (k0_pay52 u0')) (ix2 0 q) = _
  rw [again_dg, FfnTile.first, dn2_again, cw_at (dg_at R) (fun p q => dn2_at (u0_at R) p q) (dg_at R') (fun p q => dn2_at (u0_at R') p q) q]
  refine congrArg Real.toEReal (Eq.trans ?_ (join (fun t => S.dcv 0 t (cl j hj q) * S.tap 0 0 t (cl j hj q))))
  simp only [← dcv_lo, ← dcv_hi, ← tap_lo, ← tap_hi]
  rfl
theorem dcw01 : k0_pay74 (k0_pay30 (k0_pay15 (k0_pay12 u0) k0_pay13 (k0_pay14 u0)) (dg z u0 u1 d b0 b1 w00 w01 w02 w10 w11 w12)) (k0_pay57 (k0_pay54 u0') k0_pay55 k0_pay56) (dg' z' u0' u1' d b0 b1 w00 w01 w02 w10 w11 w12) (ix2 0 q)
    = ((∑ t, S.dcv 0 t (cl j hj q) * S.tap 1 0 t (cl j hj q) : ℝ) : EReal) := by
  rw [cw_01, again_dg, FfnTile.second, dn1_again, cw_at (dg_at R) (fun p q => dn1_at (u0_at R) p q) (dg_at R') (fun p q => dn1_at (u0_at R') p q) q]
  refine congrArg Real.toEReal (Eq.trans ?_ (join (fun t => S.dcv 0 t (cl j hj q) * S.tap 1 0 t (cl j hj q))))
  simp only [← dcv_lo, ← dcv_hi, ← tap_lo, ← tap_hi]
  rfl
theorem dcw02 : k0_pay75 (k0_pay31 (k0_pay8 u0) (dg z u0 u1 d b0 b1 w00 w01 w02 w10 w11 w12)) (k0_pay50 u0') (dg' z' u0' u1' d b0 b1 w00 w01 w02 w10 w11 w12) (ix2 0 q)
    = ((∑ t, S.dcv 0 t (cl j hj q) * S.tap 2 0 t (cl j hj q) : ℝ) : EReal) := by
  rw [cw_02, again_dg, u0_again, cw_at (dg_at R) (u0_at R) (dg_at R') (u0_at R') q]
  refine congrArg Real.toEReal (Eq.trans ?_ (join (fun t => S.dcv 0 t (cl j hj q) * S.tap 2 0 t (cl j hj q))))
  simp only [← dcv_lo, ← dcv_hi, ← tap_lo, ← tap_hi, Seq.tap2]
theorem dcw10 : k0_pay79 (k0_pay35 (k0_pay17 nums (k0_pay9 u1)) (dv z u0 d b0 w00 w01 w02)) (k0_pay59 nums (k0_pay51 u1')) (dv' z' u0' d b0 w00 w01 w02) (ix2 0 q)
    = ((∑ t, S.dcv 1 t (cl j hj q) * S.tap 0 1 t (cl j hj q) : ℝ) : EReal) := by
  rw [cw_10, again_dv, dn2_more, u1_again, cw_at (dv_at R) (fun p q => dn2_at (u1_at R) p q) (dv_at R') (fun p q => dn2_at (u1_at R') p q) q]
  refine congrArg Real.toEReal (Eq.trans ?_ (join (fun t => S.dcv 1 t (cl j hj q) * S.tap 0 1 t (cl j hj q))))
  simp only [← dcv_lo, ← dcv_hi, ← tap_lo, ← tap_hi]
  rfl
theorem dcw11 : k0_pay80 (k0_pay39 (k0_pay18 nums (k0_pay9 u1)) (dv z u0 d b0 w00 w01 w02)) (k0_pay60 nums (k0_pay51 u1')) (dv' z' u0' d b0 w00 w01 w02) (ix2 0 q)
    = ((∑ t, S.dcv 1 t (cl j hj q) * S.tap 1 1 t (cl j hj q) : ℝ) : EReal) := by
  rw [cw_11, again_dv, dn1_more, u1_again, cw_at (dv_at R) (fun p q => dn1_at (u1_at R) p q) (dv_at R') (fun p q => dn1_at (u1_at R') p q) q]
  refine congrArg Real.toEReal (Eq.trans ?_ (join (fun t => S.dcv 1 t (cl j hj q) * S.tap 1 1 t (cl j hj q))))
  simp only [← dcv_lo, ← dcv_hi, ← tap_lo, ← tap_hi]
  rfl
theorem dcw12 : k0_pay81 (k0_pay40 (k0_pay9 u1) (dv z u0 d b0 w00 w01 w02)) (k0_pay51 u1') (dv' z' u0' d b0 w00 w01 w02) (ix2 0 q)
    = ((∑ t, S.dcv 1 t (cl j hj q) * S.tap 2 1 t (cl j hj q) : ℝ) : EReal) := by
  rw [cw_12, again_dv, u1_again, cw_at (dv_at R) (u1_at R) (dv_at R') (u1_at R') q]
  refine congrArg Real.toEReal (Eq.trans ?_ (join (fun t => S.dcv 1 t (cl j hj q) * S.tap 2 1 t (cl j hj q))))
  simp only [← dcv_lo, ← dcv_hi, ← tap_lo, ← tap_hi, Seq.tap2]
end

end Cert.FfnHalves

end
-- ==== Proof.FfnCases.lean ====
/- What a grid point of the feed-forward gate's gradient kernel leaves in its output blocks. -/
module

public import proofs.«01_k».proof.Proof.FfnHalves

@[expose] public section

set_option maxRecDepth 16384

noncomputable section

namespace Cert.FfnCases

open Idealize.ShloMosaic Idealize.ShloMosaic.TcCoe Idealize.SL.Sem
open Cert.FfnIdeal Cert.FfnIdeal.Gen Cert.Consts Cert.FfnSeq Cert.FfnTile Cert.FfnHalves

/-- The input blocks hold a sequence, at the columns from `j` on. -/
structure Block (S : Seq 2048 2816) (j : ℕ) (hj : j + 128 ≤ 2816) (x0 x1 : Vec Ideal S1x2048x1024 .bf16) (x2 : Vec Ideal S1x2048x256 .f32)
    (x3 : Vec Ideal S128x1024 .bf16) (x4 x5 : Vec Ideal S3x128 .f32) (x6 x7 : Vec Ideal S1x128 .f32) : Prop where
  x : ∀ t k, x0 (ix3 0 t k) = (S.x t k : EReal)
  z : ∀ t k, x1 (ix3 0 t k) = (S.z t k : EReal)
  u0 : ∀ t (q : Fin 128), x2 (ix3 0 t ⟨q.val, by omega⟩) = (S.u 0 t (cl j hj q) : EReal)
  u1 : ∀ t (q : Fin 128), x2 (ix3 0 t ⟨128 + q.val, by omega⟩) = (S.u 1 t (cl j hj q) : EReal)
  d : ∀ q k, x3 (ix2 q k) = (S.d (cl j hj q) k : EReal)
  w0 : ∀ k q, x4 (ix2 k q) = (S.w k 0 (cl j hj q) : EReal)
  w1 : ∀ k q, x5 (ix2 k q) = (S.w k 1 (cl j hj q) : EReal)
  b0 : ∀ q, x6 (ix2 0 q) = (S.b 0 (cl j hj q) : EReal)
  b1 : ∀ q, x7 (ix2 0 q) = (S.b 1 (cl j hj q) : EReal)

theorem hz : (![0, 0] : Fin 2 → Nat) = fun _ => 0 := funext fun a => by fin_cases a <;> rfl

/-! A block's loads and pieces, at an index. -/

/-- Where a block's index lies in the array. -/
theorem emb3 {n0 n1 n2 s0 s1 s2 o0 o1 o2 : ℕ} {i : Fin s0} {j : Fin s1} {k : Fin s2} (i' : Fin n0) (j' : Fin n1) (k' : Fin n2)
    (e0 : o0 + i.val = i'.val := by first | rfl | exact Nat.zero_add _) (e1 : o1 + j.val = j'.val := by first | rfl | exact Nat.zero_add _)
    (e2 : o2 + k.val = k'.val := by first | rfl | exact Nat.zero_add _)
    (h : ∀ a : Fin 3, (![o0, o1, o2] : Fin 3 → ℕ) a + (![s0, s1, s2] : Fin 3 → ℕ) a ≤ (![n0, n1, n2] : Fin 3 → ℕ) a := by decide) :
    (Rect.unit (s := (⟨3, ![n0, n1, n2]⟩ : Shape)) ![o0, o1, o2] ![s0, s1, s2] h).emb (ix3 i j k) = ix3 i' j' k' := by
  refine funext fun a => Fin.ext ?_
  match a with
  | ⟨0, _⟩ => show o0 + 1 * i.val = _; rw [Nat.one_mul]; exact e0
  | ⟨1, _⟩ => show o1 + 1 * j.val = _; rw [Nat.one_mul]; exact e1
  | ⟨2, _⟩ => show o2 + 1 * k.val = _; rw [Nat.one_mul]; exact e2

/-- A tap of the convolution's weights. -/
theorem ld_w {o : ℕ} {h} (k : Fin 3) (x : Vec Ideal S3x128 .f32) (q : Fin 128) (e : o = k.val := by rfl) :
    View.ld x (Rect.unit (s := S3x128) ![o, 0] S1x128.size h) (ix2 0 q) = x (ix2 k q) := by
  show x _ = _
  refine congrArg x (funext fun a => Fin.ext ?_)
  match a with
  | ⟨0, _⟩ => exact e
  | ⟨1, _⟩ => show 0 + 1 * q.val = q.val; omega

/-! An index with a leading axis of length one. -/

theorem one_row {n : ℕ} (x : (⟨3, ![1, 1, n]⟩ : Shape).Idx) : ∃ q : Fin n, x = ix3 0 0 q :=
  ⟨x 2, (eq_ix3 x).trans (congrArg₂ (fun y z => ix3 y z (x 2)) (Subsingleton.elim (α := Fin 1) _ _) (Subsingleton.elim (α := Fin 1) _ _))⟩
theorem one_mat {a b : ℕ} (x : (⟨3, ![1, a, b]⟩ : Shape).Idx) : ∃ (p : Fin a) (q : Fin b), x = ix3 0 p q :=
  ⟨x 1, x 2, (eq_ix3 x).trans (congrArg (fun z => ix3 z (x 1) (x 2)) (Subsingleton.elim (α := Fin 1) _ _))⟩

/-! The stores: a new value, or the sum with the one there. -/

section
variable (W : FVec Ideal S256x1024 .f32) (X : FVec Ideal S1040x1024 .bf16) (L H : FVec Ideal S1024x128 .bf16) (P : FVec Ideal S1x128x1024 .f32) (q : Fin 128) (k : Fin 1024)
theorem st88 : k0_pay88 W X L H (ix3 0 q k) = k0_pay87 W X L H (ix2 q k) := by pointwise [k0_pay88]
theorem st91 : k0_pay91 W X L H (ix3 0 q k) = k0_pay90 W X L H (ix2 q k) := by pointwise [k0_pay91]
theorem st89 : k0_pay89 W X L H P (ix3 0 q k) = P (ix3 0 q k) + k0_pay87 W X L H (ix2 q k) := by pointwise [k0_pay89]
theorem st92 : k0_pay92 W X L H P (ix3 0 q k) = P (ix3 0 q k) + k0_pay90 W X L H (ix2 q k) := by pointwise [k0_pay92]
end

section
variable (U : FVec Ideal S128x1024 .f32) (X : FVec Ideal S1040x1024 .bf16) (L : FVec Ideal S1040x128 .bf16) (P : FVec Ideal S128x1024 .f32) (q : Fin 128) (k : Fin 1024)
theorem st93 : k0_pay93 U X L P (ix2 q k) = P (ix2 q k) + k0_pay86 U X L (ix2 q k) := by pointwise [k0_pay93]
end

section
variable (v : FVec Ideal S1x128 .f32) (P : FVec Ideal S1x1x128 .f32) (q : Fin 128)
theorem st2 : k0_pay2 v (ix3 0 0 q) = v (ix2 0 q) := by pointwise [k0_pay2]
theorem st4 : k0_pay4 v (ix3 0 0 q) = v (ix2 0 q) := by pointwise [k0_pay4]
theorem st94 : k0_pay94 v (ix3 0 0 q) = v (ix2 0 q) := by pointwise [k0_pay94]
theorem st96 : k0_pay96 v (ix3 0 0 q) = v (ix2 0 q) := by pointwise [k0_pay96]
theorem st98 : k0_pay98 v (ix3 0 0 q) = v (ix2 0 q) := by pointwise [k0_pay98]
theorem st100 : k0_pay100 v (ix3 0 0 q) = v (ix2 0 q) := by pointwise [k0_pay100]
theorem st102 : k0_pay102 v (ix3 0 0 q) = v (ix2 0 q) := by pointwise [k0_pay102]
theorem st104 : k0_pay104 v (ix3 0 0 q) = v (ix2 0 q) := by pointwise [k0_pay104]
theorem st1 : k0_pay1 v P (ix3 0 0 q) = P (ix3 0 0 q) + v (ix2 0 q) := by pointwise [k0_pay1]
theorem st3 : k0_pay3 v P (ix3 0 0 q) = P (ix3 0 0 q) + v (ix2 0 q) := by pointwise [k0_pay3]
theorem st5 : k0_pay5 v P (ix3 0 0 q) = P (ix3 0 0 q) + v (ix2 0 q) := by pointwise [k0_pay5]
theorem st95 : k0_pay95 v P (ix3 0 0 q) = P (ix3 0 0 q) + v (ix2 0 q) := by pointwise [k0_pay95]
theorem st97 : k0_pay97 v P (ix3 0 0 q) = P (ix3 0 0 q) + v (ix2 0 q) := by pointwise [k0_pay97]
theorem st99 : k0_pay99 v P (ix3 0 0 q) = P (ix3 0 0 q) + v (ix2 0 q) := by pointwise [k0_pay99]
theorem st101 : k0_pay101 v P (ix3 0 0 q) = P (ix3 0 0 q) + v (ix2 0 q) := by pointwise [k0_pay101]
theorem st103 : k0_pay103 v P (ix3 0 0 q) = P (ix3 0 0 q) + v (ix2 0 q) := by pointwise [k0_pay103]
end

variable (c : Dev nD) (i : grid0.Coords)
  (a1 : Memref sig .tc .vmem S1x2048x1024 .bf16) (h1 : a1.IsWhole) (a2 : Memref sig .tc .vmem S1x2048x1024 .bf16) (h2 : a2.IsWhole) (a3 : Memref sig .tc .vmem S1x2048x256 .f32) (h3 : a3.IsWhole) (a4 : Memref sig .tc .vmem S128x1024 .bf16) (h4 : a4.IsWhole) (a5 : Memref sig .tc .vmem S3x128 .f32) (h5 : a5.IsWhole) (a6 : Memref sig .tc .vmem S3x128 .f32) (h6 : a6.IsWhole) (a7 : Memref sig .tc .vmem S1x128 .f32) (h7 : a7.IsWhole) (a8 : Memref sig .tc .vmem S1x128 .f32) (h8 : a8.IsWhole) (a9 : Memref sig .tc .vmem S1x2048x128 .bf16) (h9 : a9.IsWhole) (a10 : Memref sig .tc .vmem S1x2048x128 .bf16) (h10 : a10.IsWhole) (a11 : Memref sig .tc .vmem S2x128x1024 .f32) (h11 : a11.IsWhole) (a12 : Memref sig .tc .vmem S128x1024 .f32) (h12 : a12.IsWhole) (a13 : Memref sig .tc .vmem S3x2x128 .f32) (h13 : a13.IsWhole) (a14 : Memref sig .tc .vmem S2x1x128 .f32) (h14 : a14.IsWhole)
  {x0 x1 : Vec Ideal S1x2048x1024 .bf16} {x2 : Vec Ideal S1x2048x256 .f32} {x3 : Vec Ideal S128x1024 .bf16} {x4 x5 : Vec Ideal S3x128 .f32} {x6 x7 : Vec Ideal S1x128 .f32}
  (xo10 : Vec Ideal S2x128x1024 .f32) (xo11 : Vec Ideal S128x1024 .f32) (xo12 : Vec Ideal S3x2x128 .f32) (xo13 : Vec Ideal S2x1x128 .f32)
  {S : Seq 2048 2816} {j : ℕ} {hj : j + 128 ≤ 2816} (h : Block S j hj x0 x1 x2 x3 x4 x5 x6 x7)

include h

theorem rows_lo : Rows (lo S j hj) (View.ld x0 (Rect.unit (s := S1x2048x1024) ![0, 0, 0] S1x1040x1024.size inb_S1x2048x1024_S1x1040x1024_0_0_0)) (View.ld x1 (Rect.unit (s := S1x2048x1024) ![0, 0, 0] S1x1040x1024.size inb_S1x2048x1024_S1x1040x1024_0_0_0))
    (View.ld x2 (Rect.unit (s := S1x2048x256) ![0, 0, 0] S1x1040x128.size inb_S1x2048x256_S1x1040x128_0_0_0)) (View.ld x2 (Rect.unit (s := S1x2048x256) ![0, 0, 128] S1x1040x128.size inb_S1x2048x256_S1x1040x128_0_0_128)) x3 x6 x7
    (View.ld x4 (Rect.unit (s := S3x128) ![0, 0] S1x128.size inb_S3x128_S1x128_0_0)) (View.ld x4 (Rect.unit (s := S3x128) ![1, 0] S1x128.size inb_S3x128_S1x128_1_0)) (View.ld x4 (Rect.unit (s := S3x128) ![2, 0] S1x128.size inb_S3x128_S1x128_2_0))
    (View.ld x5 (Rect.unit (s := S3x128) ![0, 0] S1x128.size inb_S3x128_S1x128_0_0)) (View.ld x5 (Rect.unit (s := S3x128) ![1, 0] S1x128.size inb_S3x128_S1x128_1_0)) (View.ld x5 (Rect.unit (s := S3x128) ![2, 0] S1x128.size inb_S3x128_S1x128_2_0)) where
  x p k := (congrArg x0 (emb3 0 _ k)).trans (h.x _ _)
  z p k := (congrArg x1 (emb3 0 _ k)).trans (h.z _ _)
  u0 p q := (congrArg x2 (emb3 0 _ ⟨q.val, by omega⟩)).trans (h.u0 _ _)
  u1 p q := (congrArg x2 (emb3 0 _ ⟨128 + q.val, by omega⟩)).trans (h.u1 _ _)
  d := h.d
  b0 := h.b0
  b1 := h.b1
  w00 q := (ld_w 0 x4 q).trans (h.w0 0 q)
  w01 q := (ld_w 1 x4 q).trans (h.w0 1 q)
  w02 q := (ld_w 2 x4 q).trans (h.w0 2 q)
  w10 q := (ld_w 0 x5 q).trans (h.w1 0 q)
  w11 q := (ld_w 1 x5 q).trans (h.w1 1 q)
  w12 q := (ld_w 2 x5 q).trans (h.w1 2 q)

theorem rows_hi : Rows (hi S j hj) (View.ld x0 (Rect.unit (s := S1x2048x1024) ![0, 1008, 0] S1x1040x1024.size inb_S1x2048x1024_S1x1040x1024_0_1008_0)) (View.ld x1 (Rect.unit (s := S1x2048x1024) ![0, 1008, 0] S1x1040x1024.size inb_S1x2048x1024_S1x1040x1024_0_1008_0))
    (View.ld x2 (Rect.unit (s := S1x2048x256) ![0, 1008, 0] S1x1040x128.size inb_S1x2048x256_S1x1040x128_0_1008_0)) (View.ld x2 (Rect.unit (s := S1x2048x256) ![0, 1008, 128] S1x1040x128.size inb_S1x2048x256_S1x1040x128_0_1008_128)) x3 x6 x7
    (View.ld x4 (Rect.unit (s := S3x128) ![0, 0] S1x128.size inb_S3x128_S1x128_0_0)) (View.ld x4 (Rect.unit (s := S3x128) ![1, 0] S1x128.size inb_S3x128_S1x128_1_0)) (View.ld x4 (Rect.unit (s := S3x128) ![2, 0] S1x128.size inb_S3x128_S1x128_2_0))
    (View.ld x5 (Rect.unit (s := S3x128) ![0, 0] S1x128.size inb_S3x128_S1x128_0_0)) (View.ld x5 (Rect.unit (s := S3x128) ![1, 0] S1x128.size inb_S3x128_S1x128_1_0)) (View.ld x5 (Rect.unit (s := S3x128) ![2, 0] S1x128.size inb_S3x128_S1x128_2_0)) where
  x p k := (congrArg x0 (emb3 0 _ k)).trans (h.x _ _)
  z p k := (congrArg x1 (emb3 0 _ k)).trans (h.z _ _)
  u0 p q := (congrArg x2 (emb3 0 _ ⟨q.val, by omega⟩)).trans (h.u0 _ _)
  u1 p q := (congrArg x2 (emb3 0 _ ⟨128 + q.val, by omega⟩)).trans (h.u1 _ _)
  d := h.d
  b0 := h.b0
  b1 := h.b1
  w00 q := (ld_w 0 x4 q).trans (h.w0 0 q)
  w01 q := (ld_w 1 x4 q).trans (h.w0 1 q)
  w02 q := (ld_w 2 x4 q).trans (h.w0 2 q)
  w10 q := (ld_w 0 x5 q).trans (h.w1 0 q)
  w11 q := (ld_w 1 x5 q).trans (h.w1 1 q)
  w12 q := (ld_w 2 x5 q).trans (h.w1 2 q)

omit h

/-! The blocks that hold a sequence's gradients. -/

abbrev blkUp (S : Seq 2048 2816) (j : ℕ) (hj : j + 128 ≤ 2816) (h : Fin 2) (y : S1x2048x128.Idx) : EReal := (S.dup h (y 1) (cl j hj (y 2)) : EReal)
def dwu (S : Seq 2048 2816) (h : Fin 2) (q : Fin 2816) (k : Fin 1024) : ℝ := ∑ t, S.dup h t q * S.x t k
def dwd (S : Seq 2048 2816) (q : Fin 2816) (k : Fin 1024) : ℝ := ∑ t, S.act t q * S.z t k
def dcw (S : Seq 2048 2816) (k : Fin 3) (h : Fin 2) (q : Fin 2816) : ℝ := ∑ t, S.dcv h t q * S.tap k h t q
def dcb (S : Seq 2048 2816) (h : Fin 2) (q : Fin 2816) : ℝ := ∑ t, S.dcv h t q
abbrev blk10 (S : Seq 2048 2816) (j : ℕ) (hj : j + 128 ≤ 2816) (y : S2x128x1024.Idx) : EReal := (dwu S (y 0) (cl j hj (y 1)) (y 2) : EReal)
abbrev blk11 (S : Seq 2048 2816) (j : ℕ) (hj : j + 128 ≤ 2816) (y : S128x1024.Idx) : EReal := (dwd S (cl j hj (y 0)) (y 1) : EReal)
abbrev blk12 (S : Seq 2048 2816) (j : ℕ) (hj : j + 128 ≤ 2816) (y : S3x2x128.Idx) : EReal := (dcw S (y 0) (y 1) (cl j hj (y 2)) : EReal)
abbrev blk13 (S : Seq 2048 2816) (j : ℕ) (hj : j + 128 ≤ 2816) (y : S2x1x128.Idx) : EReal := (dcb S (y 0) (cl j hj (y 2)) : EReal)

include h

section
variable (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i) (hc16 : cond0_16 i) (hc17 : ¬cond0_17 i) (hc18 : cond0_18 i) (hc19 : ¬cond0_19 i) (hc20 : cond0_20 i) (hc21 : ¬cond0_21 i)

theorem outA8 (y : S1x2048x128.Idx) : out0_A_8 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 y = blkUp S j hj 0 y := by
  unfold out0_A_8
  rw [View.read_writes_eq_canon _ _ _ (fun _ => cover0_A_8 ..)]
  refine View.canon_apply_of_pieces (Val := Elt Ideal) (e := .bf16) (blkUp S j hj 0) _ ?_ y ?_
  swap; exact cover0_A_8 ..
  unfold kernelRun0_A
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨p, q, rfl⟩ := one_mat x
    exact (dug_hi (rows_hi h) p q).trans (congrArg (blkUp S j hj 0) (emb3 0 (last p) q)).symm
  · obtain ⟨p, q, rfl⟩ := one_mat x
    exact (dug_lo (rows_lo h) p q).trans (congrArg (blkUp S j hj 0) (emb3 0 (first p) q)).symm

theorem outA9 (y : S1x2048x128.Idx) : out0_A_9 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 y = blkUp S j hj 1 y := by
  unfold out0_A_9
  rw [View.read_writes_eq_canon _ _ _ (fun _ => cover0_A_9 ..)]
  refine View.canon_apply_of_pieces (Val := Elt Ideal) (e := .bf16) (blkUp S j hj 1) _ ?_ y ?_
  swap; exact cover0_A_9 ..
  unfold kernelRun0_A
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨p, q, rfl⟩ := one_mat x
    exact (duv_hi (rows_hi h) p q).trans (congrArg (blkUp S j hj 1) (emb3 0 (last p) q)).symm
  · obtain ⟨p, q, rfl⟩ := one_mat x
    exact (duv_lo (rows_lo h) p q).trans (congrArg (blkUp S j hj 1) (emb3 0 (first p) q)).symm

theorem outA10 (y : S2x128x1024.Idx) : out0_A_10 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 y = blk10 S j hj y := by
  unfold out0_A_10
  rw [View.read_writes_eq_canon _ _ _ (fun _ => cover0_A_10 ..)]
  refine View.canon_apply_of_pieces (Val := Elt Ideal) (e := .f32) (blk10 S j hj) _ ?_ y ?_
  swap; exact cover0_A_10 ..
  unfold kernelRun0_A
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨q, k, rfl⟩ := one_mat x
    exact ((st91 _ _ _ _ q k).trans (dwu1 (rows_lo h) (rows_hi h) q k)).trans (congrArg (blk10 S j hj) (emb3 1 q k)).symm
  · obtain ⟨q, k, rfl⟩ := one_mat x
    exact ((st88 _ _ _ _ q k).trans (dwu0 (rows_lo h) (rows_hi h) q k)).trans (congrArg (blk10 S j hj) (emb3 0 q k)).symm

theorem outA11 (q : Fin 128) (k : Fin 1024) : out0_A_11 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 (ix2 q k) = (dwd S (cl j hj q) k : EReal) := by
  unfold out0_A_11
  rw [View.read_writes_eq_canon _ _ _ (fun _ => cover0_A_11 ..)]
  unfold kernelRun0_A
  dsimp only
  sl_unfold_words
  rw [View.canon_unit_zero hz]
  simp only [View.readAt_eq_ld, Memref.IsWhole.read_unread, View.ld_unit_zero (S := S1x128) hz, View.ld_unit_zero (S := S128x1024) hz]
  exact FfnHalves.dwd (rows_lo h) (rows_hi h) q k

theorem outA12 (y : S3x2x128.Idx) : out0_A_12 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 y = blk12 S j hj y := by
  unfold out0_A_12
  rw [View.read_writes_eq_canon _ _ _ (fun _ => cover0_A_12 ..)]
  refine View.canon_apply_of_pieces (Val := Elt Ideal) (e := .f32) (blk12 S j hj) _ ?_ y ?_
  swap; exact cover0_A_12 ..
  unfold kernelRun0_A
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun _ hn => absurd hn List.not_mem_nil⟩⟩⟩⟩⟩⟩
  · obtain ⟨q, rfl⟩ := one_row x
    exact ((st4 _ q).trans (dcw12 (rows_lo h) (rows_hi h) q)).trans (congrArg (blk12 S j hj) (emb3 2 1 q)).symm
  · obtain ⟨q, rfl⟩ := one_row x
    exact ((st2 _ q).trans (dcw11 (rows_lo h) (rows_hi h) q)).trans (congrArg (blk12 S j hj) (emb3 1 1 q)).symm
  · obtain ⟨q, rfl⟩ := one_row x
    exact ((st104 _ q).trans (dcw10 (rows_lo h) (rows_hi h) q)).trans (congrArg (blk12 S j hj) (emb3 0 1 q)).symm
  · obtain ⟨q, rfl⟩ := one_row x
    exact ((st100 _ q).trans (dcw02 (rows_lo h) (rows_hi h) q)).trans (congrArg (blk12 S j hj) (emb3 2 0 q)).symm
  · obtain ⟨q, rfl⟩ := one_row x
    exact ((st98 _ q).trans (dcw01 (rows_lo h) (rows_hi h) q)).trans (congrArg (blk12 S j hj) (emb3 1 0 q)).symm
  · obtain ⟨q, rfl⟩ := one_row x
    exact ((st96 _ q).trans (dcw00 (rows_lo h) (rows_hi h) q)).trans (congrArg (blk12 S j hj) (emb3 0 0 q)).symm

theorem outA13 (y : S2x1x128.Idx) : out0_A_13 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 y = blk13 S j hj y := by
  unfold out0_A_13
  rw [View.read_writes_eq_canon _ _ _ (fun _ => cover0_A_13 ..)]
  refine View.canon_apply_of_pieces (Val := Elt Ideal) (e := .f32) (blk13 S j hj) _ ?_ y ?_
  swap; exact cover0_A_13 ..
  unfold kernelRun0_A
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨q, rfl⟩ := one_row x
    exact ((st102 _ q).trans (dcb1 (rows_lo h) (rows_hi h) q)).trans (congrArg (blk13 S j hj) (emb3 1 0 q)).symm
  · obtain ⟨q, rfl⟩ := one_row x
    exact ((st94 _ q).trans (dcb0 (rows_lo h) (rows_hi h) q)).trans (congrArg (blk13 S j hj) (emb3 0 0 q)).symm

end

section
variable (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i) (hc16 : ¬cond0_16 i) (hc17 : cond0_17 i) (hc18 : ¬cond0_18 i) (hc19 : cond0_19 i) (hc20 : ¬cond0_20 i) (hc21 : cond0_21 i)

theorem outB8 (y : S1x2048x128.Idx) : out0_B_8 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13 y = blkUp S j hj 0 y := by
  unfold out0_B_8
  rw [View.read_writes_eq_canon _ _ _ (fun _ => cover0_B_8 ..)]
  refine View.canon_apply_of_pieces (Val := Elt Ideal) (e := .bf16) (blkUp S j hj 0) _ ?_ y ?_
  swap; exact cover0_B_8 ..
  unfold kernelRun0_B
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨p, q, rfl⟩ := one_mat x
    exact (dug_hi (rows_hi h) p q).trans (congrArg (blkUp S j hj 0) (emb3 0 (last p) q)).symm
  · obtain ⟨p, q, rfl⟩ := one_mat x
    exact (dug_lo (rows_lo h) p q).trans (congrArg (blkUp S j hj 0) (emb3 0 (first p) q)).symm

theorem outB9 (y : S1x2048x128.Idx) : out0_B_9 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13 y = blkUp S j hj 1 y := by
  unfold out0_B_9
  rw [View.read_writes_eq_canon _ _ _ (fun _ => cover0_B_9 ..)]
  refine View.canon_apply_of_pieces (Val := Elt Ideal) (e := .bf16) (blkUp S j hj 1) _ ?_ y ?_
  swap; exact cover0_B_9 ..
  unfold kernelRun0_B
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨p, q, rfl⟩ := one_mat x
    exact (duv_hi (rows_hi h) p q).trans (congrArg (blkUp S j hj 1) (emb3 0 (last p) q)).symm
  · obtain ⟨p, q, rfl⟩ := one_mat x
    exact (duv_lo (rows_lo h) p q).trans (congrArg (blkUp S j hj 1) (emb3 0 (first p) q)).symm

theorem outB10 (y : S2x128x1024.Idx) : out0_B_10 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13 y = (fun y => xo10 y + blk10 S j hj y) y := by
  unfold out0_B_10
  rw [View.read_writes_eq_canon _ _ _ (fun _ => cover0_B_10 ..)]
  refine View.canon_apply_of_pieces (Val := Elt Ideal) (e := .f32) ((fun y => xo10 y + blk10 S j hj y)) _ ?_ y ?_
  swap; exact cover0_B_10 ..
  unfold kernelRun0_B
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨q, k, rfl⟩ := one_mat x
    exact (st92 _ _ _ _ _ q k).trans (congrArg₂ (· + ·) rfl ((dwu1 (rows_lo h) (rows_hi h) q k).trans (congrArg (blk10 S j hj) (emb3 1 q k)).symm))
  · obtain ⟨q, k, rfl⟩ := one_mat x
    exact (st89 _ _ _ _ _ q k).trans (congrArg₂ (· + ·) rfl ((dwu0 (rows_lo h) (rows_hi h) q k).trans (congrArg (blk10 S j hj) (emb3 0 q k)).symm))

theorem outB11 (q : Fin 128) (k : Fin 1024) : out0_B_11 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13 (ix2 q k) = xo11 (ix2 q k) + (dwd S (cl j hj q) k : EReal) := by
  unfold out0_B_11
  rw [View.read_writes_eq_canon _ _ _ (fun _ => cover0_B_11 ..)]
  unfold kernelRun0_B
  dsimp only
  sl_unfold_words
  rw [View.canon_unit_zero hz]
  simp only [View.readAt_eq_ld, Memref.IsWhole.read_unread, View.ld_unit_zero (S := S1x128) hz, View.ld_unit_zero (S := S128x1024) hz]
  exact (st93 _ _ _ _ q k).trans (congrArg (xo11 (ix2 q k) + ·) (FfnHalves.dwd (rows_lo h) (rows_hi h) q k))

theorem outB12 (y : S3x2x128.Idx) : out0_B_12 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13 y = (fun y => xo12 y + blk12 S j hj y) y := by
  unfold out0_B_12
  rw [View.read_writes_eq_canon _ _ _ (fun _ => cover0_B_12 ..)]
  refine View.canon_apply_of_pieces (Val := Elt Ideal) (e := .f32) ((fun y => xo12 y + blk12 S j hj y)) _ ?_ y ?_
  swap; exact cover0_B_12 ..
  unfold kernelRun0_B
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun _ hn => absurd hn List.not_mem_nil⟩⟩⟩⟩⟩⟩
  · obtain ⟨q, rfl⟩ := one_row x
    exact (st5 _ _ q).trans (congrArg₂ (· + ·) rfl ((dcw12 (rows_lo h) (rows_hi h) q).trans (congrArg (blk12 S j hj) (emb3 2 1 q)).symm))
  · obtain ⟨q, rfl⟩ := one_row x
    exact (st3 _ _ q).trans (congrArg₂ (· + ·) rfl ((dcw11 (rows_lo h) (rows_hi h) q).trans (congrArg (blk12 S j hj) (emb3 1 1 q)).symm))
  · obtain ⟨q, rfl⟩ := one_row x
    exact (st1 _ _ q).trans (congrArg₂ (· + ·) rfl ((dcw10 (rows_lo h) (rows_hi h) q).trans (congrArg (blk12 S j hj) (emb3 0 1 q)).symm))
  · obtain ⟨q, rfl⟩ := one_row x
    exact (st101 _ _ q).trans (congrArg₂ (· + ·) rfl ((dcw02 (rows_lo h) (rows_hi h) q).trans (congrArg (blk12 S j hj) (emb3 2 0 q)).symm))
  · obtain ⟨q, rfl⟩ := one_row x
    exact (st99 _ _ q).trans (congrArg₂ (· + ·) rfl ((dcw01 (rows_lo h) (rows_hi h) q).trans (congrArg (blk12 S j hj) (emb3 1 0 q)).symm))
  · obtain ⟨q, rfl⟩ := one_row x
    exact (st97 _ _ q).trans (congrArg₂ (· + ·) rfl ((dcw00 (rows_lo h) (rows_hi h) q).trans (congrArg (blk12 S j hj) (emb3 0 0 q)).symm))

theorem outB13 (y : S2x1x128.Idx) : out0_B_13 c i a1 h1 a2 h2 a3 h3 a4 h4 a5 h5 a6 h6 a7 h7 a8 h8 a9 h9 a10 h10 a11 h11 a12 h12 a13 h13 a14 h14 hc0 hc1 hc2 hc3 hc4 hc5 hc6 hc7 hc8 hc9 hc10 hc11 hc12 hc13 hc14 hc15 hc16 hc17 hc18 hc19 hc20 hc21 x0 x1 x2 x3 x4 x5 x6 x7 xo10 xo11 xo12 xo13 y = (fun y => xo13 y + blk13 S j hj y) y := by
  unfold out0_B_13
  rw [View.read_writes_eq_canon _ _ _ (fun _ => cover0_B_13 ..)]
  refine View.canon_apply_of_pieces (Val := Elt Ideal) (e := .f32) ((fun y => xo13 y + blk13 S j hj y)) _ ?_ y ?_
  swap; exact cover0_B_13 ..
  unfold kernelRun0_B
  dsimp only
  sl_unfold_words
  simp only [View.readAt_eq_ld, Memref.IsWhole.read_unread, View.ld_unit_zero (S := S1x128) hz, View.ld_unit_zero (S := S128x1024) hz]
  refine List.forall_mem_cons.mpr ⟨fun x => ?_, List.forall_mem_cons.mpr ⟨fun x => ?_, fun _ hn => absurd hn List.not_mem_nil⟩⟩
  · obtain ⟨q, rfl⟩ := one_row x
    exact (st103 _ _ q).trans (congrArg₂ (· + ·) rfl ((dcb1 (rows_lo h) (rows_hi h) q).trans (congrArg (blk13 S j hj) (emb3 1 0 q)).symm))
  · obtain ⟨q, rfl⟩ := one_row x
    exact (st95 _ _ q).trans (congrArg₂ (· + ·) rfl ((dcb0 (rows_lo h) (rows_hi h) q).trans (congrArg (blk13 S j hj) (emb3 0 0 q)).symm))

end

end Cert.FfnCases

end
-- ==== Proof.FfnRef.lean ====
/- The reference of the feed-forward gate's gradient, read at an index: every value is a real. -/
module

public import proofs.«01_k».proof.Proof.FfnSeq
public import proofs.«01_k».proof.Proof.Consts
public import proofs.«01_k».proof.Proof.SumBlocks
public import proofs.«01_k».proof.Proof.Gen.FfnRefIdeal.Run
public import proofs.«01_k».proof.Proof.Gen.FfnRefIdeal.Read
public import Idealize.ShloMosaic.Lib.Pointwise

@[expose] public section

set_option maxRecDepth 16384

noncomputable section

namespace Cert.FfnRef

open Idealize.ShloMosaic Idealize.ShloMosaic.TcCoe Idealize.SL.Sem
open Cert.FfnRefIdeal Cert.FfnRefIdeal.Read Cert.Consts Cert.FfnSeq

/-- The real arrays of the arguments: the layer's input, the cotangent of its output, the up and the down projection, the
    taps and the biases. -/
structure Args where
  x : Fin 4096 → Fin 1024 → ℝ
  z : Fin 4096 → Fin 1024 → ℝ
  u : Fin 1024 → Fin 5632 → ℝ
  d : Fin 2816 → Fin 1024 → ℝ
  w : Fin 3 → Fin 5632 → ℝ
  b : Fin 5632 → ℝ

/-- Row `t` of sequence `s`, and column `q` of half `h`. -/
abbrev row (s : Fin 2) (t : Fin 2048) : Fin 4096 := ⟨s.val * 2048 + t.val, by omega⟩
abbrev col (h : Fin 2) (q : Fin 2816) : Fin 5632 := ⟨h.val * 2816 + q.val, by omega⟩

namespace Args
variable (A : Args)
def up (r : Fin 4096) (c : Fin 5632) : ℝ := ∑ k, A.x r k * A.u k c
def seq (s : Fin 2) : Seq 2048 2816 where
  x t := A.x (row s t)
  z t := A.z (row s t)
  u h t q := A.up (row s t) (col h q)
  d := A.d
  w k h q := A.w k (col h q)
  b h q := A.b (col h q)
def dwu (h : Fin 2) (q : Fin 2816) (k : Fin 1024) : ℝ := ∑ s, ∑ t, (A.seq s).dup h t q * (A.seq s).x t k
def dwd (q : Fin 2816) (k : Fin 1024) : ℝ := ∑ s, ∑ t, (A.seq s).act t q * (A.seq s).z t k
def dcw (k : Fin 3) (h : Fin 2) (q : Fin 2816) : ℝ := ∑ s, ∑ t, (A.seq s).dcv h t q * (A.seq s).tap k h t q
def dcb (h : Fin 2) (q : Fin 2816) : ℝ := ∑ s, ∑ t, (A.seq s).dcv h t q
end Args

/-- The arrays hold these reals. -/
structure Holds (A : Args) (x0 x1 : Vec Ideal S4096x1024 .f32) (x2 : Vec Ideal S1024x5632 .f32) (x3 : Vec Ideal S2816x1024 .f32)
    (x4 : Vec Ideal S3x5632 .f32) (x5 : Vec Ideal S1x5632 .f32) : Prop where
  x : ∀ r k, x0 (ix2 r k) = (A.x r k : EReal)
  z : ∀ r k, x1 (ix2 r k) = (A.z r k : EReal)
  u : ∀ k c, x2 (ix2 k c) = (A.u k c : EReal)
  d : ∀ q k, x3 (ix2 q k) = (A.d q k : EReal)
  w : ∀ k c, x4 (ix2 k c) = (A.w k c : EReal)
  b : ∀ c, x5 (ix2 0 c) = (A.b c : EReal)

/-- A sum over the rows, sequence by sequence. -/
theorem sum_rows (f : Fin 4096 → EReal) : ∑ r, f r = ∑ s, ∑ t, f (row s t) := by
  rw [Sums.sum_blocks 2 2048 rfl]
  refine Finset.sum_congr rfl fun s _ => Finset.sum_congr rfl fun t _ => congrArg f (Fin.ext ?_)
  show 2048 * s.val + t.val = s.val * 2048 + t.val
  omega

/-- The logistic function by its exponential. -/
theorem sigmoid (x : ℝ) : Ideal.div 1 (1 + Ideal.exp (-(x : EReal))) = (((1 + Real.exp (-x))⁻¹ : ℝ) : EReal) := by
  have hp : (1 + Real.exp (-x)) ≠ 0 := by positivity
  rw [← EReal.coe_neg, Ideal.exp_coe, show (1 : EReal) = ((1 : ℝ) : EReal) from rfl, ← EReal.coe_add, Ideal.div_coe hp, ← EReal.coe_mul, one_mul, one_div]

variable {A : Args} {x0 x1 : Vec Ideal S4096x1024 .f32} {x2 : Vec Ideal S1024x5632 .f32} {x3 : Vec Ideal S2816x1024 .f32}
    {x4 : Vec Ideal S3x5632 .f32} {x5 : Vec Ideal S1x5632 .f32} (H : Holds A x0 x1 x2 x3 x4 x5)
    (s : Fin 2) (t : Fin 2048) (h : Fin 2) (q : Fin 2816) (c : Fin 5632)

include H

theorem v1 : val_main_v1 (F := Ideal) x0 x2 (ix3 s t c) = (A.up (row s t) c : EReal) := by
  pointwise [val_main_v1, val_main_v0]
  simp only [H.x, H.u, ← EReal.coe_mul, coe_sum]
  rfl

theorem v9 : val_main_v9 (F := Ideal) x0 x2 (ix3 s t c) = (dn 1 (fun t => A.up (row s t) c) t : EReal) := by
  pointwise [val_main_v9, val_main_v7, val_main_v8, val_main_v6, val_main_cst]
  by_cases hs : t.val < 1
  · exact (dif_pos hs).trans (congrArg Real.toEReal (dn_neg 1 (fun t => A.up (row s t) c) t (by omega)).symm)
  · exact (dif_neg hs).trans ((v1 H s _ c).trans (congrArg _ (dn_pos 1 (fun t => A.up (row s t) c) t (by omega)).symm))

theorem v12 : val_main_v12 (F := Ideal) x0 x2 (ix3 s t c) = (dn 2 (fun t => A.up (row s t) c) t : EReal) := by
  pointwise [val_main_v12, val_main_v6, val_main_v11, val_main_cst]
  by_cases hs : t.val < 2
  · exact (dif_pos hs).trans (congrArg Real.toEReal (dn_neg 2 (fun t => A.up (row s t) c) t (by omega)).symm)
  · exact (dif_neg hs).trans ((v1 H s _ c).trans (congrArg _ (dn_pos 2 (fun t => A.up (row s t) c) t (by omega)).symm))

theorem v33 : val_main_v33 (F := Ideal) x0 x2 x4 x5 (ix3 s t (col h q)) = ((A.seq s).conv h t q : EReal) := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_v5, val_main_v4, val_main_v3, val_main_v2]
  simp only [v1 H, v9 H, v12 H, H.w, H.b, ← EReal.coe_mul, ← EReal.coe_add]
  congr 1
  unfold Seq.conv Args.seq
  dsimp only
  ring

theorem v34 : val_main_v34 (F := Ideal) x0 x2 x4 x5 (ix3 s t q) = ((A.seq s).conv 0 t q : EReal) := by
  pointwise [val_main_v34]
  refine Eq.trans (congrArg _ (congrArg (ix3 s t) (Fin.ext ?_))) (v33 H s t 0 q)
  show q.val = 0 * 2816 + q.val
  omega

theorem v35 : val_main_v35 (F := Ideal) x0 x2 x4 x5 (ix3 s t q) = ((A.seq s).conv 1 t q : EReal) := by
  pointwise [val_main_v35]
  refine Eq.trans (congrArg _ (congrArg (ix3 s t) (Fin.ext ?_))) (v33 H s t 1 q)
  show 2816 + q.val = 1 * 2816 + q.val
  omega

theorem v36 : val_main_v36_2 (F := Ideal) x0 x2 x4 x5 (ix3 s t q) = ((A.seq s).sg t q : EReal) := by
  pointwise [val_main_v36_2, val_main_call0_v4, val_main_call0_cst_0, val_main_call0_v3, val_main_call0_v2, val_main_call0_cst, val_main_call0_v1, val_main_call0_v0]
  rw [v34 H]
  exact sigmoid _

theorem v43 : val_main_v43 (F := Ideal) x1 x3 (ix3 s t q) = ((A.seq s).dact t q : EReal) := by
  pointwise [val_main_v43, val_main_v42]
  simp only [H.z, H.d, ← EReal.coe_mul, coe_sum]
  rfl

theorem v44 : val_main_v44 (F := Ideal) x0 x1 x2 x3 x4 x5 (ix3 s t q) = ((A.seq s).dcv 1 t q : EReal) := by
  pointwise [val_main_v44, val_main_v36_0]
  rw [v34 H, v36 H, v43 H, ← EReal.coe_mul, ← EReal.coe_mul, Seq.dcv1, Seq.dval]
  congr 1
  ring

theorem v46 : val_main_v46 (F := Ideal) x0 x1 x2 x3 x4 x5 (ix3 s t q) = ((A.seq s).dcv 0 t q : EReal) := by
  pointwise [val_main_v46, val_main_call1_v2, val_main_call1_v1, val_main_call1_v0, val_main_v45, val_main_v36_1, val_main_call0_v7, val_main_call0_v6, val_main_call0_cst_1]
  rw [show (1 : EReal) = ((1 : ℝ) : EReal) from rfl]
  simp only [v34 H, v35 H, v36 H, v43 H, ← EReal.coe_mul, ← EReal.coe_sub, ← EReal.coe_add]
  rw [Seq.dcv0, Seq.dgate]
  congr 1
  ring

theorem v47 : val_main_v47 (F := Ideal) x0 x1 x2 x3 x4 x5 (ix3 s t (col h q)) = ((A.seq s).dcv h t q : EReal) := by
  pointwise [val_main_v47]
  obtain rfl | rfl : h = 0 ∨ h = 1 := by omega
  · refine (dif_pos (show 0 * 2816 + q.val < 2816 by omega)).trans ?_
    refine Eq.trans (congrArg _ (congrArg (ix3 s t) (Fin.ext ?_))) (v46 H s t q)
    show 0 * 2816 + q.val = q.val
    omega
  · refine (dif_neg (show ¬1 * 2816 + q.val < 2816 by omega)).trans ?_
    refine Eq.trans (congrArg _ (congrArg (ix3 s t) (Fin.ext ?_))) (v44 H s t q)
    show 1 * 2816 + q.val - 2816 = q.val
    omega

theorem v38 : val_main_v38 (F := Ideal) x0 x2 x4 x5 (ix2 (row s t) q) = ((A.seq s).act t q : EReal) := by
  pointwise [val_main_v38]
  have e0 : (⟨(s.val * 2048 + t.val) / 2048, by omega⟩ : Fin 2) = s := Fin.ext (by dsimp only; omega)
  have e1 : (⟨(s.val * 2048 + t.val) % 2048, by omega⟩ : Fin 2048) = t := Fin.ext (by dsimp only; omega)
  rw [e0, e1]
  pointwise [val_main_v37, val_main_v36_0]
  rw [v34 H, v35 H, v36 H, ← EReal.coe_mul, ← EReal.coe_mul]
  rfl

theorem v84 : val_main_v84 (F := Ideal) x0 x1 x2 x3 x4 x5 (ix3 s t (col h q)) = ((A.seq s).dup h t q : EReal) := by
  pointwise [val_main_v84, val_main_v83, val_main_cst_14, val_main_v82, val_main_v60, val_main_v59, val_main_v80, val_main_v79, val_main_cst_13, val_main_v78, val_main_v69, val_main_v68, val_main_v52, val_main_v51,
    val_main_v27, val_main_v26, val_main_v25, val_main_v21, val_main_v20, val_main_v19, val_main_v16, val_main_v15, val_main_v14, val_main_v4, val_main_v3]
  have hc : h.val * 2816 + q.val < 5632 := by omega
  have e2 : (if h_1 : t.val < 2046 ∧ h.val * 2816 + q.val < 5632 then
      x4 (ix2 0 (col h q)) * val_main_v47 (F := Ideal) x0 x1 x2 x3 x4 x5 (ix3 s ⟨2 + t.val, by omega⟩ (col h q)) else 0)
      = (((A.seq s).w 0 h q * su 2 (fun t => (A.seq s).dcv h t q) t : ℝ) : EReal) := by
    unfold su
    by_cases ht : t.val < 2046
    · rw [dif_pos ⟨ht, hc⟩, dif_pos (show t.val + 2 < 2048 by omega), H.w, v47 H, ← EReal.coe_mul]
      have e : (⟨2 + t.val, by omega⟩ : Fin 2048) = ⟨t.val + 2, by omega⟩ := Fin.ext (Nat.add_comm _ _)
      rw [e]
      rfl
    · rw [dif_neg (fun h => ht h.1), dif_neg (show ¬t.val + 2 < 2048 by omega), mul_zero]
      rfl
  have e1 : (if h_1 : t.val < 2047 ∧ h.val * 2816 + q.val < 5632 then
      x4 (ix2 1 (col h q)) * val_main_v47 (F := Ideal) x0 x1 x2 x3 x4 x5 (ix3 s ⟨1 + t.val, by omega⟩ (col h q)) else 0)
      = (((A.seq s).w 1 h q * su 1 (fun t => (A.seq s).dcv h t q) t : ℝ) : EReal) := by
    unfold su
    by_cases ht : t.val < 2047
    · rw [dif_pos ⟨ht, hc⟩, dif_pos (show t.val + 1 < 2048 by omega), H.w, v47 H, ← EReal.coe_mul]
      have e : (⟨1 + t.val, by omega⟩ : Fin 2048) = ⟨t.val + 1, by omega⟩ := Fin.ext (Nat.add_comm _ _)
      rw [e]
      rfl
    · rw [dif_neg (fun h => ht h.1), dif_neg (show ¬t.val + 1 < 2048 by omega), mul_zero]
      rfl
  refine Eq.trans (congrArg₂ (· + ·) (congrArg₂ (· + ·) (congrArg₂ (· * ·) (H.w 2 _) (v47 H s t h q)) e2) e1) ?_
  rw [← EReal.coe_mul, ← EReal.coe_add, ← EReal.coe_add]
  congr 1
  unfold Seq.dup
  show A.w 2 (col h q) * _ + _ + _ = _ + _ + A.w 2 (col h q) * _
  ring

theorem v90 : val_main_v90 (F := Ideal) x0 x1 x2 x3 x4 x5 (ix2 (row s t) (col h q)) = ((A.seq s).dup h t q : EReal) := by
  pointwise [val_main_v90]
  have e0 : (⟨(s.val * 2048 + t.val) / 2048, by omega⟩ : Fin 2) = s := Fin.ext (by dsimp only; omega)
  have e1 : (⟨(s.val * 2048 + t.val) % 2048, by omega⟩ : Fin 2048) = t := Fin.ext (by dsimp only; omega)
  rw [e0, e1]
  exact v84 H s t h q

theorem v93 : val_main_v93 (F := Ideal) x0 x1 x2 x3 x4 x5 (ix3 s t (col h q)) = ((A.seq s).dup h t q : EReal) := by
  pointwise [val_main_v93]
  exact v90 H s t h q

theorem v85 : val_main_v85 (F := Ideal) x0 x1 x2 x3 x4 x5 (ix1 (col h q)) = (A.dcb h q : EReal) := by
  pointwise [val_main_v85, val_main_cst_15, val_main_v50, val_main_cst_3, val_main_v49, val_main_v48, val_main_cst_2]
  simp only [Fin.sum_univ_one]
  simp only [v47 H, coe_sum]
  congr 1
  exact Finset.sum_comm

theorem v57 : val_main_v57 (F := Ideal) x0 x1 x2 x3 x4 x5 (ix3 0 t (col h q))
    = ((∑ s, (A.seq s).dcv h t q * (A.seq s).tap 2 h t q : ℝ) : EReal) := by
  pointwise [val_main_v57, val_main_v56, val_main_cst_5, val_main_v55, val_main_v54, val_main_cst_4, val_main_v53]
  rw [Fin.sum_univ_one]
  simp only [v47 H, v1 H, ← EReal.coe_mul, coe_sum, Seq.tap2]
  rfl

theorem v65 : val_main_v65 (F := Ideal) x0 x1 x2 x3 x4 x5 (ix3 0 t (col h q))
    = ((∑ s, (A.seq s).dcv h t q * (A.seq s).tap 1 h t q : ℝ) : EReal) := by
  pointwise [val_main_v65, val_main_v64, val_main_cst_8, val_main_v63, val_main_v62, val_main_cst_7, val_main_v61]
  rw [Fin.sum_univ_one]
  simp only [v47 H, v9 H, ← EReal.coe_mul, coe_sum]
  rfl

theorem v74 : val_main_v74 (F := Ideal) x0 x1 x2 x3 x4 x5 (ix3 0 t (col h q))
    = ((∑ s, (A.seq s).dcv h t q * (A.seq s).tap 0 h t q : ℝ) : EReal) := by
  pointwise [val_main_v74, val_main_v73, val_main_cst_11, val_main_v72, val_main_v71, val_main_cst_10, val_main_v70]
  rw [Fin.sum_univ_one]
  simp only [v47 H, v12 H, ← EReal.coe_mul, coe_sum]
  rfl

/-- The three taps' sums, each at its own place. -/
theorem tapped (k : Fin 3) :
    ((if h_1 : (2 ≤ k.val ∧ k.val - 2 < 1) ∧ h.val * 2816 + q.val < 5632 then
        val_main_v57 (F := Ideal) x0 x1 x2 x3 x4 x5 (ix3 ⟨k.val - 2, h_1.1.2⟩ t (col h q)) else 0)
      + (if h_1 : (1 ≤ k.val ∧ k.val - 1 < 1) ∧ h.val * 2816 + q.val < 5632 then
        val_main_v65 (F := Ideal) x0 x1 x2 x3 x4 x5 (ix3 ⟨k.val - 1, h_1.1.2⟩ t (col h q)) else 0))
      + (if h_1 : k.val < 1 ∧ h.val * 2816 + q.val < 5632 then
        val_main_v74 (F := Ideal) x0 x1 x2 x3 x4 x5 (ix3 ⟨k.val, h_1.1⟩ t (col h q)) else 0)
      = ((∑ s, (A.seq s).dcv h t q * (A.seq s).tap k h t q : ℝ) : EReal) := by
  have hc : h.val * 2816 + q.val < 5632 := by omega
  obtain rfl | rfl | rfl : k = 0 ∨ k = 1 ∨ k = 2 := by omega
  · rw [dif_neg (fun h => absurd h.1.1 (by decide)), dif_neg (fun h => absurd h.1.1 (by decide)), dif_pos ⟨by decide, hc⟩, zero_add, zero_add]
    exact v74 H t h q
  · rw [dif_neg (fun h => absurd h.1.1 (by decide)), dif_pos ⟨by decide, hc⟩, dif_neg (fun h => absurd h.1 (by decide)), zero_add, add_zero]
    exact v65 H t h q
  · rw [dif_pos ⟨by decide, hc⟩, dif_neg (fun h => absurd h.1.2 (by decide)), dif_neg (fun h => absurd h.1 (by decide)), add_zero, add_zero]
    exact v57 H t h q

theorem v88 (k : Fin 3) : val_main_v88 (F := Ideal) x0 x1 x2 x3 x4 x5 (ix2 k (col h q)) = (A.dcw k h q : EReal) := by
  pointwise [val_main_v88, val_main_cst_17, val_main_v87, val_main_v86, val_main_cst_16, val_main_v76, val_main_v75, val_main_cst_12, val_main_v67, val_main_v66, val_main_cst_9, val_main_v58, val_main_cst_6]
  rw [Fin.sum_univ_one]
  refine Eq.trans (Finset.sum_congr rfl fun t _ => tapped H t h q k) ?_
  rw [coe_sum]
  congr 1
  exact Finset.sum_comm

theorem v41 (k : Fin 1024) : val_main_v41 (F := Ideal) x0 x1 x2 x4 x5 (ix2 q k) = (A.dwd q k : EReal) := by
  pointwise [val_main_v41, val_main_v40]
  rw [sum_rows]
  simp only [H.z, v38 H, ← EReal.coe_mul, coe_sum]
  congr 1
  exact Finset.sum_congr rfl fun s _ => Finset.sum_congr rfl fun t _ => mul_comm _ _

theorem v97 (k : Fin 1024) : val_main_v97 (F := Ideal) x0 x1 x2 x3 x4 x5 (ix2 (col h q) k) = (A.dwu h q k : EReal) := by
  pointwise [val_main_v97, val_main_v92, val_main_v91]
  rw [sum_rows]
  simp only [H.x, v90 H, ← EReal.coe_mul, coe_sum]
  rfl

end Cert.FfnRef

end
-- ==== Proof.FfnValue.lean ====
/- The feed-forward gate's gradient kernel: what its six results hold after the run. -/
module

public import proofs.«01_k».proof.Proof.FfnCases
public import proofs.«01_k».proof.Proof.FfnRef
public import proofs.«01_k».proof.Proof.Gen.FfnIdeal.Value
public import Idealize.ShloMosaic.Lib.StableHlo.ReadAt
public import Idealize.ShloMosaic.Lib.Pipeline.ValueKit.Geometry

@[expose] public section

set_option maxRecDepth 16384

noncomputable section

namespace Cert.FfnValue

open Idealize.ShloMosaic Idealize.ShloMosaic.TcCoe Idealize.SL.Sem
open Cert.FfnIdeal Cert.FfnIdeal.Gen Cert.Consts Cert.FfnSeq Cert.FfnCases Cert.FfnHalves
open Cert.FfnRef (Args Holds row col)

/-- The sequence and the first column of grid point `t`: the sequence runs fastest. -/
def sq (t : ℕ) : Fin 2 := ⟨t % 2, Nat.mod_lt _ (by decide)⟩
def off (t : ℕ) : ℕ := t / 2 % 22 * 128
theorem off_eq (t : ℕ) : off t = t / 2 % 22 * 128 := rfl
theorem off_le (t : ℕ) : off t + 128 ≤ 2816 := by
  have := Nat.mod_lt (t / 2) (show 22 > 0 by decide)
  unfold off
  omega
/-- Column `q` of point `t`. -/
abbrev at_ (t : ℕ) (q : Fin 128) : Fin 2816 := cl (off t) (off_le t) q

variable (m : (ℓ : Loc nD τ sig) → Buf (Elt Ideal) ℓ) (c : Dev nD)

/-- The arguments as launched. -/
abbrev A0 : Vec Ideal S4096x1024 .f32 := m ((c : Thread nD τ).loc main_arg0)
abbrev A1 : Vec Ideal S4096x1024 .f32 := m ((c : Thread nD τ).loc main_arg1)
abbrev A2 : Vec Ideal S1024x5632 .f32 := m ((c : Thread nD τ).loc main_arg2)
abbrev A3 : Vec Ideal S2816x1024 .f32 := m ((c : Thread nD τ).loc main_arg3)
abbrev A4 : Vec Ideal S3x5632 .f32 := m ((c : Thread nD τ).loc main_arg4)
abbrev A5 : Vec Ideal S1x5632 .f32 := m ((c : Thread nD τ).loc main_arg5)

theorem win0 : ∀ t : Fin cfg0.N, win0_0.index t = ![t.val % 2, 0, 0] := (by decide +kernel : ∀ t : Fin grid0.N, _)
theorem win1 : ∀ t : Fin cfg0.N, win0_1.index t = ![t.val % 2, 0, 0] := (by decide +kernel : ∀ t : Fin grid0.N, _)
theorem win2 : ∀ t : Fin cfg0.N, win0_2.index t = ![t.val % 2, 0, t.val / 2 % 22] := (by decide +kernel : ∀ t : Fin grid0.N, _)
theorem win3 : ∀ t : Fin cfg0.N, win0_3.index t = ![t.val / 2 % 22, 0] := (by decide +kernel : ∀ t : Fin grid0.N, _)
theorem win4 : ∀ t : Fin cfg0.N, win0_4.index t = ![0, t.val / 2 % 22] := (by decide +kernel : ∀ t : Fin grid0.N, _)
theorem win5 : ∀ t : Fin cfg0.N, win0_5.index t = ![0, 22 + t.val / 2 % 22] := (by decide +kernel : ∀ t : Fin grid0.N, _)
theorem win6 : ∀ t : Fin cfg0.N, win0_6.index t = ![0, t.val / 2 % 22] := (by decide +kernel : ∀ t : Fin grid0.N, _)
theorem win7 : ∀ t : Fin cfg0.N, win0_7.index t = ![0, 22 + t.val / 2 % 22] := (by decide +kernel : ∀ t : Fin grid0.N, _)
theorem win8 : ∀ t : Fin cfg0.N, win0_8.index t = ![t.val % 2, 0, t.val / 2 % 22] := (by decide +kernel : ∀ t : Fin grid0.N, _)
theorem win9 : ∀ t : Fin cfg0.N, win0_9.index t = ![t.val % 2, 0, t.val / 2 % 22] := (by decide +kernel : ∀ t : Fin grid0.N, _)
theorem win10 : ∀ t : Fin cfg0.N, win0_10.index t = ![0, t.val / 2 % 22, 0] := (by decide +kernel : ∀ t : Fin grid0.N, _)
theorem win11 : ∀ t : Fin cfg0.N, win0_11.index t = ![t.val / 2 % 22, 0] := (by decide +kernel : ∀ t : Fin grid0.N, _)
theorem win12 : ∀ t : Fin cfg0.N, win0_12.index t = ![0, 0, t.val / 2 % 22] := (by decide +kernel : ∀ t : Fin grid0.N, _)
theorem win13 : ∀ t : Fin cfg0.N, win0_13.index t = ![0, 0, t.val / 2 % 22] := (by decide +kernel : ∀ t : Fin grid0.N, _)

/-! What the host lines hand the kernel. -/

theorem V8_at (s : Fin 2) (t : Fin 2048) (k : Fin 1024) : V m c main_v8 (ix3 s t k) = A0 m c (ix2 (row s t) k) := by
  unfold V
  after_reads_at

theorem V9_at (s : Fin 2) (t : Fin 2048) (k : Fin 1024) : V m c main_v9 (ix3 s t k) = A1 m c (ix2 (row s t) k) := by
  unfold V
  after_reads_at

theorem V3_at (q : Fin 2816) (k : Fin 1024) : V m c main_v3 (ix2 q k) = A3 m c (ix2 q k) := by
  unfold V
  after_reads_at

/-- The up projection's columns as the kernel takes them: block by block, the gate's 128 columns before the value's. -/
theorem V7_at (s : Fin 2) (t : Fin 2048) (j : Fin 22) (h : Fin 2) (q : Fin 128) :
    (V m c main_v7 (ix3 s t ⟨(j.val * 2 + h.val) * 128 + q.val, by omega⟩) : EReal) = ∑ k, A0 m c (ix2 (row s t) k) * A2 m c (ix2 k ⟨h.val * 2816 + (j.val * 128 + q.val), by omega⟩) := by
  unfold V
  after_reads_at
  exact Finset.sum_congr rfl fun k _ => congrArg (A0 m c (ix2 (row s t) k) * ·) (congrArg (A2 m c) (congrArg (ix2 k) (Fin.ext (Nat.add_assoc _ _ _))))

/-! The kernel's input blocks. -/

theorem iblk0 (t : Fin cfg0.N) (p : Fin 2048) (k : Fin 1024) : iblk m c 0 t (ix3 0 p k) = V m c main_v8 (ix3 (sq t.val) p k) := by
  blk_simp [iblk]
  refine congrArg (V m c main_v8) ?_
  have o := off_eq t.val
  blk_ext [win0, sq, cl, col]

theorem iblk1 (t : Fin cfg0.N) (p : Fin 2048) (k : Fin 1024) : iblk m c 1 t (ix3 0 p k) = V m c main_v9 (ix3 (sq t.val) p k) := by
  blk_simp [iblk]
  refine congrArg (V m c main_v9) ?_
  have o := off_eq t.val
  blk_ext [win1, sq, cl, col]

theorem iblk2g (t : Fin cfg0.N) (p : Fin 2048) (q : Fin 128) : iblk m c 2 t (ix3 0 p ⟨q.val, by omega⟩) = V m c main_v7 (ix3 (sq t.val) p ⟨(t.val / 2 % 22 * 2 + 0) * 128 + q.val, by omega⟩) := by
  blk_simp [iblk]
  refine congrArg (V m c main_v7) ?_
  have o := off_eq t.val
  blk_ext [win2, sq, cl, col]

theorem iblk2v (t : Fin cfg0.N) (p : Fin 2048) (q : Fin 128) : iblk m c 2 t (ix3 0 p ⟨128 + q.val, by omega⟩) = V m c main_v7 (ix3 (sq t.val) p ⟨(t.val / 2 % 22 * 2 + 1) * 128 + q.val, by omega⟩) := by
  blk_simp [iblk]
  refine congrArg (V m c main_v7) ?_
  have o := off_eq t.val
  blk_ext [win2, sq, cl, col]

theorem iblk3 (t : Fin cfg0.N) (q : Fin 128) (k : Fin 1024) : iblk m c 3 t (ix2 q k) = V m c main_v3 (ix2 (at_ t.val q) k) := by
  blk_simp [iblk]
  refine congrArg (V m c main_v3) ?_
  have o := off_eq t.val
  blk_ext [win3, sq, cl, col]

theorem iblk4 (t : Fin cfg0.N) (k : Fin 3) (q : Fin 128) : iblk m c 4 t (ix2 k q) = V m c main_arg4 (ix2 k (col 0 (at_ t.val q))) := by
  blk_simp [iblk]
  refine congrArg (V m c main_arg4) ?_
  have o := off_eq t.val
  blk_ext [win4, sq, cl, col]

theorem iblk5 (t : Fin cfg0.N) (k : Fin 3) (q : Fin 128) : iblk m c 5 t (ix2 k q) = V m c main_arg4 (ix2 k (col 1 (at_ t.val q))) := by
  blk_simp [iblk]
  refine congrArg (V m c main_arg4) ?_
  have o := off_eq t.val
  blk_ext [win5, sq, cl, col]

theorem iblk6 (t : Fin cfg0.N) (q : Fin 128) : iblk m c 6 t (ix2 0 q) = V m c main_arg5 (ix2 0 (col 0 (at_ t.val q))) := by
  blk_simp [iblk]
  refine congrArg (V m c main_arg5) ?_
  have o := off_eq t.val
  blk_ext [win6, sq, cl, col]

theorem iblk7 (t : Fin cfg0.N) (q : Fin 128) : iblk m c 7 t (ix2 0 q) = V m c main_arg5 (ix2 0 (col 1 (at_ t.val q))) := by
  blk_simp [iblk]
  refine congrArg (V m c main_arg5) ?_
  have o := off_eq t.val
  blk_ext [win7, sq, cl, col]

variable {A : Args} (h : Holds A (A0 m c) (A1 m c) (A2 m c) (A3 m c) (A4 m c) (A5 m c))
include h

theorem up_at (s : Fin 2) (t : Fin 2048) (j : Fin 22) (g : Fin 2) (q : Fin 128) :
    (V m c main_v7 (ix3 s t ⟨(j.val * 2 + g.val) * 128 + q.val, by omega⟩) : EReal) = (A.up (row s t) ⟨g.val * 2816 + (j.val * 128 + q.val), by omega⟩ : EReal) := by
  rw [V7_at]
  simp only [h.x, h.u, ← EReal.coe_mul, coe_sum]
  rfl

/-- The input blocks of point `t` hold its sequence's, at its columns. -/
theorem block (t : Fin cfg0.N) : Block (A.seq (sq t.val)) (off t.val) (off_le t.val) (iblk m c 0 t) (iblk m c 1 t) (iblk m c 2 t) (iblk m c 3 t) (iblk m c 4 t) (iblk m c 5 t) (iblk m c 6 t) (iblk m c 7 t) where
  x p k := (iblk0 m c t p k).trans ((V8_at m c _ _ _).trans (h.x _ _))
  z p k := (iblk1 m c t p k).trans ((V9_at m c _ _ _).trans (h.z _ _))
  u0 p q := (iblk2g m c t p q).trans (up_at m c h (sq t.val) p ⟨t.val / 2 % 22, Nat.mod_lt _ (by decide)⟩ 0 q)
  u1 p q := (iblk2v m c t p q).trans (up_at m c h (sq t.val) p ⟨t.val / 2 % 22, Nat.mod_lt _ (by decide)⟩ 1 q)
  d q k := (iblk3 m c t q k).trans ((V3_at m c _ _).trans (h.d _ _))
  w0 k q := (iblk4 m c t k q).trans ((congrFun (V_main_arg4 m c) _).trans (h.w _ _))
  w1 k q := (iblk5 m c t k q).trans ((congrFun (V_main_arg4 m c) _).trans (h.w _ _))
  b0 q := (iblk6 m c t q).trans ((congrFun (V_main_arg5 m c) _).trans (h.b _))
  b1 q := (iblk7 m c t q).trans ((congrFun (V_main_arg5 m c) _).trans (h.b _))

/-! What a point leaves in the output blocks. -/

theorem pt8A (t : Fin cfg0.N) (h0 : t.val % 2 = 0) (h1 : ¬t.val % 2 = 1) (y : S1x2048x128.Idx) : (outsAt0 m c t.val t.isLt).1 y = blkUp (A.seq (sq t.val)) (off t.val) (off_le t.val) 0 y := by
  rw [outsAt0_A m c t h0 h1 h0 h1 h0 h1 h0 h1 h0 h1 h0 h1 h0 h1 h0 h1 h0 h1 h0 h1 h0 h1]
  dsimp only
  apply outA8
  exact block m c h t

theorem pt8B (t : Fin cfg0.N) (h0 : ¬t.val % 2 = 0) (h1 : t.val % 2 = 1) (y : S1x2048x128.Idx) : (outsAt0 m c t.val t.isLt).1 y = blkUp (A.seq (sq t.val)) (off t.val) (off_le t.val) 0 y := by
  rw [outsAt0_B m c t h0 h1 h0 h1 h0 h1 h0 h1 h0 h1 h0 h1 h0 h1 h0 h1 h0 h1 h0 h1 h0 h1]
  dsimp only
  apply outB8
  exact block m c h t

theorem pt8 (t : Fin cfg0.N) (y : S1x2048x128.Idx) : (outsAt0 m c t.val t.isLt).1 y = blkUp (A.seq (sq t.val)) (off t.val) (off_le t.val) 0 y := by
  by_cases h1 : t.val % 2 = 1
  · exact pt8B m c h t (by omega) h1 y
  · exact pt8A m c h t (by omega) h1 y

theorem pt9A (t : Fin cfg0.N) (h0 : t.val % 2 = 0) (h1 : ¬t.val % 2 = 1) (y : S1x2048x128.Idx) : (outsAt0 m c t.val t.isLt).2.1 y = blkUp (A.seq (sq t.val)) (off t.val) (off_le t.val) 1 y := by
  rw [outsAt0_A m c t h0 h1 h0 h1 h0 h1 h0 h1 h0 h1 h0 h1 h0 h1 h0 h1 h0 h1 h0 h1 h0 h1]
  dsimp only
  apply outA9
  exact block m c h t

theorem pt9B (t : Fin cfg0.N) (h0 : ¬t.val % 2 = 0) (h1 : t.val % 2 = 1) (y : S1x2048x128.Idx) : (outsAt0 m c t.val t.isLt).2.1 y = blkUp (A.seq (sq t.val)) (off t.val) (off_le t.val) 1 y := by
  rw [outsAt0_B m c t h0 h1 h0 h1 h0 h1 h0 h1 h0 h1 h0 h1 h0 h1 h0 h1 h0 h1 h0 h1 h0 h1]
  dsimp only
  apply outB9
  exact block m c h t

theorem pt9 (t : Fin cfg0.N) (y : S1x2048x128.Idx) : (outsAt0 m c t.val t.isLt).2.1 y = blkUp (A.seq (sq t.val)) (off t.val) (off_le t.val) 1 y := by
  by_cases h1 : t.val % 2 = 1
  · exact pt9B m c h t (by omega) h1 y
  · exact pt9A m c h t (by omega) h1 y

theorem pt10A (t : Fin cfg0.N) (h0 : t.val % 2 = 0) (h1 : ¬t.val % 2 = 1) (y : S2x128x1024.Idx) : (outsAt0 m c t.val t.isLt).2.2.1 y = blk10 (A.seq (sq t.val)) (off t.val) (off_le t.val) y := by
  rw [outsAt0_A m c t h0 h1 h0 h1 h0 h1 h0 h1 h0 h1 h0 h1 h0 h1 h0 h1 h0 h1 h0 h1 h0 h1]
  dsimp only
  apply outA10
  exact block m c h t

theorem pt10B (t : Fin cfg0.N) (h0 : ¬t.val % 2 = 0) (h1 : t.val % 2 = 1) (y : S2x128x1024.Idx) : (outsAt0 m c t.val t.isLt).2.2.1 y = (outsAt0 m c (t.val - 1) (Nat.lt_of_le_of_lt (Nat.sub_le _ _) t.isLt)).2.2.1 y + blk10 (A.seq (sq t.val)) (off t.val) (off_le t.val) y := by
  rw [outsAt0_B m c t h0 h1 h0 h1 h0 h1 h0 h1 h0 h1 h0 h1 h0 h1 h0 h1 h0 h1 h0 h1 h0 h1]
  dsimp only
  apply outB10
  exact block m c h t

/-- After the second sequence's point the block holds the sum over both. -/
theorem sum10 (t : Fin cfg0.N) (h1 : t.val % 2 = 1) (y : S2x128x1024.Idx) : (outsAt0 m c t.val t.isLt).2.2.1 y
    = (blk10 (A.seq 0) (off t.val) (off_le t.val) y + blk10 (A.seq 1) (off t.val) (off_le t.val) y : EReal) := by
  refine (pt10B m c h t (by omega) h1 y).trans ?_
  have e := pt10A m c h ⟨t.val - 1, Nat.lt_of_le_of_lt (Nat.sub_le _ _) t.isLt⟩ (show (t.val - 1) % 2 = 0 by omega) (show ¬(t.val - 1) % 2 = 1 by omega) y
  have e0 : sq (t.val - 1) = 0 := Fin.ext (show (t.val - 1) % 2 = 0 by omega)
  have e1 : sq t.val = 1 := Fin.ext h1
  have e2 : off (t.val - 1) = off t.val := by unfold off; congr 2; omega
  simp only [e0, e2] at e
  rw [e1]
  exact congrArg (· + _) e

theorem pt11A (t : Fin cfg0.N) (h0 : t.val % 2 = 0) (h1 : ¬t.val % 2 = 1) (y : S128x1024.Idx) : (outsAt0 m c t.val t.isLt).2.2.2.1 y = blk11 (A.seq (sq t.val)) (off t.val) (off_le t.val) y := by
  rw [outsAt0_A m c t h0 h1 h0 h1 h0 h1 h0 h1 h0 h1 h0 h1 h0 h1 h0 h1 h0 h1 h0 h1 h0 h1]
  dsimp only
  obtain ⟨q, k, rfl⟩ : ∃ (q : Fin 128) (k : Fin 1024), y = ix2 q k := ⟨y 0, y 1, eq_ix2 y⟩
  apply outA11
  exact block m c h t

theorem pt11B (t : Fin cfg0.N) (h0 : ¬t.val % 2 = 0) (h1 : t.val % 2 = 1) (y : S128x1024.Idx) : (outsAt0 m c t.val t.isLt).2.2.2.1 y = (outsAt0 m c (t.val - 1) (Nat.lt_of_le_of_lt (Nat.sub_le _ _) t.isLt)).2.2.2.1 y + blk11 (A.seq (sq t.val)) (off t.val) (off_le t.val) y := by
  rw [outsAt0_B m c t h0 h1 h0 h1 h0 h1 h0 h1 h0 h1 h0 h1 h0 h1 h0 h1 h0 h1 h0 h1 h0 h1]
  dsimp only
  obtain ⟨q, k, rfl⟩ : ∃ (q : Fin 128) (k : Fin 1024), y = ix2 q k := ⟨y 0, y 1, eq_ix2 y⟩
  apply outB11
  exact block m c h t

/-- After the second sequence's point the block holds the sum over both. -/
theorem sum11 (t : Fin cfg0.N) (h1 : t.val % 2 = 1) (y : S128x1024.Idx) : (outsAt0 m c t.val t.isLt).2.2.2.1 y
    = (blk11 (A.seq 0) (off t.val) (off_le t.val) y + blk11 (A.seq 1) (off t.val) (off_le t.val) y : EReal) := by
  refine (pt11B m c h t (by omega) h1 y).trans ?_
  have e := pt11A m c h ⟨t.val - 1, Nat.lt_of_le_of_lt (Nat.sub_le _ _) t.isLt⟩ (show (t.val - 1) % 2 = 0 by omega) (show ¬(t.val - 1) % 2 = 1 by omega) y
  have e0 : sq (t.val - 1) = 0 := Fin.ext (show (t.val - 1) % 2 = 0 by omega)
  have e1 : sq t.val = 1 := Fin.ext h1
  have e2 : off (t.val - 1) = off t.val := by unfold off; congr 2; omega
  simp only [e0, e2] at e
  rw [e1]
  exact congrArg (· + _) e

theorem pt12A (t : Fin cfg0.N) (h0 : t.val % 2 = 0) (h1 : ¬t.val % 2 = 1) (y : S3x2x128.Idx) : (outsAt0 m c t.val t.isLt).2.2.2.2.1 y = blk12 (A.seq (sq t.val)) (off t.val) (off_le t.val) y := by
  rw [outsAt0_A m c t h0 h1 h0 h1 h0 h1 h0 h1 h0 h1 h0 h1 h0 h1 h0 h1 h0 h1 h0 h1 h0 h1]
  dsimp only
  apply outA12
  exact block m c h t

theorem pt12B (t : Fin cfg0.N) (h0 : ¬t.val % 2 = 0) (h1 : t.val % 2 = 1) (y : S3x2x128.Idx) : (outsAt0 m c t.val t.isLt).2.2.2.2.1 y = (outsAt0 m c (t.val - 1) (Nat.lt_of_le_of_lt (Nat.sub_le _ _) t.isLt)).2.2.2.2.1 y + blk12 (A.seq (sq t.val)) (off t.val) (off_le t.val) y := by
  rw [outsAt0_B m c t h0 h1 h0 h1 h0 h1 h0 h1 h0 h1 h0 h1 h0 h1 h0 h1 h0 h1 h0 h1 h0 h1]
  dsimp only
  apply outB12
  exact block m c h t

/-- After the second sequence's point the block holds the sum over both. -/
theorem sum12 (t : Fin cfg0.N) (h1 : t.val % 2 = 1) (y : S3x2x128.Idx) : (outsAt0 m c t.val t.isLt).2.2.2.2.1 y
    = (blk12 (A.seq 0) (off t.val) (off_le t.val) y + blk12 (A.seq 1) (off t.val) (off_le t.val) y : EReal) := by
  refine (pt12B m c h t (by omega) h1 y).trans ?_
  have e := pt12A m c h ⟨t.val - 1, Nat.lt_of_le_of_lt (Nat.sub_le _ _) t.isLt⟩ (show (t.val - 1) % 2 = 0 by omega) (show ¬(t.val - 1) % 2 = 1 by omega) y
  have e0 : sq (t.val - 1) = 0 := Fin.ext (show (t.val - 1) % 2 = 0 by omega)
  have e1 : sq t.val = 1 := Fin.ext h1
  have e2 : off (t.val - 1) = off t.val := by unfold off; congr 2; omega
  simp only [e0, e2] at e
  rw [e1]
  exact congrArg (· + _) e

theorem pt13A (t : Fin cfg0.N) (h0 : t.val % 2 = 0) (h1 : ¬t.val % 2 = 1) (y : S2x1x128.Idx) : (outsAt0 m c t.val t.isLt).2.2.2.2.2 y = blk13 (A.seq (sq t.val)) (off t.val) (off_le t.val) y := by
  rw [outsAt0_A m c t h0 h1 h0 h1 h0 h1 h0 h1 h0 h1 h0 h1 h0 h1 h0 h1 h0 h1 h0 h1 h0 h1]
  dsimp only
  apply outA13
  exact block m c h t

theorem pt13B (t : Fin cfg0.N) (h0 : ¬t.val % 2 = 0) (h1 : t.val % 2 = 1) (y : S2x1x128.Idx) : (outsAt0 m c t.val t.isLt).2.2.2.2.2 y = (outsAt0 m c (t.val - 1) (Nat.lt_of_le_of_lt (Nat.sub_le _ _) t.isLt)).2.2.2.2.2 y + blk13 (A.seq (sq t.val)) (off t.val) (off_le t.val) y := by
  rw [outsAt0_B m c t h0 h1 h0 h1 h0 h1 h0 h1 h0 h1 h0 h1 h0 h1 h0 h1 h0 h1 h0 h1 h0 h1]
  dsimp only
  apply outB13
  exact block m c h t

/-- After the second sequence's point the block holds the sum over both. -/
theorem sum13 (t : Fin cfg0.N) (h1 : t.val % 2 = 1) (y : S2x1x128.Idx) : (outsAt0 m c t.val t.isLt).2.2.2.2.2 y
    = (blk13 (A.seq 0) (off t.val) (off_le t.val) y + blk13 (A.seq 1) (off t.val) (off_le t.val) y : EReal) := by
  refine (pt13B m c h t (by omega) h1 y).trans ?_
  have e := pt13A m c h ⟨t.val - 1, Nat.lt_of_le_of_lt (Nat.sub_le _ _) t.isLt⟩ (show (t.val - 1) % 2 = 0 by omega) (show ¬(t.val - 1) % 2 = 1 by omega) y
  have e0 : sq (t.val - 1) = 0 := Fin.ext (show (t.val - 1) % 2 = 0 by omega)
  have e1 : sq t.val = 1 := Fin.ext h1
  have e2 : off (t.val - 1) = off t.val := by unfold off; congr 2; omega
  simp only [e0, e2] at e
  rw [e1]
  exact congrArg (· + _) e

/-! The arrays after the run. -/

omit h

/-- Result 1 of 6. -/
abbrev res8 (A : Args) (i : S2x2048x2816.Idx) : EReal := ((A.seq (i 0)).dup 0 (i 1) (i 2) : EReal)

theorem val8 (h : Holds A (A0 m c) (A1 m c) (A2 m c) (A3 m c) (A4 m c) (A5 m c)) (t : Fin cfg0.N) (p : Fin 1) (b : Fin 2048) (d : Fin 128) : (outsAt0 m c t.val t.isLt).1 (ix3 p b d) = res8 A (ix3 (sq t.val) b (at_ t.val d)) :=
  pt8 m c h t (ix3 p b d)

theorem final8 (h : Holds A (A0 m c) (A1 m c) (A2 m c) (A3 m c) (A4 m c) (A5 m c)) : (dats m 0 c).arrAt 8 cfg0.N = res8 A := by
  refine (dats m 0 c).arrAt_eq_of_covers 8 _ (by decide +kernel) fun t hf y => ?_
  blk_simp
  rw [after0_8]
  obtain ⟨p, b, d, rfl⟩ : ∃ (p : Fin 1) (b : Fin 2048) (d : Fin 128), y = ix3 p b d := ⟨y 0, y 1, y 2, eq_ix3 y⟩
  refine Eq.trans (val8 m c h t p b d) ?_
  refine congrArg (res8 A) ?_
  have o := off_eq t.val
  blk_ext [win8, sq, cl, col]

/-- Result 2 of 6. -/
abbrev res9 (A : Args) (i : S2x2048x2816.Idx) : EReal := ((A.seq (i 0)).dup 1 (i 1) (i 2) : EReal)

theorem val9 (h : Holds A (A0 m c) (A1 m c) (A2 m c) (A3 m c) (A4 m c) (A5 m c)) (t : Fin cfg0.N) (p : Fin 1) (b : Fin 2048) (d : Fin 128) : (outsAt0 m c t.val t.isLt).2.1 (ix3 p b d) = res9 A (ix3 (sq t.val) b (at_ t.val d)) :=
  pt9 m c h t (ix3 p b d)

theorem final9 (h : Holds A (A0 m c) (A1 m c) (A2 m c) (A3 m c) (A4 m c) (A5 m c)) : (dats m 0 c).arrAt 9 cfg0.N = res9 A := by
  refine (dats m 0 c).arrAt_eq_of_covers 9 _ (by decide +kernel) fun t hf y => ?_
  blk_simp
  rw [after0_9]
  obtain ⟨p, b, d, rfl⟩ : ∃ (p : Fin 1) (b : Fin 2048) (d : Fin 128), y = ix3 p b d := ⟨y 0, y 1, y 2, eq_ix3 y⟩
  refine Eq.trans (val9 m c h t p b d) ?_
  refine congrArg (res9 A) ?_
  have o := off_eq t.val
  blk_ext [win9, sq, cl, col]

theorem two_coe (x y : ℝ) (z : ℝ) (e : z = x + y) : (x : EReal) + (y : EReal) = (z : EReal) := by rw [e, EReal.coe_add]

/-- Result 3 of 6. -/
abbrev res10 (A : Args) (i : S2x2816x1024.Idx) : EReal := (A.dwu (i 0) (i 1) (i 2) : EReal)

theorem val10 (h : Holds A (A0 m c) (A1 m c) (A2 m c) (A3 m c) (A4 m c) (A5 m c)) (t : Fin cfg0.N) (h1 : t.val % 2 = 1) (p : Fin 2) (b : Fin 128) (d : Fin 1024) : (outsAt0 m c t.val t.isLt).2.2.1 (ix3 p b d) = res10 A (ix3 p (at_ t.val b) d) :=
  (sum10 m c h t h1 (ix3 p b d)).trans (two_coe _ _ _ (by unfold Args.dwu; rw [Fin.sum_univ_two]; rfl))

theorem final10 (h : Holds A (A0 m c) (A1 m c) (A2 m c) (A3 m c) (A4 m c) (A5 m c)) : (dats m 0 c).arrAt 10 cfg0.N = res10 A := by
  refine (dats m 0 c).arrAt_eq_of_covers 10 _ (by decide +kernel) fun t hf y => ?_
  blk_simp
  rw [after0_10]
  have ho : t.val % 2 = 1 := (flush0_10 t).mp hf
  obtain ⟨p, b, d, rfl⟩ : ∃ (p : Fin 2) (b : Fin 128) (d : Fin 1024), y = ix3 p b d := ⟨y 0, y 1, y 2, eq_ix3 y⟩
  refine Eq.trans (val10 m c h t ho p b d) ?_
  refine congrArg (res10 A) ?_
  have o := off_eq t.val
  blk_ext [win10, sq, cl, col]

/-- Result 4 of 6. -/
abbrev res11 (A : Args) (i : S2816x1024.Idx) : EReal := (A.dwd (i 0) (i 1) : EReal)

theorem val11 (h : Holds A (A0 m c) (A1 m c) (A2 m c) (A3 m c) (A4 m c) (A5 m c)) (t : Fin cfg0.N) (h1 : t.val % 2 = 1) (p : Fin 128) (b : Fin 1024) : (outsAt0 m c t.val t.isLt).2.2.2.1 (ix2 p b) = res11 A (ix2 (at_ t.val p) b) :=
  (sum11 m c h t h1 (ix2 p b)).trans (two_coe _ _ _ (by unfold Args.dwd; rw [Fin.sum_univ_two]; rfl))

theorem final11 (h : Holds A (A0 m c) (A1 m c) (A2 m c) (A3 m c) (A4 m c) (A5 m c)) : (dats m 0 c).arrAt 11 cfg0.N = res11 A := by
  refine (dats m 0 c).arrAt_eq_of_covers 11 _ (by decide +kernel) fun t hf y => ?_
  blk_simp
  rw [after0_11]
  have ho : t.val % 2 = 1 := (flush0_11 t).mp hf
  obtain ⟨p, b, rfl⟩ : ∃ (p : Fin 128) (b : Fin 1024), y = ix2 p b := ⟨y 0, y 1, eq_ix2 y⟩
  refine Eq.trans (val11 m c h t ho p b) ?_
  refine congrArg (res11 A) ?_
  have o := off_eq t.val
  blk_ext [win11, sq, cl, col]

/-- Result 5 of 6. -/
abbrev res12 (A : Args) (i : S3x2x2816.Idx) : EReal := (A.dcw (i 0) (i 1) (i 2) : EReal)

theorem val12 (h : Holds A (A0 m c) (A1 m c) (A2 m c) (A3 m c) (A4 m c) (A5 m c)) (t : Fin cfg0.N) (h1 : t.val % 2 = 1) (p : Fin 3) (b : Fin 2) (d : Fin 128) : (outsAt0 m c t.val t.isLt).2.2.2.2.1 (ix3 p b d) = res12 A (ix3 p b (at_ t.val d)) :=
  (sum12 m c h t h1 (ix3 p b d)).trans (two_coe _ _ _ (by unfold Args.dcw; rw [Fin.sum_univ_two]; rfl))

theorem final12 (h : Holds A (A0 m c) (A1 m c) (A2 m c) (A3 m c) (A4 m c) (A5 m c)) : (dats m 0 c).arrAt 12 cfg0.N = res12 A := by
  refine (dats m 0 c).arrAt_eq_of_covers 12 _ (by decide +kernel) fun t hf y => ?_
  blk_simp
  rw [after0_12]
  have ho : t.val % 2 = 1 := (flush0_12 t).mp hf
  obtain ⟨p, b, d, rfl⟩ : ∃ (p : Fin 3) (b : Fin 2) (d : Fin 128), y = ix3 p b d := ⟨y 0, y 1, y 2, eq_ix3 y⟩
  refine Eq.trans (val12 m c h t ho p b d) ?_
  refine congrArg (res12 A) ?_
  have o := off_eq t.val
  blk_ext [win12, sq, cl, col]

/-- Result 6 of 6. -/
abbrev res13 (A : Args) (i : S2x1x2816.Idx) : EReal := (A.dcb (i 0) (i 2) : EReal)

theorem val13 (h : Holds A (A0 m c) (A1 m c) (A2 m c) (A3 m c) (A4 m c) (A5 m c)) (t : Fin cfg0.N) (h1 : t.val % 2 = 1) (p : Fin 2) (b : Fin 1) (d : Fin 128) : (outsAt0 m c t.val t.isLt).2.2.2.2.2 (ix3 p b d) = res13 A (ix3 p b (at_ t.val d)) :=
  (sum13 m c h t h1 (ix3 p b d)).trans (two_coe _ _ _ (by unfold Args.dcb; rw [Fin.sum_univ_two]; rfl))

theorem final13 (h : Holds A (A0 m c) (A1 m c) (A2 m c) (A3 m c) (A4 m c) (A5 m c)) : (dats m 0 c).arrAt 13 cfg0.N = res13 A := by
  refine (dats m 0 c).arrAt_eq_of_covers 13 _ (by decide +kernel) fun t hf y => ?_
  blk_simp
  rw [after0_13]
  have ho : t.val % 2 = 1 := (flush0_13 t).mp hf
  obtain ⟨p, b, d, rfl⟩ : ∃ (p : Fin 2) (b : Fin 1) (d : Fin 128), y = ix3 p b d := ⟨y 0, y 1, y 2, eq_ix3 y⟩
  refine Eq.trans (val13 m c h t ho p b d) ?_
  refine congrArg (res13 A) ?_
  have o := off_eq t.val
  blk_ext [win13, sq, cl, col]

end Cert.FfnValue

end
-- ==== Proof.FfnEqual.lean ====
/- The feed-forward gate's gradient: on finite arguments the kernel's six results are the reference's. -/
module

public import proofs.«01_k».proof.Defs
public import proofs.«01_k».proof.Proof.FfnValue
public import proofs.«01_k».proof.Proof.Finite
public import proofs.«01_k».proof.Proof.Gen.Pre_finite_ffn
public import Idealize.ShloMosaic.Lib.Quiescent

@[expose] public section

set_option maxRecDepth 16384

noncomputable section

namespace Cert.FfnEqual

open Idealize.ShloMosaic Idealize.ShloMosaic.TcCoe Idealize.SL.Sem
open Cert.FfnRef (Args Holds row col)
open Cert.FfnRefIdeal Cert.FfnRefIdeal.Read
open Cert.FfnValue (res8 res9 res10 res11 res12 res13)

section
variable {x0 x1 : Vec Ideal S4096x1024 .f32} {x2 : Vec Ideal S1024x5632 .f32} {x3 : Vec Ideal S2816x1024 .f32} {x4 : Vec Ideal S3x5632 .f32} {x5 : Vec Ideal S1x5632 .f32}

/-- Finite arguments hold reals. -/
theorem holds (hp : Cert.Pre_finite_ffn.fn (F := Ideal) x0 x1 x2 x3 x4 x5 = fun _ => 1#1) : ∃ A : Args, Holds A x0 x1 x2 x3 x4 x5 := by
  have e := congrFun hp (fun i => i.elim0)
  unfold Cert.Pre_finite_ffn.fn Cert.Pre_finite_ffn.fn_part1 at e
  obtain ⟨e, h5⟩ := Finite.and_one e
  obtain ⟨e, h4⟩ := Finite.and_one e
  obtain ⟨e, h3⟩ := Finite.and_one e
  obtain ⟨e, h2⟩ := Finite.and_one e
  obtain ⟨h0, h1⟩ := Finite.and_one e
  obtain ⟨x, hx⟩ := Finite.choose2 (Finite.all_real x0 _ _ _ _ _ h0)
  obtain ⟨z, hz⟩ := Finite.choose2 (Finite.all_real x1 _ _ _ _ _ h1)
  obtain ⟨u, hu⟩ := Finite.choose2 (Finite.all_real x2 _ _ _ _ _ h2)
  obtain ⟨d, hd⟩ := Finite.choose2 (Finite.all_real x3 _ _ _ _ _ h3)
  obtain ⟨w, hw⟩ := Finite.choose2 (Finite.all_real x4 _ _ _ _ _ h4)
  obtain ⟨b, hb⟩ := Finite.choose2 (Finite.all_real x5 _ _ _ _ _ h5)
  exact ⟨⟨x, z, u, d, w, b 0⟩, hx, hz, hu, hd, hw, hb 0⟩

variable {A : Args} (h : Holds A x0 x1 x2 x3 x4 x5)
include h

theorem ref95 : val_main_v95 (F := Ideal) x0 x1 x2 x3 x4 x5 = res8 A := by
  funext i
  obtain ⟨s, t, q, rfl⟩ : ∃ (s : Fin 2) (t : Fin 2048) (q : Fin 2816), i = ix3 s t q := ⟨i 0, i 1, i 2, eq_ix3 i⟩
  pointwise [val_main_v95]
  refine Eq.trans (congrArg _ (congrArg (ix3 s t) (Fin.ext (show q.val = 0 * 2816 + q.val by omega)))) (FfnRef.v93 h s t 0 q)

theorem ref96 : val_main_v96 (F := Ideal) x0 x1 x2 x3 x4 x5 = res9 A := by
  funext i
  obtain ⟨s, t, q, rfl⟩ : ∃ (s : Fin 2) (t : Fin 2048) (q : Fin 2816), i = ix3 s t q := ⟨i 0, i 1, i 2, eq_ix3 i⟩
  pointwise [val_main_v96]
  refine Eq.trans (congrArg _ (congrArg (ix3 s t) (Fin.ext (show 2816 + q.val = 1 * 2816 + q.val by omega)))) (FfnRef.v93 h s t 1 q)

theorem ref98 : val_main_v98 (F := Ideal) x0 x1 x2 x3 x4 x5 = res10 A := by
  funext i
  obtain ⟨g, q, k, rfl⟩ : ∃ (g : Fin 2) (q : Fin 2816) (k : Fin 1024), i = ix3 g q k := ⟨i 0, i 1, i 2, eq_ix3 i⟩
  pointwise [val_main_v98]
  exact FfnRef.v97 h g q k

theorem ref41 : val_main_v41 (F := Ideal) x0 x1 x2 x4 x5 = res11 A := by
  funext i
  obtain ⟨q, k, rfl⟩ : ∃ (q : Fin 2816) (k : Fin 1024), i = ix2 q k := ⟨i 0, i 1, eq_ix2 i⟩
  exact FfnRef.v41 h q k

theorem ref99 : val_main_v99 (F := Ideal) x0 x1 x2 x3 x4 x5 = res12 A := by
  funext i
  obtain ⟨k, g, q, rfl⟩ : ∃ (k : Fin 3) (g : Fin 2) (q : Fin 2816), i = ix3 k g q := ⟨i 0, i 1, i 2, eq_ix3 i⟩
  pointwise [val_main_v99]
  exact FfnRef.v88 h g q k

theorem ref100 : val_main_v100 (F := Ideal) x0 x1 x2 x3 x4 x5 = res13 A := by
  funext i
  obtain ⟨g, z, q, rfl⟩ : ∃ (g : Fin 2) (z : Fin 1) (q : Fin 2816), i = ix3 g z q := ⟨i 0, i 1, i 2, eq_ix3 i⟩
  obtain rfl : z = 0 := Subsingleton.elim _ _
  pointwise [val_main_v100, val_main_v89]
  exact FfnRef.v85 h g q

end

theorem quiescent_ref : quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

theorem algebraic : algebraic_FfnIdeal_FfnRefIdeal_pre_finite_ffn := by
  intro m ρ m' ρ' hpre hagree
  refine ⟨_, _, _, _, _, _, Cert.FfnIdeal.Value.run_blocks (F := Ideal) m ρ, ?_⟩
  refine (θ_run Cert.FfnRefIdeal.defs _ _).mono (fun _ h c => ?_) (Cert.FfnRefIdeal.Value.run (F := Ideal) m' ρ')
  obtain ⟨A, hA⟩ := holds (hpre c)
  obtain ⟨e0, e1, e2, e3, e4, e5⟩ := hagree c
  obtain ⟨r0, r1, r2, r3, r4, r5, hk⟩ := h c
  refine ⟨?_, ?_, ?_, ?_, ?_, ?_, hk⟩
  · refine r0.trans ((val_main_v95_eq _ _).trans ?_)
    rw [e0, e1, e2, e3, e4, e5]
    exact (ref95 hA).trans (FfnValue.final8 m c hA).symm
  · refine r1.trans ((val_main_v96_eq _ _).trans ?_)
    rw [e0, e1, e2, e3, e4, e5]
    exact (ref96 hA).trans (FfnValue.final9 m c hA).symm
  · refine r2.trans ((val_main_v98_eq _ _).trans ?_)
    rw [e0, e1, e2, e3, e4, e5]
    exact (ref98 hA).trans (FfnValue.final10 m c hA).symm
  · refine r3.trans ((val_main_v41_eq _ _).trans ?_)
    rw [e0, e1, e2, e4, e5]
    exact (ref41 hA).trans (FfnValue.final11 m c hA).symm
  · refine r4.trans ((val_main_v99_eq _ _).trans ?_)
    rw [e0, e1, e2, e3, e4, e5]
    exact (ref99 hA).trans (FfnValue.final12 m c hA).symm
  · refine r5.trans ((val_main_v100_eq _ _).trans ?_)
    rw [e0, e1, e2, e3, e4, e5]
    exact (ref100 hA).trans (FfnValue.final13 m c hA).symm

end Cert.FfnEqual

end
-- ==== Proof.RelRef.lean ====
/- The gradient of the relative position table, read at an entry: the sum of the bias gradients that the entry was read for. -/
module

public import proofs.«01_k».proof.Proof.Consts
public import proofs.«01_k».proof.Proof.SumBlocks
public import proofs.«01_k».proof.Proof.Gen.RelGradRefIdeal.Run
public import proofs.«01_k».proof.Proof.Gen.RelGradRefIdeal.Read
public import Idealize.ShloMosaic.Lib.Pointwise
public import Idealize.ShloMosaic.Lib.Routing.OpsPair

@[expose] public section

set_option maxRecDepth 16384

noncomputable section

namespace Cert.RelRef

open Idealize.ShloMosaic Idealize.ShloMosaic.TcCoe Idealize.SL.Sem
open Cert.RelGradRefIdeal Cert.RelGradRefIdeal.Read Cert.Consts

variable (x0 : Vec Ideal S3x12x128x256 .f32) (x1 : Vec Ideal S3x128x256 .i32)

theorem v9 (t : Fin 3) (r : Fin 128) (c : Fin 256) (h : Fin 12) : val_main_v9 (F := Ideal) x0 (ix4 t r c h) = x0 (ix4 t h r c) := by
  pointwise [val_main_v9]

theorem v6 (t : Fin 3) (r : Fin 128) (c : Fin 256) (hb : (x1 (ix3 t r c)).slt 0#32 = false) :
    val_main_v6 (F := Ideal) x1 (ix4 t r c 0) = x1 (ix3 t r c) := by
  have e : val_main_v2 (F := Ideal) x1 (ix3 t r c) = 0#1 := by
    pointwise [val_main_v2, val_main_v1, val_main_c]
    show BitVec.ofBool _ = _
    rw [hb]
    rfl
  pointwise [val_main_v6, val_main_v5]
  rw [e]
  rfl

/-- An update lands at entry `(b, h)` when its bucket is `b` and its head is `h`. -/
theorem lands (j : S3x128x256x12.Idx) (idx : IVec S3x128x256x1 32) (b : Fin 32) (h : Fin 12) :
    scatter_S32x12_S3x128x256x1_S3x128x256x12_3_0_0_3.resultIdx? j idx = some (ix2 b h)
      ↔ (idx (ix4 (j 0) (j 1) (j 2) 0)).toInt = (b.val : Int) ∧ j 3 = h := by
  rw [Routing.resultIdx?_eq_some]
  have s0 : scatter_S32x12_S3x128x256x1_S3x128x256x12_3_0_0_3.start j idx (0 : Fin 2) = (idx (ix4 (j 0) (j 1) (j 2) 0)).toInt := by
    refine (dif_pos (by decide)).trans (congrArg (fun i => (idx i).toInt) (funext fun a => ?_))
    match a with
    | ⟨0, _⟩ => rfl
    | ⟨1, _⟩ => rfl
    | ⟨2, _⟩ => rfl
    | ⟨3, _⟩ => rfl
  have s1 : scatter_S32x12_S3x128x256x1_S3x128x256x12_3_0_0_3.start j idx (1 : Fin 2) = 0 := dif_neg (by decide)
  have w0 : scatter_S32x12_S3x128x256x1_S3x128x256x12_3_0_0_3.window j (0 : Fin 2) = 0 := dif_neg (by decide)
  have w1 : scatter_S32x12_S3x128x256x1_S3x128x256x12_3_0_0_3.window j (1 : Fin 2) = (j 3).val := dif_pos (by decide)
  constructor
  · intro H
    have H0 := H (0 : Fin 2)
    have H1 := H (1 : Fin 2)
    rw [s0, w0] at H0
    rw [s1, w1] at H1
    change _ = (b.val : Int) at H0
    change _ = (h.val : Int) at H1
    exact ⟨by omega, Fin.ext (by omega)⟩
  · rintro ⟨H0, H1⟩ a
    match a with
    | ⟨0, _⟩ => exact (congrArg₂ (fun (x : Int) (y : Nat) => x + (y : Int)) s0 w0).trans (by rw [H0]; exact Int.add_zero _)
    | ⟨1, _⟩ => exact (congrArg₂ (fun (x : Int) (y : Nat) => x + (y : Int)) s1 w1).trans (by rw [H1]; exact Int.zero_add _)

/-- The four coordinates of an update. -/
def quad : S3x128x256x12.Idx ≃ Fin 3 × Fin 128 × Fin 256 × Fin 12 where
  toFun j := (j 0, j 1, j 2, j 3)
  invFun p := ix4 p.1 p.2.1 p.2.2.1 p.2.2.2
  left_inv j := (eq_ix4 j).symm
  right_inv _ := rfl

theorem of_nat : ∀ b : Fin 32, (BitVec.ofNat 32 b.val).toInt = (b.val : Int) := by decide

/-- The reference's gradient at head `h` and bucket `b`. -/
theorem v12 (hb : ∀ i, (x1 i).slt 0#32 = false) (h : Fin 12) (b : Fin 32) :
    val_main_v12 (F := Ideal) x0 x1 (ix2 h b)
      = ∑ t : Fin 3, ∑ r : Fin 128, ∑ c : Fin 256, if x1 (ix3 t r c) = BitVec.ofNat 32 b.val then x0 (ix4 t h r c) else 0 := by
  pointwise [val_main_v12, val_main_v11]
  refine (show _ = val_main_v10 (F := Ideal) (ix2 b h) + ∑ j ∈ Finset.univ.filter (fun j =>
    scatter_S32x12_S3x128x256x1_S3x128x256x12_3_0_0_3.resultIdx? j (val_main_v6 (F := Ideal) x1) = some (ix2 b h)), val_main_v9 (F := Ideal) x0 j from rfl).trans ?_
  have z : val_main_v10 (F := Ideal) (ix2 b h) = 0 := by
    pointwise [val_main_v10, val_main_cst_1]
  rw [z, zero_add, Finset.sum_filter, ← quad.symm.sum_comp, Fintype.sum_prod_type]
  refine Finset.sum_congr rfl fun t _ => ?_
  rw [Fintype.sum_prod_type]
  refine Finset.sum_congr rfl fun r _ => ?_
  rw [Fintype.sum_prod_type]
  refine Finset.sum_congr rfl fun c _ => ?_
  have e : ∀ g : Fin 12, scatter_S32x12_S3x128x256x1_S3x128x256x12_3_0_0_3.resultIdx? (quad.symm (t, r, c, g)) (val_main_v6 (F := Ideal) x1) = some (ix2 b h)
      ↔ x1 (ix3 t r c) = BitVec.ofNat 32 b.val ∧ g = h := fun g => by
    refine (lands _ _ b h).trans (and_congr ?_ Iff.rfl)
    show (val_main_v6 (F := Ideal) x1 (ix4 t r c 0)).toInt = _ ↔ _
    rw [v6 x1 t r c (hb _), ← of_nat b]
    exact ⟨BitVec.eq_of_toInt_eq, fun h => congrArg _ h⟩
  rw [Finset.sum_eq_single h]
  · by_cases q : x1 (ix3 t r c) = BitVec.ofNat 32 b.val
    · rw [if_pos ((e h).2 ⟨q, rfl⟩), if_pos q]
      exact v9 x0 t r c h
    · rw [if_neg fun k => q ((e h).1 k).1, if_neg q]
  · intro g _ hg
    exact if_neg fun k => hg ((e g).1 k).2
  · exact fun k => absurd (Finset.mem_univ _) k

end Cert.RelRef

end
-- ==== Proof.RelValue.lean ====
/- The gradient of the relative position table: the three grid points add their one-hot products into the output block. -/
module

public import proofs.«01_k».proof.Proof.Consts
public import proofs.«01_k».proof.Proof.SumBlocks
public import proofs.«01_k».proof.Proof.Gen.RelGradIdeal.Value
public import Idealize.ShloMosaic.Lib.Pointwise
public import Idealize.ShloMosaic.Lib.StableHlo.ReadAt

@[expose] public section

set_option maxRecDepth 16384

noncomputable section

namespace Cert.RelGradIdeal.Cases

open Idealize.ShloMosaic Idealize.ShloMosaic.TcCoe Idealize.SL.Sem
open Cert.RelGradIdeal Cert.RelGradIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords)
  (a1 : Memref sig .tc .vmem S1x12x32768 .f32) (h1 : a1.IsWhole) (a2 : Memref sig .tc .vmem S1x1x32768 .i32) (h2 : a2.IsWhole)
  (a3 : Memref sig .tc .vmem S12x32 .f32) (h3 : a3.IsWhole)
  (x0 : Vec Ideal S1x12x32768 .f32) (x1 : Vec Ideal S1x1x32768 .i32) (xs : Vec Ideal S12x32 .f32)

/-- The first point leaves its own product in the output block. -/
theorem out_A (hc0 : cond0_0 i) (hc1 : ¬cond0_1 i) : out0_A_2 c i a1 h1 a2 h2 a3 h3 hc0 hc1 x0 x1 = k0_pay1 x1 x0 := by
  unfold out0_A_2
  rw [View.read_writes_eq_canon _ _ _ (fun _ => cover0_A_2 ..)]
  unfold kernelRun0_A
  dsimp only
  rw [View.canon_unit_zero hz2]
  simp only [View.readAt_eq_ld, h1.read_unread, h2.read_unread, View.ld_unit_zero (S := S1x12x32768) hz3,
    View.ld_unit_zero (S := S1x1x32768) hz3, shapeCast_self]

/-- A later point adds its product to the output block. -/
theorem out_B (hc0 : ¬cond0_0 i) (hc1 : cond0_1 i) :
    out0_B_2 c i a1 h1 a2 h2 a3 h3 hc0 hc1 x0 x1 xs = addf xs (k0_pay1 x1 x0) := by
  unfold out0_B_2
  rw [View.read_writes_eq_canon _ _ _ (fun _ => cover0_B_2 ..)]
  unfold kernelRun0_B
  dsimp only
  rw [View.canon_unit_zero hz2]
  unfold k0_pay2
  simp only [View.readAt_eq_ld, h1.read_unread, h2.read_unread, h3.read_unread, View.ld_unit_zero (S := S1x12x32768) hz3,
    View.ld_unit_zero (S := S1x1x32768) hz3, View.ld_unit_zero (S := S12x32) hz2, shapeCast_self]
end

/-- A value times the one-hot entry of two bucket numbers. -/
theorem hot (x y : BitVec 32) (u : EReal) : u * FloatOps.sitofp (F := Ideal) FTy.f32 (BitVec.setWidth 32 (IntOp.cmpi .eq x y)) = if y = x then u else 0 := by
  show u * (((BitVec.setWidth 32 (BitVec.ofBool (x == y))).toInt : ℝ) : EReal) = _
  by_cases h : y = x
  · subst h
    rw [if_pos rfl, beq_self_eq_true]
    show u * (((1 : Int) : ℝ) : EReal) = u
    norm_num
  · rw [if_neg h, beq_eq_false_iff_ne.2 (fun e => h e.symm)]
    show u * (((0 : Int) : ℝ) : EReal) = 0
    norm_num

/-- One point's product at an index, where the gradient's block is real: the three parts of a value add up to it. -/
theorem pay1_apply (x0 : Vec Ideal S1x12x32768 .f32) (x1 : Vec Ideal S1x1x32768 .i32) (d : Fin 12 → Fin 32768 → ℝ)
    (hd : ∀ h n, x0 (ix3 0 h n) = (d h n : EReal)) (h : Fin 12) (b : Fin 32) :
    k0_pay1 (F := Ideal) x1 x0 (ix2 h b) = ∑ n : Fin 32768, if x1 (ix3 0 0 n) = BitVec.ofNat 32 b.val then x0 (ix3 0 h n) else 0 := by
  pointwise [k0_pay1]
  have z : ∀ n, x0 (ix3 0 h n) - x0 (ix3 0 h n) = 0 := fun n => by
    rw [hd]
    exact (EReal.coe_sub _ _).symm.trans (by rw [sub_self]; rfl)
  simp only [hot, z, sub_zero, ite_self, Finset.sum_const_zero, add_zero]

variable (m : (ℓ : Loc nD τ sig) → Buf (Elt Ideal) ℓ) (c : Dev nD)

/-- The gradient of the bias and the bucket numbers, as launched. -/
abbrev A0 : Vec Ideal S3x12x128x256 .f32 := m ((c : Thread nD τ).loc main_arg0)
abbrev A1 : Vec Ideal S3x128x256 .i32 := m ((c : Thread nD τ).loc main_arg1)

/-- The branch of a grid point, and the row and column of a place of the flattened block. -/
abbrev br (t : Fin cfg0.N) : Fin 3 := ⟨t.val, lt_of_lt_of_eq t.isLt N_0⟩
abbrev rw' (n : Fin 32768) : Fin 128 := ⟨n.val / 256, by omega⟩
abbrev cl (n : Fin 32768) : Fin 256 := ⟨n.val % 256, by omega⟩

theorem win0 : ∀ t : Fin cfg0.N, win0_0.index t 0 = t.val ∧ win0_0.index t 1 = 0 ∧ win0_0.index t 2 = 0 := (by decide +kernel : ∀ t : Fin grid0.N, _)
theorem win1 : ∀ t : Fin cfg0.N, win0_1.index t 0 = t.val ∧ win0_1.index t 1 = 0 ∧ win0_1.index t 2 = 0 := (by decide +kernel : ∀ t : Fin grid0.N, _)
theorem win2 : ∀ t : Fin cfg0.N, win0_2.index t 0 = 0 ∧ win0_2.index t 1 = 0 := (by decide +kernel : ∀ t : Fin grid0.N, _)

theorem V0_at (t : Fin 3) (h : Fin 12) (n : Fin 32768) : (V m c main_v0 (ix3 t h n) : EReal) = A0 m c (ix4 t h (rw' n) (cl n)) := by
  unfold V
  after_reads_at

theorem V1_at (t : Fin 3) (n : Fin 32768) : (V m c main_v1 (ix3 t 0 n) : BitVec 32) = A1 m c (ix3 t (rw' n) (cl n)) := by
  unfold V
  after_reads_at

theorem iblk0 (t : Fin cfg0.N) (h : Fin 12) (n : Fin 32768) : iblk m c 0 t (ix3 0 h n) = V m c main_v0 (ix3 (br t) h n) := by
  unfold iblk
  rw [View.read_apply, cast_eq]
  refine congrArg (V m c main_v0) (funext fun a => Fin.ext ?_)
  match a with
  | ⟨0, _⟩ => show win0_0.index t 0 * 1 + 1 * 0 = t.val; rw [(win0 t).1]; omega
  | ⟨1, _⟩ => show win0_0.index t 1 * 12 + 1 * h.val = h.val; rw [(win0 t).2.1]; omega
  | ⟨2, _⟩ => show win0_0.index t 2 * 32768 + 1 * n.val = n.val; rw [(win0 t).2.2]; omega

theorem iblk1 (t : Fin cfg0.N) (n : Fin 32768) : iblk m c 1 t (ix3 0 0 n) = V m c main_v1 (ix3 (br t) 0 n) := by
  unfold iblk
  rw [View.read_apply, cast_eq]
  refine congrArg (V m c main_v1) (funext fun a => Fin.ext ?_)
  match a with
  | ⟨0, _⟩ => show win0_1.index t 0 * 1 + 1 * 0 = t.val; rw [(win1 t).1]; omega
  | ⟨1, _⟩ => show win0_1.index t 1 * 1 + 1 * 0 = 0; rw [(win1 t).2.1]
  | ⟨2, _⟩ => show win0_1.index t 2 * 32768 + 1 * n.val = n.val; rw [(win1 t).2.2]; omega

/-- The product of one branch. -/
abbrev part (t : Fin cfg0.N) : Vec Ideal S12x32 .f32 := k0_pay1 (iblk m c 1 t) (iblk m c 0 t)

/-- The sum of one branch's gradients that entry `(h, b)` was read for. -/
def term (h : Fin 12) (b : Fin 32) (t : Fin 3) : EReal :=
  ∑ r : Fin 128, ∑ q : Fin 256, if A1 m c (ix3 t r q) = BitVec.ofNat 32 b.val then A0 m c (ix4 t h r q) else 0

/-- Entry `(h, b)` of the gradient: the sum over the three branches. -/
def total (h : Fin 12) (b : Fin 32) : EReal := ∑ t : Fin 3, term m c h b t

variable (hA : ∀ i, ∃ r : ℝ, A0 m c i = (r : EReal))
include hA

theorem part_apply (t : Fin cfg0.N) (h : Fin 12) (b : Fin 32) : part m c t (ix2 h b) = term m c h b (br t) := by
  choose d hd using hA
  unfold part
  rw [pay1_apply _ _ (fun h n => d (ix4 (br t) h (rw' n) (cl n))) (fun h n => by rw [iblk0]; exact (V0_at m c _ h n).trans (hd _)),
    Sums.sum_blocks 128 256 rfl]
  refine Finset.sum_congr rfl fun r _ => Finset.sum_congr rfl fun q _ => ?_
  rw [iblk0, iblk1]
  have er : rw' (Sums.at' 128 256 rfl r q) = r := Fin.ext (by show (256 * r.val + q.val) / 256 = r.val; omega)
  have eq : cl (Sums.at' 128 256 rfl r q) = q := Fin.ext (by show (256 * r.val + q.val) % 256 = q.val; omega)
  have e0 := V0_at m c (br t) h (Sums.at' 128 256 rfl r q)
  have e1 := V1_at m c (br t) (Sums.at' 128 256 rfl r q)
  rw [er, eq] at e0 e1
  simp only [e0, e1]

/-- A grid point by its number. -/
abbrev pt (n : ℕ) (h : n < 3) : Fin cfg0.N := ⟨n, lt_of_lt_of_eq h N_0.symm⟩

omit hA in
theorem out_first (t : Fin cfg0.N) (h0 : t.val % 3 = 0) (h1 : ¬1 ≤ t.val) : outsAt0 m c t.val t.isLt = part m c t := by
  rw [outsAt0_A m c t h0 h1, out_A]

omit hA in
theorem out_next (t : Fin cfg0.N) (h0 : ¬t.val % 3 = 0) (h1 : 1 ≤ t.val) :
    outsAt0 m c t.val t.isLt = addf (F := Ideal) (φ := .f32) (outsAt0 m c (t.val - 1) (Nat.lt_of_le_of_lt (Nat.sub_le _ _) t.isLt)) (part m c t) := by
  rw [outsAt0_B m c t h0 h1, out_B]

/-- The output block after the last point. -/
theorem last_apply (h : Fin 12) (b : Fin 32) :
    (outsAt0 m c 2 (lt_of_lt_of_eq (by decide) N_0.symm) : Vec Ideal S12x32 .f32) (ix2 h b) = total m c h b := by
  unfold total
  have e1 := out_next m c (pt 1 (by omega)) (by decide) (by decide)
  have e2 := out_next m c (pt 2 (by omega)) (by decide) (by decide)
  have e0 := out_first m c (pt 0 (by omega)) rfl (by decide)
  simp only [Nat.reduceSub] at e1 e2
  rw [e2, e1, e0]
  show part m c _ (ix2 h b) + part m c _ (ix2 h b) + part m c _ (ix2 h b) = _
  rw [part_apply m c hA, part_apply m c hA, part_apply m c hA, Fin.sum_univ_three]
  rfl

omit hA in
theorem mem2 (t : Fin cfg0.N) (i : S12x32.Idx) : i ∈ ((cfg0.win 2).blk t).view.set
    ↔ ∀ a : Fin 2, win0_2.index t a * S12x32.size a ≤ (i a).val ∧ (i a).val < win0_2.index t a * S12x32.size a + S12x32.size a := by
  show i ∈ ((View.whole main_v2).slice (win0_2.rect t)).set ↔ _
  rw [View.set_slice_whole, Rect.mem_set_unit]
  exact Iff.rfl

/-- The kernel's result. -/
theorem final2 : (dats m 0 c).arrAt 2 cfg0.N = (fun i => total m c (i 0) (i 1) : S12x32.Idx → EReal) := by
  refine (dats m 0 c).arrAt_eq_of_cover 2 _ (fun t hf => funext fun y => ?_) (fun i => ?_)
  · obtain ⟨n, hn⟩ := t
    obtain rfl : n = 2 := by
      have := lt_of_lt_of_eq hn N_0
      have : n % 3 = 2 := (flush0_2 _).mp hf
      omega
    rw [Value.flushed2, View.read_apply]
    obtain ⟨p, q, rfl⟩ : ∃ (p : Fin 12) (q : Fin 32), y = ix2 p q := ⟨y 0, y 1, eq_ix2 y⟩
    refine Eq.trans (last_apply m c hA p q) ?_
    show total m c p q = total m c ⟨_, _⟩ ⟨_, _⟩
    congr 1
    · refine Fin.ext ?_
      show p.val = win0_2.index _ 0 * 12 + 1 * p.val
      rw [(win2 _).1]; omega
    · refine Fin.ext ?_
      show q.val = win0_2.index _ 1 * 32 + 1 * q.val
      rw [(win2 _).2]; omega
  · have h0 : (i 0).val < 12 := (i 0).isLt
    have h1 : (i 1).val < 32 := (i 1).isLt
    refine ⟨⟨2, lt_of_lt_of_eq (by decide) N_0.symm⟩, (flush0_2 _).mpr rfl, ?_⟩
    rw [mem2]
    intro a
    match a with
    | ⟨0, _⟩ =>
      show win0_2.index _ 0 * 12 ≤ (i 0).val ∧ (i 0).val < win0_2.index _ 0 * 12 + 12
      rw [(win2 _).1]; omega
    | ⟨1, _⟩ =>
      show win0_2.index _ 1 * 32 ≤ (i 1).val ∧ (i 1).val < win0_2.index _ 1 * 32 + 32
      rw [(win2 _).2]; omega

end Cert.RelGradIdeal.Cases

end
-- ==== Proof.RelGradEqual.lean ====
/- The gradient of the relative position table: on finite gradients and bucket numbers from zero on, the kernel's result is the reference's. -/
module

public import proofs.«01_k».proof.Defs
public import proofs.«01_k».proof.Proof.RelRef
public import proofs.«01_k».proof.Proof.RelValue
public import proofs.«01_k».proof.Proof.Finite
public import proofs.«01_k».proof.Proof.Gen.Pre_finite_rel
public import Idealize.ShloMosaic.Lib.Quiescent

@[expose] public section

set_option maxRecDepth 16384

noncomputable section

namespace Cert.RelGradEqual

open Idealize.ShloMosaic Idealize.ShloMosaic.TcCoe Idealize.SL.Sem
open Cert.RelGradRefIdeal Cert.RelGradRefIdeal.Read

/-- What the precondition says: the gradient holds reals, and no bucket number is negative. -/
theorem holds {x0 : Vec Ideal S3x12x128x256 .f32} {x1 : Vec Ideal S3x128x256 .i32} (hp : Cert.Pre_finite_rel.fn (F := Ideal) x0 x1 = fun _ => 1#1) :
    (∀ i, ∃ r : ℝ, x0 i = (r : EReal)) ∧ ∀ i, (x1 i).slt 0#32 = false := by
  have e := congrFun hp (fun i => i.elim0)
  unfold Cert.Pre_finite_rel.fn at e
  obtain ⟨h0, h1⟩ := Finite.and_one e
  refine ⟨Finite.all_real x0 _ _ _ _ _ h0, fun i => ?_⟩
  have k : BitVec.ofBool ((0#32).sle (x1 i)) = 1#1 := Host.reduce_andi_all _ _ _ _ _ h1 i
  have k' : (0#32).sle (x1 i) = true := by
    cases q : (0#32).sle (x1 i)
    · rw [q] at k; exact absurd k (by decide)
    · rfl
  rw [BitVec.sle_iff_toInt_le] at k'
  cases q : (x1 i).slt 0#32
  · rfl
  · rw [BitVec.slt_iff_toInt_lt] at q
    omega

theorem quiescent_ref : quiescent_RelGradRefIdeal := fun m ρ _ =>
  (θ_run Cert.RelGradRefIdeal.defs _ _).mono (fun r h => ⟨fun c => (h c).2, sem_eq_zero_of_no_sems (by decide) r.2⟩)
    (Cert.RelGradRefIdeal.Value.run (F := Ideal) m ρ)

theorem algebraic : algebraic_RelGradIdeal_RelGradRefIdeal_pre_finite_rel := by
  intro m ρ m' ρ' hpre hagree
  refine ⟨_, Cert.RelGradIdeal.Value.run_blocks (F := Ideal) m ρ, ?_⟩
  refine (θ_run Cert.RelGradRefIdeal.defs _ _).mono (fun _ h c => ?_) (Cert.RelGradRefIdeal.Value.run (F := Ideal) m' ρ')
  obtain ⟨hA, hB⟩ := holds (hpre c)
  obtain ⟨e0, e1⟩ := hagree c
  obtain ⟨r0, hk⟩ := h c
  refine ⟨?_, hk⟩
  refine r0.trans ((val_main_v12_eq _ _).trans ?_)
  rw [e0, e1]
  refine Eq.trans (funext fun i => ?_) (RelGradIdeal.Cases.final2 m c hA).symm
  obtain ⟨p, q, rfl⟩ : ∃ (p : Fin 12) (q : Fin 32), i = ix2 p q := ⟨i 0, i 1, eq_ix2 i⟩
  exact RelRef.v12 _ _ hB p q

end Cert.RelGradEqual

end
-- ==== Proof.OneHot.lean ====
/- One-hot products: a value times the entry of a one-hot row, and a bucket number as one of 32. -/
module

public import proofs.«01_k».proof.Proof.Consts
public import Idealize.ShloMosaic.Lib.Pointwise

@[expose] public section

set_option maxRecDepth 16384

noncomputable section

namespace Cert.OneHot

open Idealize.ShloMosaic Idealize.ShloMosaic.TcCoe Idealize.SL.Sem

/-- A value times the one-hot entry of two bucket numbers. -/
theorem hot (x y : BitVec 32) (u : EReal) : u * FloatOps.sitofp (F := Ideal) FTy.f32 (BitVec.setWidth 32 (IntOp.cmpi .eq x y)) = if y = x then u else 0 := by
  show u * (((BitVec.setWidth 32 (BitVec.ofBool (x == y))).toInt : ℝ) : EReal) = _
  by_cases h : y = x
  · subst h
    rw [if_pos rfl, beq_self_eq_true]
    show u * (((1 : Int) : ℝ) : EReal) = u
    norm_num
  · rw [if_neg h, beq_eq_false_iff_ne.2 (fun e => h e.symm)]
    show u * (((0 : Int) : ℝ) : EReal) = 0
    norm_num

/-- The bucket that a word names. -/
def bk (x : BitVec 32) : Fin 32 := ⟨x.toNat % 32, Nat.mod_lt _ (by decide)⟩

/-- A word is a bucket number when it is from 0 on and below 32. -/
abbrev IsBucket (x : BitVec 32) : Prop := 0 ≤ x.toInt ∧ x.toInt < 32

theorem toInt_bk {x : BitVec 32} (h : IsBucket x) : x.toInt = ((bk x).val : Int) := by
  have e := BitVec.toInt_eq_toNat_cond x
  have l := x.isLt
  obtain ⟨h0, h1⟩ := h
  show x.toInt = ((x.toNat % 32 : ℕ) : Int)
  split at e <;> omega

theorem of_bk : ∀ b : Fin 32, (BitVec.ofNat 32 b.val).toInt = (b.val : Int) := by decide

theorem eq_iff {x : BitVec 32} (h : IsBucket x) (b : Fin 32) : x = BitVec.ofNat 32 b.val ↔ b = bk x := by
  constructor
  · intro e
    have k := toInt_bk h
    rw [e, of_bk] at k
    rw [e]
    exact Fin.ext (by exact_mod_cast k)
  · rintro rfl
    exact BitVec.eq_of_toInt_eq ((toInt_bk h).trans (of_bk _).symm)

end Cert.OneHot

end
-- ==== Proof.BiasRef.lean ====
/- The attention bias of the reference, read at an index: the table's row of the bucket, and the mask. -/
module

public import proofs.«01_k».proof.Proof.OneHot
public import proofs.«01_k».proof.Proof.Gen.BiasRefIdeal.Run
public import proofs.«01_k».proof.Proof.Gen.BiasRefIdeal.Read
public import Idealize.ShloMosaic.Lib.Pointwise

@[expose] public section

set_option maxRecDepth 16384

noncomputable section

namespace Cert.BiasRef

open Idealize.ShloMosaic Idealize.ShloMosaic.TcCoe Idealize.SL.Sem
open Cert.BiasRefIdeal Cert.BiasRefIdeal.Read Cert.OneHot

variable (x0 : Vec Ideal S32x12 .f32) (x1 : Vec Ideal S3x128x256 .i32) (x2 : Vec Ideal S3x128x256 .f32)
  (hb : ∀ i, IsBucket (x1 i))
include hb

theorem v5 (t : Fin 3) (r : Fin 128) (c : Fin 256) : val_main_v5 (F := Ideal) x1 (ix4 t r c 0) = x1 (ix3 t r c) := by
  have e : val_main_v1 (F := Ideal) x1 (ix3 t r c) = 0#1 := by
    pointwise [val_main_v1, val_main_v0, val_main_c]
    show BitVec.ofBool _ = _
    have k : (x1 (ix3 t r c)).slt 0#32 = false := by
      cases q : (x1 (ix3 t r c)).slt 0#32
      · rfl
      · rw [BitVec.slt_iff_toInt_lt] at q
        exact absurd (hb (ix3 t r c)).1 (not_le.2 q)
    rw [k]
    rfl
  pointwise [val_main_v5, val_main_v4]
  rw [e]
  rfl

theorem v6 (t : Fin 3) (r : Fin 128) (c : Fin 256) (h : Fin 12) :
    val_main_v6 (F := Ideal) x0 x1 (ix4 t r c h) = x0 (ix2 (bk (x1 (ix3 t r c))) h) := by
  unfold val_main_v6 Host.gather
  refine congrArg x0 (funext fun a => Fin.ext ?_)
  let d := gather_S32x12_S3x128x256x1_S3x128x256x12_3_0_n_n_0_3_112
  show d.start (ix4 t r c h) (val_main_v5 (F := Ideal) x1) a + d.batchCoord (ix4 t r c h) a + d.offCoord (ix4 t r c h) a = _
  rw [GatherDims.batchCoord_eq_zero _ _ _ List.not_mem_nil]
  match a with
  | ⟨0, _⟩ =>
    have s : d.start (ix4 t r c h) (val_main_v5 (F := Ideal) x1) (0 : Fin 2) = min (x1 (ix3 t r c)).toInt.toNat 31 := by
      refine (dif_pos (by decide)).trans ?_
      rw [← v5 x1 hb t r c]
      refine congrArg (fun i => min (val_main_v5 (F := Ideal) x1 i).toInt.toNat 31) (funext fun a => ?_)
      match a with
      | ⟨0, _⟩ => rfl
      | ⟨1, _⟩ => rfl
      | ⟨2, _⟩ => rfl
      | ⟨3, _⟩ => rfl
    have o : d.offCoord (ix4 t r c h) (0 : Fin 2) = 0 := dif_neg (by decide)
    refine (congrArg₂ (fun p q => p + 0 + q) s o).trans ?_
    show _ = (bk (x1 (ix3 t r c))).val
    have k := toInt_bk (hb (ix3 t r c))
    have l := (bk (x1 (ix3 t r c))).isLt
    omega
  | ⟨1, _⟩ =>
    have s : d.start (ix4 t r c h) (val_main_v5 (F := Ideal) x1) (1 : Fin 2) = 0 := dif_neg (by decide)
    have o : d.offCoord (ix4 t r c h) (1 : Fin 2) = h.val := dif_pos (by decide)
    exact (congrArg₂ (fun p q => p + 0 + q) s o).trans (by show 0 + 0 + h.val = h.val; omega)

/-- The reference's bias of branch `t`, head `h` and place `n` of the flattened block. -/
theorem v11 (t : Fin 3) (h : Fin 12) (n : Fin 32768) :
    val_main_v11 (F := Ideal) x0 x1 x2 (ix3 t h n)
      = x0 (ix2 (bk (x1 (ix3 t ⟨n.val / 256, by omega⟩ ⟨n.val % 256, by omega⟩))) h) + x2 (ix3 t ⟨n.val / 256, by omega⟩ ⟨n.val % 256, by omega⟩) := by
  have e : idx_main_v11 (ix3 t h n) = ix4 t h ⟨n.val / 256, by omega⟩ ⟨n.val % 256, by omega⟩ := by
    funext a
    match a with
    | ⟨0, _⟩ => refine Fin.ext ?_; show ((t.val * 12 + h.val) * 32768 + n.val) / 393216 = t.val; omega
    | ⟨1, _⟩ => refine Fin.ext ?_; show ((t.val * 12 + h.val) * 32768 + n.val) / 32768 % 12 = h.val; omega
    | ⟨2, _⟩ => refine Fin.ext ?_; show ((t.val * 12 + h.val) * 32768 + n.val) / 256 % 128 = n.val / 256; omega
    | ⟨3, _⟩ => refine Fin.ext ?_; show ((t.val * 12 + h.val) * 32768 + n.val) % 256 = n.val % 256; omega
  rw [val_main_v11_apply, e, val_main_v10_apply]
  refine congrArg₂ (· + ·) ?_ ?_
  · pointwise [val_main_v7]
    exact v6 x0 x1 hb _ _ _ _
  · pointwise [val_main_v9, val_main_v8]

end Cert.BiasRef

end
-- ==== Proof.BiasValue.lean ====
/- The attention bias of the kernel: each grid point writes one branch, the one-hot products of the table plus the mask. -/
module

public import proofs.«01_k».proof.Proof.OneHot
public import proofs.«01_k».proof.Proof.Gen.BiasIdeal.Value
public import Idealize.ShloMosaic.Lib.Pointwise
public import Idealize.ShloMosaic.Lib.StableHlo.ReadAt
public import Idealize.ShloMosaic.Lib.Pipeline.ValueKit.Geometry

@[expose] public section

set_option maxRecDepth 16384

noncomputable section

namespace Cert.BiasIdeal.Cases

open Idealize.ShloMosaic Idealize.ShloMosaic.TcCoe Idealize.SL.Sem
open Cert.BiasIdeal Cert.BiasIdeal.Gen Cert.OneHot

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S12x32 .f32) (x1 : Vec Ideal S1x1x32768 .i32) (x2 : Vec Ideal S1x1x32768 .f32) :
    out0_3 x0 x1 x2 = k0_pay1 x1 x0 x2 := by
  unfold out0_3
  rw [View.canon_unit_zero hz3]
  simp only [View.ld_unit_zero (S := S1x1x32768) hz3, View.ld_unit_zero (S := S12x32) hz2]

/-- One point's block at an index, where the table is real: the three parts of a value add up to it. -/
theorem pay_apply (x0 : Vec Ideal S12x32 .f32) (x1 : Vec Ideal S1x1x32768 .i32) (x2 : Vec Ideal S1x1x32768 .f32)
    (d : Fin 12 → Fin 32 → ℝ) (hd : ∀ h b, x0 (ix2 h b) = (d h b : EReal)) (h : Fin 12) (n : Fin 32768) (hb : IsBucket (x1 (ix3 0 0 n))) :
    k0_pay1 (F := Ideal) x1 x0 x2 (ix3 0 h n) = x0 (ix2 h (bk (x1 (ix3 0 0 n)))) + x2 (ix3 0 0 n) := by
  pointwise [k0_pay1]
  have z : ∀ b, x0 (ix2 h b) - x0 (ix2 h b) = 0 := fun b => by
    rw [hd]
    exact (EReal.coe_sub _ _).symm.trans (by rw [sub_self]; rfl)
  simp only [hot, z, sub_zero, ite_self, Finset.sum_const_zero, add_zero, eq_iff hb, Finset.sum_ite_eq', Finset.mem_univ, if_true]

variable (m : (ℓ : Loc nD τ sig) → Buf (Elt Ideal) ℓ) (c : Dev nD)

/-- The table, the bucket numbers and the mask, as launched. -/
abbrev A0 : Vec Ideal S32x12 .f32 := m ((c : Thread nD τ).loc main_arg0)
abbrev A1 : Vec Ideal S3x128x256 .i32 := m ((c : Thread nD τ).loc main_arg1)
abbrev A2 : Vec Ideal S3x128x256 .f32 := m ((c : Thread nD τ).loc main_arg2)

/-- The branch of a grid point, and the row and column of a place of the flattened block. -/
abbrev br (t : Fin cfg0.N) : Fin 3 := ⟨t.val, lt_of_lt_of_eq t.isLt N_0⟩
abbrev rw' (n : Fin 32768) : Fin 128 := ⟨n.val / 256, by omega⟩
abbrev cl (n : Fin 32768) : Fin 256 := ⟨n.val % 256, by omega⟩

theorem win0 : ∀ t : Fin cfg0.N, win0_0.index t 0 = 0 ∧ win0_0.index t 1 = 0 := (by decide +kernel : ∀ t : Fin grid0.N, _)
theorem win1 : ∀ t : Fin cfg0.N, win0_1.index t 0 = t.val ∧ win0_1.index t 1 = 0 ∧ win0_1.index t 2 = 0 := (by decide +kernel : ∀ t : Fin grid0.N, _)
theorem win2 : ∀ t : Fin cfg0.N, win0_2.index t 0 = t.val ∧ win0_2.index t 1 = 0 ∧ win0_2.index t 2 = 0 := (by decide +kernel : ∀ t : Fin grid0.N, _)
theorem win3 : ∀ t : Fin cfg0.N, win0_3.index t 0 = t.val ∧ win0_3.index t 1 = 0 ∧ win0_3.index t 2 = 0 := (by decide +kernel : ∀ t : Fin grid0.N, _)

theorem V0_at (h : Fin 12) (b : Fin 32) : (V m c main_v0 (ix2 h b) : EReal) = A0 m c (ix2 b h) := by
  unfold V
  after_reads_at

theorem V1_at (t : Fin 3) (n : Fin 32768) : (V m c main_v1 (ix3 t 0 n) : BitVec 32) = A1 m c (ix3 t (rw' n) (cl n)) := by
  unfold V
  after_reads_at

theorem V2_at (t : Fin 3) (n : Fin 32768) : (V m c main_v2 (ix3 t 0 n) : EReal) = A2 m c (ix3 t (rw' n) (cl n)) := by
  unfold V
  after_reads_at

theorem iblk0 (t : Fin cfg0.N) (h : Fin 12) (b : Fin 32) : (iblk m c 0 t (ix2 h b) : EReal) = A0 m c (ix2 b h) := by
  refine Eq.trans ?_ (V0_at m c h b)
  unfold iblk
  rw [View.read_apply, cast_eq]
  refine congrArg (V m c main_v0) (funext fun a => Fin.ext ?_)
  match a with
  | ⟨0, _⟩ => show win0_0.index t 0 * 12 + 1 * h.val = h.val; rw [(win0 t).1]; omega
  | ⟨1, _⟩ => show win0_0.index t 1 * 32 + 1 * b.val = b.val; rw [(win0 t).2]; omega

theorem iblk1 (t : Fin cfg0.N) (n : Fin 32768) : (iblk m c 1 t (ix3 0 0 n) : BitVec 32) = A1 m c (ix3 (br t) (rw' n) (cl n)) := by
  refine Eq.trans ?_ (V1_at m c (br t) n)
  unfold iblk
  rw [View.read_apply, cast_eq]
  refine congrArg (V m c main_v1) (funext fun a => Fin.ext ?_)
  match a with
  | ⟨0, _⟩ => show win0_1.index t 0 * 1 + 1 * 0 = t.val; rw [(win1 t).1]; omega
  | ⟨1, _⟩ => show win0_1.index t 1 * 1 + 1 * 0 = 0; rw [(win1 t).2.1]
  | ⟨2, _⟩ => show win0_1.index t 2 * 32768 + 1 * n.val = n.val; rw [(win1 t).2.2]; omega

theorem iblk2 (t : Fin cfg0.N) (n : Fin 32768) : (iblk m c 2 t (ix3 0 0 n) : EReal) = A2 m c (ix3 (br t) (rw' n) (cl n)) := by
  refine Eq.trans ?_ (V2_at m c (br t) n)
  unfold iblk
  rw [View.read_apply, cast_eq]
  refine congrArg (V m c main_v2) (funext fun a => Fin.ext ?_)
  match a with
  | ⟨0, _⟩ => show win0_2.index t 0 * 1 + 1 * 0 = t.val; rw [(win2 t).1]; omega
  | ⟨1, _⟩ => show win0_2.index t 1 * 1 + 1 * 0 = 0; rw [(win2 t).2.1]
  | ⟨2, _⟩ => show win0_2.index t 2 * 32768 + 1 * n.val = n.val; rw [(win2 t).2.2]; omega

/-- The bias of branch `t`, head `h` and place `n`. -/
def total (t : Fin 3) (h : Fin 12) (n : Fin 32768) : EReal :=
  A0 m c (ix2 (bk (A1 m c (ix3 t (rw' n) (cl n)))) h) + A2 m c (ix3 t (rw' n) (cl n))

variable (hA : ∀ i, ∃ r : ℝ, A0 m c i = (r : EReal)) (hB : ∀ i, IsBucket (A1 m c i))

include hA hB

theorem block_apply (t : Fin cfg0.N) (h : Fin 12) (n : Fin 32768) :
    out0_3 (F := Ideal) (iblk m c 0 t) (iblk m c 1 t) (iblk m c 2 t) (ix3 0 h n) = total m c (br t) h n := by
  choose d hd using hA
  rw [out_eq, pay_apply _ _ _ (fun h b => d (ix2 b h)) (fun h b => (iblk0 m c t h b).trans (hd _)) h n
    ((iblk1 m c t n).symm ▸ hB _)]
  rw [iblk0, iblk2]
  erw [iblk1]
  rfl

/-- The kernel's result. -/
theorem final3 : (dats m 0 c).arrAt 3 cfg0.N = (fun i => total m c (i 0) (i 1) (i 2) : S3x12x32768.Idx → EReal) := by
  refine (dats m 0 c).arrAt_eq_of_cover 3 _ (fun t hf => funext fun y => ?_) ((by decide +kernel : ((cfg0.win 3).Covers)).cover _ (Memref.isWhole_whole _))
  · rw [Value.flushed3, View.read_apply]
    obtain ⟨z, p, q, rfl⟩ : ∃ (z : Fin 1) (p : Fin 12) (q : Fin 32768), y = ix3 z p q := ⟨y 0, y 1, y 2, eq_ix3 y⟩
    obtain rfl : z = 0 := Subsingleton.elim _ _
    refine Eq.trans (block_apply m c hA hB t p q) ?_
    show total m c (br t) p q = total m c ⟨_, _⟩ ⟨_, _⟩ ⟨_, _⟩
    congr 1
    · refine Fin.ext ?_
      show t.val = win0_3.index _ 0 * 1 + 1 * 0
      rw [(win3 _).1]; omega
    · refine Fin.ext ?_
      show p.val = win0_3.index _ 1 * 12 + 1 * p.val
      rw [(win3 _).2.1]; omega
    · refine Fin.ext ?_
      show q.val = win0_3.index _ 2 * 32768 + 1 * q.val
      rw [(win3 _).2.2]; omega

end Cert.BiasIdeal.Cases

end
-- ==== Proof.BiasEqual.lean ====
/- The attention bias: on a finite table and bucket numbers from 0 to 31, the kernel's result is the reference's. -/
module

public import proofs.«01_k».proof.Defs
public import proofs.«01_k».proof.Proof.BiasRef
public import proofs.«01_k».proof.Proof.BiasValue
public import proofs.«01_k».proof.Proof.Finite
public import proofs.«01_k».proof.Proof.Gen.Pre_finite_bias
public import Idealize.ShloMosaic.Lib.Quiescent

@[expose] public section

set_option maxRecDepth 16384

noncomputable section

namespace Cert.BiasEqual

open Idealize.ShloMosaic Idealize.ShloMosaic.TcCoe Idealize.SL.Sem
open Cert.BiasRefIdeal Cert.BiasRefIdeal.Read Cert.OneHot

theorem of_bool {b : Bool} (h : BitVec.ofBool b = 1#1) : b = true := by
  cases b
  · exact absurd h (by decide)
  · rfl

/-- What the precondition says: the table holds reals, and every bucket number is one of 32. -/
theorem holds {x0 : Vec Ideal S32x12 .f32} {x1 : Vec Ideal S3x128x256 .i32} {x2 : Vec Ideal S3x128x256 .f32}
    (hp : Cert.Pre_finite_bias.fn (F := Ideal) x0 x1 x2 = fun _ => 1#1) :
    (∀ i, ∃ r : ℝ, x0 i = (r : EReal)) ∧ ∀ i, IsBucket (x1 i) := by
  have e := congrFun hp (fun i => i.elim0)
  unfold Cert.Pre_finite_bias.fn at e
  obtain ⟨h01, h2⟩ := Finite.and_one e
  obtain ⟨h0, h1⟩ := Finite.and_one h01
  refine ⟨Finite.all_real x0 _ _ _ _ _ h0, fun i => ⟨?_, ?_⟩⟩
  · have k := of_bool (show BitVec.ofBool ((0#32).sle (x1 i)) = 1#1 from Host.reduce_andi_all _ _ _ _ _ h1 i)
    rw [BitVec.sle_iff_toInt_le] at k
    exact k
  · have k := of_bool (show BitVec.ofBool ((x1 i).slt 32#32) = 1#1 from Host.reduce_andi_all _ _ _ _ _ h2 i)
    rw [BitVec.slt_iff_toInt_lt] at k
    exact k

theorem quiescent_ref : quiescent_BiasRefIdeal := fun m ρ _ =>
  (θ_run Cert.BiasRefIdeal.defs _ _).mono (fun r h => ⟨fun c => (h c).2, sem_eq_zero_of_no_sems (by decide) r.2⟩)
    (Cert.BiasRefIdeal.Value.run (F := Ideal) m ρ)

theorem algebraic : algebraic_BiasIdeal_BiasRefIdeal_pre_finite_bias := by
  intro m ρ m' ρ' hpre hagree
  refine ⟨_, Cert.BiasIdeal.Value.run_blocks (F := Ideal) m ρ, ?_⟩
  refine (θ_run Cert.BiasRefIdeal.defs _ _).mono (fun _ h c => ?_) (Cert.BiasRefIdeal.Value.run (F := Ideal) m' ρ')
  obtain ⟨hA, hB⟩ := holds (hpre c)
  obtain ⟨e0, e1, e2⟩ := hagree c
  obtain ⟨r0, hk⟩ := h c
  refine ⟨?_, hk⟩
  refine r0.trans ((val_main_v11_eq _ _ _).trans ?_)
  rw [e0, e1, e2]
  refine Eq.trans (funext fun i => ?_) (BiasIdeal.Cases.final3 m c hA hB).symm
  obtain ⟨t, p, q, rfl⟩ : ∃ (t : Fin 3) (p : Fin 12) (q : Fin 32768), i = ix3 t p q := ⟨i 0, i 1, i 2, eq_ix3 i⟩
  exact BiasRef.v11 _ _ _ hB t p q

end Cert.BiasEqual

end
-- ==== Proof.OutRow.lean ====
/- One row of the attention block's output: the normalised attention row joined with the convolution's row, times the output
   weights, plus the scaled input row, and the layer norm of that. -/
module

public import Idealize.ShloMosaic.Lib.Pointwise

@[expose] public section

set_option maxRecDepth 16384

noncomputable section

namespace Cert.OutRow

open Idealize.ShloMosaic Idealize.ShloMosaic.TcCoe Idealize.SL.Sem

abbrev alpha : EReal := Ideal.ofBits FTy.f32 1066940400#32
abbrev n768 : EReal := Ideal.ofBits FTy.f32 1145044992#32
abbrev n1024 : EReal := Ideal.ofBits FTy.f32 1149239296#32
abbrev eps : EReal := Ideal.ofBits FTy.f32 925353388#32

/-- The scale of an attention row. -/
def ars (a : Fin 768 → EReal) : EReal := Ideal.rsqrt (Ideal.div (∑ x, a x * a x) n768 + eps)

/-- The joined row times a column of the output weights. -/
def dot (a : Fin 768 → EReal) (c : Fin 256 → EReal) (g : Fin 768 → EReal) (w : Fin 1024 → Fin 1024 → EReal) (q : Fin 1024) : EReal :=
  ∑ k : Fin 768, a k * ars a * g k * w ⟨k.val, by omega⟩ q + ∑ k : Fin 256, c k * w ⟨768 + k.val, by omega⟩ q

/-- The residual sum. -/
def z (a : Fin 768 → EReal) (c : Fin 256 → EReal) (g : Fin 768 → EReal) (w : Fin 1024 → Fin 1024 → EReal) (x : Fin 1024 → EReal) (q : Fin 1024) : EReal :=
  dot a c g w q + alpha * x q

def cen (z : Fin 1024 → EReal) (q : Fin 1024) : EReal := z q - Ideal.div (∑ x, z x) n1024
def rs (z : Fin 1024 → EReal) : EReal := Ideal.rsqrt (Ideal.div (∑ x, cen z x * cen z x) n1024 + eps)
def xhat (z : Fin 1024 → EReal) (q : Fin 1024) : EReal := cen z q * rs z
def out (z g b : Fin 1024 → EReal) (q : Fin 1024) : EReal := xhat z q * g q + b q

end Cert.OutRow

end
-- ==== Proof.OutLn1Cases.lean ====
/- What a grid point of the attention block's output kernel leaves in its output blocks, from the rows of its input blocks. -/
module

public import proofs.«01_k».proof.Proof.OutRow
public import proofs.«01_k».proof.Proof.Gen.OutLn1Ideal.Frame

@[expose] public section

set_option maxRecDepth 16384

noncomputable section

namespace Cert.OutLn1Cases

open Idealize.ShloMosaic Idealize.ShloMosaic.TcCoe Idealize.SL.Sem
open Cert.OutLn1Ideal Cert.OutLn1Ideal.Gen Cert.OutRow

/-! One half of a block. -/

theorem prod (v0 : Vec Ideal S256x768 .f32) (v11 : Vec Ideal S1x768 .f32) (v15 : Vec Ideal S256x256 .bf16) (v18 : Vec Ideal S1024x1024 .bf16)
    (p : Fin 256) (q : Fin 1024) : k0_pay5 v0 v11 v15 v18 (ix2 p q)
      = dot (fun k => v0 (ix2 p k)) (fun k => v15 (ix2 p k)) (fun k => v11 (ix2 0 k)) (fun k q => v18 (ix2 k q)) q := by
  pointwise [k0_pay5]
  rfl

theorem scale (v : Vec Ideal S256x768 .f32) (p : Fin 256) (q : Fin 128) : k0_pay14 v (ix2 p q) = ars (fun k => v (ix2 p k)) := by
  pointwise [k0_pay14]
  rfl

section
variable {v0 v1 : Vec Ideal S256x1024 .f32} {p : Fin 256} {f : Fin 1024 → EReal} (h : ∀ q, v0 (ix2 p q) + alpha * v1 (ix2 p q) = f q)
include h

theorem pay8 (q : Fin 1024) : k0_pay8 v0 v1 (ix2 p q) = cen f q := by
  pointwise [k0_pay8]
  simp only [h]
  rfl

theorem pay9 : k0_pay9 v0 v1 (ix2 p 0) = rs f := by
  pointwise [k0_pay9]
  simp only [pay8 h]
  rfl

theorem pay10 (q : Fin 1024) : k0_pay10 v0 v1 (ix2 p q) = xhat f q := by
  pointwise [k0_pay10]
  rw [pay8 h, pay9 h]
  rfl

theorem pay11 (v2 v3 : Vec Ideal S1x1024 .f32) (q : Fin 1024) :
    k0_pay11 v0 v1 v2 v3 (ix2 p q) = out f (fun q => v2 (ix2 0 q)) (fun q => v3 (ix2 0 q)) q := by
  pointwise [k0_pay11]
  rw [pay10 h]
  rfl

theorem pay12 (v2 v3 : Vec Ideal S1x1024 .f32) (q : Fin 1024) :
    k0_pay12 v0 v1 v2 v3 (ix2 p q) = out f (fun q => v2 (ix2 0 q)) (fun q => v3 (ix2 0 q)) q := by
  pointwise [k0_pay12]
  exact pay11 h v2 v3 q

theorem pay13 (q : Fin 128) : k0_pay13 (k0_pay9 v0 v1) (ix2 p q) = rs f := by
  pointwise [k0_pay13]
  exact pay9 h

end

/-! The halves of a block. -/

theorem hz : (![0, 0] : Fin 2 → Nat) = fun _ => 0 := funext fun a => by fin_cases a <;> rfl

def lo (p : Fin 256) : Fin 512 := ⟨p.val, by omega⟩
def hi (p : Fin 256) : Fin 512 := ⟨256 + p.val, by omega⟩

theorem lo_1024 (p : Fin 256) (q : Fin 1024) : (Rect.unit (s := S512x1024) ![0, 0] S256x1024.size inb_S512x1024_S256x1024_0_0).emb (ix2 p q) = ix2 (lo p) q :=
  funext fun a => Fin.ext (match a with
    | ⟨0, _⟩ => (show 0 + 1 * p.val = p.val by omega)
    | ⟨1, _⟩ => (show 0 + 1 * q.val = q.val by omega))

theorem hi_1024 (p : Fin 256) (q : Fin 1024) : (Rect.unit (s := S512x1024) ![256, 0] S256x1024.size inb_S512x1024_S256x1024_256_0).emb (ix2 p q) = ix2 (hi p) q :=
  funext fun a => Fin.ext (match a with
    | ⟨0, _⟩ => (show 256 + 1 * p.val = 256 + p.val by omega)
    | ⟨1, _⟩ => (show 0 + 1 * q.val = q.val by omega))

theorem lo_768 (p : Fin 256) (q : Fin 768) : (Rect.unit (s := S512x768) ![0, 0] S256x768.size inb_S512x768_S256x768_0_0).emb (ix2 p q) = ix2 (lo p) q :=
  funext fun a => Fin.ext (match a with
    | ⟨0, _⟩ => (show 0 + 1 * p.val = p.val by omega)
    | ⟨1, _⟩ => (show 0 + 1 * q.val = q.val by omega))

theorem hi_768 (p : Fin 256) (q : Fin 768) : (Rect.unit (s := S512x768) ![256, 0] S256x768.size inb_S512x768_S256x768_256_0).emb (ix2 p q) = ix2 (hi p) q :=
  funext fun a => Fin.ext (match a with
    | ⟨0, _⟩ => (show 256 + 1 * p.val = 256 + p.val by omega)
    | ⟨1, _⟩ => (show 0 + 1 * q.val = q.val by omega))

theorem lo_256 (p : Fin 256) (q : Fin 256) : (Rect.unit (s := S512x256) ![0, 0] S256x256.size inb_S512x256_S256x256_0_0).emb (ix2 p q) = ix2 (lo p) q :=
  funext fun a => Fin.ext (match a with
    | ⟨0, _⟩ => (show 0 + 1 * p.val = p.val by omega)
    | ⟨1, _⟩ => (show 0 + 1 * q.val = q.val by omega))

theorem hi_256 (p : Fin 256) (q : Fin 256) : (Rect.unit (s := S512x256) ![256, 0] S256x256.size inb_S512x256_S256x256_256_0).emb (ix2 p q) = ix2 (hi p) q :=
  funext fun a => Fin.ext (match a with
    | ⟨0, _⟩ => (show 256 + 1 * p.val = 256 + p.val by omega)
    | ⟨1, _⟩ => (show 0 + 1 * q.val = q.val by omega))

theorem lo_128 (p : Fin 256) (q : Fin 128) : (Rect.unit (s := S512x128) ![0, 0] S256x128.size inb_S512x128_S256x128_0_0).emb (ix2 p q) = ix2 (lo p) q :=
  funext fun a => Fin.ext (match a with
    | ⟨0, _⟩ => (show 0 + 1 * p.val = p.val by omega)
    | ⟨1, _⟩ => (show 0 + 1 * q.val = q.val by omega))

theorem hi_128 (p : Fin 256) (q : Fin 128) : (Rect.unit (s := S512x128) ![256, 0] S256x128.size inb_S512x128_S256x128_256_0).emb (ix2 p q) = ix2 (hi p) q :=
  funext fun a => Fin.ext (match a with
    | ⟨0, _⟩ => (show 256 + 1 * p.val = 256 + p.val by omega)
    | ⟨1, _⟩ => (show 0 + 1 * q.val = q.val by omega))

theorem ld_lo_768 (x : Vec Ideal S512x768 .f32) (p : Fin 256) (q : Fin 768) : View.ld x (Rect.unit (s := S512x768) ![0, 0] S256x768.size inb_S512x768_S256x768_0_0) (ix2 p q) = x (ix2 (lo p) q) :=
  congrArg x (lo_768 p q)

theorem ld_lo_256 (x : Vec Ideal S512x256 .bf16) (p : Fin 256) (q : Fin 256) : View.ld x (Rect.unit (s := S512x256) ![0, 0] S256x256.size inb_S512x256_S256x256_0_0) (ix2 p q) = x (ix2 (lo p) q) :=
  congrArg x (lo_256 p q)

theorem ld_lo_1024 (x : Vec Ideal S512x1024 .f32) (p : Fin 256) (q : Fin 1024) : View.ld x (Rect.unit (s := S512x1024) ![0, 0] S256x1024.size inb_S512x1024_S256x1024_0_0) (ix2 p q) = x (ix2 (lo p) q) :=
  congrArg x (lo_1024 p q)

theorem ld_hi_768 (x : Vec Ideal S512x768 .f32) (p : Fin 256) (q : Fin 768) : View.ld x (Rect.unit (s := S512x768) ![256, 0] S256x768.size inb_S512x768_S256x768_256_0) (ix2 p q) = x (ix2 (hi p) q) :=
  congrArg x (hi_768 p q)

theorem ld_hi_256 (x : Vec Ideal S512x256 .bf16) (p : Fin 256) (q : Fin 256) : View.ld x (Rect.unit (s := S512x256) ![256, 0] S256x256.size inb_S512x256_S256x256_256_0) (ix2 p q) = x (ix2 (hi p) q) :=
  congrArg x (hi_256 p q)

theorem ld_hi_1024 (x : Vec Ideal S512x1024 .f32) (p : Fin 256) (q : Fin 1024) : View.ld x (Rect.unit (s := S512x1024) ![256, 0] S256x1024.size inb_S512x1024_S256x1024_256_0) (ix2 p q) = x (ix2 (hi p) q) :=
  congrArg x (hi_1024 p q)

variable (c : Dev nD) (i : grid0.Coords) (a3 : Memref sig .tc .vmem S512x768 .f32) (h3 : a3.IsWhole) (a4 : Memref sig .tc .vmem S512x256 .bf16) (h4 : a4.IsWhole) (a5 : Memref sig .tc .vmem S1x768 .f32) (h5 : a5.IsWhole) (a6 : Memref sig .tc .vmem S1024x1024 .bf16) (h6 : a6.IsWhole) (a7 : Memref sig .tc .vmem S512x1024 .f32) (h7 : a7.IsWhole) (a8 : Memref sig .tc .vmem S1x1024 .f32) (h8 : a8.IsWhole) (a9 : Memref sig .tc .vmem S1x1024 .f32) (h9 : a9.IsWhole) (a10 : Memref sig .tc .vmem S512x768 .f32) (h10 : a10.IsWhole) (a11 : Memref sig .tc .vmem S512x1024 .f32) (h11 : a11.IsWhole) (a12 : Memref sig .tc .vmem S512x1024 .bf16) (h12 : a12.IsWhole) (a13 : Memref sig .tc .vmem S512x1024 .f32) (h13 : a13.IsWhole) (a14 : Memref sig .tc .vmem S512x128 .f32) (h14 : a14.IsWhole) (a15 : Memref sig .tc .vmem S512x128 .f32) (h15 : a15.IsWhole) (a16 : Memref sig .tc .vmem S512x1024 .f32) (h16 : a16.IsWhole)
  (x0 : Vec Ideal S512x768 .f32) (x1 : Vec Ideal S512x256 .bf16) (x2 : Vec Ideal S1x768 .f32) (x3 : Vec Ideal S1024x1024 .bf16)
  (x4 : Vec Ideal S512x1024 .f32) (x5 x6 : Vec Ideal S1x1024 .f32) (x7 : Vec Ideal S512x768 .f32)

/-- The residual sum of a row of the block. -/
abbrev zb (r : Fin 512) : Fin 1024 → EReal :=
  z (fun k => x0 (ix2 r k)) (fun k => x1 (ix2 r k)) (fun k => x2 (ix2 0 k)) (fun k q => x3 (ix2 k q)) (fun q => x4 (ix2 r q))

theorem z_lo (p : Fin 256) (q : Fin 1024) : k0_pay5 (View.ld x0 (Rect.unit (s := S512x768) ![0, 0] S256x768.size inb_S512x768_S256x768_0_0)) x2
    (View.ld x1 (Rect.unit (s := S512x256) ![0, 0] S256x256.size inb_S512x256_S256x256_0_0)) x3 (ix2 p q)
    + alpha * View.ld x4 (Rect.unit (s := S512x1024) ![0, 0] S256x1024.size inb_S512x1024_S256x1024_0_0) (ix2 p q) = zb x0 x1 x2 x3 x4 (lo p) q := by
  rw [prod]
  exact congrArg₂ (· + ·) (congrArg₂ (fun a c => dot a c _ _ q) (funext fun k => ld_lo_768 x0 p k) (funext fun k => ld_lo_256 x1 p k))
    (congrArg (alpha * ·) (ld_lo_1024 x4 p q))

theorem z_hi (p : Fin 256) (q : Fin 1024) : k0_pay5 (View.ld x0 (Rect.unit (s := S512x768) ![256, 0] S256x768.size inb_S512x768_S256x768_256_0)) x2
    (View.ld x1 (Rect.unit (s := S512x256) ![256, 0] S256x256.size inb_S512x256_S256x256_256_0)) x3 (ix2 p q)
    + alpha * View.ld x4 (Rect.unit (s := S512x1024) ![256, 0] S256x1024.size inb_S512x1024_S256x1024_256_0) (ix2 p q) = zb x0 x1 x2 x3 x4 (hi p) q := by
  rw [prod]
  exact congrArg₂ (· + ·) (congrArg₂ (fun a c => dot a c _ _ q) (funext fun k => ld_hi_768 x0 p k) (funext fun k => ld_hi_256 x1 p k))
    (congrArg (alpha * ·) (ld_hi_1024 x4 p q))

abbrev yb (y : S512x1024.Idx) : EReal := out (zb x0 x1 x2 x3 x4 (y 0)) (fun q => x5 (ix2 0 q)) (fun q => x6 (ix2 0 q)) (y 1)
abbrev xb (y : S512x1024.Idx) : EReal := xhat (zb x0 x1 x2 x3 x4 (y 0)) (y 1)
abbrev rb (y : S512x128.Idx) : EReal := rs (zb x0 x1 x2 x3 x4 (y 0))
abbrev ab (x7 : Vec Ideal S512x768 .f32) (y : S512x128.Idx) : EReal := ars (fun k => x7 (ix2 (y 0) k))

theorem outA8 (y : S512x1024.Idx) : out0_A_8 c i a3 h3 a4 h4 a5 h5 a6 h6 a7 h7 a8 h8 a9 h9 a10 h10 a11 h11 a12 h12 a13 h13 a14 h14 a15 h15 a16 h16 x0 x1 x2 x3 x4 x5 x6 x7 y = yb x0 x1 x2 x3 x4 x5 x6 y := by
  unfold out0_A_8
  rw [View.read_writes_eq_canon _ _ _ (fun _ => cover0_A_8 ..)]
  refine View.canon_apply_of_pieces (Val := Elt Ideal) (e := .f32) (yb x0 x1 x2 x3 x4 x5 x6) _ ?_ y ?_
  swap; exact cover0_A_8 ..
  unfold kernelRun0_A
  dsimp only
  sl_unfold_words
  simp only [View.readAt_eq_ld, Memref.IsWhole.read_unread, View.ld_unit_zero (S := S1x768) hz, View.ld_unit_zero (S := S1024x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (congrArg (yb x0 x1 x2 x3 x4 x5 x6) (hi_1024 p q)).symm
    exact pay11 (z_hi x0 x1 x2 x3 x4 p) x5 x6 q
  · obtain ⟨p, q, rfl⟩ : ∃ (p : Fin 256) (q : Fin 1024), x = ix2 p q := ⟨x 0, x 1, eq_ix2 x⟩
    refine Eq.trans ?_ (congrArg (yb x0 x1 x2 x3 x4 x5 x6) (lo_1024 p q)).symm
    exact pay11 (z_lo x0 x1 x2 x3 x4 p) x5 x6 q

theorem outA9 (y : S512x1024.Idx) : out0_A_9 c i a3 h3 a4 h4 a5 h5 a6 h6 a7 h7 a8 h8 a9 h9 a10 h10 a11 h11 a12 h12 a13 h13 a14 h14 a15 h15 a16 h16 x0 x1 x2 x3 x4 x5 x6 x7 y = yb x0 x1 x2 x3 x4 x5 x6 y := by
  unfold out0_A_9
  rw [View.read_writes_eq_canon _ _ _ (fun _ => cover0_A_9 ..)]
  refine View.canon_apply_of_pieces (Val := Elt Ideal) (e := .bf16) (yb x0 x1 x2 x3 x4 x5 x6) _ ?_ y ?_
  swap; exact cover0_A_9 ..
  unfold kernelRun0_A
  dsimp only
  sl_unfold_words
  simp only [View.readAt_eq_ld, Memref.IsWhole.read_unread, View.ld_unit_zero (S := S1x768) hz, View.ld_unit_zero (S := S1024x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (congrArg (yb x0 x1 x2 x3 x4 x5 x6) (hi_1024 p q)).symm
    exact pay12 (z_hi x0 x1 x2 x3 x4 p) x5 x6 q
  · obtain ⟨p, q, rfl⟩ : ∃ (p : Fin 256) (q : Fin 1024), x = ix2 p q := ⟨x 0, x 1, eq_ix2 x⟩
    refine Eq.trans ?_ (congrArg (yb x0 x1 x2 x3 x4 x5 x6) (lo_1024 p q)).symm
    exact pay12 (z_lo x0 x1 x2 x3 x4 p) x5 x6 q

theorem outA10 (y : S512x1024.Idx) : out0_A_10 c i a3 h3 a4 h4 a5 h5 a6 h6 a7 h7 a8 h8 a9 h9 a10 h10 a11 h11 a12 h12 a13 h13 a14 h14 a15 h15 a16 h16 x0 x1 x2 x3 x4 x5 x6 x7 y = xb x0 x1 x2 x3 x4 y := by
  unfold out0_A_10
  rw [View.read_writes_eq_canon _ _ _ (fun _ => cover0_A_10 ..)]
  refine View.canon_apply_of_pieces (Val := Elt Ideal) (e := .f32) (xb x0 x1 x2 x3 x4) _ ?_ y ?_
  swap; exact cover0_A_10 ..
  unfold kernelRun0_A
  dsimp only
  sl_unfold_words
  simp only [View.readAt_eq_ld, Memref.IsWhole.read_unread, View.ld_unit_zero (S := S1x768) hz, View.ld_unit_zero (S := S1024x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 1024), x = ix2 p q := ⟨x 0, x 1, eq_ix2 x⟩
    refine Eq.trans ?_ (congrArg (xb x0 x1 x2 x3 x4) (hi_1024 p q)).symm
    exact pay10 (z_hi x0 x1 x2 x3 x4 p) q
  · obtain ⟨p, q, rfl⟩ : ∃ (p : Fin 256) (q : Fin 1024), x = ix2 p q := ⟨x 0, x 1, eq_ix2 x⟩
    refine Eq.trans ?_ (congrArg (xb x0 x1 x2 x3 x4) (lo_1024 p q)).symm
    exact pay10 (z_lo x0 x1 x2 x3 x4 p) q

theorem outA11 (y : S512x128.Idx) : out0_A_11 c i a3 h3 a4 h4 a5 h5 a6 h6 a7 h7 a8 h8 a9 h9 a10 h10 a11 h11 a12 h12 a13 h13 a14 h14 a15 h15 a16 h16 x0 x1 x2 x3 x4 x5 x6 x7 y = rb x0 x1 x2 x3 x4 y := by
  unfold out0_A_11
  rw [View.read_writes_eq_canon _ _ _ (fun _ => cover0_A_11 ..)]
  refine View.canon_apply_of_pieces (Val := Elt Ideal) (e := .f32) (rb x0 x1 x2 x3 x4) _ ?_ y ?_
  swap; exact cover0_A_11 ..
  unfold kernelRun0_A
  dsimp only
  sl_unfold_words
  simp only [View.readAt_eq_ld, Memref.IsWhole.read_unread, View.ld_unit_zero (S := S1x768) hz, View.ld_unit_zero (S := S1024x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 128), x = ix2 p q := ⟨x 0, x 1, eq_ix2 x⟩
    refine Eq.trans ?_ (congrArg (rb x0 x1 x2 x3 x4) (hi_128 p q)).symm
    exact pay13 (z_hi x0 x1 x2 x3 x4 p) q
  · obtain ⟨p, q, rfl⟩ : ∃ (p : Fin 256) (q : Fin 128), x = ix2 p q := ⟨x 0, x 1, eq_ix2 x⟩
    refine Eq.trans ?_ (congrArg (rb x0 x1 x2 x3 x4) (lo_128 p q)).symm
    exact pay13 (z_lo x0 x1 x2 x3 x4 p) q

theorem outA12 (y : S512x128.Idx) : out0_A_12 c i a3 h3 a4 h4 a5 h5 a6 h6 a7 h7 a8 h8 a9 h9 a10 h10 a11 h11 a12 h12 a13 h13 a14 h14 a15 h15 a16 h16 x0 x1 x2 x3 x4 x5 x6 x7 y = ab x7 y := by
  unfold out0_A_12
  rw [View.read_writes_eq_canon _ _ _ (fun _ => cover0_A_12 ..)]
  refine View.canon_apply_of_pieces (Val := Elt Ideal) (e := .f32) (ab x7) _ ?_ y ?_
  swap; exact cover0_A_12 ..
  unfold kernelRun0_A
  dsimp only
  sl_unfold_words
  simp only [View.readAt_eq_ld, Memref.IsWhole.read_unread, View.ld_unit_zero (S := S1x768) hz, View.ld_unit_zero (S := S1024x1024) hz, View.ld_unit_zero (S := S1x1024) hz]
  refine List.forall_mem_cons.mpr ⟨fun x => ?_, List.forall_mem_cons.mpr ⟨fun x => ?_, fun _ hn => absurd hn List.not_mem_nil⟩⟩
  · obtain ⟨p, q, rfl⟩ : ∃ (p : Fin 256) (q : Fin 128), x = ix2 p q := ⟨x 0, x 1, eq_ix2 x⟩
    refine Eq.trans ?_ (congrArg (ab x7) (hi_128 p q)).symm
    exact (scale _ p q).trans (congrArg ars (funext fun k => ld_hi_768 x7 p k))
  · obtain ⟨p, q, rfl⟩ : ∃ (p : Fin 256) (q : Fin 128), x = ix2 p q := ⟨x 0, x 1, eq_ix2 x⟩
    refine Eq.trans ?_ (congrArg (ab x7) (lo_128 p q)).symm
    exact (scale _ p q).trans (congrArg ars (funext fun k => ld_lo_768 x7 p k))

end Cert.OutLn1Cases

end
-- ==== Proof.OutLn1Ref.lean ====
/- The reference's five results of the attention block's output, at an index. -/
module

public import proofs.«01_k».proof.Proof.OutRow
public import proofs.«01_k».proof.Proof.Gen.OutLn1RefIdeal.Read

@[expose] public section

set_option maxRecDepth 16384

noncomputable section

namespace Cert.OutLn1Ref

open Idealize.ShloMosaic Idealize.ShloMosaic.TcCoe Idealize.SL.Sem
open Cert.OutLn1RefIdeal Cert.OutLn1RefIdeal.Read Cert.OutRow

variable (x0 : Vec Ideal S4096x768 .f32) (x1 : Vec Ideal S4096x256 .f32) (x2 : Vec Ideal S1x768 .f32) (x3 : Vec Ideal S1024x1024 .f32)
  (x4 : Vec Ideal S4096x1024 .f32) (x5 x6 : Vec Ideal S1x1024 .f32) (p : Fin 4096)

/-- The residual sum of row `p`. -/
abbrev zr : Fin 1024 → EReal :=
  z (fun k => x0 (ix2 p k)) (fun k => x1 (ix2 p k)) (fun k => x2 (ix2 0 k)) (fun k q => x3 (ix2 k q)) (fun q => x4 (ix2 p q))

theorem v15 (q : Fin 768) : val_main_v15 (F := Ideal) x0 x2 (ix2 p q) = x0 (ix2 p q) * ars (fun k => x0 (ix2 p k)) * x2 (ix2 0 q) := by
  pointwise [val_main_v15, val_main_v14, val_main_v13, val_main_v12, val_main_v11, val_main_v10, val_main_v9, val_main_v8, val_main_v7, val_main_v6, val_main_v5, val_main_v4, val_main_v3, val_main_v2, val_main_cst_0, val_main_cst_1, val_main_cst_2]
  rfl

theorem v18 (q : Fin 1024) : val_main_v18 (F := Ideal) x0 x1 x2 x3 x4 (ix2 p q) = zr x0 x1 x2 x3 x4 p q := by
  pointwise [val_main_v18, val_main_v1, val_main_v17, val_main_v16, val_main_v0, val_main_cst]
  simp only [v15]
  exact add_comm _ _

theorem v22 : val_main_v22 (F := Ideal) x0 x1 x2 x3 x4 (ix2 p 0) = Ideal.div (∑ q, zr x0 x1 x2 x3 x4 p q) n1024 := by
  pointwise [val_main_v22, val_main_v21, val_main_v20, val_main_v19, val_main_cst_3, val_main_cst_4]
  simp only [v18]

theorem v24 (q : Fin 1024) : val_main_v24 (F := Ideal) x0 x1 x2 x3 x4 (ix2 p q) = cen (zr x0 x1 x2 x3 x4 p) q := by
  pointwise [val_main_v24, val_main_v23]
  rw [v18, v22]
  rfl

theorem v32 : val_main_v32 (F := Ideal) x0 x1 x2 x3 x4 (ix2 p 0) = rs (zr x0 x1 x2 x3 x4 p) := by
  pointwise [val_main_v32, val_main_v31, val_main_v30, val_main_v29, val_main_v28, val_main_v27, val_main_v26, val_main_v25, val_main_cst_5, val_main_cst_6, val_main_cst_7]
  simp only [v24]
  rfl

theorem v36 (q : Fin 1024) : val_main_v36 (F := Ideal) x0 x1 x2 x3 x4 (ix2 p q) = xhat (zr x0 x1 x2 x3 x4 p) q := by
  pointwise [val_main_v36, val_main_v35, val_main_v34, val_main_v33]
  rw [v18, v22, v32]
  rfl

theorem v44 (q : Fin 1024) : val_main_v44 (F := Ideal) x0 x1 x2 x3 x4 x5 x6 (ix2 p q)
    = out (zr x0 x1 x2 x3 x4 p) (fun q => x5 (ix2 0 q)) (fun q => x6 (ix2 0 q)) q := by
  pointwise [val_main_v44, val_main_v43, val_main_v42, val_main_v41, val_main_v40, val_main_v39, val_main_v38, val_main_v37]
  rw [v36]
  rfl

theorem v53 (q : Fin 1024) : val_main_v53 (F := Ideal) x0 x1 x2 x3 x4 x5 x6 (ix2 p q)
    = out (zr x0 x1 x2 x3 x4 p) (fun q => x5 (ix2 0 q)) (fun q => x6 (ix2 0 q)) q := by
  pointwise [val_main_v53]
  exact v44 x0 x1 x2 x3 x4 x5 x6 p q

theorem v54 (q : Fin 128) : val_main_v54 (F := Ideal) x0 x1 x2 x3 x4 (ix2 p q) = rs (zr x0 x1 x2 x3 x4 p) := by
  pointwise [val_main_v54]
  exact v32 x0 x1 x2 x3 x4 p

theorem v55 (q : Fin 128) : val_main_v55 (F := Ideal) x0 (ix2 p q) = ars (fun k => x0 (ix2 p k)) := by
  pointwise [val_main_v55, val_main_v52, val_main_v51, val_main_v50, val_main_v49, val_main_v48, val_main_v47, val_main_v46, val_main_v45, val_main_cst_8, val_main_cst_9, val_main_cst_10]
  rfl

end Cert.OutLn1Ref

end
-- ==== Proof.OutLn1Value.lean ====
/- The attention block's output kernel: its five results, over its eight blocks of 512 rows, at an index. -/
module

public import proofs.«01_k».proof.Proof.OutLn1Cases
public import proofs.«01_k».proof.Proof.OutLn1Ref
public import proofs.«01_k».proof.Proof.Gen.OutLn1Ideal.Value
public import Idealize.ShloMosaic.Lib.StableHlo.ReadAt
public import Idealize.ShloMosaic.Lib.Pipeline.ValueKit.Geometry

@[expose] public section

set_option maxRecDepth 16384

noncomputable section

namespace Cert.OutLn1Value

open Idealize.ShloMosaic Idealize.ShloMosaic.TcCoe Idealize.SL.Sem
open Cert.OutLn1Ideal Cert.OutLn1Ideal.Gen Cert.OutRow Cert.OutLn1Cases
open Cert.OutLn1Ref (zr)

variable (m : (ℓ : Loc nD τ sig) → Buf (Elt Ideal) ℓ) (c : Dev nD)

/-- The arguments as launched. -/
abbrev A0 : Vec Ideal S4096x768 .f32 := m ((c : Thread nD τ).loc main_arg0)
abbrev A1 : Vec Ideal S4096x256 .f32 := m ((c : Thread nD τ).loc main_arg1)
abbrev A2 : Vec Ideal S1x768 .f32 := m ((c : Thread nD τ).loc main_arg2)
abbrev A3 : Vec Ideal S1024x1024 .f32 := m ((c : Thread nD τ).loc main_arg3)
abbrev A4 : Vec Ideal S4096x1024 .f32 := m ((c : Thread nD τ).loc main_arg4)
abbrev A5 : Vec Ideal S1x1024 .f32 := m ((c : Thread nD τ).loc main_arg5)
abbrev A6 : Vec Ideal S1x1024 .f32 := m ((c : Thread nD τ).loc main_arg6)

/-- Row `r` of block `t` in the whole array. -/
def row (t : Fin cfg0.N) (r : Fin 512) : Fin 4096 := ⟨512 * t.val + r.val, by have := lt_of_lt_of_eq t.isLt N_0; omega⟩

theorem win0 : ∀ t : Fin cfg0.N, win0_0.index t 0 = t.val ∧ win0_0.index t 1 = 0 := (by decide +kernel : ∀ t : Fin grid0.N, _)
theorem win1 : ∀ t : Fin cfg0.N, win0_1.index t 0 = t.val ∧ win0_1.index t 1 = 0 := (by decide +kernel : ∀ t : Fin grid0.N, _)
theorem win2 : ∀ t : Fin cfg0.N, win0_2.index t 0 = 0 ∧ win0_2.index t 1 = 0 := (by decide +kernel : ∀ t : Fin grid0.N, _)
theorem win3 : ∀ t : Fin cfg0.N, win0_3.index t 0 = 0 ∧ win0_3.index t 1 = 0 := (by decide +kernel : ∀ t : Fin grid0.N, _)
theorem win4 : ∀ t : Fin cfg0.N, win0_4.index t 0 = t.val ∧ win0_4.index t 1 = 0 := (by decide +kernel : ∀ t : Fin grid0.N, _)
theorem win5 : ∀ t : Fin cfg0.N, win0_5.index t 0 = 0 ∧ win0_5.index t 1 = 0 := (by decide +kernel : ∀ t : Fin grid0.N, _)
theorem win6 : ∀ t : Fin cfg0.N, win0_6.index t 0 = 0 ∧ win0_6.index t 1 = 0 := (by decide +kernel : ∀ t : Fin grid0.N, _)
theorem win7 : ∀ t : Fin cfg0.N, win0_7.index t 0 = t.val ∧ win0_7.index t 1 = 0 := (by decide +kernel : ∀ t : Fin grid0.N, _)
theorem win8 : ∀ t : Fin cfg0.N, win0_8.index t 0 = t.val ∧ win0_8.index t 1 = 0 := (by decide +kernel : ∀ t : Fin grid0.N, _)
theorem win9 : ∀ t : Fin cfg0.N, win0_9.index t 0 = t.val ∧ win0_9.index t 1 = 0 := (by decide +kernel : ∀ t : Fin grid0.N, _)
theorem win10 : ∀ t : Fin cfg0.N, win0_10.index t 0 = t.val ∧ win0_10.index t 1 = 0 := (by decide +kernel : ∀ t : Fin grid0.N, _)
theorem win11 : ∀ t : Fin cfg0.N, win0_11.index t 0 = t.val ∧ win0_11.index t 1 = 0 := (by decide +kernel : ∀ t : Fin grid0.N, _)
theorem win12 : ∀ t : Fin cfg0.N, win0_12.index t 0 = t.val ∧ win0_12.index t 1 = 0 := (by decide +kernel : ∀ t : Fin grid0.N, _)

theorem V0_at (p : Fin 4096) (q : Fin 256) : (V m c main_v0 (ix2 p q) : EReal) = A1 m c (ix2 p q) := by
  unfold V
  after_reads_at

theorem V1_at (p q : Fin 1024) : (V m c main_v1 (ix2 p q) : EReal) = A3 m c (ix2 p q) := by
  unfold V
  after_reads_at

/-! The kernel's input blocks. -/

theorem iblk0 (t : Fin cfg0.N) (r : Fin 512) (q : Fin 768) : (iblk m c 0 t (ix2 r q) : EReal) = A0 m c (ix2 (row t r) q) := by
  refine Eq.trans ?_ (congrFun (V_main_arg0 m c) _)
  unfold iblk
  rw [View.read_apply, cast_eq]
  refine congrArg (V m c main_arg0) (funext fun a => Fin.ext ?_)
  match a with
  | ⟨0, _⟩ => show win0_0.index t 0 * 512 + 1 * r.val = 512 * t.val + r.val; rw [(win0 t).1]; omega
  | ⟨1, _⟩ => show win0_0.index t 1 * 768 + 1 * q.val = q.val; rw [(win0 t).2]; omega

theorem iblk1 (t : Fin cfg0.N) (r : Fin 512) (q : Fin 256) : (iblk m c 1 t (ix2 r q) : EReal) = A1 m c (ix2 (row t r) q) := by
  refine Eq.trans ?_ (V0_at m c _ _)
  unfold iblk
  rw [View.read_apply, cast_eq]
  refine congrArg (V m c main_v0) (funext fun a => Fin.ext ?_)
  match a with
  | ⟨0, _⟩ => show win0_1.index t 0 * 512 + 1 * r.val = 512 * t.val + r.val; rw [(win1 t).1]; omega
  | ⟨1, _⟩ => show win0_1.index t 1 * 256 + 1 * q.val = q.val; rw [(win1 t).2]; omega

theorem iblk2 (t : Fin cfg0.N) (q : Fin 768) : (iblk m c 2 t (ix2 0 q) : EReal) = A2 m c (ix2 0 q) := by
  refine Eq.trans ?_ (congrFun (V_main_arg2 m c) _)
  unfold iblk
  rw [View.read_apply, cast_eq]
  refine congrArg (V m c main_arg2) (funext fun a => Fin.ext ?_)
  match a with
  | ⟨0, _⟩ => show win0_2.index t 0 * 1 + 1 * 0 = 0; rw [(win2 t).1]
  | ⟨1, _⟩ => show win0_2.index t 1 * 768 + 1 * q.val = q.val; rw [(win2 t).2]; omega

theorem iblk3 (t : Fin cfg0.N) (r q : Fin 1024) : (iblk m c 3 t (ix2 r q) : EReal) = A3 m c (ix2 r q) := by
  refine Eq.trans ?_ (V1_at m c _ _)
  unfold iblk
  rw [View.read_apply, cast_eq]
  refine congrArg (V m c main_v1) (funext fun a => Fin.ext ?_)
  match a with
  | ⟨0, _⟩ => show win0_3.index t 0 * 1024 + 1 * r.val = r.val; rw [(win3 t).1]; omega
  | ⟨1, _⟩ => show win0_3.index t 1 * 1024 + 1 * q.val = q.val; rw [(win3 t).2]; omega

theorem iblk4 (t : Fin cfg0.N) (r : Fin 512) (q : Fin 1024) : (iblk m c 4 t (ix2 r q) : EReal) = A4 m c (ix2 (row t r) q) := by
  refine Eq.trans ?_ (congrFun (V_main_arg4 m c) _)
  unfold iblk
  rw [View.read_apply, cast_eq]
  refine congrArg (V m c main_arg4) (funext fun a => Fin.ext ?_)
  match a with
  | ⟨0, _⟩ => show win0_4.index t 0 * 512 + 1 * r.val = 512 * t.val + r.val; rw [(win4 t).1]; omega
  | ⟨1, _⟩ => show win0_4.index t 1 * 1024 + 1 * q.val = q.val; rw [(win4 t).2]; omega

theorem iblk5 (t : Fin cfg0.N) (q : Fin 1024) : (iblk m c 5 t (ix2 0 q) : EReal) = A5 m c (ix2 0 q) := by
  refine Eq.trans ?_ (congrFun (V_main_arg5 m c) _)
  unfold iblk
  rw [View.read_apply, cast_eq]
  refine congrArg (V m c main_arg5) (funext fun a => Fin.ext ?_)
  match a with
  | ⟨0, _⟩ => show win0_5.index t 0 * 1 + 1 * 0 = 0; rw [(win5 t).1]
  | ⟨1, _⟩ => show win0_5.index t 1 * 1024 + 1 * q.val = q.val; rw [(win5 t).2]; omega

theorem iblk6 (t : Fin cfg0.N) (q : Fin 1024) : (iblk m c 6 t (ix2 0 q) : EReal) = A6 m c (ix2 0 q) := by
  refine Eq.trans ?_ (congrFun (V_main_arg6 m c) _)
  unfold iblk
  rw [View.read_apply, cast_eq]
  refine congrArg (V m c main_arg6) (funext fun a => Fin.ext ?_)
  match a with
  | ⟨0, _⟩ => show win0_6.index t 0 * 1 + 1 * 0 = 0; rw [(win6 t).1]
  | ⟨1, _⟩ => show win0_6.index t 1 * 1024 + 1 * q.val = q.val; rw [(win6 t).2]; omega

theorem iblk7 (t : Fin cfg0.N) (r : Fin 512) (q : Fin 768) : (iblk m c 7 t (ix2 r q) : EReal) = A0 m c (ix2 (row t r) q) := by
  refine Eq.trans ?_ (congrFun (V_main_arg0 m c) _)
  unfold iblk
  rw [View.read_apply, cast_eq]
  refine congrArg (V m c main_arg0) (funext fun a => Fin.ext ?_)
  match a with
  | ⟨0, _⟩ => show win0_7.index t 0 * 512 + 1 * r.val = 512 * t.val + r.val; rw [(win7 t).1]; omega
  | ⟨1, _⟩ => show win0_7.index t 1 * 768 + 1 * q.val = q.val; rw [(win7 t).2]; omega

/-- The residual sum of a row of the whole array. -/
def zs (p : Fin 4096) : Fin 1024 → EReal := zr (A0 m c) (A1 m c) (A2 m c) (A3 m c) (A4 m c) p

theorem zb_at (t : Fin cfg0.N) (r : Fin 512) : zb (iblk m c 0 t) (iblk m c 1 t) (iblk m c 2 t) (iblk m c 3 t) (iblk m c 4 t) r = zs m c (row t r) :=
  congr (congr (congr (congr (congrArg z (funext fun k => iblk0 m c t r k)) (funext fun k => iblk1 m c t r k)) (funext fun k => iblk2 m c t k))
    (funext fun k => funext fun q => iblk3 m c t k q)) (funext fun q => iblk4 m c t r q)

/-! The five results at an index. -/

def res8 (i : S4096x1024.Idx) : EReal := out (zs m c (i 0)) (fun q => A5 m c (ix2 0 q)) (fun q => A6 m c (ix2 0 q)) (i 1)
def res10 (i : S4096x1024.Idx) : EReal := xhat (zs m c (i 0)) (i 1)
def res11 (i : S4096x128.Idx) : EReal := rs (zs m c (i 0))
def res12 (i : S4096x128.Idx) : EReal := ars (fun k => A0 m c (ix2 (i 0) k))

theorem res_row {w : ℕ} (p : Fin 4096) (q : Fin w) {i : (⟨2, ![4096, w]⟩ : Shape).Idx} (h0 : p.val = (i 0).val) (h1 : q.val = (i 1).val) : ix2 p q = i :=
  funext fun a => Fin.ext (match a with
    | ⟨0, _⟩ => h0
    | ⟨1, _⟩ => h1)

theorem val8 (t : Fin cfg0.N) (r : Fin 512) (q : Fin 1024) : ((outsAt0 m c t).1 (ix2 r q) : EReal) = res8 m c (ix2 (row t r) q) := by
  unfold outsAt0
  dsimp only
  rw [outA8]
  exact congrFun (congr (congr (congrArg out (zb_at m c t r)) (funext fun q => iblk5 m c t q)) (funext fun q => iblk6 m c t q)) q

theorem final8 : (dats m 0 c).arrAt 8 cfg0.N = res8 m c := by
  refine (dats m 0 c).arrAt_eq_of_cover 8 _ (fun t hf => funext fun y => ?_) ((by decide +kernel : ((cfg0.win 8).Covers)).cover _ (Memref.isWhole_whole _))
  · rw [Value.flushed8, View.read_apply]
    obtain ⟨r, q, rfl⟩ : ∃ (r : Fin 512) (q : Fin 1024), y = ix2 r q := ⟨y 0, y 1, eq_ix2 y⟩
    refine Eq.trans (val8 m c t r q) (congrArg (res8 m c) (res_row _ _ ?_ ?_))
    · show 512 * t.val + r.val = win0_8.index t 0 * 512 + 1 * r.val; rw [(win8 t).1]; omega
    · show q.val = win0_8.index t 1 * 1024 + 1 * q.val; rw [(win8 t).2]; omega

theorem val9 (t : Fin cfg0.N) (r : Fin 512) (q : Fin 1024) : ((outsAt0 m c t).2.1 (ix2 r q) : EReal) = res8 m c (ix2 (row t r) q) := by
  unfold outsAt0
  dsimp only
  rw [outA9]
  exact congrFun (congr (congr (congrArg out (zb_at m c t r)) (funext fun q => iblk5 m c t q)) (funext fun q => iblk6 m c t q)) q

theorem final9 : (dats m 0 c).arrAt 9 cfg0.N = res8 m c := by
  refine (dats m 0 c).arrAt_eq_of_cover 9 _ (fun t hf => funext fun y => ?_) ((by decide +kernel : ((cfg0.win 9).Covers)).cover _ (Memref.isWhole_whole _))
  · rw [Value.flushed9, View.read_apply]
    obtain ⟨r, q, rfl⟩ : ∃ (r : Fin 512) (q : Fin 1024), y = ix2 r q := ⟨y 0, y 1, eq_ix2 y⟩
    refine Eq.trans (val9 m c t r q) (congrArg (res8 m c) (res_row _ _ ?_ ?_))
    · show 512 * t.val + r.val = win0_9.index t 0 * 512 + 1 * r.val; rw [(win9 t).1]; omega
    · show q.val = win0_9.index t 1 * 1024 + 1 * q.val; rw [(win9 t).2]; omega

theorem val10 (t : Fin cfg0.N) (r : Fin 512) (q : Fin 1024) : ((outsAt0 m c t).2.2.1 (ix2 r q) : EReal) = res10 m c (ix2 (row t r) q) := by
  unfold outsAt0
  dsimp only
  rw [outA10]
  exact congrFun (congrArg xhat (zb_at m c t r)) q

theorem final10 : (dats m 0 c).arrAt 10 cfg0.N = res10 m c := by
  refine (dats m 0 c).arrAt_eq_of_cover 10 _ (fun t hf => funext fun y => ?_) ((by decide +kernel : ((cfg0.win 10).Covers)).cover _ (Memref.isWhole_whole _))
  · rw [Value.flushed10, View.read_apply]
    obtain ⟨r, q, rfl⟩ : ∃ (r : Fin 512) (q : Fin 1024), y = ix2 r q := ⟨y 0, y 1, eq_ix2 y⟩
    refine Eq.trans (val10 m c t r q) (congrArg (res10 m c) (res_row _ _ ?_ ?_))
    · show 512 * t.val + r.val = win0_10.index t 0 * 512 + 1 * r.val; rw [(win10 t).1]; omega
    · show q.val = win0_10.index t 1 * 1024 + 1 * q.val; rw [(win10 t).2]; omega

theorem val11 (t : Fin cfg0.N) (r : Fin 512) (q : Fin 128) : ((outsAt0 m c t).2.2.2.1 (ix2 r q) : EReal) = res11 m c (ix2 (row t r) q) := by
  unfold outsAt0
  dsimp only
  rw [outA11]
  exact congrArg rs (zb_at m c t r)

theorem final11 : (dats m 0 c).arrAt 11 cfg0.N = res11 m c := by
  refine (dats m 0 c).arrAt_eq_of_cover 11 _ (fun t hf => funext fun y => ?_) ((by decide +kernel : ((cfg0.win 11).Covers)).cover _ (Memref.isWhole_whole _))
  · rw [Value.flushed11, View.read_apply]
    obtain ⟨r, q, rfl⟩ : ∃ (r : Fin 512) (q : Fin 128), y = ix2 r q := ⟨y 0, y 1, eq_ix2 y⟩
    refine Eq.trans (val11 m c t r q) (congrArg (res11 m c) (res_row _ _ ?_ ?_))
    · show 512 * t.val + r.val = win0_11.index t 0 * 512 + 1 * r.val; rw [(win11 t).1]; omega
    · show q.val = win0_11.index t 1 * 128 + 1 * q.val; rw [(win11 t).2]; omega

theorem val12 (t : Fin cfg0.N) (r : Fin 512) (q : Fin 128) : ((outsAt0 m c t).2.2.2.2 (ix2 r q) : EReal) = res12 m c (ix2 (row t r) q) := by
  unfold outsAt0
  dsimp only
  rw [outA12]
  exact congrArg ars (funext fun k => iblk7 m c t r k)

theorem final12 : (dats m 0 c).arrAt 12 cfg0.N = res12 m c := by
  refine (dats m 0 c).arrAt_eq_of_cover 12 _ (fun t hf => funext fun y => ?_) ((by decide +kernel : ((cfg0.win 12).Covers)).cover _ (Memref.isWhole_whole _))
  · rw [Value.flushed12, View.read_apply]
    obtain ⟨r, q, rfl⟩ : ∃ (r : Fin 512) (q : Fin 128), y = ix2 r q := ⟨y 0, y 1, eq_ix2 y⟩
    refine Eq.trans (val12 m c t r q) (congrArg (res12 m c) (res_row _ _ ?_ ?_))
    · show 512 * t.val + r.val = win0_12.index t 0 * 512 + 1 * r.val; rw [(win12 t).1]; omega
    · show q.val = win0_12.index t 1 * 128 + 1 * q.val; rw [(win12 t).2]; omega

end Cert.OutLn1Value

end
-- ==== Proof.OutLn1Equal.lean ====
/- The attention block's output: the kernel's five results are the reference's. -/
module

public import proofs.«01_k».proof.Defs
public import proofs.«01_k».proof.Proof.OutLn1Value
public import proofs.«01_k».proof.Proof.Gen.OutLn1RefIdeal.Run
public import Idealize.ShloMosaic.Lib.Quiescent

@[expose] public section

set_option maxRecDepth 16384

noncomputable section

namespace Cert.OutLn1Equal

open Idealize.ShloMosaic Idealize.ShloMosaic.TcCoe Idealize.SL.Sem
open Cert.OutLn1RefIdeal Cert.OutLn1RefIdeal.Read

theorem quiescent_ref : quiescent_OutLn1RefIdeal := fun m ρ _ =>
  (θ_run Cert.OutLn1RefIdeal.defs _ _).mono (fun r h => ⟨fun c => (h c).2.2.2.2.2, sem_eq_zero_of_no_sems (by decide) r.2⟩)
    (Cert.OutLn1RefIdeal.Value.run (F := Ideal) m ρ)

theorem algebraic : algebraic_OutLn1Ideal_OutLn1RefIdeal := by
  intro m ρ m' ρ' _ hagree
  refine ⟨_, _, _, _, _, Cert.OutLn1Ideal.Value.run_blocks (F := Ideal) m ρ, ?_⟩
  refine (θ_run Cert.OutLn1RefIdeal.defs _ _).mono (fun _ h c => ?_) (Cert.OutLn1RefIdeal.Value.run (F := Ideal) m' ρ')
  obtain ⟨e0, e1, e2, e3, e4, e5, e6⟩ := hagree c
  obtain ⟨r0, r1, r2, r3, r4, hk⟩ := h c
  refine ⟨?_, ?_, ?_, ?_, ?_, hk⟩
  · refine r0.trans ((val_main_v44_eq _ _).trans ?_)
    rw [e0, e1, e2, e3, e4, e5, e6]
    refine Eq.trans (funext fun i => ?_) (OutLn1Value.final8 m c).symm
    obtain ⟨p, q, rfl⟩ : ∃ (p : Fin 4096) (q : Fin 1024), i = ix2 p q := ⟨i 0, i 1, eq_ix2 i⟩
    exact OutLn1Ref.v44 _ _ _ _ _ _ _ p q
  · refine r1.trans ((val_main_v53_eq _ _).trans ?_)
    rw [e0, e1, e2, e3, e4, e5, e6]
    refine Eq.trans (funext fun i => ?_) (OutLn1Value.final9 m c).symm
    obtain ⟨p, q, rfl⟩ : ∃ (p : Fin 4096) (q : Fin 1024), i = ix2 p q := ⟨i 0, i 1, eq_ix2 i⟩
    exact OutLn1Ref.v53 _ _ _ _ _ _ _ p q
  · refine r2.trans ((val_main_v36_eq _ _).trans ?_)
    rw [e0, e1, e2, e3, e4]
    refine Eq.trans (funext fun i => ?_) (OutLn1Value.final10 m c).symm
    obtain ⟨p, q, rfl⟩ : ∃ (p : Fin 4096) (q : Fin 1024), i = ix2 p q := ⟨i 0, i 1, eq_ix2 i⟩
    exact OutLn1Ref.v36 _ _ _ _ _ p q
  · refine r3.trans ((val_main_v54_eq _ _).trans ?_)
    rw [e0, e1, e2, e3, e4]
    refine Eq.trans (funext fun i => ?_) (OutLn1Value.final11 m c).symm
    obtain ⟨p, q, rfl⟩ : ∃ (p : Fin 4096) (q : Fin 128), i = ix2 p q := ⟨i 0, i 1, eq_ix2 i⟩
    exact OutLn1Ref.v54 _ _ _ _ _ p q
  · refine r4.trans ((val_main_v55_eq _).trans ?_)
    rw [e0]
    refine Eq.trans (funext fun i => ?_) (OutLn1Value.final12 m c).symm
    obtain ⟨p, q, rfl⟩ : ∃ (p : Fin 4096) (q : Fin 128), i = ix2 p q := ⟨i 0, i 1, eq_ix2 i⟩
    exact OutLn1Ref.v55 _ p q

end Cert.OutLn1Equal

end
-- ==== Proof.ConvRow.lean ====
/- One row of the convolution branch: the causal convolution over 31 rows, the layer norm of its row, the gate and the row
   normalisation. -/
module

public import Idealize.ShloMosaic.Lib.Pointwise

@[expose] public section

set_option maxRecDepth 16384

noncomputable section

namespace Cert.ConvRow

open Idealize.ShloMosaic Idealize.ShloMosaic.TcCoe Idealize.SL.Sem

abbrev half : EReal := Ideal.ofBits FTy.f32 0x3F000000#32
abbrev n256 : EReal := Ideal.ofBits FTy.f32 0x43800000#32
abbrev eps : EReal := Ideal.ofBits FTy.f32 0x3727C5AC#32

/-- The logistic function. -/
def sg (x : EReal) : EReal := Ideal.div 1 (1 + Ideal.exp (-x))

theorem half_eq : half = ((1 / 2 : ℝ) : EReal) := by
  simp [Ideal.ofBits, Ideal.ieee, -EReal.coe_mul]; norm_num

/-- By its tangent, at the infinities too. -/
theorem sg_eq (x : EReal) : half * Ideal.tanh (half * x) + half = sg x := by
  rw [half_eq]
  unfold sg
  induction x with
  | bot =>
    rw [EReal.coe_mul_bot_of_pos (by norm_num), Ideal.tanh_bot, EReal.neg_bot, Ideal.exp_top, EReal.add_top_of_ne_bot (by decide)]
    rw [show ((1 / 2 : ℝ) : EReal) * -1 + ((1 / 2 : ℝ) : EReal) = ((1 / 2 * -1 + 1 / 2 : ℝ) : EReal) from rfl]
    simp [Ideal.div]
  | top =>
    rw [EReal.coe_mul_top_of_pos (by norm_num), Ideal.tanh_top, EReal.neg_top, Ideal.exp_bot, add_zero]
    rw [show ((1 / 2 : ℝ) : EReal) * 1 + ((1 / 2 : ℝ) : EReal) = ((1 / 2 * 1 + 1 / 2 : ℝ) : EReal) from rfl]
    rw [show (1 : EReal) = ((1 : ℝ) : EReal) from rfl, Ideal.div_coe one_ne_zero]
    norm_num
  | coe x =>
    have hp : (1 + Real.exp (-x)) ≠ 0 := by positivity
    rw [← EReal.coe_neg, Ideal.exp_coe, show (1 : EReal) = ((1 : ℝ) : EReal) from rfl, ← EReal.coe_add, Ideal.div_coe hp, ← EReal.coe_mul,
      ← EReal.coe_mul, Ideal.tanh_coe, ← EReal.coe_mul, ← EReal.coe_add]
    refine congrArg Real.toEReal ?_
    rw [Real.tanh_eq_sinh_div_cosh, Real.sinh_eq, Real.cosh_eq, show -x = -(1 / 2 * x) + -(1 / 2 * x) by ring, Real.exp_add]
    have e : Real.exp (1 / 2 * x) * Real.exp (-(1 / 2 * x)) = 1 := by rw [← Real.exp_add]; norm_num
    have a := Real.exp_pos (1 / 2 * x)
    have b := Real.exp_pos (-(1 / 2 * x))
    generalize Real.exp (1 / 2 * x) = X at a e ⊢
    generalize Real.exp (-(1 / 2 * x)) = Y at b e ⊢
    field_simp
    linear_combination (2 * Y) * e

/-- The row `s` rows earlier, nought before the first. -/
def sh (u : Fin 2048 → EReal) (s : ℕ) (t : Fin 2048) : EReal := if s ≤ t.val then u ⟨t.val - s, by omega⟩ else 0

/-- The convolution's entry at row `t`. -/
def conv (u : Fin 2048 → EReal) (w : Fin 31 → EReal) (b : EReal) (t : Fin 2048) : EReal := b + ∑ k : Fin 31, w k * sh u (30 - k.val) t

/-- The same sum taken one term after the other. -/
def steps (b : EReal) (f : ℕ → EReal) : ℕ → EReal
  | 0 => b
  | n + 1 => steps b f n + f n

theorem steps_eq (b : EReal) (f : ℕ → EReal) (n : ℕ) : steps b f n = b + ∑ k : Fin n, f k.val := by
  induction n with
  | zero => simp [steps]
  | succ n ih => rw [steps, ih, Fin.sum_univ_castSucc, add_assoc]; rfl

def cen (z : Fin 256 → EReal) (q : Fin 256) : EReal := z q - Ideal.div (∑ x, z x) n256
def rs (z : Fin 256 → EReal) : EReal := Ideal.rsqrt (Ideal.div (∑ x, cen z x * cen z x) n256 + eps)
def xhat (z : Fin 256 → EReal) (q : Fin 256) : EReal := cen z q * rs z
def ln (z g b : Fin 256 → EReal) (q : Fin 256) : EReal := xhat z q * g q + b q
def act (z g b : Fin 256 → EReal) (q : Fin 256) : EReal := ln z g b q * sg (ln z g b q)

/-- The branch's row from the convolution's row. -/
def out (z g b n : Fin 256 → EReal) (q : Fin 256) : EReal :=
  act z g b q * Ideal.rsqrt (Ideal.div (∑ x, act z g b x * act z g b x) n256 + eps) * n q

end Cert.ConvRow

end
-- ==== Proof.ConvFwdRef.lean ====
/- The convolution branch of the reference, read at an index. -/
module

public import proofs.«01_k».proof.Proof.ConvRow
public import proofs.«01_k».proof.Proof.Gen.ConvFwdRefIdeal.Read
public import Idealize.ShloMosaic.Lib.Pointwise

@[expose] public section

set_option maxRecDepth 16384

noncomputable section

namespace Cert.ConvFwdRef

open Idealize.ShloMosaic Idealize.ShloMosaic.TcCoe Idealize.SL.Sem
open Cert.ConvFwdRefIdeal Cert.ConvFwdRefIdeal.Read Cert.ConvRow

variable (x0 : Vec Ideal S2x2048x512 .f32) (x1 : Vec Ideal S31x256 .f32) (x2 x3 x4 x5 : Vec Ideal S1x256 .f32) (b : Fin 2) (t : Fin 2048) (q : Fin 256)

/-- The gated column `q` of sequence `b`. -/
abbrev us (q : Fin 256) (t : Fin 2048) : EReal := x0 (ix3 b t ⟨q.val, by omega⟩) * sg (x0 (ix3 b t ⟨256 + q.val, by omega⟩))

/-- The convolution's row. -/
abbrev zr (q : Fin 256) : EReal := conv (us x0 b q) (fun k => x1 (ix2 k q)) (x2 (ix2 0 q)) t

theorem v8 : val_main_v8 (F := Ideal) x0 (ix3 b t q) = us x0 b q t := by
  pointwise [val_main_v8, val_main_v7, val_main_v6, val_main_v5, val_main_v4, val_main_v3, val_main_v2, val_main_v1, val_main_v0, val_main_cst, val_main_cst_0]
  rfl

theorem v18 (s : Fin 2078) : val_main_v18 (F := Ideal) x0 (ix3 b s q) = if h : 30 ≤ s.val then us x0 b q ⟨s.val - 30, by omega⟩ else 0 := by
  pointwise [val_main_v18, val_main_v17, val_main_cst_1]
  by_cases h : s.val < 30
  · rw [dif_pos h, dif_neg (by omega)]
  · rw [dif_neg h, dif_pos (by omega)]
    exact v8 x0 b _ q

theorem int (k : Fin 31) : (BitVec.ofNat 32 (t.val + k.val)).toInt = t.val + k.val := by
  have h : (BitVec.ofNat 32 (t.val + k.val)).toNat = t.val + k.val := by
    rw [BitVec.toNat_ofNat]
    omega
  rw [BitVec.toInt_eq_toNat_of_lt (by rw [h]; omega), h]
  exact Nat.cast_add _ _

theorem v23 (k : Fin 31) : val_main_v23 (F := Ideal) (ix2 t k) = BitVec.ofNat 32 (t.val + k.val) := by
  pointwise [val_main_v16, val_main_v15, val_main_v14, val_main_v13, val_main_v12, val_main_v11, val_main_v10, val_main_v19, val_main_v20, val_main_v21, val_main_v22, val_main_v23, val_main_c, val_main_c_2]
  have e : IntOp.addi (BitVec.ofNat 32 t.val) (BitVec.ofNat 32 k.val) = BitVec.ofNat 32 (t.val + k.val) := (BitVec.ofNat_add t.val k.val).symm
  rw [e]
  have z : (BitVec.ofNat 32 (t.val + k.val)).slt 0#32 = false := by
    cases h : (BitVec.ofNat 32 (t.val + k.val)).slt 0#32
    · rfl
    · rw [BitVec.slt_iff_toInt_lt, int t k] at h
      exact absurd h (by simp; omega)
  show Scalar.select (BitVec.ofBool _) _ _ = _
  rw [z]
  rfl

theorem v25 (k : Fin 31) : val_main_v25 (F := Ideal) x0 (ix4 b t k q) = sh (us x0 b q) (30 - k.val) t := by
  have g : val_main_v25 (F := Ideal) x0 (ix4 b t k q) = val_main_v18 (F := Ideal) x0 (ix3 b ⟨t.val + k.val, by omega⟩ q) := by
    unfold val_main_v25 Host.gather
    refine congrArg (val_main_v18 (F := Ideal) x0) (funext fun a => Fin.ext ?_)
    let d := gather_S2x2078x256_S2048x31x1_S2x2048x31x256_03_1_n_n_1_2_21256
    show d.start (ix4 b t k q) (val_main_v24 (F := Ideal)) a + d.batchCoord (ix4 b t k q) a + d.offCoord (ix4 b t k q) a = _
    rw [GatherDims.batchCoord_eq_zero _ _ _ List.not_mem_nil]
    match a with
    | ⟨0, _⟩ =>
      have s : d.start (ix4 b t k q) (val_main_v24 (F := Ideal)) (0 : Fin 3) = 0 := dif_neg (by decide)
      have o : d.offCoord (ix4 b t k q) (0 : Fin 3) = b.val := dif_pos (by decide)
      exact (congrArg₂ (fun p q => p + 0 + q) s o).trans (by show 0 + 0 + b.val = b.val; omega)
    | ⟨1, _⟩ =>
      have s : d.start (ix4 b t k q) (val_main_v24 (F := Ideal)) (1 : Fin 3) = min (BitVec.ofNat 32 (t.val + k.val)).toInt.toNat 2077 := by
        refine (dif_pos (by decide)).trans ?_
        rw [← v23 t k]
        refine Eq.trans (congrArg (fun i => min (val_main_v24 (F := Ideal) i).toInt.toNat 2077) (funext fun a => ?_)) (congrArg (fun i : BitVec 32 => min i.toInt.toNat 2077)
          (show val_main_v24 (F := Ideal) (ix3 t k 0) = _ by pointwise [val_main_v24]))
        match a with
        | ⟨0, _⟩ => rfl
        | ⟨1, _⟩ => rfl
        | ⟨2, _⟩ => rfl
      have o : d.offCoord (ix4 b t k q) (1 : Fin 3) = 0 := dif_neg (by decide)
      refine (congrArg₂ (fun p q => p + 0 + q) s o).trans ?_
      rw [int]
      show _ = t.val + k.val
      omega
    | ⟨2, _⟩ =>
      have s : d.start (ix4 b t k q) (val_main_v24 (F := Ideal)) (2 : Fin 3) = 0 := dif_neg (by decide)
      have o : d.offCoord (ix4 b t k q) (2 : Fin 3) = q.val := dif_pos (by decide)
      exact (congrArg₂ (fun p q => p + 0 + q) s o).trans (by show 0 + 0 + q.val = q.val; omega)
  rw [g, v18]
  unfold sh
  by_cases h : 30 ≤ t.val + k.val
  · rw [dif_pos h, if_pos (by omega)]
    exact congrArg (us x0 b q) (Fin.ext (show t.val + k.val - 30 = t.val - (30 - k.val) by omega))
  · rw [dif_neg h, if_neg (by omega)]

theorem v32 : val_main_v32 (F := Ideal) x0 x1 x2 (ix3 b t q) = zr x0 x1 x2 b t q := by
  pointwise [val_main_v32, val_main_v31, val_main_v30, val_main_v29, val_main_v28, val_main_v27, val_main_v26, val_main_v9, val_main_cst_3]
  simp only [v25]
  exact (add_comm _ _).trans (congrArg _ (Finset.sum_congr rfl fun k _ => mul_comm _ _))

theorem v38 : val_main_v38 (F := Ideal) x0 x1 x2 (ix3 b t 0) = Ideal.div (∑ q, zr x0 x1 x2 b t q) n256 := by
  pointwise [val_main_v38, val_main_v37, val_main_v36, val_main_v35, val_main_cst_4, val_main_cst_5]
  simp only [v32]

theorem v40 : val_main_v40 (F := Ideal) x0 x1 x2 (ix3 b t q) = cen (zr x0 x1 x2 b t) q := by
  pointwise [val_main_v40, val_main_v39]
  rw [v32, v38]
  rfl

theorem v50 : val_main_v50 (F := Ideal) x0 x1 x2 (ix3 b t 0) = rs (zr x0 x1 x2 b t) := by
  pointwise [val_main_v45, val_main_v44, val_main_v43, val_main_v42, val_main_v41, val_main_v48, val_main_v49, val_main_v50, val_main_cst_6, val_main_cst_7, val_main_cst_8]
  simp only [v40]
  rfl

theorem v58 : val_main_v58 (F := Ideal) x0 x1 x2 x3 x4 (ix3 b t q) = ln (zr x0 x1 x2 b t) (fun q => x3 (ix2 0 q)) (fun q => x4 (ix2 0 q)) q := by
  pointwise [val_main_v58, val_main_v57, val_main_v56, val_main_v55, val_main_v54, val_main_v53, val_main_v52, val_main_v51, val_main_v47, val_main_v46, val_main_v34, val_main_v33]
  rw [v32, v38, v50]
  rfl

theorem v59 : val_main_v59 (F := Ideal) x0 x1 x2 x3 x4 (ix3 b t q) = act (zr x0 x1 x2 b t) (fun q => x3 (ix2 0 q)) (fun q => x4 (ix2 0 q)) q := by
  pointwise [val_main_v59, val_main_call0_v5, val_main_call0_v4, val_main_call0_v3, val_main_call0_v2, val_main_call0_v1, val_main_call0_v0, val_main_call0_cst, val_main_call0_cst_0]
  rw [v58]
  rfl

theorem v74 : val_main_v74 (F := Ideal) x0 x1 x2 x3 x4 x5 (ix3 b t q)
    = out (zr x0 x1 x2 b t) (fun q => x3 (ix2 0 q)) (fun q => x4 (ix2 0 q)) (fun q => x5 (ix2 0 q)) q := by
  pointwise [val_main_v74, val_main_v73, val_main_v72, val_main_v71, val_main_v70, val_main_v69, val_main_v68, val_main_v67, val_main_v66, val_main_v65, val_main_v64, val_main_v63, val_main_v62, val_main_v61, val_main_v60, val_main_cst_9, val_main_cst_10, val_main_cst_11]
  simp only [v59]
  rfl

end Cert.ConvFwdRef

end
-- ==== Proof.ConvFwdTile.lean ====
/- What the kernel of the convolution branch computes of one sequence of 2048 rows and 256 columns. -/
module

public import proofs.«01_k».proof.Proof.ConvRow
public import proofs.«01_k».proof.Proof.Gen.ConvFwdIdeal.Value
public import Idealize.ShloMosaic.Lib.Pointwise
public import Idealize.ShloMosaic.Lib.KernelVsHost

@[expose] public section

set_option maxRecDepth 16384

noncomputable section

namespace Cert.ConvFwdTile

open Idealize.ShloMosaic Idealize.ShloMosaic.TcCoe Idealize.SL.Sem
open Cert.ConvFwdIdeal Cert.ConvFwdIdeal.Gen Cert.ConvRow

/-- The rows' numbers. -/
abbrev nums : IVec S2048x256 32 := iota .tc S2048x256 32 [0] iota_S2048x256_d0_w32

abbrev zero : FVec Ideal S2048x256 .f32 := broadcast S2048x256 (Scalar.ofBits .f32 0x00000000#32)

/-- The rows moved down by `r` of at most seven, and by 8, 16 and 24. -/
def base (r : BitVec 32) (v : FVec Ideal S2048x256 .f32) : FVec Ideal S2048x256 .f32 :=
  have d : FVec Ideal S2048x256 .f32 := dynamicRotate 0 r none v rotates_S2048x256_d0
  concatenate S2048x256 0 [⟨S8x256, select (cmpi .sge (extractStridedSlice S8x256 ![0, 0] nums slices_S2048x256_o0_0_S8x256) (broadcast S8x256 r))
      (extractStridedSlice S8x256 ![0, 0] d slices_S2048x256_o0_0_S8x256) (broadcast S8x256 (Scalar.ofBits .f32 0x00000000#32))⟩,
    ⟨S2040x256, extractStridedSlice S2040x256 ![8, 0] d slices_S2048x256_o8_0_S2040x256⟩] concatenates_S8x256_S2040x256_S2048x256_d0
def pad8 (v : FVec Ideal S2048x256 .f32) : FVec Ideal S2048x256 .f32 :=
  concatenate S2048x256 0 [⟨S8x256, broadcast S8x256 (Scalar.ofBits .f32 0x00000000#32)⟩,
    ⟨S2040x256, extractStridedSlice S2040x256 ![0, 0] v slices_S2048x256_o0_0_S2040x256⟩] concatenates_S8x256_S2040x256_S2048x256_d0
def pad16 (v : FVec Ideal S2048x256 .f32) : FVec Ideal S2048x256 .f32 :=
  concatenate S2048x256 0 [⟨S16x256, broadcast S16x256 (Scalar.ofBits .f32 0x00000000#32)⟩,
    ⟨S2032x256, extractStridedSlice S2032x256 ![0, 0] v slices_S2048x256_o0_0_S2032x256⟩] concatenates_S16x256_S2032x256_S2048x256_d0
def pad24 (v : FVec Ideal S2048x256 .f32) : FVec Ideal S2048x256 .f32 :=
  concatenate S2048x256 0 [⟨S24x256, broadcast S24x256 (Scalar.ofBits .f32 0x00000000#32)⟩,
    ⟨S2024x256, extractStridedSlice S2024x256 ![0, 0] v slices_S2048x256_o0_0_S2024x256⟩] concatenates_S24x256_S2024x256_S2048x256_d0
/-- One tap more. -/
def step (a v : FVec Ideal S2048x256 .f32) (w : Vec Ideal S1x256 .f32) : FVec Ideal S2048x256 .f32 :=
  addf a (mulf (broadcastTo S2048x256 w broadcasts_S1x256_S2048x256) v)

/-- The normalised rows. -/
def norm (v274 : FVec Ideal S2048x256 .f32) : FVec Ideal S2048x256 .f32 :=
  have v275 : FVec Ideal S2048 .f32 := multiReduction .add [1] S2048 v274 0x00000000#32 reduces_S2048x256_S2048 (.inl rfl) rfl
  have v276 : FVec Ideal S2048x1 .f32 := shapeCast S2048x1 v275 shapeCasts_S2048_S2048x1
  have v277 : FVec Ideal S2048x1 .f32 := broadcast S2048x1 (Scalar.ofBits .f32 0x43800000#32)
  have v278 : FVec Ideal S2048x1 .f32 := divf v276 v277
  have v279 : FVec Ideal S2048x256 .f32 := broadcastTo S2048x256 v278 broadcasts_S2048x1_S2048x256
  have v280 : FVec Ideal S2048x256 .f32 := subf v274 v279
  have v281 : FVec Ideal S2048x256 .f32 := mulf v280 v280
  have v282 : FVec Ideal S2048 .f32 := multiReduction .add [1] S2048 v281 0x00000000#32 reduces_S2048x256_S2048 (.inl rfl) rfl
  have v283 : FVec Ideal S2048x1 .f32 := shapeCast S2048x1 v282 shapeCasts_S2048_S2048x1
  have v284 : FVec Ideal S2048x1 .f32 := broadcast S2048x1 (Scalar.ofBits .f32 0x43800000#32)
  have v285 : FVec Ideal S2048x1 .f32 := divf v283 v284
  have v286 : FVec Ideal S2048x1 .f32 := broadcast S2048x1 (Scalar.ofBits .f32 0x3727C5AC#32)
  have v287 : FVec Ideal S2048x1 .f32 := addf v285 v286
  have v288 : FVec Ideal S2048x1 .f32 := rsqrt v287
  have v289 : FVec Ideal S2048x256 .f32 := broadcastTo S2048x256 v288 broadcasts_S2048x1_S2048x256
  have v290 : FVec Ideal S2048x256 .f32 := mulf v280 v289
  mulf v280 v289

theorem ge (r n : Fin 8) : IntOp.cmpi CmpIPredicate.sge (BitVec.ofNat 32 n.val) (BitVec.ofNat 32 r.val) = if r ≤ n then 1#1 else 0#1 := by
  revert r n; decide +kernel
theorem select_one (a b : EReal) : Scalar.select 1#1 a b = a := rfl
theorem select_zero (a b : EReal) : Scalar.select 0#1 a b = b := rfl
theorem of_zero : (FloatOps.ofBits .f32 0x00000000#32 : Ideal .f32) = (0 : EReal) := Ideal.ofBits_zero .f32

variable (v : FVec Ideal S2048x256 .f32) (p : Fin 2048)

/-- Column `q` of the rows. -/
abbrev colm (q : Fin 256) : Fin 2048 → EReal := fun t => v (ix2 t q)

theorem rot_at (q : Fin 256) (r : Fin 8) (h : r.val ≤ p.val) : dynamicRotate 0 (BitVec.ofNat 32 r.val) none v rotates_S2048x256_d0 (ix2 p q) = v (ix2 ⟨p.val - r.val, by omega⟩ q) := by
  refine dynamicRotate_apply _ _ _ _ _ _ fun b => ?_
  match b with
  | ⟨0, _⟩ =>
    refine Eq.trans ?_ (if_pos rfl).symm
    show p.val - r.val = (p.val + 2048 - (r.val % 4294967296) % 2048) % 2048
    omega
  | ⟨1, _⟩ => exact (if_neg (fun h => Nat.one_ne_zero (congrArg Fin.val h))).symm

variable {α : Type} {m k : ℕ} (x : (⟨2, ![m, 256]⟩ : Shape).Idx → α) (y : (⟨2, ![k, 256]⟩ : Shape).Idx → α) (q : Fin 256)

theorem top (h : Shape.Concatenates [⟨2, ![m, 256]⟩, ⟨2, ![k, 256]⟩] S2048x256 0) (hp : p.val < m) :
    concatenate S2048x256 0 [⟨_, x⟩, ⟨_, y⟩] h (ix2 p q) = x (ix2 ⟨p.val, hp⟩ q) := by
  refine concatenate_pair_apply_left (t := S2048x256) 0 x y h (ix2 p q) rfl (ix2 ⟨p.val, hp⟩ q) fun b => ?_
  match b with
  | ⟨0, _⟩ => rfl
  | ⟨1, _⟩ => rfl

theorem bottom (h : Shape.Concatenates [⟨2, ![m, 256]⟩, ⟨2, ![k, 256]⟩] S2048x256 0) (hp : m ≤ p.val) (hk : p.val - m < k) :
    concatenate S2048x256 0 [⟨_, x⟩, ⟨_, y⟩] h (ix2 p q) = y (ix2 ⟨p.val - m, hk⟩ q) := by
  refine concatenate_pair_apply_right (t := S2048x256) 0 x y h (ix2 p q) rfl rfl (ix2 ⟨p.val - m, hk⟩ q) (fun b hb => ?_) (Nat.sub_add_cancel hp)
  match b with
  | ⟨0, _⟩ => exact absurd rfl hb
  | ⟨1, _⟩ => rfl

theorem slice (z : S2048x256.Idx → α) (o : ℕ) (h) (a : Fin k) (c : Fin 2048) (e : c.val = o + a.val) :
    extractStridedSlice (⟨2, ![k, 256]⟩ : Shape) ![o, 0] z h (ix2 a q) = z (ix2 c q) := by
  refine extractStridedSlice_apply _ _ _ _ _ fun b => ?_
  match b with
  | ⟨0, _⟩ => exact e
  | ⟨1, _⟩ => exact (Nat.zero_add _).symm

theorem base_at (r : Fin 8) : base (BitVec.ofNat 32 r.val) v (ix2 p q) = sh (colm v q) r.val p := by
  unfold base sh
  by_cases h8 : p.val < 8
  · refine (top _ _ _ q _ h8).trans ?_
    show Scalar.select (IntOp.cmpi _ (extractStridedSlice S8x256 _ nums _ _) (BitVec.ofNat 32 r.val)) (extractStridedSlice S8x256 _ _ _ _) _ = _
    rw [slice q _ 0 _ ⟨p.val, h8⟩ p (Nat.zero_add _).symm, slice q _ 0 _ ⟨p.val, h8⟩ p (Nat.zero_add _).symm,
      show nums (ix2 p q) = BitVec.ofNat 32 (⟨p.val, h8⟩ : Fin 8).val by pointwise, ge]
    by_cases h : r.val ≤ p.val
    · rw [if_pos (show r ≤ ⟨p.val, h8⟩ from h), if_pos h, select_one, rot_at v p q r h]
    · rw [if_neg (show ¬r ≤ ⟨p.val, h8⟩ from h), if_neg h, select_zero]
      exact of_zero
  · have h : r.val ≤ p.val := by omega
    refine (bottom _ _ _ q _ (by omega) (by omega)).trans ?_
    rw [slice q _ 8 _ _ p (show p.val = 8 + (p.val - 8) by omega), if_pos h, rot_at v p q r h]

theorem step_at (a : FVec Ideal S2048x256 .f32) (w : Vec Ideal S1x256 .f32) : step a v w (ix2 p q) = a (ix2 p q) + w (ix2 0 q) * v (ix2 p q) := by
  pointwise [step]

theorem pad8_at : pad8 v (ix2 p q) = sh (colm v q) 8 p := by
  unfold pad8 sh
  by_cases h : p.val < 8
  · rw [if_neg (by omega)]
    exact (top _ _ _ q _ h).trans of_zero
  · rw [if_pos (by omega)]
    exact (bottom _ _ _ q _ (by omega) (by omega)).trans (slice q _ 0 _ _ _ (Nat.zero_add _).symm)
theorem pad16_at : pad16 v (ix2 p q) = sh (colm v q) 16 p := by
  unfold pad16 sh
  by_cases h : p.val < 16
  · rw [if_neg (by omega)]
    exact (top _ _ _ q _ h).trans of_zero
  · rw [if_pos (by omega)]
    exact (bottom _ _ _ q _ (by omega) (by omega)).trans (slice q _ 0 _ _ _ (Nat.zero_add _).symm)
theorem pad24_at : pad24 v (ix2 p q) = sh (colm v q) 24 p := by
  unfold pad24 sh
  by_cases h : p.val < 24
  · rw [if_neg (by omega)]
    exact (top _ _ _ q _ h).trans of_zero
  · rw [if_pos (by omega)]
    exact (bottom _ _ _ q _ (by omega) (by omega)).trans (slice q _ 0 _ _ _ (Nat.zero_add _).symm)
theorem sh_sh (u : Fin 2048 → EReal) (r w : ℕ) (t : Fin 2048) : sh (sh u r) w t = sh u (r + w) t := by
  unfold sh
  by_cases h : r + w ≤ t.val
  · rw [if_pos h, if_pos (by omega), if_pos (by show r ≤ t.val - w; omega)]
    exact congrArg u (Fin.ext (show t.val - w - r = t.val - (r + w) by omega))
  · rw [if_neg h]
    by_cases g : w ≤ t.val
    · rw [if_pos g, if_neg (by show ¬r ≤ t.val - w; omega)]
    · rw [if_neg g]
theorem sh_zero (u : Fin 2048 → EReal) (t : Fin 2048) : sh u 0 t = u t := if_pos (Nat.zero_le _)

theorem colm_base (r : Fin 8) : colm (base (BitVec.ofNat 32 r.val) v) q = sh (colm v q) r.val := funext fun t => base_at v t q r

/-- Row `k` of the weights. -/
def row (x : Vec Ideal S31x256 .f32) (k : Fin 31) : Vec Ideal S1x256 .f32 :=
  View.ld x (Rect.unit (s := S31x256) ![k.val, 0] S1x256.size (by
    intro b
    match b with
    | ⟨0, _⟩ => exact k.isLt
    | ⟨1, _⟩ => exact Nat.le_refl _))

/-- The convolution's tile, tap after tap. -/
def tile (v : FVec Ideal S2048x256 .f32) (x2 : Vec Ideal S31x256 .f32) (x3 : Vec Ideal S1x256 .f32) : FVec Ideal S2048x256 .f32 :=
  (step (step (step (step (step (step (step (step (step (step (step (step (step (step (step (step (step (step (step (step (step (step (step (step (step (step (step (step (step (step (step (addf (broadcast S2048x256 (Scalar.ofBits .f32 0x00000000#32)) (broadcastTo S2048x256 (View.ld x3 r0_1) broadcasts_S1x256_S2048x256)) (pad24 (base 6#32 v)) (row x2 0)) (pad24 (base 5#32 v)) (row x2 1)) (pad24 (base 4#32 v)) (row x2 2)) (pad24 (base 3#32 v)) (row x2 3))
     (pad24 (base 2#32 v)) (row x2 4)) (pad24 (base 1#32 v)) (row x2 5)) (pad24 v) (row x2 6)) (pad16 (base 7#32 v)) (row x2 7))
     (pad16 (base 6#32 v)) (row x2 8)) (pad16 (base 5#32 v)) (row x2 9)) (pad16 (base 4#32 v)) (row x2 10)) (pad16 (base 3#32 v)) (row x2 11))
     (pad16 (base 2#32 v)) (row x2 12)) (pad16 (base 1#32 v)) (row x2 13)) (pad16 v) (row x2 14)) (pad8 (base 7#32 v)) (row x2 15))
     (pad8 (base 6#32 v)) (row x2 16)) (pad8 (base 5#32 v)) (row x2 17)) (pad8 (base 4#32 v)) (row x2 18)) (pad8 (base 3#32 v)) (row x2 19))
     (pad8 (base 2#32 v)) (row x2 20)) (pad8 (base 1#32 v)) (row x2 21)) (pad8 v) (row x2 22)) (base 7#32 v) (row x2 23))
     (base 6#32 v) (row x2 24)) (base 5#32 v) (row x2 25)) (base 4#32 v) (row x2 26)) (base 3#32 v) (row x2 27))
     (base 2#32 v) (row x2 28)) (base 1#32 v) (row x2 29)) v (row x2 30))

/-- The same rows, numbered by the naturals. -/
def wt (x : Vec Ideal S31x256 .f32) (q : Fin 256) (k : ℕ) : EReal := if h : k < 31 then x (ix2 ⟨k, h⟩ q) else 0

theorem row_at (x : Vec Ideal S31x256 .f32) (k : Fin 31) : row x k (ix2 0 q) = wt x q k.val := by
  unfold wt
  rw [dif_pos k.isLt]
  refine congrArg x (funext fun b => Fin.ext ?_)
  match b with
  | ⟨0, _⟩ => exact Nat.add_zero k.val
  | ⟨1, _⟩ => exact (Nat.zero_add _).trans (Nat.one_mul _)

theorem tile_at (x2 : Vec Ideal S31x256 .f32) (x3 : Vec Ideal S1x256 .f32) :
    tile v x2 x3 (ix2 p q) = conv (colm v q) (fun k => x2 (ix2 k q)) (x3 (ix2 0 q)) p := by
  have b1 : colm (base 1#32 v) q = sh (colm v q) 1 := colm_base v q 1
  have c1 : base 1#32 v (ix2 p q) = sh (colm v q) 1 p := congrFun b1 p
  have b2 : colm (base 2#32 v) q = sh (colm v q) 2 := colm_base v q 2
  have c2 : base 2#32 v (ix2 p q) = sh (colm v q) 2 p := congrFun b2 p
  have b3 : colm (base 3#32 v) q = sh (colm v q) 3 := colm_base v q 3
  have c3 : base 3#32 v (ix2 p q) = sh (colm v q) 3 p := congrFun b3 p
  have b4 : colm (base 4#32 v) q = sh (colm v q) 4 := colm_base v q 4
  have c4 : base 4#32 v (ix2 p q) = sh (colm v q) 4 p := congrFun b4 p
  have b5 : colm (base 5#32 v) q = sh (colm v q) 5 := colm_base v q 5
  have c5 : base 5#32 v (ix2 p q) = sh (colm v q) 5 p := congrFun b5 p
  have b6 : colm (base 6#32 v) q = sh (colm v q) 6 := colm_base v q 6
  have c6 : base 6#32 v (ix2 p q) = sh (colm v q) 6 p := congrFun b6 p
  have b7 : colm (base 7#32 v) q = sh (colm v q) 7 := colm_base v q 7
  have c7 : base 7#32 v (ix2 p q) = sh (colm v q) 7 p := congrFun b7 p
  have e := steps_eq (x3 (ix2 0 q)) (fun k => wt x2 q k * sh (colm v q) (30 - k) p) 31
  unfold conv
  refine Eq.trans ?_ (e.trans (congrArg _ (Finset.sum_congr rfl fun k _ => congrArg (· * _) (dif_pos k.isLt))))
  have z : addf (F := Ideal) (φ := .f32) (broadcast S2048x256 (Scalar.ofBits .f32 0x00000000#32))
      (broadcastTo S2048x256 (View.ld x3 r0_1) broadcasts_S1x256_S2048x256) (ix2 p q) = x3 (ix2 0 q) := by
    pointwise
  have o : v (ix2 p q) = sh (colm v q) 0 p := (sh_zero (colm v q) p).symm
  simp only [tile, step_at, pad8_at, pad16_at, pad24_at, b1, c1, b2, c2, b3, c3, b4, c4, b5, c5, b6, c6, b7, c7, sh_sh, z, o, row_at]
  rfl

theorem pay_eq (x0 x1 : Vec Ideal S1x2048x256 .f32) (x2 : Vec Ideal S31x256 .f32) (x3 x4 x5 x6 : Vec Ideal S1x256 .f32) :
    (out0_7 x0 x1 x2 x3 x4 x5 x6) = View.canon [⟨r0_0, k0_pay1 (View.ld x5 r0_1) (norm (tile (k0_pay2 (View.ld x0 r0_0) (View.ld x1 r0_0)) x2 x3))
      (k0_pay20 (View.ld x4 r0_1)) (View.ld x6 r0_1)⟩] := rfl

theorem pay1_at (g b n : Vec Ideal S1x256 .f32) :
    k0_pay1 b (norm v) (k0_pay20 g) n (ix3 0 p q) = out (fun x => v (ix2 p x)) (fun x => g (ix2 0 x)) (fun x => b (ix2 0 x)) (fun x => n (ix2 0 x)) q := by
  pointwise [k0_pay1, norm, k0_pay20]
  simp only [sg_eq]
  rfl

theorem pay2_at (x y : Vec Ideal S1x2048x256 .f32) : k0_pay2 x y (ix2 p q) = x (ix3 0 p q) * sg (y (ix3 0 p q)) := by
  pointwise [k0_pay2]
  simp only [sg_eq]

end Cert.ConvFwdTile

end
-- ==== Proof.ConvFwdValue.lean ====
/- The convolution branch of the kernel: grid point `t` writes sequence `t` whole. -/
module

public import proofs.«01_k».proof.Proof.ConvFwdTile
public import proofs.«01_k».proof.Proof.Gen.ConvFwdIdeal.Value
public import Idealize.ShloMosaic.Lib.Pipeline.ValueKit.Geometry

@[expose] public section

set_option maxRecDepth 16384

noncomputable section

namespace Cert.ConvFwdValue

open Idealize.ShloMosaic Idealize.ShloMosaic.TcCoe Idealize.SL.Sem
open Cert.ConvFwdIdeal Cert.ConvFwdIdeal.Gen Cert.ConvRow Cert.ConvFwdTile

variable (m : (ℓ : Loc nD τ sig) → Buf (Elt Ideal) ℓ) (c : Dev nD)

abbrev A0 : Vec Ideal S2x2048x512 .f32 := m ((c : Thread nD τ).loc main_arg0)
abbrev A1 : Vec Ideal S31x256 .f32 := m ((c : Thread nD τ).loc main_arg1)
abbrev A2 : Vec Ideal S1x256 .f32 := m ((c : Thread nD τ).loc main_arg2)
abbrev A3 : Vec Ideal S1x256 .f32 := m ((c : Thread nD τ).loc main_arg3)
abbrev A4 : Vec Ideal S1x256 .f32 := m ((c : Thread nD τ).loc main_arg4)
abbrev A5 : Vec Ideal S1x256 .f32 := m ((c : Thread nD τ).loc main_arg5)

/-- The gated column `q` of sequence `b`, and the convolution's row. -/
abbrev us (b : Fin 2) (q : Fin 256) (t : Fin 2048) : EReal := A0 m c (ix3 b t ⟨q.val, by omega⟩) * sg (A0 m c (ix3 b t ⟨256 + q.val, by omega⟩))
abbrev zr (b : Fin 2) (t : Fin 2048) (q : Fin 256) : EReal := conv (us m c b q) (fun k => A1 m c (ix2 k q)) (A2 m c (ix2 0 q)) t

/-- The result at an index. -/
def total (b : Fin 2) (t : Fin 2048) (q : Fin 256) : EReal :=
  out (zr m c b t) (fun q => A3 m c (ix2 0 q)) (fun q => A4 m c (ix2 0 q)) (fun q => A5 m c (ix2 0 q)) q

abbrev sq (t : Fin cfg0.N) : Fin 2 := ⟨t.val, lt_of_lt_of_eq t.isLt N_0⟩

theorem hz2 : (![0, 0] : Fin 2 → Nat) = fun _ => 0 := funext fun a => by fin_cases a <;> rfl
theorem hz3 : (![0, 0, 0] : Fin 3 → Nat) = fun _ => 0 := funext fun a => by fin_cases a <;> rfl
theorem win0 : ∀ t : Fin cfg0.N, win0_0.index t 0 = t.val ∧ win0_0.index t 1 = 0 ∧ win0_0.index t 2 = 0 := (by decide +kernel : ∀ t : Fin grid0.N, _)
theorem win1 : ∀ t : Fin cfg0.N, win0_1.index t 0 = t.val ∧ win0_1.index t 1 = 0 ∧ win0_1.index t 2 = 1 := (by decide +kernel : ∀ t : Fin grid0.N, _)
theorem win7 : ∀ t : Fin cfg0.N, win0_7.index t 0 = t.val ∧ win0_7.index t 1 = 0 ∧ win0_7.index t 2 = 0 := (by decide +kernel : ∀ t : Fin grid0.N, _)
theorem win2 : ∀ t : Fin cfg0.N, win0_2.index t 0 = 0 ∧ win0_2.index t 1 = 0 := (by decide +kernel : ∀ t : Fin grid0.N, _)
theorem win3 : ∀ t : Fin cfg0.N, win0_3.index t 0 = 0 ∧ win0_3.index t 1 = 0 := (by decide +kernel : ∀ t : Fin grid0.N, _)
theorem win4 : ∀ t : Fin cfg0.N, win0_4.index t 0 = 0 ∧ win0_4.index t 1 = 0 := (by decide +kernel : ∀ t : Fin grid0.N, _)
theorem win5 : ∀ t : Fin cfg0.N, win0_5.index t 0 = 0 ∧ win0_5.index t 1 = 0 := (by decide +kernel : ∀ t : Fin grid0.N, _)
theorem win6 : ∀ t : Fin cfg0.N, win0_6.index t 0 = 0 ∧ win0_6.index t 1 = 0 := (by decide +kernel : ∀ t : Fin grid0.N, _)

theorem iblk0 (t : Fin cfg0.N) (p : Fin 2048) (q : Fin 256) : (iblk m c 0 t (ix3 0 p q) : EReal) = A0 m c (ix3 (sq t) p ⟨q.val, by omega⟩) := by
  refine Eq.trans ?_ (congrFun (V_main_arg0 m c) _)
  unfold iblk
  rw [View.read_apply, cast_eq]
  refine congrArg (V m c main_arg0) (funext fun a => Fin.ext ?_)
  match a with
  | ⟨0, _⟩ => show win0_0.index t 0 * 1 + 1 * 0 = t.val; rw [(win0 t).1]; omega
  | ⟨1, _⟩ => show win0_0.index t 1 * 2048 + 1 * p.val = p.val; rw [(win0 t).2.1]; omega
  | ⟨2, _⟩ => show win0_0.index t 2 * 256 + 1 * q.val = q.val; rw [(win0 t).2.2]; omega

theorem iblk1 (t : Fin cfg0.N) (p : Fin 2048) (q : Fin 256) : (iblk m c 1 t (ix3 0 p q) : EReal) = A0 m c (ix3 (sq t) p ⟨256 + q.val, by omega⟩) := by
  refine Eq.trans ?_ (congrFun (V_main_arg0 m c) _)
  unfold iblk
  rw [View.read_apply, cast_eq]
  refine congrArg (V m c main_arg0) (funext fun a => Fin.ext ?_)
  match a with
  | ⟨0, _⟩ => show win0_1.index t 0 * 1 + 1 * 0 = t.val; rw [(win1 t).1]; omega
  | ⟨1, _⟩ => show win0_1.index t 1 * 2048 + 1 * p.val = p.val; rw [(win1 t).2.1]; omega
  | ⟨2, _⟩ => show win0_1.index t 2 * 256 + 1 * q.val = 256 + q.val; rw [(win1 t).2.2]; omega

/-- A window that holds an argument whole. -/
theorem whole {n : ℕ} (t : Fin cfg0.N) (i : Fin n) (q : Fin 256) (f : Fin 2 → ℕ) (h : f 0 = 0 ∧ f 1 = 0) :
    f 0 * n + 1 * i.val = i.val ∧ f 1 * 256 + 1 * q.val = q.val := by
  rw [h.1, h.2]
  omega

theorem iblk2 (t : Fin cfg0.N) (k : Fin 31) (q : Fin 256) : (iblk m c 2 t (ix2 k q) : EReal) = A1 m c (ix2 k q) := by
  refine Eq.trans ?_ (congrFun (V_main_arg1 m c) _)
  unfold iblk
  rw [View.read_apply, cast_eq]
  refine congrArg (V m c main_arg1) (funext fun a => Fin.ext ?_)
  match a with
  | ⟨0, _⟩ => exact (whole t k q (win0_2.index t) (win2 t)).1
  | ⟨1, _⟩ => exact (whole t k q (win0_2.index t) (win2 t)).2

theorem iblk3 (t : Fin cfg0.N) (k : Fin 1) (q : Fin 256) : (iblk m c 3 t (ix2 k q) : EReal) = A2 m c (ix2 k q) := by
  refine Eq.trans ?_ (congrFun (V_main_arg2 m c) _)
  unfold iblk
  rw [View.read_apply, cast_eq]
  refine congrArg (V m c main_arg2) (funext fun a => Fin.ext ?_)
  match a with
  | ⟨0, _⟩ => exact (whole t k q (win0_3.index t) (win3 t)).1
  | ⟨1, _⟩ => exact (whole t k q (win0_3.index t) (win3 t)).2

theorem iblk4 (t : Fin cfg0.N) (k : Fin 1) (q : Fin 256) : (iblk m c 4 t (ix2 k q) : EReal) = A3 m c (ix2 k q) := by
  refine Eq.trans ?_ (congrFun (V_main_arg3 m c) _)
  unfold iblk
  rw [View.read_apply, cast_eq]
  refine congrArg (V m c main_arg3) (funext fun a => Fin.ext ?_)
  match a with
  | ⟨0, _⟩ => exact (whole t k q (win0_4.index t) (win4 t)).1
  | ⟨1, _⟩ => exact (whole t k q (win0_4.index t) (win4 t)).2

theorem iblk5 (t : Fin cfg0.N) (k : Fin 1) (q : Fin 256) : (iblk m c 5 t (ix2 k q) : EReal) = A4 m c (ix2 k q) := by
  refine Eq.trans ?_ (congrFun (V_main_arg4 m c) _)
  unfold iblk
  rw [View.read_apply, cast_eq]
  refine congrArg (V m c main_arg4) (funext fun a => Fin.ext ?_)
  match a with
  | ⟨0, _⟩ => exact (whole t k q (win0_5.index t) (win5 t)).1
  | ⟨1, _⟩ => exact (whole t k q (win0_5.index t) (win5 t)).2

theorem iblk6 (t : Fin cfg0.N) (k : Fin 1) (q : Fin 256) : (iblk m c 6 t (ix2 k q) : EReal) = A5 m c (ix2 k q) := by
  refine Eq.trans ?_ (congrFun (V_main_arg5 m c) _)
  unfold iblk
  rw [View.read_apply, cast_eq]
  refine congrArg (V m c main_arg5) (funext fun a => Fin.ext ?_)
  match a with
  | ⟨0, _⟩ => exact (whole t k q (win0_6.index t) (win6 t)).1
  | ⟨1, _⟩ => exact (whole t k q (win0_6.index t) (win6 t)).2

theorem block_apply (t : Fin cfg0.N) (p : Fin 2048) (q : Fin 256) :
    out0_7 (F := Ideal) (iblk m c 0 t) (iblk m c 1 t) (iblk m c 2 t) (iblk m c 3 t) (iblk m c 4 t) (iblk m c 5 t) (iblk m c 6 t) (ix3 0 p q) = total m c (sq t) p q := by
  have l : ∀ x : Vec Ideal S1x256 .f32, View.ld x r0_1 = x := fun x => View.ld_unit_zero hz2 _ x
  have l0 : ∀ x : Vec Ideal S1x2048x256 .f32, View.ld x r0_0 = x := fun x => View.ld_unit_zero hz3 _ x
  have u : ∀ x, colm (k0_pay2 (iblk m c 0 t) (iblk m c 1 t)) x = us m c (sq t) x := fun x => funext fun s =>
    (pay2_at s x _ _).trans (by rw [iblk0, iblk1])
  rw [pay_eq, View.canon_unit_zero hz3, pay1_at]
  simp only [l0, tile_at, u, iblk2, iblk3]
  exact congrFun (congr (congr (congrArg (out _) (funext fun x => (congrFun (l (iblk m c 4 t)) _).trans (iblk4 m c t 0 x)))
    (funext fun x => (congrFun (l (iblk m c 5 t)) _).trans (iblk5 m c t 0 x))) (funext fun x => (congrFun (l (iblk m c 6 t)) _).trans (iblk6 m c t 0 x))) q

/-- The kernel's result. -/
theorem final7 : (dats m 0 c).arrAt 7 cfg0.N = (fun i => total m c (i 0) (i 1) (i 2) : S2x2048x256.Idx → EReal) := by
  refine (dats m 0 c).arrAt_eq_of_cover 7 _ (fun t hf => funext fun y => ?_) ((by decide +kernel : ((cfg0.win 7).Covers)).cover _ (Memref.isWhole_whole _))
  · rw [Value.flushed7, View.read_apply]
    obtain ⟨z, p, q, rfl⟩ : ∃ (z : Fin 1) (p : Fin 2048) (q : Fin 256), y = ix3 z p q := ⟨y 0, y 1, y 2, eq_ix3 y⟩
    obtain rfl : z = 0 := Subsingleton.elim _ _
    refine Eq.trans (block_apply m c t p q) ?_
    show total m c (sq t) p q = total m c ⟨_, _⟩ ⟨_, _⟩ ⟨_, _⟩
    congr 1
    · refine Fin.ext ?_
      show t.val = win0_7.index _ 0 * 1 + 1 * 0
      rw [(win7 _).1]; omega
    · refine Fin.ext ?_
      show p.val = win0_7.index _ 1 * 2048 + 1 * p.val
      rw [(win7 _).2.1]; omega
    · refine Fin.ext ?_
      show q.val = win0_7.index _ 2 * 256 + 1 * q.val
      rw [(win7 _).2.2]; omega

end Cert.ConvFwdValue

end
-- ==== Proof.ConvFwdEqual.lean ====
/- The convolution branch: the kernel's result is the reference's. -/
module

public import proofs.«01_k».proof.Defs
public import proofs.«01_k».proof.Proof.ConvFwdRef
public import proofs.«01_k».proof.Proof.ConvFwdValue
public import proofs.«01_k».proof.Proof.Gen.ConvFwdRefIdeal.Run
public import Idealize.ShloMosaic.Lib.Quiescent

@[expose] public section

set_option maxRecDepth 16384

noncomputable section

namespace Cert.ConvFwdEqual

open Idealize.ShloMosaic Idealize.ShloMosaic.TcCoe Idealize.SL.Sem
open Cert.ConvFwdRefIdeal Cert.ConvFwdRefIdeal.Read

theorem quiescent_ref : quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

theorem algebraic : algebraic_ConvFwdIdeal_ConvFwdRefIdeal := by
  intro m ρ m' ρ' _ hagree
  refine ⟨_, Cert.ConvFwdIdeal.Value.run_blocks (F := Ideal) m ρ, ?_⟩
  refine (θ_run Cert.ConvFwdRefIdeal.defs _ _).mono (fun _ h c => ?_) (Cert.ConvFwdRefIdeal.Value.run (F := Ideal) m' ρ')
  obtain ⟨e0, e1, e2, e3, e4, e5⟩ := hagree c
  obtain ⟨r0, hk⟩ := h c
  refine ⟨?_, hk⟩
  refine r0.trans ((val_main_v74_eq _ _).trans ?_)
  rw [e0, e1, e2, e3, e4, e5]
  refine Eq.trans (funext fun i => ?_) (ConvFwdValue.final7 m c).symm
  obtain ⟨b, t, q, rfl⟩ : ∃ (b : Fin 2) (t : Fin 2048) (q : Fin 256), i = ix3 b t q := ⟨i 0, i 1, i 2, eq_ix3 i⟩
  exact ConvFwdRef.v74 _ _ _ _ _ _ b t q

end Cert.ConvFwdEqual

end
-- ==== Proof.FfnFwdRow.lean ====
/- One column of the feed-forward gate: the product's column, its causal convolution over three rows, and the gate. -/
module

public import proofs.«01_k».proof.Proof.ConvRow

@[expose] public section

set_option maxRecDepth 16384

noncomputable section

namespace Cert.FfnFwdRow

open Idealize.ShloMosaic Idealize.ShloMosaic.TcCoe Idealize.SL.Sem
open Cert.ConvRow

/-- The row `r` rows earlier, nought before the first. -/
def dn {n : ℕ} (r : ℕ) (u : Fin n → EReal) (t : Fin n) : EReal := if r ≤ t.val then u ⟨t.val - r, by omega⟩ else 0

/-- The convolution's entry at row `t`, from the bias and the three taps. -/
def cv {n : ℕ} (u : Fin n → EReal) (b : EReal) (w : Fin 3 → EReal) (t : Fin n) : EReal := b + w 0 * dn 2 u t + w 1 * dn 1 u t + w 2 * u t

/-- The gate of the two halves' entries. -/
def gate (g v : EReal) : EReal := g * sg g * v

/-- Some rows of a column, from row `o` on, have the column's convolution at every row whose earlier rows they hold. -/
theorem cv_part {u : Fin 2048 → EReal} {v : Fin 1040 → EReal} (o : ℕ) (ho : o ≤ 1008) (h : ∀ t : Fin 1040, v t = u ⟨o + t.val, by omega⟩) (b : EReal) (w : Fin 3 → EReal)
    (p : Fin 1040) (hp : o = 0 ∨ 2 ≤ p.val) : cv v b w p = cv u b w ⟨o + p.val, by omega⟩ := by
  have e : ∀ r, r ≤ 2 → dn r v p = dn r u ⟨o + p.val, by omega⟩ := fun r hr => by
    unfold dn
    by_cases g : r ≤ p.val
    · rw [if_pos g, if_pos (by show r ≤ o + p.val; omega), h]
      exact congrArg u (Fin.ext (show o + (p.val - r) = o + p.val - r by omega))
    · rw [if_neg g, if_neg (by show ¬r ≤ o + p.val; omega)]
  unfold cv
  rw [e 2 (Nat.le_refl _), e 1 (by omega), h p]

end Cert.FfnFwdRow

end
-- ==== Proof.FfnFwdTile.lean ====
/- What the feed-forward gate's kernel computes at a grid point: 128 columns of each half, over 1040 rows at a time. -/
module

public import proofs.«01_k».proof.Proof.FfnFwdRow
public import proofs.«01_k».proof.Proof.Gen.FfnFwdIdeal.Value
public import Idealize.ShloMosaic.Lib.Pointwise
public import Idealize.ShloMosaic.Lib.KernelVsHost

@[expose] public section

set_option maxRecDepth 16384

noncomputable section

namespace Cert.FfnFwdTile

open Idealize.ShloMosaic Idealize.ShloMosaic.TcCoe Idealize.SL.Sem
open Cert.FfnFwdIdeal Cert.FfnFwdIdeal.Gen Cert.ConvRow Cert.FfnFwdRow

/-- The rows' numbers. -/
abbrev nums : IVec S1040x128 32 := iota .tc S1040x128 32 [0] iota_S1040x128_d0_w32

/-- The rows moved down by `r`. -/
def mv (r : BitVec 32) (v : FVec Ideal S1040x128 .f32) : FVec Ideal S1040x128 .f32 :=
  have d : FVec Ideal S1040x128 .f32 := dynamicRotate 0 r none v rotates_S1040x128_d0
  concatenate S1040x128 0 [⟨S8x128, select (cmpi .sge (extractStridedSlice S8x128 ![0, 0] nums slices_S1040x128_o0_0_S8x128) (broadcast S8x128 r))
      (extractStridedSlice S8x128 ![0, 0] d slices_S1040x128_o0_0_S8x128) (broadcast S8x128 (Scalar.ofBits .f32 0x00000000#32))⟩,
    ⟨S1032x128, extractStridedSlice S1032x128 ![8, 0] d slices_S1040x128_o8_0_S1032x128⟩] concatenates_S8x128_S1032x128_S1040x128_d0

/-- One tap more. -/
def tap (a v : FVec Ideal S1040x128 .f32) (w : Vec Ideal S1x128 .f32) : FVec Ideal S1040x128 .f32 :=
  addf a (mulf (broadcastTo S1040x128 w broadcasts_S1x128_S1040x128) v)

/-- The convolution of the rows. -/
def conv (v : FVec Ideal S1040x128 .f32) (b : Vec Ideal S1x128 .f32) (w : Vec Ideal S3x128 .f32) : FVec Ideal S1040x128 .f32 :=
  tap (tap (tap (addf (broadcast S1040x128 (Scalar.ofBits .f32 0x00000000#32)) (broadcastTo S1040x128 (View.ld b r0_3) broadcasts_S1x128_S1040x128))
    (mv 2#32 v) (View.ld w r0_4)) (mv 1#32 v) (View.ld w r0_5)) v (View.ld w r0_6)

/-- The product's columns, of the gate and of the value. -/
def gcol (u : FVec Ideal S1040x256 .f32) : FVec Ideal S1040x128 .f32 := extractStridedSlice S1040x128 ![0, 0] u slices_S1040x256_o0_0_S1040x128
def vcol (u : FVec Ideal S1040x256 .f32) : FVec Ideal S1040x128 .f32 := extractStridedSlice S1040x128 ![0, 128] u slices_S1040x256_o0_128_S1040x128

/-- The convolved rows of both halves of a product. -/
abbrev gc (u : FVec Ideal S1040x256 .f32) (x3 : Vec Ideal S3x128 .f32) (x5 : Vec Ideal S1x128 .f32) : FVec Ideal S1040x128 .f32 := conv (gcol u) x5 x3
abbrev vc (u : FVec Ideal S1040x256 .f32) (x4 : Vec Ideal S3x128 .f32) (x6 : Vec Ideal S1x128 .f32) : FVec Ideal S1040x128 .f32 := conv (vcol u) x6 x4

/-- The gated rows, the first and the last 1024 of them. -/
def act (g v : FVec Ideal S1040x128 .f32) : FVec Ideal S1040x128 .bf16 :=
  truncf .bf16 (mulf (mulf g (addf (mulf (broadcast S1040x128 (Scalar.ofBits .f32 0x3F000000#32)) (tanh (mulf (broadcast S1040x128 (Scalar.ofBits .f32 0x3F000000#32)) g)))
    (broadcast S1040x128 (Scalar.ofBits .f32 0x3F000000#32)))) v) bitsLt_bf16_f32
def fst (a : FVec Ideal S1040x128 .bf16) : FVec Ideal S1x1024x128 .bf16 :=
  shapeCast S1x1024x128 (extractStridedSlice S1024x128 ![0, 0] a slices_S1040x128_o0_0_S1024x128) shapeCasts_S1024x128_S1x1024x128
def lst (a : FVec Ideal S1040x128 .bf16) : FVec Ideal S1x1024x128 .bf16 :=
  shapeCast S1x1024x128 (extractStridedSlice S1024x128 ![16, 0] a slices_S1040x128_o16_0_S1024x128) shapeCasts_S1024x128_S1x1024x128

variable (x0 : Vec Ideal S2x2048x1024 .bf16) (x1 x2 : Vec Ideal S1x1024x128 .bf16) (x3 x4 : Vec Ideal S3x128 .f32) (x5 x6 : Vec Ideal S1x128 .f32)

/-- The product of some rows with both halves' columns. -/
abbrev prod (x : Vec Ideal S1x1040x1024 .bf16) : FVec Ideal S1040x256 .f32 := k0_pay15 (k0_pay2 (View.ld x1 r0_0) (View.ld x2 r0_0)) x

/-- The gated rows of some rows. -/
abbrev acts (x : Vec Ideal S1x1040x1024 .bf16) : FVec Ideal S1040x128 .bf16 := act (gc (prod x1 x2 x) x3 x5) (vc (prod x1 x2 x) x4 x6)

theorem out7_eq : out0_7 x0 x1 x2 x3 x4 x5 x6 = View.canon [⟨r0_16, lst (acts x1 x2 x3 x4 x5 x6 (View.ld x0 r0_14))⟩, ⟨r0_13, fst (acts x1 x2 x3 x4 x5 x6 (View.ld x0 r0_11))⟩,
    ⟨r0_10, lst (acts x1 x2 x3 x4 x5 x6 (View.ld x0 r0_8))⟩, ⟨r0_7, fst (acts x1 x2 x3 x4 x5 x6 (View.ld x0 r0_1))⟩] := rfl

theorem ge (r n : Fin 8) : IntOp.cmpi CmpIPredicate.sge (BitVec.ofNat 32 n.val) (BitVec.ofNat 32 r.val) = if r ≤ n then 1#1 else 0#1 := by
  revert r n; decide +kernel
theorem select_one (a b : EReal) : Scalar.select 1#1 a b = a := rfl
theorem select_zero (a b : EReal) : Scalar.select 0#1 a b = b := rfl

section
variable (v : FVec Ideal S1040x128 .f32) (p : Fin 1040) (q : Fin 128)

/-- Column `q` of the rows. -/
abbrev colm (q : Fin 128) : Fin 1040 → EReal := fun t => v (ix2 t q)

theorem mv_at (r : Fin 8) : mv (BitVec.ofNat 32 r.val) v (ix2 p q) = dn r.val (colm v q) p := by
  unfold dn
  by_cases h8 : p.val < 8
  · pointwise [mv]
    rw [dif_pos h8, ge r ⟨p.val, h8⟩]
    by_cases h : r.val ≤ p.val
    · rw [if_pos (show r ≤ ⟨p.val, h8⟩ from h), if_pos h, select_one]
      exact congrArg v (congrArg (ix2 · q) (Fin.ext (show (p.val + 1040 - (r.val % 4294967296) % 1040) % 1040 = p.val - r.val by omega)))
    · rw [if_neg (show ¬r ≤ ⟨p.val, h8⟩ from h), if_neg h, select_zero]
  · pointwise [mv]
    rw [dif_neg h8, if_pos (show r.val ≤ p.val by omega)]
    exact congrArg v (congrArg (ix2 · q) (Fin.ext (show (8 + (p.val - 8) + 1040 - (r.val % 4294967296) % 1040) % 1040 = p.val - r.val by omega)))

theorem tap_at (a : FVec Ideal S1040x128 .f32) (w : Vec Ideal S1x128 .f32) : tap a v w (ix2 p q) = a (ix2 p q) + w (ix2 0 q) * v (ix2 p q) := by
  pointwise [tap]

/-- A tap of the weights. -/
theorem ld_w {o : ℕ} {h} (k : Fin 3) (x : Vec Ideal S3x128 .f32) (e : o = k.val := by rfl) :
    View.ld x (Rect.unit (s := S3x128) ![o, 0] S1x128.size h) (ix2 0 q) = x (ix2 k q) := by
  refine congrArg x (funext fun a => Fin.ext ?_)
  match a with
  | ⟨0, _⟩ => exact e
  | ⟨1, _⟩ => show 0 + 1 * q.val = q.val; omega

theorem conv_at (b : Vec Ideal S1x128 .f32) (w : Vec Ideal S3x128 .f32) : conv v b w (ix2 p q) = cv (colm v q) (b (ix2 0 q)) (fun k => w (ix2 k q)) p := by
  have m2 : mv 2#32 v (ix2 p q) = _ := mv_at v p q 2
  have m1 : mv 1#32 v (ix2 p q) = _ := mv_at v p q 1
  have z : addf (F := Ideal) (φ := .f32) (broadcast S1040x128 (Scalar.ofBits .f32 0x00000000#32))
      (broadcastTo S1040x128 (View.ld b r0_3) broadcasts_S1x128_S1040x128) (ix2 p q) = b (ix2 0 q) := by
    pointwise
  unfold conv cv
  rw [tap_at, tap_at, tap_at, m2, m1, z, ld_w q 0, ld_w q 1, ld_w q 2]
  rfl

theorem act_at (g : FVec Ideal S1040x128 .f32) : act g v (ix2 p q) = gate (g (ix2 p q)) (v (ix2 p q)) := by
  pointwise [act]
  rw [sg_eq]
  rfl
end

/-- Column `q` of the product of sequence `s`, by one half's weights. -/
abbrev up (w : Vec Ideal S1x1024x128 .bf16) (s : Fin 2) (q : Fin 128) (t : Fin 2048) : EReal := ∑ k : Fin 1024, x0 (ix3 s t k) * w (ix3 0 k q)

/-- What the point leaves in its two output blocks. -/
abbrev blk7 (y : S2x2048x128.Idx) : EReal := gate (cv (up x0 x1 (y 0) (y 2)) (x5 (ix2 0 (y 2))) (fun k => x3 (ix2 k (y 2))) (y 1))
  (cv (up x0 x2 (y 0) (y 2)) (x6 (ix2 0 (y 2))) (fun k => x4 (ix2 k (y 2))) (y 1))
def blk8 (y : S2x2048x256.Idx) : EReal := if h : (y 2).val < 128 then up x0 x1 (y 0) ⟨(y 2).val, h⟩ (y 1)
  else up x0 x2 (y 0) ⟨(y 2).val - 128, Nat.sub_lt_left_of_lt_add (Nat.le_of_not_lt h) (y 2).isLt⟩ (y 1)

section
variable (x : Vec Ideal S1x1040x1024 .bf16) (p : Fin 1040) (q : Fin 128)

theorem prod_at (c : Fin 256) : prod x1 x2 x (ix2 p c) = if h : c.val < 128 then ∑ k : Fin 1024, x (ix3 0 p k) * x1 (ix3 0 k ⟨c.val, h⟩)
    else ∑ k : Fin 1024, x (ix3 0 p k) * x2 (ix3 0 k ⟨c.val - 128, by omega⟩) := by
  pointwise [k0_pay15, k0_pay2]
  by_cases h : c.val < 128
  · rw [dif_pos h]
    exact Finset.sum_congr rfl fun k _ => congrArg (x (ix3 0 p k) * ·) (dif_pos h)
  · rw [dif_neg h]
    exact Finset.sum_congr rfl fun k _ => congrArg (x (ix3 0 p k) * ·) (dif_neg h)

theorem gcol_at : gcol (prod x1 x2 x) (ix2 p q) = ∑ k : Fin 1024, x (ix3 0 p k) * x1 (ix3 0 k q) := by
  pointwise [gcol]
  exact (prod_at x1 x2 x p _).trans (dif_pos q.isLt)

theorem vcol_at : vcol (prod x1 x2 x) (ix2 p q) = ∑ k : Fin 1024, x (ix3 0 p k) * x2 (ix3 0 k q) := by
  pointwise [vcol]
  refine (prod_at x1 x2 x p _).trans ((dif_neg (by dsimp only; omega)).trans ?_)
  refine Finset.sum_congr rfl fun k _ => congrArg (x (ix3 0 p k) * ·) (congrArg x2 (congrArg (ix3 0 k) (Fin.ext ?_)))
  show 128 + q.val - 128 = q.val
  omega
end

variable {o : ℕ} (s : Fin 2) {h}

/-- 1040 rows of sequence `s`, from row `o` on. -/
theorem ld_x (ho : o ≤ 1008) (t : Fin 1040) (k : Fin 1024) : View.ld x0 (Rect.unit (s := S2x2048x1024) ![s.val, o, 0] S1x1040x1024.size h) (ix3 0 t k) = x0 (ix3 s ⟨o + t.val, by omega⟩ k) := by
  refine congrArg x0 (funext fun a => Fin.ext ?_)
  match a with
  | ⟨0, _⟩ => rfl
  | ⟨1, _⟩ => show o + 1 * t.val = o + t.val; omega
  | ⟨2, _⟩ => show 0 + 1 * k.val = k.val; omega

theorem acts_at (ho : o ≤ 1008) (p : Fin 1040) (q : Fin 128) (hp : o = 0 ∨ 2 ≤ p.val) :
    acts x1 x2 x3 x4 x5 x6 (View.ld x0 (Rect.unit (s := S2x2048x1024) ![s.val, o, 0] S1x1040x1024.size h)) (ix2 p q)
      = blk7 x0 x1 x2 x3 x4 x5 x6 (ix3 s ⟨o + p.val, by omega⟩ q) := by
  refine (act_at _ p q _).trans ?_
  exact congrArg₂ gate ((conv_at _ p q _ _).trans <| cv_part o ho (fun t => (gcol_at x1 x2 _ t q).trans (Finset.sum_congr rfl fun k _ => congrArg (· * _) (ld_x x0 s ho t k))) _ _ p hp)
    ((conv_at _ p q _ _).trans <| cv_part o ho (fun t => (vcol_at x1 x2 _ t q).trans (Finset.sum_congr rfl fun k _ => congrArg (· * _) (ld_x x0 s ho t k))) _ _ p hp)

theorem prods_at (ho : o ≤ 1008) (p : Fin 1040) (c : Fin 256) :
    prod x1 x2 (View.ld x0 (Rect.unit (s := S2x2048x1024) ![s.val, o, 0] S1x1040x1024.size h)) (ix2 p c) = blk8 x0 x1 x2 (ix3 s ⟨o + p.val, by omega⟩ c) := by
  rw [prod_at]
  simp only [ld_x x0 s ho]
  rfl

/-- The first and the last rows of a product as they are stored. -/
def pfst (u : FVec Ideal S1040x256 .f32) : FVec Ideal S1x1024x256 .f32 :=
  shapeCast S1x1024x256 (extractStridedSlice S1024x256 ![0, 0] u slices_S1040x256_o0_0_S1024x256) shapeCasts_S1024x256_S1x1024x256
def plst (u : FVec Ideal S1040x256 .f32) : FVec Ideal S1x1024x256 .f32 :=
  shapeCast S1x1024x256 (extractStridedSlice S1024x256 ![16, 0] u slices_S1040x256_o16_0_S1024x256) shapeCasts_S1024x256_S1x1024x256

theorem out8_eq : out0_8 x0 x1 x2 x3 x4 x5 x6 = View.canon [⟨r0_15, plst (prod x1 x2 (View.ld x0 r0_14))⟩, ⟨r0_12, pfst (prod x1 x2 (View.ld x0 r0_11))⟩,
    ⟨r0_9, plst (prod x1 x2 (View.ld x0 r0_8))⟩, ⟨r0_2, pfst (prod x1 x2 (View.ld x0 r0_1))⟩] := rfl

variable (p : Fin 1024)

theorem fst_at (a : FVec Ideal S1040x128 .bf16) (q : Fin 128) : fst a (ix3 0 p q) = a (ix2 ⟨p.val, by omega⟩ q) := by
  pointwise [fst]
theorem lst_at (a : FVec Ideal S1040x128 .bf16) (q : Fin 128) : lst a (ix3 0 p q) = a (ix2 ⟨16 + p.val, by omega⟩ q) := by
  pointwise [lst]
theorem pfst_at (a : FVec Ideal S1040x256 .f32) (q : Fin 256) : pfst a (ix3 0 p q) = a (ix2 ⟨p.val, by omega⟩ q) := by
  pointwise [pfst]
theorem plst_at (a : FVec Ideal S1040x256 .f32) (q : Fin 256) : plst a (ix3 0 p q) = a (ix2 ⟨16 + p.val, by omega⟩ q) := by
  pointwise [plst]

/-- Where a stored piece's index lies in the block. -/
theorem emb {n o s : ℕ} {i : Fin 1} {j : Fin 1024} {k : Fin n} {h} (s' : Fin 2) (j' : Fin 2048) (e0 : s = s'.val) (e1 : o + j.val = j'.val) :
    (Rect.unit (s := (⟨3, ![2, 2048, n]⟩ : Shape)) ![s, o, 0] (![1, 1024, n] : Fin 3 → ℕ) h).emb (ix3 i j k) = ix3 s' j' k := by
  refine funext fun a => Fin.ext ?_
  match a with
  | ⟨0, _⟩ => show s + 1 * i.val = s'.val; omega
  | ⟨1, _⟩ => show o + 1 * j.val = _; rw [Nat.one_mul]; exact e1
  | ⟨2, _⟩ => show 0 + 1 * k.val = k.val; omega

theorem mat {n : ℕ} (x : (⟨3, ![1, 1024, n]⟩ : Shape).Idx) : ∃ (p : Fin 1024) (q : Fin n), x = ix3 0 p q :=
  ⟨x 1, x 2, (eq_ix3 x).trans (congrArg (ix3 · (x 1) (x 2)) (Subsingleton.elim _ _))⟩

theorem out7 (y : S2x2048x128.Idx) : out0_7 x0 x1 x2 x3 x4 x5 x6 y = blk7 x0 x1 x2 x3 x4 x5 x6 y := by
  rw [out7_eq]
  refine View.canon_apply_of_pieces (Val := Elt Ideal) (e := .bf16) (blk7 x0 x1 x2 x3 x4 x5 x6) _ ?_ y (cover0_7 _ _ _ _ y)
  have hi : ∀ (s : Fin 2) (h h') (x : S1x1024x128.Idx), lst (acts x1 x2 x3 x4 x5 x6 (View.ld x0 (Rect.unit (s := S2x2048x1024) ![s.val, 1008, 0] S1x1040x1024.size h))) x
      = blk7 x0 x1 x2 x3 x4 x5 x6 ((Rect.unit (s := S2x2048x128) ![s.val, 1024, 0] S1x1024x128.size h').emb x) := fun s h h' x => by
    obtain ⟨p, q, rfl⟩ := mat x
    exact (lst_at p _ q).trans ((acts_at x0 x1 x2 x3 x4 x5 x6 s (by omega) _ q (Or.inr (by dsimp only; omega))).trans
      (congrArg (blk7 x0 x1 x2 x3 x4 x5 x6) (emb s _ rfl (show 1024 + p.val = 1008 + (16 + p.val) by omega)).symm))
  have lo : ∀ (s : Fin 2) (h h') (x : S1x1024x128.Idx), fst (acts x1 x2 x3 x4 x5 x6 (View.ld x0 (Rect.unit (s := S2x2048x1024) ![s.val, 0, 0] S1x1040x1024.size h))) x
      = blk7 x0 x1 x2 x3 x4 x5 x6 ((Rect.unit (s := S2x2048x128) ![s.val, 0, 0] S1x1024x128.size h').emb x) := fun s h h' x => by
    obtain ⟨p, q, rfl⟩ := mat x
    exact (fst_at p _ q).trans ((acts_at x0 x1 x2 x3 x4 x5 x6 s (by omega) _ q (Or.inl rfl)).trans
      (congrArg (blk7 x0 x1 x2 x3 x4 x5 x6) (emb s _ rfl rfl).symm))
  exact List.forall_mem_cons.mpr ⟨hi 1 inb_S2x2048x1024_S1x1040x1024_1_1008_0 inb_S2x2048x128_S1x1024x128_1_1024_0,
    List.forall_mem_cons.mpr ⟨lo 1 inb_S2x2048x1024_S1x1040x1024_1_0_0 inb_S2x2048x128_S1x1024x128_1_0_0,
    List.forall_mem_cons.mpr ⟨hi 0 inb_S2x2048x1024_S1x1040x1024_0_1008_0 inb_S2x2048x128_S1x1024x128_0_1024_0,
    List.forall_mem_cons.mpr ⟨lo 0 inb_S2x2048x1024_S1x1040x1024_0_0_0 inb_S2x2048x128_S1x1024x128_0_0_0, fun _ hn => absurd hn List.not_mem_nil⟩⟩⟩⟩

theorem out8 (y : S2x2048x256.Idx) : out0_8 x0 x1 x2 x3 x4 x5 x6 y = blk8 x0 x1 x2 y := by
  rw [out8_eq]
  refine View.canon_apply_of_pieces (Val := Elt Ideal) (e := .f32) (blk8 x0 x1 x2) _ ?_ y (cover0_8 _ _ _ _ y)
  have hi : ∀ (s : Fin 2) (h h') (x : S1x1024x256.Idx), plst (prod x1 x2 (View.ld x0 (Rect.unit (s := S2x2048x1024) ![s.val, 1008, 0] S1x1040x1024.size h))) x
      = blk8 x0 x1 x2 ((Rect.unit (s := S2x2048x256) ![s.val, 1024, 0] S1x1024x256.size h').emb x) := fun s h h' x => by
    obtain ⟨p, q, rfl⟩ := mat x
    exact (plst_at p _ q).trans ((prods_at x0 x1 x2 s (by omega) _ q).trans
      (congrArg (blk8 x0 x1 x2) (emb s _ rfl (show 1024 + p.val = 1008 + (16 + p.val) by omega)).symm))
  have lo : ∀ (s : Fin 2) (h h') (x : S1x1024x256.Idx), pfst (prod x1 x2 (View.ld x0 (Rect.unit (s := S2x2048x1024) ![s.val, 0, 0] S1x1040x1024.size h))) x
      = blk8 x0 x1 x2 ((Rect.unit (s := S2x2048x256) ![s.val, 0, 0] S1x1024x256.size h').emb x) := fun s h h' x => by
    obtain ⟨p, q, rfl⟩ := mat x
    exact (pfst_at p _ q).trans ((prods_at x0 x1 x2 s (by omega) _ q).trans (congrArg (blk8 x0 x1 x2) (emb s _ rfl rfl).symm))
  exact List.forall_mem_cons.mpr ⟨hi 1 inb_S2x2048x1024_S1x1040x1024_1_1008_0 inb_S2x2048x256_S1x1024x256_1_1024_0,
    List.forall_mem_cons.mpr ⟨lo 1 inb_S2x2048x1024_S1x1040x1024_1_0_0 inb_S2x2048x256_S1x1024x256_1_0_0,
    List.forall_mem_cons.mpr ⟨hi 0 inb_S2x2048x1024_S1x1040x1024_0_1008_0 inb_S2x2048x256_S1x1024x256_0_1024_0,
    List.forall_mem_cons.mpr ⟨lo 0 inb_S2x2048x1024_S1x1040x1024_0_0_0 inb_S2x2048x256_S1x1024x256_0_0_0, fun _ hn => absurd hn List.not_mem_nil⟩⟩⟩⟩

end Cert.FfnFwdTile

end
-- ==== Proof.FfnFwdRef.lean ====
/- The feed-forward gate's reference, read at an index. -/
module

public import proofs.«01_k».proof.Proof.FfnFwdRow
public import proofs.«01_k».proof.Proof.Gen.FfnFwdRefIdeal.Read
public import Idealize.ShloMosaic.Lib.Pointwise

@[expose] public section

set_option maxRecDepth 16384

noncomputable section

namespace Cert.FfnFwdRef

open Idealize.ShloMosaic Idealize.ShloMosaic.TcCoe Idealize.SL.Sem
open Cert.FfnFwdRefIdeal Cert.FfnFwdRefIdeal.Read Cert.ConvRow Cert.FfnFwdRow

variable (x0 : Vec Ideal S4096x1024 .f32) (x1 : Vec Ideal S1024x5632 .f32) (x2 : Vec Ideal S3x5632 .f32) (x3 : Vec Ideal S1x5632 .f32)
    (s : Fin 2) (t : Fin 2048) (c : Fin 5632) (q : Fin 2816)

/-- Column `c` of the product, over the rows of sequence `s`, and its convolution. -/
abbrev up (t : Fin 2048) : EReal := ∑ k : Fin 1024, x0 (ix2 ⟨s.val * 2048 + t.val, by omega⟩ k) * x1 (ix2 k c)
abbrev cvd : EReal := cv (up x0 x1 s c) (x3 (ix2 0 c)) (fun k => x2 (ix2 k c)) t

/-- The first result, and the column that the second result holds at column `c`. -/
def act : EReal := gate (cvd x0 x1 x2 x3 s t ⟨q.val, by omega⟩) (cvd x0 x1 x2 x3 s t ⟨2816 + q.val, by omega⟩)
abbrev src (c : Fin 5632) : Fin 5632 := ⟨c.val / 128 % 2 * 2816 + (c.val / 256 * 128 + c.val % 128), by omega⟩

theorem v1 : val_main_v1 (F := Ideal) x0 x1 (ix3 s t c) = up x0 x1 s c t := by
  pointwise [val_main_v1, val_main_v0]

theorem v9 : val_main_v9 (F := Ideal) x0 x1 (ix3 s t c) = dn 1 (up x0 x1 s c) t := by
  unfold dn
  pointwise [val_main_v9, val_main_v7, val_main_v8, val_main_v6, val_main_cst]
  by_cases h : t.val < 1
  · exact (dif_pos h).trans (if_neg (by omega)).symm
  · exact (dif_neg h).trans ((v1 x0 x1 s _ c).trans (if_pos (by omega)).symm)

theorem v11 : val_main_v11 (F := Ideal) x0 x1 (ix3 s t c) = dn 2 (up x0 x1 s c) t := by
  unfold dn
  pointwise [val_main_v11, val_main_v6, val_main_v10, val_main_cst]
  by_cases h : t.val < 2
  · exact (dif_pos h).trans (if_neg (by omega)).symm
  · exact (dif_neg h).trans ((v1 x0 x1 s _ c).trans (if_pos (by omega)).symm)

theorem v31 : val_main_v31 (F := Ideal) x0 x1 x2 x3 (ix3 s t c) = cvd x0 x1 x2 x3 s t c := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_v13, val_main_v12, val_main_v5, val_main_v4, val_main_v3, val_main_v2]
  rw [v1, v9, v11, add_comm, ← add_assoc, ← add_assoc]
  rfl

theorem v36 : val_main_v36 (F := Ideal) x0 x1 x2 x3 (ix3 s t q) = act x0 x1 x2 x3 s t q := by
  pointwise [val_main_v36, val_main_v35, val_main_v34, val_main_v33, val_main_v32, val_main_call0_v5, val_main_call0_v4, val_main_call0_v3, val_main_call0_v2, val_main_call0_v1, val_main_call0_v0, val_main_call0_cst, val_main_call0_cst_0]
  rw [v31, v31]
  rfl

theorem v39 : val_main_v39 (F := Ideal) x0 x1 (ix3 s t c) = up x0 x1 s (src c) t := by
  pointwise [val_main_v39, val_main_v38, val_main_v37]
  rw [v1]
  exact congrArg (fun k => up x0 x1 s k t) (Fin.ext (Nat.add_assoc _ _ _))

end Cert.FfnFwdRef

end
-- ==== Proof.FfnFwdValue.lean ====
/- The feed-forward gate of the kernel: grid point `t` writes 128 columns of each half, over all rows. -/
module

public import proofs.«01_k».proof.Proof.FfnFwdTile
public import proofs.«01_k».proof.Proof.FfnFwdRef
public import proofs.«01_k».proof.Proof.Gen.FfnFwdIdeal.Value
public import Idealize.ShloMosaic.Lib.StableHlo.ReadAt
public import Idealize.ShloMosaic.Lib.Pipeline.ValueKit.Geometry

@[expose] public section

set_option maxRecDepth 16384

noncomputable section

namespace Cert.FfnFwdValue

open Idealize.ShloMosaic Idealize.ShloMosaic.TcCoe Idealize.SL.Sem
open Cert.FfnFwdIdeal Cert.FfnFwdIdeal.Gen Cert.FfnFwdRow Cert.FfnFwdTile

variable (m : (ℓ : Loc nD τ sig) → Buf (Elt Ideal) ℓ) (c : Dev nD)

abbrev A0 : Vec Ideal S4096x1024 .f32 := m ((c : Thread nD τ).loc main_arg0)
abbrev A1 : Vec Ideal S1024x5632 .f32 := m ((c : Thread nD τ).loc main_arg1)
abbrev A2 : Vec Ideal S3x5632 .f32 := m ((c : Thread nD τ).loc main_arg2)
abbrev A3 : Vec Ideal S1x5632 .f32 := m ((c : Thread nD τ).loc main_arg3)

/-- Column `c` of the product as the reference has it. -/
abbrev rup (s : Fin 2) (k : Fin 5632) (t : Fin 2048) : EReal := FfnFwdRef.up (A0 m c) (A1 m c) s k t

theorem host4 (s : Fin 2) (t : Fin 2048) (k : Fin 1024) : (V m c main_v4 (ix3 s t k) : EReal) = A0 m c (ix2 ⟨s.val * 2048 + t.val, by omega⟩ k) := by
  unfold V
  after_reads_at

theorem host2 (g : Fin 4) (k : Fin 1024) (j : Fin 1408) : (V m c main_v2 (ix3 g k j) : EReal) = A1 m c (ix2 k ⟨g.val * 1408 + j.val, by omega⟩) := by
  unfold V
  after_reads_at

theorem win0 : ∀ t : Fin cfg0.N, win0_0.index t = ![0, 0, 0] := (by decide +kernel : ∀ t : Fin grid0.N, _)
theorem win1 : ∀ t : Fin cfg0.N, win0_1.index t = ![t.val / 11, 0, t.val % 11] := (by decide +kernel : ∀ t : Fin grid0.N, _)
theorem win2 : ∀ t : Fin cfg0.N, win0_2.index t = ![2 + t.val / 11, 0, t.val % 11] := (by decide +kernel : ∀ t : Fin grid0.N, _)
theorem win3 : ∀ t : Fin cfg0.N, win0_3.index t = ![0, t.val] := (by decide +kernel : ∀ t : Fin grid0.N, _)
theorem win4 : ∀ t : Fin cfg0.N, win0_4.index t = ![0, 22 + t.val] := (by decide +kernel : ∀ t : Fin grid0.N, _)
theorem win5 : ∀ t : Fin cfg0.N, win0_5.index t = ![0, t.val] := (by decide +kernel : ∀ t : Fin grid0.N, _)
theorem win6 : ∀ t : Fin cfg0.N, win0_6.index t = ![0, 22 + t.val] := (by decide +kernel : ∀ t : Fin grid0.N, _)
theorem win7 : ∀ t : Fin cfg0.N, win0_7.index t = ![0, 0, t.val] := (by decide +kernel : ∀ t : Fin grid0.N, _)
theorem win8 : ∀ t : Fin cfg0.N, win0_8.index t = ![0, 0, t.val] := (by decide +kernel : ∀ t : Fin grid0.N, _)

theorem lt (t : Fin cfg0.N) : t.val < 22 := lt_of_lt_of_eq t.isLt N_0

/-- The column of the first half that column `q` of point `t` is, and the one of the second. -/
abbrev lo (t : Fin cfg0.N) (q : Fin 128) : Fin 5632 := ⟨t.val * 128 + q.val, by have := lt t; omega⟩
abbrev hi (t : Fin cfg0.N) (q : Fin 128) : Fin 5632 := ⟨2816 + (t.val * 128 + q.val), by have := lt t; omega⟩

theorem iblk0 (t : Fin cfg0.N) (s : Fin 2) (p : Fin 2048) (k : Fin 1024) : (iblk m c 0 t (ix3 s p k) : EReal) = A0 m c (ix2 ⟨s.val * 2048 + p.val, by omega⟩ k) := by
  refine Eq.trans ?_ (host4 m c s p k)
  blk_simp [iblk]
  refine congrArg (V m c main_v4) ?_
  blk_ext [win0]

theorem iblk1 (t : Fin cfg0.N) (k : Fin 1024) (q : Fin 128) : (iblk m c 1 t (ix3 0 k q) : EReal) = A1 m c (ix2 k (lo t q)) := by
  have ht := lt t
  have h : (lo t q) = ⟨t.val / 11 * 1408 + (t.val % 11 * 128 + q.val), by omega⟩ := Fin.ext (show t.val * 128 + q.val = t.val / 11 * 1408 + (t.val % 11 * 128 + q.val) by omega)
  rw [h]
  refine Eq.trans ?_ (host2 m c ⟨t.val / 11, by omega⟩ k ⟨t.val % 11 * 128 + q.val, by omega⟩)
  blk_simp [iblk]
  refine congrArg (V m c main_v2) ?_
  blk_ext [win1]

theorem iblk2 (t : Fin cfg0.N) (k : Fin 1024) (q : Fin 128) : (iblk m c 2 t (ix3 0 k q) : EReal) = A1 m c (ix2 k (hi t q)) := by
  have ht := lt t
  have h : (hi t q) = ⟨(2 + t.val / 11) * 1408 + (t.val % 11 * 128 + q.val), by omega⟩ := Fin.ext (show 2816 + (t.val * 128 + q.val) = (2 + t.val / 11) * 1408 + (t.val % 11 * 128 + q.val) by omega)
  rw [h]
  refine Eq.trans ?_ (host2 m c ⟨2 + t.val / 11, by omega⟩ k ⟨t.val % 11 * 128 + q.val, by omega⟩)
  blk_simp [iblk]
  refine congrArg (V m c main_v2) ?_
  blk_ext [win2]

theorem iblk3 (t : Fin cfg0.N) (k : Fin 3) (q : Fin 128) : (iblk m c 3 t (ix2 k q) : EReal) = A2 m c (ix2 k (lo t q)) := by
  refine Eq.trans ?_ (congrFun (V_main_arg2 m c) _)
  blk_simp [iblk]
  refine congrArg (V m c main_arg2) ?_
  blk_ext [win3]

theorem iblk4 (t : Fin cfg0.N) (k : Fin 3) (q : Fin 128) : (iblk m c 4 t (ix2 k q) : EReal) = A2 m c (ix2 k (hi t q)) := by
  refine Eq.trans ?_ (congrFun (V_main_arg2 m c) _)
  blk_simp [iblk]
  refine congrArg (V m c main_arg2) ?_
  blk_ext [win4]

theorem iblk5 (t : Fin cfg0.N) (q : Fin 128) : (iblk m c 5 t (ix2 0 q) : EReal) = A3 m c (ix2 0 (lo t q)) := by
  refine Eq.trans ?_ (congrFun (V_main_arg3 m c) _)
  blk_simp [iblk]
  refine congrArg (V m c main_arg3) ?_
  blk_ext [win5]

theorem iblk6 (t : Fin cfg0.N) (q : Fin 128) : (iblk m c 6 t (ix2 0 q) : EReal) = A3 m c (ix2 0 (hi t q)) := by
  refine Eq.trans ?_ (congrFun (V_main_arg3 m c) _)
  blk_simp [iblk]
  refine congrArg (V m c main_arg3) ?_
  blk_ext [win6]

theorem up1 (t : Fin cfg0.N) (s : Fin 2) (q : Fin 128) : up (iblk m c 0 t) (iblk m c 1 t) s q = rup m c s (lo t q) := funext fun p => by
  simp only [up, FfnFwdRef.up, iblk0, iblk1]

theorem up2 (t : Fin cfg0.N) (s : Fin 2) (q : Fin 128) : up (iblk m c 0 t) (iblk m c 2 t) s q = rup m c s (hi t q) := funext fun p => by
  simp only [up, FfnFwdRef.up, iblk0, iblk2]

/-- The kernel's first result. -/
theorem final7 : (dats m 0 c).arrAt 7 cfg0.N
    = (fun i => FfnFwdRef.act (A0 m c) (A1 m c) (A2 m c) (A3 m c) (i 0) (i 1) (i 2) : S2x2048x2816.Idx → EReal) := by
  refine (dats m 0 c).arrAt_eq_of_covers 7 _ (by decide +kernel) fun t hf y => ?_
  blk_simp
  rw [after0_7]
  obtain ⟨s, p, q, rfl⟩ : ∃ (s : Fin 2) (p : Fin 2048) (q : Fin 128), y = ix3 s p q := ⟨y 0, y 1, y 2, eq_ix3 y⟩
  refine (out7 _ _ _ _ _ _ _ _).trans ?_
  have e : ((win0_7.blk t).view.emb (ix3 s p q) : S2x2048x2816.Idx) = ix3 s p ⟨t.val * 128 + q.val, by have := lt t; omega⟩ := by
    blk_ext [win7]
  rw [e]
  show gate (cv (up _ _ s q) (iblk m c 5 t (ix2 0 q)) (fun k => iblk m c 3 t (ix2 k q)) p)
    (cv (up _ _ s q) (iblk m c 6 t (ix2 0 q)) (fun k => iblk m c 4 t (ix2 k q)) p) = FfnFwdRef.act _ _ _ _ s p _
  simp only [up1, up2, iblk3, iblk4, iblk5, iblk6]
  rfl

/-- The kernel's second result. -/
theorem final8 : (dats m 0 c).arrAt 8 cfg0.N
    = (fun i => rup m c (i 0) (FfnFwdRef.src (i 2)) (i 1) : S2x2048x5632.Idx → EReal) := by
  refine (dats m 0 c).arrAt_eq_of_covers 8 _ (by decide +kernel) fun t hf y => ?_
  blk_simp
  rw [after0_8]
  obtain ⟨s, p, q, rfl⟩ : ∃ (s : Fin 2) (p : Fin 2048) (q : Fin 256), y = ix3 s p q := ⟨y 0, y 1, y 2, eq_ix3 y⟩
  refine (out8 _ _ _ _ _ _ _ _).trans ?_
  have ht := lt t
  have e : ((win0_8.blk t).view.emb (ix3 s p q) : S2x2048x5632.Idx) = ix3 s p ⟨t.val * 256 + q.val, by omega⟩ := by
    blk_ext [win8]
  rw [e]
  unfold blk8
  show (if h : q.val < 128 then up _ _ s ⟨q.val, h⟩ p else up _ _ s ⟨q.val - 128, _⟩ p) = rup m c s (FfnFwdRef.src ⟨t.val * 256 + q.val, _⟩) p
  by_cases h : q.val < 128
  · rw [dif_pos h, up1]
    exact congrArg (fun k => rup m c s k p) (Fin.ext (show t.val * 128 + q.val
      = (t.val * 256 + q.val) / 128 % 2 * 2816 + ((t.val * 256 + q.val) / 256 * 128 + (t.val * 256 + q.val) % 128) by omega))
  · rw [dif_neg h, up2]
    exact congrArg (fun k => rup m c s k p) (Fin.ext (show 2816 + (t.val * 128 + (q.val - 128))
      = (t.val * 256 + q.val) / 128 % 2 * 2816 + ((t.val * 256 + q.val) / 256 * 128 + (t.val * 256 + q.val) % 128) by omega))

end Cert.FfnFwdValue

end
-- ==== Proof.FfnFwdEqual.lean ====
/- The feed-forward gate: the kernel's two results are the reference's. -/
module

public import proofs.«01_k».proof.Defs
public import proofs.«01_k».proof.Proof.FfnFwdValue
public import proofs.«01_k».proof.Proof.Gen.FfnFwdRefIdeal.Run
public import Idealize.ShloMosaic.Lib.Quiescent

@[expose] public section

set_option maxRecDepth 16384

noncomputable section

namespace Cert.FfnFwdEqual

open Idealize.ShloMosaic Idealize.ShloMosaic.TcCoe Idealize.SL.Sem
open Cert.FfnFwdRefIdeal Cert.FfnFwdRefIdeal.Read

theorem quiescent_ref : quiescent_FfnFwdRefIdeal := fun m ρ _ =>
  (θ_run Cert.FfnFwdRefIdeal.defs _ _).mono (fun r h => ⟨fun c => (h c).2.2, sem_eq_zero_of_no_sems (by decide) r.2⟩)
    (Cert.FfnFwdRefIdeal.Value.run (F := Ideal) m ρ)

theorem algebraic : algebraic_FfnFwdIdeal_FfnFwdRefIdeal := by
  intro m ρ m' ρ' _ hagree
  refine ⟨_, _, Cert.FfnFwdIdeal.Value.run_blocks (F := Ideal) m ρ, ?_⟩
  refine (θ_run Cert.FfnFwdRefIdeal.defs _ _).mono (fun _ h c => ?_) (Cert.FfnFwdRefIdeal.Value.run (F := Ideal) m' ρ')
  obtain ⟨e0, e1, e2, e3⟩ := hagree c
  obtain ⟨r0, r1, hk⟩ := h c
  refine ⟨?_, ?_, hk⟩
  · refine r0.trans ((val_main_v36_eq _ _).trans ?_)
    rw [e0, e1, e2, e3]
    refine Eq.trans (funext fun i => ?_) (FfnFwdValue.final7 m c).symm
    obtain ⟨b, t, q, rfl⟩ : ∃ (b : Fin 2) (t : Fin 2048) (q : Fin 2816), i = ix3 b t q := ⟨i 0, i 1, i 2, eq_ix3 i⟩
    exact FfnFwdRef.v36 _ _ _ _ b t q
  · refine r1.trans ((val_main_v39_eq _ _).trans ?_)
    rw [e0, e1]
    refine Eq.trans (funext fun i => ?_) (FfnFwdValue.final8 m c).symm
    obtain ⟨b, t, q, rfl⟩ : ∃ (b : Fin 2) (t : Fin 2048) (q : Fin 5632), i = ix3 b t q := ⟨i 0, i 1, i 2, eq_ix3 i⟩
    exact FfnFwdRef.v39 _ _ b t q

end Cert.FfnFwdEqual

end
-- ==== Proof.lean ====
module

public import proofs.«01_k».proof.Defs
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.Ln2.Frame
public import proofs.«01_k».proof.Proof.Gen.Ln2Ideal.Value
public import proofs.«01_k».proof.Proof.Gen.Ln2RefIdeal.Run
public import proofs.«01_k».proof.Proof.Gen.Ln2RefIdeal.Read
public import proofs.«01_k».proof.Proof.Gen.Attn.Frame
public import proofs.«01_k».proof.Proof.Gen.AttnIdeal.Value
public import proofs.«01_k».proof.Proof.Gen.AttnRefIdeal.Run
public import proofs.«01_k».proof.Proof.Gen.Ln1.Frame
public import proofs.«01_k».proof.Proof.Gen.Ln1Ideal.Value
public import proofs.«01_k».proof.Proof.Gen.Ln1RefIdeal.Run
public import proofs.«01_k».proof.Proof.Gen.Ln1RefIdeal.Read
public import proofs.«01_k».proof.Proof.Gen.Dmix.Frame
public import proofs.«01_k».proof.Proof.Gen.DmixIdeal.Value
public import proofs.«01_k».proof.Proof.Gen.DmixRefIdeal.Run
public import proofs.«01_k».proof.Proof.Gen.DmixRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.RelGrad.Frame
public import proofs.«01_k».proof.Proof.Gen.RelGradIdeal.Value
public import proofs.«01_k».proof.Proof.Gen.RelGradRefIdeal.Run
public import proofs.«01_k».proof.Proof.Gen.RelGradRefIdeal.Read
public import proofs.«01_k».proof.Proof.Gen.Bias.Frame
public import proofs.«01_k».proof.Proof.Gen.BiasIdeal.Value
public import proofs.«01_k».proof.Proof.Gen.BiasRefIdeal.Run
public import proofs.«01_k».proof.Proof.Gen.BiasRefIdeal.Read
public import proofs.«01_k».proof.Proof.Gen.OutLn1.Frame
public import proofs.«01_k».proof.Proof.Gen.OutLn1Ideal.Value
public import proofs.«01_k».proof.Proof.Gen.OutLn1RefIdeal.Run
public import proofs.«01_k».proof.Proof.Gen.OutLn1RefIdeal.Read
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.ConvBwd.Frame
public import proofs.«01_k».proof.Proof.Gen.ConvBwdIdeal.Frame
public import proofs.«01_k».proof.Proof.Gen.ConvBwdRefIdeal.Run
public import proofs.«01_k».proof.Proof.Gen.AttnBwd.Frame
public import proofs.«01_k».proof.Proof.Gen.AttnBwdIdeal.Frame
public import Idealize.ShloMosaic.Adequacy
public import Idealize.ShloMosaic.Init
public import Idealize.ShloMosaic.Lib.Quiescent
public import proofs.«01_k».proof.Proof.DwOutValue
public import proofs.«01_k».proof.Proof.Ln2Equal
public import proofs.«01_k».proof.Proof.AttnEqual
public import proofs.«01_k».proof.Proof.Ln1Equal
public import proofs.«01_k».proof.Proof.DmixEqual
public import proofs.«01_k».proof.Proof.FfnEqual
public import proofs.«01_k».proof.Proof.RelGradEqual
public import proofs.«01_k».proof.Proof.BiasEqual
public import proofs.«01_k».proof.Proof.OutLn1Equal
public import proofs.«01_k».proof.Proof.ConvFwdEqual
public import proofs.«01_k».proof.Proof.FfnFwdEqual

@[expose] public section

noncomputable section

namespace Cert.Proof

open Idealize.ShloMosaic Idealize.SL.Sem

theorem quiescent_DwOutRefIdeal : quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem algebraic_DwOutIdeal_DwOutRefIdeal : algebraic_DwOutIdeal_DwOutRefIdeal := by
  intro m ρ m' ρ' _ hagree
  refine ⟨_, Cert.DwOutIdeal.Value.run (F := Ideal) m ρ, ?_⟩
  refine (θ_run Cert.DwOutRefIdeal.defs _ _).mono (fun _ h c => ⟨?_, (h c).2⟩) (Cert.DwOutRefIdeal.Value.run (F := Ideal) m' ρ')
  obtain ⟨e0, e1, e2, e3⟩ := hagree c
  refine (h c).1.trans ((Cert.DwOutRefIdeal.Read.val_main_v18_eq _ _ _ _).trans ?_)
  rw [e0, e1, e2, e3]
  exact (Cert.DwOutIdeal.Cases.result_eq m c).symm

theorem quiescent_ConvBwdRefIdeal : quiescent_ConvBwdRefIdeal := fun m ρ _ =>
  (θ_run Cert.ConvBwdRefIdeal.defs _ _).mono (fun r h => ⟨fun c => (h c).2.2.2.2.2.2, sem_eq_zero_of_no_sems (by decide) r.2⟩)
    (Cert.ConvBwdRefIdeal.Value.run (F := Ideal) m ρ)

theorem claim : Cert.Claim := ⟨Cert.DwOut.Gen.facts, Cert.DwOutIdeal.Gen.facts, Cert.DwOutRefIdeal.Gen.facts,
  Cert.Ln2.Gen.facts, Cert.Ln2Ideal.Gen.facts, Cert.Ln2RefIdeal.Gen.facts,
  Cert.Attn.Gen.facts, Cert.AttnIdeal.Gen.facts, Cert.AttnRefIdeal.Gen.facts,
  Cert.Ln1.Gen.facts, Cert.Ln1Ideal.Gen.facts, Cert.Ln1RefIdeal.Gen.facts,
  Cert.Dmix.Gen.facts, Cert.DmixIdeal.Gen.facts, Cert.DmixRefIdeal.Gen.facts,
  Cert.Ffn.Gen.facts, Cert.FfnIdeal.Gen.facts, Cert.FfnRefIdeal.Gen.facts,
  Cert.RelGrad.Gen.facts, Cert.RelGradIdeal.Gen.facts, Cert.RelGradRefIdeal.Gen.facts,
  Cert.Bias.Gen.facts, Cert.BiasIdeal.Gen.facts, Cert.BiasRefIdeal.Gen.facts,
  Cert.OutLn1.Gen.facts, Cert.OutLn1Ideal.Gen.facts, Cert.OutLn1RefIdeal.Gen.facts,
  Cert.ConvFwd.Gen.facts, Cert.ConvFwdIdeal.Gen.facts, Cert.ConvFwdRefIdeal.Gen.facts,
  Cert.FfnFwd.Gen.facts, Cert.FfnFwdIdeal.Gen.facts, Cert.FfnFwdRefIdeal.Gen.facts,
  Cert.ConvBwd.Gen.facts, Cert.ConvBwdIdeal.Gen.facts, Cert.ConvBwdRefIdeal.Gen.facts,
  Cert.AttnBwd.Gen.facts, Cert.AttnBwdIdeal.Gen.facts,
  Cert.Pre_finite_ln2.Gen.facts, Cert.Pre_finite_attn.Gen.facts, Cert.Pre_finite_ln1.Gen.facts, Cert.Pre_finite_dm.Gen.facts, Cert.Pre_finite_ffn.Gen.facts, Cert.Pre_finite_rel.Gen.facts, Cert.Pre_finite_bias.Gen.facts,
  fun m ρ _ => Cert.DwOut.Gen.frame m ρ, fun m ρ _ => Cert.DwOutIdeal.Gen.frame m ρ, quiescent_DwOutRefIdeal,
  fun m ρ _ => Cert.Ln2.Gen.frame m ρ, fun m ρ _ => Cert.Ln2Ideal.Gen.frame m ρ, fun m ρ _ => Cert.Ln2Ideal.Gen.frame m ρ,
  Cert.Ln2Equal.quiescent_ref, fun m ρ _ => Cert.Ln2Equal.quiescent_ref m ρ trivial,
  fun m ρ _ => Cert.Attn.Gen.frame m ρ, fun m ρ _ => Cert.AttnIdeal.Gen.frame m ρ, fun m ρ _ => Cert.AttnIdeal.Gen.frame m ρ,
  Cert.AttnEqual.quiescent_ref, fun m ρ _ => Cert.AttnEqual.quiescent_ref m ρ trivial,
  fun m ρ _ => Cert.Ln1.Gen.frame m ρ, fun m ρ _ => Cert.Ln1Ideal.Gen.frame m ρ, fun m ρ _ => Cert.Ln1Ideal.Gen.frame m ρ,
  Cert.Ln1Equal.quiescent_ref, fun m ρ _ => Cert.Ln1Equal.quiescent_ref m ρ trivial,
  fun m ρ _ => Cert.Dmix.Gen.frame m ρ, fun m ρ _ => Cert.DmixIdeal.Gen.frame m ρ, fun m ρ _ => Cert.DmixIdeal.Gen.frame m ρ,
  Cert.DmixEqual.quiescent_ref, fun m ρ _ => Cert.DmixEqual.quiescent_ref m ρ trivial,
  fun m ρ _ => Cert.Ffn.Gen.frame m ρ, fun m ρ _ => Cert.FfnIdeal.Gen.frame m ρ, fun m ρ _ => Cert.FfnIdeal.Gen.frame m ρ,
  Cert.FfnEqual.quiescent_ref, fun m ρ _ => Cert.FfnEqual.quiescent_ref m ρ trivial,
  fun m ρ _ => Cert.RelGrad.Gen.frame m ρ, fun m ρ _ => Cert.RelGradIdeal.Gen.frame m ρ, fun m ρ _ => Cert.RelGradIdeal.Gen.frame m ρ,
  Cert.RelGradEqual.quiescent_ref, fun m ρ _ => Cert.RelGradEqual.quiescent_ref m ρ trivial,
  fun m ρ _ => Cert.Bias.Gen.frame m ρ, fun m ρ _ => Cert.BiasIdeal.Gen.frame m ρ, fun m ρ _ => Cert.BiasIdeal.Gen.frame m ρ,
  Cert.BiasEqual.quiescent_ref, fun m ρ _ => Cert.BiasEqual.quiescent_ref m ρ trivial,
  fun m ρ _ => Cert.OutLn1.Gen.frame m ρ, fun m ρ _ => Cert.OutLn1Ideal.Gen.frame m ρ, Cert.OutLn1Equal.quiescent_ref,
  fun m ρ _ => Cert.ConvFwd.Gen.frame m ρ, fun m ρ _ => Cert.ConvFwdIdeal.Gen.frame m ρ, Cert.ConvFwdEqual.quiescent_ref,
  fun m ρ _ => Cert.FfnFwd.Gen.frame m ρ, fun m ρ _ => Cert.FfnFwdIdeal.Gen.frame m ρ, Cert.FfnFwdEqual.quiescent_ref,
  fun m ρ _ => Cert.ConvBwd.Gen.frame m ρ, fun m ρ _ => Cert.ConvBwdIdeal.Gen.frame m ρ, quiescent_ConvBwdRefIdeal,
  fun m ρ _ => Cert.AttnBwd.Gen.frame m ρ, fun m ρ _ => Cert.AttnBwdIdeal.Gen.frame m ρ,
  (trivial : preserves_DwOut_DwOutIdeal), algebraic_DwOutIdeal_DwOutRefIdeal,
  (trivial : preserves_Ln2_Ln2Ideal), Cert.Ln2Equal.algebraic,
  (IdealRules.named_const.statement Cert.AttnIdeal.κ "mask" .f32 0xF149F2CA#32 ⊥ rfl : preserves_Attn_AttnIdeal), Cert.AttnEqual.algebraic,
  (trivial : preserves_Ln1_Ln1Ideal), Cert.Ln1Equal.algebraic,
  (trivial : preserves_Dmix_DmixIdeal), Cert.DmixEqual.algebraic,
  (trivial : preserves_Ffn_FfnIdeal), Cert.FfnEqual.algebraic,
  (trivial : preserves_RelGrad_RelGradIdeal), Cert.RelGradEqual.algebraic,
  (trivial : preserves_Bias_BiasIdeal), Cert.BiasEqual.algebraic,
  (trivial : preserves_OutLn1_OutLn1Ideal), Cert.OutLn1Equal.algebraic,
  (trivial : preserves_ConvFwd_ConvFwdIdeal), Cert.ConvFwdEqual.algebraic,
  (trivial : preserves_FfnFwd_FfnFwdIdeal), Cert.FfnFwdEqual.algebraic,
  (trivial : preserves_ConvBwd_ConvBwdIdeal),
  (trivial : preserves_AttnBwd_AttnBwdIdeal)⟩

end Cert.Proof

end
